-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v361) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_v48) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v51) = v0 c
          ∧ r.2.mem ((c.tc : Thread Cert.Reference6Ideal.nD Cert.Reference6Ideal.τ).loc Cert.Reference6Ideal.main_v50) = v1 c
          ∧ r.2.mem ((c.tc : Thread Cert.Reference6Ideal.nD Cert.Reference6Ideal.τ).loc Cert.Reference6Ideal.main_v52) = v2 c
          ∧ r.2.mem ((c.tc : Thread Cert.Reference6Ideal.nD Cert.Reference6Ideal.τ).loc Cert.Reference6Ideal.main_v53) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_v29) = v1 c
          ∧ r.2.mem ((c.tc : Thread Cert.Reference7Ideal.nD Cert.Reference7Ideal.τ).loc Cert.Reference7Ideal.main_v30) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)) (v3 : (c : Dev Cert.Kernel8Ideal.nD) → Buf (Elt Ideal) ((c.tc : Thread Cert.Kernel8Ideal.nD Cert.Kernel8Ideal.τ).loc Cert.Kernel8Ideal.main_v3_3)) (v4 : (c : Dev Cert.Kernel8Ideal.nD) → Buf (Elt Ideal) ((c.tc : Thread Cert.Kernel8Ideal.nD Cert.Kernel8Ideal.τ).loc Cert.Kernel8Ideal.main_v3_4)) (v5 : (c : Dev Cert.Kernel8Ideal.nD) → Buf (Elt Ideal) ((c.tc : Thread Cert.Kernel8Ideal.nD Cert.Kernel8Ideal.τ).loc Cert.Kernel8Ideal.main_v3_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_v3_3) = v3 c
          ∧ r.2.mem ((c.tc : Thread Cert.Kernel8Ideal.nD Cert.Kernel8Ideal.τ).loc Cert.Kernel8Ideal.main_v3_4) = v4 c
          ∧ r.2.mem ((c.tc : Thread Cert.Kernel8Ideal.nD Cert.Kernel8Ideal.τ).loc Cert.Kernel8Ideal.main_v3_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_v33) = v2 c
          ∧ r.2.mem ((c.tc : Thread Cert.Reference8Ideal.nD Cert.Reference8Ideal.τ).loc Cert.Reference8Ideal.main_v35) = v3 c
          ∧ r.2.mem ((c.tc : Thread Cert.Reference8Ideal.nD Cert.Reference8Ideal.τ).loc Cert.Reference8Ideal.main_v37) = v4 c
          ∧ r.2.mem ((c.tc : Thread Cert.Reference8Ideal.nD Cert.Reference8Ideal.τ).loc Cert.Reference8Ideal.main_v39) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)) (v2 : (c : Dev Cert.Kernel10Ideal.nD) → Buf (Elt Ideal) ((c.tc : Thread Cert.Kernel10Ideal.nD Cert.Kernel10Ideal.τ).loc Cert.Kernel10Ideal.main_v6_2)) (v3 : (c : Dev Cert.Kernel10Ideal.nD) → Buf (Elt Ideal) ((c.tc : Thread Cert.Kernel10Ideal.nD Cert.Kernel10Ideal.τ).loc Cert.Kernel10Ideal.main_v6_3)) (v4 : (c : Dev Cert.Kernel10Ideal.nD) → Buf (Elt Ideal) ((c.tc : Thread Cert.Kernel10Ideal.nD Cert.Kernel10Ideal.τ).loc Cert.Kernel10Ideal.main_v6_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_v6_2) = v2 c
          ∧ r.2.mem ((c.tc : Thread Cert.Kernel10Ideal.nD Cert.Kernel10Ideal.τ).loc Cert.Kernel10Ideal.main_v6_3) = v3 c
          ∧ r.2.mem ((c.tc : Thread Cert.Kernel10Ideal.nD Cert.Kernel10Ideal.τ).loc Cert.Kernel10Ideal.main_v6_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v61) = v1 c
          ∧ r.2.mem ((c.tc : Thread Cert.Reference10Ideal.nD Cert.Reference10Ideal.τ).loc Cert.Reference10Ideal.main_v62) = v2 c
          ∧ r.2.mem ((c.tc : Thread Cert.Reference10Ideal.nD Cert.Reference10Ideal.τ).loc Cert.Reference10Ideal.main_v63) = v3 c
          ∧ r.2.mem ((c.tc : Thread Cert.Reference10Ideal.nD Cert.Reference10Ideal.τ).loc Cert.Reference10Ideal.main_v64) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v32)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v32) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v300) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v31) = v1 c
          ∧ r.2.mem ((c.tc : Thread Cert.Reference12Ideal.nD Cert.Reference12Ideal.τ).loc Cert.Reference12Ideal.main_v12) = v2 c
          ∧ r.2.mem ((c.tc : Thread Cert.Reference12Ideal.nD Cert.Reference12Ideal.τ).loc Cert.Reference12Ideal.main_v18) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v41) = v0 c
          ∧ r.2.mem ((c.tc : Thread Cert.Reference13Ideal.nD Cert.Reference13Ideal.τ).loc Cert.Reference13Ideal.main_v46) = v1 c
          ∧ r.2.mem ((c.tc : Thread Cert.Reference13Ideal.nD Cert.Reference13Ideal.τ).loc Cert.Reference13Ideal.main_v51) = v2 c
          ∧ r.2.mem ((c.tc : Thread Cert.Reference13Ideal.nD Cert.Reference13Ideal.τ).loc Cert.Reference13Ideal.main_v56) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v41) = v0 c
          ∧ r.2.mem ((c.tc : Thread Cert.Reference14Ideal.nD Cert.Reference14Ideal.τ).loc Cert.Reference14Ideal.main_v46) = v1 c
          ∧ r.2.mem ((c.tc : Thread Cert.Reference14Ideal.nD Cert.Reference14Ideal.τ).loc Cert.Reference14Ideal.main_v51) = v2 c
          ∧ r.2.mem ((c.tc : Thread Cert.Reference14Ideal.nD Cert.Reference14Ideal.τ).loc Cert.Reference14Ideal.main_v56) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v27) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v28) = v0 c
          ∧ r.2.mem ((c.tc : Thread Cert.Reference16Ideal.nD Cert.Reference16Ideal.τ).loc Cert.Reference16Ideal.main_v29) = v1 c
          ∧ r.2.mem ((c.tc : Thread Cert.Reference16Ideal.nD Cert.Reference16Ideal.τ).loc Cert.Reference16Ideal.main_v30) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S16384x2560 : Shape := ⟨2, ![16384, 2560]⟩
abbrev S16384x768 : Shape := ⟨2, ![16384, 768]⟩
abbrev S16384x256 : Shape := ⟨2, ![16384, 256]⟩
abbrev S4x64x16384 : Shape := ⟨3, ![4, 64, 16384]⟩
abbrev S3x256 : Shape := ⟨2, ![3, 256]⟩
abbrev S31x256 : Shape := ⟨2, ![31, 256]⟩
abbrev S_ : Shape := ⟨0, ![]⟩
abbrev S8x256 : Shape := ⟨2, ![8, 256]⟩
abbrev S1 : Shape := ⟨1, ![1]⟩
abbrev S32x256 : Shape := ⟨2, ![32, 256]⟩
abbrev S512x2560 : Shape := ⟨2, ![512, 2560]⟩
abbrev S512x768 : Shape := ⟨2, ![512, 768]⟩
abbrev S512x256 : Shape := ⟨2, ![512, 256]⟩
abbrev S4x64x512 : Shape := ⟨3, ![4, 64, 512]⟩
abbrev S544x256 : Shape := ⟨2, ![544, 256]⟩
abbrev S7x536x256 : Shape := ⟨3, ![7, 536, 256]⟩
abbrev S1x256 : Shape := ⟨2, ![1, 256]⟩
abbrev S256x512 : Shape := ⟨2, ![256, 512]⟩
abbrev S536x256 : Shape := ⟨2, ![536, 256]⟩
abbrev S1x536x256 : Shape := ⟨3, ![1, 536, 256]⟩
abbrev S1x512x256 : Shape := ⟨3, ![1, 512, 256]⟩

abbrev nBuf : Space → Nat
  | .hbm => 20
  | .vmem => 25
  | .smem => 0
  | _ => 0

abbrev bufTy : (tb : Table) → Fin (tcTables nBuf tb) → BufTy
  | .hbm, ⟨0, _⟩ => ⟨S16384x2560, .bf16⟩
  | .hbm, ⟨1, _⟩ => ⟨S16384x768, .bf16⟩
  | .hbm, ⟨2, _⟩ => ⟨S16384x256, .f32⟩
  | .hbm, ⟨3, _⟩ => ⟨S16384x256, .f32⟩
  | .hbm, ⟨4, _⟩ => ⟨S4x64x16384, .f32⟩
  | .hbm, ⟨5, _⟩ => ⟨S4x64x16384, .f32⟩
  | .hbm, ⟨6, _⟩ => ⟨S4x64x16384, .f32⟩
  | .hbm, ⟨7, _⟩ => ⟨S3x256, .f32⟩
  | .hbm, ⟨8, _⟩ => ⟨S31x256, .f32⟩
  | .hbm, ⟨9, _⟩ => ⟨S_, .f32⟩
  | .hbm, ⟨10, _⟩ => ⟨S8x256, .f32⟩
  | .hbm, ⟨11, _⟩ => ⟨S_, .i32⟩
  | .hbm, ⟨12, _⟩ => ⟨S1, .i32⟩
  | .hbm, ⟨13, _⟩ => ⟨S8x256, .f32⟩
  | .hbm, ⟨14, _⟩ => ⟨S_, .f32⟩
  | .hbm, ⟨15, _⟩ => ⟨S32x256, .f32⟩
  | .hbm, ⟨16, _⟩ => ⟨S_, .i32⟩
  | .hbm, ⟨17, _⟩ => ⟨S1, .i32⟩
  | .hbm, ⟨18, _⟩ => ⟨S32x256, .f32⟩
  | .hbm, ⟨19, _⟩ => ⟨S16384x2560, .bf16⟩
  | .local _ .vmem, ⟨0, _⟩ => ⟨S512x2560, .bf16⟩
  | .local _ .vmem, ⟨1, _⟩ => ⟨S512x2560, .bf16⟩
  | .local _ .vmem, ⟨2, _⟩ => ⟨S512x768, .bf16⟩
  | .local _ .vmem, ⟨3, _⟩ => ⟨S512x768, .bf16⟩
  | .local _ .vmem, ⟨4, _⟩ => ⟨S512x256, .f32⟩
  | .local _ .vmem, ⟨5, _⟩ => ⟨S512x256, .f32⟩
  | .local _ .vmem, ⟨6, _⟩ => ⟨S32x256, .f32⟩
  | .local _ .vmem, ⟨7, _⟩ => ⟨S32x256, .f32⟩
  | .local _ .vmem, ⟨8, _⟩ => ⟨S512x256, .f32⟩
  | .local _ .vmem, ⟨9, _⟩ => ⟨S512x256, .f32⟩
  | .local _ .vmem, ⟨10, _⟩ => ⟨S32x256, .f32⟩
  | .local _ .vmem, ⟨11, _⟩ => ⟨S32x256, .f32⟩
  | .local _ .vmem, ⟨12, _⟩ => ⟨S4x64x512, .f32⟩
  | .local _ .vmem, ⟨13, _⟩ => ⟨S4x64x512, .f32⟩
  | .local _ .vmem, ⟨14, _⟩ => ⟨S4x64x512, .f32⟩
  | .local _ .vmem, ⟨15, _⟩ => ⟨S4x64x512, .f32⟩
  | .local _ .vmem, ⟨16, _⟩ => ⟨S4x64x512, .f32⟩
  | .local _ .vmem, ⟨17, _⟩ => ⟨S4x64x512, .f32⟩
  | .local _ .vmem, ⟨18, _⟩ => ⟨S8x256, .f32⟩
  | .local _ .vmem, ⟨19, _⟩ => ⟨S32x256, .f32⟩
  | .local _ .vmem, ⟨20, _⟩ => ⟨S512x2560, .bf16⟩
  | .local _ .vmem, ⟨21, _⟩ => ⟨S512x2560, .bf16⟩
  | .local _ .vmem, ⟨22, _⟩ => ⟨S544x256, .f32⟩
  | .local _ .vmem, ⟨23, _⟩ => ⟨S544x256, .f32⟩
  | .local _ .vmem, ⟨24, _⟩ => ⟨S7x536x256, .f32⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16384x2560 : Shape := ⟨2, ![16384, 2560]⟩
abbrev S16384x768 : Shape := ⟨2, ![16384, 768]⟩
abbrev S16384x256 : Shape := ⟨2, ![16384, 256]⟩
abbrev S4x64x16384 : Shape := ⟨3, ![4, 64, 16384]⟩
abbrev S3x256 : Shape := ⟨2, ![3, 256]⟩
abbrev S31x256 : Shape := ⟨2, ![31, 256]⟩
abbrev S16384x512 : Shape := ⟨2, ![16384, 512]⟩
abbrev S_ : Shape := ⟨0, ![]⟩
abbrev S2x256 : Shape := ⟨2, ![2, 256]⟩
abbrev S16386x256 : Shape := ⟨2, ![16386, 256]⟩
abbrev S1x256 : Shape := ⟨2, ![1, 256]⟩
abbrev S30x256 : Shape := ⟨2, ![30, 256]⟩
abbrev S16414x256 : Shape := ⟨2, ![16414, 256]⟩
abbrev S16384x4x64 : Shape := ⟨3, ![16384, 4, 64]⟩

abbrev nBuf : Space → Nat
  | .hbm => 412
  | .vmem => 0
  | .smem => 0
  | _ => 0

abbrev hbmTy0_0 (i : Nat) : BufTy := match i % 128 with
  | 0 => ⟨S16384x2560, .bf16⟩
  | 1 => ⟨S16384x768, .bf16⟩
  | 2 => ⟨S16384x256, .f32⟩
  | 3 => ⟨S16384x256, .f32⟩
  | 4 => ⟨S4x64x16384, .f32⟩
  | 5 => ⟨S4x64x16384, .f32⟩
  | 6 => ⟨S4x64x16384, .f32⟩
  | 7 => ⟨S3x256, .f32⟩
  | 8 => ⟨S31x256, .f32⟩
  | 9 => ⟨S16384x2560, .f32⟩
  | 10 => ⟨S16384x768, .f32⟩
  | 11 => ⟨S16384x512, .f32⟩
  | 12 => ⟨S16384x768, .f32⟩
  | 13 => ⟨S16384x512, .f32⟩
  | 14 => ⟨S16384x256, .f32⟩
  | 15 => ⟨S16384x256, .f32⟩
  | 16 => ⟨S16384x256, .f32⟩
  | 17 => ⟨S16384x256, .f32⟩
  | 18 => ⟨S16384x256, .f32⟩
  | 19 => ⟨S16384x256, .f32⟩
  | 20 => ⟨S16384x256, .f32⟩
  | 21 => ⟨S16384x256, .f32⟩
  | 22 => ⟨S_, .f32⟩
  | 23 => ⟨S2x256, .f32⟩
  | 24 => ⟨S16386x256, .f32⟩
  | 25 => ⟨S_, .f32⟩
  | 26 => ⟨S2x256, .f32⟩
  | 27 => ⟨S1x256, .f32⟩
  | 28 => ⟨S16384x256, .f32⟩
  | 29 => ⟨S16384x256, .f32⟩
  | 30 => ⟨S16384x256, .f32⟩
  | 31 => ⟨S1x256, .f32⟩
  | 32 => ⟨S16384x256, .f32⟩
  | 33 => ⟨S16384x256, .f32⟩
  | 34 => ⟨S16384x256, .f32⟩
  | 35 => ⟨S16384x256, .f32⟩
  | 36 => ⟨S1x256, .f32⟩
  | 37 => ⟨S16384x256, .f32⟩
  | 38 => ⟨S16384x256, .f32⟩
  | 39 => ⟨S16384x256, .f32⟩
  | 40 => ⟨S16384x256, .f32⟩
  | 41 => ⟨S16384x256, .f32⟩
  | 42 => ⟨S16384x256, .f32⟩
  | 43 => ⟨S_, .f32⟩
  | 44 => ⟨S16384x256, .f32⟩
  | 45 => ⟨S16384x256, .f32⟩
  | 46 => ⟨S_, .f32⟩
  | 47 => ⟨S16384x256, .f32⟩
  | 48 => ⟨S16384x256, .f32⟩
  | 49 => ⟨S_, .f32⟩
  | 50 => ⟨S16384x256, .f32⟩
  | 51 => ⟨S16384x256, .f32⟩
  | 52 => ⟨S16384x256, .f32⟩
  | 53 => ⟨S16384x256, .f32⟩
  | 54 => ⟨S_, .f32⟩
  | 55 => ⟨S30x256, .f32⟩
  | 56 => ⟨S16414x256, .f32⟩
  | 57 => ⟨S_, .f32⟩
  | 58 => ⟨S30x256, .f32⟩
  | 59 => ⟨S1x256, .f32⟩
  | 60 => ⟨S16384x256, .f32⟩
  | 61 => ⟨S16384x256, .f32⟩
  | 62 => ⟨S16384x256, .f32⟩
  | 63 => ⟨S1x256, .f32⟩
  | 64 => ⟨S16384x256, .f32⟩
  | 65 => ⟨S16384x256, .f32⟩
  | 66 => ⟨S16384x256, .f32⟩
  | 67 => ⟨S16384x256, .f32⟩
  | 68 => ⟨S1x256, .f32⟩
  | 69 => ⟨S16384x256, .f32⟩
  | 70 => ⟨S16384x256, .f32⟩
  | 71 => ⟨S16384x256, .f32⟩
  | 72 => ⟨S16384x256, .f32⟩
  | 73 => ⟨S1x256, .f32⟩
  | 74 => ⟨S16384x256, .f32⟩
  | 75 => ⟨S16384x256, .f32⟩
  | 76 => ⟨S16384x256, .f32⟩
  | 77 => ⟨S16384x256, .f32⟩
  | 78 => ⟨S1x256, .f32⟩
  | 79 => ⟨S16384x256, .f32⟩
  | 80 => ⟨S16384x256, .f32⟩
  | 81 => ⟨S16384x256, .f32⟩
  | 82 => ⟨S16384x256, .f32⟩
  | 83 => ⟨S1x256, .f32⟩
  | 84 => ⟨S16384x256, .f32⟩
  | 85 => ⟨S16384x256, .f32⟩
  | 86 => ⟨S16384x256, .f32⟩
  | 87 => ⟨S16384x256, .f32⟩
  | 88 => ⟨S1x256, .f32⟩
  | 89 => ⟨S16384x256, .f32⟩
  | 90 => ⟨S16384x256, .f32⟩
  | 91 => ⟨S16384x256, .f32⟩
  | 92 => ⟨S16384x256, .f32⟩
  | 93 => ⟨S1x256, .f32⟩
  | 94 => ⟨S16384x256, .f32⟩
  | 95 => ⟨S16384x256, .f32⟩
  | 96 => ⟨S16384x256, .f32⟩
  | 97 => ⟨S16384x256, .f32⟩
  | 98 => ⟨S1x256, .f32⟩
  | 99 => ⟨S16384x256, .f32⟩
  | 100 => ⟨S16384x256, .f32⟩
  | 101 => ⟨S16384x256, .f32⟩
  | 102 => ⟨S16384x256, .f32⟩
  | 103 => ⟨S1x256, .f32⟩
  | 104 => ⟨S16384x256, .f32⟩
  | 105 => ⟨S16384x256, .f32⟩
  | 106 => ⟨S16384x256, .f32⟩
  | 107 => ⟨S16384x256, .f32⟩
  | 108 => ⟨S1x256, .f32⟩
  | 109 => ⟨S16384x256, .f32⟩
  | 110 => ⟨S16384x256, .f32⟩
  | 111 => ⟨S16384x256, .f32⟩
  | 112 => ⟨S16384x256, .f32⟩
  | 113 => ⟨S1x256, .f32⟩
  | 114 => ⟨S16384x256, .f32⟩
  | 115 => ⟨S16384x256, .f32⟩
  | 116 => ⟨S16384x256, .f32⟩
  | 117 => ⟨S16384x256, .f32⟩
  | 118 => ⟨S1x256, .f32⟩
  | 119 => ⟨S16384x256, .f32⟩
  | 120 => ⟨S16384x256, .f32⟩
  | 121 => ⟨S16384x256, .f32⟩
  | 122 => ⟨S16384x256, .f32⟩
  | 123 => ⟨S1x256, .f32⟩
  | 124 => ⟨S16384x256, .f32⟩
  | 125 => ⟨S16384x256, .f32⟩
  | 126 => ⟨S16384x256, .f32⟩
  | 127 => ⟨S16384x256, .f32⟩
  | _ => ⟨S16384x2560, .bf16⟩

abbrev hbmTy0_1 (i : Nat) : BufTy := match i % 128 with
  | 0 => ⟨S1x256, .f32⟩
  | 1 => ⟨S16384x256, .f32⟩
  | 2 => ⟨S16384x256, .f32⟩
  | 3 => ⟨S16384x256, .f32⟩
  | 4 => ⟨S16384x256, .f32⟩
  | 5 => ⟨S1x256, .f32⟩
  | 6 => ⟨S16384x256, .f32⟩
  | 7 => ⟨S16384x256, .f32⟩
  | 8 => ⟨S16384x256, .f32⟩
  | 9 => ⟨S16384x256, .f32⟩
  | 10 => ⟨S1x256, .f32⟩
  | 11 => ⟨S16384x256, .f32⟩
  | 12 => ⟨S16384x256, .f32⟩
  | 13 => ⟨S16384x256, .f32⟩
  | 14 => ⟨S16384x256, .f32⟩
  | 15 => ⟨S1x256, .f32⟩
  | 16 => ⟨S16384x256, .f32⟩
  | 17 => ⟨S16384x256, .f32⟩
  | 18 => ⟨S16384x256, .f32⟩
  | 19 => ⟨S16384x256, .f32⟩
  | 20 => ⟨S1x256, .f32⟩
  | 21 => ⟨S16384x256, .f32⟩
  | 22 => ⟨S16384x256, .f32⟩
  | 23 => ⟨S16384x256, .f32⟩
  | 24 => ⟨S16384x256, .f32⟩
  | 25 => ⟨S1x256, .f32⟩
  | 26 => ⟨S16384x256, .f32⟩
  | 27 => ⟨S16384x256, .f32⟩
  | 28 => ⟨S16384x256, .f32⟩
  | 29 => ⟨S16384x256, .f32⟩
  | 30 => ⟨S1x256, .f32⟩
  | 31 => ⟨S16384x256, .f32⟩
  | 32 => ⟨S16384x256, .f32⟩
  | 33 => ⟨S16384x256, .f32⟩
  | 34 => ⟨S16384x256, .f32⟩
  | 35 => ⟨S1x256, .f32⟩
  | 36 => ⟨S16384x256, .f32⟩
  | 37 => ⟨S16384x256, .f32⟩
  | 38 => ⟨S16384x256, .f32⟩
  | 39 => ⟨S16384x256, .f32⟩
  | 40 => ⟨S1x256, .f32⟩
  | 41 => ⟨S16384x256, .f32⟩
  | 42 => ⟨S16384x256, .f32⟩
  | 43 => ⟨S16384x256, .f32⟩
  | 44 => ⟨S16384x256, .f32⟩
  | 45 => ⟨S1x256, .f32⟩
  | 46 => ⟨S16384x256, .f32⟩
  | 47 => ⟨S16384x256, .f32⟩
  | 48 => ⟨S16384x256, .f32⟩
  | 49 => ⟨S16384x256, .f32⟩
  | 50 => ⟨S1x256, .f32⟩
  | 51 => ⟨S16384x256, .f32⟩
  | 52 => ⟨S16384x256, .f32⟩
  | 53 => ⟨S16384x256, .f32⟩
  | 54 => ⟨S16384x256, .f32⟩
  | 55 => ⟨S1x256, .f32⟩
  | 56 => ⟨S16384x256, .f32⟩
  | 57 => ⟨S16384x256, .f32⟩
  | 58 => ⟨S16384x256, .f32⟩
  | 59 => ⟨S16384x256, .f32⟩
  | 60 => ⟨S1x256, .f32⟩
  | 61 => ⟨S16384x256, .f32⟩
  | 62 => ⟨S16384x256, .f32⟩
  | 63 => ⟨S16384x256, .f32⟩
  | 64 => ⟨S16384x256, .f32⟩
  | 65 => ⟨S1x256, .f32⟩
  | 66 => ⟨S16384x256, .f32⟩
  | 67 => ⟨S16384x256, .f32⟩
  | 68 => ⟨S16384x256, .f32⟩
  | 69 => ⟨S16384x256, .f32⟩
  | 70 => ⟨S1x256, .f32⟩
  | 71 => ⟨S16384x256, .f32⟩
  | 72 => ⟨S16384x256, .f32⟩
  | 73 => ⟨S16384x256, .f32⟩
  | 74 => ⟨S16384x256, .f32⟩
  | 75 => ⟨S1x256, .f32⟩
  | 76 => ⟨S16384x256, .f32⟩
  | 77 => ⟨S16384x256, .f32⟩
  | 78 => ⟨S16384x256, .f32⟩
  | 79 => ⟨S16384x256, .f32⟩
  | 80 => ⟨S1x256, .f32⟩
  | 81 => ⟨S16384x256, .f32⟩
  | 82 => ⟨S16384x256, .f32⟩
  | 83 => ⟨S16384x256, .f32⟩
  | 84 => ⟨S16384x256, .f32⟩
  | 85 => ⟨S16384x4x64, .f32⟩
  | 86 => ⟨S4x64x16384, .f32⟩
  | 87 => ⟨S16384x4x64, .f32⟩
  | 88 => ⟨S4x64x16384, .f32⟩
  | 89 => ⟨S16384x4x64, .f32⟩
  | 90 => ⟨S4x64x16384, .f32⟩
  | 91 => ⟨S16384x768, .f32⟩
  | 92 => ⟨S16384x4x64, .f32⟩
  | 93 => ⟨S16384x256, .f32⟩
  | 94 => ⟨S16384x4x64, .f32⟩
  | 95 => ⟨S16384x256, .f32⟩
  | 96 => ⟨S16384x4x64, .f32⟩
  | 97 => ⟨S16384x256, .f32⟩
  | 98 => ⟨S16384x256, .f32⟩
  | 99 => ⟨S16384x256, .f32⟩
  | 100 => ⟨S16384x256, .f32⟩
  | 101 => ⟨S16384x256, .f32⟩
  | 102 => ⟨S_, .f32⟩
  | 103 => ⟨S16414x256, .f32⟩
  | 104 => ⟨S16384x256, .f32⟩
  | 105 => ⟨S16384x256, .f32⟩
  | 106 => ⟨S_, .f32⟩
  | 107 => ⟨S16414x256, .f32⟩
  | 108 => ⟨S16414x256, .f32⟩
  | 109 => ⟨S16384x256, .f32⟩
  | 110 => ⟨S16384x256, .f32⟩
  | 111 => ⟨S_, .f32⟩
  | 112 => ⟨S16414x256, .f32⟩
  | 113 => ⟨S16414x256, .f32⟩
  | 114 => ⟨S16384x256, .f32⟩
  | 115 => ⟨S16384x256, .f32⟩
  | 116 => ⟨S_, .f32⟩
  | 117 => ⟨S16414x256, .f32⟩
  | 118 => ⟨S16414x256, .f32⟩
  | 119 => ⟨S16384x256, .f32⟩
  | 120 => ⟨S16384x256, .f32⟩
  | 121 => ⟨S_, .f32⟩
  | 122 => ⟨S16414x256, .f32⟩
  | 123 => ⟨S16414x256, .f32⟩
  | 124 => ⟨S16384x256, .f32⟩
  | 125 => ⟨S16384x256, .f32⟩
  | 126 => ⟨S_, .f32⟩
  | 127 => ⟨S16414x256, .f32⟩
  | _ => ⟨S16384x2560, .bf16⟩

abbrev hbmTy0_2 (i : Nat) : BufTy := match i % 128 with
  | 0 => ⟨S16414x256, .f32⟩
  | 1 => ⟨S16384x256, .f32⟩
  | 2 => ⟨S16384x256, .f32⟩
  | 3 => ⟨S_, .f32⟩
  | 4 => ⟨S16414x256, .f32⟩
  | 5 => ⟨S16414x256, .f32⟩
  | 6 => ⟨S16384x256, .f32⟩
  | 7 => ⟨S16384x256, .f32⟩
  | 8 => ⟨S_, .f32⟩
  | 9 => ⟨S16414x256, .f32⟩
  | 10 => ⟨S16414x256, .f32⟩
  | 11 => ⟨S16384x256, .f32⟩
  | 12 => ⟨S16384x256, .f32⟩
  | 13 => ⟨S_, .f32⟩
  | 14 => ⟨S16414x256, .f32⟩
  | 15 => ⟨S16414x256, .f32⟩
  | 16 => ⟨S16384x256, .f32⟩
  | 17 => ⟨S16384x256, .f32⟩
  | 18 => ⟨S_, .f32⟩
  | 19 => ⟨S16414x256, .f32⟩
  | 20 => ⟨S16414x256, .f32⟩
  | 21 => ⟨S16384x256, .f32⟩
  | 22 => ⟨S16384x256, .f32⟩
  | 23 => ⟨S_, .f32⟩
  | 24 => ⟨S16414x256, .f32⟩
  | 25 => ⟨S16414x256, .f32⟩
  | 26 => ⟨S16384x256, .f32⟩
  | 27 => ⟨S16384x256, .f32⟩
  | 28 => ⟨S_, .f32⟩
  | 29 => ⟨S16414x256, .f32⟩
  | 30 => ⟨S16414x256, .f32⟩
  | 31 => ⟨S16384x256, .f32⟩
  | 32 => ⟨S16384x256, .f32⟩
  | 33 => ⟨S_, .f32⟩
  | 34 => ⟨S16414x256, .f32⟩
  | 35 => ⟨S16414x256, .f32⟩
  | 36 => ⟨S16384x256, .f32⟩
  | 37 => ⟨S16384x256, .f32⟩
  | 38 => ⟨S_, .f32⟩
  | 39 => ⟨S16414x256, .f32⟩
  | 40 => ⟨S16414x256, .f32⟩
  | 41 => ⟨S16384x256, .f32⟩
  | 42 => ⟨S16384x256, .f32⟩
  | 43 => ⟨S_, .f32⟩
  | 44 => ⟨S16414x256, .f32⟩
  | 45 => ⟨S16414x256, .f32⟩
  | 46 => ⟨S16384x256, .f32⟩
  | 47 => ⟨S16384x256, .f32⟩
  | 48 => ⟨S_, .f32⟩
  | 49 => ⟨S16414x256, .f32⟩
  | 50 => ⟨S16414x256, .f32⟩
  | 51 => ⟨S16384x256, .f32⟩
  | 52 => ⟨S16384x256, .f32⟩
  | 53 => ⟨S_, .f32⟩
  | 54 => ⟨S16414x256, .f32⟩
  | 55 => ⟨S16414x256, .f32⟩
  | 56 => ⟨S16384x256, .f32⟩
  | 57 => ⟨S16384x256, .f32⟩
  | 58 => ⟨S_, .f32⟩
  | 59 => ⟨S16414x256, .f32⟩
  | 60 => ⟨S16414x256, .f32⟩
  | 61 => ⟨S16384x256, .f32⟩
  | 62 => ⟨S16384x256, .f32⟩
  | 63 => ⟨S_, .f32⟩
  | 64 => ⟨S16414x256, .f32⟩
  | 65 => ⟨S16414x256, .f32⟩
  | 66 => ⟨S16384x256, .f32⟩
  | 67 => ⟨S16384x256, .f32⟩
  | 68 => ⟨S_, .f32⟩
  | 69 => ⟨S16414x256, .f32⟩
  | 70 => ⟨S16414x256, .f32⟩
  | 71 => ⟨S16384x256, .f32⟩
  | 72 => ⟨S16384x256, .f32⟩
  | 73 => ⟨S_, .f32⟩
  | 74 => ⟨S16414x256, .f32⟩
  | 75 => ⟨S16414x256, .f32⟩
  | 76 => ⟨S16384x256, .f32⟩
  | 77 => ⟨S16384x256, .f32⟩
  | 78 => ⟨S_, .f32⟩
  | 79 => ⟨S16414x256, .f32⟩
  | 80 => ⟨S16414x256, .f32⟩
  | 81 => ⟨S16384x256, .f32⟩
  | 82 => ⟨S16384x256, .f32⟩
  | 83 => ⟨S_, .f32⟩
  | 84 => ⟨S16414x256, .f32⟩
  | 85 => ⟨S16414x256, .f32⟩
  | 86 => ⟨S16384x256, .f32⟩
  | 87 => ⟨S16384x256, .f32⟩
  | 88 => ⟨S_, .f32⟩
  | 89 => ⟨S16414x256, .f32⟩
  | 90 => ⟨S16414x256, .f32⟩
  | 91 => ⟨S16384x256, .f32⟩
  | 92 => ⟨S16384x256, .f32⟩
  | 93 => ⟨S_, .f32⟩
  | 94 => ⟨S16414x256, .f32⟩
  | 95 => ⟨S16414x256, .f32⟩
  | 96 => ⟨S16384x256, .f32⟩
  | 97 => ⟨S16384x256, .f32⟩
  | 98 => ⟨S_, .f32⟩
  | 99 => ⟨S16414x256, .f32⟩
  | 100 => ⟨S16414x256, .f32⟩
  | 101 => ⟨S16384x256, .f32⟩
  | 102 => ⟨S16384x256, .f32⟩
  | 103 => ⟨S_, .f32⟩
  | 104 => ⟨S16414x256, .f32⟩
  | 105 => ⟨S16414x256, .f32⟩
  | 106 => ⟨S16384x256, .f32⟩
  | 107 => ⟨S16384x256, .f32⟩
  | 108 => ⟨S_, .f32⟩
  | 109 => ⟨S16414x256, .f32⟩
  | 110 => ⟨S16414x256, .f32⟩
  | 111 => ⟨S16384x256, .f32⟩
  | 112 => ⟨S16384x256, .f32⟩
  | 113 => ⟨S_, .f32⟩
  | 114 => ⟨S16414x256, .f32⟩
  | 115 => ⟨S16414x256, .f32⟩
  | 116 => ⟨S16384x256, .f32⟩
  | 117 => ⟨S16384x256, .f32⟩
  | 118 => ⟨S_, .f32⟩
  | 119 => ⟨S16414x256, .f32⟩
  | 120 => ⟨S16414x256, .f32⟩
  | 121 => ⟨S16384x256, .f32⟩
  | 122 => ⟨S16384x256, .f32⟩
  | 123 => ⟨S_, .f32⟩
  | 124 => ⟨S16414x256, .f32⟩
  | 125 => ⟨S16414x256, .f32⟩
  | 126 => ⟨S30x256, .f32⟩
  | 127 => ⟨S16384x256, .f32⟩
  | _ => ⟨S16384x2560, .bf16⟩

abbrev hbmTy0_3 (i : Nat) : BufTy := match i % 128 with
  | 0 => ⟨S16384x256, .f32⟩
  | 1 => ⟨S16384x256, .f32⟩
  | 2 => ⟨S16384x256, .f32⟩
  | 3 => ⟨S16384x256, .f32⟩
  | 4 => ⟨S16384x256, .f32⟩
  | 5 => ⟨S16384x256, .f32⟩
  | 6 => ⟨S16384x256, .f32⟩
  | 7 => ⟨S_, .f32⟩
  | 8 => ⟨S16386x256, .f32⟩
  | 9 => ⟨S16384x256, .f32⟩
  | 10 => ⟨S16384x256, .f32⟩
  | 11 => ⟨S_, .f32⟩
  | 12 => ⟨S16386x256, .f32⟩
  | 13 => ⟨S16386x256, .f32⟩
  | 14 => ⟨S16384x256, .f32⟩
  | 15 => ⟨S16384x256, .f32⟩
  | 16 => ⟨S_, .f32⟩
  | 17 => ⟨S16386x256, .f32⟩
  | 18 => ⟨S16386x256, .f32⟩
  | 19 => ⟨S2x256, .f32⟩
  | 20 => ⟨S16384x256, .f32⟩
  | 21 => ⟨S16384x256, .f32⟩
  | 22 => ⟨S16384x256, .f32⟩
  | 23 => ⟨S16384x512, .f32⟩
  | 24 => ⟨S16384x768, .f32⟩
  | 25 => ⟨S16384x512, .f32⟩
  | 26 => ⟨S16384x2560, .f32⟩
  | 27 => ⟨S16384x2560, .bf16⟩
  | _ => ⟨S16384x2560, .bf16⟩

abbrev hbmTy (i : Nat) : BufTy := match i / 128 with
  | 0 => hbmTy0_0 i
  | 1 => hbmTy0_1 i
  | 2 => hbmTy0_2 i
  | 3 => hbmTy0_3 i
  | _ => ⟨S16384x2560, .bf16⟩

abbrev bufTy : (tb : Table) → Fin (tcTables nBuf tb) → BufTy
  | .hbm, ⟨i, _⟩ => hbmTy i
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_cst_6 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_cst_7 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_cst_8 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_cst_9 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_cst_10 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_cst_11 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_cst_12 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_cst_13 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_cst_14 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_cst_15 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_cst_16 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_cst_17 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_cst_18 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_cst_19 : Ref sig .tc := ⟨.hbm, 294, rfl⟩
abbrev main_v265 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_cst_20 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_cst_21 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_cst_22 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_cst_23 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_cst_24 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_cst_25 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_cst_26 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_cst_27 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_cst_28 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_cst_29 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_cst_30 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_cst_31 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_cst_32 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_cst_33 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_cst_34 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_cst_35 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_cst_36 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_v342 : Ref sig .tc := ⟨.hbm, 389, rfl⟩
abbrev main_v343 : Ref sig .tc := ⟨.hbm, 390, rfl⟩
abbrev main_cst_37 : Ref sig .tc := ⟨.hbm, 391, rfl⟩
abbrev main_v344 : Ref sig .tc := ⟨.hbm, 392, rfl⟩
abbrev main_v345 : Ref sig .tc := ⟨.hbm, 393, rfl⟩
abbrev main_v346 : Ref sig .tc := ⟨.hbm, 394, rfl⟩
abbrev main_cst_38 : Ref sig .tc := ⟨.hbm, 395, rfl⟩
abbrev main_v347 : Ref sig .tc := ⟨.hbm, 396, rfl⟩
abbrev main_v348 : Ref sig .tc := ⟨.hbm, 397, rfl⟩
abbrev main_v349 : Ref sig .tc := ⟨.hbm, 398, rfl⟩
abbrev main_v350 : Ref sig .tc := ⟨.hbm, 399, rfl⟩
abbrev main_cst_39 : Ref sig .tc := ⟨.hbm, 400, rfl⟩
abbrev main_v351 : Ref sig .tc := ⟨.hbm, 401, rfl⟩
abbrev main_v352 : Ref sig .tc := ⟨.hbm, 402, rfl⟩
abbrev main_v353 : Ref sig .tc := ⟨.hbm, 403, rfl⟩
abbrev main_v354 : Ref sig .tc := ⟨.hbm, 404, rfl⟩
abbrev main_v355 : Ref sig .tc := ⟨.hbm, 405, rfl⟩
abbrev main_v356 : Ref sig .tc := ⟨.hbm, 406, rfl⟩
abbrev main_v357 : Ref sig .tc := ⟨.hbm, 407, rfl⟩
abbrev main_v358 : Ref sig .tc := ⟨.hbm, 408, rfl⟩
abbrev main_v359 : Ref sig .tc := ⟨.hbm, 409, rfl⟩
abbrev main_v360 : Ref sig .tc := ⟨.hbm, 410, rfl⟩
abbrev main_v361 : Ref sig .tc := ⟨.hbm, 411, rfl⟩

abbrev nD : Nat := 1
abbrev τ : Topo := Topo.v7x

variable {F : FTy → Type} [FloatOps F]
-- ==== Kernel2.lean ====
abbrev S16384x1024 : Shape := ⟨2, ![16384, 1024]⟩
abbrev S16384x4096 : Shape := ⟨2, ![16384, 4096]⟩
abbrev S4x2x1024x1024 : Shape := ⟨4, ![4, 2, 1024, 1024]⟩
abbrev S1024x1024 : Shape := ⟨2, ![1024, 1024]⟩
abbrev S1x1x1024x1024 : Shape := ⟨4, ![1, 1, 1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S4x2x1024x1024, .bf16⟩
  | .hbm, ⟨3, _⟩ => ⟨S4x2x1024x1024, .bf16⟩
  | .hbm, ⟨4, _⟩ => ⟨S16384x4096, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_16 : BitVec 32 := 0#32
  let v18 : BitVec 1 := Scalar.cmpi .ne v17 c0_i32_16
  v18

def k0_cond2 (i : grid0.Coords) : BitVec 1 :=
  let arg1 : BitVec 32 := BitVec.ofNat 32 (i 1).val
  let c0_i32_17 : BitVec 32 := 0#32
  let v19 : BitVec 1 := Scalar.cmpi .ne arg1 c0_i32_17
  let v20 : BitVec 32 := Scalar.extui v19
  let c0_i32_18 : BitVec 32 := 0#32
  let v21 : BitVec 1 := Scalar.cmpi .ne v20 c0_i32_18
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x1024 : Shape := ⟨2, ![16384, 1024]⟩
abbrev S16384x4096 : Shape := ⟨2, ![16384, 4096]⟩
abbrev S4x2x1024x1024 : Shape := ⟨4, ![4, 2, 1024, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S4x2x1024x1024, .bf16⟩
  | .hbm, ⟨3, _⟩ => ⟨S4x2x1024x1024, .bf16⟩
  | .hbm, ⟨4, _⟩ => ⟨S4x1x1024x1024, .bf16⟩
  | .hbm, ⟨5, _⟩ => ⟨S4x1024x1024, .bf16⟩
  | .hbm, ⟨6, _⟩ => ⟨S1024x4x1024, .bf16⟩
  | .hbm, ⟨7, _⟩ => ⟨S1024x4096, .bf16⟩
  | .hbm, ⟨8, _⟩ => ⟨S1024x4096, .f32⟩
  | .hbm, ⟨9, _⟩ => ⟨S4x1x1024x1024, .bf16⟩
  | .hbm, ⟨10, _⟩ => ⟨S4x1024x1024, .bf16⟩
  | .hbm, ⟨11, _⟩ => ⟨S4096x1024, .bf16⟩
  | .hbm, ⟨12, _⟩ => ⟨S4096x1024, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .i1⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .bf16⟩
  | .hbm, ⟨33, _⟩ => ⟨S_, .f32⟩
  | .hbm, ⟨34, _⟩ => ⟨S16384x1024, .f32⟩
  | .hbm, ⟨35, _⟩ => ⟨S16384x4096, .f32⟩
  | .hbm, ⟨36, _⟩ => ⟨S16384x4096, .f32⟩
  | .hbm, ⟨37, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel3.lean ====
abbrev S16384x1024 : Shape := ⟨2, ![16384, 1024]⟩
abbrev S16384x4096 : Shape := ⟨2, ![16384, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S16384x4096, .bf16⟩
  | .hbm, ⟨3, _⟩ => ⟨S16384x1024, .bf16⟩
  | .hbm, ⟨4, _⟩ => ⟨S4x1024x1024, .f32⟩
  | .hbm, ⟨5, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S16384x4096, .bf16⟩
  | .hbm, ⟨3, _⟩ => ⟨S16384x1024, .bf16⟩
  | .hbm, ⟨4, _⟩ => ⟨S_, .f32⟩
  | .hbm, ⟨5, _⟩ => ⟨S1024x4096, .f32⟩
  | .hbm, ⟨6, _⟩ => ⟨S16384x1024, .f32⟩
  | .hbm, ⟨7, _⟩ => ⟨S16384x4096, .f32⟩
  | .hbm, ⟨8, _⟩ => ⟨S16384x4096, .f32⟩
  | .hbm, ⟨9, _⟩ => ⟨S4096x1024, .f32⟩
  | .hbm, ⟨10, _⟩ => ⟨S1024x4096, .f32⟩
  | .hbm, ⟨11, _⟩ => ⟨S_, .f32⟩
  | .hbm, ⟨12, _⟩ => ⟨S4096x1024, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x1024, .f32⟩
  | .hbm, ⟨19, _⟩ => ⟨S16384x1024, .f32⟩
  | .hbm, ⟨20, _⟩ => ⟨S1024x4096, .f32⟩
  | .hbm, ⟨21, _⟩ => ⟨S4096x1024, .f32⟩
  | .hbm, ⟨22, _⟩ => ⟨S1024x4x1024, .f32⟩
  | .hbm, ⟨23, _⟩ => ⟨S4x1024x1024, .f32⟩
  | .hbm, ⟨24, _⟩ => ⟨S4x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel4.lean ====
abbrev S16384x1024 : Shape := ⟨2, ![16384, 1024]⟩
abbrev S16384x2560 : Shape := ⟨2, ![16384, 2560]⟩
abbrev S4x1024x640 : Shape := ⟨3, ![4, 1024, 640]⟩
abbrev S1024x1024 : Shape := ⟨2, ![1024, 1024]⟩
abbrev S1024x2560 : Shape := ⟨2, ![1024, 2560]⟩
abbrev S2x1024x1280 : Shape := ⟨3, ![2, 1024, 1280]⟩
abbrev S1x1024x1280 : Shape := ⟨3, ![1, 1024, 1280]⟩
abbrev S1024x1280 : Shape := ⟨2, ![1024, 1280]⟩
abbrev S1x1024x640 : Shape := ⟨3, ![1, 1024, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2560, .bf16⟩
  | .hbm, ⟨2, _⟩ => ⟨S4x1024x640, .f32⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S4x1024x640, .f32⟩
  | .local _ .vmem, ⟨5, _⟩ => ⟨S2x1024x1280, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S16384x1024 : Shape := ⟨2, ![16384, 1024]⟩
abbrev S16384x2560 : Shape := ⟨2, ![16384, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2560, .bf16⟩
  | .hbm, ⟨2, _⟩ => ⟨S_, .f32⟩
  | .hbm, ⟨3, _⟩ => ⟨S1024x2560, .f32⟩
  | .hbm, ⟨4, _⟩ => ⟨S16384x1024, .f32⟩
  | .hbm, ⟨5, _⟩ => ⟨S16384x2560, .f32⟩
  | .hbm, ⟨6, _⟩ => ⟨S16384x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S16384x1024 : Shape := ⟨2, ![16384, 1024]⟩
abbrev S2x1024 : Shape := ⟨2, ![2, 1024]⟩
abbrev S16384x2560 : Shape := ⟨2, ![16384, 2560]⟩
abbrev S4x2x1024x640 : Shape := ⟨4, ![4, 2, 1024, 640]⟩
abbrev S1x1024 : Shape := ⟨2, ![1, 1024]⟩
abbrev S1024 : Shape := ⟨1, ![1024]⟩
abbrev S512x1024 : Shape := ⟨2, ![512, 1024]⟩
abbrev S512x2560 : Shape := ⟨2, ![512, 2560]⟩
abbrev S4x1x1024x640 : Shape := ⟨4, ![4, 1, 1024, 640]⟩
abbrev S2x1024x1280 : Shape := ⟨3, ![2, 1024, 1280]⟩
abbrev S1x1x1024x640 : Shape := ⟨4, ![1, 1, 1024, 640]⟩
abbrev S1024x640 : Shape := ⟨2, ![1024, 640]⟩
abbrev S1x1024x640 : Shape := ⟨3, ![1, 1024, 640]⟩
abbrev S512x1280 : Shape := ⟨2, ![512, 1280]⟩
abbrev S1x1024x1280 : Shape := ⟨3, ![1, 1024, 1280]⟩
abbrev S1024x1280 : Shape := ⟨2, ![1024, 1280]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S16384x1024, .f32⟩
  | .hbm, ⟨3, _⟩ => ⟨S16384x2560, .bf16⟩
  | .hbm, ⟨4, _⟩ => ⟨S4x2x1024x640, .bf16⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2560, .bf16⟩
  | .local _ .vmem, ⟨6, _⟩ => ⟨S512x2560, .bf16⟩
  | .local _ .vmem, ⟨7, _⟩ => ⟨S4x1x1024x640, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S2x1024x1280, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1x1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S16384x1024 : Shape := ⟨2, ![16384, 1024]⟩
abbrev S2x1024 : Shape := ⟨2, ![2, 1024]⟩
abbrev S16384x2560 : Shape := ⟨2, ![16384, 2560]⟩
abbrev S4x2x1024x640 : Shape := ⟨4, ![4, 2, 1024, 640]⟩
abbrev S4x1x1024x640 : Shape := ⟨4, ![4, 1, 1024, 640]⟩
abbrev S4x1024x640 : Shape := ⟨3, ![4, 1024, 640]⟩
abbrev S1024x4x640 : Shape := ⟨3, ![1024, 4, 640]⟩
abbrev S1024x2560 : Shape := ⟨2, ![1024, 2560]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S16384x1024, .f32⟩
  | .hbm, ⟨3, _⟩ => ⟨S16384x2560, .bf16⟩
  | .hbm, ⟨4, _⟩ => ⟨S4x2x1024x640, .bf16⟩
  | .hbm, ⟨5, _⟩ => ⟨S4x1x1024x640, .bf16⟩
  | .hbm, ⟨6, _⟩ => ⟨S4x1024x640, .bf16⟩
  | .hbm, ⟨7, _⟩ => ⟨S1024x4x640, .bf16⟩
  | .hbm, ⟨8, _⟩ => ⟨S1024x2560, .bf16⟩
  | .hbm, ⟨9, _⟩ => ⟨S1024x2560, .f32⟩
  | .hbm, ⟨10, _⟩ => ⟨S1x1024, .f32⟩
  | .hbm, ⟨11, _⟩ => ⟨S1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x2560, .f32⟩
  | .hbm, ⟨33, _⟩ => ⟨S16384x2560, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .bf16⟩
  | .hbm, ⟨62, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S1x128, .f32⟩
  | .hbm, ⟨5, _⟩ => ⟨S16384x1024, .f32⟩
  | .hbm, ⟨6, _⟩ => ⟨S16384x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x128, .f32⟩
  | .hbm, ⟨72, _⟩ => ⟨S16384x1024, .bf16⟩
  | .hbm, ⟨73, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel7.lean ====
abbrev S16384x1024 : Shape := ⟨2, ![16384, 1024]⟩
abbrev S2x1024 : Shape := ⟨2, ![2, 1024]⟩
abbrev S4x2x1024x1024 : Shape := ⟨4, ![4, 2, 1024, 1024]⟩
abbrev S1x1024 : Shape := ⟨2, ![1, 1024]⟩
abbrev S1024 : Shape := ⟨1, ![1024]⟩
abbrev S16384x4096 : Shape := ⟨2, ![16384, 4096]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S4x2x1024x1024, .bf16⟩
  | .hbm, ⟨3, _⟩ => ⟨S4x2x1024x1024, .bf16⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S16384x1024, .f32⟩
  | .hbm, ⟨8, _⟩ => ⟨S16384x4096, .bf16⟩
  | .hbm, ⟨9, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S16384x1024 : Shape := ⟨2, ![16384, 1024]⟩
abbrev S2x1024 : Shape := ⟨2, ![2, 1024]⟩
abbrev S4x2x1024x1024 : Shape := ⟨4, ![4, 2, 1024, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S4x2x1024x1024, .bf16⟩
  | .hbm, ⟨3, _⟩ => ⟨S4x2x1024x1024, .bf16⟩
  | .hbm, ⟨4, _⟩ => ⟨S4x1x1024x1024, .bf16⟩
  | .hbm, ⟨5, _⟩ => ⟨S4x1024x1024, .bf16⟩
  | .hbm, ⟨6, _⟩ => ⟨S1024x4x1024, .bf16⟩
  | .hbm, ⟨7, _⟩ => ⟨S1024x4096, .bf16⟩
  | .hbm, ⟨8, _⟩ => ⟨S1024x4096, .f32⟩
  | .hbm, ⟨9, _⟩ => ⟨S4x1x1024x1024, .bf16⟩
  | .hbm, ⟨10, _⟩ => ⟨S4x1024x1024, .bf16⟩
  | .hbm, ⟨11, _⟩ => ⟨S4096x1024, .bf16⟩
  | .hbm, ⟨12, _⟩ => ⟨S4096x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S16384x1024, .f32⟩
  | .hbm, ⟨37, _⟩ => ⟨S16384x1024, .f32⟩
  | .hbm, ⟨38, _⟩ => ⟨S16384x4096, .bf16⟩
  | .hbm, ⟨39, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_cst : Ref sig .tc := ⟨.hbm, 32, rfl⟩
abbrev main_call0_v0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel8.lean ====
abbrev S16384x1024 : Shape := ⟨2, ![16384, 1024]⟩
abbrev S2x1024 : Shape := ⟨2, ![2, 1024]⟩
abbrev S4x2x1024x640 : Shape := ⟨4, ![4, 2, 1024, 640]⟩
abbrev S1x1024 : Shape := ⟨2, ![1, 1024]⟩
abbrev S1024 : Shape := ⟨1, ![1024]⟩
abbrev S16384x2560 : Shape := ⟨2, ![16384, 2560]⟩
abbrev S4x16384x64 : Shape := ⟨3, ![4, 16384, 64]⟩
abbrev S4x64x16384 : Shape := ⟨3, ![4, 64, 16384]⟩
abbrev S1024x1024 : Shape := ⟨2, ![1024, 1024]⟩
abbrev S4x1x1024x640 : Shape := ⟨4, ![4, 1, 1024, 640]⟩
abbrev S1024x2560 : Shape := ⟨2, ![1024, 2560]⟩
abbrev S4x1024x64 : Shape := ⟨3, ![4, 1024, 64]⟩
abbrev S4x64x1024 : Shape := ⟨3, ![4, 64, 1024]⟩
abbrev S2x1024x1280 : Shape := ⟨3, ![2, 1024, 1280]⟩
abbrev S1x1x1024x640 : Shape := ⟨4, ![1, 1, 1024, 640]⟩
abbrev S1024x640 : Shape := ⟨2, ![1024, 640]⟩
abbrev S1x1024x640 : Shape := ⟨3, ![1, 1024, 640]⟩
abbrev S1024x1 : Shape := ⟨2, ![1024, 1]⟩
abbrev S1x1024x1280 : Shape := ⟨3, ![1, 1024, 1280]⟩
abbrev S1024x1280 : Shape := ⟨2, ![1024, 1280]⟩
abbrev S1024x256 : Shape := ⟨2, ![1024, 256]⟩
abbrev S1024x64 : Shape := ⟨2, ![1024, 64]⟩
abbrev S1x1024x64 : Shape := ⟨3, ![1, 1024, 64]⟩
abbrev S256x1024 : Shape := ⟨2, ![256, 1024]⟩
abbrev S64x1024 : Shape := ⟨2, ![64, 1024]⟩
abbrev S1x64x1024 : Shape := ⟨3, ![1, 64, 1024]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S4x2x1024x640, .bf16⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S16384x2560, .bf16⟩
  | .hbm, ⟨7, _⟩ => ⟨S16384x1024, .bf16⟩
  | .hbm, ⟨8, _⟩ => ⟨S4x16384x64, .bf16⟩
  | .hbm, ⟨9, _⟩ => ⟨S4x64x16384, .bf16⟩
  | .hbm, ⟨10, _⟩ => ⟨S4x64x16384, .bf16⟩
  | .hbm, ⟨11, _⟩ => ⟨S4x64x16384, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1x1024x640, .bf16⟩
  | .local _ .vmem, ⟨4, _⟩ => ⟨S1024x2560, .bf16⟩
  | .local _ .vmem, ⟨5, _⟩ => ⟨S1024x2560, .bf16⟩
  | .local _ .vmem, ⟨6, _⟩ => ⟨S1024x1024, .bf16⟩
  | .local _ .vmem, ⟨7, _⟩ => ⟨S1024x1024, .bf16⟩
  | .local _ .vmem, ⟨8, _⟩ => ⟨S4x1024x64, .bf16⟩
  | .local _ .vmem, ⟨9, _⟩ => ⟨S4x1024x64, .bf16⟩
  | .local _ .vmem, ⟨10, _⟩ => ⟨S4x64x1024, .bf16⟩
  | .local _ .vmem, ⟨11, _⟩ => ⟨S4x64x1024, .bf16⟩
  | .local _ .vmem, ⟨12, _⟩ => ⟨S4x64x1024, .bf16⟩
  | .local _ .vmem, ⟨13, _⟩ => ⟨S4x64x1024, .bf16⟩
  | .local _ .vmem, ⟨14, _⟩ => ⟨S4x64x1024, .bf16⟩
  | .local _ .vmem, ⟨15, _⟩ => ⟨S4x64x1024, .bf16⟩
  | .local _ .vmem, ⟨16, _⟩ => ⟨S2x1024x1280, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S16384x1024 : Shape := ⟨2, ![16384, 1024]⟩
abbrev S2x1024 : Shape := ⟨2, ![2, 1024]⟩
abbrev S4x2x1024x640 : Shape := ⟨4, ![4, 2, 1024, 640]⟩
abbrev S4x1x1024x640 : Shape := ⟨4, ![4, 1, 1024, 640]⟩
abbrev S4x1024x640 : Shape := ⟨3, ![4, 1024, 640]⟩
abbrev S1024x4x640 : Shape := ⟨3, ![1024, 4, 640]⟩
abbrev S1024x2560 : Shape := ⟨2, ![1024, 2560]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2560 : Shape := ⟨2, ![16384, 2560]⟩
abbrev S16384x768 : Shape := ⟨2, ![16384, 768]⟩
abbrev S16384x256 : Shape := ⟨2, ![16384, 256]⟩
abbrev S16384x4x64 : Shape := ⟨3, ![16384, 4, 64]⟩
abbrev S4x16384x64 : Shape := ⟨3, ![4, 16384, 64]⟩
abbrev S4x64x16384 : Shape := ⟨3, ![4, 64, 16384]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S4x2x1024x640, .bf16⟩
  | .hbm, ⟨3, _⟩ => ⟨S4x1x1024x640, .bf16⟩
  | .hbm, ⟨4, _⟩ => ⟨S4x1024x640, .bf16⟩
  | .hbm, ⟨5, _⟩ => ⟨S1024x4x640, .bf16⟩
  | .hbm, ⟨6, _⟩ => ⟨S1024x2560, .bf16⟩
  | .hbm, ⟨7, _⟩ => ⟨S1024x2560, .f32⟩
  | .hbm, ⟨8, _⟩ => ⟨S1x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x2560, .f32⟩
  | .hbm, ⟨27, _⟩ => ⟨S16384x768, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S_, .f32⟩
  | .hbm, ⟨32, _⟩ => ⟨S16384x256, .f32⟩
  | .hbm, ⟨33, _⟩ => ⟨S16384x256, .f32⟩
  | .hbm, ⟨34, _⟩ => ⟨S16384x4x64, .f32⟩
  | .hbm, ⟨35, _⟩ => ⟨S16384x4x64, .f32⟩
  | .hbm, ⟨36, _⟩ => ⟨S16384x4x64, .f32⟩
  | .hbm, ⟨37, _⟩ => ⟨S16384x2560, .bf16⟩
  | .hbm, ⟨38, _⟩ => ⟨S16384x1024, .bf16⟩
  | .hbm, ⟨39, _⟩ => ⟨S4x16384x64, .f32⟩
  | .hbm, ⟨40, _⟩ => ⟨S4x16384x64, .bf16⟩
  | .hbm, ⟨41, _⟩ => ⟨S4x64x16384, .f32⟩
  | .hbm, ⟨42, _⟩ => ⟨S4x64x16384, .bf16⟩
  | .hbm, ⟨43, _⟩ => ⟨S4x64x16384, .f32⟩
  | .hbm, ⟨44, _⟩ => ⟨S4x64x16384, .bf16⟩
  | .hbm, ⟨45, _⟩ => ⟨S4x64x16384, .f32⟩
  | .hbm, ⟨46, _⟩ => ⟨S4x64x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== Kernel9.lean ====
abbrev S16384x1024 : Shape := ⟨2, ![16384, 1024]⟩
abbrev S4x64x16384 : Shape := ⟨3, ![4, 64, 16384]⟩
abbrev S2x1024 : Shape := ⟨2, ![2, 1024]⟩
abbrev S4x2x256x1024 : Shape := ⟨4, ![4, 2, 256, 1024]⟩
abbrev S1x1024 : Shape := ⟨2, ![1, 1024]⟩
abbrev S1024 : Shape := ⟨1, ![1024]⟩
abbrev S1024x1024 : Shape := ⟨2, ![1024, 1024]⟩
abbrev S1024x768 : Shape := ⟨2, ![1024, 768]⟩
abbrev S4x64x1024 : Shape := ⟨3, ![4, 64, 1024]⟩
abbrev S4x1x256x1024 : Shape := ⟨4, ![4, 1, 256, 1024]⟩
abbrev S256x1024 : Shape := ⟨2, ![256, 1024]⟩
abbrev S1024x256 : Shape := ⟨2, ![1024, 256]⟩
abbrev S1024x1 : Shape := ⟨2, ![1024, 1]⟩
abbrev S1x256 : Shape := ⟨2, ![1, 256]⟩
abbrev S1x1x256x1024 : Shape := ⟨4, ![1, 1, 256, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x64x16384, .f32⟩
  | .hbm, ⟨3, _⟩ => ⟨S2x1024, .f32⟩
  | .hbm, ⟨4, _⟩ => ⟨S4x2x256x1024, .bf16⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S16384x1024, .f32⟩
  | .hbm, ⟨9, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x768, .f32⟩
  | .local _ .vmem, ⟨3, _⟩ => ⟨S1024x768, .f32⟩
  | .local _ .vmem, ⟨4, _⟩ => ⟨S4x64x1024, .f32⟩
  | .local _ .vmem, ⟨5, _⟩ => ⟨S4x64x1024, .f32⟩
  | .local _ .vmem, ⟨6, _⟩ => ⟨S1x1024, .f32⟩
  | .local _ .vmem, ⟨7, _⟩ => ⟨S4x1x256x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S16384x1024 : Shape := ⟨2, ![16384, 1024]⟩
abbrev S4x64x16384 : Shape := ⟨3, ![4, 64, 16384]⟩
abbrev S2x1024 : Shape := ⟨2, ![2, 1024]⟩
abbrev S4x2x256x1024 : Shape := ⟨4, ![4, 2, 256, 1024]⟩
abbrev S4x1x256x1024 : Shape := ⟨4, ![4, 1, 256, 1024]⟩
abbrev S4x256x1024 : Shape := ⟨3, ![4, 256, 1024]⟩
abbrev S1024x1024 : Shape := ⟨2, ![1024, 1024]⟩
abbrev S16384x768 : Shape := ⟨2, ![16384, 768]⟩
abbrev S16384x256 : Shape := ⟨2, ![16384, 256]⟩
abbrev S16384x4x64 : Shape := ⟨3, ![16384, 4, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x64x16384, .f32⟩
  | .hbm, ⟨3, _⟩ => ⟨S2x1024, .f32⟩
  | .hbm, ⟨4, _⟩ => ⟨S4x2x256x1024, .bf16⟩
  | .hbm, ⟨5, _⟩ => ⟨S4x1x256x1024, .bf16⟩
  | .hbm, ⟨6, _⟩ => ⟨S4x256x1024, .bf16⟩
  | .hbm, ⟨7, _⟩ => ⟨S1024x1024, .bf16⟩
  | .hbm, ⟨8, _⟩ => ⟨S1024x1024, .f32⟩
  | .hbm, ⟨9, _⟩ => ⟨S16384x768, .f32⟩
  | .hbm, ⟨10, _⟩ => ⟨S16384x256, .f32⟩
  | .hbm, ⟨11, _⟩ => ⟨S16384x256, .f32⟩
  | .hbm, ⟨12, _⟩ => ⟨S16384x256, .f32⟩
  | .hbm, ⟨13, _⟩ => ⟨S16384x4x64, .f32⟩
  | .hbm, ⟨14, _⟩ => ⟨S16384x256, .f32⟩
  | .hbm, ⟨15, _⟩ => ⟨S16384x256, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x256, .f32⟩
  | .hbm, ⟨27, _⟩ => ⟨S16384x256, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel10.lean ====
abbrev S16384x1024 : Shape := ⟨2, ![16384, 1024]⟩
abbrev S2x1024 : Shape := ⟨2, ![2, 1024]⟩
abbrev S4x2x256x1024 : Shape := ⟨4, ![4, 2, 256, 1024]⟩
abbrev S1x1024 : Shape := ⟨2, ![1, 1024]⟩
abbrev S1024 : Shape := ⟨1, ![1024]⟩
abbrev S4x256x1024 : Shape := ⟨3, ![4, 256, 1024]⟩
abbrev S1024x1024 : Shape := ⟨2, ![1024, 1024]⟩
abbrev S4x1x256x1024 : Shape := ⟨4, ![4, 1, 256, 1024]⟩
abbrev S1024x1 : Shape := ⟨2, ![1024, 1]⟩
abbrev S1x1x256x1024 : Shape := ⟨4, ![1, 1, 256, 1024]⟩
abbrev S256x1024 : Shape := ⟨2, ![256, 1024]⟩
abbrev S1024x256 : Shape := ⟨2, ![1024, 256]⟩
abbrev S1x256x1024 : Shape := ⟨3, ![1, 256, 1024]⟩
abbrev S1x256 : Shape := ⟨2, ![1, 256]⟩
abbrev S256 : Shape := ⟨1, ![256]⟩

abbrev nBuf : Space → Nat
  | .hbm => 18
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S2x1024, .f32⟩
  | .hbm, ⟨6, _⟩ => ⟨S4x2x256x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S16384x1024, .f32⟩
  | .hbm, ⟨14, _⟩ => ⟨S1x1024, .f32⟩
  | .hbm, ⟨15, _⟩ => ⟨S16384x1024, .bf16⟩
  | .hbm, ⟨16, _⟩ => ⟨S1x1024, .f32⟩
  | .hbm, ⟨17, _⟩ => ⟨S4x256x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S4x1x256x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S4x256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference10Ideal.lean ====
abbrev S16384x1024 : Shape := ⟨2, ![16384, 1024]⟩
abbrev S2x1024 : Shape := ⟨2, ![2, 1024]⟩
abbrev S4x2x256x1024 : Shape := ⟨4, ![4, 2, 256, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S4x1x256x1024 : Shape := ⟨4, ![4, 1, 256, 1024]⟩
abbrev S4x256x1024 : Shape := ⟨3, ![4, 256, 1024]⟩
abbrev S1024x1024 : Shape := ⟨2, ![1024, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S2x1024, .f32⟩
  | .hbm, ⟨6, _⟩ => ⟨S4x2x256x1024, .bf16⟩
  | .hbm, ⟨7, _⟩ => ⟨S1x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S4x1x256x1024, .bf16⟩
  | .hbm, ⟨56, _⟩ => ⟨S4x256x1024, .bf16⟩
  | .hbm, ⟨57, _⟩ => ⟨S1024x1024, .bf16⟩
  | .hbm, ⟨58, _⟩ => ⟨S1024x1024, .f32⟩
  | .hbm, ⟨59, _⟩ => ⟨S16384x1024, .f32⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .bf16⟩
  | .hbm, ⟨67, _⟩ => ⟨S16384x1024, .f32⟩
  | .hbm, ⟨68, _⟩ => ⟨S1024x1024, .f32⟩
  | .hbm, ⟨69, _⟩ => ⟨S1024x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S16384x1024, .bf16⟩
  | .hbm, ⟨81, _⟩ => ⟨S1x1024, .f32⟩
  | .hbm, ⟨82, _⟩ => ⟨S4x256x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel11.lean ====
abbrev S16384x2560 : Shape := ⟨2, ![16384, 2560]⟩
abbrev S2x256 : Shape := ⟨2, ![2, 256]⟩
abbrev S2x4x128x128 : Shape := ⟨4, ![2, 4, 128, 128]⟩
abbrev S2x4x128 : Shape := ⟨3, ![2, 4, 128]⟩
abbrev S2x3x256 : Shape := ⟨3, ![2, 3, 256]⟩
abbrev S2x31x256 : Shape := ⟨3, ![2, 31, 256]⟩
abbrev S_ : Shape := ⟨0, ![]⟩
abbrev S128x128 : Shape := ⟨2, ![128, 128]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S8x256 : Shape := ⟨2, ![8, 256]⟩
abbrev S1x3x256 : Shape := ⟨3, ![1, 3, 256]⟩
abbrev S3x256 : Shape := ⟨2, ![3, 256]⟩
abbrev S1 : Shape := ⟨1, ![1]⟩
abbrev S32x256 : Shape := ⟨2, ![32, 256]⟩
abbrev S1x31x256 : Shape := ⟨3, ![1, 31, 256]⟩
abbrev S31x256 : Shape := ⟨2, ![31, 256]⟩
abbrev S1x256 : Shape := ⟨2, ![1, 256]⟩
abbrev S256 : Shape := ⟨1, ![256]⟩
abbrev S16384x1024 : Shape := ⟨2, ![16384, 1024]⟩
abbrev S512x2560 : Shape := ⟨2, ![512, 2560]⟩
abbrev S32x2560 : Shape := ⟨2, ![32, 2560]⟩
abbrev S512x1024 : Shape := ⟨2, ![512, 1024]⟩
abbrev S544x256 : Shape := ⟨2, ![544, 256]⟩
abbrev S7x536x256 : Shape := ⟨3, ![7, 536, 256]⟩
abbrev S512x256 : Shape := ⟨2, ![512, 256]⟩
abbrev S512 : Shape := ⟨1, ![512]⟩
abbrev S512x1 : Shape := ⟨2, ![512, 1]⟩
abbrev S1x128x128 : Shape := ⟨3, ![1, 128, 128]⟩
abbrev S536x256 : Shape := ⟨2, ![536, 256]⟩
abbrev S1x536x256 : Shape := ⟨3, ![1, 536, 256]⟩
abbrev S1x512x256 : Shape := ⟨3, ![1, 512, 256]⟩

abbrev nBuf : Space → Nat
  | .hbm => 58
  | .vmem => 16
  | .smem => 0
  | _ => 0

abbrev bufTy : (tb : Table) → Fin (tcTables nBuf tb) → BufTy
  | .hbm, ⟨0, _⟩ => ⟨S16384x2560, .bf16⟩
  | .hbm, ⟨1, _⟩ => ⟨S2x256, .f32⟩
  | .hbm, ⟨2, _⟩ => ⟨S2x4x128x128, .f32⟩
  | .hbm, ⟨3, _⟩ => ⟨S2x4x128, .f32⟩
  | .hbm, ⟨4, _⟩ => ⟨S2x3x256, .f32⟩
  | .hbm, ⟨5, _⟩ => ⟨S2x31x256, .f32⟩
  | .hbm, ⟨6, _⟩ => ⟨S2x256, .f32⟩
  | .hbm, ⟨7, _⟩ => ⟨S2x256, .f32⟩
  | .hbm, ⟨8, _⟩ => ⟨S_, .i1⟩
  | .hbm, ⟨9, _⟩ => ⟨S128x128, .i1⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .i1⟩
  | .hbm, ⟨17, _⟩ => ⟨S128x128, .i1⟩
  | .hbm, ⟨18, _⟩ => ⟨S128x128, .i1⟩
  | .hbm, ⟨19, _⟩ => ⟨S1x4x128x128, .f32⟩
  | .hbm, ⟨20, _⟩ => ⟨S4x128x128, .f32⟩
  | .hbm, ⟨21, _⟩ => ⟨S_, .f32⟩
  | .hbm, ⟨22, _⟩ => ⟨S_, .f32⟩
  | .hbm, ⟨23, _⟩ => ⟨S4x128x128, .i1⟩
  | .hbm, ⟨24, _⟩ => ⟨S4x128x128, .f32⟩
  | .hbm, ⟨25, _⟩ => ⟨S4x128x128, .f32⟩
  | .hbm, ⟨26, _⟩ => ⟨S1x4x128, .f32⟩
  | .hbm, ⟨27, _⟩ => ⟨S4x128, .f32⟩
  | .hbm, ⟨28, _⟩ => ⟨S128x4, .f32⟩
  | .hbm, ⟨29, _⟩ => ⟨S128x4x64, .f32⟩
  | .hbm, ⟨30, _⟩ => ⟨S128x256, .f32⟩
  | .hbm, ⟨31, _⟩ => ⟨S_, .f32⟩
  | .hbm, ⟨32, _⟩ => ⟨S8x256, .f32⟩
  | .hbm, ⟨33, _⟩ => ⟨S1x3x256, .f32⟩
  | .hbm, ⟨34, _⟩ => ⟨S3x256, .f32⟩
  | .hbm, ⟨35, _⟩ => ⟨S_, .i32⟩
  | .hbm, ⟨36, _⟩ => ⟨S1, .i32⟩
  | .hbm, ⟨37, _⟩ => ⟨S8x256, .f32⟩
  | .hbm, ⟨38, _⟩ => ⟨S_, .f32⟩
  | .hbm, ⟨39, _⟩ => ⟨S32x256, .f32⟩
  | .hbm, ⟨40, _⟩ => ⟨S1x31x256, .f32⟩
  | .hbm, ⟨41, _⟩ => ⟨S31x256, .f32⟩
  | .hbm, ⟨42, _⟩ => ⟨S_, .i32⟩
  | .hbm, ⟨43, _⟩ => ⟨S1, .i32⟩
  | .hbm, ⟨44, _⟩ => ⟨S32x256, .f32⟩
  | .hbm, ⟨45, _⟩ => ⟨S1x256, .f32⟩
  | .hbm, ⟨46, _⟩ => ⟨S256, .f32⟩
  | .hbm, ⟨47, _⟩ => ⟨S1x256, .f32⟩
  | .hbm, ⟨48, _⟩ => ⟨S4x128x128, .bf16⟩
  | .hbm, ⟨49, _⟩ => ⟨S4x128x128, .f32⟩
  | .hbm, ⟨50, _⟩ => ⟨S4x128x128, .bf16⟩
  | .hbm, ⟨51, _⟩ => ⟨S1x256, .f32⟩
  | .hbm, ⟨52, _⟩ => ⟨S256, .f32⟩
  | .hbm, ⟨53, _⟩ => ⟨S1x256, .f32⟩
  | .hbm, ⟨54, _⟩ => ⟨S1x256, .f32⟩
  | .hbm, ⟨55, _⟩ => ⟨S256, .f32⟩
  | .hbm, ⟨56, _⟩ => ⟨S1x256, .f32⟩
  | .hbm, ⟨57, _⟩ => ⟨S16384x1024, .f32⟩
  | .local _ .vmem, ⟨0, _⟩ => ⟨S512x2560, .bf16⟩
  | .local _ .vmem, ⟨1, _⟩ => ⟨S512x2560, .bf16⟩
  | .local _ .vmem, ⟨2, _⟩ => ⟨S32x2560, .bf16⟩
  | .local _ .vmem, ⟨3, _⟩ => ⟨S32x2560, .bf16⟩
  | .local _ .vmem, ⟨4, _⟩ => ⟨S1x256, .f32⟩
  | .local _ .vmem, ⟨5, _⟩ => ⟨S4x128x128, .bf16⟩
  | .local _ .vmem, ⟨6, _⟩ => ⟨S128x256, .f32⟩
  | .local _ .vmem, ⟨7, _⟩ => ⟨S8x256, .f32⟩
  | .local _ .vmem, ⟨8, _⟩ => ⟨S32x256, .f32⟩
  | .local _ .vmem, ⟨9, _⟩ => ⟨S1x256, .f32⟩
  | .local _ .vmem, ⟨10, _⟩ => ⟨S1x256, .f32⟩
  | .local _ .vmem, ⟨11, _⟩ => ⟨S512x1024, .f32⟩
  | .local _ .vmem, ⟨12, _⟩ => ⟨S512x1024, .f32⟩
  | .local _ .vmem, ⟨13, _⟩ => ⟨S544x256, .f32⟩
  | .local _ .vmem, ⟨14, _⟩ => ⟨S544x256, .f32⟩
  | .local _ .vmem, ⟨15, _⟩ => ⟨S7x536x256, .f32⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S16384x2560 : Shape := ⟨2, ![16384, 2560]⟩
abbrev S2x256 : Shape := ⟨2, ![2, 256]⟩
abbrev S2x4x128x128 : Shape := ⟨4, ![2, 4, 128, 128]⟩
abbrev S2x4x128 : Shape := ⟨3, ![2, 4, 128]⟩
abbrev S2x3x256 : Shape := ⟨3, ![2, 3, 256]⟩
abbrev S2x31x256 : Shape := ⟨3, ![2, 31, 256]⟩
abbrev S16384x512 : Shape := ⟨2, ![16384, 512]⟩
abbrev S16384x768 : Shape := ⟨2, ![16384, 768]⟩
abbrev S16384x256 : Shape := ⟨2, ![16384, 256]⟩
abbrev S1x256 : Shape := ⟨2, ![1, 256]⟩
abbrev S256 : Shape := ⟨1, ![256]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S_ : Shape := ⟨0, ![]⟩
abbrev S16384 : Shape := ⟨1, ![16384]⟩
abbrev S16384x1 : Shape := ⟨2, ![16384, 1]⟩
abbrev S128x128x4x64 : Shape := ⟨4, ![128, 128, 4, 64]⟩
abbrev S128x128 : Shape := ⟨2, ![128, 128]⟩
abbrev S4x128x64x128 : Shape := ⟨4, ![4, 128, 64, 128]⟩
abbrev S128x4 : Shape := ⟨2, ![128, 4]⟩
abbrev S128x4x1 : Shape := ⟨3, ![128, 4, 1]⟩
abbrev S1x128x4x1 : Shape := ⟨4, ![1, 128, 4, 1]⟩
abbrev S1x3x256 : Shape := ⟨3, ![1, 3, 256]⟩
abbrev S3x256 : Shape := ⟨2, ![3, 256]⟩
abbrev S16386x256 : Shape := ⟨2, ![16386, 256]⟩
abbrev S1x31x256 : Shape := ⟨3, ![1, 31, 256]⟩
abbrev S31x256 : Shape := ⟨2, ![31, 256]⟩
abbrev S30x256 : Shape := ⟨2, ![30, 256]⟩
abbrev S16414x256 : Shape := ⟨2, ![16414, 256]⟩
abbrev S16384x1024 : Shape := ⟨2, ![16384, 1024]⟩

abbrev nBuf : Space → Nat
  | .hbm => 353
  | .vmem => 0
  | .smem => 0
  | _ => 0

abbrev hbmTy0_0 (i : Nat) : BufTy := match i % 128 with
  | 0 => ⟨S16384x2560, .bf16⟩
  | 1 => ⟨S2x256, .f32⟩
  | 2 => ⟨S2x4x128x128, .f32⟩
  | 3 => ⟨S2x4x128, .f32⟩
  | 4 => ⟨S2x3x256, .f32⟩
  | 5 => ⟨S2x31x256, .f32⟩
  | 6 => ⟨S2x256, .f32⟩
  | 7 => ⟨S2x256, .f32⟩
  | 8 => ⟨S16384x2560, .f32⟩
  | 9 => ⟨S16384x512, .f32⟩
  | 10 => ⟨S16384x768, .f32⟩
  | 11 => ⟨S16384x768, .f32⟩
  | 12 => ⟨S16384x512, .f32⟩
  | 13 => ⟨S16384x256, .f32⟩
  | 14 => ⟨S16384x256, .f32⟩
  | 15 => ⟨S16384x256, .f32⟩
  | 16 => ⟨S16384x256, .f32⟩
  | 17 => ⟨S16384x256, .f32⟩
  | 18 => ⟨S1x256, .f32⟩
  | 19 => ⟨S256, .f32⟩
  | 20 => ⟨S1x4x128x128, .f32⟩
  | 21 => ⟨S4x128x128, .f32⟩
  | 22 => ⟨S1x4x128, .f32⟩
  | 23 => ⟨S4x128, .f32⟩
  | 24 => ⟨S16384x512, .f32⟩
  | 25 => ⟨S16384x512, .f32⟩
  | 26 => ⟨S_, .f32⟩
  | 27 => ⟨S16384x512, .f32⟩
  | 28 => ⟨S16384x512, .f32⟩
  | 29 => ⟨S16384x512, .f32⟩
  | 30 => ⟨S_, .f32⟩
  | 31 => ⟨S16384x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S16384x512, .f32⟩
  | 41 => ⟨S16384x256, .f32⟩
  | 42 => ⟨S16384x256, .f32⟩
  | 43 => ⟨S16384x256, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S_, .f32⟩
  | 51 => ⟨S16384x1, .f32⟩
  | 52 => ⟨S16384x1, .f32⟩
  | 53 => ⟨S16384x1, .f32⟩
  | 54 => ⟨S16384x256, .f32⟩
  | 55 => ⟨S16384x256, .f32⟩
  | 56 => ⟨S1x256, .f32⟩
  | 57 => ⟨S16384x256, .f32⟩
  | 58 => ⟨S16384x256, .f32⟩
  | 59 => ⟨S128x128x4x64, .f32⟩
  | 60 => ⟨S_, .i1⟩
  | 61 => ⟨S128x128, .i1⟩
  | 62 => ⟨S128x128, .i32⟩
  | 63 => ⟨S_, .i32⟩
  | 64 => ⟨S128x128, .i32⟩
  | 65 => ⟨S128x128, .i32⟩
  | 66 => ⟨S128x128, .i32⟩
  | 67 => ⟨S128x128, .i1⟩
  | 68 => ⟨S_, .i1⟩
  | 69 => ⟨S128x128, .i1⟩
  | 70 => ⟨S128x128, .i1⟩
  | 71 => ⟨S_, .f32⟩
  | 72 => ⟨S4x128x128, .f32⟩
  | 73 => ⟨S4x128x128, .i1⟩
  | 74 => ⟨S4x128x128, .f32⟩
  | 75 => ⟨S4x128x64x128, .f32⟩
  | 76 => ⟨S128x128x4x64, .f32⟩
  | 77 => ⟨S128x4, .f32⟩
  | 78 => ⟨S128x4x1, .f32⟩
  | 79 => ⟨S1x128x4x1, .f32⟩
  | 80 => ⟨S128x128x4x64, .f32⟩
  | 81 => ⟨S128x128x4x64, .f32⟩
  | 82 => ⟨S16384x256, .f32⟩
  | 83 => ⟨S16384x256, .f32⟩
  | 84 => ⟨S16384x256, .f32⟩
  | 85 => ⟨S1x3x256, .f32⟩
  | 86 => ⟨S3x256, .f32⟩
  | 87 => ⟨S_, .f32⟩
  | 88 => ⟨S2x256, .f32⟩
  | 89 => ⟨S16386x256, .f32⟩
  | 90 => ⟨S1x256, .f32⟩
  | 91 => ⟨S16384x256, .f32⟩
  | 92 => ⟨S16384x256, .f32⟩
  | 93 => ⟨S16384x256, .f32⟩
  | 94 => ⟨S1x256, .f32⟩
  | 95 => ⟨S16384x256, .f32⟩
  | 96 => ⟨S16384x256, .f32⟩
  | 97 => ⟨S16384x256, .f32⟩
  | 98 => ⟨S16384x256, .f32⟩
  | 99 => ⟨S1x256, .f32⟩
  | 100 => ⟨S16384x256, .f32⟩
  | 101 => ⟨S16384x256, .f32⟩
  | 102 => ⟨S16384x256, .f32⟩
  | 103 => ⟨S16384x256, .f32⟩
  | 104 => ⟨S16384x256, .f32⟩
  | 105 => ⟨S16384x256, .f32⟩
  | 106 => ⟨S16384x256, .f32⟩
  | 107 => ⟨S_, .f32⟩
  | 108 => ⟨S16384x256, .f32⟩
  | 109 => ⟨S16384x256, .f32⟩
  | 110 => ⟨S_, .f32⟩
  | 111 => ⟨S16384x256, .f32⟩
  | 112 => ⟨S16384x256, .f32⟩
  | 113 => ⟨S16384x256, .f32⟩
  | 114 => ⟨S1x31x256, .f32⟩
  | 115 => ⟨S31x256, .f32⟩
  | 116 => ⟨S_, .f32⟩
  | 117 => ⟨S30x256, .f32⟩
  | 118 => ⟨S16414x256, .f32⟩
  | 119 => ⟨S1x256, .f32⟩
  | 120 => ⟨S16384x256, .f32⟩
  | 121 => ⟨S16384x256, .f32⟩
  | 122 => ⟨S16384x256, .f32⟩
  | 123 => ⟨S1x256, .f32⟩
  | 124 => ⟨S16384x256, .f32⟩
  | 125 => ⟨S16384x256, .f32⟩
  | 126 => ⟨S16384x256, .f32⟩
  | 127 => ⟨S16384x256, .f32⟩
  | _ => ⟨S16384x2560, .bf16⟩

abbrev hbmTy0_1 (i : Nat) : BufTy := match i % 128 with
  | 0 => ⟨S1x256, .f32⟩
  | 1 => ⟨S16384x256, .f32⟩
  | 2 => ⟨S16384x256, .f32⟩
  | 3 => ⟨S16384x256, .f32⟩
  | 4 => ⟨S16384x256, .f32⟩
  | 5 => ⟨S1x256, .f32⟩
  | 6 => ⟨S16384x256, .f32⟩
  | 7 => ⟨S16384x256, .f32⟩
  | 8 => ⟨S16384x256, .f32⟩
  | 9 => ⟨S16384x256, .f32⟩
  | 10 => ⟨S1x256, .f32⟩
  | 11 => ⟨S16384x256, .f32⟩
  | 12 => ⟨S16384x256, .f32⟩
  | 13 => ⟨S16384x256, .f32⟩
  | 14 => ⟨S16384x256, .f32⟩
  | 15 => ⟨S1x256, .f32⟩
  | 16 => ⟨S16384x256, .f32⟩
  | 17 => ⟨S16384x256, .f32⟩
  | 18 => ⟨S16384x256, .f32⟩
  | 19 => ⟨S16384x256, .f32⟩
  | 20 => ⟨S1x256, .f32⟩
  | 21 => ⟨S16384x256, .f32⟩
  | 22 => ⟨S16384x256, .f32⟩
  | 23 => ⟨S16384x256, .f32⟩
  | 24 => ⟨S16384x256, .f32⟩
  | 25 => ⟨S1x256, .f32⟩
  | 26 => ⟨S16384x256, .f32⟩
  | 27 => ⟨S16384x256, .f32⟩
  | 28 => ⟨S16384x256, .f32⟩
  | 29 => ⟨S16384x256, .f32⟩
  | 30 => ⟨S1x256, .f32⟩
  | 31 => ⟨S16384x256, .f32⟩
  | 32 => ⟨S16384x256, .f32⟩
  | 33 => ⟨S16384x256, .f32⟩
  | 34 => ⟨S16384x256, .f32⟩
  | 35 => ⟨S1x256, .f32⟩
  | 36 => ⟨S16384x256, .f32⟩
  | 37 => ⟨S16384x256, .f32⟩
  | 38 => ⟨S16384x256, .f32⟩
  | 39 => ⟨S16384x256, .f32⟩
  | 40 => ⟨S1x256, .f32⟩
  | 41 => ⟨S16384x256, .f32⟩
  | 42 => ⟨S16384x256, .f32⟩
  | 43 => ⟨S16384x256, .f32⟩
  | 44 => ⟨S16384x256, .f32⟩
  | 45 => ⟨S1x256, .f32⟩
  | 46 => ⟨S16384x256, .f32⟩
  | 47 => ⟨S16384x256, .f32⟩
  | 48 => ⟨S16384x256, .f32⟩
  | 49 => ⟨S16384x256, .f32⟩
  | 50 => ⟨S1x256, .f32⟩
  | 51 => ⟨S16384x256, .f32⟩
  | 52 => ⟨S16384x256, .f32⟩
  | 53 => ⟨S16384x256, .f32⟩
  | 54 => ⟨S16384x256, .f32⟩
  | 55 => ⟨S1x256, .f32⟩
  | 56 => ⟨S16384x256, .f32⟩
  | 57 => ⟨S16384x256, .f32⟩
  | 58 => ⟨S16384x256, .f32⟩
  | 59 => ⟨S16384x256, .f32⟩
  | 60 => ⟨S1x256, .f32⟩
  | 61 => ⟨S16384x256, .f32⟩
  | 62 => ⟨S16384x256, .f32⟩
  | 63 => ⟨S16384x256, .f32⟩
  | 64 => ⟨S16384x256, .f32⟩
  | 65 => ⟨S1x256, .f32⟩
  | 66 => ⟨S16384x256, .f32⟩
  | 67 => ⟨S16384x256, .f32⟩
  | 68 => ⟨S16384x256, .f32⟩
  | 69 => ⟨S16384x256, .f32⟩
  | 70 => ⟨S1x256, .f32⟩
  | 71 => ⟨S16384x256, .f32⟩
  | 72 => ⟨S16384x256, .f32⟩
  | 73 => ⟨S16384x256, .f32⟩
  | 74 => ⟨S16384x256, .f32⟩
  | 75 => ⟨S1x256, .f32⟩
  | 76 => ⟨S16384x256, .f32⟩
  | 77 => ⟨S16384x256, .f32⟩
  | 78 => ⟨S16384x256, .f32⟩
  | 79 => ⟨S16384x256, .f32⟩
  | 80 => ⟨S1x256, .f32⟩
  | 81 => ⟨S16384x256, .f32⟩
  | 82 => ⟨S16384x256, .f32⟩
  | 83 => ⟨S16384x256, .f32⟩
  | 84 => ⟨S16384x256, .f32⟩
  | 85 => ⟨S1x256, .f32⟩
  | 86 => ⟨S16384x256, .f32⟩
  | 87 => ⟨S16384x256, .f32⟩
  | 88 => ⟨S16384x256, .f32⟩
  | 89 => ⟨S16384x256, .f32⟩
  | 90 => ⟨S1x256, .f32⟩
  | 91 => ⟨S16384x256, .f32⟩
  | 92 => ⟨S16384x256, .f32⟩
  | 93 => ⟨S16384x256, .f32⟩
  | 94 => ⟨S16384x256, .f32⟩
  | 95 => ⟨S1x256, .f32⟩
  | 96 => ⟨S16384x256, .f32⟩
  | 97 => ⟨S16384x256, .f32⟩
  | 98 => ⟨S16384x256, .f32⟩
  | 99 => ⟨S16384x256, .f32⟩
  | 100 => ⟨S1x256, .f32⟩
  | 101 => ⟨S16384x256, .f32⟩
  | 102 => ⟨S16384x256, .f32⟩
  | 103 => ⟨S16384x256, .f32⟩
  | 104 => ⟨S16384x256, .f32⟩
  | 105 => ⟨S1x256, .f32⟩
  | 106 => ⟨S16384x256, .f32⟩
  | 107 => ⟨S16384x256, .f32⟩
  | 108 => ⟨S16384x256, .f32⟩
  | 109 => ⟨S16384x256, .f32⟩
  | 110 => ⟨S1x256, .f32⟩
  | 111 => ⟨S16384x256, .f32⟩
  | 112 => ⟨S16384x256, .f32⟩
  | 113 => ⟨S16384x256, .f32⟩
  | 114 => ⟨S16384x256, .f32⟩
  | 115 => ⟨S1x256, .f32⟩
  | 116 => ⟨S16384x256, .f32⟩
  | 117 => ⟨S16384x256, .f32⟩
  | 118 => ⟨S16384x256, .f32⟩
  | 119 => ⟨S16384x256, .f32⟩
  | 120 => ⟨S1x256, .f32⟩
  | 121 => ⟨S16384x256, .f32⟩
  | 122 => ⟨S16384x256, .f32⟩
  | 123 => ⟨S16384x256, .f32⟩
  | 124 => ⟨S16384x256, .f32⟩
  | 125 => ⟨S1x256, .f32⟩
  | 126 => ⟨S16384x256, .f32⟩
  | 127 => ⟨S16384x256, .f32⟩
  | _ => ⟨S16384x2560, .bf16⟩

abbrev hbmTy0_2 (i : Nat) : BufTy := match i % 128 with
  | 0 => ⟨S16384x256, .f32⟩
  | 1 => ⟨S16384x256, .f32⟩
  | 2 => ⟨S1x256, .f32⟩
  | 3 => ⟨S16384x256, .f32⟩
  | 4 => ⟨S16384x256, .f32⟩
  | 5 => ⟨S16384x256, .f32⟩
  | 6 => ⟨S16384x256, .f32⟩
  | 7 => ⟨S1x256, .f32⟩
  | 8 => ⟨S16384x256, .f32⟩
  | 9 => ⟨S16384x256, .f32⟩
  | 10 => ⟨S16384x256, .f32⟩
  | 11 => ⟨S16384x256, .f32⟩
  | 12 => ⟨S1x256, .f32⟩
  | 13 => ⟨S16384x256, .f32⟩
  | 14 => ⟨S16384x256, .f32⟩
  | 15 => ⟨S16384x256, .f32⟩
  | 16 => ⟨S16384x256, .f32⟩
  | 17 => ⟨S1x256, .f32⟩
  | 18 => ⟨S256, .f32⟩
  | 19 => ⟨S1x256, .f32⟩
  | 20 => ⟨S256, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S16384x256, .f32⟩
  | 28 => ⟨S16384x256, .f32⟩
  | 29 => ⟨S16384x256, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1, .f32⟩
  | 40 => ⟨S16384x256, .f32⟩
  | 41 => ⟨S16384x256, .f32⟩
  | 42 => ⟨S1x256, .f32⟩
  | 43 => ⟨S16384x256, .f32⟩
  | 44 => ⟨S16384x256, .f32⟩
  | 45 => ⟨S1x256, .f32⟩
  | 46 => ⟨S16384x256, .f32⟩
  | 47 => ⟨S16384x256, .f32⟩
  | 48 => ⟨S16384x256, .f32⟩
  | 49 => ⟨S16384x256, .f32⟩
  | 50 => ⟨S_, .f32⟩
  | 51 => ⟨S16384x256, .f32⟩
  | 52 => ⟨S16384x256, .f32⟩
  | 53 => ⟨S_, .f32⟩
  | 54 => ⟨S16384x256, .f32⟩
  | 55 => ⟨S16384x256, .f32⟩
  | 56 => ⟨S16384x256, .f32⟩
  | 57 => ⟨S16384x256, .f32⟩
  | 58 => ⟨S_, .f32⟩
  | 59 => ⟨S16384, .f32⟩
  | 60 => ⟨S16384x1, .f32⟩
  | 61 => ⟨S_, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x1, .f32⟩
  | 68 => ⟨S16384x256, .f32⟩
  | 69 => ⟨S16384x256, .f32⟩
  | 70 => ⟨S16384x256, .f32⟩
  | 71 => ⟨S_, .f32⟩
  | 72 => ⟨S16384, .f32⟩
  | 73 => ⟨S16384x1, .f32⟩
  | 74 => ⟨S_, .f32⟩
  | 75 => ⟨S16384x1, .f32⟩
  | 76 => ⟨S16384x1, .f32⟩
  | 77 => ⟨S_, .f32⟩
  | 78 => ⟨S16384x1, .f32⟩
  | 79 => ⟨S16384x1, .f32⟩
  | 80 => ⟨S16384x1, .f32⟩
  | 81 => ⟨S16384x256, .f32⟩
  | 82 => ⟨S16384x256, .f32⟩
  | 83 => ⟨S16384x256, .f32⟩
  | 84 => ⟨S_, .f32⟩
  | 85 => ⟨S16384, .f32⟩
  | 86 => ⟨S16384x1, .f32⟩
  | 87 => ⟨S_, .f32⟩
  | 88 => ⟨S16384x1, .f32⟩
  | 89 => ⟨S16384x1, .f32⟩
  | 90 => ⟨S_, .f32⟩
  | 91 => ⟨S16384x1, .f32⟩
  | 92 => ⟨S16384x1, .f32⟩
  | 93 => ⟨S16384x1, .f32⟩
  | 94 => ⟨S16384x256, .f32⟩
  | 95 => ⟨S16384x256, .f32⟩
  | 96 => ⟨S16384x1024, .f32⟩
  | _ => ⟨S16384x2560, .bf16⟩

abbrev hbmTy (i : Nat) : BufTy := match i / 128 with
  | 0 => hbmTy0_0 i
  | 1 => hbmTy0_1 i
  | 2 => hbmTy0_2 i
  | _ => ⟨S16384x2560, .bf16⟩

abbrev bufTy : (tb : Table) → Fin (tcTables nBuf tb) → BufTy
  | .hbm, ⟨i, _⟩ => hbmTy i
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c : Ref sig .tc := ⟨.hbm, 60, rfl⟩
abbrev main_v45 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_0 : Ref sig .tc := ⟨.hbm, 68, rfl⟩
abbrev main_call0_v5 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_7 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_8 : Ref sig .tc := ⟨.hbm, 107, rfl⟩
abbrev main_v80 : Ref sig .tc := ⟨.hbm, 108, rfl⟩
abbrev main_v81 : Ref sig .tc := ⟨.hbm, 109, rfl⟩
abbrev main_cst_9 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_10 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_cst_11 : Ref sig .tc := ⟨.hbm, 277, rfl⟩
abbrev main_v247 : Ref sig .tc := ⟨.hbm, 278, rfl⟩
abbrev main_v248 : Ref sig .tc := ⟨.hbm, 279, rfl⟩
abbrev main_cst_12 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_cst_13 : Ref sig .tc := ⟨.hbm, 286, rfl⟩
abbrev main_v254 : Ref sig .tc := ⟨.hbm, 287, rfl⟩
abbrev main_v255 : Ref sig .tc := ⟨.hbm, 288, rfl⟩
abbrev main_cst_14 : Ref sig .tc := ⟨.hbm, 289, rfl⟩
abbrev main_v256 : Ref sig .tc := ⟨.hbm, 290, rfl⟩
abbrev main_v257 : Ref sig .tc := ⟨.hbm, 291, rfl⟩
abbrev main_cst_15 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_call2_v0 : Ref sig .tc := ⟨.hbm, 304, rfl⟩
abbrev main_call2_v1 : Ref sig .tc := ⟨.hbm, 305, rfl⟩
abbrev main_call2_cst : Ref sig .tc := ⟨.hbm, 306, rfl⟩
abbrev main_call2_v2 : Ref sig .tc := ⟨.hbm, 307, rfl⟩
abbrev main_call2_v3 : Ref sig .tc := ⟨.hbm, 308, rfl⟩
abbrev main_call2_cst_0 : Ref sig .tc := ⟨.hbm, 309, rfl⟩
abbrev main_call2_v4 : Ref sig .tc := ⟨.hbm, 310, rfl⟩
abbrev main_call2_v5 : Ref sig .tc := ⟨.hbm, 311, rfl⟩
abbrev main_v269 : Ref sig .tc := ⟨.hbm, 312, rfl⟩
abbrev main_v270 : Ref sig .tc := ⟨.hbm, 313, rfl⟩
abbrev main_cst_16 : Ref sig .tc := ⟨.hbm, 314, rfl⟩
abbrev main_v271 : Ref sig .tc := ⟨.hbm, 315, rfl⟩
abbrev main_v272 : Ref sig .tc := ⟨.hbm, 316, rfl⟩
abbrev main_cst_17 : Ref sig .tc := ⟨.hbm, 317, rfl⟩
abbrev main_v273 : Ref sig .tc := ⟨.hbm, 318, rfl⟩
abbrev main_v274 : Ref sig .tc := ⟨.hbm, 319, rfl⟩
abbrev main_cst_18 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_cst_19 : Ref sig .tc := ⟨.hbm, 327, rfl⟩
abbrev main_v281 : Ref sig .tc := ⟨.hbm, 328, rfl⟩
abbrev main_v282 : Ref sig .tc := ⟨.hbm, 329, rfl⟩
abbrev main_cst_20 : Ref sig .tc := ⟨.hbm, 330, rfl⟩
abbrev main_v283 : Ref sig .tc := ⟨.hbm, 331, rfl⟩
abbrev main_v284 : Ref sig .tc := ⟨.hbm, 332, rfl⟩
abbrev main_cst_21 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_cst_22 : Ref sig .tc := ⟨.hbm, 340, rfl⟩
abbrev main_v291 : Ref sig .tc := ⟨.hbm, 341, rfl⟩
abbrev main_v292 : Ref sig .tc := ⟨.hbm, 342, rfl⟩
abbrev main_cst_23 : Ref sig .tc := ⟨.hbm, 343, rfl⟩
abbrev main_v293 : Ref sig .tc := ⟨.hbm, 344, rfl⟩
abbrev main_v294 : Ref sig .tc := ⟨.hbm, 345, rfl⟩
abbrev main_cst_24 : Ref sig .tc := ⟨.hbm, 346, rfl⟩
abbrev main_v295 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩

abbrev nD : Nat := 1
abbrev τ : Topo := Topo.v7x

variable {F : FTy → Type} [FloatOps F]
-- ==== Kernel12.lean ====
abbrev S1 : Shape := ⟨1, ![1]⟩
abbrev S80x1024 : Shape := ⟨2, ![80, 1024]⟩
abbrev S1x160x1024 : Shape := ⟨3, ![1, 160, 1024]⟩
abbrev S1x80x1024 : Shape := ⟨3, ![1, 80, 1024]⟩

abbrev nBuf : Space → Nat
  | .hbm => 9
  | .vmem => 16
  | .smem => 1
  | _ => 0

abbrev bufTy : (tb : Table) → Fin (tcTables nBuf tb) → BufTy
  | .hbm, ⟨0, _⟩ => ⟨S80x1024, .f32⟩
  | .hbm, ⟨1, _⟩ => ⟨S80x1024, .f32⟩
  | .hbm, ⟨2, _⟩ => ⟨S1x160x1024, .f32⟩
  | .hbm, ⟨3, _⟩ => ⟨S1x160x1024, .f32⟩
  | .hbm, ⟨4, _⟩ => ⟨S1x160x1024, .f32⟩
  | .hbm, ⟨5, _⟩ => ⟨S1x160x1024, .f32⟩
  | .hbm, ⟨6, _⟩ => ⟨S1x160x1024, .f32⟩
  | .hbm, ⟨7, _⟩ => ⟨S1x160x1024, .f32⟩
  | .hbm, ⟨8, _⟩ => ⟨S1x160x1024, .f32⟩
  | .local _ .vmem, ⟨0, _⟩ => ⟨S80x1024, .f32⟩
  | .local _ .vmem, ⟨1, _⟩ => ⟨S80x1024, .f32⟩
  | .local _ .vmem, ⟨2, _⟩ => ⟨S1x80x1024, .f32⟩
  | .local _ .vmem, ⟨3, _⟩ => ⟨S1x80x1024, .f32⟩
  | .local _ .vmem, ⟨4, _⟩ => ⟨S1x80x1024, .f32⟩
  | .local _ .vmem, ⟨5, _⟩ => ⟨S1x80x1024, .f32⟩
  | .local _ .vmem, ⟨6, _⟩ => ⟨S1x80x1024, .f32⟩
  | .local _ .vmem, ⟨7, _⟩ => ⟨S1x80x1024, .f32⟩
  | .local _ .vmem, ⟨8, _⟩ => ⟨S1x80x1024, .f32⟩
  | .local _ .vmem, ⟨9, _⟩ => ⟨S1x80x1024, .f32⟩
  | .local _ .vmem, ⟨10, _⟩ => ⟨S1x80x1024, .f32⟩
  | .local _ .vmem, ⟨11, _⟩ => ⟨S1x80x1024, .f32⟩
  | .local _ .vmem, ⟨12, _⟩ => ⟨S1x80x1024, .f32⟩
  | .local _ .vmem, ⟨13, _⟩ => ⟨S1x80x1024, .f32⟩
  | .local _ .vmem, ⟨14, _⟩ => ⟨S1x80x1024, .f32⟩
  | .local _ .vmem, ⟨15, _⟩ => ⟨S1x80x1024, .f32⟩
  | .local _ .smem, ⟨0, _⟩ => ⟨S1, .i32⟩
  | _, _ => ⟨S80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x80x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x80x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x80x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x80x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x80x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x80x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x80x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S1 : Shape := ⟨1, ![1]⟩
abbrev S80x1024 : Shape := ⟨2, ![80, 1024]⟩
abbrev S1x160x1024 : Shape := ⟨3, ![1, 160, 1024]⟩
abbrev S_ : Shape := ⟨0, ![]⟩
abbrev S160x1024 : Shape := ⟨2, ![160, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S80x1024, .f32⟩
  | .hbm, ⟨2, _⟩ => ⟨S80x1024, .f32⟩
  | .hbm, ⟨3, _⟩ => ⟨S1x160x1024, .f32⟩
  | .hbm, ⟨4, _⟩ => ⟨S1x160x1024, .f32⟩
  | .hbm, ⟨5, _⟩ => ⟨S1x160x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S80x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S80x1024, .f32⟩
  | .hbm, ⟨14, _⟩ => ⟨S160x1024, .f32⟩
  | .hbm, ⟨15, _⟩ => ⟨S1x160x1024, .f32⟩
  | .hbm, ⟨16, _⟩ => ⟨S_, .f32⟩
  | .hbm, ⟨17, _⟩ => ⟨S1x160x1024, .f32⟩
  | .hbm, ⟨18, _⟩ => ⟨S1x160x1024, .f32⟩
  | .hbm, ⟨19, _⟩ => ⟨S_, .f32⟩
  | .hbm, ⟨20, _⟩ => ⟨S1x160x1024, .f32⟩
  | .hbm, ⟨21, _⟩ => ⟨S1x160x1024, .f32⟩
  | .hbm, ⟨22, _⟩ => ⟨S1x160x1024, .f32⟩
  | .hbm, ⟨23, _⟩ => ⟨S_, .f32⟩
  | .hbm, ⟨24, _⟩ => ⟨S1x160x1024, .f32⟩
  | .hbm, ⟨25, _⟩ => ⟨S1x160x1024, .f32⟩
  | .hbm, ⟨26, _⟩ => ⟨S1x160x1024, .f32⟩
  | .hbm, ⟨27, _⟩ => ⟨S_, .f32⟩
  | .hbm, ⟨28, _⟩ => ⟨S1x160x1024, .f32⟩
  | .hbm, ⟨29, _⟩ => ⟨S1x160x1024, .f32⟩
  | .hbm, ⟨30, _⟩ => ⟨S1x160x1024, .f32⟩
  | .hbm, ⟨31, _⟩ => ⟨S_, .f32⟩
  | .hbm, ⟨32, _⟩ => ⟨S1x160x1024, .f32⟩
  | .hbm, ⟨33, _⟩ => ⟨S1x160x1024, .f32⟩
  | .hbm, ⟨34, _⟩ => ⟨S_, .f32⟩
  | .hbm, ⟨35, _⟩ => ⟨S1x160x1024, .f32⟩
  | .hbm, ⟨36, _⟩ => ⟨S1x160x1024, .f32⟩
  | .hbm, ⟨37, _⟩ => ⟨S1x160x1024, .f32⟩
  | .hbm, ⟨38, _⟩ => ⟨S_, .f32⟩
  | .hbm, ⟨39, _⟩ => ⟨S1x160x1024, .f32⟩
  | .hbm, ⟨40, _⟩ => ⟨S1x160x1024, .f32⟩
  | .hbm, ⟨41, _⟩ => ⟨S1x160x1024, .f32⟩
  | .hbm, ⟨42, _⟩ => ⟨S_, .f32⟩
  | .hbm, ⟨43, _⟩ => ⟨S1x160x1024, .f32⟩
  | .hbm, ⟨44, _⟩ => ⟨S1x160x1024, .f32⟩
  | .hbm, ⟨45, _⟩ => ⟨S1x160x1024, .f32⟩
  | .hbm, ⟨46, _⟩ => ⟨S_, .f32⟩
  | .hbm, ⟨47, _⟩ => ⟨S1x160x1024, .f32⟩
  | .hbm, ⟨48, _⟩ => ⟨S1x160x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel13.lean ====
abbrev S1 : Shape := ⟨1, ![1]⟩
abbrev S512x1024 : Shape := ⟨2, ![512, 1024]⟩
abbrev S2x1024x1024 : Shape := ⟨3, ![2, 1024, 1024]⟩
abbrev S256x1024 : Shape := ⟨2, ![256, 1024]⟩
abbrev S1x256x1024 : Shape := ⟨3, ![1, 256, 1024]⟩

abbrev nBuf : Space → Nat
  | .hbm => 13
  | .vmem => 18
  | .smem => 1
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S2x1024x1024, .f32⟩
  | .hbm, ⟨12, _⟩ => ⟨S2x1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S1 : Shape := ⟨1, ![1]⟩
abbrev S512x1024 : Shape := ⟨2, ![512, 1024]⟩
abbrev S2x1024x1024 : Shape := ⟨3, ![2, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 78
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x1024, .f32⟩
  | .hbm, ⟨2, _⟩ => ⟨S512x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1024, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S512x1024, .f32⟩
  | .hbm, ⟨18, _⟩ => ⟨S1024x1024, .f32⟩
  | .hbm, ⟨19, _⟩ => ⟨S1x1024x1024, .f32⟩
  | .hbm, ⟨20, _⟩ => ⟨S1024x1024, .f32⟩
  | .hbm, ⟨21, _⟩ => ⟨S1x1024x1024, .f32⟩
  | .hbm, ⟨22, _⟩ => ⟨S1024x1024, .f32⟩
  | .hbm, ⟨23, _⟩ => ⟨S1x1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S1024x1024, .f32⟩
  | .hbm, ⟨53, _⟩ => ⟨S1024x1024, .f32⟩
  | .hbm, ⟨54, _⟩ => ⟨S1024x1024, .f32⟩
  | .hbm, ⟨55, _⟩ => ⟨S_, .f32⟩
  | .hbm, ⟨56, _⟩ => ⟨S1024x1024, .f32⟩
  | .hbm, ⟨57, _⟩ => ⟨S1024x1024, .f32⟩
  | .hbm, ⟨58, _⟩ => ⟨S1x1024x1024, .f32⟩
  | .hbm, ⟨59, _⟩ => ⟨S1024x1024, .f32⟩
  | .hbm, ⟨60, _⟩ => ⟨S1x1024x1024, .f32⟩
  | .hbm, ⟨61, _⟩ => ⟨S1x1024x1024, .f32⟩
  | .hbm, ⟨62, _⟩ => ⟨S2x1024x1024, .f32⟩
  | .hbm, ⟨63, _⟩ => ⟨S1x1024x1024, .f32⟩
  | .hbm, ⟨64, _⟩ => ⟨S1024x1024, .f32⟩
  | .hbm, ⟨65, _⟩ => ⟨S1x1024x1024, .f32⟩
  | .hbm, ⟨66, _⟩ => ⟨S1x1024x1024, .f32⟩
  | .hbm, ⟨67, _⟩ => ⟨S2x1024x1024, .f32⟩
  | .hbm, ⟨68, _⟩ => ⟨S1x1024x1024, .f32⟩
  | .hbm, ⟨69, _⟩ => ⟨S1024x1024, .f32⟩
  | .hbm, ⟨70, _⟩ => ⟨S1x1024x1024, .f32⟩
  | .hbm, ⟨71, _⟩ => ⟨S1x1024x1024, .f32⟩
  | .hbm, ⟨72, _⟩ => ⟨S2x1024x1024, .f32⟩
  | .hbm, ⟨73, _⟩ => ⟨S1x1024x1024, .f32⟩
  | .hbm, ⟨74, _⟩ => ⟨S1024x1024, .f32⟩
  | .hbm, ⟨75, _⟩ => ⟨S1x1024x1024, .f32⟩
  | .hbm, ⟨76, _⟩ => ⟨S1x1024x1024, .f32⟩
  | .hbm, ⟨77, _⟩ => ⟨S2x1024x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel14.lean ====
abbrev S1 : Shape := ⟨1, ![1]⟩
abbrev S512x640 : Shape := ⟨2, ![512, 640]⟩
abbrev S2x1024x640 : Shape := ⟨3, ![2, 1024, 640]⟩
abbrev S256x640 : Shape := ⟨2, ![256, 640]⟩
abbrev S1x256x640 : Shape := ⟨3, ![1, 256, 640]⟩

abbrev nBuf : Space → Nat
  | .hbm => 13
  | .vmem => 18
  | .smem => 1
  | _ => 0

abbrev bufTy : (tb : Table) → Fin (tcTables nBuf tb) → BufTy
  | .hbm, ⟨0, _⟩ => ⟨S512x640, .f32⟩
  | .hbm, ⟨1, _⟩ => ⟨S512x640, .f32⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S2x1024x640, .f32⟩
  | .hbm, ⟨6, _⟩ => ⟨S2x1024x640, .f32⟩
  | .hbm, ⟨7, _⟩ => ⟨S2x1024x640, .f32⟩
  | .hbm, ⟨8, _⟩ => ⟨S2x1024x640, .f32⟩
  | .hbm, ⟨9, _⟩ => ⟨S2x1024x640, .f32⟩
  | .hbm, ⟨10, _⟩ => ⟨S2x1024x640, .f32⟩
  | .hbm, ⟨11, _⟩ => ⟨S2x1024x640, .f32⟩
  | .hbm, ⟨12, _⟩ => ⟨S2x1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S1x256x640, .f32⟩
  | .local _ .vmem, ⟨5, _⟩ => ⟨S1x256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | .local _ .vmem, ⟨16, _⟩ => ⟨S1x256x640, .f32⟩
  | .local _ .vmem, ⟨17, _⟩ => ⟨S1x256x640, .f32⟩
  | .local _ .smem, ⟨0, _⟩ => ⟨S1, .i32⟩
  | _, _ => ⟨S512x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S1 : Shape := ⟨1, ![1]⟩
abbrev S512x640 : Shape := ⟨2, ![512, 640]⟩
abbrev S2x1024x640 : Shape := ⟨3, ![2, 1024, 640]⟩
abbrev S_ : Shape := ⟨0, ![]⟩
abbrev S1024x640 : Shape := ⟨2, ![1024, 640]⟩
abbrev S1x1024x640 : Shape := ⟨3, ![1, 1024, 640]⟩

abbrev nBuf : Space → Nat
  | .hbm => 78
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x640, .f32⟩
  | .hbm, ⟨2, _⟩ => ⟨S512x640, .f32⟩
  | .hbm, ⟨3, _⟩ => ⟨S2x1024x640, .f32⟩
  | .hbm, ⟨4, _⟩ => ⟨S2x1024x640, .f32⟩
  | .hbm, ⟨5, _⟩ => ⟨S2x1024x640, .f32⟩
  | .hbm, ⟨6, _⟩ => ⟨S2x1024x640, .f32⟩
  | .hbm, ⟨7, _⟩ => ⟨S2x1024x640, .f32⟩
  | .hbm, ⟨8, _⟩ => ⟨S2x1024x640, .f32⟩
  | .hbm, ⟨9, _⟩ => ⟨S2x1024x640, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x640, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S512x640, .f32⟩
  | .hbm, ⟨18, _⟩ => ⟨S1024x640, .f32⟩
  | .hbm, ⟨19, _⟩ => ⟨S1x1024x640, .f32⟩
  | .hbm, ⟨20, _⟩ => ⟨S1024x640, .f32⟩
  | .hbm, ⟨21, _⟩ => ⟨S1x1024x640, .f32⟩
  | .hbm, ⟨22, _⟩ => ⟨S1024x640, .f32⟩
  | .hbm, ⟨23, _⟩ => ⟨S1x1024x640, .f32⟩
  | .hbm, ⟨24, _⟩ => ⟨S1024x640, .f32⟩
  | .hbm, ⟨25, _⟩ => ⟨S_, .f32⟩
  | .hbm, ⟨26, _⟩ => ⟨S1024x640, .f32⟩
  | .hbm, ⟨27, _⟩ => ⟨S1024x640, .f32⟩
  | .hbm, ⟨28, _⟩ => ⟨S_, .f32⟩
  | .hbm, ⟨29, _⟩ => ⟨S1024x640, .f32⟩
  | .hbm, ⟨30, _⟩ => ⟨S1024x640, .f32⟩
  | .hbm, ⟨31, _⟩ => ⟨S1024x640, .f32⟩
  | .hbm, ⟨32, _⟩ => ⟨S_, .f32⟩
  | .hbm, ⟨33, _⟩ => ⟨S1024x640, .f32⟩
  | .hbm, ⟨34, _⟩ => ⟨S1024x640, .f32⟩
  | .hbm, ⟨35, _⟩ => ⟨S1024x640, .f32⟩
  | .hbm, ⟨36, _⟩ => ⟨S_, .f32⟩
  | .hbm, ⟨37, _⟩ => ⟨S1024x640, .f32⟩
  | .hbm, ⟨38, _⟩ => ⟨S1024x640, .f32⟩
  | .hbm, ⟨39, _⟩ => ⟨S1024x640, .f32⟩
  | .hbm, ⟨40, _⟩ => ⟨S_, .f32⟩
  | .hbm, ⟨41, _⟩ => ⟨S1024x640, .f32⟩
  | .hbm, ⟨42, _⟩ => ⟨S1024x640, .f32⟩
  | .hbm, ⟨43, _⟩ => ⟨S_, .f32⟩
  | .hbm, ⟨44, _⟩ => ⟨S1024x640, .f32⟩
  | .hbm, ⟨45, _⟩ => ⟨S1024x640, .f32⟩
  | .hbm, ⟨46, _⟩ => ⟨S1024x640, .f32⟩
  | .hbm, ⟨47, _⟩ => ⟨S_, .f32⟩
  | .hbm, ⟨48, _⟩ => ⟨S1024x640, .f32⟩
  | .hbm, ⟨49, _⟩ => ⟨S1024x640, .f32⟩
  | .hbm, ⟨50, _⟩ => ⟨S1024x640, .f32⟩
  | .hbm, ⟨51, _⟩ => ⟨S_, .f32⟩
  | .hbm, ⟨52, _⟩ => ⟨S1024x640, .f32⟩
  | .hbm, ⟨53, _⟩ => ⟨S1024x640, .f32⟩
  | .hbm, ⟨54, _⟩ => ⟨S1024x640, .f32⟩
  | .hbm, ⟨55, _⟩ => ⟨S_, .f32⟩
  | .hbm, ⟨56, _⟩ => ⟨S1024x640, .f32⟩
  | .hbm, ⟨57, _⟩ => ⟨S1024x640, .f32⟩
  | .hbm, ⟨58, _⟩ => ⟨S1x1024x640, .f32⟩
  | .hbm, ⟨59, _⟩ => ⟨S1024x640, .f32⟩
  | .hbm, ⟨60, _⟩ => ⟨S1x1024x640, .f32⟩
  | .hbm, ⟨61, _⟩ => ⟨S1x1024x640, .f32⟩
  | .hbm, ⟨62, _⟩ => ⟨S2x1024x640, .f32⟩
  | .hbm, ⟨63, _⟩ => ⟨S1x1024x640, .f32⟩
  | .hbm, ⟨64, _⟩ => ⟨S1024x640, .f32⟩
  | .hbm, ⟨65, _⟩ => ⟨S1x1024x640, .f32⟩
  | .hbm, ⟨66, _⟩ => ⟨S1x1024x640, .f32⟩
  | .hbm, ⟨67, _⟩ => ⟨S2x1024x640, .f32⟩
  | .hbm, ⟨68, _⟩ => ⟨S1x1024x640, .f32⟩
  | .hbm, ⟨69, _⟩ => ⟨S1024x640, .f32⟩
  | .hbm, ⟨70, _⟩ => ⟨S1x1024x640, .f32⟩
  | .hbm, ⟨71, _⟩ => ⟨S1x1024x640, .f32⟩
  | .hbm, ⟨72, _⟩ => ⟨S2x1024x640, .f32⟩
  | .hbm, ⟨73, _⟩ => ⟨S1x1024x640, .f32⟩
  | .hbm, ⟨74, _⟩ => ⟨S1024x640, .f32⟩
  | .hbm, ⟨75, _⟩ => ⟨S1x1024x640, .f32⟩
  | .hbm, ⟨76, _⟩ => ⟨S1x1024x640, .f32⟩
  | .hbm, ⟨77, _⟩ => ⟨S2x1024x640, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel15.lean ====
abbrev S16384x1024 : Shape := ⟨2, ![16384, 1024]⟩
abbrev S16384x4096 : Shape := ⟨2, ![16384, 4096]⟩
abbrev S4x2x1024x1024 : Shape := ⟨4, ![4, 2, 1024, 1024]⟩
abbrev S1024x1024 : Shape := ⟨2, ![1024, 1024]⟩
abbrev S1x1x1024x1024 : Shape := ⟨4, ![1, 1, 1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S4x2x1024x1024, .bf16⟩
  | .hbm, ⟨3, _⟩ => ⟨S4x2x1024x1024, .bf16⟩
  | .hbm, ⟨4, _⟩ => ⟨S16384x4096, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_16 : BitVec 32 := 0#32
  let v18 : BitVec 1 := Scalar.cmpi .ne v17 c0_i32_16
  v18

def k0_cond2 (i : grid0.Coords) : BitVec 1 :=
  let arg1 : BitVec 32 := BitVec.ofNat 32 (i 1).val
  let c0_i32_17 : BitVec 32 := 0#32
  let v19 : BitVec 1 := Scalar.cmpi .ne arg1 c0_i32_17
  let v20 : BitVec 32 := Scalar.extui v19
  let c0_i32_18 : BitVec 32 := 0#32
  let v21 : BitVec 1 := Scalar.cmpi .ne v20 c0_i32_18
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference15Ideal.lean ====
abbrev S16384x1024 : Shape := ⟨2, ![16384, 1024]⟩
abbrev S16384x4096 : Shape := ⟨2, ![16384, 4096]⟩
abbrev S4x2x1024x1024 : Shape := ⟨4, ![4, 2, 1024, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S4x2x1024x1024, .bf16⟩
  | .hbm, ⟨3, _⟩ => ⟨S4x2x1024x1024, .bf16⟩
  | .hbm, ⟨4, _⟩ => ⟨S4x1x1024x1024, .bf16⟩
  | .hbm, ⟨5, _⟩ => ⟨S4x1024x1024, .bf16⟩
  | .hbm, ⟨6, _⟩ => ⟨S1024x4x1024, .bf16⟩
  | .hbm, ⟨7, _⟩ => ⟨S1024x4096, .bf16⟩
  | .hbm, ⟨8, _⟩ => ⟨S1024x4096, .f32⟩
  | .hbm, ⟨9, _⟩ => ⟨S4x1x1024x1024, .bf16⟩
  | .hbm, ⟨10, _⟩ => ⟨S4x1024x1024, .bf16⟩
  | .hbm, ⟨11, _⟩ => ⟨S4096x1024, .bf16⟩
  | .hbm, ⟨12, _⟩ => ⟨S4096x1024, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .i1⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .bf16⟩
  | .hbm, ⟨33, _⟩ => ⟨S_, .f32⟩
  | .hbm, ⟨34, _⟩ => ⟨S16384x1024, .f32⟩
  | .hbm, ⟨35, _⟩ => ⟨S16384x4096, .f32⟩
  | .hbm, ⟨36, _⟩ => ⟨S16384x4096, .f32⟩
  | .hbm, ⟨37, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel16.lean ====
abbrev S16384x1024 : Shape := ⟨2, ![16384, 1024]⟩
abbrev S2x1024 : Shape := ⟨2, ![2, 1024]⟩
abbrev S4x2x1024x1024 : Shape := ⟨4, ![4, 2, 1024, 1024]⟩
abbrev S1x1024 : Shape := ⟨2, ![1, 1024]⟩
abbrev S1024 : Shape := ⟨1, ![1024]⟩
abbrev S16384x4096 : Shape := ⟨2, ![16384, 4096]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S4x2x1024x1024, .bf16⟩
  | .hbm, ⟨3, _⟩ => ⟨S4x2x1024x1024, .bf16⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S16384x1024, .f32⟩
  | .hbm, ⟨8, _⟩ => ⟨S16384x4096, .bf16⟩
  | .hbm, ⟨9, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference16Ideal.lean ====
abbrev S16384x1024 : Shape := ⟨2, ![16384, 1024]⟩
abbrev S2x1024 : Shape := ⟨2, ![2, 1024]⟩
abbrev S4x2x1024x1024 : Shape := ⟨4, ![4, 2, 1024, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S4x2x1024x1024, .bf16⟩
  | .hbm, ⟨3, _⟩ => ⟨S4x2x1024x1024, .bf16⟩
  | .hbm, ⟨4, _⟩ => ⟨S4x1x1024x1024, .bf16⟩
  | .hbm, ⟨5, _⟩ => ⟨S4x1024x1024, .bf16⟩
  | .hbm, ⟨6, _⟩ => ⟨S1024x4x1024, .bf16⟩
  | .hbm, ⟨7, _⟩ => ⟨S1024x4096, .bf16⟩
  | .hbm, ⟨8, _⟩ => ⟨S1024x4096, .f32⟩
  | .hbm, ⟨9, _⟩ => ⟨S4x1x1024x1024, .bf16⟩
  | .hbm, ⟨10, _⟩ => ⟨S4x1024x1024, .bf16⟩
  | .hbm, ⟨11, _⟩ => ⟨S4096x1024, .bf16⟩
  | .hbm, ⟨12, _⟩ => ⟨S4096x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S16384x1024, .f32⟩
  | .hbm, ⟨37, _⟩ => ⟨S16384x1024, .f32⟩
  | .hbm, ⟨38, _⟩ => ⟨S16384x4096, .bf16⟩
  | .hbm, ⟨39, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_cst : Ref sig .tc := ⟨.hbm, 32, rfl⟩
abbrev main_call0_v0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.Conv.lean ====
module

public import Idealize.ShloMosaic.Lib.Pipeline.ValueKit

@[expose] public section

set_option maxRecDepth 16384

noncomputable section

namespace Cert.Proof

open Idealize.ShloMosaic

/-- The arrays of extended reals by their extents. -/
abbrev Ar1 (m : Nat) := (⟨1, ![m]⟩ : Shape).Idx → EReal
abbrev Ar2 (m n : Nat) := (⟨2, ![m, n]⟩ : Shape).Idx → EReal
abbrev Ar3 (l m n : Nat) := (⟨3, ![l, m, n]⟩ : Shape).Idx → EReal
abbrev Ar4 (k l m n : Nat) := (⟨4, ![k, l, m, n]⟩ : Shape).Idx → EReal

lemma mulc {a a' b b' : EReal} (h : a = a') (h' : b = b') : a * b = a' * b' := by rw [h, h']
lemma addc {a a' b b' : EReal} (h : a = a') (h' : b = b') : a + b = a' + b' := by rw [h, h']

/-- The entry of a matrix at a row and a column given by numbers, zero outside the matrix. -/
def at2 {m n : Nat} (x : (⟨2, ![m, n]⟩ : Shape).Idx → EReal) (r c : Nat) : EReal :=
  if h : r < m ∧ c < n then x (ix2 ⟨r, h.1⟩ ⟨c, h.2⟩) else 0

lemma at2_of_lt {m n : Nat} (x : (⟨2, ![m, n]⟩ : Shape).Idx → EReal) {r c : Nat} (hr : r < m) (hc : c < n) :
    at2 x r c = x (ix2 ⟨r, hr⟩ ⟨c, hc⟩) := dif_pos ⟨hr, hc⟩

lemma at2_of_le {m n : Nat} (x : (⟨2, ![m, n]⟩ : Shape).Idx → EReal) {r c : Nat} (hr : m ≤ r) :
    at2 x r c = 0 := dif_neg fun h => absurd h.1 (by omega)

/-- The entry of a rank-three array at three numbers, zero outside the array. -/
def at3 {l m n : Nat} (x : (⟨3, ![l, m, n]⟩ : Shape).Idx → EReal) (a r c : Nat) : EReal :=
  if h : a < l ∧ r < m ∧ c < n then x (ix3 ⟨a, h.1⟩ ⟨r, h.2.1⟩ ⟨c, h.2.2⟩) else 0

lemma at3_of_lt {l m n : Nat} (x : (⟨3, ![l, m, n]⟩ : Shape).Idx → EReal) {a r c : Nat} (ha : a < l) (hr : r < m) (hc : c < n) :
    at3 x a r c = x (ix3 ⟨a, ha⟩ ⟨r, hr⟩ ⟨c, hc⟩) := dif_pos ⟨ha, hr, hc⟩

/-- The transposed causal convolution of `n` taps at row `s`: tap `k` weighs the cotangent `n - 1 - k` rows later. -/
def convT (n : Nat) (w d : Nat → EReal) (s : Nat) : EReal :=
  ∑ k ∈ Finset.range n, w k * d (n - 1 - k + s)

lemma at2_ix {m n : Nat} (x : (⟨2, ![m, n]⟩ : Shape).Idx → EReal) (a : Fin m) (b : Fin n) : x (ix2 a b) = at2 x a.val b.val :=
  (at2_of_lt x a.isLt b.isLt).symm

lemma at3_ix {l m n : Nat} (x : (⟨3, ![l, m, n]⟩ : Shape).Idx → EReal) (a : Fin l) (b : Fin m) (c : Fin n) :
    x (ix3 a b c) = at3 x a.val b.val c.val := (at3_of_lt x a.isLt b.isLt c.isLt).symm

/-- The gradient of the packed columns at row `s` and column `l`: the columns of the first two heads' branch as they
    come, the two factors of the short gated convolution (`db` its transposed convolution), the three heads' arrays back
    in columns, and the two halves of the gated linear unit (`dd` the long transposed convolution). -/
def dzAt (z dza db dd : Nat → Nat → EReal) (q k v : Nat → Nat → Nat → EReal) (s l : Nat) : EReal :=
  if l < 768 then dza s l
  else if l < 1024 then db s (l - 768) * z s (1024 + (l - 768))
  else if l < 1280 then db s (l - 1024) * z s (768 + (l - 1024))
  else if l < 1536 then q ((l - 1280) / 64) ((l - 1280) % 64) s
  else if l < 1792 then k ((l - 1536) / 64) ((l - 1536) % 64) s
  else if l < 2048 then v ((l - 1792) / 64) ((l - 1792) % 64) s
  else if l < 2304 then dd s (l - 2048) * Ideal.logistic (z s (2304 + (l - 2048)))
  else dd s (l - 2304) * z s (2048 + (l - 2304)) * Ideal.logistic (z s (2304 + (l - 2304)))
    * (1 - Ideal.logistic (z s (2304 + (l - 2304))))

/-- The gradient of the packed columns as an array, from the arrays it is computed from. -/
def dzOf (x0 : (⟨2, ![16384, 2560]⟩ : Shape).Idx → EReal) (x1 : (⟨2, ![16384, 768]⟩ : Shape).Idx → EReal)
    (x2 x3 : (⟨2, ![16384, 256]⟩ : Shape).Idx → EReal) (x4 x5 x6 : (⟨3, ![4, 64, 16384]⟩ : Shape).Idx → EReal)
    (x7 : (⟨2, ![3, 256]⟩ : Shape).Idx → EReal) (x8 : (⟨2, ![31, 256]⟩ : Shape).Idx → EReal) : (⟨2, ![16384, 2560]⟩ : Shape).Idx → EReal :=
  fun i => dzAt (at2 x0) (at2 x1) (fun r l => convT 3 (fun k => at2 x7 k l) (fun j => at2 x2 j l) r)
    (fun r l => convT 31 (fun k => at2 x8 k l) (fun j => at2 x3 j l) r) (at3 x4) (at3 x5) (at3 x6) (i 0).val (i 1).val

lemma dzOf_congr {x0 x0' x1 x1' x2 x2' x3 x3' x4 x4' x5 x5' x6 x6' x7 x7' x8 x8'} (h0 : x0 = x0') (h1 : x1 = x1') (h2 : x2 = x2')
    (h3 : x3 = x3') (h4 : x4 = x4') (h5 : x5 = x5') (h6 : x6 = x6') (h7 : x7 = x7') (h8 : x8 = x8') :
    dzOf x0 x1 x2 x3 x4 x5 x6 x7 x8 = dzOf x0' x1' x2' x3' x4' x5' x6' x7' x8' := by
  subst h0 h1 h2 h3 h4 h5 h6 h7 h8
  rfl

/-- The newest piece read at an index it holds. -/
lemma canon_hit {Val : EltTy → Type} {S : Shape} {e : EltTy} [∀ e, Nonempty (Val e)] {off size : Fin S.rank → Nat}
    (inb : ∀ a, off a + size a ≤ S.size a) (w : (Rect.unit off size inb).shape.Idx → Val e) (L : List (View.Piece Val S e)) (y : S.Idx)
    (x : (Rect.unit off size inb).shape.Idx) (h : ∀ a, (y a).val = off a + (x a).val) :
    View.canon (⟨Rect.unit off size inb, w⟩ :: L) y = w x := by
  have hy : y = (Rect.unit off size inb).emb x := funext fun a => Fin.ext (by
    rw [h a]; show _ = off a + 1 * (x a).val; omega)
  rw [hy]; exact View.canon_cons_emb _ _ _ _

/-- The newest piece passed over at an index outside it. -/
lemma canon_miss {Val : EltTy → Type} {S : Shape} {e : EltTy} [∀ e, Nonempty (Val e)] {off size : Fin S.rank → Nat}
    (inb : ∀ a, off a + size a ≤ S.size a) (w : (Rect.unit off size inb).shape.Idx → Val e) (L : List (View.Piece Val S e)) (y : S.Idx)
    (a : Fin S.rank) (h : (y a).val < off a ∨ off a + size a ≤ (y a).val) :
    View.canon (⟨Rect.unit off size inb, w⟩ :: L) y = View.canon L y :=
  View.canon_cons_of_not_mem _ _ (by
    intro hm
    obtain ⟨x, hx⟩ := (Rect.unit off size inb).exists_idx_of_mem hm
    have h1 : (y a).val = off a + 1 * (x a).val := by rw [← hx]; rfl
    have h2 : (x a).val < size a := (x a).isLt
    omega)

end Cert.Proof
-- ==== Proof.Block.lean ====
module

public import proofs.«01_k».proof.Proof.Gen.KernelIdeal.Value
public import proofs.«01_k».proof.Proof.Conv

@[expose] public section

set_option maxRecDepth 16384

noncomputable section

namespace Cert.Proof

open Cert.KernelIdeal Cert.KernelIdeal.Gen Idealize.ShloMosaic Idealize.ShloMosaic.TcCoe Idealize.SL.Sem Idealize.ShloMosaic.Tactic

/-- The rows a tile's transposed convolution reads: its own 512 rows, then 32 rows of the next tile, or zeros. -/
def ext (b : BitVec 1) (A : Vec Ideal S512x256 .f32) (B : Vec Ideal S32x256 .f32) (r c : Nat) : EReal :=
  if r < 512 then at2 A r c else if b = 1#1 then 0 else at2 B (r - 512) c

/-- A window of `n` of those rows, from row `off`. -/
def extWin (b : BitVec 1) (A : Vec Ideal S512x256 .f32) (B : Vec Ideal S32x256 .f32) (off n : Nat) : Ar2 n 256 :=
  fun j => ext b A B (off + (j 0).val) (j 1).val

/-- The first scratch buffer holds `ext`. -/
lemma canon_ext (b : BitVec 1) (A : Vec Ideal S512x256 .f32) (B : Vec Ideal S32x256 .f32) (y : S544x256.Idx) :
    View.canon (Val := Elt Ideal) (e := .f32) [⟨Rect.unit ![512, 0] ![32, 256] inb_S544x256_S32x256_512_0, k0_pay13 b B⟩,
      ⟨Rect.unit ![0, 0] ![512, 256] inb_S544x256_S512x256_0_0, k0_pay12 A⟩] y = ext b A B (y 0).val (y 1).val := by
  idx_vars y
  by_cases hy : y0.val < 512
  · refine (canon_miss inb_S544x256_S32x256_512_0 _ _ _ 0 (Or.inl hy)).trans ?_
    refine (canon_hit inb_S544x256_S512x256_0_0 _ _ _ (ix2 ⟨y0.val, hy⟩ y1) (by intro a; fin_cases a <;> simp)).trans ?_
    show _ = ext b A B y0.val y1.val
    unfold k0_pay12 ext
    rw [if_pos hy, at2_of_lt A hy y1.isLt]
    pointwise
  · have h0 : y0.val < 544 := y0.isLt
    refine (canon_hit inb_S544x256_S32x256_512_0 _ _ _ (ix2 ⟨y0.val - 512, by omega⟩ y1) (by
      intro a; fin_cases a
      · show y0.val = 512 + (y0.val - 512); omega
      · simp)).trans ?_
    show _ = ext b A B y0.val y1.val
    unfold k0_pay13 ext
    rw [if_neg hy, at2_of_lt B (show y0.val - 512 < 32 by omega) y1.isLt]
    pointwise
    rfl

lemma ld_tile (X : Vec Ideal S512x256 .f32) (inb : ∀ a, (![0, 0] : Fin 2 → Nat) a + (![512, 256] : Fin 2 → Nat) a ≤ S512x256.size a) :
    View.ld (Val := Elt Ideal) (e' := .f32) X (Rect.unit (s := S512x256) ![0, 0] ![512, 256] inb) = X := View.ld_unit_lit inb X (by decide)

lemma ld_halo (X : Vec Ideal S32x256 .f32) (inb : ∀ a, (![0, 0] : Fin 2 → Nat) a + (![32, 256] : Fin 2 → Nat) a ≤ S32x256.size a) :
    View.ld (Val := Elt Ideal) (e' := .f32) X (Rect.unit (s := S32x256) ![0, 0] ![32, 256] inb) = X := View.ld_unit_lit inb X (by decide)

/-- A window of `n` rows of the first scratch buffer, from row `off`. -/
lemma read_ext {κ : Kind} {sp : Space} (v : View sig κ sp S544x256 .f32) (b : BitVec 1) (A : Vec Ideal S512x256 .f32) (B : Vec Ideal S32x256 .f32)
    (off n : Nat) (inb : ∀ a, (![off, 0] : Fin 2 → Nat) a + (![n, 256] : Fin 2 → Nat) a ≤ S544x256.size a) :
    v.readCov (Val := Elt Ideal) [⟨Rect.unit ![512, 0] ![32, 256] inb_S544x256_S32x256_512_0, k0_pay13 b B⟩,
      ⟨Rect.unit ![0, 0] ![512, 256] inb_S544x256_S512x256_0_0, k0_pay12 A⟩] (Rect.unit (s := S544x256) ![off, 0] ![n, 256] inb).toLoadRect
      = extWin b A B off n := by
  rw [View.readCov_eq_canon']
  funext j
  rw [canon_ext]
  show ext b A B (off + 1 * (j 0).val) (0 + 1 * (j 1).val) = _
  rw [one_mul, one_mul, zero_add]; rfl

/-- The short convolution's scratch buffer is filled the same way. -/
lemma read_ext' {κ : Kind} {sp : Space} (v : View sig κ sp S544x256 .f32) (i : grid0.Coords) (A : Vec Ideal S512x256 .f32) (B : Vec Ideal S32x256 .f32)
    (off n : Nat) (inb : ∀ a, (![off, 0] : Fin 2 → Nat) a + (![n, 256] : Fin 2 → Nat) a ≤ S544x256.size a) :
    v.readCov (Val := Elt Ideal) [⟨Rect.unit ![512, 0] ![32, 256] inb_S544x256_S32x256_512_0, k0_pay3 i B⟩,
      ⟨Rect.unit ![0, 0] ![512, 256] inb_S544x256_S512x256_0_0, k0_pay2 A⟩] (Rect.unit (s := S544x256) ![off, 0] ![n, 256] inb).toLoadRect
      = extWin (Scalar.cmpi .eq (BitVec.ofNat 32 (i 0).val) 31#32) A B off n :=
  read_ext v _ A B off n inb

/-- The seven shifted copies: slot `s` is the window from row `s + 1`. -/
lemma canon_shift (b : BitVec 1) (A : Vec Ideal S512x256 .f32) (B : Vec Ideal S32x256 .f32) (y : S7x536x256.Idx) :
    View.canon (Val := Elt Ideal) (e := .f32) [
      ⟨Rect.unit ![6, 0, 0] ![1, 536, 256] inb_S7x536x256_S1x536x256_6_0_0, k0_pay20 (F := Ideal) (extWin b A B 7 536)⟩,
      ⟨Rect.unit ![5, 0, 0] ![1, 536, 256] inb_S7x536x256_S1x536x256_5_0_0, k0_pay19 (F := Ideal) (extWin b A B 6 536)⟩,
      ⟨Rect.unit ![4, 0, 0] ![1, 536, 256] inb_S7x536x256_S1x536x256_4_0_0, k0_pay18 (F := Ideal) (extWin b A B 5 536)⟩,
      ⟨Rect.unit ![3, 0, 0] ![1, 536, 256] inb_S7x536x256_S1x536x256_3_0_0, k0_pay17 (F := Ideal) (extWin b A B 4 536)⟩,
      ⟨Rect.unit ![2, 0, 0] ![1, 536, 256] inb_S7x536x256_S1x536x256_2_0_0, k0_pay16 (F := Ideal) (extWin b A B 3 536)⟩,
      ⟨Rect.unit ![1, 0, 0] ![1, 536, 256] inb_S7x536x256_S1x536x256_1_0_0, k0_pay15 (F := Ideal) (extWin b A B 2 536)⟩,
      ⟨Rect.unit ![0, 0, 0] ![1, 536, 256] inb_S7x536x256_S1x536x256_0_0_0, k0_pay14 (F := Ideal) (extWin b A B 1 536)⟩] y
      = ext b A B ((y 0).val + 1 + (y 1).val) (y 2).val := by
  canon_tiles x h
  all_goals
    unfold_payloads
    pointwise
    show ext b A B (_ + (x 1).val) (x 2).val = _
    rw [h2]; congr 1; omega

/-- A window of 512 rows of slot `s`, from row `off`. -/
lemma read_shift {κ : Kind} {sp : Space} (v : View sig κ sp S7x536x256 .f32) (b : BitVec 1) (A : Vec Ideal S512x256 .f32) (B : Vec Ideal S32x256 .f32) (s off : Nat)
    (inb : ∀ a, (![s, off, 0] : Fin 3 → Nat) a + (![1, 512, 256] : Fin 3 → Nat) a ≤ S7x536x256.size a) :
    v.readCov (Val := Elt Ideal) [
      ⟨Rect.unit ![6, 0, 0] ![1, 536, 256] inb_S7x536x256_S1x536x256_6_0_0, k0_pay20 (F := Ideal) (extWin b A B 7 536)⟩,
      ⟨Rect.unit ![5, 0, 0] ![1, 536, 256] inb_S7x536x256_S1x536x256_5_0_0, k0_pay19 (F := Ideal) (extWin b A B 6 536)⟩,
      ⟨Rect.unit ![4, 0, 0] ![1, 536, 256] inb_S7x536x256_S1x536x256_4_0_0, k0_pay18 (F := Ideal) (extWin b A B 5 536)⟩,
      ⟨Rect.unit ![3, 0, 0] ![1, 536, 256] inb_S7x536x256_S1x536x256_3_0_0, k0_pay17 (F := Ideal) (extWin b A B 4 536)⟩,
      ⟨Rect.unit ![2, 0, 0] ![1, 536, 256] inb_S7x536x256_S1x536x256_2_0_0, k0_pay16 (F := Ideal) (extWin b A B 3 536)⟩,
      ⟨Rect.unit ![1, 0, 0] ![1, 536, 256] inb_S7x536x256_S1x536x256_1_0_0, k0_pay15 (F := Ideal) (extWin b A B 2 536)⟩,
      ⟨Rect.unit ![0, 0, 0] ![1, 536, 256] inb_S7x536x256_S1x536x256_0_0_0, k0_pay14 (F := Ideal) (extWin b A B 1 536)⟩]
      (Rect.unit (s := S7x536x256) ![s, off, 0] ![1, 512, 256] inb).toLoadRect
      = fun j => ext b A B (s + 1 + off + (j 1).val) (j 2).val := by
  rw [View.readCov_eq_canon']
  funext j
  rw [canon_shift]
  have h0 : (j 0).val = 0 := by have : (j 0).val < 1 := (j 0).isLt; omega
  show ext b A B (s + 1 * (j 0).val + 1 + (off + 1 * (j 1).val)) (0 + 1 * (j 2).val) = _
  rw [h0]; congr 1 <;> omega

/-- Whether a point is the grid's last, where no next tile exists. -/
abbrev lastTile (t : Fin cfg0.N) : BitVec 1 := Scalar.cmpi .eq (BitVec.ofNat 32 (grid0.coords t 0).val) 31#32

set_option maxHeartbeats 4000000 in
/-- What one grid point computes from its blocks. -/
lemma out_block (c : Dev nD) (t : Fin cfg0.N) (X0 : Vec Ideal S512x2560 .bf16) (X1 : Vec Ideal S512x768 .bf16) (X2 : Vec Ideal S512x256 .f32) (X3 : Vec Ideal S32x256 .f32) (X4 : Vec Ideal S512x256 .f32) (X5 : Vec Ideal S32x256 .f32) (X6 X7 X8 : Vec Ideal S4x64x512 .f32) (X9 : Vec Ideal S8x256 .f32) (X10 : Vec Ideal S32x256 .f32) (y : S512x2560.Idx) :
   out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) X0 X1 X2 X3 X4 X5 X6 X7 X8 X9 X10 y
     = dzAt (at2 X0) (at2 X1)
        (fun r l => convT 3 (fun k => at2 X9 k l) (fun j => ext (lastTile t) X2 X3 j l) r)
        (fun r l => convT 31 (fun k => at2 X10 k l) (fun j => ext (lastTile t) X4 X5 j l) r)
        (at3 X6) (at3 X7) (at3 X8) (y 0).val (y 1).val := by
  rw [out0_A_11, View.read_writes_eq_canon _ _ _ (cover0_A_11 c _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, read_ext, read_ext']
  simp only [read_shift, ld_tile, ld_halo]
  canon_tiles x h using View.cover_of_tiledBy _ ![512, 256] (by sl_kernel_rfl) _
  all_goals
    rw [h0, h1]
    unfold_payloads
    idx_vars x
    pointwise
    unfold dzAt
    repeat first | rw [if_pos (by omega)] | rw [if_neg (by omega)]
  case piece7 => simp only [at2_ix X1]
  case piece2 | piece3 | piece4 => simp only [at3_ix X6, at3_ix X7, at3_ix X8, Nat.add_sub_cancel_left]
  all_goals
    simp only [at2_ix X0, at2_ix X9, at2_ix X10, extWin, Nat.add_sub_cancel_left, convT, Finset.sum_range_succ,
      Finset.sum_range_zero, Ideal.logistic, zero_add, ix2_0, ix2_1, Nat.reduceSub, Fin.isValue, Fin.val_ofNat, Fin.coe_ofNat_eq_mod, Nat.reduceMod, lastTile, zero_sub]

end Cert.Proof
-- ==== Proof.Scatter.lean ====
module

public import proofs.«01_k».proof.Proof.Conv
public import Idealize.ShloMosaic.Lib.Routing.OpsSet

@[expose] public section

noncomputable section

namespace Cert.Proof

open Idealize.ShloMosaic hiding ix2 eq_ix2
open Idealize.ShloMosaic.ValueIdx Idealize.ShloMosaic.Routing

/-- Row `a` of the rows set at the top of a matrix lands at row `a`. -/
lemma lands_rows {R C K w : Nat} (d : ScatterDims (shape2 R C) (shape1 1) (shape2 K C)) (huw : d.updateWindowDims = [0, 1])
    (hiw : d.insertedWindowDims = []) (hsd : d.scatterDimsToOperandDims = [0]) (idx : IVec (shape1 1) w)
    (hidx : ∀ j, (idx j).toInt = 0) (a : Fin K) (b : Fin C) (r : Fin R) (c : Fin C) :
    d.resultIdx? (ix2 a b) idx = some (ix2 r c) ↔ a.val = r.val ∧ b.val = c.val := by
  have hk : d.sKept = [0, 1] := by
    show (shape2 R C).kept d.insertedWindowDims = _
    rw [hiw]; rfl
  have hs : ∀ e, d.start (ix2 a b) idx e = 0 := by
    intro e
    unfold ScatterDims.start
    split
    · exact hidx _
    · rfl
  obtain ⟨uw, iw, sd, iv, wf⟩ := d
  dsimp only at huw hiw hsd
  subst huw hiw hsd
  have h0 : ScatterDims.window ⟨[0, 1], [], [0], iv, wf⟩ (ix2 a b) 0 = a.val := by
    unfold ScatterDims.window
    rw [dif_pos (by rw [hk]; simp)]
    rfl
  have h1 : ScatterDims.window ⟨[0, 1], [], [0], iv, wf⟩ (ix2 a b) 1 = b.val := by
    unfold ScatterDims.window
    rw [dif_pos (by rw [hk]; simp)]
    rfl
  rw [resultIdx?_ix2, hs, hs, h0, h1]
  omega

/-- Rows set at the top of a matrix, read at one of those rows. -/
lemma scatter_rows {α : Type} {R C K w : Nat} (d : ScatterDims (shape2 R C) (shape1 1) (shape2 K C)) (huw : d.updateWindowDims = [0, 1])
    (hiw : d.insertedWindowDims = []) (hsd : d.scatterDimsToOperandDims = [0]) (x : (shape2 R C).Idx → α) (idx : IVec (shape1 1) w)
    (hidx : ∀ j, (idx j).toInt = 0) (u : (shape2 K C).Idx → α) (a : Fin K) (r : Fin R) (c : Fin C) (har : a.val = r.val) :
    Host.scatter d (fun _ b => b) x idx u (ix2 r c) = u (ix2 a c) := by
  refine scatter_set_hit d x idx u _ _ (fun k hk => ?_) (ix2 a c) ((lands_rows d huw hiw hsd idx hidx a c r c).2 ⟨har, rfl⟩)
  rw [eq_ix2 k] at hk ⊢
  obtain ⟨h0, h1⟩ := (lands_rows d huw hiw hsd idx hidx _ _ r c).1 hk
  exact congrArg₂ (fun p q => u (ix2 p q)) (Fin.ext (by omega)) (Fin.ext h1)

end Cert.Proof
-- ==== Proof.KernelValue.lean ====
module

public import proofs.«01_k».proof.Proof.Block
public import proofs.«01_k».proof.Proof.Scatter

@[expose] public section

set_option maxRecDepth 16384

noncomputable section

namespace Cert.Proof

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ) (c : Dev nD)

lemma e0 : ∀ t : Fin grid0.N, win0_0.index t = ![t.val, 0] := by decide +kernel
lemma e1 : ∀ t : Fin grid0.N, win0_1.index t = ![t.val, 0] := by decide +kernel
lemma e2 : ∀ t : Fin grid0.N, win0_2.index t = ![t.val, 0] := by decide +kernel
lemma e3 : ∀ t : Fin grid0.N, win0_3.index t = ![min (16 * (t.val + 1)) 511, 0] := by decide +kernel
lemma e4 : ∀ t : Fin grid0.N, win0_4.index t = ![t.val, 0] := by decide +kernel
lemma e5 : ∀ t : Fin grid0.N, win0_5.index t = ![min (16 * (t.val + 1)) 511, 0] := by decide +kernel
lemma e6 : ∀ t : Fin grid0.N, win0_6.index t = ![0, 0, t.val] := by decide +kernel
lemma e7 : ∀ t : Fin grid0.N, win0_7.index t = ![0, 0, t.val] := by decide +kernel
lemma e8 : ∀ t : Fin grid0.N, win0_8.index t = ![0, 0, t.val] := by decide +kernel
lemma e9 : ∀ t : Fin grid0.N, win0_9.index t = ![0, 0] := by decide +kernel
lemma e10 : ∀ t : Fin grid0.N, win0_10.index t = ![0, 0] := by decide +kernel
lemma e11 : ∀ t : Fin grid0.N, win0_11.index t = ![t.val, 0] := by decide +kernel
lemma last_iff : ∀ t : Fin grid0.N, lastTile t = 1#1 ↔ t.val = 31 := by decide +kernel

/-- The packed projections' tile. -/
lemma blk0 (t : Fin cfg0.N) (r l : Nat) (hr : r < 512) (hl : l < 2560) :
    at2 (iblk m c 0 t) r l = at2 (m (c.tc.loc main_arg0)) (512 * t.val + r) l := by
  have ht : t.val < 32 := t.isLt
  rw [at2_of_lt _ hr hl, at2_of_lt _ (by omega) hl]
  blk_simp [iblk]
  rw [V_main_arg0]
  congr 1
  blk_ext [e0]

lemma blk1 (t : Fin cfg0.N) (r l : Nat) (hr : r < 512) (hl : l < 768) :
    at2 (iblk m c 1 t) r l = at2 (m (c.tc.loc main_arg1)) (512 * t.val + r) l := by
  have ht : t.val < 32 := t.isLt
  rw [at2_of_lt _ hr hl, at2_of_lt _ (by omega) hl]
  blk_simp [iblk]
  rw [V_main_arg1]
  congr 1
  blk_ext [e1]

/-- The rows of the first convolution's cotangent that a tile reads are the rows from the tile's first on, zero past the end. -/
lemma ext2 (t : Fin cfg0.N) (j l : Nat) (hj : j < 544) (hl : l < 256) :
    ext (lastTile t) (iblk m c 2 t) (iblk m c 3 t) j l = at2 (m (c.tc.loc main_arg2)) (512 * t.val + j) l := by
  have ht : t.val < 32 := t.isLt
  unfold ext
  split
  · next h =>
    rw [at2_of_lt _ h hl, at2_of_lt _ (by omega) hl]
    blk_simp [iblk]
    rw [V_main_arg2]
    congr 1
    blk_ext [e2]
  · next h =>
    split
    · next h1 =>
      rw [last_iff] at h1
      rw [at2_of_le _ (by omega)]
    · next h1 =>
      rw [last_iff] at h1
      rw [at2_of_lt _ (by omega : j - 512 < 32) hl, at2_of_lt _ (by omega) hl]
      blk_simp [iblk]
      rw [V_main_arg2]
      congr 1
      blk_ext [e3]

lemma ext4 (t : Fin cfg0.N) (j l : Nat) (hj : j < 544) (hl : l < 256) :
    ext (lastTile t) (iblk m c 4 t) (iblk m c 5 t) j l = at2 (m (c.tc.loc main_arg3)) (512 * t.val + j) l := by
  have ht : t.val < 32 := t.isLt
  unfold ext
  split
  · next h =>
    rw [at2_of_lt _ h hl, at2_of_lt _ (by omega) hl]
    blk_simp [iblk]
    rw [V_main_arg3]
    congr 1
    blk_ext [e4]
  · next h =>
    split
    · next h1 =>
      rw [last_iff] at h1
      rw [at2_of_le _ (by omega)]
    · next h1 =>
      rw [last_iff] at h1
      rw [at2_of_lt _ (by omega : j - 512 < 32) hl, at2_of_lt _ (by omega) hl]
      blk_simp [iblk]
      rw [V_main_arg3]
      congr 1
      blk_ext [e5]

lemma blk6 (t : Fin cfg0.N) (a b r : Nat) (ha : a < 4) (hb : b < 64) (hr : r < 512) :
    at3 (iblk m c 6 t) a b r = at3 (m (c.tc.loc main_arg4)) a b (512 * t.val + r) := by
  have ht : t.val < 32 := t.isLt
  rw [at3_of_lt _ ha hb hr, at3_of_lt _ ha hb (by omega)]
  blk_simp [iblk]
  rw [V_main_arg4]
  congr 1
  blk_ext [e6]

lemma blk7 (t : Fin cfg0.N) (a b r : Nat) (ha : a < 4) (hb : b < 64) (hr : r < 512) :
    at3 (iblk m c 7 t) a b r = at3 (m (c.tc.loc main_arg5)) a b (512 * t.val + r) := by
  have ht : t.val < 32 := t.isLt
  rw [at3_of_lt _ ha hb hr, at3_of_lt _ ha hb (by omega)]
  blk_simp [iblk]
  rw [V_main_arg5]
  congr 1
  blk_ext [e7]

lemma blk8 (t : Fin cfg0.N) (a b r : Nat) (ha : a < 4) (hb : b < 64) (hr : r < 512) :
    at3 (iblk m c 8 t) a b r = at3 (m (c.tc.loc main_arg6)) a b (512 * t.val + r) := by
  have ht : t.val < 32 := t.isLt
  rw [at3_of_lt _ ha hb hr, at3_of_lt _ ha hb (by omega)]
  blk_simp [iblk]
  rw [V_main_arg6]
  congr 1
  blk_ext [e8]

/-- The short convolution's taps, read out of their padded copy. -/
lemma blk9 (t : Fin cfg0.N) (k l : Nat) (hk : k < 3) (hl : l < 256) :
    at2 (iblk m c 9 t) k l = at2 (m (c.tc.loc main_arg7)) k l := by
  rw [at2_of_lt _ (by omega) hl, at2_of_lt _ hk hl]
  blk_simp [iblk]
  have hi : (win0_9.blk t).view.emb (ix2 ⟨k, by omega⟩ ⟨l, hl⟩) = (ix2 ⟨k, by omega⟩ ⟨l, hl⟩ : S8x256.Idx) := by
    blk_ext [e9]
  rw [hi]
  entry_read
  refine scatter_rows _ rfl rfl rfl _ _ (fun j => ?_) _ ⟨k, hk⟩ _ _ rfl
  rfl

/-- The long convolution's taps, read out of their padded copy. -/
lemma blk10 (t : Fin cfg0.N) (k l : Nat) (hk : k < 31) (hl : l < 256) :
    at2 (iblk m c 10 t) k l = at2 (m (c.tc.loc main_arg8)) k l := by
  rw [at2_of_lt _ (by omega) hl, at2_of_lt _ hk hl]
  blk_simp [iblk]
  have hi : (win0_10.blk t).view.emb (ix2 ⟨k, by omega⟩ ⟨l, hl⟩) = (ix2 ⟨k, by omega⟩ ⟨l, hl⟩ : S32x256.Idx) := by
    blk_ext [e10]
  rw [hi]
  entry_read
  refine scatter_rows _ rfl rfl rfl _ _ (fun j => ?_) _ ⟨k, hk⟩ _ _ rfl
  rfl

lemma convT_congr {n s s' : Nat} {w w' d d' : Nat → EReal} (hw : ∀ k < n, w k = w' k) (hd : ∀ j < n, d (j + s) = d' (j + s')) :
    convT n w d s = convT n w' d' s' := by
  unfold convT
  refine Finset.sum_congr rfl fun k hk => ?_
  have := Finset.mem_range.1 hk
  rw [hw k this, hd _ (by omega)]

/-- The gradient's array as a function of the arguments' arrays. -/
def dz (m : (ℓ : Loc nD τ sig) → Buf (Elt Ideal) ℓ) (c : Dev nD) (s l : Nat) : EReal :=
  dzAt (at2 (m (c.tc.loc main_arg0))) (at2 (m (c.tc.loc main_arg1)))
    (fun r l => convT 3 (fun k => at2 (m (c.tc.loc main_arg7)) k l) (fun j => at2 (m (c.tc.loc main_arg2)) j l) r)
    (fun r l => convT 31 (fun k => at2 (m (c.tc.loc main_arg8)) k l) (fun j => at2 (m (c.tc.loc main_arg3)) j l) r)
    (at3 (m (c.tc.loc main_arg4))) (at3 (m (c.tc.loc main_arg5))) (at3 (m (c.tc.loc main_arg6))) s l

/-- A tile of the gradient, its operands the blocks a grid point reads. -/
lemma tile_dz (t : Fin cfg0.N) (r l : Nat) (hy0 : r < 512) (hy1 : l < 2560) :
    dzAt (at2 (iblk m c 0 t)) (at2 (iblk m c 1 t))
        (fun r l => convT 3 (fun k => at2 (iblk m c 9 t) k l) (fun j => ext (lastTile t) (iblk m c 2 t) (iblk m c 3 t) j l) r)
        (fun r l => convT 31 (fun k => at2 (iblk m c 10 t) k l) (fun j => ext (lastTile t) (iblk m c 4 t) (iblk m c 5 t) j l) r)
        (at3 (iblk m c 6 t)) (at3 (iblk m c 7 t)) (at3 (iblk m c 8 t)) r l
      = dz m c (512 * t.val + r) l := by
  have c3 : ∀ l < 256, convT 3 (fun k => at2 (iblk m c 9 t) k l) (fun j => ext (lastTile t) (iblk m c 2 t) (iblk m c 3 t) j l) r
      = convT 3 (fun k => at2 (m (c.tc.loc main_arg7)) k l) (fun j => at2 (m (c.tc.loc main_arg2)) j l) (512 * t.val + r) := fun l hl =>
    convT_congr (fun k hk => blk9 m c t k l hk hl) fun j hj => (ext2 m c t (j + r) l (by omega) hl).trans (congrArg (fun q => at2 _ q l) (by omega))
  have c31 : ∀ l < 256, convT 31 (fun k => at2 (iblk m c 10 t) k l) (fun j => ext (lastTile t) (iblk m c 4 t) (iblk m c 5 t) j l) r
      = convT 31 (fun k => at2 (m (c.tc.loc main_arg8)) k l) (fun j => at2 (m (c.tc.loc main_arg3)) j l) (512 * t.val + r) := fun l hl =>
    convT_congr (fun k hk => blk10 m c t k l hk hl) fun j hj => (ext4 m c t (j + r) l (by omega) hl).trans (congrArg (fun q => at2 _ q l) (by omega))
  unfold dz dzAt
  dsimp only
  split
  · exact blk1 m c t _ _ hy0 (by omega)
  split
  · rw [c3 (l - 768) (by omega), blk0 m c t r (1024 + (l - 768)) hy0 (by omega)]
  split
  · rw [c3 (l - 1024) (by omega), blk0 m c t r (768 + (l - 1024)) hy0 (by omega)]
  split
  · exact blk6 m c t _ _ _ (by omega) (by omega) hy0
  split
  · exact blk7 m c t _ _ _ (by omega) (by omega) hy0
  split
  · exact blk8 m c t _ _ _ (by omega) (by omega) hy0
  split
  · rw [c31 (l - 2048) (by omega), blk0 m c t r (2304 + (l - 2048)) hy0 (by omega)]
  · rw [c31 (l - 2304) (by omega), blk0 m c t r (2048 + (l - 2304)) hy0 (by omega), blk0 m c t r (2304 + (l - 2304)) hy0 (by omega)]

/-- The gradient as an array. -/
def dzArr (m : (ℓ : Loc nD τ sig) → Buf (Elt Ideal) ℓ) (c : Dev nD) : S16384x2560.Idx → EReal := fun i => dz m c (i 0).val (i 1).val

/-- The result array after the run. -/
lemma kernel_array : (dats m 0 c).arrAt 11 cfg0.N = dzArr m c := by
  refine (dats m 0 c).arrAt_eq_of_covers 11 _ (by decide +kernel) fun t hf y => ?_
  blk_simp
  rw [after0_11]
  refine ((out_block c t _ _ _ _ _ _ _ _ _ _ _ y).trans (tile_dz m c t _ _ (y 0).isLt (y 1).isLt)).trans ?_
  have q0 : 512 * t.val + (y 0).val = ((win0_11.blk t).view.emb y 0).val := by blk_simp [e11]; omega
  have q1 : (y 1).val = ((win0_11.blk t).view.emb y 1).val := by blk_simp [e11]
  exact congrArg₂ (dz m c) q0 q1

end Cert.Proof
-- ==== Proof.Sums.lean ====
module

public import proofs.«01_k».proof.Proof.Conv

@[expose] public section

set_option maxRecDepth 16384

noncomputable section

namespace Cert.Proof

open Idealize.ShloMosaic

/-- The entry of a rank-four array at four numbers, zero outside the array. -/
def at4 {k l m n : Nat} (x : Ar4 k l m n) (a b r c : Nat) : EReal :=
  if h : a < k ∧ b < l ∧ r < m ∧ c < n then x (ix4 ⟨a, h.1⟩ ⟨b, h.2.1⟩ ⟨r, h.2.2.1⟩ ⟨c, h.2.2.2⟩) else 0

lemma at4_of_lt {k l m n : Nat} (x : Ar4 k l m n) {a b r c : Nat} (ha : a < k) (hb : b < l) (hr : r < m)
    (hc : c < n) : at4 x a b r c = x (ix4 ⟨a, ha⟩ ⟨b, hb⟩ ⟨r, hr⟩ ⟨c, hc⟩) := dif_pos ⟨ha, hb, hr, hc⟩

/-- An entry named by an index whose coordinates are known. -/
lemma at2_eq {m n : Nat} (x : Ar2 m n) (i : (⟨2, ![m, n]⟩ : Shape).Idx) {r c : Nat} (hr : (i 0).val = r)
    (hc : (i 1).val = c) : x i = at2 x r c := by
  subst hr hc
  rw [at2_of_lt x (i 0).isLt (i 1).isLt]
  congr 1; funext a; fin_cases a <;> rfl

lemma at3_eq {l m n : Nat} (x : Ar3 l m n) (i : (⟨3, ![l, m, n]⟩ : Shape).Idx) {a r c : Nat}
    (ha : (i 0).val = a) (hr : (i 1).val = r) (hc : (i 2).val = c) : x i = at3 x a r c := by
  subst ha hr hc
  rw [at3_of_lt x (i 0).isLt (i 1).isLt (i 2).isLt]
  congr 1; funext a; fin_cases a <;> rfl

lemma at4_eq {k l m n : Nat} (x : Ar4 k l m n) (i : (⟨4, ![k, l, m, n]⟩ : Shape).Idx) {a b r c : Nat}
    (ha : (i 0).val = a) (hb : (i 1).val = b) (hr : (i 2).val = r) (hc : (i 3).val = c) : x i = at4 x a b r c := by
  subst ha hb hr hc
  rw [at4_of_lt x (i 0).isLt (i 1).isLt (i 2).isLt (i 3).isLt]
  congr 1; funext a; fin_cases a <;> rfl

/-- A sum taken in `a` blocks of `b` terms is the sum of all of them. -/
lemma sum_blocks (f : Nat → EReal) (a b : Nat) :
    ∑ s ∈ Finset.range a, ∑ k ∈ Finset.range b, f (b * s + k) = ∑ k ∈ Finset.range (a * b), f k := by
  induction a with
  | zero => simp
  | succ n ih => rw [Finset.sum_range_succ, ih, Nat.succ_mul, Finset.sum_range_add, Nat.mul_comm b n]

/-- A sum over the positions of an axis, taken over numbers. -/
lemma sum_fin {n : Nat} (f : Fin n → EReal) (g : Nat → EReal) (h : ∀ k : Fin n, f k = g k.val) :
    ∑ k, f k = ∑ k ∈ Finset.range n, g k := by
  rw [← Fin.sum_univ_eq_sum_range]; exact Finset.sum_congr rfl fun k _ => h k

/-- An index of rank three named by its coordinates. -/
lemma ix3_eq {l m n : Nat} (z : (⟨3, ![l, m, n]⟩ : Shape).Idx) (a : Fin l) (b : Fin m) (d : Fin n) (ha : (z 0).val = a.val)
    (hb : (z 1).val = b.val) (hd : (z 2).val = d.val) : ix3 a b d = z := by
  funext i
  fin_cases i
  · exact Fin.ext ha.symm
  · exact Fin.ext hb.symm
  · exact Fin.ext hd.symm

/-- The squared positive part. -/
def relu2 (x : EReal) : EReal := max x 0 * max x 0

end Cert.Proof
-- ==== Proof.FfnWgrad.lean ====
module

public import proofs.«01_k».proof.Proof.Sums
public import proofs.«01_k».proof.Proof.Gen.Kernel3Ideal.Value
public import proofs.«01_k».proof.Proof.Gen.Reference3Ideal.Read
public import proofs.«01_k».proof.Defs

@[expose] public section

set_option maxRecDepth 16384

noncomputable section

namespace Cert.Proof.FfnWgrad

open Cert.Kernel3Ideal Cert.Kernel3Ideal.Gen Cert.Kernel3Ideal.Value Idealize.ShloMosaic Idealize.ShloMosaic.TcCoe Idealize.SL.Sem
  Idealize.ShloMosaic.Tactic

/-- The gradient of the up weights: in block `j` the sum over all rows of a normed row's entry times the cotangent of the
    row before the activation. -/
def duOf (hb : Ar2 16384 1024) (dp : Ar2 16384 4096) :
    Ar3 4 1024 1024 := fun i =>
  ∑ k ∈ Finset.range 16384, at2 hb k (i 1).val * at2 dp k (1024 * (i 0).val + (i 2).val)

/-- The gradient of the down weights: the sum over all rows of the activation times the cotangent of the layer. -/
def ddOf (p : Ar2 16384 4096) (dx : Ar2 16384 1024) :
    Ar3 4 1024 1024 := fun i =>
  ∑ k ∈ Finset.range 16384, relu2 (at2 p k (1024 * (i 0).val + (i 1).val)) * at2 dx k (i 2).val

lemma duOf_congr {a a' b b'} (h : a = a') (h' : b = b') : duOf a b = duOf a' b' := by subst h h'; rfl
lemma ddOf_congr {a a' b b'} (h : a = a') (h' : b = b') : ddOf a b = ddOf a' b' := by subst h h'; rfl

/-! ## The body at an index -/

lemma pay3_apply (v7 : Vec Ideal S1x1024x1024 .f32) (v9 v10 : Vec Ideal S2048x1024 .bf16) (x : S1x1024x1024.Idx) :
    k0_pay3 v7 v9 v10 x = v7 x + ∑ k ∈ Finset.range 2048, at2 v9 k (x 1).val * at2 v10 k (x 2).val := by
  rw [← sum_fin (fun k : Fin 2048 => v9 (ix2 k ⟨(x 1).val, (x 1).isLt⟩) * v10 (ix2 k ⟨(x 2).val, (x 2).isLt⟩)) _
    (fun k => congrArg₂ (· * ·) (at2_of_lt v9 k.isLt (x 1).isLt).symm (at2_of_lt v10 k.isLt (x 2).isLt).symm)]
  unfold_payloads
  idx_vars x
  obtain rfl : x0 = 0 := Subsingleton.elim _ _
  pointwise

lemma pay4_apply (v3 v20 : Vec Ideal S2048x1024 .bf16) (v16 : Vec Ideal S1x1024x1024 .f32) (x : S1x1024x1024.Idx) :
    k0_pay4 v3 v16 v20 x = v16 x + ∑ k ∈ Finset.range 2048, relu2 (at2 v3 k (x 1).val) * at2 v20 k (x 2).val := by
  rw [← sum_fin (fun k : Fin 2048 => relu2 (v3 (ix2 k ⟨(x 1).val, (x 1).isLt⟩)) * v20 (ix2 k ⟨(x 2).val, (x 2).isLt⟩)) _
    (fun k => congrArg₂ (· * ·) (congrArg relu2 (at2_of_lt v3 k.isLt (x 1).isLt).symm) (at2_of_lt v20 k.isLt (x 2).isLt).symm)]
  unfold relu2
  unfold_payloads
  idx_vars x
  obtain rfl : x0 = 0 := Subsingleton.elim _ _
  pointwise

lemma pay1_apply (x : S1x1024x1024.Idx) : k0_pay1 (F := Ideal) x = 0 := by
  unfold_payloads
  idx_vars x
  pointwise

lemma pay2_apply (x : S1x1024x1024.Idx) : k0_pay2 (F := Ideal) x = 0 := by
  unfold_payloads
  idx_vars x
  pointwise

/-! ## The blocks a point reads -/

variable (m : (ℓ : Loc nD τ sig) → Buf (Elt Ideal) ℓ) (c : Dev nD)

lemma e0 : ∀ t : Fin grid0.N, win0_0.index t = ![t.val % 8, 0] := by decide +kernel
lemma e1 : ∀ t : Fin grid0.N, win0_1.index t = ![t.val % 8, t.val / 8] := by decide +kernel
lemma e2 : ∀ t : Fin grid0.N, win0_2.index t = ![t.val % 8, t.val / 8] := by decide +kernel
lemma e3 : ∀ t : Fin grid0.N, win0_3.index t = ![t.val % 8, 0] := by decide +kernel

lemma blk0 (t : Fin cfg0.N) (r l : Nat) (hr : r < 2048) (hl : l < 1024) :
    at2 (iblk m c 0 t) r l = at2 (m (c.tc.loc main_arg0)) (2048 * (t.val % 8) + r) l := by
  have ht : t.val < 32 := t.isLt
  rw [at2_of_lt _ hr hl, at2_of_lt _ (by omega) hl]
  blk_simp [iblk]
  rw [V_main_arg0]
  congr 1
  blk_ext [e0]

lemma blk1 (t : Fin cfg0.N) (r l : Nat) (hr : r < 2048) (hl : l < 1024) :
    at2 (iblk m c 1 t) r l = at2 (m (c.tc.loc main_arg1)) (2048 * (t.val % 8) + r) (1024 * (t.val / 8) + l) := by
  have ht : t.val < 32 := t.isLt
  rw [at2_of_lt _ hr hl, at2_of_lt _ (by omega) (by omega)]
  blk_simp [iblk]
  rw [V_main_arg1]
  congr 1
  blk_ext [e1]

lemma blk2 (t : Fin cfg0.N) (r l : Nat) (hr : r < 2048) (hl : l < 1024) :
    at2 (iblk m c 2 t) r l = at2 (m (c.tc.loc main_arg2)) (2048 * (t.val % 8) + r) (1024 * (t.val / 8) + l) := by
  have ht : t.val < 32 := t.isLt
  rw [at2_of_lt _ hr hl, at2_of_lt _ (by omega) (by omega)]
  blk_simp [iblk]
  rw [V_main_arg2]
  congr 1
  blk_ext [e2]

lemma blk3 (t : Fin cfg0.N) (r l : Nat) (hr : r < 2048) (hl : l < 1024) :
    at2 (iblk m c 3 t) r l = at2 (m (c.tc.loc main_arg3)) (2048 * (t.val % 8) + r) l := by
  have ht : t.val < 32 := t.isLt
  rw [at2_of_lt _ hr hl, at2_of_lt _ (by omega) hl]
  blk_simp [iblk]
  rw [V_main_arg3]
  congr 1
  blk_ext [e3]

/-! ## The arrays the run leaves -/

/-- What point `n` adds to the up weights' block. -/
def M4 (n : Nat) (x : S1x1024x1024.Idx) : EReal :=
  ∑ k ∈ Finset.range 2048, at2 (m (c.tc.loc main_arg0)) (2048 * (n % 8) + k) (x 1).val
    * at2 (m (c.tc.loc main_arg2)) (2048 * (n % 8) + k) (1024 * (n / 8) + (x 2).val)

/-- What point `n` adds to the down weights' block. -/
def M5 (n : Nat) (x : S1x1024x1024.Idx) : EReal :=
  ∑ k ∈ Finset.range 2048, relu2 (at2 (m (c.tc.loc main_arg1)) (2048 * (n % 8) + k) (1024 * (n / 8) + (x 1).val))
    * at2 (m (c.tc.loc main_arg3)) (2048 * (n % 8) + k) (x 2).val

lemma step4_apply (n : Nat) (h : n < cfg0.N) (acc : Vec Ideal S1x1024x1024 .f32) (x : S1x1024x1024.Idx) :
    step4 m c n h acc x = acc x + M4 m c n x := by
  unfold step4 M4
  rw [pay3_apply]
  congr 1
  refine Finset.sum_congr rfl fun k hk => ?_
  rw [blk0 m c ⟨n, h⟩ k _ (Finset.mem_range.mp hk) (x 1).isLt, blk2 m c ⟨n, h⟩ k _ (Finset.mem_range.mp hk) (x 2).isLt]

lemma step5_apply (n : Nat) (h : n < cfg0.N) (acc : Vec Ideal S1x1024x1024 .f32) (x : S1x1024x1024.Idx) :
    step5 m c n h acc x = acc x + M5 m c n x := by
  unfold step5 M5
  rw [pay4_apply]
  congr 1
  refine Finset.sum_congr rfl fun k hk => ?_
  rw [blk1 m c ⟨n, h⟩ k _ (Finset.mem_range.mp hk) (x 1).isLt, blk3 m c ⟨n, h⟩ k _ (Finset.mem_range.mp hk) (x 2).isLt]

lemma reset4_apply (n : Nat) (h : n < cfg0.N) (x : S1x1024x1024.Idx) : reset4 m c n h x = 0 + M4 m c n x := by
  rw [← pay1_apply x]
  exact step4_apply m c n h _ x

lemma reset5_apply (n : Nat) (h : n < cfg0.N) (x : S1x1024x1024.Idx) : reset5 m c n h x = 0 + M5 m c n x := by
  rw [← pay2_apply x]
  exact step5_apply m c n h _ x

lemma fold4 (b : Nat) (h : b + 7 < cfg0.N) (x : S1x1024x1024.Idx) :
    Pipeline.accAt (reset4 m c) (step4 m c) b 7 h x = ∑ s ∈ Finset.range 8, M4 m c (b + s) x := by
  rw [← zero_add (∑ s ∈ Finset.range 8, M4 m c (b + s) x)]
  exact Pipeline.accAt_add_apply (β := EReal) (reset4 m c) (step4 m c) (fun _ => 0) (M4 m c) b 7 (fun h x => reset4_apply m c _ h x)
    (fun n h acc x _ _ => step4_apply m c n h acc x) 7 le_rfl h x

lemma G4_eq : G4 m c = duOf (m (c.tc.loc main_arg0)) (m (c.tc.loc main_arg2)) := by
  funext i
  have h0 : (i 0).val < 4 := (i 0).isLt
  have h1 : (i 1).val < 1024 := (i 1).isLt
  have h2 : (i 2).val < 1024 := (i 2).isLt
  have hr : run4Of i = (i 0).val := by unfold run4Of; omega
  have hN : cfg0.N = 32 := N_0
  have hb : 8 * run4Of i + 7 < cfg0.N := by omega
  unfold G4
  rw [dif_pos hb]
  refine (fold4 m c _ hb _).trans ?_
  rw [hr]
  unfold duOf
  rw [← sum_blocks _ 8 2048]
  refine Finset.sum_congr rfl fun s hs => ?_
  have hs := Finset.mem_range.mp hs
  unfold M4
  refine Finset.sum_congr rfl fun k hk => ?_
  rw [show (8 * (i 0).val + s) % 8 = s by omega, show (8 * (i 0).val + s) / 8 = (i 0).val by omega]
  have q1 : (loc4Of i 1).val = (i 1).val := Nat.mod_eq_of_lt h1
  have q2 : (loc4Of i 2).val = (i 2).val := Nat.mod_eq_of_lt h2
  rw [q1, q2]

lemma fold5 (b : Nat) (h : b + 7 < cfg0.N) (x : S1x1024x1024.Idx) :
    Pipeline.accAt (reset5 m c) (step5 m c) b 7 h x = ∑ s ∈ Finset.range 8, M5 m c (b + s) x := by
  rw [← zero_add (∑ s ∈ Finset.range 8, M5 m c (b + s) x)]
  exact Pipeline.accAt_add_apply (β := EReal) (reset5 m c) (step5 m c) (fun _ => 0) (M5 m c) b 7 (fun h x => reset5_apply m c _ h x)
    (fun n h acc x _ _ => step5_apply m c n h acc x) 7 le_rfl h x

lemma G5_eq : G5 m c = ddOf (m (c.tc.loc main_arg1)) (m (c.tc.loc main_arg3)) := by
  funext i
  have h0 : (i 0).val < 4 := (i 0).isLt
  have h1 : (i 1).val < 1024 := (i 1).isLt
  have h2 : (i 2).val < 1024 := (i 2).isLt
  have hr : run5Of i = (i 0).val := by unfold run5Of; omega
  have hN : cfg0.N = 32 := N_0
  have hb : 8 * run5Of i + 7 < cfg0.N := by omega
  unfold G5
  rw [dif_pos hb]
  refine (fold5 m c _ hb _).trans ?_
  rw [hr]
  unfold ddOf
  rw [← sum_blocks _ 8 2048]
  refine Finset.sum_congr rfl fun s hs => ?_
  have hs := Finset.mem_range.mp hs
  unfold M5
  refine Finset.sum_congr rfl fun k hk => ?_
  rw [show (8 * (i 0).val + s) % 8 = s by omega, show (8 * (i 0).val + s) / 8 = (i 0).val by omega]
  have q1 : (loc5Of i 1).val = (i 1).val := Nat.mod_eq_of_lt h1
  have q2 : (loc5Of i 2).val = (i 2).val := Nat.mod_eq_of_lt h2
  rw [q1, q2]

/-! ## The reference's arrays -/

section Reference

open Cert.Reference3Ideal.Read

lemma zero_bits : FloatOps.ofBits (F := Ideal) .f32 0x00000000#32 = 0 := by pointwise

lemma ref_du (x0 x2) : val_main_v15 (F := Ideal) x0 x2 = duOf x0 x2 := by
  funext i
  have h0 : (i 0).val < 4 := (i 0).isLt
  have h1 : (i 1).val < 1024 := (i 1).isLt
  have h2 : (i 2).val < 1024 := (i 2).isLt
  rw [val_main_v15_apply, val_main_v14_apply, val_main_v5_apply, val_main_v4_apply]
  unfold duOf
  refine sum_fin _ _ fun k => ?_
  rw [val_main_v3_apply, val_main_v1_apply, mul_comm]
  refine congrArg₂ (· * ·) (at2_eq x0 _ rfl ?_) (at2_eq x2 _ rfl ?_)
  · show ((((i 1).val * 4 + (i 0).val) * 1024 + (i 2).val) / 4096) = _
    omega
  · show ((((i 1).val * 4 + (i 0).val) * 1024 + (i 2).val) % 4096) = _
    omega

lemma ref_dd (x1 x3) : val_main_v16 (F := Ideal) x1 x3 = ddOf x1 x3 := by
  funext i
  have h0 : (i 0).val < 4 := (i 0).isLt
  have h1 : (i 1).val < 1024 := (i 1).isLt
  have h2 : (i 2).val < 1024 := (i 2).isLt
  rw [val_main_v16_apply, val_main_v13_apply, val_main_v12_apply]
  unfold ddOf
  refine sum_fin _ _ fun k => ?_
  rw [val_main_v11_apply, val_main_v9_apply, val_main_v8_apply, val_main_v7_apply, val_main_call0_v0_apply, val_main_call0_cst_apply,
    zero_bits, mul_comm]
  refine congrArg₂ (· * ·) (congrArg relu2 (at2_eq x1 _ rfl ?_)) (at2_eq x3 _ rfl ?_)
  · show ((((i 0).val * 1024 + (i 1).val) * 1024 + (i 2).val) / 1024) = _
    omega
  · show ((((i 0).val * 1024 + (i 1).val) * 1024 + (i 2).val) % 1024) = _
    omega

end Reference

/-! ## The claims -/

lemma algebraic_wgrad : Cert.algebraic_Kernel3Ideal_Reference3Ideal := fun m ρ m' ρ' _ hag =>
  ⟨fun c => G4 m c, fun c => G5 m c, Cert.Kernel3Ideal.Value.run m ρ,
    (θ_run _ _ _).mono (fun _ h c => by
      obtain ⟨h0, h1, h2, h3⟩ := hag c
      exact ⟨(h c).1.trans ((Cert.Reference3Ideal.Read.val_main_v15_eq _ _).trans ((ref_du _ _).trans ((duOf_congr h0 h2).trans (G4_eq m c).symm))),
        (h c).2.1.trans ((Cert.Reference3Ideal.Read.val_main_v16_eq _ _).trans ((ref_dd _ _).trans ((ddOf_congr h1 h3).trans (G5_eq m c).symm))), (h c).2.2⟩)
      (Cert.Reference3Ideal.Value.run m' ρ')⟩

end Cert.Proof.FfnWgrad
-- ==== Proof.InWgrad.lean ====
module

public import proofs.«01_k».proof.Proof.Sums
public import proofs.«01_k».proof.Proof.Gen.Kernel4Ideal.Value
public import proofs.«01_k».proof.Proof.Gen.Reference4Ideal.Read
public import Idealize.ShloMosaic.Lib.Pipeline.ReadBack
public import proofs.«01_k».proof.Defs

@[expose] public section

set_option maxRecDepth 16384

noncomputable section

namespace Cert.Proof.InWgrad

open Cert.Kernel4Ideal Cert.Kernel4Ideal.Gen Cert.Kernel4Ideal.Value Idealize.ShloMosaic Idealize.ShloMosaic.TcCoe Idealize.SL.Sem
  Idealize.ShloMosaic.Tactic

/-- What a point of rows adds to the wide accumulator. -/
def term (x0 : Vec Ideal S1024x1024 .bf16) (x1 : Vec Ideal S1024x2560 .bf16) (y : S2x1024x1280.Idx) : EReal :=
  ∑ k ∈ Finset.range 1024, at2 x0 k (y 1).val * at2 x1 k (1280 * (y 0).val + (y 2).val)

lemma ld_rows (X : Vec Ideal S1024x1024 .bf16) (inb : ∀ a, (![0, 0] : Fin 2 → Nat) a + (![1024, 1024] : Fin 2 → Nat) a ≤ S1024x1024.size a) :
    View.ld (Val := Elt Ideal) (e' := .bf16) X (Rect.unit (s := S1024x1024) ![0, 0] ![1024, 1024] inb) = X := View.ld_unit_lit inb X (by decide)

lemma pay2_apply (v3 : Vec Ideal S1024x1024 .bf16) (v4 : Vec Ideal S1x1024x1280 .f32) (v6 : Vec Ideal S1024x1280 .bf16) (x : S1x1024x1280.Idx) :
    k0_pay2 v3 v4 v6 x = v4 x + ∑ k ∈ Finset.range 1024, at2 v3 k (x 1).val * at2 v6 k (x 2).val := by
  rw [← sum_fin (fun k : Fin 1024 => v3 (ix2 k ⟨(x 1).val, (x 1).isLt⟩) * v6 (ix2 k ⟨(x 2).val, (x 2).isLt⟩)) _
    (fun k => congrArg₂ (· * ·) (at2_of_lt v3 k.isLt (x 1).isLt).symm (at2_of_lt v6 k.isLt (x 2).isLt).symm)]
  unfold_payloads
  idx_vars x
  obtain rfl : x0 = 0 := Subsingleton.elim _ _
  pointwise

lemma pay3_eq : k0_pay3 (F := Ideal) = fun v3 v12 v14 => k0_pay2 v3 v12 v14 := by
  funext v3 v12 v14
  unfold k0_pay3 k0_pay2
  rfl

/-- Half of the packed columns' cotangent. -/
lemma at2_half (x1 : Vec Ideal S1024x2560 .bf16) (o : Nat) (ho : o + 1280 ≤ 2560)
    (inb : ∀ a, (![0, o] : Fin 2 → Nat) a + (![1024, 1280] : Fin 2 → Nat) a ≤ S1024x2560.size a) (k l : Nat) (hk : k < 1024) (hl : l < 1280) :
    at2 (View.ld (Val := Elt Ideal) (e' := .bf16) x1 (Rect.unit (s := S1024x2560) ![0, o] ![1024, 1280] inb)) k l = at2 x1 k (o + l) := by
  refine (at2_of_lt _ hk hl).trans ?_
  rw [at2_of_lt x1 hk (by omega)]
  show x1 _ = x1 _
  congr 1
  funext a
  fin_cases a
  · exact Fin.ext (by show 0 + 1 * k = k; omega)
  · exact Fin.ext (by show o + 1 * l = o + l; omega)

/-- The two halves a point stores into the accumulator. -/
lemma canon_halves (L : List (View.Piece (Elt Ideal) S2x1024x1280 .f32)) (x0 : Vec Ideal S1024x1024 .bf16) (x1 : Vec Ideal S1024x2560 .bf16)
    (xs : S2x1024x1280.Idx → EReal) (va vb : Vec Ideal S1x1024x1280 .f32)
    (ha : ∀ (x : S1x1024x1280.Idx) (y : S2x1024x1280.Idx), (y 0).val = 0 → (y 1).val = (x 1).val → (y 2).val = (x 2).val → va x = xs y)
    (hb : ∀ (x : S1x1024x1280.Idx) (y : S2x1024x1280.Idx), (y 0).val = 1 → (y 1).val = (x 1).val → (y 2).val = (x 2).val → vb x = xs y)
    (y : S2x1024x1280.Idx) :
    View.canon (Val := Elt Ideal) (e := .f32) (⟨Rect.unit ![1, 0, 0] ![1, 1024, 1280] inb_S2x1024x1280_S1x1024x1280_1_0_0,
          k0_pay3 x0 vb (View.ld x1 (Rect.unit ![0, 1280] ![1024, 1280] inb_S1024x2560_S1024x1280_0_1280))⟩ ::
        ⟨Rect.unit ![0, 0, 0] ![1, 1024, 1280] inb_S2x1024x1280_S1x1024x1280_0_0_0,
          k0_pay2 x0 va (View.ld x1 (Rect.unit ![0, 0] ![1024, 1280] inb_S1024x2560_S1024x1280_0_0))⟩ :: L) y
      = xs y + term x0 x1 y := by
  have h0 : (y 0).val < 2 := (y 0).isLt
  have h1 : (y 1).val < 1024 := (y 1).isLt
  have h2 : (y 2).val < 1280 := (y 2).isLt
  unfold term
  by_cases hy : (y 0).val = 0
  · refine (canon_miss inb_S2x1024x1280_S1x1024x1280_1_0_0 _ _ _ 0 (Or.inl (by show (y 0).val < 1; omega))).trans ?_
    refine (canon_hit inb_S2x1024x1280_S1x1024x1280_0_0_0 _ _ _ (ix3 0 ⟨(y 1).val, h1⟩ ⟨(y 2).val, h2⟩) (by
      intro a; fin_cases a
      · exact hy
      · show (y 1).val = 0 + (y 1).val; omega
      · show (y 2).val = 0 + (y 2).val; omega)).trans ?_
    refine (pay2_apply _ _ _ _).trans ?_
    refine congrArg₂ (· + ·) (ha _ y hy rfl rfl) (Finset.sum_congr rfl fun k hk => ?_)
    rw [hy]
    exact congrArg (_ * ·) (at2_half x1 0 (by omega) _ k _ (Finset.mem_range.mp hk) h2)
  · have hy : (y 0).val = 1 := by omega
    refine (canon_hit inb_S2x1024x1280_S1x1024x1280_1_0_0 _ _ _ (ix3 0 ⟨(y 1).val, h1⟩ ⟨(y 2).val, h2⟩) (by
      intro a; fin_cases a
      · exact hy
      · show (y 1).val = 0 + (y 1).val; omega
      · show (y 2).val = 0 + (y 2).val; omega)).trans ?_
    rw [pay3_eq]
    refine (pay2_apply _ _ _ _).trans ?_
    refine congrArg₂ (· + ·) (hb _ y hy rfl rfl) (Finset.sum_congr rfl fun k hk => ?_)
    rw [hy]
    exact congrArg (_ * ·) (at2_half x1 1280 (by omega) _ k _ (Finset.mem_range.mp hk) h2)

/-- Half of the accumulator as the point before left it. -/
lemma ld_half (xs : Vec Ideal S2x1024x1280 .f32) (o : Nat)
    (inb : ∀ a, (![o, 0, 0] : Fin 3 → Nat) a + (![1, 1024, 1280] : Fin 3 → Nat) a ≤ S2x1024x1280.size a)
    (x : S1x1024x1280.Idx) (y : S2x1024x1280.Idx) (h0 : (y 0).val = o) (h1 : (y 1).val = (x 1).val) (h2 : (y 2).val = (x 2).val) :
    View.ld (Val := Elt Ideal) (e' := .f32) xs (Rect.unit (s := S2x1024x1280) ![o, 0, 0] ![1, 1024, 1280] inb) x = xs y := by
  show xs _ = xs y
  congr 1
  have hx : (x 0).val < 1 := (x 0).isLt
  funext a
  fin_cases a
  · exact Fin.ext (by show o + 1 * (x 0).val = (y 0).val; omega)
  · exact Fin.ext (by show 0 + 1 * (x 1).val = (y 1).val; omega)
  · exact Fin.ext (by show 0 + 1 * (x 2).val = (y 2).val; omega)

lemma pay1_apply (x : S2x1024x1280.Idx) : k0_pay1 (F := Ideal) x = 0 := by
  unfold_payloads
  idx_vars x
  pointwise

variable (c : Dev nD) (t : Fin cfg0.N)

lemma sout_B (h0 : ¬cond0_0 (grid0.coords t)) (h1 : ¬cond0_1 (grid0.coords t)) (x0 : Vec Ideal S1024x1024 .bf16) (x1 : Vec Ideal S1024x2560 .bf16)
    (xs : Vec Ideal S2x1024x1280 .f32) (y : S2x1024x1280.Idx) :
    sout0_B_0 c (grid0.coords t) (ms0_0 t) (hs0_0 t) (ms0_1 t) (hs0_1 t) (ms0_2 t) (hs0_2 t) scM0_0 (Memref.isWhole_whole _) h0 h1 x0 x1 xs y
      = xs y + term x0 x1 y := by
  rw [sout0_B_0, View.read_writes_eq_canon _ _ _ (scover0_B_0 c _ _ _ _ _ _ _ _ _ _ _ _ _ _)]
  unfold kernelRun0_B
  dsimp only
  sl_unfold_words
  simp only [View.readAt_eq_ld, (hs0_0 t).read_unread, (hs0_1 t).read_unread, (Memref.isWhole_whole _).read_unread, ld_rows]
  exact canon_halves [] x0 x1 xs _ _ (ld_half xs 0 _) (ld_half xs 1 _) y

lemma sout_A (h0 : cond0_0 (grid0.coords t)) (h1 : ¬cond0_1 (grid0.coords t)) (x0 : Vec Ideal S1024x1024 .bf16) (x1 : Vec Ideal S1024x2560 .bf16)
    (y : S2x1024x1280.Idx) :
    sout0_A_0 c (grid0.coords t) (ms0_0 t) (hs0_0 t) (ms0_1 t) (hs0_1 t) (ms0_2 t) (hs0_2 t) scM0_0 (Memref.isWhole_whole _) h0 h1 x0 x1 y
      = 0 + term x0 x1 y := by
  rw [sout0_A_0, View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread, (Memref.isWhole_whole _).read_unread, ld_rows]
  refine canon_halves _ x0 x1 (fun _ => 0) _ _ (fun x y _ _ _ => ?_) (fun x y _ _ _ => ?_) y
  · simp (disch := decide) only [↓ View.readCov_skip, ↓ View.readCov_cons_toLoadRect, ↓ View.readCov_fill]
    exact pay1_apply _
  · simp (disch := decide) only [↓ View.readCov_skip, ↓ View.readCov_cons_toLoadRect, ↓ View.readCov_fill]
    exact pay1_apply _

lemma out_C (h0 : ¬cond0_0 (grid0.coords t)) (h1 : cond0_1 (grid0.coords t)) (x0 : Vec Ideal S1024x1024 .bf16) (x1 : Vec Ideal S1024x2560 .bf16)
    (xs : Vec Ideal S2x1024x1280 .f32) (y : S4x1024x640.Idx) (z : S2x1024x1280.Idx) (hz0 : (z 0).val = (y 0).val / 2) (hz1 : (z 1).val = (y 1).val)
    (hz2 : (z 2).val = (y 0).val % 2 * 640 + (y 2).val) :
    out0_C_2 c (grid0.coords t) (ms0_0 t) (hs0_0 t) (ms0_1 t) (hs0_1 t) (ms0_2 t) (hs0_2 t) scM0_0 (Memref.isWhole_whole _) h0 h1 x0 x1 xs y
      = xs z + term x0 x1 z := by
  rw [out0_C_2, View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread, (Memref.isWhole_whole _).read_unread, ld_rows]
  simp only [View.readCov_eq_canon', canon_halves [] x0 x1 xs _ _ (ld_half xs 0 _) (ld_half xs 1 _)]
  canon_tiles x h
  all_goals
    unfold_payloads
    idx_vars x
    obtain rfl : x0 = 0 := Subsingleton.elim _ _
    pointwise
  all_goals
    rw [ix3_eq z _ _ _ (by rw [hz0, h0]; rfl) (by rw [hz1, h1]) (by rw [hz2, h0, h2]; simp)]

/-! ## The blocks a point reads -/

variable (m : (ℓ : Loc nD τ sig) → Buf (Elt Ideal) ℓ)

lemma e0 : ∀ t : Fin grid0.N, win0_0.index t = ![t.val, 0] := by decide +kernel
lemma e1 : ∀ t : Fin grid0.N, win0_1.index t = ![t.val, 0] := by decide +kernel

lemma blk0 (r l : Nat) (hr : r < 1024) (hl : l < 1024) :
    at2 (iblk m c 0 t) r l = at2 (m (c.tc.loc main_arg0)) (1024 * t.val + r) l := by
  have ht : t.val < 16 := t.isLt
  rw [at2_of_lt _ hr hl, at2_of_lt _ (by omega) hl]
  blk_simp [iblk]
  rw [V_main_arg0]
  congr 1
  blk_ext [e0]

lemma blk1 (r l : Nat) (hr : r < 1024) (hl : l < 2560) :
    at2 (iblk m c 1 t) r l = at2 (m (c.tc.loc main_arg1)) (1024 * t.val + r) l := by
  have ht : t.val < 16 := t.isLt
  rw [at2_of_lt _ hr hl, at2_of_lt _ (by omega) hl]
  blk_simp [iblk]
  rw [V_main_arg1]
  congr 1
  blk_ext [e1]

/-! ## The array the run leaves -/

/-- What point `n` adds to the wide accumulator, from the arrays. -/
def M (n : Nat) (y : S2x1024x1280.Idx) : EReal :=
  ∑ k ∈ Finset.range 1024, at2 (m (c.tc.loc main_arg0)) (1024 * n + k) (y 1).val
    * at2 (m (c.tc.loc main_arg1)) (1024 * n + k) (1280 * (y 0).val + (y 2).val)

lemma term_eq (y : S2x1024x1280.Idx) : term (iblk m c 0 t) (iblk m c 1 t) y = M c m t.val y := by
  have h0 : (y 0).val < 2 := (y 0).isLt
  have h2 : (y 2).val < 1280 := (y 2).isLt
  unfold term M
  refine Finset.sum_congr rfl fun k hk => ?_
  rw [blk0 c t m k _ (Finset.mem_range.mp hk) (y 1).isLt, blk1 c t m k _ (Finset.mem_range.mp hk) (by omega)]

lemma scratch (y : S2x1024x1280.Idx) : ∀ (n : Nat) (hn : n < cfg0.N), n < 15 →
    (outsAt0 m c n hn).2 y = ∑ s ∈ Finset.range (n + 1), M c m s y := by
  intro n
  induction n with
  | zero =>
    intro hn _
    rw [outsAt0_zero, stAt0_A m c ⟨0, hn⟩ _ (Nat.zero_mod _) (by show ¬(0 % 16 = 15); omega)]
    dsimp only
    rw [sout_A]
    rw [term_eq, zero_add, zero_add, Finset.sum_range_one]
  | succ n ih =>
    intro hn h15
    rw [outsAt0_succ, stAt0_B m c ⟨n + 1, hn⟩ _ (by show ¬((n + 1) % 16 = 0); omega) (by show ¬((n + 1) % 16 = 15); omega)]
    dsimp only
    rw [sout_B]
    rw [term_eq, ih _ (by omega), Finset.sum_range_succ _ (n + 1)]

/-- The gradient of the packed projections' weights: in block `b` the sum over all rows of a normed row's entry times the
    cotangent of the packed columns. -/
def dwOf (hb : Ar2 16384 1024) (dz : Ar2 16384 2560) :
    Ar3 4 1024 640 := fun i =>
  ∑ k ∈ Finset.range 16384, at2 hb k (i 1).val * at2 dz k (640 * (i 0).val + (i 2).val)

lemma dwOf_congr {a a' b b'} (h : a = a') (h' : b = b') : dwOf a b = dwOf a' b' := by subst h h'; rfl

/-- What the output's buffer holds after the last point. -/
lemma last_out (i : S4x1024x640.Idx) (n : Nat) (hn : n + 1 < cfg0.N) (h14 : n = 14) :
    (outsAt0 m c (n + 1) hn).1 i = dwOf (m (c.tc.loc main_arg0)) (m (c.tc.loc main_arg1)) i := by
  have h0 : (i 0).val < 4 := (i 0).isLt
  have h1 : (i 1).val < 1024 := (i 1).isLt
  have h2 : (i 2).val < 640 := (i 2).isLt
  rw [outsAt0_succ, stAt0_C m c ⟨n + 1, hn⟩ _ (by show ¬((n + 1) % 16 = 0); omega) (by show (n + 1) % 16 = 15; omega)]
  dsimp only
  rw [out_C c ⟨n + 1, hn⟩ _ _ _ _ _ i (ix3 ⟨(i 0).val / 2, by omega⟩ ⟨(i 1).val, h1⟩ ⟨(i 0).val % 2 * 640 + (i 2).val, by omega⟩) rfl rfl rfl]
  rw [term_eq, scratch c m _ n _ (by omega)]
  refine (Finset.sum_range_succ _ (n + 1)).symm.trans ?_
  unfold dwOf
  rw [← sum_blocks _ 16 1024, show n + 1 + 1 = 16 by omega]
  refine Finset.sum_congr rfl fun s hs => Finset.sum_congr rfl fun k hk => ?_
  have e : 1280 * ((i 0).val / 2) + ((i 0).val % 2 * 640 + (i 2).val) = 640 * (i 0).val + (i 2).val := by omega
  exact congrArg (fun z => _ * at2 _ _ z) e

lemma G2_eq : G2 m c = dwOf (m (c.tc.loc main_arg0)) (m (c.tc.loc main_arg1)) := by
  have hN : cfg0.N = 16 := N_0
  have key : ∀ (n : Nat) (h : 0 + n < cfg0.N), n = 15 →
      (Pipeline.accAt (fun n h => stAt0 m c n h junk0) (stAt0 m c) 0 n h).1 = dwOf (m (c.tc.loc main_arg0)) (m (c.tc.loc main_arg1)) := by
    intro n h h15
    obtain ⟨k, rfl⟩ : ∃ k, n = k + 1 := ⟨14, h15⟩
    rw [← outsAt0_sweep m c (k + 1) (by omega)]
    exact funext fun i => last_out c m i k _ (by omega)
  exact (G2_last m c).trans (key 15 _ rfl)

/-! ## The reference's array -/

section Reference

open Cert.Reference4Ideal.Read

lemma ref_dw (x0 x1) : val_main_v7 (F := Ideal) x0 x1 = dwOf x0 x1 := by
  funext i
  have h0 : (i 0).val < 4 := (i 0).isLt
  have h1 : (i 1).val < 1024 := (i 1).isLt
  have h2 : (i 2).val < 640 := (i 2).isLt
  rw [val_main_v7_apply, val_main_v6_apply, val_main_v5_apply, val_main_v4_apply]
  unfold dwOf
  refine sum_fin _ _ fun k => ?_
  rw [val_main_v3_apply, val_main_v1_apply, mul_comm]
  refine congrArg₂ (· * ·) (at2_eq x0 _ rfl ?_) (at2_eq x1 _ rfl ?_)
  · show ((((i 1).val * 4 + (i 0).val) * 640 + (i 2).val) / 2560) = _
    omega
  · show ((((i 1).val * 4 + (i 0).val) * 640 + (i 2).val) % 2560) = _
    omega

end Reference

/-! ## The claim -/

lemma algebraic_wgrad : Cert.algebraic_Kernel4Ideal_Reference4Ideal := fun m ρ m' ρ' _ hag =>
  ⟨fun c => G2 m c, Cert.Kernel4Ideal.Value.run m ρ,
    (θ_run _ _ _).mono (fun _ h c => by
      obtain ⟨h0, h1⟩ := hag c
      exact ⟨(h c).1.trans ((Cert.Reference4Ideal.Read.val_main_v7_eq _ _).trans ((ref_dw _ _).trans ((dwOf_congr h0 h1).trans (G2_eq c m).symm))),
        (h c).2⟩)
      (Cert.Reference4Ideal.Value.run m' ρ')⟩

end Cert.Proof.InWgrad
-- ==== Proof.Rms.lean ====
module

public import proofs.«01_k».proof.Proof.Sums

@[expose] public section

set_option maxRecDepth 16384

noncomputable section

/-! The gradient of a root-mean-square norm. One text of it multiplies by the reciprocal root three times over; the other differentiates
    the root, the mean and the square in turn. They agree on every row of extended reals: the mean square is a positive real or infinite. -/

namespace Cert.Proof.Rms

open Idealize.ShloMosaic

lemma width_bits : Ideal.ofBits .f32 0x44800000#32 = ((1024 : ℝ) : EReal) := by
  simp [Ideal.ofBits, Ideal.ieee, -EReal.coe_mul]; norm_num

lemma negHalf_bits : Ideal.ofBits .f32 0xBF000000#32 = ((-(1 / 2) : ℝ) : EReal) := by
  simp [Ideal.ofBits, Ideal.ieee, -EReal.coe_mul]; norm_num

lemma eps_bits : ∃ e : ℝ, 0 < e ∧ Ideal.ofBits .f32 0x358637BD#32 = (e : EReal) := by
  refine ⟨(8796093 : ℝ) * ((2 : ℝ) ^ 43)⁻¹, by positivity, ?_⟩
  simp [Ideal.ofBits, Ideal.ieee, -EReal.coe_mul]

/-- The mean of a row of 1024 entries. -/
def mean (f : Nat → EReal) : EReal := Ideal.div (∑ k ∈ Finset.range 1024, f k) (Ideal.ofBits .f32 0x44800000#32)

/-- The mean square, kept away from zero. -/
def var (x : Nat → EReal) : EReal := mean (fun k => x k * x k) + Ideal.ofBits .f32 0x358637BD#32

/-- The reciprocal root by which the norm scales a row. -/
def inv (x : Nat → EReal) : EReal := Ideal.rsqrt (var x)

/-- The gradient of a row under the norm, from the cotangent `d` of the normed row and what else reaches the entry. -/
def dx (base : EReal) (x d : Nat → EReal) (c : Nat) : EReal :=
  base + inv x * (d c - x c * inv x * mean fun k => d k * (x k * inv x))

/-- The factor the plain derivative puts on a row. -/
def coef (x d : Nat → EReal) : EReal :=
  Ideal.div ((∑ k ∈ Finset.range 1024, x k * d k) * (Ideal.ofBits .f32 0xBF000000#32 * Ideal.div (inv x) (var x)))
    (Ideal.ofBits .f32 0x44800000#32)

lemma mean_congr {f f' : Nat → EReal} (h : ∀ k, k < 1024 → f k = f' k) : mean f = mean f' :=
  congrArg (Ideal.div · _) (Finset.sum_congr rfl fun k hk => h k (Finset.mem_range.mp hk))

lemma inv_congr {x x' : Nat → EReal} (h : ∀ k, k < 1024 → x k = x' k) : inv x = inv x' := by
  unfold inv var
  rw [mean_congr (f' := fun k => x' k * x' k) fun k hk => by rw [h k hk]]

/-- The gradient of a row depends on the row's 1024 entries. -/
lemma dx_congr {b b' : EReal} {x x' d d' : Nat → EReal} {c : Nat} (hb : b = b') (hx : ∀ k, k < 1024 → x k = x' k)
    (hd : ∀ k, k < 1024 → d k = d' k) (hc : c < 1024) : dx b x d c = dx b' x' d' c := by
  unfold dx
  rw [hb, inv_congr hx, hx c hc, hd c hc, mean_congr (f' := fun k => d' k * (x' k * inv x')) fun k hk => by rw [hd k hk, hx k hk]]

lemma div_width (a : EReal) : Ideal.div a (Ideal.ofBits .f32 0x44800000#32) = a * ((1 / 1024 : ℝ) : EReal) := by
  rw [width_bits, Ideal.div_coe (by norm_num)]

/-- A positive real distributes over every sum. -/
lemma real_mul_add {a : ℝ} (ha : 0 ≤ a) (x y : EReal) : (a : EReal) * (x + y) = a * x + a * y :=
  EReal.left_distrib_of_nonneg_of_ne_top (by exact_mod_cast ha) (EReal.coe_ne_top _) _ _

lemma real_mul_sub {a : ℝ} (ha : 0 ≤ a) (x y : EReal) : (a : EReal) * (x - y) = a * x - a * y := by
  rw [sub_eq_add_neg, real_mul_add ha, mul_neg, ← sub_eq_add_neg]

lemma real_mul_sum {a : ℝ} (ha : 0 ≤ a) (n : Nat) (f : Nat → EReal) :
    ∑ k ∈ Finset.range n, (a : EReal) * f k = a * ∑ k ∈ Finset.range n, f k := by
  induction n with
  | zero => simp
  | succ n ih => rw [Finset.sum_range_succ, Finset.sum_range_succ, ih, real_mul_add ha]

lemma sq_nonneg' (a : EReal) : 0 ≤ a * a := by
  rcases le_total 0 a with h | h
  · exact mul_nonneg h h
  · have h' : 0 ≤ -a := EReal.neg_nonneg.mpr h
    have := mul_nonneg h' h'
    rwa [neg_mul_neg] at this

/-- The mean square is a positive real or infinite. -/
lemma var_cases (x : Nat → EReal) : var x = ⊤ ∨ ∃ v : ℝ, 0 < v ∧ var x = (v : EReal) := by
  obtain ⟨e, he, hb⟩ := eps_bits
  unfold var mean
  rw [div_width, hb]
  have h : 0 ≤ ∑ k ∈ Finset.range 1024, x k * x k := Finset.sum_nonneg fun k _ => sq_nonneg' _
  generalize (∑ k ∈ Finset.range 1024, x k * x k) = s at h
  induction s with
  | bot => simp at h
  | top => left; rw [EReal.top_mul_coe_of_pos (by norm_num)]; rfl
  | coe s =>
    right
    have hs : 0 ≤ s := by exact_mod_cast h
    exact ⟨s * (1 / 1024) + e, by positivity, by push_cast; rfl⟩

lemma half_twice (a : EReal) (b : ℝ) : a * ((-(b / 2) : ℝ) : EReal) + a * ((-(b / 2) : ℝ) : EReal) = -(a * (b : EReal)) := by
  rw [← mul_neg, ← EReal.coe_neg]
  by_cases hb : 0 ≤ b
  · have h : ∀ z : ℝ, a * ((-z : ℝ) : EReal) = -(a * (z : EReal)) := fun z => by rw [EReal.coe_neg, mul_neg]
    rw [h, h, mul_comm a, mul_comm a]
    have := (EReal.right_distrib_of_nonneg (a := ((b / 2 : ℝ) : EReal)) (b := ((b / 2 : ℝ) : EReal)) (c := -a) (by exact_mod_cast by positivity)
      (by exact_mod_cast by positivity)).symm
    rw [mul_neg, mul_neg] at this
    rw [this, ← EReal.coe_add, add_halves]
  · have := (EReal.right_distrib_of_nonneg (a := ((-(b / 2) : ℝ) : EReal)) (b := ((-(b / 2) : ℝ) : EReal)) (c := a)
      (by exact_mod_cast by linarith) (by exact_mod_cast by linarith)).symm
    rw [mul_comm a, this, ← EReal.coe_add, mul_comm]
    congr 2
    ring

/-- The plain derivative of the norm is the gradient. -/
lemma dx_eq (base : EReal) (x d : Nat → EReal) (c : Nat) :
    base + d c * inv x + x c * coef x d + coef x d * x c = dx base x d c := by
  unfold dx coef mean
  simp only [div_width]
  rw [negHalf_bits, add_assoc (base + _), mul_comm _ (x c), add_assoc base]
  congr 1
  have hi : inv x = Ideal.rsqrt (var x) := rfl
  rcases var_cases x with h | ⟨v, hv, h⟩
  · rw [hi, h]
    simp [Ideal.div]
  · have hr : 0 < (Real.sqrt v)⁻¹ := by positivity
    have hri : inv x = (((Real.sqrt v)⁻¹ : ℝ) : EReal) := by
      rw [hi, h, Ideal.rsqrt_coe, if_neg (by linarith), if_neg hv.ne']
    rw [hri, h]
    have hv2 : 1 / v = (Real.sqrt v)⁻¹ * (Real.sqrt v)⁻¹ := by
      rw [← mul_inv, Real.mul_self_sqrt hv.le, one_div]
    rw [Ideal.div_coe hv.ne', hv2]
    generalize (Real.sqrt v)⁻¹ = r at hr
    rw [← EReal.coe_mul, ← EReal.coe_mul, real_mul_sub hr.le, sub_eq_add_neg, mul_comm (d c)]
    congr 1
    have hs : (∑ k ∈ Finset.range 1024, d k * (x k * (r : EReal))) = r * ∑ k ∈ Finset.range 1024, x k * d k := by
      rw [← real_mul_sum hr.le]
      exact Finset.sum_congr rfl fun k _ => by rw [mul_comm (x k), mul_left_comm, mul_comm (r : EReal), mul_comm (r : EReal)]; ac_rfl
    rw [hs]
    generalize (∑ k ∈ Finset.range 1024, x k * d k) = T
    have e1 : x c * (T * ((-(1 / 2) * (r * (r * r)) : ℝ) : EReal) * ((1 / 1024 : ℝ) : EReal))
        = x c * T * ((-(r * r * r * (1 / 1024) / 2) : ℝ) : EReal) := by
      rw [mul_assoc T, ← EReal.coe_mul, ← mul_assoc]
      congr 2
      ring
    have e2 : (r : EReal) * (x c * r * (r * T * ((1 / 1024 : ℝ) : EReal))) = x c * T * ((r * r * r * (1 / 1024) : ℝ) : EReal) := by
      rw [EReal.coe_mul, EReal.coe_mul, EReal.coe_mul]
      ac_rfl
    rw [e1, e2, half_twice]

end Cert.Proof.Rms
-- ==== Proof.InBwd.lean ====
module

public import proofs.«01_k».proof.Proof.Rms
public import proofs.«01_k».proof.Proof.Gen.Kernel5Ideal.Value
public import proofs.«01_k».proof.Proof.Gen.Reference5Ideal.Read
public import Idealize.ShloMosaic.Lib.Pipeline.ReadBack
public import proofs.«01_k».proof.Defs

@[expose] public section

set_option maxRecDepth 16384

noncomputable section

namespace Cert.Proof.InBwd

open Cert.Kernel5Ideal Cert.Kernel5Ideal.Gen Cert.Kernel5Ideal.Value Idealize.ShloMosaic Idealize.ShloMosaic.TcCoe Idealize.SL.Sem
  Idealize.ShloMosaic.Tactic

/-! ## The body at an index -/

/-- The cotangent of a normed row, from the packed columns' cotangent and the wide weights. -/
def dh (x3 : Vec Ideal S512x2560 .bf16) (w : Vec Ideal S2x1024x1280 .bf16) (r l : Nat) : EReal :=
  ∑ k ∈ Finset.range 1280, at2 x3 r k * at3 w 0 l k + ∑ k ∈ Finset.range 1280, at2 x3 r (1280 + k) * at3 w 1 l k

lemma pay9_apply (v6 : Vec Ideal S512x1280 .bf16) (v7 : Vec Ideal S1x1024x1280 .bf16) (v10 : Vec Ideal S512x1280 .bf16)
    (v11 : Vec Ideal S1x1024x1280 .bf16) (x : S512x1024.Idx) :
    k0_pay9 v6 v7 v10 v11 x = ∑ k ∈ Finset.range 1280, at2 v6 (x 0).val k * at3 v7 0 (x 1).val k
      + ∑ k ∈ Finset.range 1280, at2 v10 (x 0).val k * at3 v11 0 (x 1).val k := by
  rw [← sum_fin (fun k : Fin 1280 => v6 (ix2 ⟨(x 0).val, (x 0).isLt⟩ k) * v7 (ix3 0 ⟨(x 1).val, (x 1).isLt⟩ k)) _
    (fun k => congrArg₂ (· * ·) (at2_of_lt v6 (x 0).isLt k.isLt).symm (at3_of_lt v7 Nat.one_pos (x 1).isLt k.isLt).symm),
    ← sum_fin (fun k : Fin 1280 => v10 (ix2 ⟨(x 0).val, (x 0).isLt⟩ k) * v11 (ix3 0 ⟨(x 1).val, (x 1).isLt⟩ k)) _
    (fun k => congrArg₂ (· * ·) (at2_of_lt v10 (x 0).isLt k.isLt).symm (at3_of_lt v11 Nat.one_pos (x 1).isLt k.isLt).symm)]
  unfold_payloads
  idx_vars x
  pointwise

lemma pay10_apply (v15 : Vec Ideal S512x1024 .f32) (x : S512x1.Idx) : k0_pay10 v15 x = Rms.inv (at2 v15 (x 0).val) := by
  unfold Rms.inv Rms.var Rms.mean
  rw [← sum_fin (fun k : Fin 1024 => v15 (ix2 ⟨(x 0).val, (x 0).isLt⟩ k) * v15 (ix2 ⟨(x 0).val, (x 0).isLt⟩ k)) _
    (fun k => congrArg₂ (· * ·) (at2_of_lt v15 (x 0).isLt k.isLt).symm (at2_of_lt v15 (x 0).isLt k.isLt).symm)]
  unfold_payloads
  idx_vars x
  obtain rfl : x1 = 0 := Subsingleton.elim _ _
  pointwise

lemma pay11_apply (v15 : Vec Ideal S512x1024 .f32) (x : S512x1024.Idx) :
    k0_pay11 v15 x = at2 v15 (x 0).val (x 1).val * Rms.inv (at2 v15 (x 0).val) := by
  have hx : (x 0).val < 512 := (x 0).isLt
  have e : Rms.inv (at2 v15 (x 0).val) = k0_pay10 v15 (ix2 (⟨(x 0).val, hx⟩ : Fin 512) (0 : Fin 1)) :=
    (pay10_apply v15 (ix2 (⟨(x 0).val, hx⟩ : Fin 512) (0 : Fin 1))).symm
  rw [at2_of_lt v15 hx (x 1).isLt, e]
  unfold k0_pay11
  generalize k0_pay10 v15 = w
  idx_vars x
  pointwise

lemma pay12_apply (v6 : Vec Ideal S512x1280 .bf16) (v7 : Vec Ideal S1x1024x1280 .bf16) (v10 : Vec Ideal S512x1280 .bf16)
    (v11 : Vec Ideal S1x1024x1280 .bf16) (v16 : Vec Ideal S1x1024 .f32) (x : S512x1024.Idx) :
    k0_pay12 v6 v7 v10 v11 v16 x = k0_pay9 v6 v7 v10 v11 x * at2 v16 0 (x 1).val := by
  rw [at2_of_lt v16 Nat.one_pos (x 1).isLt]
  unfold k0_pay12
  generalize k0_pay9 v6 v7 v10 v11 = w
  idx_vars x
  pointwise

lemma pay1_apply (v18 : Vec Ideal S512x1024 .f32) (v26 : FVec Ideal S512x1 .f32) (v28 v30 v31 : FVec Ideal S512x1024 .f32) (x : S512x1024.Idx) :
    k0_pay1 v18 v26 v28 v30 v31 x = v18 x + v26 (ix2 ⟨(x 0).val, (x 0).isLt⟩ 0) * (v30 x - v28 x * Rms.mean (at2 v31 (x 0).val)) := by
  unfold Rms.mean
  rw [← sum_fin (fun k : Fin 1024 => v31 (ix2 ⟨(x 0).val, (x 0).isLt⟩ k)) _ (fun k => (at2_of_lt v31 (x 0).isLt k.isLt).symm)]
  unfold_payloads
  idx_vars x
  pointwise

lemma pay2_apply (v18 : Vec Ideal S512x1024 .f32) (v26 : FVec Ideal S512x1 .f32) (v28 v30 v31 : FVec Ideal S512x1024 .f32) (x : S512x1024.Idx) :
    k0_pay2 v18 v26 v28 v30 v31 x = k0_pay1 v18 v26 v28 v30 v31 x := by
  unfold k0_pay2
  generalize k0_pay1 v18 v26 v28 v30 v31 = w
  pointwise

lemma pay3_apply (v14 v28 : FVec Ideal S512x1024 .f32) (v48 : Vec Ideal S1x1024 .f32) (x : S1x1024.Idx) :
    k0_pay3 v14 v28 v48 x = v48 x + ∑ k ∈ Finset.range 512, at2 v14 k (x 1).val * at2 v28 k (x 1).val := by
  rw [← sum_fin (fun k : Fin 512 => v14 (ix2 k ⟨(x 1).val, (x 1).isLt⟩) * v28 (ix2 k ⟨(x 1).val, (x 1).isLt⟩)) _
    (fun k => congrArg₂ (· * ·) (at2_of_lt v14 k.isLt (x 1).isLt).symm (at2_of_lt v28 k.isLt (x 1).isLt).symm)]
  unfold_payloads
  idx_vars x
  obtain rfl : x0 = 0 := Subsingleton.elim _ _
  pointwise

/-! ## A point's results over the wide weights -/

section Blocks

variable (x0 : Vec Ideal S512x1024 .f32) (x1 : Vec Ideal S1x1024 .f32) (x2 : Vec Ideal S512x1024 .f32) (x3 : Vec Ideal S512x2560 .bf16)
  (w : Vec Ideal S2x1024x1280 .bf16)

/-- The gradient of the point's rows. -/
def dxB (y : S512x1024.Idx) : EReal :=
  Rms.dx (x2 y) (at2 x0 (y 0).val) (fun k => dh x3 w (y 0).val k * at2 x1 0 k) (y 1).val

/-- What the point adds to the scale's gradient. -/
def dgB (y : S1x1024.Idx) : EReal :=
  ∑ k ∈ Finset.range 512, dh x3 w k (y 1).val * (at2 x0 k (y 1).val * Rms.inv (at2 x0 k))

variable (v6 : Vec Ideal S512x1280 .bf16) (v7 : Vec Ideal S1x1024x1280 .bf16) (v10 : Vec Ideal S512x1280 .bf16)
    (v11 : Vec Ideal S1x1024x1280 .bf16)
  (h6 : ∀ r k, r < 512 → k < 1280 → at2 v6 r k = at2 x3 r k) (h10 : ∀ r k, r < 512 → k < 1280 → at2 v10 r k = at2 x3 r (1280 + k))
  (h7 : ∀ r k, r < 1024 → k < 1280 → at3 v7 0 r k = at3 w 0 r k) (h11 : ∀ r k, r < 1024 → k < 1280 → at3 v11 0 r k = at3 w 1 r k)

include h6 h10 h7 h11

lemma pay9_dh (x : S512x1024.Idx) : k0_pay9 v6 v7 v10 v11 x = dh x3 w (x 0).val (x 1).val := by
  rw [pay9_apply]
  unfold dh
  refine congrArg₂ (· + ·) (Finset.sum_congr rfl fun k hk => ?_) (Finset.sum_congr rfl fun k hk => ?_)
  · rw [h6 _ _ (x 0).isLt (Finset.mem_range.mp hk), h7 _ _ (x 1).isLt (Finset.mem_range.mp hk)]
  · rw [h10 _ _ (x 0).isLt (Finset.mem_range.mp hk), h11 _ _ (x 1).isLt (Finset.mem_range.mp hk)]

lemma dx_blk (y : S512x1024.Idx) :
    k0_pay1 x2 (k0_pay10 x0) (k0_pay11 x0) (k0_pay12 v6 v7 v10 v11 x1) (k0_pay13 v6 v7 v10 v11 x0 x1) y = dxB x0 x1 x2 x3 w y := by
  rw [pay1_apply, pay10_apply, pay11_apply, pay12_apply, pay9_dh x3 w v6 v7 v10 v11 h6 h10 h7 h11]
  unfold dxB Rms.dx
  refine congrArg (fun z : EReal => x2 y + Rms.inv (at2 x0 (y 0).val) * (dh x3 w (y 0).val (y 1).val * at2 x1 0 (y 1).val
    - at2 x0 (y 0).val (y 1).val * Rms.inv (at2 x0 (y 0).val) * z)) ?_
  unfold Rms.mean
  refine congrArg (Ideal.div · _) (Finset.sum_congr rfl fun k hk => ?_)
  have hk := Finset.mem_range.mp hk
  refine (at2_of_lt _ (y 0).isLt hk).trans ?_
  unfold k0_pay13
  refine congrArg₂ (· * ·) ((pay12_apply _ _ _ _ _ _).trans ?_) (pay11_apply _ _)
  exact congrArg (· * at2 x1 0 k) (pay9_dh x3 w v6 v7 v10 v11 h6 h10 h7 h11 _)

lemma dg_blk (v48 : Vec Ideal S1x1024 .f32) (y : S1x1024.Idx) :
    k0_pay3 (k0_pay9 v6 v7 v10 v11) (k0_pay11 x0) v48 y = v48 y + dgB x0 x3 w y := by
  rw [pay3_apply]
  unfold dgB
  refine congrArg (_ + ·) (Finset.sum_congr rfl fun k hk => ?_)
  have hk := Finset.mem_range.mp hk
  refine congrArg₂ (· * ·) ((at2_of_lt _ hk (y 1).isLt).trans (pay9_dh x3 w v6 v7 v10 v11 h6 h10 h7 h11 _))
    ((at2_of_lt _ hk (y 1).isLt).trans (pay11_apply _ _))

end Blocks

/-! ## What the body's stores leave -/

lemma ld_x (X : Vec Ideal S512x1024 .f32) (inb : ∀ a, (![0, 0] : Fin 2 → Nat) a + (![512, 1024] : Fin 2 → Nat) a ≤ S512x1024.size a) :
    View.ld (Val := Elt Ideal) (e' := .f32) X (Rect.unit (s := S512x1024) ![0, 0] ![512, 1024] inb) = X := View.ld_unit_lit inb X (by decide)

lemma ld_g (X : Vec Ideal S1x1024 .f32) (inb : ∀ a, (![0, 0] : Fin 2 → Nat) a + (![1, 1024] : Fin 2 → Nat) a ≤ S1x1024.size a) :
    View.ld (Val := Elt Ideal) (e' := .f32) X (Rect.unit (s := S1x1024) ![0, 0] ![1, 1024] inb) = X := View.ld_unit_lit inb X (by decide)

/-- Half of the packed columns' cotangent. -/
lemma at2_half (x3 : Vec Ideal S512x2560 .bf16) (o : Nat) (ho : o + 1280 ≤ 2560)
    (inb : ∀ a, (![0, o] : Fin 2 → Nat) a + (![512, 1280] : Fin 2 → Nat) a ≤ S512x2560.size a) (k l : Nat) (hk : k < 512) (hl : l < 1280) :
    at2 (View.ld (Val := Elt Ideal) (e' := .bf16) x3 (Rect.unit (s := S512x2560) ![0, o] ![512, 1280] inb)) k l = at2 x3 k (o + l) := by
  refine (at2_of_lt _ hk hl).trans ?_
  rw [at2_of_lt x3 hk (by omega)]
  show x3 _ = x3 _
  congr 1
  funext a
  fin_cases a
  · exact Fin.ext (by show 0 + 1 * k = k; omega)
  · exact Fin.ext (by show o + 1 * l = o + l; omega)

lemma at2_half0 (x3 : Vec Ideal S512x2560 .bf16)
    (inb : ∀ a, (![0, 0] : Fin 2 → Nat) a + (![512, 1280] : Fin 2 → Nat) a ≤ S512x2560.size a) (k l : Nat) (hk : k < 512) (hl : l < 1280) :
    at2 (View.ld (Val := Elt Ideal) (e' := .bf16) x3 (Rect.unit (s := S512x2560) ![0, 0] ![512, 1280] inb)) k l = at2 x3 k l :=
  (at2_half x3 0 (by omega) inb k l hk hl).trans (by rw [zero_add])

/-- Half of the wide weights. -/
lemma at3_half (w : Vec Ideal S2x1024x1280 .bf16) (o : Nat) (ho : o < 2)
    (inb : ∀ a, (![o, 0, 0] : Fin 3 → Nat) a + (![1, 1024, 1280] : Fin 3 → Nat) a ≤ S2x1024x1280.size a) (k l : Nat) (hk : k < 1024) (hl : l < 1280) :
    at3 (View.ld (Val := Elt Ideal) (e' := .bf16) w (Rect.unit (s := S2x1024x1280) ![o, 0, 0] ![1, 1024, 1280] inb)) 0 k l = at3 w o k l := by
  refine (at3_of_lt _ Nat.one_pos hk hl).trans ?_
  rw [at3_of_lt w ho hk hl]
  show w _ = w _
  congr 1
  funext a
  fin_cases a
  · exact Fin.ext (by show o + 1 * 0 = o; omega)
  · exact Fin.ext (by show 0 + 1 * k = k; omega)
  · exact Fin.ext (by show 0 + 1 * l = l; omega)

/-- The weights of the layer as the scratch keeps them: two halves of the packed columns. -/
def wide (x4 : Vec Ideal S4x1x1024x640 .bf16) : Vec Ideal S2x1024x1280 .bf16 := fun y =>
  at4 x4 (2 * (y 0).val + (y 2).val / 640) 0 (y 1).val ((y 2).val % 640)

variable (c : Dev nD) (t : Fin cfg0.N)
  (x0 : Vec Ideal S512x1024 .f32) (x1 : Vec Ideal S1x1024 .f32) (x2 : Vec Ideal S512x1024 .f32) (x3 : Vec Ideal S512x2560 .bf16)
  (x4 : Vec Ideal S4x1x1024x640 .bf16) (xo : Vec Ideal S1x1024 .f32) (xs : Vec Ideal S2x1024x1280 .bf16)

lemma out5_B (h0 : ¬cond0_0 (grid0.coords t)) (h1 : ¬cond0_1 (grid0.coords t)) (y : S512x1024.Idx) :
    out0_B_5 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0 (Memref.isWhole_whole _) h0 h1 x0 x1 x2 x3 x4 xo xs y
      = dxB x0 x1 x2 x3 xs y := by
  rw [out0_B_5, View.read_writes_eq_canon _ _ _ (cover0_B_5 c _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (Memref.isWhole_whole _).read_unread, ld_x, ld_g]
  refine (canon_hit inb_S512x1024_S512x1024_0_0 _ [] y y fun a => ?_).trans ?_
  · fin_cases a
    · exact (Nat.zero_add _).symm
    · exact (Nat.zero_add _).symm
  exact dx_blk x0 x1 x2 x3 xs _ _ _ _ (at2_half0 x3 _) (at2_half x3 1280 (by omega) _) (at3_half xs 0 (by omega) _) (at3_half xs 1 (by omega) _) y

lemma pay4_apply (v : Vec Ideal S1x1x1024x640 .bf16) (z : S1x1024x640.Idx) : k0_pay4 v z = at4 v 0 0 (z 1).val (z 2).val := by
  rw [at4_of_lt v Nat.one_pos Nat.one_pos (z 1).isLt (z 2).isLt]
  unfold_payloads
  idx_vars z
  obtain rfl : z0 = 0 := Subsingleton.elim _ _
  pointwise

lemma pay5_eq : k0_pay5 (F := Ideal) = k0_pay4 := by unfold k0_pay5 k0_pay4; rfl
lemma pay6_eq : k0_pay6 (F := Ideal) = k0_pay4 := by unfold k0_pay6 k0_pay4; rfl
lemma pay7_eq : k0_pay7 (F := Ideal) = k0_pay4 := by unfold k0_pay7 k0_pay4; rfl

lemma at4_blk (o : Nat) (ho : o < 4)
    (inb : ∀ a, (![o, 0, 0, 0] : Fin 4 → Nat) a + (![1, 1, 1024, 640] : Fin 4 → Nat) a ≤ S4x1x1024x640.size a) (k l : Nat) (hk : k < 1024)
    (hl : l < 640) :
    at4 (View.ld (Val := Elt Ideal) (e' := .bf16) x4 (Rect.unit (s := S4x1x1024x640) ![o, 0, 0, 0] ![1, 1, 1024, 640] inb)) 0 0 k l = at4 x4 o 0 k l := by
  refine (at4_of_lt _ Nat.one_pos Nat.one_pos hk hl).trans ?_
  rw [at4_of_lt x4 ho Nat.one_pos hk hl]
  show x4 _ = x4 _
  congr 1
  funext a
  fin_cases a
  · exact Fin.ext (by show o + 1 * 0 = o; omega)
  · rfl
  · exact Fin.ext (by show 0 + 1 * k = k; omega)
  · exact Fin.ext (by show 0 + 1 * l = l; omega)

lemma canon_wide (y : S2x1024x1280.Idx) :
    View.canon (Val := Elt Ideal) (e := .bf16)
      [⟨Rect.unit ![1, 0, 640] ![1, 1024, 640] inb_S2x1024x1280_S1x1024x640_1_0_640,
          k0_pay7 (View.ld x4 (Rect.unit ![3, 0, 0, 0] ![1, 1, 1024, 640] inb_S4x1x1024x640_S1x1x1024x640_3_0_0_0))⟩,
        ⟨Rect.unit ![1, 0, 0] ![1, 1024, 640] inb_S2x1024x1280_S1x1024x640_1_0_0,
          k0_pay6 (View.ld x4 (Rect.unit ![2, 0, 0, 0] ![1, 1, 1024, 640] inb_S4x1x1024x640_S1x1x1024x640_2_0_0_0))⟩,
        ⟨Rect.unit ![0, 0, 640] ![1, 1024, 640] inb_S2x1024x1280_S1x1024x640_0_0_640,
          k0_pay5 (View.ld x4 (Rect.unit ![1, 0, 0, 0] ![1, 1, 1024, 640] inb_S4x1x1024x640_S1x1x1024x640_1_0_0_0))⟩,
        ⟨Rect.unit ![0, 0, 0] ![1, 1024, 640] inb_S2x1024x1280_S1x1024x640_0_0_0,
          k0_pay4 (View.ld x4 (Rect.unit ![0, 0, 0, 0] ![1, 1, 1024, 640] inb_S4x1x1024x640_S1x1x1024x640_0_0_0_0))⟩] y
      = wide x4 y := by
  have key : ∀ (o : Nat) (ho : o < 4) (inb) (x : S1x1024x640.Idx), (y 0).val = o / 2 → (y 1).val = (x 1).val → (y 2).val = o % 2 * 640 + (x 2).val →
      k0_pay4 (F := Ideal) (View.ld (Val := Elt Ideal) (e' := .bf16) x4 (Rect.unit (s := S4x1x1024x640) ![o, 0, 0, 0] ![1, 1, 1024, 640] inb)) x
        = wide x4 y := by
    intro o ho inb x e0 e1 e2
    have h2 : (x 2).val < 640 := (x 2).isLt
    rw [pay4_apply, at4_blk x4 o ho inb _ _ (x 1).isLt h2]
    unfold wide
    rw [e0, e1, e2, show 2 * (o / 2) + (o % 2 * 640 + (x 2).val) / 640 = o by omega, show (o % 2 * 640 + (x 2).val) % 640 = (x 2).val by omega]
  rw [pay5_eq, pay6_eq, pay7_eq]
  canon_tiles x h
  · exact key 3 (by omega) _ x (by omega) h1 (by omega)
  · exact key 2 (by omega) _ x (by omega) h1 (by omega)
  · exact key 1 (by omega) _ x (by omega) h1 (by omega)
  · exact key 0 (by omega) _ x (by omega) h1 (by omega)

lemma sout_A (h0 : cond0_0 (grid0.coords t)) (h1 : cond0_1 (grid0.coords t)) (y : S2x1024x1280.Idx) :
    sout0_A_0 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0 (Memref.isWhole_whole _) h0 h1 x0 x1 x2 x3 x4 y = wide x4 y := by
  rw [sout0_A_0, View.read_writes_eq_canon _ _ _ (scover0_A_0 c _ _ _ _ _ _ _ _ _ _ _ _ _ _ _ _ _ _ _ _ _ _ _ _ _ _)]
  unfold kernelRun0_A
  dsimp only
  sl_unfold_words
  simp only [View.readAt_eq_ld, (hs0_4 t).read_unread]
  exact canon_wide x4 y

lemma out6_B (h0 : ¬cond0_0 (grid0.coords t)) (h1 : ¬cond0_1 (grid0.coords t)) (y : S512x1024.Idx) :
    out0_B_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0 (Memref.isWhole_whole _) h0 h1 x0 x1 x2 x3 x4 xo xs y
      = dxB x0 x1 x2 x3 xs y := by
  rw [out0_B_6, View.read_writes_eq_canon _ _ _ (cover0_B_6 c _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_7 t).read_unread, (Memref.isWhole_whole _).read_unread, ld_x, ld_g]
  refine (canon_hit inb_S512x1024_S512x1024_0_0 _ [] y y fun a => ?_).trans ?_
  · fin_cases a
    · exact (Nat.zero_add _).symm
    · exact (Nat.zero_add _).symm
  refine (pay2_apply _ _ _ _ _ y).trans ?_
  exact dx_blk x0 x1 x2 x3 xs _ _ _ _ (at2_half0 x3 _) (at2_half x3 1280 (by omega) _) (at3_half xs 0 (by omega) _) (at3_half xs 1 (by omega) _) y

lemma out7_B (h0 : ¬cond0_0 (grid0.coords t)) (h1 : ¬cond0_1 (grid0.coords t)) (y : S1x1024.Idx) :
    out0_B_7 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0 (Memref.isWhole_whole _) h0 h1 x0 x1 x2 x3 x4 xo xs y
      = xo y + dgB x0 x3 xs y := by
  rw [out0_B_7, View.read_writes_eq_canon _ _ _ (cover0_B_7 c _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_7 t).read_unread, (Memref.isWhole_whole _).read_unread, ld_x, ld_g]
  refine (canon_hit inb_S1x1024_S1x1024_0_0 _ [] y y fun a => ?_).trans ?_
  · fin_cases a
    · exact (Nat.zero_add _).symm
    · exact (Nat.zero_add _).symm
  exact dg_blk x0 x3 xs _ _ _ _ (at2_half0 x3 _) (at2_half x3 1280 (by omega) _) (at3_half xs 0 (by omega) _) (at3_half xs 1 (by omega) _) xo y

lemma out5_A (h0 : cond0_0 (grid0.coords t)) (h1 : cond0_1 (grid0.coords t)) (y : S512x1024.Idx) :
    out0_A_5 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0 (Memref.isWhole_whole _) h0 h1 x0 x1 x2 x3 x4 y
      = dxB x0 x1 x2 x3 (wide x4) y := by
  rw [out0_A_5, View.read_writes_eq_canon _ _ _ (cover0_A_5 c _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_7 t).read_unread, (Memref.isWhole_whole _).read_unread, ld_x, ld_g]
  simp only [View.readCov_eq_canon', canon_wide x4]
  refine (canon_hit inb_S512x1024_S512x1024_0_0 _ _ y y fun a => ?_).trans ?_
  · fin_cases a
    · exact (Nat.zero_add _).symm
    · exact (Nat.zero_add _).symm
  exact dx_blk x0 x1 x2 x3 (wide x4) _ _ _ _ (at2_half0 x3 _) (at2_half x3 1280 (by omega) _) (at3_half (wide x4) 0 (by omega) _) (at3_half (wide x4) 1 (by omega) _) y

lemma out6_A (h0 : cond0_0 (grid0.coords t)) (h1 : cond0_1 (grid0.coords t)) (y : S512x1024.Idx) :
    out0_A_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0 (Memref.isWhole_whole _) h0 h1 x0 x1 x2 x3 x4 y
      = dxB x0 x1 x2 x3 (wide x4) y := by
  rw [out0_A_6, View.read_writes_eq_canon _ _ _ (cover0_A_6 c _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_7 t).read_unread, (Memref.isWhole_whole _).read_unread, ld_x, ld_g]
  simp only [View.readCov_eq_canon', canon_wide x4]
  refine (canon_hit inb_S512x1024_S512x1024_0_0 _ _ y y fun a => ?_).trans ?_
  · fin_cases a
    · exact (Nat.zero_add _).symm
    · exact (Nat.zero_add _).symm
  refine (pay2_apply _ _ _ _ _ y).trans ?_
  exact dx_blk x0 x1 x2 x3 (wide x4) _ _ _ _ (at2_half0 x3 _) (at2_half x3 1280 (by omega) _) (at3_half (wide x4) 0 (by omega) _) (at3_half (wide x4) 1 (by omega) _) y

lemma pay8_apply (y : S1x1024.Idx) : k0_pay8 (F := Ideal) y = 0 := by
  unfold_payloads
  idx_vars y
  pointwise

lemma out7_A (h0 : cond0_0 (grid0.coords t)) (h1 : cond0_1 (grid0.coords t)) (y : S1x1024.Idx) :
    out0_A_7 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0 (Memref.isWhole_whole _) h0 h1 x0 x1 x2 x3 x4 y
      = 0 + dgB x0 x3 (wide x4) y := by
  rw [out0_A_7, View.read_writes_eq_canon _ _ _ (cover0_A_7 c _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_7 t).read_unread, (Memref.isWhole_whole _).read_unread, ld_x, ld_g]
  refine (canon_hit inb_S1x1024_S1x1024_0_0 _ _ y y fun a => ?_).trans ?_
  · fin_cases a
    · exact (Nat.zero_add _).symm
    · exact (Nat.zero_add _).symm
  simp only [View.readCov_eq_canon', canon_wide x4]
  refine (dg_blk x0 x3 (wide x4) _ _ _ _ (at2_half0 x3 _) (at2_half x3 1280 (by omega) _) (at3_half (wide x4) 0 (by omega) _) (at3_half (wide x4) 1 (by omega) _) _ y).trans (congrArg (· + _) ?_)
  refine (canon_hit inb_S1x1024_S1x1024_0_0 _ [] _ y fun a => ?_).trans ?_
  · fin_cases a
    · show 0 + 1 * (y 0).val = 0 + (y 0).val; omega
    · show 0 + 1 * (y 1).val = 0 + (y 1).val; omega
  · exact pay8_apply y

/-! ## The blocks a point reads -/

variable (m : (ℓ : Loc nD τ sig) → Buf (Elt Ideal) ℓ)

lemma e0 : ∀ t : Fin grid0.N, win0_0.index t = ![t.val, 0] := by decide +kernel
lemma e1 : ∀ t : Fin grid0.N, win0_1.index t = ![0, 0] := by decide +kernel
lemma e2 : ∀ t : Fin grid0.N, win0_2.index t = ![t.val, 0] := by decide +kernel
lemma e3 : ∀ t : Fin grid0.N, win0_3.index t = ![t.val, 0] := by decide +kernel
lemma e4 : ∀ t : Fin grid0.N, win0_4.index t = ![0, 0, 0, 0] := by decide +kernel
lemma e5 : ∀ t : Fin grid0.N, win0_5.index t = ![t.val, 0] := by decide +kernel
lemma e6 : ∀ t : Fin grid0.N, win0_6.index t = ![t.val, 0] := by decide +kernel
lemma e7 : ∀ t : Fin grid0.N, win0_7.index t = ![0, 0] := by decide +kernel

lemma blk0 (r l : Nat) (hr : r < 512) (hl : l < 1024) :
    at2 (iblk m c 0 t) r l = at2 (m (c.tc.loc main_arg0)) (512 * t.val + r) l := by
  have ht : t.val < 32 := t.isLt
  rw [at2_of_lt _ hr hl, at2_of_lt _ (by omega) hl]
  blk_simp [iblk]
  rw [V_main_arg0]
  congr 1
  blk_ext [e0]

lemma blk1 (l : Nat) (hl : l < 1024) : at2 (iblk m c 1 t) 0 l = at2 (m (c.tc.loc main_arg1)) 0 l := by
  have ht : t.val < 32 := t.isLt
  rw [at2_of_lt _ Nat.one_pos hl, at2_of_lt _ (by omega) hl]
  blk_simp [iblk]
  entry_read
  rw [show ((View.whole main_v2).slice (win0_1.rect t)).emb (ix2 0 ⟨l, hl⟩) = ix2 0 ⟨l, hl⟩ from by blk_ext [e1]]
  pointwise

lemma blk2 (r l : Nat) (hr : r < 512) (hl : l < 1024) :
    at2 (iblk m c 2 t) r l = at2 (m (c.tc.loc main_arg2)) (512 * t.val + r) l := by
  have ht : t.val < 32 := t.isLt
  rw [at2_of_lt _ hr hl, at2_of_lt _ (by omega) hl]
  blk_simp [iblk]
  rw [V_main_arg2]
  congr 1
  blk_ext [e2]

lemma blk3 (r l : Nat) (hr : r < 512) (hl : l < 2560) :
    at2 (iblk m c 3 t) r l = at2 (m (c.tc.loc main_arg3)) (512 * t.val + r) l := by
  have ht : t.val < 32 := t.isLt
  rw [at2_of_lt _ hr hl, at2_of_lt _ (by omega) hl]
  blk_simp [iblk]
  rw [V_main_arg3]
  congr 1
  blk_ext [e3]

lemma blk4 (b k l : Nat) (hb : b < 4) (hk : k < 1024) (hl : l < 640) :
    at4 (iblk m c 4 t) b 0 k l = at4 (m (c.tc.loc main_arg4)) b 0 k l := by
  rw [at4_of_lt _ hb Nat.one_pos hk hl, at4_of_lt _ hb (by omega) hk hl]
  blk_simp [iblk]
  rw [V_main_arg4]
  congr 1
  blk_ext [e4]

/-! ## The arrays -/

/-- The cotangent of a normed row: the packed columns' cotangent times the transposed weights. -/
def dhAt (dz : Ar2 16384 2560) (wi : Ar4 4 2 1024 640) (r l : Nat) : EReal :=
  ∑ k ∈ Finset.range 2560, at2 dz r k * at4 wi (k / 640) 0 l (k % 640)

/-- The gradient of the layer's input. -/
def dxOf (x : Ar2 16384 1024) (g : Ar2 2 1024)
    (dx1 : Ar2 16384 1024) (dz : Ar2 16384 2560)
    (wi : Ar4 4 2 1024 640) : Ar2 16384 1024 := fun i =>
  Rms.dx (at2 dx1 (i 0).val (i 1).val) (at2 x (i 0).val) (fun k => dhAt dz wi (i 0).val k * at2 g 0 k) (i 1).val

/-- The gradient of the norm's scale. -/
def dgOf (x : Ar2 16384 1024) (dz : Ar2 16384 2560)
    (wi : Ar4 4 2 1024 640) : Ar2 1 1024 := fun i =>
  ∑ r ∈ Finset.range 16384, dhAt dz wi r (i 1).val * (at2 x r (i 1).val * Rms.inv (at2 x r))

lemma dxOf_congr {x x' g g' d d' z z' w w'} (hx : x = x') (hg : g = g') (hd : d = d') (hz : z = z') (hw : w = w') :
    dxOf x g d z w = dxOf x' g' d' z' w' := by subst hx hg hd hz hw; rfl
lemma dgOf_congr {x x' z z' w w'} (hx : x = x') (hz : z = z') (hw : w = w') : dgOf x z w = dgOf x' z' w' := by subst hx hz hw; rfl

/-- The wide weights of the array. -/
def wideOf (wi : Ar4 4 2 1024 640) : Vec Ideal S2x1024x1280 .bf16 := fun y =>
  at4 wi (2 * (y 0).val + (y 2).val / 640) 0 (y 1).val ((y 2).val % 640)

lemma wide_blk : wide (iblk m c 4 t) = wideOf (m (c.tc.loc main_arg4)) := by
  funext y
  have h0 : (y 0).val < 2 := (y 0).isLt
  have h2 : (y 2).val < 1280 := (y 2).isLt
  exact blk4 c t m _ _ _ (by omega) (y 1).isLt (by omega)

lemma scratch : ∀ (n : Nat) (hn : n < cfg0.N), (outsAt0 m c n hn).2.2.2 = wideOf (m (c.tc.loc main_arg4)) := by
  intro n
  induction n with
  | zero =>
    intro hn
    rw [outsAt0_zero, stAt0_A m c ⟨0, hn⟩ _ (Nat.zero_mod _) (Nat.zero_mod _)]
    dsimp only
    funext y
    rw [sout_A]
    exact congrFun (wide_blk c ⟨0, hn⟩ m) y
  | succ n ih =>
    intro hn
    have hN : n + 1 < 32 := hn
    rw [outsAt0_succ, stAt0_B m c ⟨n + 1, hn⟩ _ (by show ¬((n + 1) % 32 = 0); omega) (by show ¬((n + 1) % 32 = 0); omega)]
    dsimp only
    unfold sout0_B_0
    exact ih _

lemma dh_blk (r l : Nat) (hr : r < 512) (hl : l < 1024) :
    dh (iblk m c 3 t) (wideOf (m (c.tc.loc main_arg4))) r l
      = dhAt (m (c.tc.loc main_arg3)) (m (c.tc.loc main_arg4)) (512 * t.val + r) l := by
  unfold dh dhAt
  refine Eq.trans ?_ ((Finset.sum_range_succ _ 1).symm.trans (sum_blocks (fun k => at2 _ (512 * t.val + r) k * at4 _ (k / 640) 0 l (k % 640)) 2 1280))
  rw [Finset.sum_range_one]
  refine congrArg₂ (· + ·) (Finset.sum_congr rfl fun k hk => ?_) (Finset.sum_congr rfl fun k hk => ?_)
  · have hk := Finset.mem_range.mp hk
    rw [blk3 c t m r k hr (by omega), at3_of_lt _ (by omega) hl hk]
    unfold wideOf
    refine congrArg₂ (· * ·) (congrArg (at2 _ _) (by omega)) (congrArg₂ (fun a b => at4 _ a 0 l b) ?_ ?_)
    · show 2 * 0 + k / 640 = (1280 * 0 + k) / 640
      omega
    · show k % 640 = (1280 * 0 + k) % 640
      omega
  · have hk := Finset.mem_range.mp hk
    rw [blk3 c t m r _ hr (by omega), at3_of_lt _ (by omega) hl hk]
    unfold wideOf
    refine congrArg₂ (· * ·) (congrArg (at2 _ _) (by omega)) (congrArg₂ (fun a b => at4 _ a 0 l b) ?_ ?_)
    · show 2 * 1 + k / 640 = (1280 * 1 + k) / 640
      omega
    · show k % 640 = (1280 * 1 + k) % 640
      omega

lemma dxB_blk (y : S512x1024.Idx) :
    dxB (iblk m c 0 t) (iblk m c 1 t) (iblk m c 2 t) (iblk m c 3 t) (wideOf (m (c.tc.loc main_arg4))) y
      = Rms.dx (at2 (m (c.tc.loc main_arg2)) (512 * t.val + (y 0).val) (y 1).val)
          (at2 (m (c.tc.loc main_arg0)) (512 * t.val + (y 0).val))
          (fun k => dhAt (m (c.tc.loc main_arg3)) (m (c.tc.loc main_arg4)) (512 * t.val + (y 0).val) k
            * at2 (m (c.tc.loc main_arg1)) 0 k) (y 1).val := by
  unfold dxB
  refine Rms.dx_congr ?_ (fun k hk => blk0 c t m _ k (y 0).isLt hk) (fun k hk => ?_) (y 1).isLt
  · rw [← blk2 c t m _ _ (y 0).isLt (y 1).isLt]
    exact at2_eq _ y rfl rfl
  · rw [dh_blk c t m _ k (y 0).isLt hk, blk1 c t m k hk]

lemma dgB_blk (y : S1x1024.Idx) :
    dgB (iblk m c 0 t) (iblk m c 3 t) (wideOf (m (c.tc.loc main_arg4))) y
      = ∑ k ∈ Finset.range 512, dhAt (m (c.tc.loc main_arg3)) (m (c.tc.loc main_arg4)) (512 * t.val + k) (y 1).val
          * (at2 (m (c.tc.loc main_arg0)) (512 * t.val + k) (y 1).val
            * Rms.inv (at2 (m (c.tc.loc main_arg0)) (512 * t.val + k))) := by
  unfold dgB
  refine Finset.sum_congr rfl fun k hk => ?_
  have hk := Finset.mem_range.mp hk
  rw [dh_blk c t m k _ hk (y 1).isLt, blk0 c t m k _ hk (y 1).isLt, Rms.inv_congr fun l hl => blk0 c t m k l hk hl]

lemma outs5 (y : S512x1024.Idx) : (outsAt0 m c t.val t.isLt).1 y
    = dxB (iblk m c 0 t) (iblk m c 1 t) (iblk m c 2 t) (iblk m c 3 t) (wideOf (m (c.tc.loc main_arg4))) y := by
  by_cases h : t.val % 32 = 0
  · rw [outsAt0_A m c t h h]
    dsimp only
    rw [out5_A, wide_blk]
  · rw [outsAt0_B m c t h h]
    dsimp only
    rw [out5_B, scratch]

lemma outs6 (y : S512x1024.Idx) : (outsAt0 m c t.val t.isLt).2.1 y
    = dxB (iblk m c 0 t) (iblk m c 1 t) (iblk m c 2 t) (iblk m c 3 t) (wideOf (m (c.tc.loc main_arg4))) y := by
  by_cases h : t.val % 32 = 0
  · rw [outsAt0_A m c t h h]
    dsimp only
    rw [out6_A, wide_blk]
  · rw [outsAt0_B m c t h h]
    dsimp only
    rw [out6_B, scratch]

lemma array5 : (dats m 0 c).arrAt 5 cfg0.N = dxOf (m (c.tc.loc main_arg0)) (m (c.tc.loc main_arg1))
    (m (c.tc.loc main_arg2)) (m (c.tc.loc main_arg3)) (m (c.tc.loc main_arg4)) := by
  refine (dats m 0 c).arrAt_eq_of_covers 5 _ (by decide +kernel) fun t hf y => ?_
  blk_simp
  rw [after0_5]
  refine (outs5 c t m y).trans ((dxB_blk c t m y).trans ?_)
  unfold dxOf
  have q0 : ((win0_5.blk t).view.emb y 0).val = 512 * t.val + (y 0).val := by blk_simp [e5]; omega
  have q1 : ((win0_5.blk t).view.emb y 1).val = (y 1).val := by blk_simp [e5]
  rw [q0, q1]

lemma array6 : (dats m 0 c).arrAt 6 cfg0.N = dxOf (m (c.tc.loc main_arg0)) (m (c.tc.loc main_arg1))
    (m (c.tc.loc main_arg2)) (m (c.tc.loc main_arg3)) (m (c.tc.loc main_arg4)) := by
  refine (dats m 0 c).arrAt_eq_of_covers 6 _ (by decide +kernel) fun t hf y => ?_
  blk_simp
  rw [after0_6]
  refine (outs6 c t m y).trans ((dxB_blk c t m y).trans ?_)
  unfold dxOf
  have q0 : ((win0_6.blk t).view.emb y 0).val = 512 * t.val + (y 0).val := by blk_simp [e6]; omega
  have q1 : ((win0_6.blk t).view.emb y 1).val = (y 1).val := by blk_simp [e6]
  rw [q0, q1]

/-- What point `n` adds to the scale's gradient. -/
def M7 (n : Nat) (y : S1x1024.Idx) : EReal :=
  ∑ k ∈ Finset.range 512, dhAt (m (c.tc.loc main_arg3)) (m (c.tc.loc main_arg4)) (512 * n + k) (y 1).val
    * (at2 (m (c.tc.loc main_arg0)) (512 * n + k) (y 1).val * Rms.inv (at2 (m (c.tc.loc main_arg0)) (512 * n + k)))

lemma outs7_A (h : t.val % 32 = 0) (y : S1x1024.Idx) : (outsAt0 m c t.val t.isLt).2.2.1 y = 0 + M7 c m t.val y := by
  rw [outsAt0_A m c t h h]
  dsimp only
  rw [out7_A, wide_blk, dgB_blk]
  rfl

lemma outs7_B (h : ¬t.val % 32 = 0) (y : S1x1024.Idx) : (outsAt0 m c t.val t.isLt).2.2.1 y
    = (outsAt0 m c (t.val - 1) (Nat.sub_lt_of_lt t.isLt)).2.2.1 y + M7 c m t.val y := by
  rw [outsAt0_B m c t h h]
  dsimp only
  rw [out7_B, scratch, dgB_blk]
  rfl

lemma array7 : (dats m 0 c).arrAt 7 cfg0.N = dgOf (m (c.tc.loc main_arg0)) (m (c.tc.loc main_arg3))
    (m (c.tc.loc main_arg4)) := by
  refine (dats m 0 c).arrAt_eq_of_covers 7 _ (by decide +kernel) fun t hf y => ?_
  have ht := (flush0_7 t).mp hf
  have hN : t.val < 32 := t.isLt
  blk_simp
  rw [after0_7]
  have fold : (outsAt0 m c t.val t.isLt).2.2.1 y = ∑ s ∈ Finset.range 32, M7 c m (32 * (t.val / 32) + s) y := by
    rw [← zero_add (∑ s ∈ Finset.range 32, M7 c m (32 * (t.val / 32) + s) y)]
    exact Pipeline.eq_sum_of_reset_step_apply_of_mod (M := EReal) (fun n h => (outsAt0 m c n h).2.2.1) 32 (fun _ => 0) (M7 c m)
      (fun t => outs7_A c t m) (fun t => outs7_B c t m) t (by omega) y
  refine fold.trans ?_
  unfold dgOf
  have q1 : ((win0_7.blk t).view.emb y 1).val = (y 1).val := by blk_simp [e7]
  rw [q1, ← sum_blocks _ 32 512]
  refine Finset.sum_congr rfl fun s _ => ?_
  rw [show 32 * (t.val / 32) + s = s by omega]
  rfl

/-! ## The reference's arrays -/

section Reference

open Cert.Reference5Ideal.Read

lemma zero_bits : FloatOps.ofBits (F := Ideal) .f32 0x00000000#32 = 0 := by pointwise

lemma ref_var (x0) (i : Cert.Reference5Ideal.S16384x1.Idx) : val_main_v13 (F := Ideal) x0 i = Rms.var (at2 x0 (i 0).val) := by
  rw [val_main_v13_apply, val_main_v11_apply, val_main_v12_apply, val_main_v10_apply, val_main_cst_0_apply, val_main_cst_1_apply,
    val_main_v9_apply, val_main_v8_apply, val_main_cst_apply, zero_bits, zero_add]
  unfold Rms.var Rms.mean
  refine congrArg (fun z : EReal => Ideal.div z _ + _) (sum_fin _ _ fun k => ?_)
  rw [val_main_v7_apply]
  exact mulc (at2_eq x0 _ rfl rfl) (at2_eq x0 _ rfl rfl)

lemma ref_inv (x0) (i : Cert.Reference5Ideal.S16384x1.Idx) : val_main_v14 (F := Ideal) x0 i = Rms.inv (at2 x0 (i 0).val) := by
  rw [val_main_v14_apply, ref_var]
  rfl

lemma ref_w (x4) (i : Cert.Reference5Ideal.S1024x2560.Idx) :
    val_main_v4 (F := Ideal) x4 i = at4 x4 ((i 1).val / 640) 0 (i 0).val ((i 1).val % 640) := by
  have h0 : (i 0).val < 1024 := (i 0).isLt
  have h1 : (i 1).val < 2560 := (i 1).isLt
  rw [val_main_v4_apply, val_main_v3_apply, val_main_v2_apply, val_main_v1_apply, val_main_v0_apply]
  refine at4_eq x4 _ ?_ rfl ?_ ?_
  · show ((((((i 0).val * 2560 + (i 1).val) / 640 % 4) * 1024 + ((i 0).val * 2560 + (i 1).val) / 2560) * 640
      + ((i 0).val * 2560 + (i 1).val) % 640) / 655360) = _
    omega
  · show ((((((i 0).val * 2560 + (i 1).val) / 640 % 4) * 1024 + ((i 0).val * 2560 + (i 1).val) / 2560) * 640
      + ((i 0).val * 2560 + (i 1).val) % 640) / 640 % 1024) = _
    omega
  · show ((((((i 0).val * 2560 + (i 1).val) / 640 % 4) * 1024 + ((i 0).val * 2560 + (i 1).val) / 2560) * 640
      + ((i 0).val * 2560 + (i 1).val) % 640) % 640) = _
    omega

lemma ref_dh (x3 x4) (i : Cert.Reference5Ideal.S16384x1024.Idx) :
    val_main_v25 (F := Ideal) x3 x4 i = dhAt x3 x4 (i 0).val (i 1).val := by
  rw [val_main_v25_apply]
  unfold dhAt
  refine sum_fin _ _ fun k => ?_
  rw [val_main_v24_apply, ref_w]
  exact congrArg (fun a : EReal => a * _) (at2_eq x3 _ rfl rfl)

lemma ref_dxh (x1 x3 x4) (i : Cert.Reference5Ideal.S16384x1024.Idx) :
    val_main_v30 (F := Ideal) x1 x3 x4 i = dhAt x3 x4 (i 0).val (i 1).val * at2 x1 0 (i 1).val := by
  rw [val_main_v30_apply, ref_dh, val_main_v29_apply, val_main_v20_apply, val_main_v6_apply, val_main_v5_apply]
  have h1 : (i 1).val < 1024 := (i 1).isLt
  refine congrArg (fun a : EReal => _ * a) (at2_eq x1 _ rfl ?_)
  show (i 1).val % 1024 = (i 1).val
  omega

lemma ref_coef (x0 x1 x3 x4) (i : Cert.Reference5Ideal.S16384x1024.Idx) :
    val_main_v42 (F := Ideal) x0 x1 x3 x4 i = Rms.coef (at2 x0 (i 0).val) (fun k => dhAt x3 x4 (i 0).val k * at2 x1 0 k) := by
  rw [val_main_v42_apply, val_main_v41_apply, val_main_cst_7_apply, zero_bits, zero_add, Fin.sum_univ_one, val_main_v40_apply, val_main_v38_apply,
    val_main_v39_apply, val_main_cst_6_apply, val_main_v17_apply, val_main_v16_apply, val_main_cst_2_apply, val_main_v15_apply, ref_inv, ref_var,
    val_main_v34_apply, val_main_v33_apply, val_main_cst_5_apply, zero_bits, zero_add]
  unfold Rms.coef
  refine congrArg (fun z : EReal => Ideal.div (z * _) _) (sum_fin _ _ fun k => ?_)
  rw [val_main_v32_apply, ref_dxh]
  have e0 : (idx_main_v33 (idx_main_v34 (idx_main_v41 (idx_main_v42 i) 0)) k 0).val = (i 0).val := by
    show (i 0).val * 1 + 0 = (i 0).val
    omega
  have e1 : (idx_main_v33 (idx_main_v34 (idx_main_v41 (idx_main_v42 i) 0)) k 1).val = k.val := rfl
  exact mulc (at2_eq x0 _ e0 e1)
    (mulc (congrArg₂ (dhAt x3 x4) e0 e1) (congrArg (at2 x1 0) e1))

lemma ref_dx (x0 x1 x2 x3 x4) : val_main_v46 (F := Ideal) x0 x1 x2 x3 x4 = dxOf x0 x1 x2 x3 x4 := by
  funext i
  rw [val_main_v46_apply, val_main_v44_apply, val_main_v45_apply, val_main_v43_apply, val_main_v37_apply, val_main_v36_apply, val_main_v35_apply,
    ref_coef, ref_inv, ref_dxh, at2_eq x0 i rfl rfl, at2_eq x2 i rfl rfl]
  exact Rms.dx_eq (at2 x2 (i 0).val (i 1).val) (at2 x0 (i 0).val) (fun k => dhAt x3 x4 (i 0).val k * at2 x1 0 k) (i 1).val

lemma ref_dxb (x0 x1 x2 x3 x4) : val_main_v47 (F := Ideal) x0 x1 x2 x3 x4 = dxOf x0 x1 x2 x3 x4 := by
  rw [← ref_dx]
  rfl

lemma ref_dg (x0 x3 x4) : val_main_v48 (F := Ideal) x0 x3 x4 = dgOf x0 x3 x4 := by
  funext i
  rw [val_main_v48_apply, val_main_v31_apply, val_main_cst_4_apply, zero_bits, zero_add, Fin.sum_univ_one, val_main_v28_apply, val_main_v27_apply,
    val_main_cst_3_apply, zero_bits, zero_add]
  unfold dgOf
  refine sum_fin _ _ fun k => ?_
  rw [val_main_v26_apply, ref_dh, val_main_v19_apply, val_main_v18_apply, ref_inv]
  have h0 : (i 0).val < 1 := (i 0).isLt
  have e : (idx_main_v27 (idx_main_v28 (idx_main_v31 (idx_main_v48 i) 0)) k 1).val = (i 1).val := by
    show 0 * 1024 + (i 1).val = (i 1).val
    omega
  refine Eq.trans (mulc (congrArg (fun a : EReal => a * _) (at2_eq x0 _ rfl e)) (congrArg (dhAt x3 x4 _) e)) ?_
  exact mul_comm (at2 x0 k.val (i 1).val * Rms.inv (at2 x0 k.val)) (dhAt x3 x4 k.val (i 1).val)

end Reference

/-! ## The claim -/

lemma algebraic_bwd : Cert.algebraic_Kernel5Ideal_Reference5Ideal := fun m ρ m' ρ' _ hag =>
  ⟨fun c => (dats m 0 c).arrAt 5 cfg0.N, fun c => (dats m 0 c).arrAt 6 cfg0.N, fun c => (dats m 0 c).arrAt 7 cfg0.N,
    Cert.Kernel5Ideal.Value.run_blocks m ρ,
    (θ_run _ _ _).mono (fun _ h c => by
      obtain ⟨h0, h1, h2, h3, h4⟩ := hag c
      exact ⟨(h c).1.trans ((Cert.Reference5Ideal.Read.val_main_v46_eq _ _).trans ((ref_dx _ _ _ _ _).trans
            ((dxOf_congr h0 h1 h2 h3 h4).trans (array5 c m).symm))),
          (h c).2.1.trans ((Cert.Reference5Ideal.Read.val_main_v47_eq _ _).trans ((ref_dxb _ _ _ _ _).trans
            ((dxOf_congr h0 h1 h2 h3 h4).trans (array6 c m).symm))),
          (h c).2.2.1.trans ((Cert.Reference5Ideal.Read.val_main_v48_eq _ _ _).trans ((ref_dg _ _ _).trans
            ((dgOf_congr h0 h3 h4).trans (array7 c m).symm))),
          (h c).2.2.2⟩)
      (Cert.Reference5Ideal.Value.run m' ρ')⟩

end Cert.Proof.InBwd
-- ==== Proof.LossHead.lean ====
module

public import proofs.«01_k».proof.Proof.Rms
public import proofs.«01_k».proof.Proof.Gen.Kernel6Ideal.Value
public import proofs.«01_k».proof.Proof.Gen.Reference6Ideal.Read
public import Idealize.ShloMosaic.Lib.Pipeline.ReadBack
public import proofs.«01_k».proof.Defs

@[expose] public section

set_option maxRecDepth 16384

noncomputable section

namespace Cert.Proof.LossHead

open Cert.Kernel6Ideal Cert.Kernel6Ideal.Gen Cert.Kernel6Ideal.Value Idealize.ShloMosaic Idealize.ShloMosaic.TcCoe Idealize.SL.Sem
  Idealize.ShloMosaic.Tactic

/-! ## A row's part of the loss -/

/-- The normed and scaled row's distance from its target. -/
def err (x g t : Nat → EReal) (l : Nat) : EReal := x l * Rms.inv x * g l - t l

/-- The row's mean squared distance. -/
def rowLoss (x g t : Nat → EReal) : EReal := Rms.mean fun k => err x g t k * err x g t k

/-- The cotangent of the normed and scaled row. -/
def dy (x g t : Nat → EReal) (l : Nat) : EReal := err x g t l * Ideal.ofBits .f32 0x3A800000#32

/-- One half, by which the loss counts a row. -/
def half : EReal := Ideal.ofBits .f32 0x3F000000#32

lemma half_eq : half = ((1 / 2 : ℝ) : EReal) := by
  unfold half
  simp [Ideal.ofBits, Ideal.ieee, -EReal.coe_mul]; norm_num

lemma inv_width : Ideal.ofBits .f32 0x3A800000#32 = ((1 / 1024 : ℝ) : EReal) := by
  simp [Ideal.ofBits, Ideal.ieee, -EReal.coe_mul]; norm_num

lemma one_bits : Ideal.ofBits .f32 0x3F800000#32 = ((1 : ℝ) : EReal) := by
  simp [Ideal.ofBits, Ideal.ieee, -EReal.coe_mul]; norm_num

lemma two_bits : Ideal.ofBits .f32 0x40000000#32 = ((2 : ℝ) : EReal) := by
  simp [Ideal.ofBits, Ideal.ieee, -EReal.coe_mul]; norm_num

/-- The derivative of half a mean square: twice the distance, by half over the width. -/
lemma dy_eq (e : EReal) : Ideal.div (half * Ideal.ofBits .f32 0x3F800000#32) (Ideal.ofBits .f32 0x44800000#32)
    * (Ideal.ofBits .f32 0x40000000#32 * e) = e * Ideal.ofBits .f32 0x3A800000#32 := by
  rw [Rms.div_width, half_eq, one_bits, two_bits, inv_width, ← mul_assoc, ← EReal.coe_mul, ← EReal.coe_mul, ← EReal.coe_mul, mul_comm]
  norm_num

lemma err_congr {x x' g g' t t' : Nat → EReal} (hx : ∀ k, k < 1024 → x k = x' k) (hg : ∀ k, k < 1024 → g k = g' k)
    (ht : ∀ k, k < 1024 → t k = t' k) (l : Nat) (hl : l < 1024) : err x g t l = err x' g' t' l := by
  unfold err
  rw [Rms.inv_congr hx, hx l hl, hg l hl, ht l hl]

lemma rowLoss_congr {x x' g g' t t' : Nat → EReal} (hx : ∀ k, k < 1024 → x k = x' k) (hg : ∀ k, k < 1024 → g k = g' k)
    (ht : ∀ k, k < 1024 → t k = t' k) : rowLoss x g t = rowLoss x' g' t' :=
  Rms.mean_congr fun k hk => by rw [err_congr hx hg ht k hk]

lemma dy_congr {x x' g g' t t' : Nat → EReal} (hx : ∀ k, k < 1024 → x k = x' k) (hg : ∀ k, k < 1024 → g k = g' k)
    (ht : ∀ k, k < 1024 → t k = t' k) (l : Nat) (hl : l < 1024) : dy x g t l = dy x' g' t' l := by
  unfold dy
  rw [err_congr hx hg ht l hl]

/-! ## The body at an index -/

lemma pay4_apply (y : S1x128.Idx) : k0_pay4 (F := Ideal) y = 0 := by
  unfold_payloads
  idx_vars y
  pointwise

lemma pay5_apply (y : S1x1024.Idx) : k0_pay5 (F := Ideal) y = 0 := by
  unfold_payloads
  idx_vars y
  pointwise

lemma pay6_apply (v4 : Vec Ideal S1x1024 .f32) (x : S1x1024.Idx) : k0_pay6 v4 x = v4 x := by
  unfold_payloads
  idx_vars x
  pointwise

lemma pay7_apply (v3 : Vec Ideal S512x1024 .f32) (x : S512x1.Idx) : k0_pay7 v3 x = Rms.inv (at2 v3 (x 0).val) := by
  unfold Rms.inv Rms.var Rms.mean
  rw [← sum_fin (fun k : Fin 1024 => v3 (ix2 ⟨(x 0).val, (x 0).isLt⟩ k) * v3 (ix2 ⟨(x 0).val, (x 0).isLt⟩ k)) _
    (fun k => congrArg₂ (· * ·) (at2_of_lt v3 (x 0).isLt k.isLt).symm (at2_of_lt v3 (x 0).isLt k.isLt).symm)]
  unfold_payloads
  idx_vars x
  obtain rfl : x1 = 0 := Subsingleton.elim _ _
  pointwise

lemma pay8_apply (v3 : Vec Ideal S512x1024 .f32) (x : S512x1024.Idx) :
    k0_pay8 v3 x = at2 v3 (x 0).val (x 1).val * Rms.inv (at2 v3 (x 0).val) := by
  have hx : (x 0).val < 512 := (x 0).isLt
  have e : Rms.inv (at2 v3 (x 0).val) = k0_pay7 v3 (ix2 (⟨(x 0).val, hx⟩ : Fin 512) (0 : Fin 1)) :=
    (pay7_apply v3 (ix2 (⟨(x 0).val, hx⟩ : Fin 512) (0 : Fin 1))).symm
  rw [at2_of_lt v3 hx (x 1).isLt, e]
  unfold k0_pay8
  generalize k0_pay7 v3 = w
  idx_vars x
  pointwise

lemma pay9_apply (v3 : Vec Ideal S512x1024 .f32) (v4 : Vec Ideal S1x1024 .f32) (v18 : Vec Ideal S512x1024 .f32) (x : S512x1024.Idx) :
    k0_pay9 v3 v4 v18 x = err (at2 v3 (x 0).val) (at2 v4 0) (at2 v18 (x 0).val) (x 1).val := by
  have h1 : (x 1).val < 1024 := (x 1).isLt
  have h0 : (x 0).val < 512 := (x 0).isLt
  have e : at2 v4 0 (x 1).val = k0_pay6 v4 (ix2 (0 : Fin 1) (⟨(x 1).val, h1⟩ : Fin 1024)) :=
    (at2_of_lt v4 Nat.one_pos h1).trans (pay6_apply v4 (ix2 (0 : Fin 1) (⟨(x 1).val, h1⟩ : Fin 1024))).symm
  unfold err
  rw [← pay8_apply v3 x, at2_of_lt v18 h0 h1, e]
  unfold k0_pay9
  generalize k0_pay8 v3 = w
  generalize k0_pay6 v4 = u
  idx_vars x
  pointwise

lemma pay11_apply (v3 : Vec Ideal S512x1024 .f32) (v4 : Vec Ideal S1x1024 .f32) (v18 : Vec Ideal S512x1024 .f32) (x : S512x1024.Idx) :
    k0_pay11 v3 v4 v18 x = dy (at2 v3 (x 0).val) (at2 v4 0) (at2 v18 (x 0).val) (x 1).val := by
  unfold dy
  rw [← pay9_apply v3 v4 v18 x]
  unfold k0_pay11
  generalize k0_pay9 v3 v4 v18 = w
  pointwise

/-- What a point adds to the loss. -/
def lossB (x0 : Vec Ideal S512x1024 .f32) (x1 : Vec Ideal S1x1024 .f32) (x2 : Vec Ideal S512x1024 .f32) : EReal :=
  half * ∑ k ∈ Finset.range 512, rowLoss (at2 x0 k) (at2 x1 0) (at2 x2 k)

/-- Half the sum of the rows' means of a square. -/
lemma sum_rows (w : FVec Ideal S512x1024 .f32) (v20 : Vec Ideal S1x128 .f32) (v3 : Vec Ideal S512x1024 .f32) (v4 : Vec Ideal S1x1024 .f32)
    (v18 : Vec Ideal S512x1024 .f32) (hw : k0_pay9 v3 v4 v18 = w) (x : S1x128.Idx) :
    k0_pay10 v3 v4 v18 v20 x = v20 x + half * ∑ r : Fin 512, Ideal.div (∑ k : Fin 1024, w (ix2 r k) * w (ix2 r k))
      (Ideal.ofBits .f32 0x44800000#32) := by
  unfold half k0_pay10
  rw [hw]
  idx_vars x
  obtain rfl : x0 = 0 := Subsingleton.elim _ _
  pointwise

lemma pay10_apply (v3 : Vec Ideal S512x1024 .f32) (v4 : Vec Ideal S1x1024 .f32) (v18 : Vec Ideal S512x1024 .f32) (v20 : Vec Ideal S1x128 .f32)
    (x : S1x128.Idx) : k0_pay10 v3 v4 v18 v20 x = v20 x + lossB v3 v4 v18 := by
  rw [sum_rows _ v20 v3 v4 v18 rfl x]
  unfold lossB rowLoss Rms.mean
  refine congrArg (fun z : EReal => v20 x + half * z) (sum_fin _ _ fun r => ?_)
  refine congrArg (Ideal.div · _) (sum_fin _ _ fun k => ?_)
  rw [pay9_apply]
  rfl

lemma pay1_apply (v15 v35 : FVec Ideal S512x1024 .f32) (v36 : Vec Ideal S1x1024 .f32) (x : S1x1024.Idx) :
    k0_pay1 v15 v35 v36 x = v36 x + ∑ k ∈ Finset.range 512, at2 v35 k (x 1).val * at2 v15 k (x 1).val := by
  rw [← sum_fin (fun k : Fin 512 => v35 (ix2 k ⟨(x 1).val, (x 1).isLt⟩) * v15 (ix2 k ⟨(x 1).val, (x 1).isLt⟩)) _
    (fun k => congrArg₂ (· * ·) (at2_of_lt v35 k.isLt (x 1).isLt).symm (at2_of_lt v15 k.isLt (x 1).isLt).symm)]
  unfold_payloads
  idx_vars x
  obtain rfl : x0 = 0 := Subsingleton.elim _ _
  pointwise

lemma pay2_apply (v5 : FVec Ideal S1x1024 .f32) (v13 : FVec Ideal S512x1 .f32) (v15 v35 : FVec Ideal S512x1024 .f32) (x : S512x1024.Idx) :
    k0_pay2 v5 v13 v15 v35 x = v13 (ix2 ⟨(x 0).val, (x 0).isLt⟩ 0) * (v35 x * v5 (ix2 0 ⟨(x 1).val, (x 1).isLt⟩)
      - v15 x * Rms.mean fun k => at2 v35 (x 0).val k * at2 v5 0 k * at2 v15 (x 0).val k) := by
  unfold Rms.mean
  rw [← sum_fin (fun k : Fin 1024 => v35 (ix2 ⟨(x 0).val, (x 0).isLt⟩ k) * v5 (ix2 0 k) * v15 (ix2 ⟨(x 0).val, (x 0).isLt⟩ k)) _
    (fun k => congrArg₂ (· * ·) (congrArg₂ (· * ·) (at2_of_lt v35 (x 0).isLt k.isLt).symm (at2_of_lt v5 Nat.one_pos k.isLt).symm)
      (at2_of_lt v15 (x 0).isLt k.isLt).symm)]
  unfold_payloads
  idx_vars x
  pointwise

lemma pay3_apply (v5 : FVec Ideal S1x1024 .f32) (v13 : FVec Ideal S512x1 .f32) (v15 v35 : FVec Ideal S512x1024 .f32) (x : S512x1024.Idx) :
    k0_pay3 v5 v13 v15 v35 x = k0_pay2 v5 v13 v15 v35 x := by
  unfold k0_pay3
  generalize k0_pay2 v5 v13 v15 v35 = w
  pointwise

/-! ## A point's results -/

section Blocks

variable (x0 : Vec Ideal S512x1024 .f32) (x1 : Vec Ideal S1x1024 .f32) (x2 : Vec Ideal S512x1024 .f32)

/-- The gradient of the point's rows. -/
def dxB (y : S512x1024.Idx) : EReal :=
  Rms.dx 0 (at2 x0 (y 0).val) (fun k => dy (at2 x0 (y 0).val) (at2 x1 0) (at2 x2 (y 0).val) k * at2 x1 0 k) (y 1).val

/-- What the point adds to the scale's gradient. -/
def dgB (y : S1x1024.Idx) : EReal :=
  ∑ k ∈ Finset.range 512, dy (at2 x0 k) (at2 x1 0) (at2 x2 k) (y 1).val * (at2 x0 k (y 1).val * Rms.inv (at2 x0 k))

lemma dx_blk (y : S512x1024.Idx) : k0_pay2 (k0_pay6 x1) (k0_pay7 x0) (k0_pay8 x0) (k0_pay11 x0 x1 x2) y = dxB x0 x1 x2 y := by
  rw [pay2_apply, pay7_apply, pay8_apply, pay11_apply, pay6_apply]
  unfold dxB Rms.dx
  rw [zero_add]
  refine congrArg₂ (fun a b : EReal => Rms.inv (at2 x0 (y 0).val) * (dy (at2 x0 (y 0).val) (at2 x1 0) (at2 x2 (y 0).val) (y 1).val * a
    - at2 x0 (y 0).val (y 1).val * Rms.inv (at2 x0 (y 0).val) * b)) (at2_eq x1 _ rfl rfl) (Rms.mean_congr fun k hk => ?_)
  refine congrArg₂ (· * ·) (congrArg₂ (· * ·) ((at2_of_lt _ (y 0).isLt hk).trans (pay11_apply _ _ _ _))
    ((at2_of_lt _ Nat.one_pos hk).trans ((pay6_apply _ _).trans (at2_eq x1 _ rfl rfl)))) ((at2_of_lt _ (y 0).isLt hk).trans (pay8_apply _ _))

lemma dg_blk (v36 : Vec Ideal S1x1024 .f32) (y : S1x1024.Idx) :
    k0_pay1 (k0_pay8 x0) (k0_pay11 x0 x1 x2) v36 y = v36 y + dgB x0 x1 x2 y := by
  rw [pay1_apply]
  unfold dgB
  refine congrArg (_ + ·) (Finset.sum_congr rfl fun k hk => ?_)
  have hk := Finset.mem_range.mp hk
  refine congrArg₂ (· * ·) ((at2_of_lt _ hk (y 1).isLt).trans (pay11_apply _ _ _ _))
    ((at2_of_lt _ hk (y 1).isLt).trans (pay8_apply _ _))

end Blocks

/-! ## What the body's stores leave -/

lemma ld_x (X : Vec Ideal S512x1024 .f32) (inb : ∀ a, (![0, 0] : Fin 2 → Nat) a + (![512, 1024] : Fin 2 → Nat) a ≤ S512x1024.size a) :
    View.ld (Val := Elt Ideal) (e' := .f32) X (Rect.unit (s := S512x1024) ![0, 0] ![512, 1024] inb) = X := View.ld_unit_lit inb X (by decide)

lemma ld_g (X : Vec Ideal S1x1024 .f32) (inb : ∀ a, (![0, 0] : Fin 2 → Nat) a + (![1, 1024] : Fin 2 → Nat) a ≤ S1x1024.size a) :
    View.ld (Val := Elt Ideal) (e' := .f32) X (Rect.unit (s := S1x1024) ![0, 0] ![1, 1024] inb) = X := View.ld_unit_lit inb X (by decide)

lemma ld_l (X : Vec Ideal S1x128 .f32) (inb : ∀ a, (![0, 0] : Fin 2 → Nat) a + (![1, 128] : Fin 2 → Nat) a ≤ S1x128.size a) :
    View.ld (Val := Elt Ideal) (e' := .f32) X (Rect.unit (s := S1x128) ![0, 0] ![1, 128] inb) = X := View.ld_unit_lit inb X (by decide)

variable (c : Dev nD) (t : Fin cfg0.N) (x0 : Vec Ideal S512x1024 .f32) (x1 : Vec Ideal S1x1024 .f32) (x2 : Vec Ideal S512x1024 .f32)
  (xo3 : Vec Ideal S1x128 .f32) (xo6 : Vec Ideal S1x1024 .f32)

lemma out3_B (h0 : ¬cond0_0 (grid0.coords t)) (y : S1x128.Idx) :
    out0_B_3 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 x0 x1 x2 xo3 xo6 y
      = xo3 y + lossB x0 x1 x2 := by
  rw [out0_B_3, View.read_writes_eq_canon _ _ _ (cover0_B_3 c _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_6 t).read_unread, ld_x, ld_g, ld_l]
  refine (canon_hit inb_S1x128_S1x128_0_0 _ _ y y fun a => ?_).trans ?_
  · fin_cases a
    · exact (Nat.zero_add _).symm
    · exact (Nat.zero_add _).symm
  exact pay10_apply x0 x1 x2 xo3 y

lemma out4_B (h0 : ¬cond0_0 (grid0.coords t)) (y : S512x1024.Idx) :
    out0_B_4 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 x0 x1 x2 xo3 xo6 y
      = dxB x0 x1 x2 y := by
  rw [out0_B_4, View.read_writes_eq_canon _ _ _ (cover0_B_4 c _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_6 t).read_unread, ld_x, ld_g, ld_l]
  refine (canon_hit inb_S512x1024_S512x1024_0_0 _ _ y y fun a => ?_).trans ?_
  · fin_cases a
    · exact (Nat.zero_add _).symm
    · exact (Nat.zero_add _).symm
  exact dx_blk x0 x1 x2 y

lemma out5_B (h0 : ¬cond0_0 (grid0.coords t)) (y : S512x1024.Idx) :
    out0_B_5 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 x0 x1 x2 xo3 xo6 y
      = dxB x0 x1 x2 y := by
  rw [out0_B_5, View.read_writes_eq_canon _ _ _ (cover0_B_5 c _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_6 t).read_unread, ld_x, ld_g, ld_l]
  refine (canon_hit inb_S512x1024_S512x1024_0_0 _ _ y y fun a => ?_).trans ?_
  · fin_cases a
    · exact (Nat.zero_add _).symm
    · exact (Nat.zero_add _).symm
  refine (pay3_apply _ _ _ _ y).trans ?_
  exact dx_blk x0 x1 x2 y

lemma out6_B (h0 : ¬cond0_0 (grid0.coords t)) (y : S1x1024.Idx) :
    out0_B_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 x0 x1 x2 xo3 xo6 y
      = xo6 y + dgB x0 x1 x2 y := by
  rw [out0_B_6, View.read_writes_eq_canon _ _ _ (cover0_B_6 c _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_6 t).read_unread, ld_x, ld_g, ld_l]
  refine (canon_hit inb_S1x1024_S1x1024_0_0 _ _ y y fun a => ?_).trans ?_
  · fin_cases a
    · exact (Nat.zero_add _).symm
    · exact (Nat.zero_add _).symm
  exact dg_blk x0 x1 x2 xo6 y

lemma out3_A (h0 : cond0_0 (grid0.coords t)) (y : S1x128.Idx) :
    out0_A_3 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 x0 x1 x2 y
      = 0 + lossB x0 x1 x2 := by
  rw [out0_A_3, View.read_writes_eq_canon _ _ _ (cover0_A_3 c _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_6 t).read_unread, ld_x, ld_g, ld_l]
  simp only [View.readCov_eq_canon']
  refine (canon_hit inb_S1x128_S1x128_0_0 _ _ y y fun a => ?_).trans ?_
  · fin_cases a
    · exact (Nat.zero_add _).symm
    · exact (Nat.zero_add _).symm
  refine (pay10_apply x0 x1 x2 _ y).trans (congrArg (· + _) ?_)
  refine (canon_hit inb_S1x128_S1x128_0_0 _ [] _ y fun a => ?_).trans ?_
  · fin_cases a
    · show 0 + 1 * (y 0).val = 0 + (y 0).val
      omega
    · show 0 + 1 * (y 1).val = 0 + (y 1).val
      omega
  · exact pay4_apply y

lemma out4_A (h0 : cond0_0 (grid0.coords t)) (y : S512x1024.Idx) :
    out0_A_4 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 x0 x1 x2 y
      = dxB x0 x1 x2 y := by
  rw [out0_A_4, View.read_writes_eq_canon _ _ _ (cover0_A_4 c _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_6 t).read_unread, ld_x, ld_g, ld_l]
  refine (canon_hit inb_S512x1024_S512x1024_0_0 _ _ y y fun a => ?_).trans ?_
  · fin_cases a
    · exact (Nat.zero_add _).symm
    · exact (Nat.zero_add _).symm
  exact dx_blk x0 x1 x2 y

lemma out5_A (h0 : cond0_0 (grid0.coords t)) (y : S512x1024.Idx) :
    out0_A_5 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 x0 x1 x2 y
      = dxB x0 x1 x2 y := by
  rw [out0_A_5, View.read_writes_eq_canon _ _ _ (cover0_A_5 c _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_6 t).read_unread, ld_x, ld_g, ld_l]
  refine (canon_hit inb_S512x1024_S512x1024_0_0 _ _ y y fun a => ?_).trans ?_
  · fin_cases a
    · exact (Nat.zero_add _).symm
    · exact (Nat.zero_add _).symm
  refine (pay3_apply _ _ _ _ y).trans ?_
  exact dx_blk x0 x1 x2 y

lemma out6_A (h0 : cond0_0 (grid0.coords t)) (y : S1x1024.Idx) :
    out0_A_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) h0 x0 x1 x2 y
      = 0 + dgB x0 x1 x2 y := by
  rw [out0_A_6, View.read_writes_eq_canon _ _ _ (cover0_A_6 c _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_6 t).read_unread, ld_x, ld_g, ld_l]
  simp only [View.readCov_eq_canon']
  refine (canon_hit inb_S1x1024_S1x1024_0_0 _ _ y y fun a => ?_).trans ?_
  · fin_cases a
    · exact (Nat.zero_add _).symm
    · exact (Nat.zero_add _).symm
  refine (dg_blk x0 x1 x2 _ y).trans (congrArg (· + _) ?_)
  refine (canon_hit inb_S1x1024_S1x1024_0_0 _ [] _ y fun a => ?_).trans ?_
  · fin_cases a
    · show 0 + 1 * (y 0).val = 0 + (y 0).val
      omega
    · show 0 + 1 * (y 1).val = 0 + (y 1).val
      omega
  · exact pay5_apply y

/-! ## The blocks a point reads -/

variable (m : (ℓ : Loc nD τ sig) → Buf (Elt Ideal) ℓ)
lemma e0 : ∀ t : Fin grid0.N, win0_0.index t = ![t.val, 0] := by decide +kernel
lemma e1 : ∀ t : Fin grid0.N, win0_1.index t = ![0, 0] := by decide +kernel
lemma e2 : ∀ t : Fin grid0.N, win0_2.index t = ![t.val, 0] := by decide +kernel
lemma e3 : ∀ t : Fin grid0.N, win0_3.index t = ![0, 0] := by decide +kernel
lemma e4 : ∀ t : Fin grid0.N, win0_4.index t = ![t.val, 0] := by decide +kernel
lemma e5 : ∀ t : Fin grid0.N, win0_5.index t = ![t.val, 0] := by decide +kernel
lemma e6 : ∀ t : Fin grid0.N, win0_6.index t = ![0, 0] := by decide +kernel

lemma blk0 (r l : Nat) (hr : r < 512) (hl : l < 1024) :
    at2 (iblk m c 0 t) r l = at2 (m (c.tc.loc main_arg0)) (512 * t.val + r) l := by
  have ht : t.val < 32 := t.isLt
  rw [at2_of_lt _ hr hl, at2_of_lt _ (by omega) hl]
  blk_simp [iblk]
  rw [V_main_arg0]
  congr 1
  blk_ext [e0]

lemma blk2 (r l : Nat) (hr : r < 512) (hl : l < 1024) :
    at2 (iblk m c 2 t) r l = at2 (m (c.tc.loc main_arg2)) (512 * t.val + r) l := by
  have ht : t.val < 32 := t.isLt
  rw [at2_of_lt _ hr hl, at2_of_lt _ (by omega) hl]
  blk_simp [iblk]
  rw [V_main_arg2]
  congr 1
  blk_ext [e2]

/-- The scale's entry, zero past the end. -/
def gAt (g : Ar1 1024) (l : Nat) : EReal := if h : l < 1024 then g (ix1 ⟨l, h⟩) else 0

lemma blk1 (l : Nat) (hl : l < 1024) : at2 (iblk m c 1 t) 0 l = gAt (m (c.tc.loc main_arg1)) l := by
  have ht : t.val < 32 := t.isLt
  unfold gAt
  rw [at2_of_lt _ Nat.one_pos hl, dif_pos hl]
  blk_simp [iblk]
  entry_read
  rw [show ((View.whole main_v0).slice (win0_1.rect t)).emb (ix2 0 ⟨l, hl⟩) = ix2 0 ⟨l, hl⟩ from by blk_ext [e1]]
  pointwise

/-! ## The arrays -/

/-- Rows, and the scale. -/
abbrev Rows := Ar2 16384 1024
abbrev Scale := Ar1 1024

/-- The loss: half the sum of the rows' mean squared distances. -/
def lossOf (x : Rows) (g : Scale) (t : Rows) : Ar2 1 128 := fun _ =>
  half * ∑ r ∈ Finset.range 16384, rowLoss (at2 x r) (gAt g) (at2 t r)

/-- The gradient of the rows. -/
def dxOf (x : Rows) (g : Scale) (t : Rows) : Rows := fun i =>
  Rms.dx 0 (at2 x (i 0).val) (fun k => dy (at2 x (i 0).val) (gAt g) (at2 t (i 0).val) k * gAt g k) (i 1).val

/-- The gradient of the scale. -/
def dgOf (x : Rows) (g : Scale) (t : Rows) : Ar2 1 1024 := fun i =>
  ∑ r ∈ Finset.range 16384, dy (at2 x r) (gAt g) (at2 t r) (i 1).val * (at2 x r (i 1).val * Rms.inv (at2 x r))

lemma lossOf_congr {x x' g g' t t'} (hx : x = x') (hg : g = g') (ht : t = t') : lossOf x g t = lossOf x' g' t' := by subst hx hg ht; rfl
lemma dxOf_congr {x x' g g' t t'} (hx : x = x') (hg : g = g') (ht : t = t') : dxOf x g t = dxOf x' g' t' := by subst hx hg ht; rfl
lemma dgOf_congr {x x' g g' t t'} (hx : x = x') (hg : g = g') (ht : t = t') : dgOf x g t = dgOf x' g' t' := by subst hx hg ht; rfl

/-- What point `n` adds to the loss. -/
def M3 (n : Nat) (_ : S1x128.Idx) : EReal :=
  half * ∑ k ∈ Finset.range 512, rowLoss (at2 (m (c.tc.loc main_arg0)) (512 * n + k)) (gAt (m (c.tc.loc main_arg1))) (at2 (m (c.tc.loc main_arg2)) (512 * n + k))

/-- What point `n` adds to the scale's gradient. -/
def M6 (n : Nat) (y : S1x1024.Idx) : EReal :=
  ∑ k ∈ Finset.range 512, dy (at2 (m (c.tc.loc main_arg0)) (512 * n + k)) (gAt (m (c.tc.loc main_arg1))) (at2 (m (c.tc.loc main_arg2)) (512 * n + k)) (y 1).val
    * (at2 (m (c.tc.loc main_arg0)) (512 * n + k) (y 1).val * Rms.inv (at2 (m (c.tc.loc main_arg0)) (512 * n + k)))

lemma lossB_blk (y : S1x128.Idx) : lossB (iblk m c 0 t) (iblk m c 1 t) (iblk m c 2 t) = M3 c m t.val y := by
  unfold lossB M3
  refine congrArg (fun z : EReal => half * z) (Finset.sum_congr rfl fun k hk => ?_)
  have hk := Finset.mem_range.mp hk
  exact rowLoss_congr (fun l hl => blk0 c t m k l hk hl) (fun l hl => blk1 c t m l hl) (fun l hl => blk2 c t m k l hk hl)

lemma dgB_blk (y : S1x1024.Idx) : dgB (iblk m c 0 t) (iblk m c 1 t) (iblk m c 2 t) y = M6 c m t.val y := by
  unfold dgB M6
  refine Finset.sum_congr rfl fun k hk => ?_
  have hk := Finset.mem_range.mp hk
  rw [dy_congr (fun l hl => blk0 c t m k l hk hl) (fun l hl => blk1 c t m l hl) (fun l hl => blk2 c t m k l hk hl) _ (y 1).isLt,
    blk0 c t m k _ hk (y 1).isLt, Rms.inv_congr fun l hl => blk0 c t m k l hk hl]

lemma dxB_blk (y : S512x1024.Idx) : dxB (iblk m c 0 t) (iblk m c 1 t) (iblk m c 2 t) y
    = Rms.dx 0 (at2 (m (c.tc.loc main_arg0)) (512 * t.val + (y 0).val)) (fun k => dy (at2 (m (c.tc.loc main_arg0)) (512 * t.val + (y 0).val)) (gAt (m (c.tc.loc main_arg1)))
        (at2 (m (c.tc.loc main_arg2)) (512 * t.val + (y 0).val)) k * gAt (m (c.tc.loc main_arg1)) k) (y 1).val := by
  unfold dxB
  refine Rms.dx_congr rfl (fun k hk => blk0 c t m _ k (y 0).isLt hk) (fun k hk => ?_) (y 1).isLt
  rw [dy_congr (fun l hl => blk0 c t m _ l (y 0).isLt hl) (fun l hl => blk1 c t m l hl) (fun l hl => blk2 c t m _ l (y 0).isLt hl) _ hk,
    blk1 c t m k hk]

lemma outs4 (y : S512x1024.Idx) : (outsAt0 m c t.val t.isLt).2.1 y = dxB (iblk m c 0 t) (iblk m c 1 t) (iblk m c 2 t) y := by
  by_cases h : t.val % 32 = 0
  · rw [outsAt0_A m c t h]
    dsimp only
    rw [out4_A]
  · rw [outsAt0_B m c t h]
    dsimp only
    rw [out4_B]

lemma array4 : (dats m 0 c).arrAt 4 cfg0.N = dxOf (m (c.tc.loc main_arg0)) (m (c.tc.loc main_arg1)) (m (c.tc.loc main_arg2)) := by
  refine (dats m 0 c).arrAt_eq_of_covers 4 _ (by decide +kernel) fun t hf y => ?_
  blk_simp
  rw [after0_4]
  refine (outs4 c t m y).trans ((dxB_blk c t m y).trans ?_)
  unfold dxOf
  have q0 : ((win0_4.blk t).view.emb y 0).val = 512 * t.val + (y 0).val := by blk_simp [e4]; omega
  have q1 : ((win0_4.blk t).view.emb y 1).val = (y 1).val := by blk_simp [e4]
  rw [q0, q1]

lemma outs5 (y : S512x1024.Idx) : (outsAt0 m c t.val t.isLt).2.2.1 y = dxB (iblk m c 0 t) (iblk m c 1 t) (iblk m c 2 t) y := by
  by_cases h : t.val % 32 = 0
  · rw [outsAt0_A m c t h]
    dsimp only
    rw [out5_A]
  · rw [outsAt0_B m c t h]
    dsimp only
    rw [out5_B]

lemma array5 : (dats m 0 c).arrAt 5 cfg0.N = dxOf (m (c.tc.loc main_arg0)) (m (c.tc.loc main_arg1)) (m (c.tc.loc main_arg2)) := by
  refine (dats m 0 c).arrAt_eq_of_covers 5 _ (by decide +kernel) fun t hf y => ?_
  blk_simp
  rw [after0_5]
  refine (outs5 c t m y).trans ((dxB_blk c t m y).trans ?_)
  unfold dxOf
  have q0 : ((win0_5.blk t).view.emb y 0).val = 512 * t.val + (y 0).val := by blk_simp [e5]; omega
  have q1 : ((win0_5.blk t).view.emb y 1).val = (y 1).val := by blk_simp [e5]
  rw [q0, q1]

lemma outs3_A (h : t.val % 32 = 0) (y : S1x128.Idx) : (outsAt0 m c t.val t.isLt).1 y = 0 + M3 c m t.val y := by
  rw [outsAt0_A m c t h]
  dsimp only
  rw [out3_A, lossB_blk c t m y]

lemma outs3_B (h : ¬t.val % 32 = 0) (y : S1x128.Idx) : (outsAt0 m c t.val t.isLt).1 y
    = (outsAt0 m c (t.val - 1) (Nat.sub_lt_of_lt t.isLt)).1 y + M3 c m t.val y := by
  rw [outsAt0_B m c t h]
  dsimp only
  rw [out3_B, lossB_blk c t m y]

lemma fold3 (y : S1x128.Idx) (ht : t.val % 32 = 31) : (outsAt0 m c t.val t.isLt).1 y = ∑ s ∈ Finset.range 32, M3 c m s y := by
  have hN : t.val < 32 := t.isLt
  have fold : (outsAt0 m c t.val t.isLt).1 y = ∑ s ∈ Finset.range 32, M3 c m (32 * (t.val / 32) + s) y := by
    rw [← zero_add (∑ s ∈ Finset.range 32, M3 c m (32 * (t.val / 32) + s) y)]
    exact Pipeline.eq_sum_of_reset_step_apply_of_mod (M := EReal) (fun n h => (outsAt0 m c n h).1) 32 (fun _ => 0) (M3 c m)
      (fun t => outs3_A c t m) (fun t => outs3_B c t m) t (by omega) y
  refine fold.trans (Finset.sum_congr rfl fun s _ => ?_)
  rw [show 32 * (t.val / 32) + s = s by omega]

lemma outs6_A (h : t.val % 32 = 0) (y : S1x1024.Idx) : (outsAt0 m c t.val t.isLt).2.2.2 y = 0 + M6 c m t.val y := by
  rw [outsAt0_A m c t h]
  dsimp only
  rw [out6_A, dgB_blk]

lemma outs6_B (h : ¬t.val % 32 = 0) (y : S1x1024.Idx) : (outsAt0 m c t.val t.isLt).2.2.2 y
    = (outsAt0 m c (t.val - 1) (Nat.sub_lt_of_lt t.isLt)).2.2.2 y + M6 c m t.val y := by
  rw [outsAt0_B m c t h]
  dsimp only
  rw [out6_B, dgB_blk]

lemma fold6 (y : S1x1024.Idx) (ht : t.val % 32 = 31) : (outsAt0 m c t.val t.isLt).2.2.2 y = ∑ s ∈ Finset.range 32, M6 c m s y := by
  have hN : t.val < 32 := t.isLt
  have fold : (outsAt0 m c t.val t.isLt).2.2.2 y = ∑ s ∈ Finset.range 32, M6 c m (32 * (t.val / 32) + s) y := by
    rw [← zero_add (∑ s ∈ Finset.range 32, M6 c m (32 * (t.val / 32) + s) y)]
    exact Pipeline.eq_sum_of_reset_step_apply_of_mod (M := EReal) (fun n h => (outsAt0 m c n h).2.2.2) 32 (fun _ => 0) (M6 c m)
      (fun t => outs6_A c t m) (fun t => outs6_B c t m) t (by omega) y
  refine fold.trans (Finset.sum_congr rfl fun s _ => ?_)
  rw [show 32 * (t.val / 32) + s = s by omega]

lemma array3 : (dats m 0 c).arrAt 3 cfg0.N = lossOf (m (c.tc.loc main_arg0)) (m (c.tc.loc main_arg1)) (m (c.tc.loc main_arg2)) := by
  refine (dats m 0 c).arrAt_eq_of_covers 3 _ (by decide +kernel) fun t hf y => ?_
  have ht := (flush0_3 t).mp hf
  blk_simp
  rw [after0_3]
  refine (fold3 c t m y ht).trans ?_
  unfold lossOf M3
  rw [half_eq, Rms.real_mul_sum (by norm_num), ← sum_blocks _ 32 512]

lemma array6 : (dats m 0 c).arrAt 6 cfg0.N = dgOf (m (c.tc.loc main_arg0)) (m (c.tc.loc main_arg1)) (m (c.tc.loc main_arg2)) := by
  refine (dats m 0 c).arrAt_eq_of_covers 6 _ (by decide +kernel) fun t hf y => ?_
  have ht := (flush0_6 t).mp hf
  blk_simp
  rw [after0_6]
  refine (fold6 c t m y ht).trans ?_
  unfold dgOf
  have q1 : ((win0_6.blk t).view.emb y 1).val = (y 1).val := by blk_simp [e6]
  rw [q1, ← sum_blocks _ 32 512]
  rfl

/-! ## The reference's arrays -/

section Reference

open Cert.Reference6Ideal.Read

lemma zero_bits : FloatOps.ofBits (F := Ideal) .f32 0x00000000#32 = 0 := by pointwise

lemma g_eq (g : Scale) (i : (⟨1, ![1024]⟩ : Shape).Idx) {l : Nat} (h : (i 0).val = l) : g i = gAt g l := by
  subst h
  have hl : (i 0).val < 1024 := (i 0).isLt
  unfold gAt
  rw [dif_pos hl]
  congr 1; funext a; fin_cases a; rfl

lemma ref_var (x0) (i : Cert.Reference6Ideal.S16384x1.Idx) : val_main_v6 (F := Ideal) x0 i = Rms.var (at2 x0 (i 0).val) := by
  rw [val_main_v6_apply, val_main_v4_apply, val_main_v5_apply, val_main_v3_apply, val_main_cst_0_apply, val_main_cst_1_apply,
    val_main_v2_apply, val_main_v1_apply, val_main_cst_apply, zero_bits, zero_add]
  unfold Rms.var Rms.mean
  refine congrArg (fun z : EReal => Ideal.div z _ + _) (sum_fin _ _ fun k => ?_)
  rw [val_main_v0_apply]
  exact mulc (at2_eq x0 _ rfl rfl) (at2_eq x0 _ rfl rfl)

lemma ref_inv (x0) (i : Cert.Reference6Ideal.S16384x1.Idx) : val_main_v7 (F := Ideal) x0 i = Rms.inv (at2 x0 (i 0).val) := by
  rw [val_main_v7_apply, ref_var]
  rfl

lemma ref_err (x0 x1 x2) (i : Cert.Reference6Ideal.S16384x1024.Idx) :
    val_main_v16 (F := Ideal) x0 x1 x2 i = err (at2 x0 (i 0).val) (gAt x1) (at2 x2 (i 0).val) (i 1).val := by
  rw [val_main_v16_apply, val_main_v15_apply, val_main_v12_apply, val_main_v11_apply, ref_inv, val_main_v14_apply, val_main_v13_apply,
    at2_eq x0 i rfl rfl, at2_eq x2 i rfl rfl]
  exact congrArg (fun z : EReal => at2 x0 (i 0).val (i 1).val * Rms.inv (at2 x0 (i 0).val) * z - at2 x2 (i 0).val (i 1).val) (g_eq x1 _ rfl)

lemma ref_dy (x0 x1 x2) (i : Cert.Reference6Ideal.S16384x1024.Idx) :
    val_main_v30 (F := Ideal) x0 x1 x2 i = dy (at2 x0 (i 0).val) (gAt x1) (at2 x2 (i 0).val) (i 1).val := by
  rw [val_main_v30_apply, val_main_v29_apply, val_main_v28_apply, val_main_v26_apply, val_main_v25_apply, val_main_v27_apply,
    val_main_cst_8_apply, val_main_cst_9_apply, val_main_cst_10_apply, val_main_v19_apply, val_main_v18_apply, val_main_cst_3_apply, ref_err]
  exact dy_eq _

lemma ref_dxh (x0 x1 x2) (i : Cert.Reference6Ideal.S16384x1024.Idx) :
    val_main_v35 (F := Ideal) x0 x1 x2 i = dy (at2 x0 (i 0).val) (gAt x1) (at2 x2 (i 0).val) (i 1).val * gAt x1 (i 1).val := by
  rw [val_main_v35_apply, ref_dy, val_main_v34_apply, val_main_v13_apply]
  exact congrArg (fun a : EReal => _ * a) (g_eq x1 _ rfl)

lemma ref_coef (x0 x1 x2) (i : Cert.Reference6Ideal.S16384x1024.Idx) :
    val_main_v46 (F := Ideal) x0 x1 x2 i
      = Rms.coef (at2 x0 (i 0).val) (fun k => dy (at2 x0 (i 0).val) (gAt x1) (at2 x2 (i 0).val) k * gAt x1 k) := by
  rw [val_main_v46_apply, val_main_v45_apply, val_main_cst_15_apply, zero_bits, zero_add, Fin.sum_univ_one, val_main_v44_apply, val_main_v42_apply,
    val_main_v43_apply, val_main_cst_14_apply, val_main_v10_apply, val_main_v9_apply, val_main_cst_2_apply, val_main_v8_apply, ref_inv, ref_var,
    val_main_v39_apply, val_main_v38_apply, val_main_cst_13_apply, zero_bits, zero_add]
  unfold Rms.coef
  refine congrArg (fun z : EReal => Ideal.div (z * _) _) (sum_fin _ _ fun k => ?_)
  rw [val_main_v37_apply, ref_dxh]
  have e0 : (idx_main_v38 (idx_main_v39 (idx_main_v45 (idx_main_v46 i) 0)) k 0).val = (i 0).val := by
    show (i 0).val * 1 + 0 = (i 0).val
    omega
  have e1 : (idx_main_v38 (idx_main_v39 (idx_main_v45 (idx_main_v46 i) 0)) k 1).val = k.val := rfl
  rw [e0, e1]
  exact congrArg (fun a : EReal => a * _) (at2_eq x0 _ e0 e1)

lemma ref_dx (x0 x1 x2) : val_main_v50 (F := Ideal) x0 x1 x2 = dxOf x0 x1 x2 := by
  funext i
  rw [val_main_v50_apply, val_main_v48_apply, val_main_v49_apply, val_main_v47_apply, val_main_v41_apply, val_main_v40_apply,
    ref_coef, ref_inv, ref_dxh, at2_eq x0 i rfl rfl]
  refine Eq.trans (congrArg (fun z : EReal => z + _ + _) (zero_add _).symm) ?_
  exact Rms.dx_eq 0 (at2 x0 (i 0).val) (fun k => dy (at2 x0 (i 0).val) (gAt x1) (at2 x2 (i 0).val) k * gAt x1 k) (i 1).val

lemma ref_dxb (x0 x1 x2) : val_main_v52 (F := Ideal) x0 x1 x2 = dxOf x0 x1 x2 := by
  rw [← ref_dx]
  rfl

lemma ref_dg (x0 x1 x2) : val_main_v53 (F := Ideal) x0 x1 x2 = dgOf x0 x1 x2 := by
  funext i
  rw [val_main_v53_apply, val_main_v36_apply, val_main_cst_12_apply, zero_bits, zero_add, Fin.sum_univ_one, val_main_v33_apply, val_main_v32_apply,
    val_main_cst_11_apply, zero_bits, zero_add]
  unfold dgOf
  refine sum_fin _ _ fun k => ?_
  rw [val_main_v31_apply, ref_dy, val_main_v12_apply, val_main_v11_apply, ref_inv]
  have e : (idx_main_v32 (idx_main_v33 (idx_main_v36 (idx_main_v53 i) 0)) k 1).val = (i 1).val := by
    show 0 * 1024 + (i 1).val = (i 1).val
    omega
  rw [e]
  refine Eq.trans (congrArg (fun a : EReal => a * _ * _) (at2_eq x0 _ rfl e)) ?_
  exact mul_comm (at2 x0 k.val (i 1).val * Rms.inv (at2 x0 k.val)) (dy (at2 x0 k.val) (gAt x1) (at2 x2 k.val) (i 1).val)

/-- A sum over a line's indices is a sum over its numbers. -/
lemma sum_line (f : Cert.Reference6Ideal.S16384.Idx → EReal) (g : Nat → EReal) (h : ∀ j, f j = g (j 0).val) :
    ∑ j, f j = ∑ k ∈ Finset.range 16384, g k := by
  refine Eq.trans ?_ (Fin.sum_univ_eq_sum_range g 16384)
  refine Fintype.sum_equiv (⟨fun j => j 0, fun k => ix1 k, fun j => ?_, fun k => rfl⟩ : Cert.Reference6Ideal.S16384.Idx ≃ Fin 16384) _ _ h
  funext a
  fin_cases a
  rfl

lemma ref_loss (x0 x1 x2) : val_main_v51 (F := Ideal) x0 x1 x2 = lossOf x0 x1 x2 := by
  funext i
  rw [val_main_v51_apply, val_main_v24_apply, val_main_cst_7_apply, val_main_v23_apply, val_main_cst_6_apply, zero_bits, zero_add]
  unfold lossOf
  refine congrArg (fun z : EReal => half * z) (sum_line _ _ fun j => ?_)
  rw [val_main_v22_apply, val_main_v20_apply, val_main_v21_apply, val_main_cst_5_apply, val_main_cst_4_apply, zero_bits, zero_add]
  unfold rowLoss Rms.mean
  refine congrArg (fun z : EReal => Ideal.div z _) (sum_fin _ _ fun k => ?_)
  rw [val_main_v17_apply, ref_err]
  rfl

end Reference

/-! ## The claim -/

lemma algebraic_loss : Cert.algebraic_Kernel6Ideal_Reference6Ideal := fun m ρ m' ρ' _ hag =>
  ⟨fun c => (dats m 0 c).arrAt 3 cfg0.N, fun c => (dats m 0 c).arrAt 4 cfg0.N, fun c => (dats m 0 c).arrAt 5 cfg0.N,
    fun c => (dats m 0 c).arrAt 6 cfg0.N, Cert.Kernel6Ideal.Value.run_blocks m ρ,
    (θ_run _ _ _).mono (fun _ h c => by
      obtain ⟨h0, h1, h2⟩ := hag c
      exact ⟨(h c).1.trans ((Cert.Reference6Ideal.Read.val_main_v51_eq _ _ _).trans ((ref_loss _ _ _).trans
            ((lossOf_congr h0 h1 h2).trans (array3 c m).symm))),
          (h c).2.1.trans ((Cert.Reference6Ideal.Read.val_main_v50_eq _ _).trans ((ref_dx _ _ _).trans
            ((dxOf_congr h0 h1 h2).trans (array4 c m).symm))),
          (h c).2.2.1.trans ((Cert.Reference6Ideal.Read.val_main_v52_eq _ _).trans ((ref_dxb _ _ _).trans
            ((dxOf_congr h0 h1 h2).trans (array5 c m).symm))),
          (h c).2.2.2.1.trans ((Cert.Reference6Ideal.Read.val_main_v53_eq _ _ _).trans ((ref_dg _ _ _).trans
            ((dgOf_congr h0 h1 h2).trans (array6 c m).symm))),
          (h c).2.2.2.2⟩)
      (Cert.Reference6Ideal.Value.run m' ρ')⟩

end Cert.Proof.LossHead
-- ==== Proof.InProj.lean ====
module

public import proofs.«01_k».proof.Proof.Rms
public import proofs.«01_k».proof.Proof.Gen.Kernel8Ideal.Value
public import proofs.«01_k».proof.Proof.Gen.Reference8Ideal.Read
public import Idealize.ShloMosaic.Lib.Pipeline.ReadBack
public import proofs.«01_k».proof.Defs

@[expose] public section

set_option maxRecDepth 16384

noncomputable section

/-! The norm and the projection into packed columns, with the heads cut out of the product. -/

namespace Cert.Proof.InProj

open Cert.Kernel8Ideal Cert.Kernel8Ideal.Gen Cert.Kernel8Ideal.Value Idealize.ShloMosaic Idealize.ShloMosaic.TcCoe Idealize.SL.Sem
  Idealize.ShloMosaic.Tactic

/-- The scale of the logits, one over the root of a head's width. -/
abbrev eighth : EReal := Ideal.ofBits .f32 0x3E000000#32

/-- An entry of a normed row. -/
def normed (x g : Nat → EReal) (k : Nat) : EReal := x k * Rms.inv x * g k

lemma normed_congr {x x' g g' : Nat → EReal} {k : Nat} (hx : ∀ k, k < 1024 → x k = x' k) (hg : ∀ k, k < 1024 → g k = g' k) (hk : k < 1024) :
    normed x g k = normed x' g' k := by
  unfold normed
  rw [Rms.inv_congr hx, hx k hk, hg k hk]

/-! ## The body at an index -/

lemma pay10_apply (v3 : Vec Ideal S1024x1024 .f32) (v14 : Vec Ideal S1x1024 .f32) (x : S1024x1024.Idx) :
    k0_pay10 v3 v14 x = normed (at2 v3 (x 0).val) (at2 v14 0) (x 1).val := by
  unfold normed Rms.inv Rms.var Rms.mean
  rw [← sum_fin (fun k : Fin 1024 => v3 (ix2 ⟨(x 0).val, (x 0).isLt⟩ k) * v3 (ix2 ⟨(x 0).val, (x 0).isLt⟩ k)) _
    (fun k => congrArg₂ (· * ·) (at2_of_lt v3 (x 0).isLt k.isLt).symm (at2_of_lt v3 (x 0).isLt k.isLt).symm),
    at2_of_lt v3 (x 0).isLt (x 1).isLt, at2_of_lt v14 Nat.one_pos (x 1).isLt]
  unfold_payloads
  idx_vars x
  pointwise

lemma pay11_apply (v3 : Vec Ideal S1024x1024 .f32) (v14 : Vec Ideal S1x1024 .f32) (v20 : Vec Ideal S1x1024x1280 .bf16) (x : S1024x1280.Idx) :
    k0_pay11 v3 v14 v20 x = ∑ k ∈ Finset.range 1024, normed (at2 v3 (x 0).val) (at2 v14 0) k * at3 v20 0 k (x 1).val := by
  rw [← sum_fin (fun k : Fin 1024 => k0_pay10 v3 v14 (ix2 ⟨(x 0).val, (x 0).isLt⟩ k) * v20 (ix3 0 k ⟨(x 1).val, (x 1).isLt⟩)) _
    (fun k => congrArg₂ (· * ·) (pay10_apply _ _ _) (at3_of_lt v20 Nat.one_pos k.isLt (x 1).isLt).symm)]
  unfold k0_pay11
  generalize k0_pay10 v3 v14 = w
  idx_vars x
  pointwise

lemma pay12_eq : k0_pay12 (F := Ideal) = k0_pay11 := by unfold k0_pay12 k0_pay11; rfl

lemma pay13_apply (v : Vec Ideal S1024x256 .bf16) (x : S1024x256.Idx) : k0_pay13 v x = at2 v (x 0).val (x 1).val * eighth := by
  rw [at2_of_lt v (x 0).isLt (x 1).isLt]
  unfold_payloads
  idx_vars x
  pointwise

lemma pay18_apply (v : Vec Ideal S1024x256 .bf16) (x : S256x1024.Idx) : k0_pay18 v x = at2 v (x 1).val (x 0).val * eighth := by
  have e : at2 v (x 1).val (x 0).val * eighth = k0_pay13 v (ix2 ⟨(x 1).val, (x 1).isLt⟩ ⟨(x 0).val, (x 0).isLt⟩) := by symm; exact pay13_apply v _
  rw [e]
  unfold k0_pay18
  generalize k0_pay13 v = w
  idx_vars x
  pointwise

lemma pay1_apply (v : Vec Ideal S1024x256 .bf16) (x : S256x1024.Idx) : k0_pay1 v x = at2 v (x 1).val (x 0).val := by
  rw [at2_of_lt v (x 1).isLt (x 0).isLt]
  unfold_payloads
  idx_vars x
  pointwise

lemma pay23_eq : k0_pay23 (F := Ideal) = k0_pay1 := by unfold k0_pay23 k0_pay1; rfl

lemma pay14_apply (v : Vec Ideal S1024x256 .bf16) (z : S1x1024x64.Idx) :
    k0_pay14 v z = at2 v (z 1).val (0 + (z 2).val) * eighth := by
  have h2 : (z 2).val < 64 := (z 2).isLt
  have e : at2 v (z 1).val (0 + (z 2).val) * eighth = k0_pay13 v (ix2 ⟨(z 1).val, (z 1).isLt⟩ ⟨0 + (z 2).val, by omega⟩) :=
    by symm; exact pay13_apply v _
  rw [e]
  unfold k0_pay14
  generalize k0_pay13 v = w
  idx_vars z
  obtain rfl : z0 = 0 := Subsingleton.elim _ _
  pointwise

lemma pay15_apply (v : Vec Ideal S1024x256 .bf16) (z : S1x1024x64.Idx) :
    k0_pay15 v z = at2 v (z 1).val (64 + (z 2).val) * eighth := by
  have h2 : (z 2).val < 64 := (z 2).isLt
  have e : at2 v (z 1).val (64 + (z 2).val) * eighth = k0_pay13 v (ix2 ⟨(z 1).val, (z 1).isLt⟩ ⟨64 + (z 2).val, by omega⟩) :=
    by symm; exact pay13_apply v _
  rw [e]
  unfold k0_pay15
  generalize k0_pay13 v = w
  idx_vars z
  obtain rfl : z0 = 0 := Subsingleton.elim _ _
  pointwise

lemma pay16_apply (v : Vec Ideal S1024x256 .bf16) (z : S1x1024x64.Idx) :
    k0_pay16 v z = at2 v (z 1).val (128 + (z 2).val) * eighth := by
  have h2 : (z 2).val < 64 := (z 2).isLt
  have e : at2 v (z 1).val (128 + (z 2).val) * eighth = k0_pay13 v (ix2 ⟨(z 1).val, (z 1).isLt⟩ ⟨128 + (z 2).val, by omega⟩) :=
    by symm; exact pay13_apply v _
  rw [e]
  unfold k0_pay16
  generalize k0_pay13 v = w
  idx_vars z
  obtain rfl : z0 = 0 := Subsingleton.elim _ _
  pointwise

lemma pay17_apply (v : Vec Ideal S1024x256 .bf16) (z : S1x1024x64.Idx) :
    k0_pay17 v z = at2 v (z 1).val (192 + (z 2).val) * eighth := by
  have h2 : (z 2).val < 64 := (z 2).isLt
  have e : at2 v (z 1).val (192 + (z 2).val) * eighth = k0_pay13 v (ix2 ⟨(z 1).val, (z 1).isLt⟩ ⟨192 + (z 2).val, by omega⟩) :=
    by symm; exact pay13_apply v _
  rw [e]
  unfold k0_pay17
  generalize k0_pay13 v = w
  idx_vars z
  obtain rfl : z0 = 0 := Subsingleton.elim _ _
  pointwise

lemma pay19_apply (v : Vec Ideal S1024x256 .bf16) (z : S1x64x1024.Idx) :
    k0_pay19 v z = at2 v (z 2).val (0 + (z 1).val) * eighth := by
  have h1 : (z 1).val < 64 := (z 1).isLt
  have e : at2 v (z 2).val (0 + (z 1).val) * eighth = k0_pay18 v (ix2 ⟨0 + (z 1).val, by omega⟩ ⟨(z 2).val, (z 2).isLt⟩) :=
    by symm; exact pay18_apply v _
  rw [e]
  unfold k0_pay19
  generalize k0_pay18 v = w
  idx_vars z
  obtain rfl : z0 = 0 := Subsingleton.elim _ _
  pointwise

lemma pay20_apply (v : Vec Ideal S1024x256 .bf16) (z : S1x64x1024.Idx) :
    k0_pay20 v z = at2 v (z 2).val (64 + (z 1).val) * eighth := by
  have h1 : (z 1).val < 64 := (z 1).isLt
  have e : at2 v (z 2).val (64 + (z 1).val) * eighth = k0_pay18 v (ix2 ⟨64 + (z 1).val, by omega⟩ ⟨(z 2).val, (z 2).isLt⟩) :=
    by symm; exact pay18_apply v _
  rw [e]
  unfold k0_pay20
  generalize k0_pay18 v = w
  idx_vars z
  obtain rfl : z0 = 0 := Subsingleton.elim _ _
  pointwise

lemma pay21_apply (v : Vec Ideal S1024x256 .bf16) (z : S1x64x1024.Idx) :
    k0_pay21 (k0_pay18 v) z = at2 v (z 2).val (128 + (z 1).val) * eighth := by
  have h1 : (z 1).val < 64 := (z 1).isLt
  have e : at2 v (z 2).val (128 + (z 1).val) * eighth = k0_pay18 v (ix2 ⟨128 + (z 1).val, by omega⟩ ⟨(z 2).val, (z 2).isLt⟩) :=
    by symm; exact pay18_apply v _
  rw [e]
  generalize k0_pay18 v = w
  unfold k0_pay21
  idx_vars z
  obtain rfl : z0 = 0 := Subsingleton.elim _ _
  pointwise

lemma pay22_apply (v : Vec Ideal S1024x256 .bf16) (z : S1x64x1024.Idx) :
    k0_pay22 (k0_pay18 v) z = at2 v (z 2).val (192 + (z 1).val) * eighth := by
  have h1 : (z 1).val < 64 := (z 1).isLt
  have e : at2 v (z 2).val (192 + (z 1).val) * eighth = k0_pay18 v (ix2 ⟨192 + (z 1).val, by omega⟩ ⟨(z 2).val, (z 2).isLt⟩) :=
    by symm; exact pay18_apply v _
  rw [e]
  generalize k0_pay18 v = w
  unfold k0_pay22
  idx_vars z
  obtain rfl : z0 = 0 := Subsingleton.elim _ _
  pointwise

lemma pay2_apply (v : Vec Ideal S1024x256 .bf16) (z : S1x64x1024.Idx) :
    k0_pay2 v z = at2 v (z 2).val (0 + (z 1).val) := by
  have h1 : (z 1).val < 64 := (z 1).isLt
  have e : at2 v (z 2).val (0 + (z 1).val) = k0_pay1 v (ix2 ⟨0 + (z 1).val, by omega⟩ ⟨(z 2).val, (z 2).isLt⟩) :=
    by symm; exact pay1_apply v _
  rw [e]
  unfold k0_pay2
  generalize k0_pay1 v = w
  idx_vars z
  obtain rfl : z0 = 0 := Subsingleton.elim _ _
  pointwise

lemma pay3_apply (v : Vec Ideal S1024x256 .bf16) (z : S1x64x1024.Idx) :
    k0_pay3 v z = at2 v (z 2).val (64 + (z 1).val) := by
  have h1 : (z 1).val < 64 := (z 1).isLt
  have e : at2 v (z 2).val (64 + (z 1).val) = k0_pay1 v (ix2 ⟨64 + (z 1).val, by omega⟩ ⟨(z 2).val, (z 2).isLt⟩) :=
    by symm; exact pay1_apply v _
  rw [e]
  unfold k0_pay3
  generalize k0_pay1 v = w
  idx_vars z
  obtain rfl : z0 = 0 := Subsingleton.elim _ _
  pointwise

lemma pay4_apply (v : Vec Ideal S1024x256 .bf16) (z : S1x64x1024.Idx) :
    k0_pay4 v z = at2 v (z 2).val (128 + (z 1).val) := by
  have h1 : (z 1).val < 64 := (z 1).isLt
  have e : at2 v (z 2).val (128 + (z 1).val) = k0_pay1 v (ix2 ⟨128 + (z 1).val, by omega⟩ ⟨(z 2).val, (z 2).isLt⟩) :=
    by symm; exact pay1_apply v _
  rw [e]
  unfold k0_pay4
  generalize k0_pay1 v = w
  idx_vars z
  obtain rfl : z0 = 0 := Subsingleton.elim _ _
  pointwise

lemma pay5_apply (v : Vec Ideal S1024x256 .bf16) (z : S1x64x1024.Idx) :
    k0_pay5 v z = at2 v (z 2).val (192 + (z 1).val) := by
  have h1 : (z 1).val < 64 := (z 1).isLt
  have e : at2 v (z 2).val (192 + (z 1).val) = k0_pay1 v (ix2 ⟨192 + (z 1).val, by omega⟩ ⟨(z 2).val, (z 2).isLt⟩) :=
    by symm; exact pay1_apply v _
  rw [e]
  unfold k0_pay5
  generalize k0_pay1 v = w
  idx_vars z
  obtain rfl : z0 = 0 := Subsingleton.elim _ _
  pointwise

lemma pay24_eq : k0_pay24 (F := Ideal) = k0_pay2 := by unfold k0_pay24 k0_pay2; rw [pay23_eq]
lemma pay25_eq : k0_pay25 (F := Ideal) = k0_pay3 := by unfold k0_pay25 k0_pay3; rw [pay23_eq]
lemma pay26_eq : k0_pay26 (F := Ideal) = k0_pay4 := by unfold k0_pay26 k0_pay4; rw [pay23_eq]
lemma pay27_eq : k0_pay27 (F := Ideal) = k0_pay5 := by unfold k0_pay27 k0_pay5; rw [pay23_eq]

lemma ld_x (X : Vec Ideal S1024x1024 .f32) (inb : ∀ a, (![0, 0] : Fin 2 → Nat) a + (![1024, 1024] : Fin 2 → Nat) a ≤ S1024x1024.size a) :
    View.ld (Val := Elt Ideal) (e' := .f32) X (Rect.unit (s := S1024x1024) ![0, 0] ![1024, 1024] inb) = X := View.ld_unit_lit inb X (by decide)

lemma ld_g (X : Vec Ideal S1x1024 .f32) (inb : ∀ a, (![0, 0] : Fin 2 → Nat) a + (![1, 1024] : Fin 2 → Nat) a ≤ S1x1024.size a) :
    View.ld (Val := Elt Ideal) (e' := .f32) X (Rect.unit (s := S1x1024) ![0, 0] ![1, 1024] inb) = X := View.ld_unit_lit inb X (by decide)

/-- Some columns of the product. -/
lemma at2_cols (x3 : Vec Ideal S1024x2560 .bf16) (o : Nat) (ho : o + 256 ≤ 2560)
    (inb : ∀ a, (![0, o] : Fin 2 → Nat) a + (![1024, 256] : Fin 2 → Nat) a ≤ S1024x2560.size a) (k l : Nat) (hk : k < 1024) (hl : l < 256) :
    at2 (View.ld (Val := Elt Ideal) (e' := .bf16) x3 (Rect.unit (s := S1024x2560) ![0, o] ![1024, 256] inb)) k l = at2 x3 k (o + l) := by
  refine (at2_of_lt _ hk hl).trans ?_
  rw [at2_of_lt x3 hk (by omega)]
  show x3 _ = x3 _
  congr 1
  funext a
  fin_cases a
  · exact Fin.ext (by show 0 + 1 * k = k; omega)
  · exact Fin.ext (by show o + 1 * l = o + l; omega)

/-- Half of the wide weights. -/
lemma at3_half (w : Vec Ideal S2x1024x1280 .bf16) (o : Nat) (ho : o < 2)
    (inb : ∀ a, (![o, 0, 0] : Fin 3 → Nat) a + (![1, 1024, 1280] : Fin 3 → Nat) a ≤ S2x1024x1280.size a) (k l : Nat) (hk : k < 1024) (hl : l < 1280) :
    at3 (View.ld (Val := Elt Ideal) (e' := .bf16) w (Rect.unit (s := S2x1024x1280) ![o, 0, 0] ![1, 1024, 1280] inb)) 0 k l = at3 w o k l := by
  refine (at3_of_lt _ Nat.one_pos hk hl).trans ?_
  rw [at3_of_lt w ho hk hl]
  show w _ = w _
  congr 1
  funext a
  fin_cases a
  · exact Fin.ext (by show o + 1 * 0 = o; omega)
  · exact Fin.ext (by show 0 + 1 * k = k; omega)
  · exact Fin.ext (by show 0 + 1 * l = l; omega)

/-- The weights of the layer as the scratch keeps them: two halves of the packed columns. -/
def wide (x4 : Vec Ideal S4x1x1024x640 .bf16) : Vec Ideal S2x1024x1280 .bf16 := fun y =>
  at4 x4 (2 * (y 0).val + (y 2).val / 640) 0 (y 1).val ((y 2).val % 640)

variable (c : Dev nD) (t : Fin cfg0.N)
  (x0 : Vec Ideal S1024x1024 .f32) (x1 : Vec Ideal S1x1024 .f32) (x2 : Vec Ideal S4x1x1024x640 .bf16) (xs : Vec Ideal S2x1024x1280 .bf16)

/-- The point's rows of the product. -/
def zV : Vec Ideal S1024x2560 .bf16 := fun y =>
  ∑ k ∈ Finset.range 1024, normed (at2 x0 (y 0).val) (at2 x1 0) k * at3 xs ((y 1).val / 1280) k ((y 1).val % 1280)

lemma canon_z (y : S1024x2560.Idx) :
    View.canon (Val := Elt Ideal) (e := .bf16)
      [⟨Rect.unit ![0, 1280] ![1024, 1280] inb_S1024x2560_S1024x1280_0_1280,
          k0_pay12 x0 x1 (View.ld xs (Rect.unit ![1, 0, 0] ![1, 1024, 1280] inb_S2x1024x1280_S1x1024x1280_1_0_0))⟩,
        ⟨Rect.unit ![0, 0] ![1024, 1280] inb_S1024x2560_S1024x1280_0_0,
          k0_pay11 x0 x1 (View.ld xs (Rect.unit ![0, 0, 0] ![1, 1024, 1280] inb_S2x1024x1280_S1x1024x1280_0_0_0))⟩] y
      = zV x0 x1 xs y := by
  have key : ∀ (o : Nat) (ho : o < 2) (inb) (x : S1024x1280.Idx), (y 0).val = (x 0).val → (y 1).val = 1280 * o + (x 1).val →
      k0_pay11 (F := Ideal) x0 x1 (View.ld (Val := Elt Ideal) (e' := .bf16) xs (Rect.unit (s := S2x1024x1280) ![o, 0, 0] ![1, 1024, 1280] inb)) x
        = zV x0 x1 xs y := by
    intro o ho inb x e0 e1
    have h1 : (x 1).val < 1280 := (x 1).isLt
    rw [pay11_apply]
    unfold zV
    rw [e0, e1, show (1280 * o + (x 1).val) / 1280 = o by omega, show (1280 * o + (x 1).val) % 1280 = (x 1).val by omega]
    refine Finset.sum_congr rfl fun k hk => ?_
    rw [at3_half xs o ho inb k _ (Finset.mem_range.mp hk) h1]
  rw [pay12_eq]
  canon_tiles x h
  · exact key 1 (by omega) _ x (by omega) (by omega)
  · exact key 0 (by omega) _ x (by omega) (by omega)

lemma pay6_apply (v : Vec Ideal S1x1x1024x640 .bf16) (z : S1x1024x640.Idx) : k0_pay6 v z = at4 v 0 0 (z 1).val (z 2).val := by
  rw [at4_of_lt v Nat.one_pos Nat.one_pos (z 1).isLt (z 2).isLt]
  unfold_payloads
  idx_vars z
  obtain rfl : z0 = 0 := Subsingleton.elim _ _
  pointwise

lemma pay7_eq : k0_pay7 (F := Ideal) = k0_pay6 := by unfold k0_pay7 k0_pay6; rfl
lemma pay8_eq : k0_pay8 (F := Ideal) = k0_pay6 := by unfold k0_pay8 k0_pay6; rfl
lemma pay9_eq : k0_pay9 (F := Ideal) = k0_pay6 := by unfold k0_pay9 k0_pay6; rfl

lemma at4_blk (o : Nat) (ho : o < 4)
    (inb : ∀ a, (![o, 0, 0, 0] : Fin 4 → Nat) a + (![1, 1, 1024, 640] : Fin 4 → Nat) a ≤ S4x1x1024x640.size a) (k l : Nat) (hk : k < 1024)
    (hl : l < 640) :
    at4 (View.ld (Val := Elt Ideal) (e' := .bf16) x2 (Rect.unit (s := S4x1x1024x640) ![o, 0, 0, 0] ![1, 1, 1024, 640] inb)) 0 0 k l = at4 x2 o 0 k l := by
  refine (at4_of_lt _ Nat.one_pos Nat.one_pos hk hl).trans ?_
  rw [at4_of_lt x2 ho Nat.one_pos hk hl]
  show x2 _ = x2 _
  congr 1
  funext a
  fin_cases a
  · exact Fin.ext (by show o + 1 * 0 = o; omega)
  · rfl
  · exact Fin.ext (by show 0 + 1 * k = k; omega)
  · exact Fin.ext (by show 0 + 1 * l = l; omega)

lemma canon_wide (y : S2x1024x1280.Idx) :
    View.canon (Val := Elt Ideal) (e := .bf16)
      [⟨Rect.unit ![1, 0, 640] ![1, 1024, 640] inb_S2x1024x1280_S1x1024x640_1_0_640,
          k0_pay9 (View.ld x2 (Rect.unit ![3, 0, 0, 0] ![1, 1, 1024, 640] inb_S4x1x1024x640_S1x1x1024x640_3_0_0_0))⟩,
        ⟨Rect.unit ![1, 0, 0] ![1, 1024, 640] inb_S2x1024x1280_S1x1024x640_1_0_0,
          k0_pay8 (View.ld x2 (Rect.unit ![2, 0, 0, 0] ![1, 1, 1024, 640] inb_S4x1x1024x640_S1x1x1024x640_2_0_0_0))⟩,
        ⟨Rect.unit ![0, 0, 640] ![1, 1024, 640] inb_S2x1024x1280_S1x1024x640_0_0_640,
          k0_pay7 (View.ld x2 (Rect.unit ![1, 0, 0, 0] ![1, 1, 1024, 640] inb_S4x1x1024x640_S1x1x1024x640_1_0_0_0))⟩,
        ⟨Rect.unit ![0, 0, 0] ![1, 1024, 640] inb_S2x1024x1280_S1x1024x640_0_0_0,
          k0_pay6 (View.ld x2 (Rect.unit ![0, 0, 0, 0] ![1, 1, 1024, 640] inb_S4x1x1024x640_S1x1x1024x640_0_0_0_0))⟩] y
      = wide x2 y := by
  have key : ∀ (o : Nat) (ho : o < 4) (inb) (x : S1x1024x640.Idx), (y 0).val = o / 2 → (y 1).val = (x 1).val → (y 2).val = o % 2 * 640 + (x 2).val →
      k0_pay6 (F := Ideal) (View.ld (Val := Elt Ideal) (e' := .bf16) x2 (Rect.unit (s := S4x1x1024x640) ![o, 0, 0, 0] ![1, 1, 1024, 640] inb)) x
        = wide x2 y := by
    intro o ho inb x e0 e1 e2
    have h2 : (x 2).val < 640 := (x 2).isLt
    rw [pay6_apply, at4_blk x2 o ho inb _ _ (x 1).isLt h2]
    unfold wide
    rw [e0, e1, e2, show 2 * (o / 2) + (o % 2 * 640 + (x 2).val) / 640 = o by omega, show (o % 2 * 640 + (x 2).val) % 640 = (x 2).val by omega]
  rw [pay7_eq, pay8_eq, pay9_eq]
  canon_tiles x h
  · exact key 3 (by omega) _ x (by omega) h1 (by omega)
  · exact key 2 (by omega) _ x (by omega) h1 (by omega)
  · exact key 1 (by omega) _ x (by omega) h1 (by omega)
  · exact key 0 (by omega) _ x (by omega) h1 (by omega)

lemma sout_A (h0 : cond0_0 (grid0.coords t)) (y : S2x1024x1280.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 y = wide x2 y := by
  rw [sout0_A_0, View.read_writes_eq_canon _ _ _ (scover0_A_0 c _ _ _ _ _ _ _ _ _ _ _ _ _ _ _ _ _ _ _ _ _ _ _ _ _)]
  unfold kernelRun0_A
  dsimp only
  sl_unfold_words
  simp only [View.readAt_eq_ld, (hs0_2 t).read_unread]
  exact canon_wide x2 y

lemma out3_B (h0 : ¬cond0_0 (grid0.coords t)) (y : S1024x2560.Idx) :
    out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 xs y
      = zV x0 x1 xs y := by
  rw [out0_B_3, View.read_writes_eq_canon _ _ _ (cover0_B_3 c _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (Memref.isWhole_whole _).read_unread, ld_x, ld_g]
  exact canon_z x0 x1 xs y

lemma out4_B (h0 : ¬cond0_0 (grid0.coords t)) (y : S1024x1024.Idx) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 xs y
      = normed (at2 x0 (y 0).val) (at2 x1 0) (y 1).val := by
  rw [out0_B_4, View.read_writes_eq_canon _ _ _ (cover0_B_4 c _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (Memref.isWhole_whole _).read_unread, ld_x, ld_g]
  refine (canon_hit inb_S1024x1024_S1024x1024_0_0 _ [] y y fun a => ?_).trans ?_
  · fin_cases a
    · exact (Nat.zero_add _).symm
    · exact (Nat.zero_add _).symm
  exact pay10_apply x0 x1 y

lemma out5_B (h0 : ¬cond0_0 (grid0.coords t)) (y : S4x1024x64.Idx) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 xs y
      = at2 (zV x0 x1 xs) (y 1).val (1280 + (64 * (y 0).val + (y 2).val)) * eighth := by
  rw [out0_B_5, View.read_writes_eq_canon _ _ _ (cover0_B_5 c _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (Memref.isWhole_whole _).read_unread, ld_x, ld_g]
  simp only [View.readCov_eq_canon', canon_z x0 x1 xs]
  canon_tiles x h
  · have hx : (x 2).val < 64 := (x 2).isLt
    refine (pay17_apply _ x).trans ?_
    refine congrArg (fun z : EReal => z * eighth) ((at2_cols (zV x0 x1 xs) 1280 (by omega) _ _ _ (x 1).isLt (by omega)).trans ?_)
    congr 1 <;> omega
  · have hx : (x 2).val < 64 := (x 2).isLt
    refine (pay16_apply _ x).trans ?_
    refine congrArg (fun z : EReal => z * eighth) ((at2_cols (zV x0 x1 xs) 1280 (by omega) _ _ _ (x 1).isLt (by omega)).trans ?_)
    congr 1 <;> omega
  · have hx : (x 2).val < 64 := (x 2).isLt
    refine (pay15_apply _ x).trans ?_
    refine congrArg (fun z : EReal => z * eighth) ((at2_cols (zV x0 x1 xs) 1280 (by omega) _ _ _ (x 1).isLt (by omega)).trans ?_)
    congr 1 <;> omega
  · have hx : (x 2).val < 64 := (x 2).isLt
    refine (pay14_apply _ x).trans ?_
    refine congrArg (fun z : EReal => z * eighth) ((at2_cols (zV x0 x1 xs) 1280 (by omega) _ _ _ (x 1).isLt (by omega)).trans ?_)
    congr 1 <;> omega

lemma out6_B (h0 : ¬cond0_0 (grid0.coords t)) (y : S4x64x1024.Idx) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 xs y
      = at2 (zV x0 x1 xs) (y 2).val (1280 + (64 * (y 0).val + (y 1).val)) * eighth := by
  rw [out0_B_6, View.read_writes_eq_canon _ _ _ (cover0_B_6 c _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (Memref.isWhole_whole _).read_unread, ld_x, ld_g]
  simp only [View.readCov_eq_canon', canon_z x0 x1 xs]
  canon_tiles x h
  · have hx : (x 1).val < 64 := (x 1).isLt
    refine (pay22_apply _ x).trans ?_
    refine congrArg (fun z : EReal => z * eighth) ((at2_cols (zV x0 x1 xs) 1280 (by omega) _ _ _ (x 2).isLt (by omega)).trans ?_)
    congr 1 <;> omega
  · have hx : (x 1).val < 64 := (x 1).isLt
    refine (pay21_apply _ x).trans ?_
    refine congrArg (fun z : EReal => z * eighth) ((at2_cols (zV x0 x1 xs) 1280 (by omega) _ _ _ (x 2).isLt (by omega)).trans ?_)
    congr 1 <;> omega
  · have hx : (x 1).val < 64 := (x 1).isLt
    refine (pay20_apply _ x).trans ?_
    refine congrArg (fun z : EReal => z * eighth) ((at2_cols (zV x0 x1 xs) 1280 (by omega) _ _ _ (x 2).isLt (by omega)).trans ?_)
    congr 1 <;> omega
  · have hx : (x 1).val < 64 := (x 1).isLt
    refine (pay19_apply _ x).trans ?_
    refine congrArg (fun z : EReal => z * eighth) ((at2_cols (zV x0 x1 xs) 1280 (by omega) _ _ _ (x 2).isLt (by omega)).trans ?_)
    congr 1 <;> omega

lemma out7_B (h0 : ¬cond0_0 (grid0.coords t)) (y : S4x64x1024.Idx) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 xs y
      = at2 (zV x0 x1 xs) (y 2).val (1536 + (64 * (y 0).val + (y 1).val)) := by
  rw [out0_B_7, View.read_writes_eq_canon _ _ _ (cover0_B_7 c _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (Memref.isWhole_whole _).read_unread, ld_x, ld_g]
  simp only [View.readCov_eq_canon', canon_z x0 x1 xs]
  rw [pay24_eq, pay25_eq, pay26_eq, pay27_eq]
  canon_tiles x h
  · have hx : (x 1).val < 64 := (x 1).isLt
    refine (pay5_apply _ x).trans ?_
    refine ((at2_cols (zV x0 x1 xs) 1536 (by omega) _ _ _ (x 2).isLt (by omega)).trans ?_)
    congr 1 <;> omega
  · have hx : (x 1).val < 64 := (x 1).isLt
    refine (pay4_apply _ x).trans ?_
    refine ((at2_cols (zV x0 x1 xs) 1536 (by omega) _ _ _ (x 2).isLt (by omega)).trans ?_)
    congr 1 <;> omega
  · have hx : (x 1).val < 64 := (x 1).isLt
    refine (pay3_apply _ x).trans ?_
    refine ((at2_cols (zV x0 x1 xs) 1536 (by omega) _ _ _ (x 2).isLt (by omega)).trans ?_)
    congr 1 <;> omega
  · have hx : (x 1).val < 64 := (x 1).isLt
    refine (pay2_apply _ x).trans ?_
    refine ((at2_cols (zV x0 x1 xs) 1536 (by omega) _ _ _ (x 2).isLt (by omega)).trans ?_)
    congr 1 <;> omega

lemma out8_B (h0 : ¬cond0_0 (grid0.coords t)) (y : S4x64x1024.Idx) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 xs y
      = at2 (zV x0 x1 xs) (y 2).val (1792 + (64 * (y 0).val + (y 1).val)) := by
  rw [out0_B_8, View.read_writes_eq_canon _ _ _ (cover0_B_8 c _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (Memref.isWhole_whole _).read_unread, ld_x, ld_g]
  simp only [View.readCov_eq_canon', canon_z x0 x1 xs]
  canon_tiles x h
  · have hx : (x 1).val < 64 := (x 1).isLt
    refine (pay5_apply _ x).trans ?_
    refine ((at2_cols (zV x0 x1 xs) 1792 (by omega) _ _ _ (x 2).isLt (by omega)).trans ?_)
    congr 1 <;> omega
  · have hx : (x 1).val < 64 := (x 1).isLt
    refine (pay4_apply _ x).trans ?_
    refine ((at2_cols (zV x0 x1 xs) 1792 (by omega) _ _ _ (x 2).isLt (by omega)).trans ?_)
    congr 1 <;> omega
  · have hx : (x 1).val < 64 := (x 1).isLt
    refine (pay3_apply _ x).trans ?_
    refine ((at2_cols (zV x0 x1 xs) 1792 (by omega) _ _ _ (x 2).isLt (by omega)).trans ?_)
    congr 1 <;> omega
  · have hx : (x 1).val < 64 := (x 1).isLt
    refine (pay2_apply _ x).trans ?_
    refine ((at2_cols (zV x0 x1 xs) 1792 (by omega) _ _ _ (x 2).isLt (by omega)).trans ?_)
    congr 1 <;> omega

lemma out3_A (h0 : cond0_0 (grid0.coords t)) (y : S1024x2560.Idx) :
    out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 y
      = zV x0 x1 (wide x2) y := by
  rw [out0_A_3, View.read_writes_eq_canon _ _ _ (cover0_A_3 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (Memref.isWhole_whole _).read_unread, ld_x, ld_g]
  simp only [View.readCov_eq_canon', canon_wide x2]
  exact canon_z x0 x1 (wide x2) y

lemma out4_A (h0 : cond0_0 (grid0.coords t)) (y : S1024x1024.Idx) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 y
      = normed (at2 x0 (y 0).val) (at2 x1 0) (y 1).val := by
  rw [out0_A_4, View.read_writes_eq_canon _ _ _ (cover0_A_4 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (Memref.isWhole_whole _).read_unread, ld_x, ld_g]
  refine (canon_hit inb_S1024x1024_S1024x1024_0_0 _ [] y y fun a => ?_).trans ?_
  · fin_cases a
    · exact (Nat.zero_add _).symm
    · exact (Nat.zero_add _).symm
  exact pay10_apply x0 x1 y

lemma out5_A (h0 : cond0_0 (grid0.coords t)) (y : S4x1024x64.Idx) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 y
      = at2 (zV x0 x1 (wide x2)) (y 1).val (1280 + (64 * (y 0).val + (y 2).val)) * eighth := by
  rw [out0_A_5, View.read_writes_eq_canon _ _ _ (cover0_A_5 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (Memref.isWhole_whole _).read_unread, ld_x, ld_g]
  simp only [View.readCov_eq_canon', canon_wide x2]
  simp only [View.readCov_eq_canon', canon_z x0 x1 (wide x2)]
  canon_tiles x h
  · have hx : (x 2).val < 64 := (x 2).isLt
    refine (pay17_apply _ x).trans ?_
    refine congrArg (fun z : EReal => z * eighth) ((at2_cols (zV x0 x1 (wide x2)) 1280 (by omega) _ _ _ (x 1).isLt (by omega)).trans ?_)
    congr 1 <;> omega
  · have hx : (x 2).val < 64 := (x 2).isLt
    refine (pay16_apply _ x).trans ?_
    refine congrArg (fun z : EReal => z * eighth) ((at2_cols (zV x0 x1 (wide x2)) 1280 (by omega) _ _ _ (x 1).isLt (by omega)).trans ?_)
    congr 1 <;> omega
  · have hx : (x 2).val < 64 := (x 2).isLt
    refine (pay15_apply _ x).trans ?_
    refine congrArg (fun z : EReal => z * eighth) ((at2_cols (zV x0 x1 (wide x2)) 1280 (by omega) _ _ _ (x 1).isLt (by omega)).trans ?_)
    congr 1 <;> omega
  · have hx : (x 2).val < 64 := (x 2).isLt
    refine (pay14_apply _ x).trans ?_
    refine congrArg (fun z : EReal => z * eighth) ((at2_cols (zV x0 x1 (wide x2)) 1280 (by omega) _ _ _ (x 1).isLt (by omega)).trans ?_)
    congr 1 <;> omega

lemma out6_A (h0 : cond0_0 (grid0.coords t)) (y : S4x64x1024.Idx) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 y
      = at2 (zV x0 x1 (wide x2)) (y 2).val (1280 + (64 * (y 0).val + (y 1).val)) * eighth := by
  rw [out0_A_6, View.read_writes_eq_canon _ _ _ (cover0_A_6 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (Memref.isWhole_whole _).read_unread, ld_x, ld_g]
  simp only [View.readCov_eq_canon', canon_wide x2]
  simp only [View.readCov_eq_canon', canon_z x0 x1 (wide x2)]
  canon_tiles x h
  · have hx : (x 1).val < 64 := (x 1).isLt
    refine (pay22_apply _ x).trans ?_
    refine congrArg (fun z : EReal => z * eighth) ((at2_cols (zV x0 x1 (wide x2)) 1280 (by omega) _ _ _ (x 2).isLt (by omega)).trans ?_)
    congr 1 <;> omega
  · have hx : (x 1).val < 64 := (x 1).isLt
    refine (pay21_apply _ x).trans ?_
    refine congrArg (fun z : EReal => z * eighth) ((at2_cols (zV x0 x1 (wide x2)) 1280 (by omega) _ _ _ (x 2).isLt (by omega)).trans ?_)
    congr 1 <;> omega
  · have hx : (x 1).val < 64 := (x 1).isLt
    refine (pay20_apply _ x).trans ?_
    refine congrArg (fun z : EReal => z * eighth) ((at2_cols (zV x0 x1 (wide x2)) 1280 (by omega) _ _ _ (x 2).isLt (by omega)).trans ?_)
    congr 1 <;> omega
  · have hx : (x 1).val < 64 := (x 1).isLt
    refine (pay19_apply _ x).trans ?_
    refine congrArg (fun z : EReal => z * eighth) ((at2_cols (zV x0 x1 (wide x2)) 1280 (by omega) _ _ _ (x 2).isLt (by omega)).trans ?_)
    congr 1 <;> omega

lemma out7_A (h0 : cond0_0 (grid0.coords t)) (y : S4x64x1024.Idx) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 y
      = at2 (zV x0 x1 (wide x2)) (y 2).val (1536 + (64 * (y 0).val + (y 1).val)) := by
  rw [out0_A_7, View.read_writes_eq_canon _ _ _ (cover0_A_7 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (Memref.isWhole_whole _).read_unread, ld_x, ld_g]
  simp only [View.readCov_eq_canon', canon_wide x2]
  simp only [View.readCov_eq_canon', canon_z x0 x1 (wide x2)]
  rw [pay24_eq, pay25_eq, pay26_eq, pay27_eq]
  canon_tiles x h
  · have hx : (x 1).val < 64 := (x 1).isLt
    refine (pay5_apply _ x).trans ?_
    refine ((at2_cols (zV x0 x1 (wide x2)) 1536 (by omega) _ _ _ (x 2).isLt (by omega)).trans ?_)
    congr 1 <;> omega
  · have hx : (x 1).val < 64 := (x 1).isLt
    refine (pay4_apply _ x).trans ?_
    refine ((at2_cols (zV x0 x1 (wide x2)) 1536 (by omega) _ _ _ (x 2).isLt (by omega)).trans ?_)
    congr 1 <;> omega
  · have hx : (x 1).val < 64 := (x 1).isLt
    refine (pay3_apply _ x).trans ?_
    refine ((at2_cols (zV x0 x1 (wide x2)) 1536 (by omega) _ _ _ (x 2).isLt (by omega)).trans ?_)
    congr 1 <;> omega
  · have hx : (x 1).val < 64 := (x 1).isLt
    refine (pay2_apply _ x).trans ?_
    refine ((at2_cols (zV x0 x1 (wide x2)) 1536 (by omega) _ _ _ (x 2).isLt (by omega)).trans ?_)
    congr 1 <;> omega

lemma out8_A (h0 : cond0_0 (grid0.coords t)) (y : S4x64x1024.Idx) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h0 x0 x1 x2 y
      = at2 (zV x0 x1 (wide x2)) (y 2).val (1792 + (64 * (y 0).val + (y 1).val)) := by
  rw [out0_A_8, View.read_writes_eq_canon _ _ _ (cover0_A_8 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (Memref.isWhole_whole _).read_unread, ld_x, ld_g]
  simp only [View.readCov_eq_canon', canon_wide x2]
  simp only [View.readCov_eq_canon', canon_z x0 x1 (wide x2)]
  canon_tiles x h
  · have hx : (x 1).val < 64 := (x 1).isLt
    refine (pay5_apply _ x).trans ?_
    refine ((at2_cols (zV x0 x1 (wide x2)) 1792 (by omega) _ _ _ (x 2).isLt (by omega)).trans ?_)
    congr 1 <;> omega
  · have hx : (x 1).val < 64 := (x 1).isLt
    refine (pay4_apply _ x).trans ?_
    refine ((at2_cols (zV x0 x1 (wide x2)) 1792 (by omega) _ _ _ (x 2).isLt (by omega)).trans ?_)
    congr 1 <;> omega
  · have hx : (x 1).val < 64 := (x 1).isLt
    refine (pay3_apply _ x).trans ?_
    refine ((at2_cols (zV x0 x1 (wide x2)) 1792 (by omega) _ _ _ (x 2).isLt (by omega)).trans ?_)
    congr 1 <;> omega
  · have hx : (x 1).val < 64 := (x 1).isLt
    refine (pay2_apply _ x).trans ?_
    refine ((at2_cols (zV x0 x1 (wide x2)) 1792 (by omega) _ _ _ (x 2).isLt (by omega)).trans ?_)
    congr 1 <;> omega

/-! ## The blocks a point reads -/

variable (m : (ℓ : Loc nD τ sig) → Buf (Elt Ideal) ℓ)

lemma e0 : ∀ t : Fin grid0.N, win0_0.index t = ![t.val, 0] := by decide +kernel
lemma e1 : ∀ t : Fin grid0.N, win0_1.index t = ![0, 0] := by decide +kernel
lemma e2 : ∀ t : Fin grid0.N, win0_2.index t = ![0, 1, 0, 0] := by decide +kernel
lemma e3 : ∀ t : Fin grid0.N, win0_3.index t = ![t.val, 0] := by decide +kernel
lemma e4 : ∀ t : Fin grid0.N, win0_4.index t = ![t.val, 0] := by decide +kernel
lemma e5 : ∀ t : Fin grid0.N, win0_5.index t = ![0, t.val, 0] := by decide +kernel
lemma e6 : ∀ t : Fin grid0.N, win0_6.index t = ![0, 0, t.val] := by decide +kernel
lemma e7 : ∀ t : Fin grid0.N, win0_7.index t = ![0, 0, t.val] := by decide +kernel
lemma e8 : ∀ t : Fin grid0.N, win0_8.index t = ![0, 0, t.val] := by decide +kernel

lemma blk0 (r l : Nat) (hr : r < 1024) (hl : l < 1024) :
    at2 (iblk m c 0 t) r l = at2 (m (c.tc.loc main_arg0)) (1024 * t.val + r) l := by
  have ht : t.val < 16 := t.isLt
  rw [at2_of_lt _ hr hl, at2_of_lt _ (by omega) hl]
  blk_simp [iblk]
  rw [V_main_arg0]
  congr 1
  blk_ext [e0]

lemma blk1 (l : Nat) (hl : l < 1024) : at2 (iblk m c 1 t) 0 l = at2 (m (c.tc.loc main_arg1)) 1 l := by
  rw [at2_of_lt _ Nat.one_pos hl, at2_of_lt _ (by omega) hl]
  blk_simp [iblk]
  entry_read
  rw [show ((View.whole main_v2).slice (win0_1.rect t)).emb (ix2 0 ⟨l, hl⟩) = ix2 0 ⟨l, hl⟩ from by blk_ext [e1]]
  pointwise

lemma blk2 (b k l : Nat) (hb : b < 4) (hk : k < 1024) (hl : l < 640) :
    at4 (iblk m c 2 t) b 0 k l = at4 (m (c.tc.loc main_arg2)) b 1 k l := by
  rw [at4_of_lt _ hb Nat.one_pos hk hl, at4_of_lt _ hb (by omega) hk hl]
  blk_simp [iblk]
  rw [V_main_arg2]
  congr 1
  blk_ext [e2]

/-! ## The arrays -/

/-- An entry of the argument's normed row. -/
def hAt (x : Ar2 16384 1024) (g : Ar2 2 1024) (r k : Nat) : EReal :=
  normed (at2 x r) (at2 g 1) k

/-- An entry of the product. -/
def zAt (x : Ar2 16384 1024) (g : Ar2 2 1024)
    (wi : Ar4 4 2 1024 640) (r l : Nat) : EReal :=
  ∑ k ∈ Finset.range 1024, hAt x g r k * at4 wi (l / 640) 1 k (l % 640)

/-- The packed columns. -/
def zOf (x : Ar2 16384 1024) (g : Ar2 2 1024)
    (wi : Ar4 4 2 1024 640) :
    Ar2 16384 2560 := fun i => zAt x g wi (i 0).val (i 1).val

/-- The queries, scaled, a head's rows. -/
def qrOf (x : Ar2 16384 1024) (g : Ar2 2 1024)
    (wi : Ar4 4 2 1024 640) :
    Ar3 4 16384 64 := fun i => zAt x g wi (i 1).val (1280 + (64 * (i 0).val + (i 2).val)) * eighth

/-- The queries, scaled, a head's columns. -/
def qtOf (x : Ar2 16384 1024) (g : Ar2 2 1024)
    (wi : Ar4 4 2 1024 640) :
    Ar3 4 64 16384 := fun i => zAt x g wi (i 2).val (1280 + (64 * (i 0).val + (i 1).val)) * eighth

/-- The keys, a head's columns. -/
def ktOf (x : Ar2 16384 1024) (g : Ar2 2 1024)
    (wi : Ar4 4 2 1024 640) :
    Ar3 4 64 16384 := fun i => zAt x g wi (i 2).val (1536 + (64 * (i 0).val + (i 1).val))

/-- The values, a head's columns. -/
def vtOf (x : Ar2 16384 1024) (g : Ar2 2 1024)
    (wi : Ar4 4 2 1024 640) :
    Ar3 4 64 16384 := fun i => zAt x g wi (i 2).val (1792 + (64 * (i 0).val + (i 1).val))

/-- The normed rows. -/
def hOf (x : Ar2 16384 1024) (g : Ar2 2 1024) :
    Ar2 16384 1024 := fun i => hAt x g (i 0).val (i 1).val

lemma hOf_congr {x x' g g'} (hx : x = x') (hg : g = g') : hOf x g = hOf x' g' := by subst hx hg; rfl
lemma zOf_congr {x x' g g' w w'} (hx : x = x') (hg : g = g') (hw : w = w') : zOf x g w = zOf x' g' w' := by subst hx hg hw; rfl
lemma qrOf_congr {x x' g g' w w'} (hx : x = x') (hg : g = g') (hw : w = w') : qrOf x g w = qrOf x' g' w' := by subst hx hg hw; rfl
lemma qtOf_congr {x x' g g' w w'} (hx : x = x') (hg : g = g') (hw : w = w') : qtOf x g w = qtOf x' g' w' := by subst hx hg hw; rfl
lemma ktOf_congr {x x' g g' w w'} (hx : x = x') (hg : g = g') (hw : w = w') : ktOf x g w = ktOf x' g' w' := by subst hx hg hw; rfl
lemma vtOf_congr {x x' g g' w w'} (hx : x = x') (hg : g = g') (hw : w = w') : vtOf x g w = vtOf x' g' w' := by subst hx hg hw; rfl

/-- The wide weights of the array. -/
def wideOf (wi : Ar4 4 2 1024 640) : Vec Ideal S2x1024x1280 .bf16 := fun y =>
  at4 wi (2 * (y 0).val + (y 2).val / 640) 1 (y 1).val ((y 2).val % 640)

lemma wide_blk : wide (iblk m c 2 t) = wideOf (m (c.tc.loc main_arg2)) := by
  funext y
  have h0 : (y 0).val < 2 := (y 0).isLt
  have h2 : (y 2).val < 1280 := (y 2).isLt
  exact blk2 c t m _ _ _ (by omega) (y 1).isLt (by omega)

lemma scratch : ∀ (n : Nat) (hn : n < cfg0.N), (outsAt0 m c n hn).2.2.2.2.2.2 = wideOf (m (c.tc.loc main_arg2)) := by
  intro n
  induction n with
  | zero =>
    intro hn
    rw [outsAt0_zero, stAt0_A m c ⟨0, hn⟩ _ (Nat.zero_mod _)]
    dsimp only
    funext y
    rw [sout_A]
    exact congrFun (wide_blk c ⟨0, hn⟩ m) y
  | succ n ih =>
    intro hn
    have hN : n + 1 < 16 := hn
    rw [outsAt0_succ, stAt0_B m c ⟨n + 1, hn⟩ _ (by show ¬((n + 1) % 16 = 0); omega)]
    dsimp only
    unfold sout0_B_0
    exact ih _

lemma h_blk (r k : Nat) (hr : r < 1024) (hk : k < 1024) :
    normed (at2 (iblk m c 0 t) r) (at2 (iblk m c 1 t) 0) k
      = hAt (m (c.tc.loc main_arg0)) (m (c.tc.loc main_arg1)) (1024 * t.val + r) k :=
  normed_congr (fun k hk => blk0 c t m r k hr hk) (fun k hk => blk1 c t m k hk) hk

lemma z_blk (r l : Nat) (hr : r < 1024) (hl : l < 2560) :
    at2 (zV (iblk m c 0 t) (iblk m c 1 t) (wideOf (m (c.tc.loc main_arg2)))) r l
      = zAt (m (c.tc.loc main_arg0)) (m (c.tc.loc main_arg1)) (m (c.tc.loc main_arg2)) (1024 * t.val + r) l := by
  refine (at2_of_lt _ hr hl).trans ?_
  unfold zV zAt
  refine Finset.sum_congr rfl fun k hk => ?_
  have hk := Finset.mem_range.mp hk
  refine mulc (h_blk c t m r k hr hk) ((at3_of_lt _ (show l / 1280 < 2 by omega) hk (show l % 1280 < 1280 by omega)).trans ?_)
  unfold wideOf
  refine congrArg₂ (fun a b => at4 _ a 1 k b) ?_ ?_
  · show 2 * (l / 1280) + l % 1280 / 640 = l / 640
    omega
  · show l % 1280 % 640 = l % 640
    omega

lemma outs3 (y : S1024x2560.Idx) : (outsAt0 m c t.val t.isLt).1 y
    = at2 (zV (iblk m c 0 t) (iblk m c 1 t) (wideOf (m (c.tc.loc main_arg2)))) (y 0).val (y 1).val := by
  by_cases h : t.val % 16 = 0
  · rw [outsAt0_A m c t h]
    dsimp only
    rw [out3_A, wide_blk]
    exact at2_eq _ y rfl rfl
  · rw [outsAt0_B m c t h]
    dsimp only
    rw [out3_B, scratch]
    exact at2_eq _ y rfl rfl

lemma outs4 (y : S1024x1024.Idx) : (outsAt0 m c t.val t.isLt).2.1 y
    = normed (at2 (iblk m c 0 t) (y 0).val) (at2 (iblk m c 1 t) 0) (y 1).val := by
  by_cases h : t.val % 16 = 0
  · rw [outsAt0_A m c t h]
    dsimp only
    rw [out4_A]
  · rw [outsAt0_B m c t h]
    dsimp only
    rw [out4_B]

lemma outs5 (y : S4x1024x64.Idx) : (outsAt0 m c t.val t.isLt).2.2.1 y
    = at2 (zV (iblk m c 0 t) (iblk m c 1 t) (wideOf (m (c.tc.loc main_arg2)))) (y 1).val (1280 + (64 * (y 0).val + (y 2).val)) * eighth := by
  by_cases h : t.val % 16 = 0
  · rw [outsAt0_A m c t h]
    dsimp only
    rw [out5_A, wide_blk]
  · rw [outsAt0_B m c t h]
    dsimp only
    rw [out5_B, scratch]

lemma outs6 (y : S4x64x1024.Idx) : (outsAt0 m c t.val t.isLt).2.2.2.1 y
    = at2 (zV (iblk m c 0 t) (iblk m c 1 t) (wideOf (m (c.tc.loc main_arg2)))) (y 2).val (1280 + (64 * (y 0).val + (y 1).val)) * eighth := by
  by_cases h : t.val % 16 = 0
  · rw [outsAt0_A m c t h]
    dsimp only
    rw [out6_A, wide_blk]
  · rw [outsAt0_B m c t h]
    dsimp only
    rw [out6_B, scratch]

lemma outs7 (y : S4x64x1024.Idx) : (outsAt0 m c t.val t.isLt).2.2.2.2.1 y
    = at2 (zV (iblk m c 0 t) (iblk m c 1 t) (wideOf (m (c.tc.loc main_arg2)))) (y 2).val (1536 + (64 * (y 0).val + (y 1).val)) := by
  by_cases h : t.val % 16 = 0
  · rw [outsAt0_A m c t h]
    dsimp only
    rw [out7_A, wide_blk]
  · rw [outsAt0_B m c t h]
    dsimp only
    rw [out7_B, scratch]

lemma outs8 (y : S4x64x1024.Idx) : (outsAt0 m c t.val t.isLt).2.2.2.2.2.1 y
    = at2 (zV (iblk m c 0 t) (iblk m c 1 t) (wideOf (m (c.tc.loc main_arg2)))) (y 2).val (1792 + (64 * (y 0).val + (y 1).val)) := by
  by_cases h : t.val % 16 = 0
  · rw [outsAt0_A m c t h]
    dsimp only
    rw [out8_A, wide_blk]
  · rw [outsAt0_B m c t h]
    dsimp only
    rw [out8_B, scratch]

lemma array3 : (dats m 0 c).arrAt 3 cfg0.N = zOf (m (c.tc.loc main_arg0)) (m (c.tc.loc main_arg1)) (m (c.tc.loc main_arg2)) := by
  refine (dats m 0 c).arrAt_eq_of_covers 3 _ (by decide +kernel) fun t hf y => ?_
  blk_simp
  rw [after0_3]
  refine (outs3 c t m y).trans ((z_blk c t m _ _ (y 0).isLt (y 1).isLt).trans ?_)
  unfold zOf
  have q0 : ((win0_3.blk t).view.emb y 0).val = 1024 * t.val + (y 0).val := by blk_simp [e3]; omega
  have q1 : ((win0_3.blk t).view.emb y 1).val = (y 1).val := by blk_simp [e3]
  rw [q0, q1]

lemma array4 : (dats m 0 c).arrAt 4 cfg0.N = hOf (m (c.tc.loc main_arg0)) (m (c.tc.loc main_arg1)) := by
  refine (dats m 0 c).arrAt_eq_of_covers 4 _ (by decide +kernel) fun t hf y => ?_
  blk_simp
  rw [after0_4]
  refine (outs4 c t m y).trans ((h_blk c t m _ _ (y 0).isLt (y 1).isLt).trans ?_)
  unfold hOf
  have q0 : ((win0_4.blk t).view.emb y 0).val = 1024 * t.val + (y 0).val := by blk_simp [e4]; omega
  have q1 : ((win0_4.blk t).view.emb y 1).val = (y 1).val := by blk_simp [e4]
  rw [q0, q1]

lemma array5 : (dats m 0 c).arrAt 5 cfg0.N = qrOf (m (c.tc.loc main_arg0)) (m (c.tc.loc main_arg1)) (m (c.tc.loc main_arg2)) := by
  refine (dats m 0 c).arrAt_eq_of_covers 5 _ (by decide +kernel) fun t hf y => ?_
  have h0 : (y 0).val < 4 := (y 0).isLt
  have h1 : (y 2).val < 64 := (y 2).isLt
  blk_simp
  rw [after0_5]
  refine (outs5 c t m y).trans ((congrArg (fun z : EReal => z * eighth) (z_blk c t m _ _ (y 1).isLt (by omega))).trans ?_)
  unfold qrOf
  have q0 : ((win0_5.blk t).view.emb y 0).val = (y 0).val := by blk_simp [e5]
  have q1 : ((win0_5.blk t).view.emb y 1).val = 1024 * t.val + (y 1).val := by blk_simp [e5]; omega
  have q2 : ((win0_5.blk t).view.emb y 2).val = (y 2).val := by blk_simp [e5]
  rw [q0, q1, q2]

lemma array6 : (dats m 0 c).arrAt 6 cfg0.N = qtOf (m (c.tc.loc main_arg0)) (m (c.tc.loc main_arg1)) (m (c.tc.loc main_arg2)) := by
  refine (dats m 0 c).arrAt_eq_of_covers 6 _ (by decide +kernel) fun t hf y => ?_
  have h0 : (y 0).val < 4 := (y 0).isLt
  have h1 : (y 1).val < 64 := (y 1).isLt
  blk_simp
  rw [after0_6]
  refine (outs6 c t m y).trans ((congrArg (fun z : EReal => z * eighth) (z_blk c t m _ _ (y 2).isLt (by omega))).trans ?_)
  unfold qtOf
  have q0 : ((win0_6.blk t).view.emb y 0).val = (y 0).val := by blk_simp [e6]
  have q1 : ((win0_6.blk t).view.emb y 1).val = (y 1).val := by blk_simp [e6]
  have q2 : ((win0_6.blk t).view.emb y 2).val = 1024 * t.val + (y 2).val := by blk_simp [e6]; omega
  rw [q0, q1, q2]

lemma array7 : (dats m 0 c).arrAt 7 cfg0.N = ktOf (m (c.tc.loc main_arg0)) (m (c.tc.loc main_arg1)) (m (c.tc.loc main_arg2)) := by
  refine (dats m 0 c).arrAt_eq_of_covers 7 _ (by decide +kernel) fun t hf y => ?_
  have h0 : (y 0).val < 4 := (y 0).isLt
  have h1 : (y 1).val < 64 := (y 1).isLt
  blk_simp
  rw [after0_7]
  refine (outs7 c t m y).trans ((z_blk c t m _ _ (y 2).isLt (by omega)).trans ?_)
  unfold ktOf
  have q0 : ((win0_7.blk t).view.emb y 0).val = (y 0).val := by blk_simp [e7]
  have q1 : ((win0_7.blk t).view.emb y 1).val = (y 1).val := by blk_simp [e7]
  have q2 : ((win0_7.blk t).view.emb y 2).val = 1024 * t.val + (y 2).val := by blk_simp [e7]; omega
  rw [q0, q1, q2]

lemma array8 : (dats m 0 c).arrAt 8 cfg0.N = vtOf (m (c.tc.loc main_arg0)) (m (c.tc.loc main_arg1)) (m (c.tc.loc main_arg2)) := by
  refine (dats m 0 c).arrAt_eq_of_covers 8 _ (by decide +kernel) fun t hf y => ?_
  have h0 : (y 0).val < 4 := (y 0).isLt
  have h1 : (y 1).val < 64 := (y 1).isLt
  blk_simp
  rw [after0_8]
  refine (outs8 c t m y).trans ((z_blk c t m _ _ (y 2).isLt (by omega)).trans ?_)
  unfold vtOf
  have q0 : ((win0_8.blk t).view.emb y 0).val = (y 0).val := by blk_simp [e8]
  have q1 : ((win0_8.blk t).view.emb y 1).val = (y 1).val := by blk_simp [e8]
  have q2 : ((win0_8.blk t).view.emb y 2).val = 1024 * t.val + (y 2).val := by blk_simp [e8]; omega
  rw [q0, q1, q2]

/-! ## The reference's arrays -/

section Reference

open Cert.Reference8Ideal.Read

lemma zero_bits : FloatOps.ofBits (F := Ideal) .f32 0x00000000#32 = 0 := by pointwise

lemma ref_inv (x0) (i : Cert.Reference8Ideal.S16384x1.Idx) : val_main_v14 (F := Ideal) x0 i = Rms.inv (at2 x0 (i 0).val) := by
  rw [val_main_v14_apply, val_main_v13_apply, val_main_v11_apply, val_main_v12_apply, val_main_v10_apply, val_main_cst_0_apply, val_main_cst_1_apply,
    val_main_v9_apply, val_main_v8_apply, val_main_cst_apply, zero_bits, zero_add]
  unfold Rms.inv Rms.var Rms.mean
  refine congrArg (fun z : EReal => Ideal.rsqrt (Ideal.div z _ + _)) (sum_fin _ _ fun k => ?_)
  rw [val_main_v7_apply]
  exact mulc (at2_eq x0 _ rfl rfl) (at2_eq x0 _ rfl rfl)

lemma ref_w (x2) (i : Cert.Reference8Ideal.S1024x2560.Idx) :
    val_main_v4 (F := Ideal) x2 i = at4 x2 ((i 1).val / 640) 1 (i 0).val ((i 1).val % 640) := by
  have h0 : (i 0).val < 1024 := (i 0).isLt
  have h1 : (i 1).val < 2560 := (i 1).isLt
  rw [val_main_v4_apply, val_main_v3_apply, val_main_v2_apply, val_main_v1_apply, val_main_v0_apply]
  refine at4_eq x2 _ ?_ rfl ?_ ?_
  · show ((((((i 0).val * 2560 + (i 1).val) / 640 % 4) * 1024 + ((i 0).val * 2560 + (i 1).val) / 2560) * 640
      + ((i 0).val * 2560 + (i 1).val) % 640) / 655360) = _
    omega
  · show ((((((i 0).val * 2560 + (i 1).val) / 640 % 4) * 1024 + ((i 0).val * 2560 + (i 1).val) / 2560) * 640
      + ((i 0).val * 2560 + (i 1).val) % 640) / 640 % 1024) = _
    omega
  · show ((((((i 0).val * 2560 + (i 1).val) / 640 % 4) * 1024 + ((i 0).val * 2560 + (i 1).val) / 2560) * 640
      + ((i 0).val * 2560 + (i 1).val) % 640) % 640) = _
    omega

lemma ref_h (x0 x1) (i : Cert.Reference8Ideal.S16384x1024.Idx) : val_main_v19 (F := Ideal) x0 x1 i = hAt x0 x1 (i 0).val (i 1).val := by
  have h1 : (i 1).val < 1024 := (i 1).isLt
  rw [val_main_v19_apply, val_main_v16_apply, val_main_v15_apply, ref_inv, val_main_v18_apply, val_main_v17_apply, val_main_v6_apply, val_main_v5_apply]
  unfold hAt normed
  refine mulc (mulc (at2_eq x0 i rfl rfl) rfl) (at2_eq x1 _ rfl ?_)
  show (i 1).val % 1024 = (i 1).val
  omega

lemma ref_z (x0 x1 x2) (i : Cert.Reference8Ideal.S16384x2560.Idx) {r l : Nat} (hr : (i 0).val = r) (hl : (i 1).val = l) :
    val_main_v20 (F := Ideal) x0 x1 x2 i = zAt x0 x1 x2 r l := by
  subst hr hl
  rw [val_main_v20_apply]
  unfold zAt
  refine sum_fin _ _ fun k => ?_
  rw [ref_h, ref_w]

lemma ref3 (x0 x1 x2) : val_main_v30 (F := Ideal) x0 x1 x2 = zOf x0 x1 x2 := funext fun i => ref_z x0 x1 x2 i rfl rfl

lemma ref4 (x0 x1) : val_main_v31 (F := Ideal) x0 x1 = hOf x0 x1 := funext fun i => ref_h x0 x1 i

lemma ref5 (x0 x1 x2) : val_main_v33 (F := Ideal) x0 x1 x2 = qrOf x0 x1 x2 := by
  funext i
  have h0 : (i 0).val < 4 := (i 0).isLt
  have h1 : (i 2).val < 64 := (i 2).isLt
  show val_main_v32 (F := Ideal) x0 x1 x2 i = _
  rw [val_main_v32_apply, val_main_v27_apply, val_main_v26_apply, val_main_v22_apply, val_main_v21_apply, val_main_v25_apply, val_main_cst_2_apply]
  refine congrArg (fun z : EReal => z * eighth) (ref_z x0 x1 x2 _ ?_ ?_)
  · show (((i 1).val * 4 + (i 0).val) * 64 + (i 2).val) / 256 = (i 1).val
    omega
  · show 1280 + ((((i 1).val * 4 + (i 0).val) * 64 + (i 2).val) % 256) = 1280 + (64 * (i 0).val + (i 2).val)
    omega

lemma ref6 (x0 x1 x2) : val_main_v35 (F := Ideal) x0 x1 x2 = qtOf x0 x1 x2 := by
  funext i
  have h0 : (i 0).val < 4 := (i 0).isLt
  have h1 : (i 1).val < 64 := (i 1).isLt
  show val_main_v34 (F := Ideal) x0 x1 x2 i = _
  rw [val_main_v34_apply, val_main_v27_apply, val_main_v26_apply, val_main_v22_apply, val_main_v21_apply, val_main_v25_apply, val_main_cst_2_apply]
  refine congrArg (fun z : EReal => z * eighth) (ref_z x0 x1 x2 _ ?_ ?_)
  · show (((i 2).val * 4 + (i 0).val) * 64 + (i 1).val) / 256 = (i 2).val
    omega
  · show 1280 + ((((i 2).val * 4 + (i 0).val) * 64 + (i 1).val) % 256) = 1280 + (64 * (i 0).val + (i 1).val)
    omega

lemma ref7 (x0 x1 x2) : val_main_v37 (F := Ideal) x0 x1 x2 = ktOf x0 x1 x2 := by
  funext i
  have h0 : (i 0).val < 4 := (i 0).isLt
  have h1 : (i 1).val < 64 := (i 1).isLt
  show val_main_v36 (F := Ideal) x0 x1 x2 i = _
  rw [val_main_v36_apply, val_main_v28_apply, val_main_v23_apply, val_main_v21_apply]
  refine ref_z x0 x1 x2 _ ?_ ?_
  · show (((i 2).val * 4 + (i 0).val) * 64 + (i 1).val) / 256 = (i 2).val
    omega
  · show 1280 + (256 + (((i 2).val * 4 + (i 0).val) * 64 + (i 1).val) % 256) = 1536 + (64 * (i 0).val + (i 1).val)
    omega

lemma ref8 (x0 x1 x2) : val_main_v39 (F := Ideal) x0 x1 x2 = vtOf x0 x1 x2 := by
  funext i
  have h0 : (i 0).val < 4 := (i 0).isLt
  have h1 : (i 1).val < 64 := (i 1).isLt
  show val_main_v38 (F := Ideal) x0 x1 x2 i = _
  rw [val_main_v38_apply, val_main_v29_apply, val_main_v24_apply, val_main_v21_apply]
  refine ref_z x0 x1 x2 _ ?_ ?_
  · show (((i 2).val * 4 + (i 0).val) * 64 + (i 1).val) / 256 = (i 2).val
    omega
  · show 1280 + (512 + (((i 2).val * 4 + (i 0).val) * 64 + (i 1).val) % 256) = 1792 + (64 * (i 0).val + (i 1).val)
    omega

end Reference

/-! ## The claim -/

lemma algebraic_proj : Cert.algebraic_Kernel8Ideal_Reference8Ideal := fun m ρ m' ρ' _ hag =>
  ⟨fun c => (dats m 0 c).arrAt 3 cfg0.N, fun c => (dats m 0 c).arrAt 4 cfg0.N, fun c => (dats m 0 c).arrAt 5 cfg0.N,
    fun c => (dats m 0 c).arrAt 6 cfg0.N, fun c => (dats m 0 c).arrAt 7 cfg0.N, fun c => (dats m 0 c).arrAt 8 cfg0.N,
    Cert.Kernel8Ideal.Value.run_blocks m ρ,
    (θ_run _ _ _).mono (fun _ h c => by
      obtain ⟨h0, h1, h2⟩ := hag c
      exact ⟨(h c).1.trans ((Cert.Reference8Ideal.Read.val_main_v30_eq _ _ _).trans ((ref3 _ _ _).trans ((zOf_congr h0 h1 h2).trans (array3 c m).symm))),
          (h c).2.1.trans ((Cert.Reference8Ideal.Read.val_main_v31_eq _ _).trans ((ref4 _ _).trans ((hOf_congr h0 h1).trans (array4 c m).symm))),
          (h c).2.2.1.trans ((Cert.Reference8Ideal.Read.val_main_v33_eq _ _ _).trans ((ref5 _ _ _).trans ((qrOf_congr h0 h1 h2).trans (array5 c m).symm))),
          (h c).2.2.2.1.trans ((Cert.Reference8Ideal.Read.val_main_v35_eq _ _ _).trans ((ref6 _ _ _).trans ((qtOf_congr h0 h1 h2).trans (array6 c m).symm))),
          (h c).2.2.2.2.1.trans ((Cert.Reference8Ideal.Read.val_main_v37_eq _ _ _).trans ((ref7 _ _ _).trans ((ktOf_congr h0 h1 h2).trans (array7 c m).symm))),
          (h c).2.2.2.2.2.1.trans ((Cert.Reference8Ideal.Read.val_main_v39_eq _ _ _).trans ((ref8 _ _ _).trans ((vtOf_congr h0 h1 h2).trans (array8 c m).symm))),
          (h c).2.2.2.2.2.2⟩)
      (Cert.Reference8Ideal.Value.run m' ρ')⟩

end Cert.Proof.InProj
-- ==== Proof.OutProj.lean ====
module

public import proofs.«01_k».proof.Proof.Rms
public import proofs.«01_k».proof.Proof.Gen.Kernel9Ideal.Value
public import proofs.«01_k».proof.Proof.Gen.Reference9Ideal.Read
public import Idealize.ShloMosaic.Lib.Pipeline.ReadBack
public import proofs.«01_k».proof.Defs

@[expose] public section

set_option maxRecDepth 16384

noncomputable section

/-! The projection after the heads: four groups of heads, one of them normed, side by side, scaled and multiplied by the weights. -/

namespace Cert.Proof.OutProj

open Cert.Kernel9Ideal Cert.Kernel9Ideal.Gen Cert.Kernel9Ideal.Value Idealize.ShloMosaic Idealize.ShloMosaic.TcCoe Idealize.SL.Sem
  Idealize.ShloMosaic.Tactic

/-- The reciprocal root by which the attention's row of 256 entries is scaled. -/
def inv256 (o : Nat → EReal) : EReal :=
  Ideal.rsqrt (Ideal.div (∑ k ∈ Finset.range 256, o k * o k) (Ideal.ofBits .f32 0x43800000#32) + Ideal.ofBits .f32 0x358637BD#32)

/-- A row of the heads: two groups as they come, the attention's normed, the last group as it comes. -/
def heads (a o : Nat → EReal) (j : Nat) : EReal :=
  if j < 512 then a j else if j < 768 then o (j - 512) * inv256 o else a (j - 256)

/-- A row of the attention's transposed array. -/
def attRow {n : Nat} (x : Ar3 4 64 n) (r l : Nat) : EReal := at3 x (l / 64) (l % 64) r

lemma inv256_congr {o o' : Nat → EReal} (h : ∀ k, k < 256 → o k = o' k) : inv256 o = inv256 o' := by
  unfold inv256
  rw [Finset.sum_congr rfl fun k hk => by rw [h k (Finset.mem_range.mp hk)]]

lemma heads_congr {a a' o o' : Nat → EReal} {j : Nat} (ha : ∀ k, k < 768 → a k = a' k) (ho : ∀ k, k < 256 → o k = o' k) (hj : j < 1024) :
    heads a o j = heads a' o' j := by
  unfold heads
  split
  · exact ha j (by omega)
  split
  · rw [ho _ (by omega), inv256_congr ho]
  · exact ha _ (by omega)

lemma sum_four (f : Nat → EReal) : ∑ s ∈ Finset.range 4, f s = f 0 + f 1 + f 2 + f 3 := by
  rw [Finset.sum_range_succ, Finset.sum_range_succ, Finset.sum_range_succ, Finset.sum_range_succ, Finset.sum_range_zero, zero_add]

/-! ## The body at an index -/

lemma pay4_apply (v0 : Vec Ideal S4x64x1024 .f32) (x : S1024x256.Idx) :
    k0_pay4 v0 x = attRow v0 (x 0).val (x 1).val * inv256 (attRow v0 (x 0).val) := by
  have h0 : (x 0).val < 1024 := (x 0).isLt
  have h1 : (x 1).val < 256 := (x 1).isLt
  unfold inv256
  have hk : ∀ k : Fin 256, v0 (ix3 (⟨k.val / 64, by omega⟩ : Fin 4) (⟨k.val % 64, by omega⟩ : Fin 64) ⟨(x 0).val, h0⟩) = attRow v0 (x 0).val k.val :=
    fun k => (at3_of_lt v0 (by omega) (by omega) h0).symm
  rw [← sum_fin (fun k : Fin 256 => v0 (ix3 (⟨k.val / 64, by omega⟩ : Fin 4) (⟨k.val % 64, by omega⟩ : Fin 64) ⟨(x 0).val, h0⟩)
    * v0 (ix3 (⟨k.val / 64, by omega⟩ : Fin 4) (⟨k.val % 64, by omega⟩ : Fin 64) ⟨(x 0).val, h0⟩)) _ (fun k => congrArg₂ (· * ·) (hk k) (hk k))]
  unfold attRow
  rw [at3_of_lt v0 (show (x 1).val / 64 < 4 by omega) (show (x 1).val % 64 < 64 by omega) h0]
  unfold_payloads
  idx_vars x
  pointwise

lemma pay1_apply (v : Vec Ideal S1024x256 .f32) (x : S1024x256.Idx) : k0_pay1 (F := Ideal) v x = v x := by
  unfold_payloads
  idx_vars x
  pointwise

lemma pay2_apply (v : Vec Ideal S1024x256 .f32) (x : S1024x256.Idx) : k0_pay2 (F := Ideal) v x = v x := by
  unfold_payloads
  idx_vars x
  pointwise

lemma pay6_apply (v : Vec Ideal S1024x256 .f32) (x : S1024x256.Idx) : k0_pay6 (F := Ideal) v x = v x := by
  unfold_payloads
  idx_vars x
  pointwise

lemma pay8_apply (v : Vec Ideal S1024x256 .f32) (x : S1024x256.Idx) : k0_pay8 (F := Ideal) v x = v x := by
  unfold_payloads
  idx_vars x
  pointwise

lemma pay5_eq (v : Vec Ideal S1x1024 .f32) : k0_pay5 (F := Ideal) v = v := by
  funext x
  unfold_payloads
  idx_vars x
  pointwise

lemma pay9_apply (v4 : Vec Ideal S1024x256 .f32) (v16 : Vec Ideal S1x1024 .f32) (x : S1024x256.Idx) :
    k0_pay9 v4 v16 x = at2 v4 (x 0).val (x 1).val * at2 v16 0 (256 + (x 1).val) := by
  have h1 : (x 1).val < 256 := (x 1).isLt
  unfold k0_pay9
  rw [pay5_eq, at2_of_lt v4 (x 0).isLt h1, at2_of_lt v16 Nat.one_pos (show 256 + (x 1).val < 1024 by omega)]
  idx_vars x
  pointwise

lemma pay7_apply (v3 : Vec Ideal S1024x256 .f32) (v16 : Vec Ideal S1x1024 .f32) (v24 : Vec Ideal S1x1x256x1024 .bf16) (x : S1024x1024.Idx) :
    k0_pay7 v3 v16 v24 x = ∑ k ∈ Finset.range 256, at2 v3 (x 0).val k * at2 v16 0 k * at4 v24 0 0 k (x 1).val := by
  rw [← sum_fin (fun k : Fin 256 => v3 (ix2 ⟨(x 0).val, (x 0).isLt⟩ k) * v16 (ix2 0 ⟨k.val, by omega⟩) * v24 (ix4 0 0 k ⟨(x 1).val, (x 1).isLt⟩)) _
    (fun k => congrArg₂ (· * ·) (congrArg₂ (· * ·) (at2_of_lt v3 (x 0).isLt k.isLt).symm (at2_of_lt v16 Nat.one_pos (by omega)).symm)
      (at4_of_lt v24 Nat.one_pos Nat.one_pos k.isLt (x 1).isLt).symm)]
  unfold k0_pay7
  rw [pay5_eq]
  idx_vars x
  pointwise

lemma pay3_apply (v14 v15 : Vec Ideal S1024x256 .f32) (v17 : Vec Ideal S1x1024 .f32) (v26 : Vec Ideal S1024x1024 .f32)
    (v32 : Vec Ideal S1024x256 .bf16) (v33 v43 v53 : Vec Ideal S1x1x256x1024 .bf16) (v57 : Vec Ideal S1024x1024 .f32) (x : S1024x1024.Idx) :
    k0_pay3 v14 v15 v17 v26 v32 v33 v43 v53 v57 x = v57 x + (v26 x
      + (∑ k ∈ Finset.range 256, at2 v32 (x 0).val k * at4 v33 0 0 k (x 1).val)
      + (∑ k ∈ Finset.range 256, at2 v14 (x 0).val k * at2 v17 0 (512 + k) * at4 v43 0 0 k (x 1).val)
      + ∑ k ∈ Finset.range 256, at2 v15 (x 0).val k * at2 v17 0 (768 + k) * at4 v53 0 0 k (x 1).val) := by
  rw [← sum_fin (fun k : Fin 256 => v32 (ix2 ⟨(x 0).val, (x 0).isLt⟩ k) * v33 (ix4 0 0 k ⟨(x 1).val, (x 1).isLt⟩)) _
      (fun k => congrArg₂ (· * ·) (at2_of_lt v32 (x 0).isLt k.isLt).symm (at4_of_lt v33 Nat.one_pos Nat.one_pos k.isLt (x 1).isLt).symm),
    ← sum_fin (fun k : Fin 256 => v14 (ix2 ⟨(x 0).val, (x 0).isLt⟩ k) * v17 (ix2 0 ⟨512 + k.val, by omega⟩) * v43 (ix4 0 0 k ⟨(x 1).val, (x 1).isLt⟩)) _
      (fun k => congrArg₂ (· * ·) (congrArg₂ (· * ·) (at2_of_lt v14 (x 0).isLt k.isLt).symm (at2_of_lt v17 Nat.one_pos (by omega)).symm)
        (at4_of_lt v43 Nat.one_pos Nat.one_pos k.isLt (x 1).isLt).symm),
    ← sum_fin (fun k : Fin 256 => v15 (ix2 ⟨(x 0).val, (x 0).isLt⟩ k) * v17 (ix2 0 ⟨768 + k.val, by omega⟩) * v53 (ix4 0 0 k ⟨(x 1).val, (x 1).isLt⟩)) _
      (fun k => congrArg₂ (· * ·) (congrArg₂ (· * ·) (at2_of_lt v15 (x 0).isLt k.isLt).symm (at2_of_lt v17 Nat.one_pos (by omega)).symm)
        (at4_of_lt v53 Nat.one_pos Nat.one_pos k.isLt (x 1).isLt).symm)]
  unfold_payloads
  idx_vars x
  pointwise

lemma ld_x (X : Vec Ideal S1024x1024 .f32) (inb : ∀ a, (![0, 0] : Fin 2 → Nat) a + (![1024, 1024] : Fin 2 → Nat) a ≤ S1024x1024.size a) :
    View.ld (Val := Elt Ideal) (e' := .f32) X (Rect.unit (s := S1024x1024) ![0, 0] ![1024, 1024] inb) = X := View.ld_unit_lit inb X (by decide)

lemma ld_g (X : Vec Ideal S1x1024 .f32) (inb : ∀ a, (![0, 0] : Fin 2 → Nat) a + (![1, 1024] : Fin 2 → Nat) a ≤ S1x1024.size a) :
    View.ld (Val := Elt Ideal) (e' := .f32) X (Rect.unit (s := S1x1024) ![0, 0] ![1, 1024] inb) = X := View.ld_unit_lit inb X (by decide)

lemma ld_o (X : Vec Ideal S4x64x1024 .f32) (inb : ∀ a, (![0, 0, 0] : Fin 3 → Nat) a + (![4, 64, 1024] : Fin 3 → Nat) a ≤ S4x64x1024.size a) :
    View.ld (Val := Elt Ideal) (e' := .f32) X (Rect.unit (s := S4x64x1024) ![0, 0, 0] ![4, 64, 1024] inb) = X := View.ld_unit_lit inb X (by decide)

variable (c : Dev nD) (t : Fin cfg0.N)
  (x0 : Vec Ideal S1024x1024 .f32) (x1 : Vec Ideal S1024x768 .f32) (x2 : Vec Ideal S4x64x1024 .f32) (x3 : Vec Ideal S1x1024 .f32)
  (x4 : Vec Ideal S4x1x256x1024 .bf16)

/-- Some columns of the heads that come as they are. -/
lemma ld_cols (o : Nat) (ho : o + 256 ≤ 768)
    (inb : ∀ a, (![0, o] : Fin 2 → Nat) a + (![1024, 256] : Fin 2 → Nat) a ≤ S1024x768.size a) (z : S1024x256.Idx) :
    View.ld (Val := Elt Ideal) (e' := .f32) x1 (Rect.unit (s := S1024x768) ![0, o] ![1024, 256] inb) z = at2 x1 (z 0).val (o + (z 1).val) := by
  show x1 _ = _
  refine at2_eq x1 _ ?_ ?_
  · show 0 + 1 * (z 0).val = (z 0).val; omega
  · show o + 1 * (z 1).val = o + (z 1).val; omega

lemma at2_cols (o : Nat) (ho : o + 256 ≤ 768)
    (inb : ∀ a, (![0, o] : Fin 2 → Nat) a + (![1024, 256] : Fin 2 → Nat) a ≤ S1024x768.size a) (r k : Nat) (hr : r < 1024) (hk : k < 256) :
    at2 (View.ld (Val := Elt Ideal) (e' := .f32) x1 (Rect.unit (s := S1024x768) ![0, o] ![1024, 256] inb) : Vec Ideal S1024x256 .f32) r k
      = at2 x1 r (o + k) := (at2_of_lt _ hr hk).trans (ld_cols x1 o ho inb _)

lemma at4_blk (o : Nat) (ho : o < 4)
    (inb : ∀ a, (![o, 0, 0, 0] : Fin 4 → Nat) a + (![1, 1, 256, 1024] : Fin 4 → Nat) a ≤ S4x1x256x1024.size a) (k l : Nat) (hk : k < 256)
    (hl : l < 1024) :
    at4 (View.ld (Val := Elt Ideal) (e' := .bf16) x4 (Rect.unit (s := S4x1x256x1024) ![o, 0, 0, 0] ![1, 1, 256, 1024] inb)) 0 0 k l = at4 x4 o 0 k l := by
  refine (at4_of_lt _ Nat.one_pos Nat.one_pos hk hl).trans ?_
  rw [at4_of_lt x4 ho Nat.one_pos hk hl]
  show x4 _ = x4 _
  congr 1
  funext a
  fin_cases a
  · exact Fin.ext (by show o + 1 * 0 = o; omega)
  · rfl
  · exact Fin.ext (by show 0 + 1 * k = k; omega)
  · exact Fin.ext (by show 0 + 1 * l = l; omega)

/-- The heads of a point's row. -/
abbrev hB (r j : Nat) : EReal := heads (at2 x1 r) (attRow x2 r) j

/-- A term of the product over the heads. -/
def term (r l j : Nat) : EReal := hB x1 x2 r j * at2 x3 0 j * at4 x4 (j / 256) 0 (j % 256) l

/-- A point's entry: the row before the layer's heads and their product. -/
def projB (y : S1024x1024.Idx) : EReal := x0 y + ∑ j ∈ Finset.range 1024, term x1 x2 x3 x4 (y 0).val (y 1).val j

lemma out5 (y : S1024x1024.Idx) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      x0 x1 x2 x3 x4 y = projB x0 x1 x2 x3 x4 y := by
  have h0 : (y 0).val < 1024 := (y 0).isLt
  have h1 : (y 1).val < 1024 := (y 1).isLt
  rw [out0_A_5, View.read_writes_eq_canon _ _ _ (cover0_A_5 c _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, ld_x, ld_g, ld_o]
  refine (canon_hit inb_S1024x1024_S1024x1024_0_0 _ _ y y fun a => ?_).trans ?_
  · fin_cases a
    · exact (Nat.zero_add _).symm
    · exact (Nat.zero_add _).symm
  unfold projB
  refine (pay3_apply _ _ _ _ _ _ _ _ _ y).trans (congrArg (fun z : EReal => x0 y + z) ?_)
  rw [pay7_apply, pay5_eq, ← sum_blocks _ 4 256, sum_four]
  have key : ∀ (o j : Nat) (v : Nat → EReal) (inb), o < 4 → (∀ k, k < 256 → v k = hB x1 x2 (y 0).val (256 * o + k) * at2 x3 0 (256 * o + k)) →
      ∑ k ∈ Finset.range 256, v k * at4 (View.ld (Val := Elt Ideal) (e' := .bf16) x4
        (Rect.unit (s := S4x1x256x1024) ![o, 0, 0, 0] ![1, 1, 256, 1024] inb)) 0 0 k (y 1).val
        = ∑ k ∈ Finset.range 256, term x1 x2 x3 x4 (y 0).val (y 1).val (256 * o + k) := by
    intro o j v inb ho hv
    refine Finset.sum_congr rfl fun k hk => ?_
    have hk := Finset.mem_range.mp hk
    rw [at4_blk x4 o ho inb k _ hk h1, hv k hk]
    unfold term
    rw [show (256 * o + k) / 256 = o by omega, show (256 * o + k) % 256 = k by omega]
  refine addc (addc (addc ?_ ?_) ?_) ?_
  · refine key 0 0 (fun k => _ * _) _ (by omega) fun k hk => ?_
    rw [at2_cols x1 0 (by omega) _ _ k h0 hk]
    unfold hB heads
    rw [if_pos (by omega), show 256 * 0 + k = k by omega]
  · refine key 1 0 (fun k => _) _ (by omega) fun k hk => ?_
    refine (at2_of_lt _ h0 hk).trans ((pay9_apply _ _ _).trans ?_)
    refine mulc ((at2_cols x1 256 (by omega) _ _ k h0 hk).trans ?_) rfl
    unfold hB heads
    rw [if_pos (by omega), show 256 * 1 + k = 256 + k by omega]
  · refine key 2 0 (fun k => _ * _) _ (by omega) fun k hk => ?_
    refine mulc ((at2_of_lt _ h0 hk).trans ((pay4_apply _ _).trans ?_)) rfl
    unfold hB heads
    rw [if_neg (by omega), if_pos (by omega), show 256 * 2 + k - 512 = k by omega]
    rfl
  · refine key 3 0 (fun k => _ * _) _ (by omega) fun k hk => ?_
    refine mulc ((at2_cols x1 512 (by omega) _ _ k h0 hk).trans ?_) rfl
    unfold hB heads
    rw [if_neg (by omega), if_neg (by omega), show 256 * 3 + k - 256 = 512 + k by omega]

lemma out6 (y : S1024x1024.Idx) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      x0 x1 x2 x3 x4 y = hB x1 x2 (y 0).val (y 1).val := by
  rw [out0_A_6, View.read_writes_eq_canon _ _ _ (cover0_A_6 c _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, ld_x, ld_g, ld_o]
  canon_tiles x h
  · have hx : (x 1).val < 256 := (x 1).isLt
    refine (pay2_apply _ x).trans ((ld_cols x1 512 (by omega) _ x).trans ?_)
    unfold hB heads
    rw [if_neg (by omega), if_neg (by omega), h0, h1]
    congr 1
    omega
  · have hx : (x 1).val < 256 := (x 1).isLt
    refine (pay1_apply _ x).trans ((pay4_apply _ x).trans ?_)
    unfold hB heads
    rw [if_neg (by omega), if_pos (by omega), show (y 1).val - 512 = (x 1).val by omega, show (y 0).val = (x 0).val by omega]
  · have hx : (x 1).val < 256 := (x 1).isLt
    refine (pay8_apply _ x).trans ((ld_cols x1 256 (by omega) _ x).trans ?_)
    unfold hB heads
    rw [if_pos (by omega)]
    congr 1
    · omega
    · omega
  · have hx : (x 1).val < 256 := (x 1).isLt
    refine (pay6_apply _ x).trans ((ld_cols x1 0 (by omega) _ x).trans ?_)
    unfold hB heads
    rw [if_pos (by omega)]
    congr 1
    · omega
    · omega

/-! ## The blocks a point reads -/

variable (m : (ℓ : Loc nD τ sig) → Buf (Elt Ideal) ℓ)

lemma e0 : ∀ t : Fin grid0.N, win0_0.index t = ![t.val, 0] := by decide +kernel
lemma e1 : ∀ t : Fin grid0.N, win0_1.index t = ![t.val, 0] := by decide +kernel
lemma e2 : ∀ t : Fin grid0.N, win0_2.index t = ![0, 0, t.val] := by decide +kernel
lemma e3 : ∀ t : Fin grid0.N, win0_3.index t = ![0, 0] := by decide +kernel
lemma e4 : ∀ t : Fin grid0.N, win0_4.index t = ![0, 1, 0, 0] := by decide +kernel
lemma e5 : ∀ t : Fin grid0.N, win0_5.index t = ![t.val, 0] := by decide +kernel
lemma e6 : ∀ t : Fin grid0.N, win0_6.index t = ![t.val, 0] := by decide +kernel

lemma blk0 (r l : Nat) (hr : r < 1024) (hl : l < 1024) :
    at2 (iblk m c 0 t) r l = at2 (m (c.tc.loc main_arg0)) (1024 * t.val + r) l := by
  have ht : t.val < 16 := t.isLt
  rw [at2_of_lt _ hr hl, at2_of_lt _ (by omega) hl]
  blk_simp [iblk]
  rw [V_main_arg0]
  congr 1
  blk_ext [e0]

lemma blk1 (r l : Nat) (hr : r < 1024) (hl : l < 768) :
    at2 (X0_1 m c t : Vec Ideal S1024x768 .f32) r l = at2 (m (c.tc.loc main_arg1)) (1024 * t.val + r) l := by
  have ht : t.val < 16 := t.isLt
  rw [at2_of_lt _ hr hl, at2_of_lt _ (by omega) (by omega)]
  unfold X0_1 Pipeline.Window.fill
  rw [dif_pos (moved0_1 t _)]
  blk_simp [iblk]
  rw [V_main_arg1]
  congr 1
  blk_ext [e1]

lemma blk2 (a b r : Nat) (ha : a < 4) (hb : b < 64) (hr : r < 1024) :
    at3 (iblk m c 2 t) a b r = at3 (m (c.tc.loc main_arg2)) a b (1024 * t.val + r) := by
  have ht : t.val < 16 := t.isLt
  rw [at3_of_lt _ ha hb hr, at3_of_lt _ ha hb (by omega)]
  blk_simp [iblk]
  rw [V_main_arg2]
  congr 1
  blk_ext [e2]

lemma blk3 (l : Nat) (hl : l < 1024) : at2 (iblk m c 3 t) 0 l = at2 (m (c.tc.loc main_arg3)) 1 l := by
  rw [at2_of_lt _ Nat.one_pos hl, at2_of_lt _ (by omega) hl]
  blk_simp [iblk]
  entry_read
  rw [show ((View.whole main_v2).slice (win0_3.rect t)).emb (ix2 0 ⟨l, hl⟩) = ix2 0 ⟨l, hl⟩ from by blk_ext [e3]]
  pointwise

lemma blk4 (b k l : Nat) (hb : b < 4) (hk : k < 256) (hl : l < 1024) :
    at4 (iblk m c 4 t) b 0 k l = at4 (m (c.tc.loc main_arg4)) b 1 k l := by
  rw [at4_of_lt _ hb Nat.one_pos hk hl, at4_of_lt _ hb (by omega) hk hl]
  blk_simp [iblk]
  rw [V_main_arg4]
  congr 1
  blk_ext [e4]

/-! ## The arrays -/

/-- The heads of the argument's row. -/
def headsAt (a : Ar2 16384 1024) (o : Ar3 4 64 16384) (r j : Nat) : EReal :=
  heads (at2 a r) (attRow o r) j

/-- The heads side by side. -/
def ynOf (a : Ar2 16384 1024) (o : Ar3 4 64 16384) :
    Ar2 16384 1024 := fun i => headsAt a o (i 0).val (i 1).val

/-- The layer's middle rows: the rows before it and the projected heads. -/
def xOf (x a : Ar2 16384 1024) (o : Ar3 4 64 16384)
    (g : Ar2 2 1024) (w : Ar4 4 2 256 1024) :
    Ar2 16384 1024 := fun i =>
  at2 x (i 0).val (i 1).val
    + ∑ j ∈ Finset.range 1024, headsAt a o (i 0).val j * at2 g 1 j * at4 w (j / 256) 1 (j % 256) (i 1).val

lemma ynOf_congr {a a' o o'} (ha : a = a') (ho : o = o') : ynOf a o = ynOf a' o' := by subst ha ho; rfl
lemma xOf_congr {x x' a a' o o' g g' w w'} (hx : x = x') (ha : a = a') (ho : o = o') (hg : g = g') (hw : w = w') :
    xOf x a o g w = xOf x' a' o' g' w' := by subst hx ha ho hg hw; rfl

lemma heads_blk (r j : Nat) (hr : r < 1024) (hj : j < 1024) :
    hB (X0_1 m c t : Vec Ideal S1024x768 .f32) (iblk m c 2 t) r j
      = headsAt (m (c.tc.loc main_arg1)) (m (c.tc.loc main_arg2)) (1024 * t.val + r) j :=
  heads_congr (fun k hk => blk1 c t m r k hr hk) (fun k hk => blk2 c t m _ _ r (by omega) (by omega) hr) hj

lemma outs5 (y : S1024x1024.Idx) : (outsAt0 m c t).1 y = projB (iblk m c 0 t) (X0_1 m c t) (iblk m c 2 t) (iblk m c 3 t) (iblk m c 4 t) y := by
  unfold outsAt0
  dsimp only
  rw [out5]

lemma outs6 (y : S1024x1024.Idx) : (outsAt0 m c t).2 y
    = hB (X0_1 m c t : Vec Ideal S1024x768 .f32) (iblk m c 2 t) (y 0).val (y 1).val := by
  unfold outsAt0
  dsimp only
  rw [out6]

lemma x_blk (y : S1024x1024.Idx) : projB (iblk m c 0 t) (X0_1 m c t) (iblk m c 2 t) (iblk m c 3 t) (iblk m c 4 t) y
    = at2 (m (c.tc.loc main_arg0)) (1024 * t.val + (y 0).val) (y 1).val
      + ∑ j ∈ Finset.range 1024, headsAt (m (c.tc.loc main_arg1)) (m (c.tc.loc main_arg2)) (1024 * t.val + (y 0).val) j
        * at2 (m (c.tc.loc main_arg3)) 1 j * at4 (m (c.tc.loc main_arg4)) (j / 256) 1 (j % 256) (y 1).val := by
  unfold projB
  refine addc ?_ (Finset.sum_congr rfl fun j hj => ?_)
  · exact (at2_eq _ y rfl rfl).trans (blk0 c t m _ _ (y 0).isLt (y 1).isLt)
  · have hj := Finset.mem_range.mp hj
    unfold term
    rw [heads_blk c t m _ j (y 0).isLt hj, blk3 c t m j hj, blk4 c t m _ _ _ (by omega) (by omega) (y 1).isLt]

lemma array5 : (dats m 0 c).arrAt 5 cfg0.N = xOf (m (c.tc.loc main_arg0)) (m (c.tc.loc main_arg1))
    (m (c.tc.loc main_arg2)) (m (c.tc.loc main_arg3)) (m (c.tc.loc main_arg4)) := by
  refine (dats m 0 c).arrAt_eq_of_covers 5 _ (by decide +kernel) fun t hf y => ?_
  blk_simp
  rw [after0_5]
  refine (outs5 c t m y).trans ((x_blk c t m y).trans ?_)
  unfold xOf
  have q0 : ((win0_5.blk t).view.emb y 0).val = 1024 * t.val + (y 0).val := by blk_simp [e5]; omega
  have q1 : ((win0_5.blk t).view.emb y 1).val = (y 1).val := by blk_simp [e5]
  rw [q0, q1]

lemma array6 : (dats m 0 c).arrAt 6 cfg0.N = ynOf (m (c.tc.loc main_arg1)) (m (c.tc.loc main_arg2)) := by
  refine (dats m 0 c).arrAt_eq_of_covers 6 _ (by decide +kernel) fun t hf y => ?_
  blk_simp
  rw [after0_6]
  refine (outs6 c t m y).trans ((heads_blk c t m _ _ (y 0).isLt (y 1).isLt).trans ?_)
  unfold ynOf
  have q0 : ((win0_6.blk t).view.emb y 0).val = 1024 * t.val + (y 0).val := by blk_simp [e6]; omega
  have q1 : ((win0_6.blk t).view.emb y 1).val = (y 1).val := by blk_simp [e6]
  rw [q0, q1]

/-! ## The reference's arrays -/

section Reference

open Cert.Reference9Ideal.Read

/-- Matrices side by side, read in the columns of one of them. -/
lemma beside {R C C₁ : Nat} (xs : List ((s : Shape) × (s.Idx → EReal))) (h : Shape.Concatenates (xs.map (·.1)) ⟨2, ![R, C]⟩ 1)
    (k pre : Nat) (hk : k < xs.length) (x : (⟨2, ![R, C₁]⟩ : Shape).Idx → EReal) (hx : xs[k] = ⟨⟨2, ![R, C₁]⟩, x⟩)
    (hpre : (((xs.take k).map (·.1)).map fun s => if h : s.rank = (⟨2, ![R, C]⟩ : Shape).rank then s.size ((1 : Fin 2).cast h.symm) else 0).sum = pre)
    (i : (⟨2, ![R, C]⟩ : Shape).Idx) (h0 : pre ≤ (i 1).val) (h1 : (i 1).val - pre < C₁) :
    concatenate ⟨2, ![R, C]⟩ 1 xs h i = at2 x (i 0).val ((i 1).val - pre) := by
  rw [at2_of_lt x (i 0).isLt h1]
  refine concatenate_apply_piece 1 xs h _ k hk _ x hx rfl pre hpre _ (fun b hb => ?_) ?_
  · match b with
    | ⟨0, _⟩ => rfl
    | ⟨1, _⟩ => exact absurd rfl hb
  · show pre + ((i 1).val - pre) = (i 1).val
    omega

lemma zero_bits : FloatOps.ofBits (F := Ideal) .f32 0x00000000#32 = 0 := by pointwise

lemma ref_att (x2) (i : Cert.Reference9Ideal.S16384x256.Idx) :
    val_main_v9 (F := Ideal) x2 i = attRow x2 (i 0).val (i 1).val := by
  rw [val_main_v9_apply, val_main_v8_apply]
  have h0 : (i 0).val < 16384 := (i 0).isLt
  have h1 : (i 1).val < 256 := (i 1).isLt
  refine at3_eq x2 _ ?_ ?_ ?_
  · show ((i 0).val * 256 + (i 1).val) / 64 % 4 = (i 1).val / 64
    omega
  · show ((i 0).val * 256 + (i 1).val) % 64 = (i 1).val % 64
    omega
  · show ((i 0).val * 256 + (i 1).val) / 256 = (i 0).val
    omega

lemma ref_inv (x2) (i : Cert.Reference9Ideal.S16384x1.Idx) : val_main_v17 (F := Ideal) x2 i = inv256 (attRow x2 (i 0).val) := by
  rw [val_main_v17_apply, val_main_v16_apply, val_main_v14_apply, val_main_v15_apply, val_main_v13_apply, val_main_cst_0_apply,
    val_main_cst_1_apply, val_main_v12_apply, val_main_v11_apply, val_main_cst_apply, zero_bits, zero_add]
  unfold inv256
  refine congrArg (fun z : EReal => Ideal.rsqrt (Ideal.div z _ + _)) (sum_fin _ _ fun k => ?_)
  rw [val_main_v10_apply, ref_att]
  rfl

lemma ref_norm (x2) (i : Cert.Reference9Ideal.S16384x256.Idx) :
    val_main_v19 (F := Ideal) x2 i = attRow x2 (i 0).val (i 1).val * inv256 (attRow x2 (i 0).val) := by
  rw [val_main_v19_apply, val_main_v18_apply, ref_att, ref_inv]
  rfl

lemma ref_a5 (x1) (r k : Nat) (hr : r < 16384) (hk : k < 256) : at2 (val_main_v5 (F := Ideal) x1) r k = at2 x1 r k := by
  rw [at2_of_lt _ hr hk, val_main_v5_apply, val_main_v4_apply]
  exact at2_eq x1 _ rfl rfl

lemma ref_a6 (x1) (r k : Nat) (hr : r < 16384) (hk : k < 256) : at2 (val_main_v6 (F := Ideal) x1) r k = at2 x1 r (256 + k) := by
  rw [at2_of_lt _ hr hk, val_main_v6_apply, val_main_v4_apply]
  exact at2_eq x1 _ rfl rfl

lemma ref_a7 (x1) (r k : Nat) (hr : r < 16384) (hk : k < 256) : at2 (val_main_v7 (F := Ideal) x1) r k = at2 x1 r (512 + k) := by
  rw [at2_of_lt _ hr hk, val_main_v7_apply, val_main_v4_apply]
  exact at2_eq x1 _ rfl rfl

lemma ref_heads (x1 x2) (i : Cert.Reference9Ideal.S16384x1024.Idx) :
    val_main_v20 (F := Ideal) x1 x2 i = headsAt x1 x2 (i 0).val (i 1).val := by
  have h0 : (i 0).val < 16384 := (i 0).isLt
  have h1 : (i 1).val < 1024 := (i 1).isLt
  unfold headsAt heads
  by_cases c0 : (i 1).val < 256
  · rw [if_pos (by omega)]
    refine (beside (C₁ := 256) _ _ 0 0 (by show _ < 4; omega) (val_main_v5 (F := Ideal) x1) rfl rfl i (by omega) (by omega)).trans ?_
    exact (ref_a5 x1 _ _ h0 (by omega)).trans (congrArg (at2 x1 _) (by omega))
  by_cases c1 : (i 1).val < 512
  · rw [if_pos c1]
    refine (beside (C₁ := 256) _ _ 1 256 (by show _ < 4; omega) (val_main_v6 (F := Ideal) x1) rfl rfl i (by omega) (by omega)).trans ?_
    exact (ref_a6 x1 _ _ h0 (by omega)).trans (congrArg (at2 x1 _) (by omega))
  by_cases c2 : (i 1).val < 768
  · rw [if_neg c1, if_pos c2]
    refine (beside (C₁ := 256) _ _ 2 512 (by show _ < 4; omega) (val_main_v19 (F := Ideal) x2) rfl rfl i (by omega) (by omega)).trans ?_
    exact (at2_of_lt _ h0 (by omega)).trans (ref_norm x2 _)
  · rw [if_neg c1, if_neg c2]
    refine (beside (C₁ := 256) _ _ 3 768 (by show _ < 4; omega) (val_main_v7 (F := Ideal) x1) rfl rfl i (by omega) (by omega)).trans ?_
    exact (ref_a7 x1 _ _ h0 (by omega)).trans (congrArg (at2 x1 _) (by omega))

lemma ref_w (x4) (i : Cert.Reference9Ideal.S1024x1024.Idx) :
    val_main_v3 (F := Ideal) x4 i = at4 x4 ((i 0).val / 256) 1 ((i 0).val % 256) (i 1).val := by
  have h0 : (i 0).val < 1024 := (i 0).isLt
  have h1 : (i 1).val < 1024 := (i 1).isLt
  rw [val_main_v3_apply, val_main_v2_apply, val_main_v1_apply, val_main_v0_apply]
  refine at4_eq x4 _ ?_ rfl ?_ ?_
  · show ((((i 0).val * 1024 + (i 1).val) / 262144 * 256 + ((i 0).val * 1024 + (i 1).val) / 1024 % 256) * 1024
      + ((i 0).val * 1024 + (i 1).val) % 1024) / 262144 = _
    omega
  · show ((((i 0).val * 1024 + (i 1).val) / 262144 * 256 + ((i 0).val * 1024 + (i 1).val) / 1024 % 256) * 1024
      + ((i 0).val * 1024 + (i 1).val) % 1024) / 1024 % 256 = _
    omega
  · show ((((i 0).val * 1024 + (i 1).val) / 262144 * 256 + ((i 0).val * 1024 + (i 1).val) / 1024 % 256) * 1024
      + ((i 0).val * 1024 + (i 1).val) % 1024) % 1024 = _
    omega

lemma ref_g (x3) (i : Cert.Reference9Ideal.S16384x1024.Idx) : val_main_v24 (F := Ideal) x3 i = at2 x3 1 (i 1).val := by
  rw [val_main_v24_apply, val_main_v23_apply, val_main_v22_apply, val_main_v21_apply]
  have h1 : (i 1).val < 1024 := (i 1).isLt
  refine at2_eq x3 _ rfl ?_
  show (i 1).val % 1024 = (i 1).val
  omega

lemma ref_x (x0 x1 x2 x3 x4) : val_main_v27 (F := Ideal) x0 x1 x2 x3 x4 = xOf x0 x1 x2 x3 x4 := by
  funext i
  rw [val_main_v27_apply, val_main_v26_apply, at2_eq x0 i rfl rfl]
  unfold xOf
  refine congrArg (fun z : EReal => at2 x0 (i 0).val (i 1).val + z) (sum_fin _ _ fun k => ?_)
  rw [val_main_v25_apply, ref_heads, ref_g, ref_w]
  rfl

lemma ref_yn (x1 x2) : val_main_v28 (F := Ideal) x1 x2 = ynOf x1 x2 := by
  funext i
  rw [val_main_v28_apply]
  exact ref_heads x1 x2 i

end Reference

/-! ## The claim -/

lemma algebraic_proj : Cert.algebraic_Kernel9Ideal_Reference9Ideal := fun m ρ m' ρ' _ hag =>
  ⟨fun c => (dats m 0 c).arrAt 5 cfg0.N, fun c => (dats m 0 c).arrAt 6 cfg0.N,
    Cert.Kernel9Ideal.Value.run_blocks m ρ,
    (θ_run _ _ _).mono (fun _ h c => by
      obtain ⟨h0, h1, h2, h3, h4⟩ := hag c
      exact ⟨(h c).1.trans ((Cert.Reference9Ideal.Read.val_main_v27_eq _ _ _ _ _).trans ((ref_x _ _ _ _ _).trans
            ((xOf_congr h0 h1 h2 h3 h4).trans (array5 c m).symm))),
          (h c).2.1.trans ((Cert.Reference9Ideal.Read.val_main_v28_eq _ _).trans ((ref_yn _ _).trans
            ((ynOf_congr h1 h2).trans (array6 c m).symm))),
          (h c).2.2⟩)
      (Cert.Reference9Ideal.Value.run m' ρ')⟩

end Cert.Proof.OutProj
-- ==== Proof.OutBwd.lean ====
module

public import proofs.«01_k».proof.Proof.Rms
public import proofs.«01_k».proof.Proof.Gen.Kernel10Ideal.Value
public import proofs.«01_k».proof.Proof.Gen.Reference10Ideal.Read
public import Idealize.ShloMosaic.Lib.Pipeline.ReadBack
public import proofs.«01_k».proof.Defs

@[expose] public section

set_option maxRecDepth 16384

noncomputable section

namespace Cert.Proof.OutBwd

open Cert.Kernel10Ideal Cert.Kernel10Ideal.Gen Cert.Kernel10Ideal.Value Idealize.ShloMosaic Idealize.ShloMosaic.TcCoe Idealize.SL.Sem
  Idealize.ShloMosaic.Tactic

/-! ## The norm's part of the body at an index -/

lemma pay6_apply (v3 : Vec Ideal S1024x1024 .f32) (x : S1024x1.Idx) : k0_pay6 v3 x = Rms.inv (at2 v3 (x 0).val) := by
  unfold Rms.inv Rms.var Rms.mean
  rw [← sum_fin (fun k : Fin 1024 => v3 (ix2 ⟨(x 0).val, (x 0).isLt⟩ k) * v3 (ix2 ⟨(x 0).val, (x 0).isLt⟩ k)) _
    (fun k => congrArg₂ (· * ·) (at2_of_lt v3 (x 0).isLt k.isLt).symm (at2_of_lt v3 (x 0).isLt k.isLt).symm)]
  unfold_payloads
  idx_vars x
  obtain rfl : x1 = 0 := Subsingleton.elim _ _
  pointwise

lemma pay7_apply (v3 : Vec Ideal S1024x1024 .f32) (x : S1024x1024.Idx) :
    k0_pay7 v3 x = at2 v3 (x 0).val (x 1).val * Rms.inv (at2 v3 (x 0).val) := by
  have hx : (x 0).val < 1024 := (x 0).isLt
  have e : Rms.inv (at2 v3 (x 0).val) = k0_pay6 v3 (ix2 (⟨(x 0).val, hx⟩ : Fin 1024) (0 : Fin 1)) :=
    (pay6_apply v3 (ix2 (⟨(x 0).val, hx⟩ : Fin 1024) (0 : Fin 1))).symm
  rw [at2_of_lt v3 hx (x 1).isLt, e]
  unfold k0_pay7
  generalize k0_pay6 v3 = w
  idx_vars x
  pointwise

lemma pay8_step (v3 : Vec Ideal S1024x1024 .f32) (v4 : Vec Ideal S1x1024 .f32) (v6 v7 : Vec Ideal S1024x1024 .f32) (x : S1024x1024.Idx) :
    k0_pay8 v3 v4 v6 v7 x = v7 x + k0_pay6 v3 (ix2 ⟨(x 0).val, (x 0).isLt⟩ 0) * (at2 v6 (x 0).val (x 1).val * at2 v4 0 (x 1).val
      - k0_pay7 v3 x * Rms.mean fun k => at2 v6 (x 0).val k * at2 v4 0 k * at2 (k0_pay7 v3) (x 0).val k) := by
  unfold Rms.mean
  rw [← sum_fin (fun k : Fin 1024 => v6 (ix2 ⟨(x 0).val, (x 0).isLt⟩ k) * v4 (ix2 0 k) * k0_pay7 v3 (ix2 ⟨(x 0).val, (x 0).isLt⟩ k)) _
    (fun k => congrArg₂ (· * ·) (congrArg₂ (· * ·) (at2_of_lt v6 (x 0).isLt k.isLt).symm (at2_of_lt v4 Nat.one_pos k.isLt).symm)
      (at2_of_lt (k0_pay7 v3) (x 0).isLt k.isLt).symm), at2_of_lt v6 (x 0).isLt (x 1).isLt, at2_of_lt v4 Nat.one_pos (x 1).isLt]
  unfold k0_pay8
  generalize k0_pay7 v3 = w
  generalize k0_pay6 v3 = u
  idx_vars x
  pointwise

lemma pay8_apply (v3 : Vec Ideal S1024x1024 .f32) (v4 : Vec Ideal S1x1024 .f32) (v6 v7 : Vec Ideal S1024x1024 .f32) (x : S1024x1024.Idx) :
    k0_pay8 v3 v4 v6 v7 x = Rms.dx (v7 x) (at2 v3 (x 0).val) (fun k => at2 v6 (x 0).val k * at2 v4 0 k) (x 1).val := by
  rw [pay8_step, pay6_apply, pay7_apply]
  unfold Rms.dx
  refine congrArg (fun z : EReal => v7 x + Rms.inv (at2 v3 (x 0).val) * (at2 v6 (x 0).val (x 1).val * at2 v4 0 (x 1).val
    - at2 v3 (x 0).val (x 1).val * Rms.inv (at2 v3 (x 0).val) * z)) ?_
  unfold Rms.mean
  refine congrArg (Ideal.div · _) (Finset.sum_congr rfl fun k hk => ?_)
  have hk := Finset.mem_range.mp hk
  exact congrArg (at2 v6 (x 0).val k * at2 v4 0 k * ·) ((at2_of_lt _ (x 0).isLt hk).trans (pay7_apply _ _))

lemma pay9_apply (v3 v6 : Vec Ideal S1024x1024 .f32) (x : S1x1024.Idx) :
    k0_pay9 v3 v6 x = ∑ k ∈ Finset.range 1024, at2 v6 k (x 1).val * (at2 v3 k (x 1).val * Rms.inv (at2 v3 k)) := by
  have hx : (x 1).val < 1024 := (x 1).isLt
  rw [← sum_fin (fun k : Fin 1024 => v6 (ix2 k ⟨(x 1).val, hx⟩) * k0_pay7 v3 (ix2 k (⟨(x 1).val, hx⟩ : Fin 1024))) _
    (fun k => congrArg₂ (· * ·) (at2_of_lt v6 k.isLt hx).symm (pay7_apply v3 _))]
  unfold k0_pay9
  generalize k0_pay7 v3 = w
  idx_vars x
  obtain rfl : x0 = 0 := Subsingleton.elim _ _
  pointwise

lemma pay11_apply (v33 v35 : Vec Ideal S1x1024 .f32) (x : S1x1024.Idx) : k0_pay11 v33 (k0_pay10 v35) x = v35 x + v33 x := by
  unfold_payloads
  idx_vars x
  pointwise

/-! ## The products of a block at an index -/

lemma pay20_apply (v39 : Vec Ideal S1024x1024 .bf16) (v71 : Vec Ideal S1x1x256x1024 .bf16) (x : S1024x256.Idx) :
    k0_pay20 v39 v71 x = ∑ k ∈ Finset.range 1024, at2 v39 (x 0).val k * at4 v71 0 0 (x 1).val k := by
  rw [← sum_fin (fun k : Fin 1024 => v39 (ix2 ⟨(x 0).val, (x 0).isLt⟩ k) * v71 (ix4 0 0 ⟨(x 1).val, (x 1).isLt⟩ k)) _
    (fun k => congrArg₂ (· * ·) (at2_of_lt v39 (x 0).isLt k.isLt).symm (at4_of_lt v71 Nat.one_pos Nat.one_pos (x 1).isLt k.isLt).symm)]
  unfold_payloads
  idx_vars x
  pointwise

lemma pay24_eq : k0_pay24 (F := Ideal) = k0_pay20 := by unfold k0_pay24 k0_pay20; rfl
lemma pay28_eq : k0_pay28 (F := Ideal) = k0_pay20 := by unfold k0_pay28 k0_pay20; rfl
lemma pay16_eq (v30 : Vec Ideal S1024x1024 .f32) (v47 : Vec Ideal S1x1x256x1024 .bf16) :
    k0_pay16 v30 v47 = k0_pay20 (k0_pay12 v30) v47 := by unfold k0_pay16 k0_pay20; rfl

lemma pay21_apply (v39 v46 : Vec Ideal S1024x1024 .bf16) (v74 : Vec Ideal S1x256x1024 .f32) (z : S1x256x1024.Idx) :
    k0_pay21 v39 v46 v74 z = v74 z + ∑ k ∈ Finset.range 1024, at2 v46 k (256 + (z 1).val) * at2 v39 k (z 2).val := by
  have h1 : (z 1).val < 256 := (z 1).isLt
  rw [← sum_fin (fun k : Fin 1024 => v46 (ix2 k ⟨256 + (z 1).val, by omega⟩) * v39 (ix2 k ⟨(z 2).val, (z 2).isLt⟩)) _
    (fun k => congrArg₂ (· * ·) (at2_of_lt v46 k.isLt (by omega)).symm (at2_of_lt v39 k.isLt (z 2).isLt).symm)]
  unfold_payloads
  idx_vars z
  obtain rfl : z0 = 0 := Subsingleton.elim _ _
  pointwise

lemma pay25_apply (v39 v46 : Vec Ideal S1024x1024 .bf16) (v74 : Vec Ideal S1x256x1024 .f32) (z : S1x256x1024.Idx) :
    k0_pay25 v39 v46 v74 z = v74 z + ∑ k ∈ Finset.range 1024, at2 v46 k (512 + (z 1).val) * at2 v39 k (z 2).val := by
  have h1 : (z 1).val < 256 := (z 1).isLt
  rw [← sum_fin (fun k : Fin 1024 => v46 (ix2 k ⟨512 + (z 1).val, by omega⟩) * v39 (ix2 k ⟨(z 2).val, (z 2).isLt⟩)) _
    (fun k => congrArg₂ (· * ·) (at2_of_lt v46 k.isLt (by omega)).symm (at2_of_lt v39 k.isLt (z 2).isLt).symm)]
  unfold_payloads
  idx_vars z
  obtain rfl : z0 = 0 := Subsingleton.elim _ _
  pointwise

lemma pay29_apply (v39 v46 : Vec Ideal S1024x1024 .bf16) (v74 : Vec Ideal S1x256x1024 .f32) (z : S1x256x1024.Idx) :
    k0_pay29 v39 v46 v74 z = v74 z + ∑ k ∈ Finset.range 1024, at2 v46 k (768 + (z 1).val) * at2 v39 k (z 2).val := by
  have h1 : (z 1).val < 256 := (z 1).isLt
  rw [← sum_fin (fun k : Fin 1024 => v46 (ix2 k ⟨768 + (z 1).val, by omega⟩) * v39 (ix2 k ⟨(z 2).val, (z 2).isLt⟩)) _
    (fun k => congrArg₂ (· * ·) (at2_of_lt v46 k.isLt (by omega)).symm (at2_of_lt v39 k.isLt (z 2).isLt).symm)]
  unfold_payloads
  idx_vars z
  obtain rfl : z0 = 0 := Subsingleton.elim _ _
  pointwise

lemma pay17_apply (v30 : Vec Ideal S1024x1024 .f32) (v40 : Vec Ideal S1x1024 .f32) (v42 : Vec Ideal S1024x1024 .bf16)
    (v74 : Vec Ideal S1x256x1024 .f32) (z : S1x256x1024.Idx) :
    k0_pay17 (F := Ideal) v30 v40 v42 v74 z = v74 z + ∑ k ∈ Finset.range 1024, at2 (k0_pay15 v40 v42) k (0 + (z 1).val) * at2 (k0_pay12 (F := Ideal) v30 : Vec Ideal S1024x1024 .bf16) k (z 2).val := by
  have h1 : (z 1).val < 256 := (z 1).isLt
  unfold k0_pay17
  generalize k0_pay15 v40 v42 = v46
  generalize k0_pay12 (F := Ideal) v30 = v39
  rw [← sum_fin (fun k : Fin 1024 => v46 (ix2 k ⟨(z 1).val, by omega⟩) * v39 (ix2 k ⟨(z 2).val, (z 2).isLt⟩)) _
    (fun k => congrArg₂ (· * ·) ((at2_of_lt v46 k.isLt (by omega)).symm.trans (by rw [zero_add])) (at2_of_lt v39 k.isLt (z 2).isLt).symm)]
  idx_vars z
  obtain rfl : z0 = 0 := Subsingleton.elim _ _
  pointwise

lemma pay22_apply (v39 : Vec Ideal S1024x1024 .bf16) (v43 : Vec Ideal S1024x1024 .f32) (v71 : Vec Ideal S1x1x256x1024 .bf16)
    (v82 : Vec Ideal S1x256 .f32) (z : S1x256.Idx) :
    k0_pay22 v39 v43 v71 v82 z = v82 z + ∑ k ∈ Finset.range 1024, at2 (k0_pay20 v39 v71) k (z 1).val * at2 v43 k (256 + (z 1).val) := by
  have h1 : (z 1).val < 256 := (z 1).isLt
  unfold k0_pay22
  generalize k0_pay20 v39 v71 = w
  rw [← sum_fin (fun k : Fin 1024 => w (ix2 k ⟨(z 1).val, h1⟩) * v43 (ix2 k ⟨256 + (z 1).val, by omega⟩)) _
    (fun k => congrArg₂ (· * ·) (at2_of_lt w k.isLt h1).symm (at2_of_lt v43 k.isLt (by omega)).symm)]
  idx_vars z
  obtain rfl : z0 = 0 := Subsingleton.elim _ _
  pointwise

lemma pay18_apply (v30 : Vec Ideal S1024x1024 .f32) (v42 : Vec Ideal S1024x1024 .bf16) (v47 : Vec Ideal S1x1x256x1024 .bf16)
    (v82 : Vec Ideal S1x256 .f32) (z : S1x256.Idx) :
    k0_pay18 v30 v42 v47 v82 z
      = v82 z + ∑ k ∈ Finset.range 1024, at2 (k0_pay20 (k0_pay12 v30) v47) k (z 1).val * at2 (k0_pay14 v42) k (0 + (z 1).val) := by
  have h1 : (z 1).val < 256 := (z 1).isLt
  unfold k0_pay18
  rw [pay16_eq]
  generalize k0_pay20 (k0_pay12 v30) v47 = w
  generalize k0_pay14 v42 = v43
  rw [← sum_fin (fun k : Fin 1024 => w (ix2 k ⟨(z 1).val, h1⟩) * v43 (ix2 k ⟨(z 1).val, by omega⟩)) _
    (fun k => congrArg₂ (· * ·) (at2_of_lt w k.isLt h1).symm ((at2_of_lt v43 k.isLt (by omega)).symm.trans (by rw [zero_add])))]
  idx_vars z
  obtain rfl : z0 = 0 := Subsingleton.elim _ _
  pointwise

lemma pay26_apply (v43 : Vec Ideal S1024x1024 .f32) (w : Vec Ideal S1024x256 .f32) (v82 : Vec Ideal S1x256 .f32) (z : S1x256.Idx) :
    k0_pay26 v43 w v82 z = v82 z + ∑ k ∈ Finset.range 1024, at2 w k (z 1).val * at2 v43 k (512 + (z 1).val) := by
  have h1 : (z 1).val < 256 := (z 1).isLt
  rw [← sum_fin (fun k : Fin 1024 => w (ix2 k ⟨(z 1).val, h1⟩) * v43 (ix2 k ⟨512 + (z 1).val, by omega⟩)) _
    (fun k => congrArg₂ (· * ·) (at2_of_lt w k.isLt h1).symm (at2_of_lt v43 k.isLt (by omega)).symm)]
  unfold_payloads
  idx_vars z
  obtain rfl : z0 = 0 := Subsingleton.elim _ _
  pointwise

lemma pay1_apply (v43 : Vec Ideal S1024x1024 .f32) (w : Vec Ideal S1024x256 .f32) (v82 : Vec Ideal S1x256 .f32) (z : S1x256.Idx) :
    k0_pay1 v43 w v82 z = v82 z + ∑ k ∈ Finset.range 1024, at2 w k (z 1).val * at2 v43 k (768 + (z 1).val) := by
  have h1 : (z 1).val < 256 := (z 1).isLt
  rw [← sum_fin (fun k : Fin 1024 => w (ix2 k ⟨(z 1).val, h1⟩) * v43 (ix2 k ⟨768 + (z 1).val, by omega⟩)) _
    (fun k => congrArg₂ (· * ·) (at2_of_lt w k.isLt h1).symm (at2_of_lt v43 k.isLt (by omega)).symm)]
  unfold_payloads
  idx_vars z
  obtain rfl : z0 = 0 := Subsingleton.elim _ _
  pointwise

lemma pay23_apply (v39 : Vec Ideal S1024x1024 .bf16) (v41 : Vec Ideal S1x1024 .f32) (v71 : Vec Ideal S1x1x256x1024 .bf16) (z : S1024x256.Idx) :
    k0_pay23 v39 v41 v71 z = k0_pay20 v39 v71 z * at2 v41 0 (256 + (z 1).val) := by
  have h1 : (z 1).val < 256 := (z 1).isLt
  unfold k0_pay23
  generalize k0_pay20 v39 v71 = w
  rw [at2_of_lt v41 Nat.one_pos (show 256 + (z 1).val < 1024 by omega)]
  idx_vars z
  pointwise

lemma pay19_apply (v30 : Vec Ideal S1024x1024 .f32) (v40 : Vec Ideal S1x1024 .f32) (v47 : Vec Ideal S1x1x256x1024 .bf16) (z : S1024x256.Idx) :
    k0_pay19 v30 v40 v47 z = k0_pay20 (k0_pay12 v30) v47 z * at2 (k0_pay13 v40) 0 (0 + (z 1).val) := by
  have h1 : (z 1).val < 256 := (z 1).isLt
  unfold k0_pay19
  rw [pay16_eq]
  generalize k0_pay20 (k0_pay12 v30) v47 = w
  generalize k0_pay13 v40 = v41
  rw [zero_add, at2_of_lt v41 Nat.one_pos (show (z 1).val < 1024 by omega)]
  idx_vars z
  pointwise

lemma pay27_apply (v41 : Vec Ideal S1x1024 .f32) (w : Vec Ideal S1024x256 .f32) (z : S1024x256.Idx) :
    k0_pay27 (F := Ideal) v41 w z = w z * at2 v41 0 (512 + (z 1).val) := by
  have h1 : (z 1).val < 256 := (z 1).isLt
  unfold k0_pay27
  rw [at2_of_lt v41 Nat.one_pos (show 512 + (z 1).val < 1024 by omega)]
  idx_vars z
  pointwise

lemma pay2_apply (v41 : Vec Ideal S1x1024 .f32) (w : Vec Ideal S1024x256 .f32) (z : S1024x256.Idx) :
    k0_pay2 (F := Ideal) v41 w z = w z * at2 v41 0 (768 + (z 1).val) := by
  have h1 : (z 1).val < 256 := (z 1).isLt
  unfold k0_pay2
  rw [at2_of_lt v41 Nat.one_pos (show 768 + (z 1).val < 1024 by omega)]
  idx_vars z
  pointwise

lemma pay12_apply (v : Vec Ideal S1024x1024 .f32) (x : S1024x1024.Idx) : k0_pay12 (F := Ideal) v x = v x := by
  unfold_payloads
  idx_vars x
  pointwise

lemma pay13_eq (v : Vec Ideal S1x1024 .f32) : k0_pay13 (F := Ideal) v = v := by
  funext x
  unfold_payloads
  idx_vars x
  pointwise

lemma pay14_apply (v : Vec Ideal S1024x1024 .bf16) (x : S1024x1024.Idx) : k0_pay14 (F := Ideal) v x = v x := by
  unfold_payloads
  idx_vars x
  pointwise

lemma pay15_apply (v40 : Vec Ideal S1x1024 .f32) (v42 : Vec Ideal S1024x1024 .bf16) (x : S1024x1024.Idx) :
    k0_pay15 v40 v42 x = at2 v42 (x 0).val (x 1).val * at2 v40 0 (x 1).val := by
  rw [at2_of_lt v42 (x 0).isLt (x 1).isLt, at2_of_lt v40 Nat.one_pos (x 1).isLt]
  unfold_payloads
  idx_vars x
  pointwise

lemma pay3_apply (y : S1x1024.Idx) : k0_pay3 (F := Ideal) y = 0 := by
  unfold_payloads
  idx_vars y
  pointwise

lemma pay5_apply (y : S1x1024.Idx) : k0_pay5 (F := Ideal) y = 0 := by
  unfold_payloads
  idx_vars y
  pointwise

lemma pay4_apply (y : S4x256x1024.Idx) : k0_pay4 (F := Ideal) y = 0 := by
  unfold_payloads
  idx_vars y
  pointwise

lemma ld_x (X : Vec Ideal S1024x1024 .f32) (inb : ∀ a, (![0, 0] : Fin 2 → Nat) a + (![1024, 1024] : Fin 2 → Nat) a ≤ S1024x1024.size a) :
    View.ld (Val := Elt Ideal) (e' := .f32) X (Rect.unit (s := S1024x1024) ![0, 0] ![1024, 1024] inb) = X := View.ld_unit_lit inb X (by decide)

lemma ld_y (X : Vec Ideal S1024x1024 .bf16) (inb : ∀ a, (![0, 0] : Fin 2 → Nat) a + (![1024, 1024] : Fin 2 → Nat) a ≤ S1024x1024.size a) :
    View.ld (Val := Elt Ideal) (e' := .bf16) X (Rect.unit (s := S1024x1024) ![0, 0] ![1024, 1024] inb) = X := View.ld_unit_lit inb X (by decide)

lemma ld_g (X : Vec Ideal S1x1024 .f32) (inb : ∀ a, (![0, 0] : Fin 2 → Nat) a + (![1, 1024] : Fin 2 → Nat) a ≤ S1x1024.size a) :
    View.ld (Val := Elt Ideal) (e' := .f32) X (Rect.unit (s := S1x1024) ![0, 0] ![1, 1024] inb) = X := View.ld_unit_lit inb X (by decide)

variable (c : Dev nD) (t : Fin cfg0.N)
  (x0 : Vec Ideal S1024x1024 .f32) (x1 : Vec Ideal S1x1024 .f32) (x2 x3 : Vec Ideal S1024x1024 .f32) (x4 : Vec Ideal S1024x1024 .bf16)
  (x5 : Vec Ideal S1x1024 .f32) (x6 : Vec Ideal S4x1x256x1024 .bf16) (xo8 xo10 : Vec Ideal S1x1024 .f32) (xo11 : Vec Ideal S4x256x1024 .f32)

/-! ## A point's results over the first gradient -/

section Blocks

variable (D : Vec Ideal S1024x1024 .f32)

/-- The cotangent of the heads' outputs. -/
def dyg (r j : Nat) : EReal := ∑ k ∈ Finset.range 1024, at2 D r k * at4 x6 (j / 256) 0 (j % 256) k

/-- What the point adds to the gain's gradient. -/
def dgB (j : Nat) : EReal := ∑ r ∈ Finset.range 1024, dyg x6 D r j * at2 x4 r j

/-- What the point adds to the weights' gradient. -/
def dwB (j k : Nat) : EReal := ∑ r ∈ Finset.range 1024, at2 x4 r j * at2 x5 0 j * at2 D r k

/-- What the point adds to the norm's scale. -/
def dgfB (j : Nat) : EReal := ∑ k ∈ Finset.range 1024, at2 x2 k j * (at2 x0 k j * Rms.inv (at2 x0 k))

lemma at4_blk (o : Nat) (ho : o < 4)
    (inb : ∀ a, (![o, 0, 0, 0] : Fin 4 → Nat) a + (![1, 1, 256, 1024] : Fin 4 → Nat) a ≤ S4x1x256x1024.size a) (k l : Nat) (hk : k < 256)
    (hl : l < 1024) :
    at4 (View.ld (Val := Elt Ideal) (e' := .bf16) x6 (Rect.unit (s := S4x1x256x1024) ![o, 0, 0, 0] ![1, 1, 256, 1024] inb)) 0 0 k l = at4 x6 o 0 k l := by
  refine (at4_of_lt _ Nat.one_pos Nat.one_pos hk hl).trans ?_
  rw [at4_of_lt x6 ho Nat.one_pos hk hl]
  show x6 _ = x6 _
  congr 1
  funext a
  fin_cases a
  · exact Fin.ext (by show o + 1 * 0 = o; omega)
  · rfl
  · exact Fin.ext (by show 0 + 1 * k = k; omega)
  · exact Fin.ext (by show 0 + 1 * l = l; omega)

lemma at2_pay12 (k l : Nat) : at2 (k0_pay12 (F := Ideal) D : Vec Ideal S1024x1024 .bf16) k l = at2 D k l :=
  congrArg (fun f : S1024x1024.Idx → EReal => at2 f k l) (funext fun x => pay12_apply D x)

lemma at2_pay14 (k l : Nat) : at2 (k0_pay14 (F := Ideal) x4 : Vec Ideal S1024x1024 .f32) k l = at2 x4 k l :=
  congrArg (fun f : S1024x1024.Idx → EReal => at2 f k l) (funext fun x => pay14_apply x4 x)

lemma dyg_blk (o : Nat) (ho : o < 4)
    (inb : ∀ a, (![o, 0, 0, 0] : Fin 4 → Nat) a + (![1, 1, 256, 1024] : Fin 4 → Nat) a ≤ S4x1x256x1024.size a) (z : S1024x256.Idx) :
    k0_pay20 (F := Ideal) (k0_pay12 (F := Ideal) D)
        (View.ld (Val := Elt Ideal) (e' := .bf16) x6 (Rect.unit (s := S4x1x256x1024) ![o, 0, 0, 0] ![1, 1, 256, 1024] inb)) z
      = dyg x6 D (z 0).val (256 * o + (z 1).val) := by
  have h1 : (z 1).val < 256 := (z 1).isLt
  rw [pay20_apply]
  unfold dyg
  refine Finset.sum_congr rfl fun k hk => ?_
  rw [at2_pay12, at4_blk x6 o ho inb _ _ h1 (Finset.mem_range.mp hk), show (256 * o + (z 1).val) / 256 = o by omega,
    show (256 * o + (z 1).val) % 256 = (z 1).val by omega]

/-- The sum over the rows of a block's columns. -/
lemma sum_blk (o : Nat) (ho : o < 4)
    (inb : ∀ a, (![o, 0, 0, 0] : Fin 4 → Nat) a + (![1, 1, 256, 1024] : Fin 4 → Nat) a ≤ S4x1x256x1024.size a) (j l : Nat) (hj : j < 256)
    (hl : l = 256 * o + j) :
    ∑ k ∈ Finset.range 1024, at2 (k0_pay20 (F := Ideal) (k0_pay12 (F := Ideal) D)
        (View.ld (Val := Elt Ideal) (e' := .bf16) x6 (Rect.unit (s := S4x1x256x1024) ![o, 0, 0, 0] ![1, 1, 256, 1024] inb)) : Vec Ideal S1024x256 .f32)
          k j * at2 (k0_pay14 (F := Ideal) x4 : Vec Ideal S1024x1024 .f32) k l = dgB x4 x6 D l := by
  unfold dgB
  refine Finset.sum_congr rfl fun k hk => ?_
  rw [at2_pay14]
  subst hl
  exact congrArg (· * at2 x4 k (256 * o + j)) ((at2_of_lt _ (Finset.mem_range.mp hk) hj).trans (dyg_blk x6 D o ho inb _))

lemma dw_sum (j k : Nat) (hj : j < 1024) :
    ∑ r ∈ Finset.range 1024, at2 (k0_pay15 (F := Ideal) x5 x4 : Vec Ideal S1024x1024 .bf16) r j
      * at2 (k0_pay12 (F := Ideal) D : Vec Ideal S1024x1024 .bf16) r k = dwB x4 x5 D j k := by
  unfold dwB
  refine Finset.sum_congr rfl fun r hr => ?_
  rw [at2_pay12]
  exact congrArg (· * at2 D r k) ((at2_of_lt _ (Finset.mem_range.mp hr) hj).trans (pay15_apply x5 x4 _))

end Blocks

/-! ## Tiles of the outputs -/

lemma canon_row (P3 P2 P1 P0 : Vec Ideal S1x256 .f32) (L : List (View.Piece (Elt Ideal) S1x1024 .f32)) (y : S1x1024.Idx) (v : EReal)
    (h : ∀ z : S1x256.Idx, ((y 1).val = (z 1).val → P0 z = v) ∧ ((y 1).val = 256 + (z 1).val → P1 z = v)
      ∧ ((y 1).val = 512 + (z 1).val → P2 z = v) ∧ ((y 1).val = 768 + (z 1).val → P3 z = v)) :
    View.canon (Val := Elt Ideal) (e := .f32) (⟨Rect.unit ![0, 768] ![1, 256] inb_S1x1024_S1x256_0_768, P3⟩
      :: ⟨Rect.unit ![0, 512] ![1, 256] inb_S1x1024_S1x256_0_512, P2⟩ :: ⟨Rect.unit ![0, 256] ![1, 256] inb_S1x1024_S1x256_0_256, P1⟩
      :: ⟨Rect.unit ![0, 0] ![1, 256] inb_S1x1024_S1x256_0_0, P0⟩ :: L) y = v := by
  have hy : (y 1).val < 1024 := (y 1).isLt
  have h0 : (y 0).val = 0 := by have : (y 0).val < 1 := (y 0).isLt; omega
  by_cases h3 : 768 ≤ (y 1).val
  · refine (canon_hit inb_S1x1024_S1x256_0_768 P3 _ y (ix2 (0 : Fin 1) (⟨(y 1).val - 768, by omega⟩ : Fin 256)) fun a => ?_).trans
      ((h _).2.2.2 (by show (y 1).val = 768 + ((y 1).val - 768); omega))
    fin_cases a
    · show (y 0).val = 0 + 0; omega
    · show (y 1).val = 768 + ((y 1).val - 768); omega
  refine (canon_miss inb_S1x1024_S1x256_0_768 _ _ _ 1 (Or.inl (by show (y 1).val < 768; omega))).trans ?_
  by_cases h2 : 512 ≤ (y 1).val
  · refine (canon_hit inb_S1x1024_S1x256_0_512 P2 _ y (ix2 (0 : Fin 1) (⟨(y 1).val - 512, by omega⟩ : Fin 256)) fun a => ?_).trans
      ((h _).2.2.1 (by show (y 1).val = 512 + ((y 1).val - 512); omega))
    fin_cases a
    · show (y 0).val = 0 + 0; omega
    · show (y 1).val = 512 + ((y 1).val - 512); omega
  refine (canon_miss inb_S1x1024_S1x256_0_512 _ _ _ 1 (Or.inl (by show (y 1).val < 512; omega))).trans ?_
  by_cases h1 : 256 ≤ (y 1).val
  · refine (canon_hit inb_S1x1024_S1x256_0_256 P1 _ y (ix2 (0 : Fin 1) (⟨(y 1).val - 256, by omega⟩ : Fin 256)) fun a => ?_).trans
      ((h _).2.1 (by show (y 1).val = 256 + ((y 1).val - 256); omega))
    fin_cases a
    · show (y 0).val = 0 + 0; omega
    · show (y 1).val = 256 + ((y 1).val - 256); omega
  refine (canon_miss inb_S1x1024_S1x256_0_256 _ _ _ 1 (Or.inl (by show (y 1).val < 256; omega))).trans ?_
  refine (canon_hit inb_S1x1024_S1x256_0_0 P0 _ y (ix2 (0 : Fin 1) (⟨(y 1).val, by omega⟩ : Fin 256)) fun a => ?_).trans
      ((h _).1 rfl)
  fin_cases a
  · show (y 0).val = 0 + 0; omega
  · show (y 1).val = 0 + (y 1).val; omega

lemma canon_blk (P3 P2 P1 P0 : Vec Ideal S1x256x1024 .f32) (L : List (View.Piece (Elt Ideal) S4x256x1024 .f32)) (y : S4x256x1024.Idx) (v : EReal)
    (h : ∀ z : S1x256x1024.Idx, (z 1).val = (y 1).val → (z 2).val = (y 2).val → ((y 0).val = 0 → P0 z = v) ∧ ((y 0).val = 1 → P1 z = v)
      ∧ ((y 0).val = 2 → P2 z = v) ∧ ((y 0).val = 3 → P3 z = v)) :
    View.canon (Val := Elt Ideal) (e := .f32) (⟨Rect.unit ![3, 0, 0] ![1, 256, 1024] inb_S4x256x1024_S1x256x1024_3_0_0, P3⟩
      :: ⟨Rect.unit ![2, 0, 0] ![1, 256, 1024] inb_S4x256x1024_S1x256x1024_2_0_0, P2⟩
      :: ⟨Rect.unit ![1, 0, 0] ![1, 256, 1024] inb_S4x256x1024_S1x256x1024_1_0_0, P1⟩
      :: ⟨Rect.unit ![0, 0, 0] ![1, 256, 1024] inb_S4x256x1024_S1x256x1024_0_0_0, P0⟩ :: L) y = v := by
  have hy : (y 0).val < 4 := (y 0).isLt
  have hy1 : (y 1).val < 256 := (y 1).isLt
  have hy2 : (y 2).val < 1024 := (y 2).isLt
  obtain ⟨z, e0, e1, e2⟩ : ∃ z : S1x256x1024.Idx, (z 0).val = 0 ∧ (z 1).val = (y 1).val ∧ (z 2).val = (y 2).val :=
    ⟨ix3 (0 : Fin 1) (⟨(y 1).val, hy1⟩ : Fin 256) (⟨(y 2).val, hy2⟩ : Fin 1024), rfl, rfl, rfl⟩
  have g := h z e1 e2
  by_cases h3 : (y 0).val = 3
  · refine (canon_hit inb_S4x256x1024_S1x256x1024_3_0_0 _ _ _ z (by
      intro a; fin_cases a
      · show (y 0).val = 3 + (z 0).val; omega
      · show (y 1).val = 0 + (z 1).val; omega
      · show (y 2).val = 0 + (z 2).val; omega)).trans ?_
    exact g.2.2.2 h3
  refine (canon_miss inb_S4x256x1024_S1x256x1024_3_0_0 _ _ _ 0 (Or.inl (by show (y 0).val < 3; omega))).trans ?_
  by_cases h2 : (y 0).val = 2
  · refine (canon_hit inb_S4x256x1024_S1x256x1024_2_0_0 _ _ _ z (by
      intro a; fin_cases a
      · show (y 0).val = 2 + (z 0).val; omega
      · show (y 1).val = 0 + (z 1).val; omega
      · show (y 2).val = 0 + (z 2).val; omega)).trans ?_
    exact g.2.2.1 h2
  refine (canon_miss inb_S4x256x1024_S1x256x1024_2_0_0 _ _ _ 0 (Or.inl (by show (y 0).val < 2; omega))).trans ?_
  by_cases h1 : (y 0).val = 1
  · refine (canon_hit inb_S4x256x1024_S1x256x1024_1_0_0 _ _ _ z (by
      intro a; fin_cases a
      · show (y 0).val = 1 + (z 0).val; omega
      · show (y 1).val = 0 + (z 1).val; omega
      · show (y 2).val = 0 + (z 2).val; omega)).trans ?_
    exact g.2.1 h1
  refine (canon_miss inb_S4x256x1024_S1x256x1024_1_0_0 _ _ _ 0 (Or.inl (by show (y 0).val < 1; omega))).trans ?_
  have h0 : (y 0).val = 0 := by omega
  refine (canon_hit inb_S4x256x1024_S1x256x1024_0_0_0 _ _ _ z (by
    intro a; fin_cases a
    · show (y 0).val = 0 + (z 0).val; omega
    · show (y 1).val = 0 + (z 1).val; omega
    · show (y 2).val = 0 + (z 2).val; omega)).trans ?_
  exact g.1 h0

/-! A block read before it is first stored holds the zero the body starts with. -/

lemma z_row (y : S1x1024.Idx) :
    View.canon (Val := Elt Ideal) (e := .f32) [⟨Rect.unit ![0, 0] ![1, 1024] inb_S1x1024_S1x1024_0_0, k0_pay3 (F := Ideal)⟩] y = 0 := by
  refine (canon_hit inb_S1x1024_S1x1024_0_0 _ [] _ y fun a => ?_).trans ?_
  · fin_cases a
    · exact (Nat.zero_add _).symm
    · exact (Nat.zero_add _).symm
  · exact pay3_apply y

lemma z_row1 (P0 : Vec Ideal S1x256 .f32) (y : S1x1024.Idx) (h : 256 ≤ (y 1).val) :
    View.canon (Val := Elt Ideal) (e := .f32) [⟨Rect.unit ![0, 0] ![1, 256] inb_S1x1024_S1x256_0_0, P0⟩,
      ⟨Rect.unit ![0, 0] ![1, 1024] inb_S1x1024_S1x1024_0_0, k0_pay3 (F := Ideal)⟩] y = 0 :=
  (canon_miss inb_S1x1024_S1x256_0_0 _ _ _ 1 (Or.inr (by show 0 + 256 ≤ (y 1).val; omega))).trans (z_row y)

lemma z_row2 (P1 P0 : Vec Ideal S1x256 .f32) (y : S1x1024.Idx) (h : 512 ≤ (y 1).val) :
    View.canon (Val := Elt Ideal) (e := .f32) [⟨Rect.unit ![0, 256] ![1, 256] inb_S1x1024_S1x256_0_256, P1⟩,
      ⟨Rect.unit ![0, 0] ![1, 256] inb_S1x1024_S1x256_0_0, P0⟩,
      ⟨Rect.unit ![0, 0] ![1, 1024] inb_S1x1024_S1x1024_0_0, k0_pay3 (F := Ideal)⟩] y = 0 :=
  (canon_miss inb_S1x1024_S1x256_0_256 _ _ _ 1 (Or.inr (by show 256 + 256 ≤ (y 1).val; omega))).trans (z_row1 P0 y (by omega))

lemma z_row3 (P2 P1 P0 : Vec Ideal S1x256 .f32) (y : S1x1024.Idx) (h : 768 ≤ (y 1).val) :
    View.canon (Val := Elt Ideal) (e := .f32) [⟨Rect.unit ![0, 512] ![1, 256] inb_S1x1024_S1x256_0_512, P2⟩,
      ⟨Rect.unit ![0, 256] ![1, 256] inb_S1x1024_S1x256_0_256, P1⟩, ⟨Rect.unit ![0, 0] ![1, 256] inb_S1x1024_S1x256_0_0, P0⟩,
      ⟨Rect.unit ![0, 0] ![1, 1024] inb_S1x1024_S1x1024_0_0, k0_pay3 (F := Ideal)⟩] y = 0 :=
  (canon_miss inb_S1x1024_S1x256_0_512 _ _ _ 1 (Or.inr (by show 512 + 256 ≤ (y 1).val; omega))).trans (z_row2 P1 P0 y (by omega))

lemma z_blk (y : S4x256x1024.Idx) :
    View.canon (Val := Elt Ideal) (e := .f32) [⟨Rect.unit ![0, 0, 0] ![4, 256, 1024] inb_S4x256x1024_S4x256x1024_0_0_0, k0_pay4 (F := Ideal)⟩] y = 0 := by
  refine (canon_hit inb_S4x256x1024_S4x256x1024_0_0_0 _ [] _ y fun a => ?_).trans ?_
  · fin_cases a
    · exact (Nat.zero_add _).symm
    · exact (Nat.zero_add _).symm
    · exact (Nat.zero_add _).symm
  · exact pay4_apply y

lemma z_blk1 (P0 : Vec Ideal S1x256x1024 .f32) (y : S4x256x1024.Idx) (h : 1 ≤ (y 0).val) :
    View.canon (Val := Elt Ideal) (e := .f32) [⟨Rect.unit ![0, 0, 0] ![1, 256, 1024] inb_S4x256x1024_S1x256x1024_0_0_0, P0⟩,
      ⟨Rect.unit ![0, 0, 0] ![4, 256, 1024] inb_S4x256x1024_S4x256x1024_0_0_0, k0_pay4 (F := Ideal)⟩] y = 0 :=
  (canon_miss inb_S4x256x1024_S1x256x1024_0_0_0 _ _ _ 0 (Or.inr (by show 0 + 1 ≤ (y 0).val; omega))).trans (z_blk y)

lemma z_blk2 (P1 P0 : Vec Ideal S1x256x1024 .f32) (y : S4x256x1024.Idx) (h : 2 ≤ (y 0).val) :
    View.canon (Val := Elt Ideal) (e := .f32) [⟨Rect.unit ![1, 0, 0] ![1, 256, 1024] inb_S4x256x1024_S1x256x1024_1_0_0, P1⟩,
      ⟨Rect.unit ![0, 0, 0] ![1, 256, 1024] inb_S4x256x1024_S1x256x1024_0_0_0, P0⟩,
      ⟨Rect.unit ![0, 0, 0] ![4, 256, 1024] inb_S4x256x1024_S4x256x1024_0_0_0, k0_pay4 (F := Ideal)⟩] y = 0 :=
  (canon_miss inb_S4x256x1024_S1x256x1024_1_0_0 _ _ _ 0 (Or.inr (by show 1 + 1 ≤ (y 0).val; omega))).trans (z_blk1 P0 y (by omega))

lemma z_blk3 (P2 P1 P0 : Vec Ideal S1x256x1024 .f32) (y : S4x256x1024.Idx) (h : 3 ≤ (y 0).val) :
    View.canon (Val := Elt Ideal) (e := .f32) [⟨Rect.unit ![2, 0, 0] ![1, 256, 1024] inb_S4x256x1024_S1x256x1024_2_0_0, P2⟩,
      ⟨Rect.unit ![1, 0, 0] ![1, 256, 1024] inb_S4x256x1024_S1x256x1024_1_0_0, P1⟩,
      ⟨Rect.unit ![0, 0, 0] ![1, 256, 1024] inb_S4x256x1024_S1x256x1024_0_0_0, P0⟩,
      ⟨Rect.unit ![0, 0, 0] ![4, 256, 1024] inb_S4x256x1024_S4x256x1024_0_0_0, k0_pay4 (F := Ideal)⟩] y = 0 :=
  (canon_miss inb_S4x256x1024_S1x256x1024_2_0_0 _ _ _ 0 (Or.inr (by show 2 + 1 ≤ (y 0).val; omega))).trans (z_blk2 P1 P0 y (by omega))

/-! ## What the body's stores leave -/

lemma out7_B (h0 : ¬cond0_0 (grid0.coords t)) (y : S1024x1024.Idx) :
    out0_B_7 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) h0
      x0 x1 x2 x3 x4 x5 x6 xo8 xo10 xo11 y = k0_pay8 x0 x1 x2 x3 y := by
  rw [out0_B_7, View.read_writes_eq_canon _ _ _ (cover0_B_7 c _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, (hs0_10 t).read_unread,
    (hs0_11 t).read_unread, ld_x, ld_y, ld_g]
  refine (canon_hit inb_S1024x1024_S1024x1024_0_0 _ _ y y fun a => ?_).trans ?_
  · fin_cases a
    · exact (Nat.zero_add _).symm
    · exact (Nat.zero_add _).symm
  rfl
lemma out7_A (h0 : cond0_0 (grid0.coords t)) (y : S1024x1024.Idx) :
    out0_A_7 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) h0
      x0 x1 x2 x3 x4 x5 x6 y = k0_pay8 x0 x1 x2 x3 y := by
  rw [out0_A_7, View.read_writes_eq_canon _ _ _ (cover0_A_7 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, (hs0_10 t).read_unread,
    (hs0_11 t).read_unread, ld_x, ld_y, ld_g]
  refine (canon_hit inb_S1024x1024_S1024x1024_0_0 _ _ y y fun a => ?_).trans ?_
  · fin_cases a
    · exact (Nat.zero_add _).symm
    · exact (Nat.zero_add _).symm
  rfl
lemma out8_B (h0 : ¬cond0_0 (grid0.coords t)) (y : S1x1024.Idx) :
    out0_B_8 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) h0
      x0 x1 x2 x3 x4 x5 x6 xo8 xo10 xo11 y = xo8 y + dgfB x0 x2 (y 1).val := by
  rw [out0_B_8, View.read_writes_eq_canon _ _ _ (cover0_B_8 c _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, (hs0_10 t).read_unread,
    (hs0_11 t).read_unread, ld_x, ld_y, ld_g]
  refine (canon_hit inb_S1x1024_S1x1024_0_0 _ _ y y fun a => ?_).trans ?_
  · fin_cases a
    · exact (Nat.zero_add _).symm
    · exact (Nat.zero_add _).symm
  exact (pay11_apply _ _ y).trans (congrArg (xo8 y + ·) (pay9_apply x0 x2 y))
lemma out8_A (h0 : cond0_0 (grid0.coords t)) (y : S1x1024.Idx) :
    out0_A_8 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) h0
      x0 x1 x2 x3 x4 x5 x6 y = 0 + dgfB x0 x2 (y 1).val := by
  rw [out0_A_8, View.read_writes_eq_canon _ _ _ (cover0_A_8 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, (hs0_10 t).read_unread,
    (hs0_11 t).read_unread, ld_x, ld_y, ld_g]
  refine (canon_hit inb_S1x1024_S1x1024_0_0 _ _ y y fun a => ?_).trans ?_
  · fin_cases a
    · exact (Nat.zero_add _).symm
    · exact (Nat.zero_add _).symm
  refine (pay11_apply _ _ y).trans (addc ?_ (pay9_apply x0 x2 y))
  simp only [View.readCov_eq_canon']
  refine (canon_hit inb_S1x1024_S1x1024_0_0 _ [] _ y fun a => ?_).trans ?_
  · fin_cases a
    · show 0 + 1 * (y 0).val = 0 + (y 0).val; omega
    · show 0 + 1 * (y 1).val = 0 + (y 1).val; omega
  · exact pay5_apply y
lemma out9_B (h0 : ¬cond0_0 (grid0.coords t)) (y : S1024x1024.Idx) :
    out0_B_9 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) h0
      x0 x1 x2 x3 x4 x5 x6 xo8 xo10 xo11 y = dyg x6 (k0_pay8 x0 x1 x2 x3) (y 0).val (y 1).val * at2 x5 0 (y 1).val := by
  rw [out0_B_9, View.read_writes_eq_canon _ _ _ (cover0_B_9 c _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, (hs0_10 t).read_unread,
    (hs0_11 t).read_unread, ld_x, ld_y, ld_g]
  rw [pay28_eq, pay24_eq]
  have key : ∀ (o : Nat) (ho : o < 4) (inb) (x : S1024x256.Idx), (y 0).val = (x 0).val → (y 1).val = 256 * o + (x 1).val →
      k0_pay20 (F := Ideal) (k0_pay12 (F := Ideal) (k0_pay8 x0 x1 x2 x3))
        (View.ld (Val := Elt Ideal) (e' := .bf16) x6 (Rect.unit (s := S4x1x256x1024) ![o, 0, 0, 0] ![1, 1, 256, 1024] inb)) x
        = dyg x6 (k0_pay8 x0 x1 x2 x3) (y 0).val (y 1).val := by
    intro o ho inb x e0 e1
    rw [dyg_blk x6 _ o ho inb x, e0, e1]
  canon_tiles x h
  · refine (pay2_apply _ _ x).trans (mulc (key 3 (by omega) _ x (by omega) (by omega)) ?_)
    rw [pay13_eq, h1]
  · refine (pay27_apply _ _ x).trans (mulc (key 2 (by omega) _ x (by omega) (by omega)) ?_)
    rw [pay13_eq, h1]
  · refine (pay23_apply _ _ _ x).trans (mulc (key 1 (by omega) _ x (by omega) (by omega)) ?_)
    rw [pay13_eq, h1]
  · refine (pay19_apply _ _ _ x).trans (mulc (key 0 (by omega) _ x (by omega) (by omega)) ?_)
    rw [pay13_eq, zero_add, h1]
lemma out9_A (h0 : cond0_0 (grid0.coords t)) (y : S1024x1024.Idx) :
    out0_A_9 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) h0
      x0 x1 x2 x3 x4 x5 x6 y = dyg x6 (k0_pay8 x0 x1 x2 x3) (y 0).val (y 1).val * at2 x5 0 (y 1).val := by
  rw [out0_A_9, View.read_writes_eq_canon _ _ _ (cover0_A_9 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, (hs0_10 t).read_unread,
    (hs0_11 t).read_unread, ld_x, ld_y, ld_g]
  rw [pay28_eq, pay24_eq]
  have key : ∀ (o : Nat) (ho : o < 4) (inb) (x : S1024x256.Idx), (y 0).val = (x 0).val → (y 1).val = 256 * o + (x 1).val →
      k0_pay20 (F := Ideal) (k0_pay12 (F := Ideal) (k0_pay8 x0 x1 x2 x3))
        (View.ld (Val := Elt Ideal) (e' := .bf16) x6 (Rect.unit (s := S4x1x256x1024) ![o, 0, 0, 0] ![1, 1, 256, 1024] inb)) x
        = dyg x6 (k0_pay8 x0 x1 x2 x3) (y 0).val (y 1).val := by
    intro o ho inb x e0 e1
    rw [dyg_blk x6 _ o ho inb x, e0, e1]
  canon_tiles x h
  · refine (pay2_apply _ _ x).trans (mulc (key 3 (by omega) _ x (by omega) (by omega)) ?_)
    rw [pay13_eq, h1]
  · refine (pay27_apply _ _ x).trans (mulc (key 2 (by omega) _ x (by omega) (by omega)) ?_)
    rw [pay13_eq, h1]
  · refine (pay23_apply _ _ _ x).trans (mulc (key 1 (by omega) _ x (by omega) (by omega)) ?_)
    rw [pay13_eq, h1]
  · refine (pay19_apply _ _ _ x).trans (mulc (key 0 (by omega) _ x (by omega) (by omega)) ?_)
    rw [pay13_eq, zero_add, h1]
lemma row_ext (y : S1x1024.Idx) (z : S1x256.Idx) (o : Nat) (inb : ∀ a, (![0, o] : Fin 2 → Nat) a + (![1, 256] : Fin 2 → Nat) a ≤ S1x1024.size a)
    (e : (y 1).val = o + (z 1).val) : (Rect.unit (s := S1x1024) ![0, o] ![1, 256] inb).idx z = y := by
  funext a
  fin_cases a
  · exact Subsingleton.elim (α := Fin 1) _ _
  · exact Fin.ext (by show o + 1 * (z 1).val = (y 1).val; omega)

lemma blk_ext (y : S4x256x1024.Idx) (z : S1x256x1024.Idx) (o : Nat)
    (inb : ∀ a, (![o, 0, 0] : Fin 3 → Nat) a + (![1, 256, 1024] : Fin 3 → Nat) a ≤ S4x256x1024.size a) (e0 : (y 0).val = o)
    (e1 : (z 1).val = (y 1).val) (e2 : (z 2).val = (y 2).val) : (Rect.unit (s := S4x256x1024) ![o, 0, 0] ![1, 256, 1024] inb).idx z = y := by
  have hz : (z 0).val < 1 := (z 0).isLt
  funext a
  fin_cases a
  · exact Fin.ext (by show o + 1 * (z 0).val = (y 0).val; omega)
  · exact Fin.ext (by show 0 + 1 * (z 1).val = (y 1).val; omega)
  · exact Fin.ext (by show 0 + 1 * (z 2).val = (y 2).val; omega)

lemma out10_B (h0 : ¬cond0_0 (grid0.coords t)) (y : S1x1024.Idx) :
    out0_B_10 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) h0
      x0 x1 x2 x3 x4 x5 x6 xo8 xo10 xo11 y = xo10 y + dgB x4 x6 (k0_pay8 x0 x1 x2 x3) (y 1).val := by
  rw [out0_B_10, View.read_writes_eq_canon _ _ _ (cover0_B_10 c _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, (hs0_10 t).read_unread,
    (hs0_11 t).read_unread, ld_x, ld_y, ld_g]
  rw [pay28_eq, pay24_eq]
  refine canon_row _ _ _ _ _ y _ fun z => ⟨fun e => ?_, fun e => ?_, fun e => ?_, fun e => ?_⟩
  · refine (pay18_apply _ _ _ _ z).trans (addc (congrArg xo10 (row_ext y z 0 _ (by omega))) ?_)
    rw [show 0 + (z 1).val = (y 1).val by omega]
    exact sum_blk x4 x6 (k0_pay8 x0 x1 x2 x3) 0 (by omega) _ _ _ (z 1).isLt (by omega)
  · refine (pay22_apply _ _ _ _ z).trans (addc (congrArg xo10 (row_ext y z 256 _ (by omega))) ?_)
    rw [show 256 + (z 1).val = (y 1).val by omega]
    exact sum_blk x4 x6 (k0_pay8 x0 x1 x2 x3) 1 (by omega) _ _ _ (z 1).isLt (by omega)
  · refine (pay26_apply _ _ _ z).trans (addc (congrArg xo10 (row_ext y z 512 _ (by omega))) ?_)
    rw [show 512 + (z 1).val = (y 1).val by omega]
    exact sum_blk x4 x6 (k0_pay8 x0 x1 x2 x3) 2 (by omega) _ _ _ (z 1).isLt (by omega)
  · refine (pay1_apply _ _ _ z).trans (addc (congrArg xo10 (row_ext y z 768 _ (by omega))) ?_)
    rw [show 768 + (z 1).val = (y 1).val by omega]
    exact sum_blk x4 x6 (k0_pay8 x0 x1 x2 x3) 3 (by omega) _ _ _ (z 1).isLt (by omega)

lemma out10_A (h0 : cond0_0 (grid0.coords t)) (y : S1x1024.Idx) :
    out0_A_10 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) h0
      x0 x1 x2 x3 x4 x5 x6 y = 0 + dgB x4 x6 (k0_pay8 x0 x1 x2 x3) (y 1).val := by
  rw [out0_A_10, View.read_writes_eq_canon _ _ _ (cover0_A_10 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, (hs0_10 t).read_unread,
    (hs0_11 t).read_unread, ld_x, ld_y, ld_g]
  rw [pay28_eq, pay24_eq]
  simp only [View.readCov_eq_canon']
  refine canon_row _ _ _ _ _ y _ fun z => ⟨fun e => ?_, fun e => ?_, fun e => ?_, fun e => ?_⟩
  · refine (pay18_apply _ _ _ _ z).trans (addc (z_row _) ?_)
    rw [show 0 + (z 1).val = (y 1).val by omega]
    exact sum_blk x4 x6 (k0_pay8 x0 x1 x2 x3) 0 (by omega) _ _ _ (z 1).isLt (by omega)
  · refine (pay22_apply _ _ _ _ z).trans (addc (z_row1 _ _ (by show 256 ≤ 256 + 1 * (z 1).val; omega)) ?_)
    rw [show 256 + (z 1).val = (y 1).val by omega]
    exact sum_blk x4 x6 (k0_pay8 x0 x1 x2 x3) 1 (by omega) _ _ _ (z 1).isLt (by omega)
  · refine (pay26_apply _ _ _ z).trans (addc (z_row2 _ _ _ (by show 512 ≤ 512 + 1 * (z 1).val; omega)) ?_)
    rw [show 512 + (z 1).val = (y 1).val by omega]
    exact sum_blk x4 x6 (k0_pay8 x0 x1 x2 x3) 2 (by omega) _ _ _ (z 1).isLt (by omega)
  · refine (pay1_apply _ _ _ z).trans (addc (z_row3 _ _ _ _ (by show 768 ≤ 768 + 1 * (z 1).val; omega)) ?_)
    rw [show 768 + (z 1).val = (y 1).val by omega]
    exact sum_blk x4 x6 (k0_pay8 x0 x1 x2 x3) 3 (by omega) _ _ _ (z 1).isLt (by omega)

lemma out11_B (h0 : ¬cond0_0 (grid0.coords t)) (y : S4x256x1024.Idx) :
    out0_B_11 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) h0
      x0 x1 x2 x3 x4 x5 x6 xo8 xo10 xo11 y = xo11 y + dwB x4 x5 (k0_pay8 x0 x1 x2 x3) (256 * (y 0).val + (y 1).val) (y 2).val := by
  rw [out0_B_11, View.read_writes_eq_canon _ _ _ (cover0_B_11 c _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, (hs0_10 t).read_unread,
    (hs0_11 t).read_unread, ld_x, ld_y, ld_g]
  refine canon_blk _ _ _ _ _ y _ fun z e1 e2 => ⟨fun e => ?_, fun e => ?_, fun e => ?_, fun e => ?_⟩
  · refine (pay17_apply _ _ _ _ z).trans (addc (congrArg xo11 (blk_ext y z 0 _ e e1 e2)) ?_)
    rw [e2, show 0 + (z 1).val = 256 * (y 0).val + (y 1).val by omega]
    exact dw_sum x4 x5 (k0_pay8 x0 x1 x2 x3) _ _ (by have : (z 1).val < 256 := (z 1).isLt; omega)
  · refine (pay21_apply _ _ _ z).trans (addc (congrArg xo11 (blk_ext y z 1 _ e e1 e2)) ?_)
    rw [e2, show 256 + (z 1).val = 256 * (y 0).val + (y 1).val by omega]
    exact dw_sum x4 x5 (k0_pay8 x0 x1 x2 x3) _ _ (by have : (z 1).val < 256 := (z 1).isLt; omega)
  · refine (pay25_apply _ _ _ z).trans (addc (congrArg xo11 (blk_ext y z 2 _ e e1 e2)) ?_)
    rw [e2, show 512 + (z 1).val = 256 * (y 0).val + (y 1).val by omega]
    exact dw_sum x4 x5 (k0_pay8 x0 x1 x2 x3) _ _ (by have : (z 1).val < 256 := (z 1).isLt; omega)
  · refine (pay29_apply _ _ _ z).trans (addc (congrArg xo11 (blk_ext y z 3 _ e e1 e2)) ?_)
    rw [e2, show 768 + (z 1).val = 256 * (y 0).val + (y 1).val by omega]
    exact dw_sum x4 x5 (k0_pay8 x0 x1 x2 x3) _ _ (by have : (z 1).val < 256 := (z 1).isLt; omega)

lemma out11_A (h0 : cond0_0 (grid0.coords t)) (y : S4x256x1024.Idx) :
    out0_A_11 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) h0
      x0 x1 x2 x3 x4 x5 x6 y = 0 + dwB x4 x5 (k0_pay8 x0 x1 x2 x3) (256 * (y 0).val + (y 1).val) (y 2).val := by
  rw [out0_A_11, View.read_writes_eq_canon _ _ _ (cover0_A_11 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, (hs0_10 t).read_unread,
    (hs0_11 t).read_unread, ld_x, ld_y, ld_g]
  simp only [View.readCov_eq_canon']
  refine canon_blk _ _ _ _ _ y _ fun z e1 e2 => ⟨fun e => ?_, fun e => ?_, fun e => ?_, fun e => ?_⟩
  · refine (pay17_apply _ _ _ _ z).trans (addc (z_blk _) ?_)
    rw [e2, show 0 + (z 1).val = 256 * (y 0).val + (y 1).val by omega]
    exact dw_sum x4 x5 (k0_pay8 x0 x1 x2 x3) _ _ (by have : (z 1).val < 256 := (z 1).isLt; omega)
  · refine (pay21_apply _ _ _ z).trans (addc (z_blk1 _ _ (by show 1 ≤ 1 + 1 * (z 0).val; omega)) ?_)
    rw [e2, show 256 + (z 1).val = 256 * (y 0).val + (y 1).val by omega]
    exact dw_sum x4 x5 (k0_pay8 x0 x1 x2 x3) _ _ (by have : (z 1).val < 256 := (z 1).isLt; omega)
  · refine (pay25_apply _ _ _ z).trans (addc (z_blk2 _ _ _ (by show 2 ≤ 2 + 1 * (z 0).val; omega)) ?_)
    rw [e2, show 512 + (z 1).val = 256 * (y 0).val + (y 1).val by omega]
    exact dw_sum x4 x5 (k0_pay8 x0 x1 x2 x3) _ _ (by have : (z 1).val < 256 := (z 1).isLt; omega)
  · refine (pay29_apply _ _ _ z).trans (addc (z_blk3 _ _ _ _ (by show 3 ≤ 3 + 1 * (z 0).val; omega)) ?_)
    rw [e2, show 768 + (z 1).val = 256 * (y 0).val + (y 1).val by omega]
    exact dw_sum x4 x5 (k0_pay8 x0 x1 x2 x3) _ _ (by have : (z 1).val < 256 := (z 1).isLt; omega)

/-! ## The blocks a point reads -/

variable (m : (ℓ : Loc nD τ sig) → Buf (Elt Ideal) ℓ)

lemma e0 : ∀ t : Fin grid0.N, win0_0.index t = ![t.val, 0] := by decide +kernel
lemma e1 : ∀ t : Fin grid0.N, win0_1.index t = ![0, 0] := by decide +kernel
lemma e2 : ∀ t : Fin grid0.N, win0_2.index t = ![t.val, 0] := by decide +kernel
lemma e3 : ∀ t : Fin grid0.N, win0_3.index t = ![t.val, 0] := by decide +kernel
lemma e4 : ∀ t : Fin grid0.N, win0_4.index t = ![t.val, 0] := by decide +kernel
lemma e5 : ∀ t : Fin grid0.N, win0_5.index t = ![0, 0] := by decide +kernel
lemma e6 : ∀ t : Fin grid0.N, win0_6.index t = ![0, 1, 0, 0] := by decide +kernel
lemma e7 : ∀ t : Fin grid0.N, win0_7.index t = ![t.val, 0] := by decide +kernel
lemma e8 : ∀ t : Fin grid0.N, win0_8.index t = ![0, 0] := by decide +kernel
lemma e9 : ∀ t : Fin grid0.N, win0_9.index t = ![t.val, 0] := by decide +kernel
lemma e10 : ∀ t : Fin grid0.N, win0_10.index t = ![0, 0] := by decide +kernel
lemma e11 : ∀ t : Fin grid0.N, win0_11.index t = ![0, 0, 0] := by decide +kernel

lemma blk0 (r l : Nat) (hr : r < 1024) (hl : l < 1024) :
    at2 (iblk m c 0 t) r l = at2 (m (c.tc.loc main_arg0)) (1024 * t.val + r) l := by
  have ht : t.val < 16 := t.isLt
  rw [at2_of_lt _ hr hl, at2_of_lt _ (by omega) hl]
  blk_simp [iblk]
  rw [V_main_arg0]
  congr 1
  blk_ext [e0]

lemma blk1 (l : Nat) (hl : l < 1024) : at2 (iblk m c 1 t) 0 l = at2 (m (c.tc.loc main_arg1)) 1 l := by
  rw [at2_of_lt _ Nat.one_pos hl, at2_of_lt _ (by omega) hl]
  blk_simp [iblk]
  entry_read
  rw [show ((View.whole main_v2).slice (win0_1.rect t)).emb (ix2 0 ⟨l, hl⟩) = ix2 0 ⟨l, hl⟩ from by blk_ext [e1]]
  pointwise

lemma blk2 (r l : Nat) (hr : r < 1024) (hl : l < 1024) :
    at2 (iblk m c 2 t) r l = at2 (m (c.tc.loc main_arg2)) (1024 * t.val + r) l := by
  have ht : t.val < 16 := t.isLt
  rw [at2_of_lt _ hr hl, at2_of_lt _ (by omega) hl]
  blk_simp [iblk]
  rw [V_main_arg2]
  congr 1
  blk_ext [e2]

lemma blk3 (r l : Nat) (hr : r < 1024) (hl : l < 1024) :
    at2 (iblk m c 3 t) r l = at2 (m (c.tc.loc main_arg3)) (1024 * t.val + r) l := by
  have ht : t.val < 16 := t.isLt
  rw [at2_of_lt _ hr hl, at2_of_lt _ (by omega) hl]
  blk_simp [iblk]
  rw [V_main_arg3]
  congr 1
  blk_ext [e3]

lemma blk4 (r l : Nat) (hr : r < 1024) (hl : l < 1024) :
    at2 (iblk m c 4 t) r l = at2 (m (c.tc.loc main_arg4)) (1024 * t.val + r) l := by
  have ht : t.val < 16 := t.isLt
  rw [at2_of_lt _ hr hl, at2_of_lt _ (by omega) hl]
  blk_simp [iblk]
  rw [V_main_arg4]
  congr 1
  blk_ext [e4]

lemma blk5 (l : Nat) (hl : l < 1024) : at2 (iblk m c 5 t) 0 l = at2 (m (c.tc.loc main_arg5)) 1 l := by
  rw [at2_of_lt _ Nat.one_pos hl, at2_of_lt _ (by omega) hl]
  blk_simp [iblk]
  entry_read
  rw [show ((View.whole main_v5).slice (win0_5.rect t)).emb (ix2 0 ⟨l, hl⟩) = ix2 0 ⟨l, hl⟩ from by blk_ext [e5]]
  pointwise

lemma blk6 (b k l : Nat) (hb : b < 4) (hk : k < 256) (hl : l < 1024) :
    at4 (iblk m c 6 t) b 0 k l = at4 (m (c.tc.loc main_arg6)) b 1 k l := by
  rw [at4_of_lt _ hb Nat.one_pos hk hl, at4_of_lt _ hb (by omega) hk hl]
  blk_simp [iblk]
  rw [V_main_arg6]
  congr 1
  blk_ext [e6]

/-! ## The arrays -/

/-- The gradient of the layer's middle rows. -/
def dxOf (x : Ar2 16384 1024) (g : Ar2 2 1024)
    (dh dx2 : Ar2 16384 1024) : Ar2 16384 1024 := fun i =>
  Rms.dx (at2 dx2 (i 0).val (i 1).val) (at2 x (i 0).val) (fun k => at2 dh (i 0).val k * at2 g 1 k) (i 1).val

/-- The gradient of the norm's scale. -/
def dgfOf (x dh : Ar2 16384 1024) : Ar2 1 1024 := fun i =>
  ∑ r ∈ Finset.range 16384, at2 dh r (i 1).val * (at2 x r (i 1).val * Rms.inv (at2 x r))

/-- The cotangent of the scaled heads: the first gradient times the transposed weights. -/
def dygAt (D : Ar2 16384 1024) (w : Ar4 4 2 256 1024) (r j : Nat) : EReal :=
  ∑ k ∈ Finset.range 1024, at2 D r k * at4 w (j / 256) 1 (j % 256) k

/-- The gradient of the heads. -/
def dynOf (D : Ar2 16384 1024) (g : Ar2 2 1024)
    (w : Ar4 4 2 256 1024) : Ar2 16384 1024 := fun i =>
  dygAt D w (i 0).val (i 1).val * at2 g 1 (i 1).val

/-- The gradient of the heads' gain. -/
def dgOf (D yn : Ar2 16384 1024) (w : Ar4 4 2 256 1024) :
    Ar2 1 1024 := fun i =>
  ∑ r ∈ Finset.range 16384, dygAt D w r (i 1).val * at2 yn r (i 1).val

/-- The gradient of the weights. -/
def dwOf (D yn : Ar2 16384 1024) (g : Ar2 2 1024) :
    Ar3 4 256 1024 := fun i =>
  ∑ r ∈ Finset.range 16384, at2 yn r (256 * (i 0).val + (i 1).val) * at2 g 1 (256 * (i 0).val + (i 1).val) * at2 D r (i 2).val

lemma dxOf_congr {x x' g g' d d' z z'} (hx : x = x') (hg : g = g') (hd : d = d') (hz : z = z') :
    dxOf x g d z = dxOf x' g' d' z' := by subst hx hg hd hz; rfl
lemma dgfOf_congr {x x' d d'} (hx : x = x') (hd : d = d') : dgfOf x d = dgfOf x' d' := by subst hx hd; rfl
lemma dynOf_congr {D D' g g' w w'} (hD : D = D') (hg : g = g') (hw : w = w') : dynOf D g w = dynOf D' g' w' := by subst hD hg hw; rfl
lemma dgOf_congr {D D' y y' w w'} (hD : D = D') (hy : y = y') (hw : w = w') : dgOf D y w = dgOf D' y' w' := by subst hD hy hw; rfl
lemma dwOf_congr {D D' y y' g g'} (hD : D = D') (hy : y = y') (hg : g = g') : dwOf D y g = dwOf D' y' g' := by subst hD hy hg; rfl

/-- The first gradient of the arguments. -/
abbrev DX : Ar2 16384 1024 := dxOf (m (c.tc.loc main_arg0)) (m (c.tc.loc main_arg1))
    (m (c.tc.loc main_arg2)) (m (c.tc.loc main_arg3))

/-- The first gradient of the point's rows. -/
abbrev DB : Vec Ideal S1024x1024 .f32 := k0_pay8 (F := Ideal) (iblk m c 0 t) (iblk m c 1 t) (iblk m c 2 t) (iblk m c 3 t)

lemma pay8_blk (y : S1024x1024.Idx) : DB c t m y
      = Rms.dx (at2 (m (c.tc.loc main_arg3)) (1024 * t.val + (y 0).val) (y 1).val)
          (at2 (m (c.tc.loc main_arg0)) (1024 * t.val + (y 0).val))
          (fun k => at2 (m (c.tc.loc main_arg2)) (1024 * t.val + (y 0).val) k
            * at2 (m (c.tc.loc main_arg1)) 1 k) (y 1).val := by
  refine (pay8_apply _ _ _ _ y).trans ?_
  refine Rms.dx_congr ?_ (fun k hk => blk0 c t m _ k (y 0).isLt hk) (fun k hk => ?_) (y 1).isLt
  · rw [← blk3 c t m _ _ (y 0).isLt (y 1).isLt]
    exact at2_eq _ y rfl rfl
  · rw [blk2 c t m _ k (y 0).isLt hk, blk1 c t m k hk]

lemma at2_DB (r k : Nat) (hr : r < 1024) (hk : k < 1024) : at2 (DB c t m) r k = at2 (DX c m) (1024 * t.val + r) k := by
  have ht : t.val < 16 := t.isLt
  rw [at2_of_lt (DX c m) (show 1024 * t.val + r < 16384 by omega) hk]
  exact (at2_of_lt _ hr hk).trans (pay8_blk c t m _)

lemma dyg_DB (r j : Nat) (hr : r < 1024) (hj : j < 1024) :
    dyg (iblk m c 6 t) (DB c t m) r j = dygAt (DX c m) (m (c.tc.loc main_arg6)) (1024 * t.val + r) j := by
  unfold dyg dygAt
  refine Finset.sum_congr rfl fun k hk => ?_
  have hk := Finset.mem_range.mp hk
  rw [at2_DB c t m r k hr hk, blk6 c t m _ _ k (by omega) (by omega) hk]

lemma outs7 (y : S1024x1024.Idx) : (outsAt0 m c t.val t.isLt).1 y = DB c t m y := by
  by_cases h : t.val % 16 = 0
  · rw [outsAt0_A m c t h]
    dsimp only
    rw [out7_A]
  · rw [outsAt0_B m c t h]
    dsimp only
    rw [out7_B]

lemma outs9 (y : S1024x1024.Idx) : (outsAt0 m c t.val t.isLt).2.2.1 y
    = dyg (iblk m c 6 t) (DB c t m) (y 0).val (y 1).val * at2 (iblk m c 5 t) 0 (y 1).val := by
  by_cases h : t.val % 16 = 0
  · rw [outsAt0_A m c t h]
    dsimp only
    rw [out9_A]
  · rw [outsAt0_B m c t h]
    dsimp only
    rw [out9_B]

lemma array7 : (dats m 0 c).arrAt 7 cfg0.N = DX c m := by
  refine (dats m 0 c).arrAt_eq_of_covers 7 _ (by decide +kernel) fun t hf y => ?_
  blk_simp
  rw [after0_7]
  refine (outs7 c t m y).trans ((pay8_blk c t m y).trans ?_)
  unfold DX dxOf
  have q0 : ((win0_7.blk t).view.emb y 0).val = 1024 * t.val + (y 0).val := by blk_simp [e7]; omega
  have q1 : ((win0_7.blk t).view.emb y 1).val = (y 1).val := by blk_simp [e7]
  rw [q0, q1]

lemma array9 : (dats m 0 c).arrAt 9 cfg0.N = dynOf (DX c m) (m (c.tc.loc main_arg5)) (m (c.tc.loc main_arg6)) := by
  refine (dats m 0 c).arrAt_eq_of_covers 9 _ (by decide +kernel) fun t hf y => ?_
  blk_simp
  rw [after0_9]
  refine (outs9 c t m y).trans ?_
  rw [dyg_DB c t m _ _ (y 0).isLt (y 1).isLt, blk5 c t m _ (y 1).isLt]
  unfold dynOf
  have q0 : ((win0_9.blk t).view.emb y 0).val = 1024 * t.val + (y 0).val := by blk_simp [e9]; omega
  have q1 : ((win0_9.blk t).view.emb y 1).val = (y 1).val := by blk_simp [e9]
  rw [q0, q1]

/-- What point `n` adds to the norm's scale. -/
def M8 (n : Nat) (y : S1x1024.Idx) : EReal :=
  ∑ k ∈ Finset.range 1024, at2 (m (c.tc.loc main_arg2)) (1024 * n + k) (y 1).val
    * (at2 (m (c.tc.loc main_arg0)) (1024 * n + k) (y 1).val * Rms.inv (at2 (m (c.tc.loc main_arg0)) (1024 * n + k)))

/-- What point `n` adds to the heads' gain. -/
def M10 (n : Nat) (y : S1x1024.Idx) : EReal :=
  ∑ k ∈ Finset.range 1024, dygAt (DX c m) (m (c.tc.loc main_arg6)) (1024 * n + k) (y 1).val
    * at2 (m (c.tc.loc main_arg4)) (1024 * n + k) (y 1).val

/-- What point `n` adds to the weights' gradient. -/
def M11 (n : Nat) (y : S4x256x1024.Idx) : EReal :=
  ∑ k ∈ Finset.range 1024, at2 (m (c.tc.loc main_arg4)) (1024 * n + k) (256 * (y 0).val + (y 1).val)
    * at2 (m (c.tc.loc main_arg5)) 1 (256 * (y 0).val + (y 1).val) * at2 (DX c m) (1024 * n + k) (y 2).val

lemma dgf_blk (y : S1x1024.Idx) : dgfB (iblk m c 0 t) (iblk m c 2 t) (y 1).val = M8 c m t.val y := by
  unfold dgfB M8
  refine Finset.sum_congr rfl fun k hk => ?_
  have hk := Finset.mem_range.mp hk
  rw [blk2 c t m k _ hk (y 1).isLt, blk0 c t m k _ hk (y 1).isLt, Rms.inv_congr fun l hl => blk0 c t m k l hk hl]

lemma dg_blk (y : S1x1024.Idx) : dgB (iblk m c 4 t) (iblk m c 6 t) (DB c t m) (y 1).val = M10 c m t.val y := by
  unfold dgB M10
  refine Finset.sum_congr rfl fun k hk => ?_
  have hk := Finset.mem_range.mp hk
  rw [dyg_DB c t m k _ hk (y 1).isLt, blk4 c t m k _ hk (y 1).isLt]

lemma dw_blk (y : S4x256x1024.Idx) :
    dwB (iblk m c 4 t) (iblk m c 5 t) (DB c t m) (256 * (y 0).val + (y 1).val) (y 2).val = M11 c m t.val y := by
  have h0 : (y 0).val < 4 := (y 0).isLt
  have h1 : (y 1).val < 256 := (y 1).isLt
  unfold dwB M11
  refine Finset.sum_congr rfl fun k hk => ?_
  have hk := Finset.mem_range.mp hk
  rw [at2_DB c t m k _ hk (y 2).isLt, blk4 c t m k _ hk (by omega), blk5 c t m _ (by omega)]

lemma outs8_A (h : t.val % 16 = 0) (y : S1x1024.Idx) : (outsAt0 m c t.val t.isLt).2.1 y = 0 + M8 c m t.val y := by
  rw [outsAt0_A m c t h]
  dsimp only
  rw [out8_A, dgf_blk]

lemma outs8_B (h : ¬t.val % 16 = 0) (y : S1x1024.Idx) : (outsAt0 m c t.val t.isLt).2.1 y
    = (outsAt0 m c (t.val - 1) (Nat.sub_lt_of_lt t.isLt)).2.1 y + M8 c m t.val y := by
  rw [outsAt0_B m c t h]
  dsimp only
  rw [out8_B, dgf_blk]

lemma outs10_A (h : t.val % 16 = 0) (y : S1x1024.Idx) : (outsAt0 m c t.val t.isLt).2.2.2.1 y = 0 + M10 c m t.val y := by
  rw [outsAt0_A m c t h]
  dsimp only
  rw [out10_A]
  exact congrArg (fun z : EReal => 0 + z) (dg_blk c t m y)

lemma outs10_B (h : ¬t.val % 16 = 0) (y : S1x1024.Idx) : (outsAt0 m c t.val t.isLt).2.2.2.1 y
    = (outsAt0 m c (t.val - 1) (Nat.sub_lt_of_lt t.isLt)).2.2.2.1 y + M10 c m t.val y := by
  rw [outsAt0_B m c t h]
  dsimp only
  rw [out10_B]
  exact congrArg (fun z : EReal => (outsAt0 m c (t.val - 1) (Nat.sub_lt_of_lt t.isLt)).2.2.2.1 y + z) (dg_blk c t m y)

lemma outs11_A (h : t.val % 16 = 0) (y : S4x256x1024.Idx) : (outsAt0 m c t.val t.isLt).2.2.2.2 y = 0 + M11 c m t.val y := by
  rw [outsAt0_A m c t h]
  dsimp only
  rw [out11_A]
  exact congrArg (fun z : EReal => 0 + z) (dw_blk c t m y)

lemma outs11_B (h : ¬t.val % 16 = 0) (y : S4x256x1024.Idx) : (outsAt0 m c t.val t.isLt).2.2.2.2 y
    = (outsAt0 m c (t.val - 1) (Nat.sub_lt_of_lt t.isLt)).2.2.2.2 y + M11 c m t.val y := by
  rw [outsAt0_B m c t h]
  dsimp only
  rw [out11_B]
  exact congrArg (fun z : EReal => (outsAt0 m c (t.val - 1) (Nat.sub_lt_of_lt t.isLt)).2.2.2.2 y + z) (dw_blk c t m y)

lemma array8 : (dats m 0 c).arrAt 8 cfg0.N = dgfOf (m (c.tc.loc main_arg0)) (m (c.tc.loc main_arg2)) := by
  refine (dats m 0 c).arrAt_eq_of_covers 8 _ (by decide +kernel) fun t hf y => ?_
  have ht := (flush0_8 t).mp hf
  have hN : t.val < 16 := t.isLt
  blk_simp
  rw [after0_8]
  have fold : (outsAt0 m c t.val t.isLt).2.1 y = ∑ s ∈ Finset.range 16, M8 c m (16 * (t.val / 16) + s) y := by
    rw [← zero_add (∑ s ∈ Finset.range 16, M8 c m (16 * (t.val / 16) + s) y)]
    exact Pipeline.eq_sum_of_reset_step_apply_of_mod (M := EReal) (fun n h => (outsAt0 m c n h).2.1) 16 (fun _ => 0) (M8 c m)
      (fun t => outs8_A c t m) (fun t => outs8_B c t m) t (by omega) y
  refine fold.trans ?_
  unfold dgfOf
  have q1 : ((win0_8.blk t).view.emb y 1).val = (y 1).val := by blk_simp [e8]
  rw [q1, ← sum_blocks _ 16 1024]
  refine Finset.sum_congr rfl fun s _ => ?_
  rw [show 16 * (t.val / 16) + s = s by omega]
  rfl

lemma array10 : (dats m 0 c).arrAt 10 cfg0.N = dgOf (DX c m) (m (c.tc.loc main_arg4)) (m (c.tc.loc main_arg6)) := by
  refine (dats m 0 c).arrAt_eq_of_covers 10 _ (by decide +kernel) fun t hf y => ?_
  have ht := (flush0_10 t).mp hf
  have hN : t.val < 16 := t.isLt
  blk_simp
  rw [after0_10]
  have fold : (outsAt0 m c t.val t.isLt).2.2.2.1 y = ∑ s ∈ Finset.range 16, M10 c m (16 * (t.val / 16) + s) y := by
    rw [← zero_add (∑ s ∈ Finset.range 16, M10 c m (16 * (t.val / 16) + s) y)]
    exact Pipeline.eq_sum_of_reset_step_apply_of_mod (M := EReal) (fun n h => (outsAt0 m c n h).2.2.2.1) 16 (fun _ => 0) (M10 c m)
      (fun t => outs10_A c t m) (fun t => outs10_B c t m) t (by omega) y
  refine fold.trans ?_
  unfold dgOf
  have q1 : ((win0_10.blk t).view.emb y 1).val = (y 1).val := by blk_simp [e10]
  rw [q1, ← sum_blocks _ 16 1024]
  refine Finset.sum_congr rfl fun s _ => ?_
  rw [show 16 * (t.val / 16) + s = s by omega]
  rfl

lemma array11 : (dats m 0 c).arrAt 11 cfg0.N = dwOf (DX c m) (m (c.tc.loc main_arg4)) (m (c.tc.loc main_arg5)) := by
  refine (dats m 0 c).arrAt_eq_of_covers 11 _ (by decide +kernel) fun t hf y => ?_
  have ht := (flush0_11 t).mp hf
  have hN : t.val < 16 := t.isLt
  blk_simp
  rw [after0_11]
  have fold : (outsAt0 m c t.val t.isLt).2.2.2.2 y = ∑ s ∈ Finset.range 16, M11 c m (16 * (t.val / 16) + s) y := by
    rw [← zero_add (∑ s ∈ Finset.range 16, M11 c m (16 * (t.val / 16) + s) y)]
    exact Pipeline.eq_sum_of_reset_step_apply_of_mod (M := EReal) (fun n h => (outsAt0 m c n h).2.2.2.2) 16 (fun _ => 0) (M11 c m)
      (fun t => outs11_A c t m) (fun t => outs11_B c t m) t (by omega) y
  refine fold.trans ?_
  unfold dwOf
  have q0 : ((win0_11.blk t).view.emb y 0).val = (y 0).val := by blk_simp [e11]
  have q1 : ((win0_11.blk t).view.emb y 1).val = (y 1).val := by blk_simp [e11]
  have q2 : ((win0_11.blk t).view.emb y 2).val = (y 2).val := by blk_simp [e11]
  rw [q0, q1, q2, ← sum_blocks _ 16 1024]
  refine Finset.sum_congr rfl fun s _ => ?_
  rw [show 16 * (t.val / 16) + s = s by omega]
  rfl

/-! ## The reference's arrays -/

section Reference

open Cert.Reference10Ideal.Read

lemma zero_bits : FloatOps.ofBits (F := Ideal) .f32 0x00000000#32 = 0 := by pointwise

lemma ref_var (x0) (i : Cert.Reference10Ideal.S16384x1.Idx) : val_main_v8 (F := Ideal) x0 i = Rms.var (at2 x0 (i 0).val) := by
  rw [val_main_v8_apply, val_main_v6_apply, val_main_v7_apply, val_main_v5_apply, val_main_cst_0_apply, val_main_cst_1_apply,
    val_main_v4_apply, val_main_v3_apply, val_main_cst_apply, zero_bits, zero_add]
  unfold Rms.var Rms.mean
  refine congrArg (fun z : EReal => Ideal.div z _ + _) (sum_fin _ _ fun k => ?_)
  rw [val_main_v2_apply]
  exact mulc (at2_eq x0 _ rfl rfl) (at2_eq x0 _ rfl rfl)

lemma ref_inv (x0) (i : Cert.Reference10Ideal.S16384x1.Idx) : val_main_v9 (F := Ideal) x0 i = Rms.inv (at2 x0 (i 0).val) := by
  rw [val_main_v9_apply, ref_var]
  rfl

lemma ref_dxh (x1 x2) (i : Cert.Reference10Ideal.S16384x1024.Idx) :
    val_main_v22 (F := Ideal) x1 x2 i = at2 x2 (i 0).val (i 1).val * at2 x1 1 (i 1).val := by
  rw [val_main_v22_apply, val_main_v21_apply, val_main_v15_apply, val_main_v1_apply, val_main_v0_apply]
  have h1 : (i 1).val < 1024 := (i 1).isLt
  refine mulc (at2_eq x2 _ rfl rfl) (at2_eq x1 _ rfl ?_)
  show (i 1).val % 1024 = (i 1).val
  omega

lemma ref_coef (x0 x1 x2) (i : Cert.Reference10Ideal.S16384x1024.Idx) :
    val_main_v34 (F := Ideal) x0 x1 x2 i = Rms.coef (at2 x0 (i 0).val) (fun k => at2 x2 (i 0).val k * at2 x1 1 k) := by
  rw [val_main_v34_apply, val_main_v33_apply, val_main_cst_7_apply, zero_bits, zero_add, Fin.sum_univ_one, val_main_v32_apply, val_main_v30_apply,
    val_main_v31_apply, val_main_cst_6_apply, val_main_v12_apply, val_main_v11_apply, val_main_cst_2_apply, val_main_v10_apply, ref_inv, ref_var,
    val_main_v26_apply, val_main_v25_apply, val_main_cst_5_apply, zero_bits, zero_add]
  unfold Rms.coef
  refine congrArg (fun z : EReal => Ideal.div (z * _) _) (sum_fin _ _ fun k => ?_)
  rw [val_main_v24_apply, ref_dxh]
  have e0 : (idx_main_v25 (idx_main_v26 (idx_main_v33 (idx_main_v34 i) 0)) k 0).val = (i 0).val := by
    show (i 0).val * 1 + 0 = (i 0).val
    omega
  have e1 : (idx_main_v25 (idx_main_v26 (idx_main_v33 (idx_main_v34 i) 0)) k 1).val = k.val := rfl
  exact mulc (at2_eq x0 _ e0 e1)
    (mulc (congrArg₂ (at2 x2) e0 e1) (congrArg (at2 x1 1) e1))

lemma ref_dx (x0 x1 x2 x3) : val_main_v38 (F := Ideal) x0 x1 x2 x3 = dxOf x0 x1 x2 x3 := by
  funext i
  rw [val_main_v38_apply, val_main_v36_apply, val_main_v37_apply, val_main_v35_apply, val_main_v29_apply, val_main_v28_apply, val_main_v27_apply,
    ref_coef, ref_inv, ref_dxh, at2_eq x0 i rfl rfl, at2_eq x3 i rfl rfl]
  exact Rms.dx_eq (at2 x3 (i 0).val (i 1).val) (at2 x0 (i 0).val) (fun k => at2 x2 (i 0).val k * at2 x1 1 k) (i 1).val

lemma ref_dgf (x0 x2) : val_main_v61 (F := Ideal) x0 x2 = dgfOf x0 x2 := by
  funext i
  rw [val_main_v61_apply, val_main_v23_apply, val_main_cst_4_apply, zero_bits, zero_add, Fin.sum_univ_one, val_main_v20_apply, val_main_v19_apply,
    val_main_cst_3_apply, zero_bits, zero_add]
  unfold dgfOf
  refine sum_fin _ _ fun k => ?_
  rw [val_main_v18_apply, val_main_v14_apply, val_main_v13_apply, ref_inv]
  have e : (idx_main_v19 (idx_main_v20 (idx_main_v23 (idx_main_v61 i) 0)) k 1).val = (i 1).val := by
    show 0 * 1024 + (i 1).val = (i 1).val
    omega
  refine Eq.trans (mulc (congrArg (fun a : EReal => a * _) (at2_eq x0 _ rfl e)) (at2_eq x2 _ rfl e)) ?_
  exact mul_comm (at2 x0 k.val (i 1).val * Rms.inv (at2 x0 k.val)) (at2 x2 k.val (i 1).val)

lemma ref_D (x0 x1 x2 x3) : val_main_v51 (F := Ideal) x0 x1 x2 x3 = dxOf x0 x1 x2 x3 := by
  rw [← ref_dx]
  rfl

lemma ref_w (x6) (i : Cert.Reference10Ideal.S1024x1024.Idx) :
    val_main_v42 (F := Ideal) x6 i = at4 x6 ((i 0).val / 256) 1 ((i 0).val % 256) (i 1).val := by
  have h0 : (i 0).val < 1024 := (i 0).isLt
  have h1 : (i 1).val < 1024 := (i 1).isLt
  rw [val_main_v42_apply, val_main_v41_apply, val_main_v40_apply, val_main_v39_apply]
  refine at4_eq x6 _ ?_ rfl ?_ ?_
  · show ((((i 0).val * 1024 + (i 1).val) / 262144 * 256 + ((i 0).val * 1024 + (i 1).val) / 1024 % 256) * 1024
      + ((i 0).val * 1024 + (i 1).val) % 1024) / 262144 = _
    omega
  · show ((((i 0).val * 1024 + (i 1).val) / 262144 * 256 + ((i 0).val * 1024 + (i 1).val) / 1024 % 256) * 1024
      + ((i 0).val * 1024 + (i 1).val) % 1024) / 1024 % 256 = _
    omega
  · show ((((i 0).val * 1024 + (i 1).val) / 262144 * 256 + ((i 0).val * 1024 + (i 1).val) / 1024 % 256) * 1024
      + ((i 0).val * 1024 + (i 1).val) % 1024) % 1024 = _
    omega

lemma ref_g (x5) (i : Cert.Reference10Ideal.S16384x1024.Idx) : val_main_v47 (F := Ideal) x5 i = at2 x5 1 (i 1).val := by
  rw [val_main_v47_apply, val_main_v46_apply, val_main_v45_apply, val_main_v44_apply]
  have h1 : (i 1).val < 1024 := (i 1).isLt
  refine at2_eq x5 _ rfl ?_
  show (i 1).val % 1024 = (i 1).val
  omega

lemma ref_dyg (x0 x1 x2 x3 x6) (i : Cert.Reference10Ideal.S16384x1024.Idx) :
    val_main_v54 (F := Ideal) x0 x1 x2 x3 x6 i = dygAt (dxOf x0 x1 x2 x3) x6 (i 0).val (i 1).val := by
  rw [val_main_v54_apply, ref_D]
  unfold dygAt
  refine sum_fin _ _ fun k => ?_
  rw [ref_w]
  exact congrArg (fun a : EReal => a * _) (at2_eq (dxOf x0 x1 x2 x3) _ rfl rfl)

lemma ref_yn (x4) (i : Cert.Reference10Ideal.S16384x1024.Idx) : val_main_v43 (F := Ideal) x4 i = at2 x4 (i 0).val (i 1).val := by
  rw [val_main_v43_apply]
  exact at2_eq x4 i rfl rfl

lemma ref_dyn (x0 x1 x2 x3 x5 x6) : val_main_v62 (F := Ideal) x0 x1 x2 x3 x5 x6 = dynOf (dxOf x0 x1 x2 x3) x5 x6 := by
  funext i
  rw [val_main_v62_apply, val_main_v59_apply, ref_dyg]
  exact congrArg (fun a : EReal => dygAt (dxOf x0 x1 x2 x3) x6 (i 0).val (i 1).val * a) (ref_g x5 i)

lemma ref_dg (x0 x1 x2 x3 x4 x6) : val_main_v63 (F := Ideal) x0 x1 x2 x3 x4 x6 = dgOf (dxOf x0 x1 x2 x3) x4 x6 := by
  funext i
  rw [val_main_v63_apply, val_main_v60_apply, val_main_cst_9_apply, zero_bits, zero_add, Fin.sum_univ_one, val_main_v57_apply, val_main_v56_apply,
    val_main_cst_8_apply, zero_bits, zero_add]
  unfold dgOf
  refine sum_fin _ _ fun k => ?_
  rw [val_main_v55_apply, ref_dyg, ref_yn]
  have e : (idx_main_v56 (idx_main_v57 (idx_main_v60 (idx_main_v63 i) 0)) k 1).val = (i 1).val := by
    show 0 * 1024 + (i 1).val = (i 1).val
    omega
  refine Eq.trans (mulc (congrArg (at2 x4 _) e) (congrArg (dygAt (dxOf x0 x1 x2 x3) x6 _) e)) ?_
  exact mul_comm (at2 x4 k.val (i 1).val) (dygAt (dxOf x0 x1 x2 x3) x6 k.val (i 1).val)

lemma ref_dw (x0 x1 x2 x3 x4 x5) : val_main_v64 (F := Ideal) x0 x1 x2 x3 x4 x5 = dwOf (dxOf x0 x1 x2 x3) x4 x5 := by
  funext i
  rw [val_main_v64_apply, val_main_v53_apply, val_main_v52_apply, ref_D]
  unfold dwOf
  refine sum_fin _ _ fun k => ?_
  rw [val_main_v48_apply, ref_yn, ref_g]
  have h0 : (i 0).val < 4 := (i 0).isLt
  have h1 : (i 1).val < 256 := (i 1).isLt
  have h2 : (i 2).val < 1024 := (i 2).isLt
  have el : (lidx_main_v52 (idx_main_v53 (idx_main_v64 i)) k 1).val = (i 2).val := by
    show (((i 0).val * 256 + (i 1).val) * 1024 + (i 2).val) % 1024 = (i 2).val
    omega
  have er : (ridx_main_v52 (idx_main_v53 (idx_main_v64 i)) k 1).val = 256 * (i 0).val + (i 1).val := by
    show (((i 0).val * 256 + (i 1).val) * 1024 + (i 2).val) / 1024 = 256 * (i 0).val + (i 1).val
    omega
  refine Eq.trans (mulc (at2_eq (dxOf x0 x1 x2 x3) _ rfl el)
    (mulc (congrArg (at2 x4 _) er) (congrArg (at2 x5 1) er))) ?_
  exact mul_comm (at2 (dxOf x0 x1 x2 x3) k.val (i 2).val)
    (at2 x4 k.val (256 * (i 0).val + (i 1).val) * at2 x5 1 (256 * (i 0).val + (i 1).val))

end Reference

/-! ## The claim -/

lemma algebraic_bwd : Cert.algebraic_Kernel10Ideal_Reference10Ideal := fun m ρ m' ρ' _ hag =>
  ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N,
    Cert.Kernel10Ideal.Value.run_blocks m ρ,
    (θ_run _ _ _).mono (fun _ h c => by
      obtain ⟨h0, h1, h2, h3, h4, h5, h6⟩ := hag c
      have hD := dxOf_congr h0 h1 h2 h3
      exact ⟨(h c).1.trans ((Cert.Reference10Ideal.Read.val_main_v38_eq _ _).trans ((ref_dx _ _ _ _).trans (hD.trans (array7 c m).symm))),
          (h c).2.1.trans ((Cert.Reference10Ideal.Read.val_main_v61_eq _ _).trans ((ref_dgf _ _).trans
            ((dgfOf_congr h0 h2).trans (array8 c m).symm))),
          (h c).2.2.1.trans ((Cert.Reference10Ideal.Read.val_main_v62_eq _ _).trans ((ref_dyn _ _ _ _ _ _).trans
            ((dynOf_congr hD h5 h6).trans (array9 c m).symm))),
          (h c).2.2.2.1.trans ((Cert.Reference10Ideal.Read.val_main_v63_eq _ _).trans ((ref_dg _ _ _ _ _ _).trans
            ((dgOf_congr hD h4 h6).trans (array10 c m).symm))),
          (h c).2.2.2.2.1.trans ((Cert.Reference10Ideal.Read.val_main_v64_eq _ _).trans ((ref_dw _ _ _ _ _ _).trans
            ((dwOf_congr hD h4 h5).trans (array11 c m).symm))),
          (h c).2.2.2.2.2⟩)
      (Cert.Reference10Ideal.Value.run m' ρ')⟩

end Cert.Proof.OutBwd
-- ==== Proof.Mix.lean ====
module

public import proofs.«01_k».proof.Proof.Sums
public import proofs.«01_k».proof.Proof.Gen.Kernel11Ideal.Value

@[expose] public section

set_option maxRecDepth 16384

noncomputable section

/-! The three mixers of the forward pass: the gated position mixer, the short gated convolution and the long one. -/

namespace Cert.Proof.MixFwd

open Cert.Kernel11Ideal Cert.Kernel11Ideal.Gen Idealize.ShloMosaic Idealize.ShloMosaic.TcCoe Idealize.SL.Sem Idealize.ShloMosaic.Tactic

/-- The activation of the first mixer. -/
def gelu (x : EReal) : EReal :=
  x * (FloatOps.ofBits (F := Ideal) .f32 0x3F000000#32 * (FloatOps.ofBits (F := Ideal) .f32 0x3F800000#32
    + Ideal.tanh (FloatOps.ofBits (F := Ideal) .f32 0x3F4C422A#32 * (x + FloatOps.ofBits (F := Ideal) .f32 0x3D372713#32 * (x * x * x)))))

/-- The mean of 256 entries. -/
def mean (x : Nat → EReal) : EReal := Ideal.div (∑ k ∈ Finset.range 256, x k) (FloatOps.ofBits (F := Ideal) .f32 0x43800000#32)

/-- The reciprocal root of a mean square. -/
def rinv (x : Nat → EReal) : EReal :=
  Ideal.rsqrt (mean (fun k => x k * x k) + FloatOps.ofBits (F := Ideal) .f32 0x358637BD#32)

/-- An entry of a row over its root mean square. -/
def rms (x : Nat → EReal) (l : Nat) : EReal := x l * rinv x

/-- An entry of a row, centred, over its standard deviation, scaled and shifted. -/
def lnorm (x g b : Nat → EReal) (l : Nat) : EReal := rms (fun k => x k - mean x) l * g l + b l

lemma mean_congr {x x' : Nat → EReal} (h : ∀ k, k < 256 → x k = x' k) : mean x = mean x' := by
  unfold mean
  exact congrArg (fun z : EReal => Ideal.div z _) (Finset.sum_congr rfl fun k hk => h k (Finset.mem_range.mp hk))

lemma rms_congr {x x' : Nat → EReal} {l : Nat} (h : ∀ k, k < 256 → x k = x' k) (hl : l < 256) : rms x l = rms x' l := by
  unfold rms rinv
  rw [h l hl, mean_congr fun k hk => mulc (h k hk) (h k hk)]

/-- The mean as it stands in a body. -/
lemma mean_fin {n : Nat} (v : Vec Ideal ⟨2, ![n, 256]⟩ .f32) (r : Fin n) : Ideal.div (∑ k : Fin 256, v (ix2 r k))
    (FloatOps.ofBits (F := Ideal) .f32 0x43800000#32) = mean (at2 v r.val) := by
  unfold mean
  exact congrArg (fun z : EReal => Ideal.div z _) (sum_fin _ _ fun k => at2_ix v r k)

/-! ## The first mixer's body -/

lemma pay4_apply (v : Vec Ideal S512x256 .bf16) (x : S512x256.Idx) : k0_pay4 v x = gelu (v x) := by
  unfold_payloads
  idx_vars x
  pointwise
  unfold gelu
  pointwise

lemma pay5_apply (v : Vec Ideal S512x256 .bf16) (x : S512x256.Idx) : k0_pay5 v x = gelu (v x) := by
  unfold_payloads
  idx_vars x
  pointwise
  unfold gelu
  pointwise

lemma pay7_apply (g : Vec Ideal S1x256 .f32) (v : Vec Ideal S512x256 .bf16) (x : S512x256.Idx) :
    k0_pay7 (k0_pay2 g) (k0_pay5 v) (k0_pay6 v) x = rms (fun k => gelu (at2 v (x 0).val k)) (x 1).val * at2 g 0 (x 1).val := by
  unfold k0_pay7 k0_pay6 k0_pay2
  have e : ∀ k : Fin 256, gelu (at2 v (x 0).val k.val) = k0_pay5 v (ix2 ⟨(x 0).val, (x 0).isLt⟩ k) := fun k => by
    rw [pay5_apply, at2_of_lt v (x 0).isLt k.isLt]
  unfold rms rinv mean
  beta_reduce
  rw [← sum_fin (fun k : Fin 256 => k0_pay5 v (ix2 ⟨(x 0).val, (x 0).isLt⟩ k) * k0_pay5 v (ix2 ⟨(x 0).val, (x 0).isLt⟩ k)) _
    (fun k => mulc (e k).symm (e k).symm), e ⟨(x 1).val, (x 1).isLt⟩, at2_of_lt g Nat.one_pos (x 1).isLt]
  generalize k0_pay5 v = z
  idx_vars x
  pointwise

lemma pay8_apply (x : S128x256.Idx) : k0_pay8 x = BitVec.ofNat 32 ((x 1).val / 64) := by
  have key : ∀ l : Fin 256, k0_pay8 (ix2 (0 : Fin 128) l) = BitVec.ofNat 32 (l.val / 64) := by decide +kernel
  refine Eq.trans ?_ (key (x 1))
  unfold k0_pay8
  idx_vars x
  pointwise

/-- Four terms of which only the head's own is not dropped. -/
lemma pick (q : BitVec 32) (h : Nat) (hq : q = BitVec.ofNat 32 h) (hh : h < 4) (b : EReal) (d : Nat → EReal) :
    b + Scalar.select (Scalar.cmpi .eq q 0#32) (d 0) 0 + Scalar.select (Scalar.cmpi .eq q 1#32) (d 1) 0
      + Scalar.select (Scalar.cmpi .eq q 2#32) (d 2) 0 + Scalar.select (Scalar.cmpi .eq q 3#32) (d 3) 0 = b + d h := by
  subst hq
  interval_cases h <;> simp [Scalar.select, Scalar.cmpi, IntOp.cmpi]

/-- A head's weight. -/
def wSel (w0 w1 w2 w3 : Vec Ideal S1x128x128 .bf16) (h r s : Nat) : EReal :=
  if h = 0 then at3 w0 0 r s else if h = 1 then at3 w1 0 r s else if h = 2 then at3 w2 0 r s else at3 w3 0 r s

/-- The mix over positions of a chunk of 128 rows, at a row and a column: the head's bias and its weighted sum of the chunk's rows. -/
def gate (b : Nat → Nat → EReal) (w : Nat → Nat → Nat → EReal) (v : Nat → Nat → EReal) (r l : Nat) : EReal :=
  b (r % 128) l + ∑ s ∈ Finset.range 128, w (l / 64) (r % 128) s * v (128 * (r / 128) + s) l

lemma chunk0 (v4 : FVec Ideal S128x256 .f32) (v2 : FVec Ideal S1x256 .f32) (v34 : FVec Ideal S512x256 .f32) (v39 : FVec Ideal S512x1 .f32)
    (w0 w1 w2 w3 : Vec Ideal S1x128x128 .bf16) (x : S128x256.Idx) :
    k0_pay12 k0_pay8 (k0_pay9 v2 v34 v39) (k0_pay10 v2 v4 v34 v39 w0) k0_pay11 w1 w2 w3 x
      = gate (at2 v4) (wSel w0 w1 w2 w3) (at2 (k0_pay7 v2 v34 v39)) (x 0).val (x 1).val := by
  unfold k0_pay12 k0_pay11 k0_pay10 k0_pay9
  generalize k0_pay7 v2 v34 v39 = z
  have hq := pay8_apply x
  generalize k0_pay8 = q at hq
  idx_vars x
  have h0 : x0.val < 128 := x0.isLt
  have h1 : x1.val < 256 := x1.isLt
  pointwise
  unfold gate
  rw [show x0.val % 128 = x0.val by omega, show x0.val / 128 = 0 by omega]
  have hs : ∀ w : Vec Ideal S1x128x128 .bf16, (∑ k : Fin 128, w (ix3 0 x0 k) * z (ix2 ⟨k.val, by have := k.isLt; omega⟩ x1))
      = ∑ k ∈ Finset.range 128, at3 w 0 x0.val k * at2 z (128 * 0 + k) x1.val := fun w =>
    sum_fin _ _ fun k => mulc (at3_eq w _ rfl rfl rfl) (at2_eq z _ (by simp) rfl)
  rw [hs w0, hs w1, hs w2, hs w3]
  exact (pick _ _ hq (by show x1.val / 64 < 4; omega) _ (fun h => ∑ k ∈ Finset.range 128, wSel w0 w1 w2 w3 h x0.val k * at2 z (128 * 0 + k) x1.val)).trans
    (congrArg (fun a : EReal => a + _) (at2_ix v4 x0 x1))

lemma chunk1 (v4 : FVec Ideal S128x256 .f32) (z : FVec Ideal S512x256 .bf16)
    (w0 w1 w2 w3 : Vec Ideal S1x128x128 .bf16) (x : S128x256.Idx) :
    k0_pay16 k0_pay8 (k0_pay13 z) (k0_pay14 v4 z k0_pay8 w0) (k0_pay15 k0_pay8) w1 w2 w3 x
      = gate (at2 v4) (wSel w0 w1 w2 w3) (at2 z) (128 + (x 0).val) (x 1).val := by
  unfold k0_pay16 k0_pay15 k0_pay14 k0_pay13
  have hq := pay8_apply x
  generalize k0_pay8 = q at hq
  idx_vars x
  have h0 : x0.val < 128 := x0.isLt
  have h1 : x1.val < 256 := x1.isLt
  pointwise
  unfold gate
  rw [show (128 + x0.val) % 128 = x0.val by omega, show (128 + x0.val) / 128 = 1 by omega]
  have hs : ∀ w : Vec Ideal S1x128x128 .bf16, (∑ k : Fin 128, w (ix3 0 x0 k) * z (ix2 ⟨128 + k.val, by have := k.isLt; omega⟩ x1))
      = ∑ k ∈ Finset.range 128, at3 w 0 x0.val k * at2 z (128 * 1 + k) x1.val := fun w =>
    sum_fin _ _ fun k => mulc (at3_eq w _ rfl rfl rfl) (at2_eq z _ (by simp) rfl)
  rw [hs w0, hs w1, hs w2, hs w3]
  exact (pick _ _ hq (by show x1.val / 64 < 4; omega) _ (fun h => ∑ k ∈ Finset.range 128, wSel w0 w1 w2 w3 h x0.val k * at2 z (128 * 1 + k) x1.val)).trans
    (congrArg (fun a : EReal => a + _) (at2_ix v4 x0 x1))

lemma chunk2 (v4 : FVec Ideal S128x256 .f32) (z : FVec Ideal S512x256 .bf16)
    (w0 w1 w2 w3 : Vec Ideal S1x128x128 .bf16) (x : S128x256.Idx) :
    k0_pay21 k0_pay8 (k0_pay17 z) (k0_pay18 v4 z k0_pay8 w0) (k0_pay19 k0_pay8) (k0_pay20 z w1) w2 w3 x
      = gate (at2 v4) (wSel w0 w1 w2 w3) (at2 z) (256 + (x 0).val) (x 1).val := by
  unfold k0_pay21 k0_pay20 k0_pay19 k0_pay18 k0_pay17
  have hq := pay8_apply x
  generalize k0_pay8 = q at hq
  idx_vars x
  have h0 : x0.val < 128 := x0.isLt
  have h1 : x1.val < 256 := x1.isLt
  pointwise
  unfold gate
  rw [show (256 + x0.val) % 128 = x0.val by omega, show (256 + x0.val) / 128 = 2 by omega]
  have hs : ∀ w : Vec Ideal S1x128x128 .bf16, (∑ k : Fin 128, w (ix3 0 x0 k) * z (ix2 ⟨256 + k.val, by have := k.isLt; omega⟩ x1))
      = ∑ k ∈ Finset.range 128, at3 w 0 x0.val k * at2 z (128 * 2 + k) x1.val := fun w =>
    sum_fin _ _ fun k => mulc (at3_eq w _ rfl rfl rfl) (at2_eq z _ (by simp) rfl)
  rw [hs w0, hs w1, hs w2, hs w3]
  exact (pick _ _ hq (by show x1.val / 64 < 4; omega) _ (fun h => ∑ k ∈ Finset.range 128, wSel w0 w1 w2 w3 h x0.val k * at2 z (128 * 2 + k) x1.val)).trans
    (congrArg (fun a : EReal => a + _) (at2_ix v4 x0 x1))

/-- The piece of a stack of matrices that holds a row. -/
lemma cat_row {R C R₁ : Nat} (xs : List ((s : Shape) × (s.Idx → EReal))) (h : Shape.Concatenates (xs.map (·.1)) ⟨2, ![R, C]⟩ 0)
    (k pre : Nat) (hk : k < xs.length) (x : (⟨2, ![R₁, C]⟩ : Shape).Idx → EReal) (hx : xs[k] = ⟨⟨2, ![R₁, C]⟩, x⟩)
    (hpre : (((xs.take k).map (·.1)).map fun s => if h : s.rank = (⟨2, ![R, C]⟩ : Shape).rank then s.size ((0 : Fin 2).cast h.symm) else 0).sum = pre)
    (s : Fin R) (l : Fin C) (h0 : pre ≤ s.val) (h1 : s.val - pre < R₁) :
    concatenate ⟨2, ![R, C]⟩ 0 xs h (ix2 s l) = x (ix2 ⟨s.val - pre, h1⟩ l) := by
  refine concatenate_apply_piece 0 xs h _ k hk _ x hx rfl pre hpre _ (fun b hb => ?_) ?_
  · match b with
    | ⟨0, _⟩ => exact absurd rfl hb
    | ⟨1, _⟩ => rfl
  · show pre + (s.val - pre) = s.val
    omega

lemma pay25_apply (u : FVec Ideal S512x256 .f32) (v4 : FVec Ideal S128x256 .f32) (z : FVec Ideal S512x256 .bf16) (c0 c1 c2 : FVec Ideal S128x256 .f32)
    (w0 w1 w2 w3 : Vec Ideal S1x128x128 .bf16) (G : Nat → Nat → EReal) (hG : G = gate (at2 v4) (wSel w0 w1 w2 w3) (at2 z))
    (h0 : ∀ y, c0 y = G (y 0).val (y 1).val) (h1 : ∀ y, c1 y = G (128 + (y 0).val) (y 1).val)
    (h2 : ∀ y, c2 y = G (256 + (y 0).val) (y 1).val) (x : S512x256.Idx) :
    k0_pay25 u k0_pay8 c0 c1 c2 (k0_pay22 z) (k0_pay23 v4 z k0_pay8 w0) (k0_pay24 z k0_pay8 w1) w2 w3 x
      = rms (fun k => at2 u (x 0).val k * G (x 0).val k) (x 1).val := by
  unfold k0_pay25 k0_pay24 k0_pay23 k0_pay22
  dsimp only
  generalize hc : addf (F := Ideal) (addf (addf (addf v4 _) _) _) _ = c3
  have h3 : ∀ y, c3 y = G (384 + (y 0).val) (y 1).val := by
    intro y
    rw [← hc, hG]
    clear h0 h1 h2 hG hc
    have hq := pay8_apply y
    generalize k0_pay8 = q at hq
    idx_vars y
    have b0 : y0.val < 128 := y0.isLt
    have b1 : y1.val < 256 := y1.isLt
    pointwise
    unfold gate
    rw [show (384 + y0.val) % 128 = y0.val by omega, show (384 + y0.val) / 128 = 3 by omega]
    have hs : ∀ w : Vec Ideal S1x128x128 .bf16, (∑ k : Fin 128, w (ix3 0 y0 k) * z (ix2 ⟨384 + k.val, by have := k.isLt; omega⟩ y1))
        = ∑ k ∈ Finset.range 128, at3 w 0 y0.val k * at2 z (128 * 3 + k) y1.val := fun w =>
      sum_fin _ _ fun k => mulc (at3_eq w _ rfl rfl rfl) (at2_eq z _ (by simp) rfl)
    rw [hs w0, hs w1, hs w2, hs w3]
    exact (pick _ _ hq (by show y1.val / 64 < 4; omega) _ (fun h => ∑ k ∈ Finset.range 128, wSel w0 w1 w2 w3 h y0.val k * at2 z (128 * 3 + k) y1.val)).trans
      (congrArg (fun a : EReal => a + _) (at2_ix v4 y0 y1))
  generalize hF : concatenate (α := EReal) S512x256 0 _ _ = f
  have hf : ∀ r l, f (ix2 r l) = G r.val l.val := by
    intro r l
    have hr : r.val < 512 := r.isLt
    rw [← hF]
    by_cases a : r.val < 128
    · refine (cat_row _ _ 0 0 (by simp) c0 rfl rfl r l (by omega) (by omega)).trans ((h0 _).trans ?_)
      exact congrArg (fun n => G n l.val) (show r.val - 0 = r.val by omega)
    by_cases b : r.val < 256
    · refine (cat_row _ _ 1 128 (by simp) c1 rfl rfl r l (by omega) (by omega)).trans ((h1 _).trans ?_)
      exact congrArg (fun n => G n l.val) (show 128 + (r.val - 128) = r.val by omega)
    by_cases d : r.val < 384
    · refine (cat_row _ _ 2 256 (by simp) c2 rfl rfl r l (by omega) (by omega)).trans ((h2 _).trans ?_)
      exact congrArg (fun n => G n l.val) (show 256 + (r.val - 256) = r.val by omega)
    · refine (cat_row _ _ 3 384 (by simp) c3 rfl rfl r l (by omega) (by omega)).trans ((h3 _).trans ?_)
      exact congrArg (fun n => G n l.val) (show 384 + (r.val - 384) = r.val by omega)
  clear hF h0 h1 h2 h3 hc hG
  idx_vars x
  have e : ∀ k : Fin 256, u (ix2 x0 k) * f (ix2 x0 k) = at2 u x0.val k.val * G x0.val k.val := fun k =>
    mulc (at2_ix u x0 k) (hf x0 k)
  unfold rms rinv mean
  beta_reduce
  rw [← sum_fin (fun k : Fin 256 => u (ix2 x0 k) * f (ix2 x0 k) * (u (ix2 x0 k) * f (ix2 x0 k))) _
    (fun k => mulc (e k) (e k)), ← e x1]
  pointwise

/-! ## The other two mixers' bodies -/

/-- The causal convolution of `n` taps at a row, over rows preceded by 32 others. -/
def conv (n : Nat) (w E : Nat → EReal) (r : Nat) : EReal := ∑ k ∈ Finset.range n, w k * E (33 - n + k + r)

lemma conv_congr {n r : Nat} {w w' E E' : Nat → EReal} (hw : ∀ k, k < n → w k = w' k) (hE : ∀ k, k < n → E (33 - n + k + r) = E' (33 - n + k + r)) :
    conv n w E r = conv n w' E' r :=
  Finset.sum_congr rfl fun k hk => mulc (hw k (Finset.mem_range.mp hk)) (hE k (Finset.mem_range.mp hk))

/-- An entry times its logistic. -/
def silu (x : EReal) : EReal := x * Ideal.logistic x

lemma lnorm_congr {x x' g g' b b' : Nat → EReal} {l : Nat} (hx : ∀ k, k < 256 → x k = x' k) (hg : g l = g' l) (hb : b l = b' l) (hl : l < 256) :
    lnorm x g b l = lnorm x' g' b' l := by
  unfold lnorm
  rw [hg, hb, mean_congr hx]
  exact congrArg (fun a : EReal => a * g' l + b' l) (rms_congr (fun k hk => congrArg (fun a : EReal => a - mean x') (hx k hk)) hl)

lemma pay33_apply (v : Vec Ideal S512x256 .bf16) (w0 w1 w2 : Vec Ideal S1x256 .f32) (W0 W1 W2 : Vec Ideal S512x256 .f32) (x : S512x256.Idx) :
    k0_pay33 (k0_pay31 (k0_pay26 v) w0 W0 w1 W1 w2 W2) (k0_pay32 (k0_pay26 v) w0 W0 w1 W1 w2 W2) x
      = rms (fun k => at2 v (x 0).val k * (at2 w0 0 k * at2 W0 (x 0).val k + at2 w1 0 k * at2 W1 (x 0).val k
        + at2 w2 0 k * at2 W2 (x 0).val k)) (x 1).val := by
  have e : ∀ y : S512x256.Idx, k0_pay31 (k0_pay26 v) w0 W0 w1 W1 w2 W2 y
      = at2 v (y 0).val (y 1).val * (at2 w0 0 (y 1).val * at2 W0 (y 0).val (y 1).val + at2 w1 0 (y 1).val * at2 W1 (y 0).val (y 1).val
        + at2 w2 0 (y 1).val * at2 W2 (y 0).val (y 1).val) := fun y => by
    unfold k0_pay31 k0_pay26
    idx_vars y
    pointwise
    simp only [at2_ix v, at2_ix w0, at2_ix w1, at2_ix w2, at2_ix W0, at2_ix W1, at2_ix W2, zero_add]
    rfl
  unfold k0_pay33 k0_pay32
  generalize k0_pay31 (k0_pay26 v) w0 W0 w1 W1 w2 W2 = z at e
  idx_vars x
  unfold rms rinv mean
  beta_reduce
  rw [← sum_fin (fun k : Fin 256 => z (ix2 x0 k) * z (ix2 x0 k)) _
    (fun k => mulc (e (ix2 x0 k)) (e (ix2 x0 k)))]
  refine Eq.trans ?_ (congrArg (fun a : EReal => a * _) (e (ix2 x0 x1)))
  pointwise

lemma pay59_apply (g b : Vec Ideal S1x256 .f32) (c0 : FVec Ideal S512x256 .f32) (c1 : Vec Ideal S1x256 .f32) (c2 : Vec Ideal S1x512x256 .f32)
    (c3 : Vec Ideal S1x256 .f32) (c4 : Vec Ideal S1x512x256 .f32) (c5 : Vec Ideal S1x256 .f32) (c6 : Vec Ideal S512x256 .f32) (x : S512x256.Idx) :
    k0_pay59 (k0_pay34 g) (k0_pay35 b) c0 c1 c2 c3 c4 c5 c6 x
      = lnorm (at2 (k0_pay58 c0 c1 c2 c3 c4 c5 c6) (x 0).val) (at2 g 0) (at2 b 0) (x 1).val := by
  unfold k0_pay59 k0_pay34 k0_pay35
  generalize k0_pay58 c0 c1 c2 c3 c4 c5 c6 = z
  idx_vars x
  unfold lnorm rms rinv
  beta_reduce
  have m : ∀ r : Fin 512, mean (at2 z r.val) = Ideal.div (∑ k : Fin 256, z (ix2 r k)) (FloatOps.ofBits (F := Ideal) .f32 0x43800000#32) :=
    fun r => (mean_fin z r).symm
  have e : ∀ k : Fin 256, z (ix2 x0 k) - Ideal.div (∑ k : Fin 256, z (ix2 x0 k)) (FloatOps.ofBits (F := Ideal) .f32 0x43800000#32)
      = at2 z x0.val k.val - mean (at2 z x0.val) := fun k => by rw [m x0, at2_ix z]
  refine Eq.trans ?_ (congrArg₂ (fun a c : EReal => a + c) (congrArg₂ (fun a c : EReal => a * c) (congrArg₂ (fun a c : EReal => a * c) (e x1)
    (congrArg (fun a : EReal => Ideal.rsqrt (Ideal.div a _ + _)) (sum_fin _ (fun k => (at2 z x0.val k - mean (at2 z x0.val)) * (at2 z x0.val k - mean (at2 z x0.val)))
      fun k => congrArg₂ (fun a c : EReal => a * c) (e k) (e k)))) (at2_ix g 0 x1)) (at2_ix b 0 x1))
  pointwise

lemma pay1_apply (g b : Vec Ideal S1x256 .f32) (c0 : FVec Ideal S512x256 .f32) (c1 : Vec Ideal S1x256 .f32) (c2 : Vec Ideal S1x512x256 .f32)
    (c3 : Vec Ideal S1x256 .f32) (c4 : Vec Ideal S1x512x256 .f32) (c5 : Vec Ideal S1x256 .f32) (c6 : Vec Ideal S512x256 .f32) (x : S512x256.Idx) :
    k0_pay1 (k0_pay59 (k0_pay34 g) (k0_pay35 b) c0 c1 c2 c3 c4 c5 c6) (k0_pay60 (k0_pay34 g) (k0_pay35 b) c0 c1 c2 c3 c4 c5 c6) x
      = rms (fun k => silu (lnorm (at2 (k0_pay58 c0 c1 c2 c3 c4 c5 c6) (x 0).val) (at2 g 0) (at2 b 0) k)) (x 1).val := by
  have e := pay59_apply g b c0 c1 c2 c3 c4 c5 c6
  unfold k0_pay1 k0_pay60
  generalize k0_pay59 (k0_pay34 g) (k0_pay35 b) c0 c1 c2 c3 c4 c5 c6 = z at e
  idx_vars x
  have s : ∀ k : Fin 256, silu (z (ix2 x0 k)) = silu (lnorm (at2 (k0_pay58 c0 c1 c2 c3 c4 c5 c6) x0.val) (at2 g 0) (at2 b 0) k.val) :=
    fun k => congrArg silu (e (ix2 x0 k))
  generalize k0_pay58 c0 c1 c2 c3 c4 c5 c6 = cv at s
  unfold rms rinv mean
  beta_reduce
  rw [← sum_fin (fun k : Fin 256 => silu (z (ix2 x0 k)) * silu (z (ix2 x0 k))) _
    (fun k => mulc (s k) (s k))]
  refine Eq.trans ?_ (congrArg (fun a : EReal => a * _) (s x1))
  unfold silu
  pointwise
  simp only [zero_sub]
  rfl

/-! ## What the mixers compute -/

/-- An entry of the normed half of the first mixer's columns. -/
def vnAt (z : Nat → Nat → EReal) (g : Nat → EReal) (r l : Nat) : EReal := rms (fun k => gelu (z r (256 + k))) l * g l

/-- An entry of the mixers' results and of the long convolution, from the packed columns, the gate, the taps, the norm's gain and shift, and
    the rows that the convolutions read. -/
def mixAt (z f sw cw : Nat → Nat → EReal) (lg lb : Nat → EReal) (Eb Ed : Nat → Nat → EReal) (r l : Nat) : EReal :=
  if l < 256 then rms (fun k => gelu (z r k) * f r k) l
  else if l < 512 then rms (fun k => z r (512 + k) * conv 3 (fun j => sw j k) (fun j => Eb j k) r) (l - 256)
  else if l < 768 then rms (fun k => silu (lnorm (fun q => conv 31 (fun j => cw j q) (fun j => Ed j q) r) lg lb k)) (l - 512)
  else conv 31 (fun j => cw j (l - 768)) (fun j => Ed j (l - 768)) r

end Cert.Proof.MixFwd

end
-- ==== Proof.MixBlock.lean ====
module

public import proofs.«01_k».proof.Proof.Mix

@[expose] public section

set_option maxRecDepth 16384

noncomputable section

namespace Cert.Proof.MixFwd

open Cert.Kernel11Ideal Cert.Kernel11Ideal.Gen Idealize.ShloMosaic Idealize.ShloMosaic.TcCoe Idealize.SL.Sem Idealize.ShloMosaic.Tactic

/-! ## The buffers of the two convolutions -/

/-- The rows a tile's causal convolution reads: 32 rows before the tile, or zeros, then its own 512 rows. -/
def ext (b : BitVec 1) (H T : Nat → Nat → EReal) (r c : Nat) : EReal :=
  if r < 32 then if b = 1#1 then 0 else H r c else T (r - 32) c

/-- A window of `n` of those rows, from row `off`. -/
def extWin (b : BitVec 1) (H T : Nat → Nat → EReal) (off n : Nat) : Ar2 n 256 :=
  fun j => ext b H T (off + (j 0).val) (j 1).val

lemma canon_ext (b : BitVec 1) (H T : Nat → Nat → EReal) (p : FVec Ideal S32x256 .f32) (q : FVec Ideal S512x256 .f32)
    (hp : ∀ x, p x = if b = 1#1 then 0 else H (x 0).val (x 1).val) (hq : ∀ x, q x = T (x 0).val (x 1).val) (y : S544x256.Idx) :
    View.canon (Val := Elt Ideal) (e := .f32) [⟨Rect.unit ![32, 0] ![512, 256] inb_S544x256_S512x256_32_0, q⟩,
      ⟨Rect.unit ![0, 0] ![32, 256] inb_S544x256_S32x256_0_0, p⟩] y = ext b H T (y 0).val (y 1).val := by
  idx_vars y
  have h0 : y0.val < 544 := y0.isLt
  unfold ext
  by_cases hy : y0.val < 32
  · refine (canon_miss inb_S544x256_S512x256_32_0 _ _ _ 0 (Or.inl hy)).trans ?_
    refine (canon_hit inb_S544x256_S32x256_0_0 _ _ _ (ix2 ⟨y0.val, hy⟩ y1) (by intro a; fin_cases a <;> simp)).trans ((hp _).trans ?_)
    exact (if_pos hy).symm
  · refine (canon_hit inb_S544x256_S512x256_32_0 _ _ _ (ix2 ⟨y0.val - 32, by omega⟩ y1) (by
      intro a; fin_cases a
      · show y0.val = 32 + (y0.val - 32); omega
      · simp)).trans ((hq _).trans ?_)
    exact (if_neg hy).symm

lemma read_win {κ : Kind} {sp : Space} (v : View sig κ sp S544x256 .f32) (b : BitVec 1) (H T : Nat → Nat → EReal) (p : FVec Ideal S32x256 .f32)
    (q : FVec Ideal S512x256 .f32) (hp : ∀ x, p x = if b = 1#1 then 0 else H (x 0).val (x 1).val) (hq : ∀ x, q x = T (x 0).val (x 1).val)
    (off n : Nat) (inb : ∀ a, (![off, 0] : Fin 2 → Nat) a + (![n, 256] : Fin 2 → Nat) a ≤ S544x256.size a) :
    v.readCov (Val := Elt Ideal) [⟨Rect.unit ![32, 0] ![512, 256] inb_S544x256_S512x256_32_0, q⟩,
      ⟨Rect.unit ![0, 0] ![32, 256] inb_S544x256_S32x256_0_0, p⟩] (Rect.unit (s := S544x256) ![off, 0] ![n, 256] inb).toLoadRect
      = extWin b H T off n := by
  rw [View.readCov_eq_canon']
  funext j
  rw [canon_ext b H T p q hp hq]
  show ext b H T (off + 1 * (j 0).val) (0 + 1 * (j 1).val) = _
  rw [one_mul, one_mul, zero_add]; rfl

/-- What the short convolution reads. -/
lemma read_b {κ : Kind} {sp : Space} (v : View sig κ sp S544x256 .f32) (b : BitVec 1) (v220 v222 : Vec Ideal S32x256 .bf16)
    (v230 v232 : Vec Ideal S512x256 .bf16) (off n : Nat) (inb : ∀ a, (![off, 0] : Fin 2 → Nat) a + (![n, 256] : Fin 2 → Nat) a ≤ S544x256.size a) :
    v.readCov (Val := Elt Ideal) [⟨Rect.unit ![32, 0] ![512, 256] inb_S544x256_S512x256_32_0, k0_pay30 v230 v232⟩,
      ⟨Rect.unit ![0, 0] ![32, 256] inb_S544x256_S32x256_0_0, k0_pay29 b (k0_pay27 v220) (k0_pay28 v222)⟩]
      (Rect.unit (s := S544x256) ![off, 0] ![n, 256] inb).toLoadRect
      = extWin b (fun r c => at2 v220 r c * at2 v222 r c) (fun r c => at2 v230 r c * at2 v232 r c) off n := by
  refine read_win v b _ _ _ _ (fun x => ?_) (fun x => ?_) off n inb
  · unfold k0_pay29 k0_pay28 k0_pay27
    idx_vars x
    pointwise
    rw [at2_ix v220, at2_ix v222]
    rfl
  · unfold k0_pay30
    idx_vars x
    pointwise
    rw [at2_ix v230, at2_ix v232]

/-- What the long convolution reads. -/
lemma read_d {κ : Kind} {sp : Space} (v : View sig κ sp S544x256 .f32) (b : BitVec 1) (v273 v275 : Vec Ideal S32x256 .bf16)
    (v290 v292 : Vec Ideal S512x256 .bf16) (off n : Nat) (inb : ∀ a, (![off, 0] : Fin 2 → Nat) a + (![n, 256] : Fin 2 → Nat) a ≤ S544x256.size a) :
    v.readCov (Val := Elt Ideal) [⟨Rect.unit ![32, 0] ![512, 256] inb_S544x256_S512x256_32_0,
        k0_pay39 (k0_pay37 v290) (k0_pay38 v292) (Scalar.ofBits .f32 0x00000000#32)⟩,
      ⟨Rect.unit ![0, 0] ![32, 256] inb_S544x256_S32x256_0_0, k0_pay36 b v273 v275⟩]
      (Rect.unit (s := S544x256) ![off, 0] ![n, 256] inb).toLoadRect
      = extWin b (fun r c => at2 v273 r c * Ideal.logistic (at2 v275 r c)) (fun r c => at2 v290 r c * Ideal.logistic (at2 v292 r c)) off n := by
  refine read_win v b _ _ _ _ (fun x => ?_) (fun x => ?_) off n inb
  · unfold k0_pay36
    idx_vars x
    pointwise
    rw [at2_ix v273, at2_ix v275, zero_sub]
    rfl
  · unfold k0_pay39 k0_pay38 k0_pay37
    idx_vars x
    pointwise
    rw [at2_ix v290, at2_ix v292, zero_sub]
    rfl

/-- The seven shifted copies: slot `s` is the window from row `s + 1`. -/
lemma canon_shift (b : BitVec 1) (H T : Nat → Nat → EReal) (y : S7x536x256.Idx) :
    View.canon (Val := Elt Ideal) (e := .f32) [
      ⟨Rect.unit ![6, 0, 0] ![1, 536, 256] inb_S7x536x256_S1x536x256_6_0_0, k0_pay46 (F := Ideal) (extWin b H T 7 536)⟩,
      ⟨Rect.unit ![5, 0, 0] ![1, 536, 256] inb_S7x536x256_S1x536x256_5_0_0, k0_pay45 (F := Ideal) (extWin b H T 6 536)⟩,
      ⟨Rect.unit ![4, 0, 0] ![1, 536, 256] inb_S7x536x256_S1x536x256_4_0_0, k0_pay44 (F := Ideal) (extWin b H T 5 536)⟩,
      ⟨Rect.unit ![3, 0, 0] ![1, 536, 256] inb_S7x536x256_S1x536x256_3_0_0, k0_pay43 (F := Ideal) (extWin b H T 4 536)⟩,
      ⟨Rect.unit ![2, 0, 0] ![1, 536, 256] inb_S7x536x256_S1x536x256_2_0_0, k0_pay42 (F := Ideal) (extWin b H T 3 536)⟩,
      ⟨Rect.unit ![1, 0, 0] ![1, 536, 256] inb_S7x536x256_S1x536x256_1_0_0, k0_pay41 (F := Ideal) (extWin b H T 2 536)⟩,
      ⟨Rect.unit ![0, 0, 0] ![1, 536, 256] inb_S7x536x256_S1x536x256_0_0_0, k0_pay40 (F := Ideal) (extWin b H T 1 536)⟩] y
      = ext b H T ((y 0).val + 1 + (y 1).val) (y 2).val := by
  canon_tiles x h
  all_goals
    unfold_payloads
    pointwise
    show ext b H T (_ + (x 1).val) (x 2).val = _
    rw [h2]; congr 1; omega

/-- A window of 512 rows of slot `s`, from row `off`. -/
lemma read_shift {κ : Kind} {sp : Space} (v : View sig κ sp S7x536x256 .f32) (b : BitVec 1) (H T : Nat → Nat → EReal) (s off : Nat)
    (inb : ∀ a, (![s, off, 0] : Fin 3 → Nat) a + (![1, 512, 256] : Fin 3 → Nat) a ≤ S7x536x256.size a) :
    v.readCov (Val := Elt Ideal) [
      ⟨Rect.unit ![6, 0, 0] ![1, 536, 256] inb_S7x536x256_S1x536x256_6_0_0, k0_pay46 (F := Ideal) (extWin b H T 7 536)⟩,
      ⟨Rect.unit ![5, 0, 0] ![1, 536, 256] inb_S7x536x256_S1x536x256_5_0_0, k0_pay45 (F := Ideal) (extWin b H T 6 536)⟩,
      ⟨Rect.unit ![4, 0, 0] ![1, 536, 256] inb_S7x536x256_S1x536x256_4_0_0, k0_pay44 (F := Ideal) (extWin b H T 5 536)⟩,
      ⟨Rect.unit ![3, 0, 0] ![1, 536, 256] inb_S7x536x256_S1x536x256_3_0_0, k0_pay43 (F := Ideal) (extWin b H T 4 536)⟩,
      ⟨Rect.unit ![2, 0, 0] ![1, 536, 256] inb_S7x536x256_S1x536x256_2_0_0, k0_pay42 (F := Ideal) (extWin b H T 3 536)⟩,
      ⟨Rect.unit ![1, 0, 0] ![1, 536, 256] inb_S7x536x256_S1x536x256_1_0_0, k0_pay41 (F := Ideal) (extWin b H T 2 536)⟩,
      ⟨Rect.unit ![0, 0, 0] ![1, 536, 256] inb_S7x536x256_S1x536x256_0_0_0, k0_pay40 (F := Ideal) (extWin b H T 1 536)⟩]
      (Rect.unit (s := S7x536x256) ![s, off, 0] ![1, 512, 256] inb).toLoadRect
      = fun j => ext b H T (s + 1 + off + (j 1).val) (j 2).val := by
  rw [View.readCov_eq_canon']
  funext j
  rw [canon_shift]
  have h0 : (j 0).val = 0 := by have : (j 0).val < 1 := (j 0).isLt; omega
  show ext b H T (s + 1 * (j 0).val + 1 + (off + 1 * (j 1).val)) (0 + 1 * (j 2).val) = _
  rw [h0]; congr 1 <;> omega

/-! ## What a body loads -/

lemma ld_z (X : Vec Ideal S512x2560 .bf16) (o : Nat) (inb : ∀ a, (![0, o] : Fin 2 → Nat) a + (![512, 256] : Fin 2 → Nat) a ≤ S512x2560.size a) :
    View.ld (Val := Elt Ideal) (e' := .bf16) X (Rect.unit (s := S512x2560) ![0, o] ![512, 256] inb)
      = fun j : S512x256.Idx => at2 X (j 0).val (o + (j 1).val) := by
  funext j
  refine at2_eq X _ ?_ ?_
  · show 0 + 1 * (j 0).val = _; omega
  · show o + 1 * (j 1).val = _; omega

lemma ld_zh (X : Vec Ideal S32x2560 .bf16) (o : Nat) (inb : ∀ a, (![0, o] : Fin 2 → Nat) a + (![32, 256] : Fin 2 → Nat) a ≤ S32x2560.size a) :
    View.ld (Val := Elt Ideal) (e' := .bf16) X (Rect.unit (s := S32x2560) ![0, o] ![32, 256] inb)
      = fun j : S32x256.Idx => at2 X (j 0).val (o + (j 1).val) := by
  funext j
  refine at2_eq X _ ?_ ?_
  · show 0 + 1 * (j 0).val = _; omega
  · show o + 1 * (j 1).val = _; omega

lemma ld_w8 (X : Vec Ideal S8x256 .f32) (k : Nat) (inb : ∀ a, (![k, 0] : Fin 2 → Nat) a + (![1, 256] : Fin 2 → Nat) a ≤ S8x256.size a) :
    View.ld (Val := Elt Ideal) (e' := .f32) X (Rect.unit (s := S8x256) ![k, 0] ![1, 256] inb) = fun j : S1x256.Idx => at2 X k (j 1).val := by
  funext j
  have h0 : (j 0).val < 1 := (j 0).isLt
  refine at2_eq X _ ?_ ?_
  · show k + 1 * (j 0).val = _; omega
  · show 0 + 1 * (j 1).val = _; omega

lemma ld_w32 (X : Vec Ideal S32x256 .f32) (k : Nat) (inb : ∀ a, (![k, 0] : Fin 2 → Nat) a + (![1, 256] : Fin 2 → Nat) a ≤ S32x256.size a) :
    View.ld (Val := Elt Ideal) (e' := .f32) X (Rect.unit (s := S32x256) ![k, 0] ![1, 256] inb) = fun j : S1x256.Idx => at2 X k (j 1).val := by
  funext j
  have h0 : (j 0).val < 1 := (j 0).isLt
  refine at2_eq X _ ?_ ?_
  · show k + 1 * (j 0).val = _; omega
  · show 0 + 1 * (j 1).val = _; omega

lemma ld_wt (X : Vec Ideal S4x128x128 .bf16) (h : Nat) (inb : ∀ a, (![h, 0, 0] : Fin 3 → Nat) a + (![1, 128, 128] : Fin 3 → Nat) a ≤ S4x128x128.size a) :
    View.ld (Val := Elt Ideal) (e' := .bf16) X (Rect.unit (s := S4x128x128) ![h, 0, 0] ![1, 128, 128] inb)
      = fun j : S1x128x128.Idx => at3 X h (j 1).val (j 2).val := by
  funext j
  have h0 : (j 0).val < 1 := (j 0).isLt
  refine at3_eq X _ ?_ ?_ ?_
  · show h + 1 * (j 0).val = _; omega
  · show 0 + 1 * (j 1).val = _; omega
  · show 0 + 1 * (j 2).val = _; omega

lemma ld_row (X : Vec Ideal S1x256 .f32) (inb : ∀ a, (![0, 0] : Fin 2 → Nat) a + (![1, 256] : Fin 2 → Nat) a ≤ S1x256.size a) :
    View.ld (Val := Elt Ideal) (e' := .f32) X (Rect.unit (s := S1x256) ![0, 0] ![1, 256] inb) = X := View.ld_unit_lit inb X (by decide)

lemma ld_bias (X : Vec Ideal S128x256 .f32) (inb : ∀ a, (![0, 0] : Fin 2 → Nat) a + (![128, 256] : Fin 2 → Nat) a ≤ S128x256.size a) :
    View.ld (Val := Elt Ideal) (e' := .f32) X (Rect.unit (s := S128x256) ![0, 0] ![128, 256] inb) = X := View.ld_unit_lit inb X (by decide)

/-- Whether a point is the grid's first, before which no rows exist. -/
abbrev firstTile (t : Fin cfg0.N) : BitVec 1 := Scalar.cmpi .eq (BitVec.ofNat 32 (grid0.coords t 0).val) 0#32

lemma at2_z (X : Vec Ideal S512x2560 .bf16) (o : Nat) {r c : Nat} (hr : r < 512) (hc : c < 256) :
    at2 (fun j : S512x256.Idx => at2 X (j 0).val (o + (j 1).val)) r c = at2 X r (o + c) := at2_of_lt _ hr hc

lemma at2_zh (X : Vec Ideal S32x2560 .bf16) (o : Nat) {r c : Nat} (hr : r < 32) (hc : c < 256) :
    at2 (fun j : S32x256.Idx => at2 X (j 0).val (o + (j 1).val)) r c = at2 X r (o + c) := at2_of_lt _ hr hc

lemma ext_congr {b : BitVec 1} {H H' T T' : Nat → Nat → EReal} {r c : Nat} (hH : r < 32 → H r c = H' r c) (hT : 32 ≤ r → T (r - 32) c = T' (r - 32) c) :
    ext b H T r c = ext b H' T' r c := by
  unfold ext
  by_cases h : r < 32
  · rw [if_pos h, if_pos h, hH h]
  · rw [if_neg h, if_neg h, hT (by omega)]

/-- The products the short convolution reads, of packed columns. -/
def prodB (z : Nat → Nat → EReal) (r c : Nat) : EReal := z r (768 + c) * z r (1024 + c)

/-- The gated columns the long convolution reads. -/
def prodD (z : Nat → Nat → EReal) (r c : Nat) : EReal := z r (2048 + c) * Ideal.logistic (z r (2304 + c))

lemma ext_b (b : BitVec 1) (X1 : Vec Ideal S32x2560 .bf16) (X0 : Vec Ideal S512x2560 .bf16) {r c : Nat} (hr : r < 544) (hc : c < 256) :
    ext b (fun r c => at2 (fun j : S32x256.Idx => at2 X1 (j 0).val (768 + (j 1).val)) r c * at2 (fun j : S32x256.Idx => at2 X1 (j 0).val (1024 + (j 1).val)) r c)
      (fun r c => at2 (fun j : S512x256.Idx => at2 X0 (j 0).val (768 + (j 1).val)) r c * at2 (fun j : S512x256.Idx => at2 X0 (j 0).val (1024 + (j 1).val)) r c) r c
      = ext b (prodB (at2 X1)) (prodB (at2 X0)) r c := by
  refine ext_congr (fun h => ?_) (fun h => ?_)
  · rw [at2_zh X1 _ h hc, at2_zh X1 _ h hc]; rfl
  · rw [at2_z X0 _ (by omega) hc, at2_z X0 _ (by omega) hc]; rfl

lemma ext_d (b : BitVec 1) (X1 : Vec Ideal S32x2560 .bf16) (X0 : Vec Ideal S512x2560 .bf16) {r c : Nat} (hr : r < 544) (hc : c < 256) :
    ext b (fun r c => at2 (fun j : S32x256.Idx => at2 X1 (j 0).val (2048 + (j 1).val)) r c * Ideal.logistic (at2 (fun j : S32x256.Idx => at2 X1 (j 0).val (2304 + (j 1).val)) r c))
      (fun r c => at2 (fun j : S512x256.Idx => at2 X0 (j 0).val (2048 + (j 1).val)) r c * Ideal.logistic (at2 (fun j : S512x256.Idx => at2 X0 (j 0).val (2304 + (j 1).val)) r c)) r c
      = ext b (prodD (at2 X1)) (prodD (at2 X0)) r c := by
  refine ext_congr (fun h => ?_) (fun h => ?_)
  · rw [at2_zh X1 _ h hc, at2_zh X1 _ h hc]; rfl
  · rw [at2_z X0 _ (by omega) hc, at2_z X0 _ (by omega) hc]; rfl

lemma conv_b (b : BitVec 1) (X1 : Vec Ideal S32x2560 .bf16) (X0 : Vec Ideal S512x2560 .bf16) (w : Nat → EReal) {r c : Nat} (hr : r < 512) (hc : c < 256) :
    conv 3 w (fun j => ext b (fun r c => at2 (fun j : S32x256.Idx => at2 X1 (j 0).val (768 + (j 1).val)) r c * at2 (fun j : S32x256.Idx => at2 X1 (j 0).val (1024 + (j 1).val)) r c)
      (fun r c => at2 (fun j : S512x256.Idx => at2 X0 (j 0).val (768 + (j 1).val)) r c * at2 (fun j : S512x256.Idx => at2 X0 (j 0).val (1024 + (j 1).val)) r c) j c) r
      = conv 3 w (fun j => ext b (prodB (at2 X1)) (prodB (at2 X0)) j c) r :=
  conv_congr (fun _ _ => rfl) fun k hk => ext_b b X1 X0 (r := 33 - 3 + k + r) (by omega) hc

lemma conv_d (b : BitVec 1) (X1 : Vec Ideal S32x2560 .bf16) (X0 : Vec Ideal S512x2560 .bf16) (w : Nat → EReal) {r c : Nat} (hr : r < 512) (hc : c < 256) :
    conv 31 w (fun j => ext b (fun r c => at2 (fun j : S32x256.Idx => at2 X1 (j 0).val (2048 + (j 1).val)) r c * Ideal.logistic (at2 (fun j : S32x256.Idx => at2 X1 (j 0).val (2304 + (j 1).val)) r c))
      (fun r c => at2 (fun j : S512x256.Idx => at2 X0 (j 0).val (2048 + (j 1).val)) r c * Ideal.logistic (at2 (fun j : S512x256.Idx => at2 X0 (j 0).val (2304 + (j 1).val)) r c)) j c) r
      = conv 31 w (fun j => ext b (prodD (at2 X1)) (prodD (at2 X0)) j c) r :=
  conv_congr (fun _ _ => rfl) fun k hk => ext_d b X1 X0 (r := 33 - 31 + k + r) (by omega) hc

lemma gate_congr {b b' : Nat → Nat → EReal} {w w' : Nat → Nat → Nat → EReal} {v v' : Nat → Nat → EReal} {r l : Nat} (hl : l < 256)
    (hb : ∀ i, i < 128 → b i l = b' i l) (hw : ∀ h i s, h < 4 → i < 128 → s < 128 → w h i s = w' h i s)
    (hv : ∀ s, s < 128 → v (128 * (r / 128) + s) l = v' (128 * (r / 128) + s) l) : gate b w v r l = gate b' w' v' r l :=
  addc (hb _ (by omega)) (Finset.sum_congr rfl fun s hs => mulc
    (hw _ _ _ (by omega) (by omega) (Finset.mem_range.mp hs)) (hv s (Finset.mem_range.mp hs)))

lemma wSel_eq (X : Vec Ideal S4x128x128 .bf16) (h i s : Nat) (hh : h < 4) (hi : i < 128) (hs : s < 128) :
    wSel (fun j => at3 X 0 (j 1).val (j 2).val) (fun j => at3 X 1 (j 1).val (j 2).val) (fun j => at3 X 2 (j 1).val (j 2).val)
      (fun j => at3 X 3 (j 1).val (j 2).val) h i s = at3 X h i s := by
  have e : ∀ q, at3 (fun j : S1x128x128.Idx => at3 X q (j 1).val (j 2).val) 0 i s = at3 X q i s := fun q => at3_of_lt _ (by omega) hi hs
  unfold wSel
  rw [e, e, e, e]
  obtain rfl | rfl | rfl | rfl : h = 0 ∨ h = 1 ∨ h = 2 ∨ h = 3 := by omega
  all_goals simp

set_option maxHeartbeats 4000000 in
/-- What one grid point computes from its blocks. -/
lemma out_block (c : Dev nD) (t : Fin cfg0.N) (X0 : Vec Ideal S512x2560 .bf16) (X1 : Vec Ideal S32x2560 .bf16) (X2 : Vec Ideal S1x256 .f32)
    (X3 : Vec Ideal S4x128x128 .bf16) (X4 : Vec Ideal S128x256 .f32) (X5 : Vec Ideal S8x256 .f32) (X6 : Vec Ideal S32x256 .f32) (X7 X8 : Vec Ideal S1x256 .f32)
    (y : S512x1024.Idx) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
      scM0_2 (Memref.isWhole_whole _) X0 X1 X2 X3 X4 X5 X6 X7 X8 y
     = mixAt (at2 X0) (gate (at2 X4) (at3 X3) (vnAt (at2 X0) (at2 X2 0))) (at2 X5) (at2 X6) (at2 X7 0) (at2 X8 0)
        (ext (firstTile t) (prodB (at2 X1)) (prodB (at2 X0))) (ext (firstTile t) (prodD (at2 X1)) (prodD (at2 X0))) (y 0).val (y 1).val := by
  rw [out0_A_9, View.read_writes_eq_canon _ _ _ (cover0_A_9 c _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, read_b, read_d]
  simp only [read_shift, ld_z, ld_zh, ld_w8, ld_w32, ld_wt, ld_row, ld_bias]
  unfold firstTile
  generalize Scalar.cmpi (w := 32) .eq _ _ = b
  generalize hcv : k0_pay58 (F := Ideal) _ _ _ _ _ _ _ = cv
  have hc : ∀ r l, r < 512 → l < 256 → at2 cv r l
      = conv 31 (fun k => at2 X6 k l) (fun j => ext b (prodD (at2 X1)) (prodD (at2 X0)) j l) r := fun r l hr hl => by
    rw [at2_of_lt cv hr hl, ← hcv]
    unfold_payloads
    pointwise
    refine Eq.trans ?_ (conv_d b X1 X0 _ hr hl)
    simp only [extWin, conv, Finset.sum_range_succ, Finset.sum_range_zero, zero_add, ix2_0, ix2_1, Nat.reduceSub, Nat.reduceAdd, Nat.add_zero]
  canon_tiles x h using View.cover_of_tiledBy _ ![512, 256] (by sl_kernel_rfl) _
  all_goals
    rw [h0, h1]
    unfold mixAt
    have hx0 : (x 0).val < 512 := (x 0).isLt
    have hx1 : (x 1).val < 256 := (x 1).isLt
    repeat first | rw [if_pos (by omega)] | rw [if_neg (by omega)]
  · rw [Nat.add_sub_cancel_left, ← hc _ _ hx0 hx1, at2_of_lt cv hx0 hx1]
    exact congrArg cv (by funext a; fin_cases a <;> rfl)
  · rw [Nat.add_sub_cancel_left]
    refine (pay1_apply _ _ _ _ _ _ _ _ _ x).trans ?_
    rw [hcv]
    exact rms_congr (fun k hk => congrArg silu (lnorm_congr (fun q hq => hc _ _ hx0 hq) rfl rfl hk)) hx1
  · rw [Nat.add_sub_cancel_left]
    refine (pay33_apply _ _ _ _ _ _ _ x).trans ?_
    refine rms_congr (fun k hk => mulc (at2_z X0 512 hx0 hk) ?_) hx1
    refine Eq.trans ?_ (conv_b b X1 X0 _ hx0 hk)
    have e : ∀ (q : Nat), at2 (fun j : S1x256.Idx => at2 X5 q (j 1).val) 0 k = at2 X5 q k := fun q => at2_of_lt _ (by omega) hk
    rw [e, e, e]
    simp only [extWin, conv, Finset.sum_range_succ, Finset.sum_range_zero, zero_add, at2_of_lt _ hx0 hk, ix2_0, ix2_1, Nat.reduceSub, Nat.reduceAdd, Nat.add_zero]
  · refine (pay25_apply _ _ _ _ _ _ _ _ _ _ _ rfl (fun y => chunk0 _ _ _ _ _ _ _ _ y) (fun y => chunk1 _ _ _ _ _ _ y) (fun y => chunk2 _ _ _ _ _ _ y) x).trans ?_
    refine rms_congr (fun k hk => mulc ?_ ?_) hx1
    · rw [at2_of_lt _ hx0 hk, pay4_apply]
      exact congrArg gelu (congrArg (at2 X0 _) (Nat.zero_add _))
    · refine gate_congr hk (fun i hi => by rw [at2_of_lt _ hi hk, at2_of_lt _ hi hk]; unfold k0_pay3; pointwise) (fun h i s hh hi hs => wSel_eq X3 h i s hh hi hs) (fun s hs => ?_)
      rw [at2_of_lt _ (by omega) hk]
      refine (pay7_apply _ _ _).trans ?_
      unfold vnAt
      exact congrArg (fun a : EReal => a * _) (rms_congr (fun q hq => congrArg gelu (at2_z X0 256 (r := 128 * ((x 0).val / 128) + s) (by omega) hq)) hk)

end Cert.Proof.MixFwd

end
-- ==== Proof.MixFwd.lean ====
module

public import proofs.«01_k».proof.Proof.MixBlock
public import proofs.«01_k».proof.Proof.Scatter
public import Idealize.ShloMosaic.Lib.Pipeline.ReadBack
public import Idealize.ShloMosaic.Lib.StableHlo.ReadAt

@[expose] public section

set_option maxRecDepth 16384

noncomputable section

namespace Cert.Proof.MixFwd

open Cert.Kernel11Ideal Cert.Kernel11Ideal.Gen Idealize.ShloMosaic Idealize.ShloMosaic.TcCoe Idealize.SL.Sem Idealize.ShloMosaic.Tactic

/-! ## Bodies at two rows -/

lemma conv_at {n r R : Nat} {w w' E E' : Nat → EReal} (hw : ∀ k, k < n → w k = w' k) (hE : ∀ k, k < n → E (33 - n + k + r) = E' (33 - n + k + R)) :
    conv n w E r = conv n w' E' R :=
  Finset.sum_congr rfl fun k hk => mulc (hw k (Finset.mem_range.mp hk)) (hE k (Finset.mem_range.mp hk))

lemma mixAt_congr {z z' f f' sw sw' cw cw' Eb Eb' Ed Ed' : Nat → Nat → EReal} {lg lg' lb lb' : Nat → EReal} {r R l : Nat}
    (hz : ∀ l, l < 2560 → z r l = z' R l) (hf : ∀ k, k < 256 → f r k = f' R k) (hsw : ∀ k l, k < 3 → l < 256 → sw k l = sw' k l)
    (hcw : ∀ k l, k < 31 → l < 256 → cw k l = cw' k l) (hlg : ∀ l, l < 256 → lg l = lg' l) (hlb : ∀ l, l < 256 → lb l = lb' l)
    (hEb : ∀ j l, j < 33 → l < 256 → Eb (j + r) l = Eb' (j + R) l) (hEd : ∀ j l, j < 33 → l < 256 → Ed (j + r) l = Ed' (j + R) l)
    (hl : l < 1024) : mixAt z f sw cw lg lb Eb Ed r l = mixAt z' f' sw' cw' lg' lb' Eb' Ed' R l := by
  have c3 : ∀ l < 256, conv 3 (fun k => sw k l) (fun j => Eb j l) r = conv 3 (fun k => sw' k l) (fun j => Eb' j l) R := fun l hl =>
    conv_at (fun k hk => hsw k l hk hl) fun k hk => hEb _ l (by omega) hl
  have c31 : ∀ l < 256, conv 31 (fun k => cw k l) (fun j => Ed j l) r = conv 31 (fun k => cw' k l) (fun j => Ed' j l) R := fun l hl =>
    conv_at (fun k hk => hcw k l hk hl) fun k hk => hEd _ l (by omega) hl
  unfold mixAt
  split
  · exact rms_congr (fun k hk => congrArg₂ (fun a b : EReal => gelu a * b) (hz k (by omega)) (hf k hk)) (by omega)
  split
  · exact rms_congr (fun k hk => mulc (hz _ (by omega)) (c3 k hk)) (by omega)
  split
  · exact rms_congr (fun k hk => congrArg silu (lnorm_congr c31 (hlg k hk) (hlb k hk) hk)) (by omega)
  · exact c31 _ (by omega)

/-- Rows preceded by 32 rows of zeros. -/
def pre (P : Nat → Nat → EReal) (j l : Nat) : EReal := if j < 32 then 0 else P (j - 32) l

/-- A head's weights with the later positions masked. -/
def wAt (w : Ar4 2 4 128 128) (h i s : Nat) : EReal := if s ≤ i then at4 w 1 h i s else 0

/-- The result as a function of the arguments. -/
def mixOf (x : Ar2 16384 2560) (vg : Ar2 2 256) (w : Ar4 2 4 128 128)
    (b : Ar3 2 4 128) (sw : Ar3 2 3 256) (cw : Ar3 2 31 256)
    (lg lb : Ar2 2 256) : Ar2 16384 1024 := fun i =>
  mixAt (at2 x) (gate (fun i l => at3 b 1 (l / 64) i) (wAt w) (vnAt (at2 x) (at2 vg 1))) (at3 sw 1) (at3 cw 1) (at2 lg 1) (at2 lb 1)
    (pre (prodB (at2 x))) (pre (prodD (at2 x))) (i 0).val (i 1).val

variable (m : (ℓ : Loc nD τ sig) → Buf (Elt Ideal) ℓ) (c : Dev nD)

/-! ## The arrays the host makes, at an index -/

lemma val22 (l : Nat) (hl : l < 256) : V m c main_v22 (ix2 0 ⟨l, hl⟩) = m (c.tc.loc main_arg1) (ix2 1 ⟨l, hl⟩) := by
  unfold V
  simp only [List.flatten_cons, List.flatten_nil, List.append_nil, hostOps0, hostOps0_1, hostOps0_2, hostOps0_3, hostOps0_4, List.cons_append, List.nil_append]
  after_reads_at

lemma val28 (l : Nat) (hl : l < 256) : V m c main_v28 (ix2 0 ⟨l, hl⟩) = m (c.tc.loc main_arg6) (ix2 1 ⟨l, hl⟩) := by
  unfold V
  simp only [List.flatten_cons, List.flatten_nil, List.append_nil, hostOps0, hostOps0_1, hostOps0_2, hostOps0_3, hostOps0_4, List.cons_append, List.nil_append]
  after_reads_at

lemma val31 (l : Nat) (hl : l < 256) : V m c main_v31 (ix2 0 ⟨l, hl⟩) = m (c.tc.loc main_arg7) (ix2 1 ⟨l, hl⟩) := by
  unfold V
  simp only [List.flatten_cons, List.flatten_nil, List.append_nil, hostOps0, hostOps0_1, hostOps0_2, hostOps0_3, hostOps0_4, List.cons_append, List.nil_append]
  after_reads_at

lemma val9 (i l : Nat) (hi : i < 128) (hl : l < 256) : V m c main_v9 (ix2 ⟨i, hi⟩ ⟨l, hl⟩) = m (c.tc.loc main_arg3) (ix3 1 ⟨l / 64, by omega⟩ ⟨i, hi⟩) := by
  unfold V
  simp only [List.flatten_cons, List.flatten_nil, List.append_nil, hostOps0, hostOps0_1, hostOps0_2, hostOps0_3, hostOps0_4, List.cons_append, List.nil_append]
  after_reads_at

lemma zero_bits : FloatOps.ofBits (F := Ideal) .f32 0x00000000#32 = 0 := by pointwise

lemma lower_bit : ∀ i s : Fin 128, Scalar.select (IntOp.cmpi .sge (IntOp.addi (BitVec.ofNat 32 i.val) 0#32) (BitVec.ofNat 32 s.val)) (1#1 : BitVec 1) 0#1
    = if s.val ≤ i.val then 1#1 else 0#1 := by decide +kernel

lemma val23 (h i s : Nat) (hh : h < 4) (hi : i < 128) (hs : s < 128) : V m c main_v23 (ix3 ⟨h, hh⟩ ⟨i, hi⟩ ⟨s, hs⟩)
    = wAt (m (c.tc.loc main_arg2)) h i s := by
  unfold wAt
  rw [at4_of_lt _ (by omega) hh hi hs]
  unfold V
  simp only [List.flatten_cons, List.flatten_nil, List.append_nil, hostOps0, hostOps0_1, hostOps0_2, hostOps0_3, hostOps0_4, List.cons_append, List.nil_append]
  after_reads_at
  rw [lower_bit ⟨i, hi⟩ ⟨s, hs⟩]
  by_cases q : s ≤ i
  · rw [if_pos q, if_pos q]; rfl
  · rw [if_neg q, if_neg q]; exact zero_bits

lemma val14 (k l : Nat) (hk : k < 3) (hl : l < 256) : V m c main_v14 (ix2 ⟨k, by omega⟩ ⟨l, hl⟩) = m (c.tc.loc main_arg4) (ix3 1 ⟨k, hk⟩ ⟨l, hl⟩) := by
  unfold V
  simp only [List.flatten_cons, List.flatten_nil, List.append_nil, hostOps0, hostOps0_1, hostOps0_2, hostOps0_3, hostOps0_4, List.cons_append, List.nil_append]
  after_reads_simp
  refine (scatter_rows (R := 8) (C := 256) (K := 3) (w := 32) scatter_S8x256_S1_S3x256_01_n_0_0 rfl rfl rfl _ _ (fun j => ?_) _ ⟨k, hk⟩ _ _ rfl).trans ?_
  · rfl
  · pointwise

lemma val19 (k l : Nat) (hk : k < 31) (hl : l < 256) : V m c main_v19 (ix2 ⟨k, by omega⟩ ⟨l, hl⟩) = m (c.tc.loc main_arg5) (ix3 1 ⟨k, hk⟩ ⟨l, hl⟩) := by
  unfold V
  simp only [List.flatten_cons, List.flatten_nil, List.append_nil, hostOps0, hostOps0_1, hostOps0_2, hostOps0_3, hostOps0_4, List.cons_append, List.nil_append]
  after_reads_simp
  refine (scatter_rows (R := 32) (C := 256) (K := 31) (w := 32) scatter_S32x256_S1_S31x256_01_n_0_0 rfl rfl rfl _ _ (fun j => ?_) _ ⟨k, hk⟩ _ _ rfl).trans ?_
  · rfl
  · pointwise

/-! ## The blocks a point reads -/

lemma e0 : ∀ t : Fin grid0.N, win0_0.index t = ![t.val, 0] := by decide +kernel
lemma e1 : ∀ t : Fin grid0.N, win0_1.index t = ![16 * t.val - 1, 0] := by decide +kernel
lemma e2 : ∀ t : Fin grid0.N, win0_2.index t = ![0, 0] := by decide +kernel
lemma e3 : ∀ t : Fin grid0.N, win0_3.index t = ![0, 0, 0] := by decide +kernel
lemma e4 : ∀ t : Fin grid0.N, win0_4.index t = ![0, 0] := by decide +kernel
lemma e5 : ∀ t : Fin grid0.N, win0_5.index t = ![0, 0] := by decide +kernel
lemma e6 : ∀ t : Fin grid0.N, win0_6.index t = ![0, 0] := by decide +kernel
lemma e7 : ∀ t : Fin grid0.N, win0_7.index t = ![0, 0] := by decide +kernel
lemma e8 : ∀ t : Fin grid0.N, win0_8.index t = ![0, 0] := by decide +kernel
lemma e9 : ∀ t : Fin grid0.N, win0_9.index t = ![t.val, 0] := by decide +kernel
lemma first_iff : ∀ t : Fin grid0.N, firstTile t = 1#1 ↔ t.val = 0 := by decide +kernel

lemma blk0 (t : Fin cfg0.N) (r l : Nat) (hr : r < 512) (hl : l < 2560) :
    at2 (iblk m c 0 t) r l = at2 (m (c.tc.loc main_arg0)) (512 * t.val + r) l := by
  have ht : t.val < 32 := t.isLt
  rw [at2_of_lt _ hr hl, at2_of_lt _ (by omega) hl]
  blk_simp [iblk]
  rw [V_main_arg0]
  congr 1
  blk_ext [e0]

lemma blk1 (t : Fin cfg0.N) (r l : Nat) (h0 : t.val ≠ 0) (hr : r < 32) (hl : l < 2560) :
    at2 (iblk m c 1 t) r l = at2 (m (c.tc.loc main_arg0)) (512 * t.val + r - 32) l := by
  have ht : t.val < 32 := t.isLt
  rw [at2_of_lt _ hr hl, at2_of_lt _ (by omega) hl]
  blk_simp [iblk]
  rw [V_main_arg0]
  congr 1
  blk_ext [e1]

lemma blk2 (t : Fin cfg0.N) (l : Nat) (hl : l < 256) : at2 (iblk m c 2 t) 0 l = at2 (m (c.tc.loc main_arg1)) 1 l := by
  rw [at2_of_lt _ Nat.one_pos hl, at2_of_lt _ (by omega) hl]
  refine Eq.trans ?_ (val22 m c l hl)
  blk_simp [iblk]
  exact congrArg (V m c main_v22) (by blk_ext [e2])

lemma blk7 (t : Fin cfg0.N) (l : Nat) (hl : l < 256) : at2 (iblk m c 7 t) 0 l = at2 (m (c.tc.loc main_arg6)) 1 l := by
  rw [at2_of_lt _ Nat.one_pos hl, at2_of_lt _ (by omega) hl]
  refine Eq.trans ?_ (val28 m c l hl)
  blk_simp [iblk]
  exact congrArg (V m c main_v28) (by blk_ext [e7])

lemma blk8 (t : Fin cfg0.N) (l : Nat) (hl : l < 256) : at2 (iblk m c 8 t) 0 l = at2 (m (c.tc.loc main_arg7)) 1 l := by
  rw [at2_of_lt _ Nat.one_pos hl, at2_of_lt _ (by omega) hl]
  refine Eq.trans ?_ (val31 m c l hl)
  blk_simp [iblk]
  exact congrArg (V m c main_v31) (by blk_ext [e8])

lemma blk4 (t : Fin cfg0.N) (i l : Nat) (hi : i < 128) (hl : l < 256) :
    at2 (iblk m c 4 t) i l = at3 (m (c.tc.loc main_arg3)) 1 (l / 64) i := by
  rw [at2_of_lt _ hi hl, at3_of_lt _ (by omega) (by omega) hi]
  refine Eq.trans ?_ (val9 m c i l hi hl)
  blk_simp [iblk]
  exact congrArg (V m c main_v9) (by blk_ext [e4])

lemma blk3 (t : Fin cfg0.N) (h i s : Nat) (hh : h < 4) (hi : i < 128) (hs : s < 128) :
    at3 (iblk m c 3 t) h i s = wAt (m (c.tc.loc main_arg2)) h i s := by
  rw [at3_of_lt _ hh hi hs]
  refine Eq.trans ?_ (val23 m c h i s hh hi hs)
  blk_simp [iblk]
  exact congrArg (V m c main_v23) (by blk_ext [e3])

lemma blk5 (t : Fin cfg0.N) (k l : Nat) (hk : k < 3) (hl : l < 256) :
    at2 (iblk m c 5 t) k l = at3 (m (c.tc.loc main_arg4)) 1 k l := by
  rw [at2_of_lt _ (by omega) hl, at3_of_lt _ (by omega) hk hl]
  refine Eq.trans ?_ (val14 m c k l hk hl)
  blk_simp [iblk]
  exact congrArg (V m c main_v14) (by blk_ext [e5])

lemma blk6 (t : Fin cfg0.N) (k l : Nat) (hk : k < 31) (hl : l < 256) :
    at2 (iblk m c 6 t) k l = at3 (m (c.tc.loc main_arg5)) 1 k l := by
  rw [at2_of_lt _ (by omega) hl, at3_of_lt _ (by omega) hk hl]
  refine Eq.trans ?_ (val19 m c k l hk hl)
  blk_simp [iblk]
  exact congrArg (V m c main_v19) (by blk_ext [e6])

/-! ## The array -/

lemma ext_pre (t : Fin cfg0.N) {H T P : Nat → Nat → EReal} {j l : Nat} (hH : t.val ≠ 0 → j < 32 → H j l = P (512 * t.val + j - 32) l)
    (hT : 32 ≤ j → T (j - 32) l = P (512 * t.val + (j - 32)) l) : ext (firstTile t) H T j l = pre P (512 * t.val + j) l := by
  unfold ext pre
  by_cases h : j < 32
  · rw [if_pos h]
    by_cases h0 : t.val = 0
    · rw [if_pos ((first_iff t).mpr h0), if_pos (by omega)]
    · rw [if_neg (fun q => h0 ((first_iff t).mp q)), if_neg (by omega), hH h0 h]
  · rw [if_neg h, if_neg (by omega), hT (by omega)]
    congr 1; omega

lemma prodB_congr {z z' : Nat → Nat → EReal} {r R c : Nat} (hz : ∀ l, l < 2560 → z r l = z' R l) (hc : c < 256) : prodB z r c = prodB z' R c := by
  unfold prodB
  rw [hz _ (by omega), hz _ (by omega)]

lemma prodD_congr {z z' : Nat → Nat → EReal} {r R c : Nat} (hz : ∀ l, l < 2560 → z r l = z' R l) (hc : c < 256) : prodD z r c = prodD z' R c := by
  unfold prodD
  rw [hz _ (by omega), hz _ (by omega)]

lemma vnAt_congr {z z' : Nat → Nat → EReal} {g g' : Nat → EReal} {r R l : Nat} (hz : ∀ l, l < 2560 → z r l = z' R l) (hg : g l = g' l) (hl : l < 256) :
    vnAt z g r l = vnAt z' g' R l := by
  unfold vnAt
  rw [hg]
  exact congrArg (fun a : EReal => a * g' l) (rms_congr (fun k hk => congrArg gelu (hz _ (by omega))) hl)

lemma gate_at {b b' : Nat → Nat → EReal} {w w' : Nat → Nat → Nat → EReal} {v v' : Nat → Nat → EReal} {r T l : Nat} (hl : l < 256)
    (hb : ∀ i, i < 128 → b i l = b' i l) (hw : ∀ h i s, h < 4 → i < 128 → s < 128 → w h i s = w' h i s)
    (hv : ∀ s, s < 128 → v (128 * (r / 128) + s) l = v' (512 * T + (128 * (r / 128) + s)) l) : gate b w v r l = gate b' w' v' (512 * T + r) l := by
  unfold gate
  rw [show (512 * T + r) % 128 = r % 128 by omega]
  refine addc (hb _ (by omega)) (Finset.sum_congr rfl fun s hs => mulc
    (hw _ _ _ (by omega) (by omega) (Finset.mem_range.mp hs)) ((hv s (Finset.mem_range.mp hs)).trans (congrArg (fun q => v' q l) (by omega))))

/-- The array after the run. -/
lemma array9 : (dats m 0 c).arrAt 9 cfg0.N
    = mixOf (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) := by
  refine (dats m 0 c).arrAt_eq_of_covers 9 _ (by decide +kernel) fun t hf y => ?_
  blk_simp
  rw [after0_9]
  have ht : t.val < 32 := t.isLt
  have h0 : (y 0).val < 512 := (y 0).isLt
  have h1 : (y 1).val < 1024 := (y 1).isLt
  refine (out_block c t _ _ _ _ _ _ _ _ _ y).trans ?_
  refine Eq.trans (mixAt_congr (R := 512 * t.val + (y 0).val) (fun l hl => blk0 m c t _ l h0 hl)
    (fun k hk => gate_at hk (fun i hi => blk4 m c t i k hi hk) (fun h i s hh hi hs => blk3 m c t h i s hh hi hs)
      (fun s hs => vnAt_congr (fun l hl => blk0 m c t _ l (by omega) hl) (blk2 m c t k hk) hk))
    (fun k l hk hl => blk5 m c t k l hk hl) (fun k l hk hl => blk6 m c t k l hk hl) (fun l hl => blk7 m c t l hl) (fun l hl => blk8 m c t l hl)
    (fun j l hj hl => (ext_pre t (P := prodB (at2 (m (c.tc.loc main_arg0)))) (fun h hj' => prodB_congr (fun l hl => blk1 m c t _ l h hj' hl) hl)
      (fun hj' => prodB_congr (fun l hl => blk0 m c t _ l (by omega) hl) hl)).trans (congrArg (fun q => pre _ q l) (by omega)))
    (fun j l hj hl => (ext_pre t (P := prodD (at2 (m (c.tc.loc main_arg0)))) (fun h hj' => prodD_congr (fun l hl => blk1 m c t _ l h hj' hl) hl)
      (fun hj' => prodD_congr (fun l hl => blk0 m c t _ l (by omega) hl) hl)).trans (congrArg (fun q => pre _ q l) (by omega))) h1) ?_
  have q0 : 512 * t.val + (y 0).val = ((win0_9.blk t).view.emb y 0).val := by blk_simp [e9]; omega
  have q1 : (y 1).val = ((win0_9.blk t).view.emb y 1).val := by blk_simp [e9]
  rw [q0, q1]
  rfl

end Cert.Proof.MixFwd

end
-- ==== Proof.RefConv.lean ====
module

public import proofs.«01_k».proof.Proof.Gen.ReferenceIdeal.Read
public import proofs.«01_k».proof.Proof.Conv
public import Idealize.ShloMosaic.Lib.KernelVsHost

@[expose] public section

set_option maxRecDepth 16384

noncomputable section

namespace Cert.Proof

open Cert.ReferenceIdeal Cert.ReferenceIdeal.Gen Cert.ReferenceIdeal.Value Cert.ReferenceIdeal.Read Idealize.ShloMosaic Idealize.ShloMosaic.TcCoe Idealize.SL.Sem Idealize.ShloMosaic.Tactic

/-- One tap of the transposed convolution: the weighted cotangent, moved down by `lo` rows and read at row `i 0`. -/
lemma pad_tap {M n : Nat} (lo hi k : Nat) (P x : S16384x256.Idx → EReal) (w : Ar2 n 256) (z : S_.Idx → EReal)
    (hz : ∀ q, z q = 0) (hP : ∀ i : S16384x256.Idx, P i = at2 w k (i 1).val * at2 x (i 0).val (i 1).val)
    (h : S16384x256.Pads ![lo, 0] ![hi, 0] ![0, 0] ⟨2, ![M, 256]⟩) (hu : 0 < S_.numel)
    (i : (⟨2, ![M, 256]⟩ : Shape).Idx) (hk : lo ≤ (i 0).val) :
    pad ⟨2, ![M, 256]⟩ ![lo, 0] ![hi, 0] ![0, 0] P z h hu i = at2 w k (i 1).val * at2 x ((i 0).val - lo) (i 1).val := by
  by_cases hr : (i 0).val - lo < 16384
  · rw [pad_apply_of_inside _ _ _ P z h hu i (ix2 (⟨(i 0).val - lo, hr⟩ : Fin 16384) (⟨(i 1).val, (i 1).isLt⟩ : Fin 256)) (by
      intro a
      match a with
      | ⟨0, _⟩ => show (i 0).val = lo + ((i 0).val - lo) * (0 + 1); omega
      | ⟨1, _⟩ => show (i 1).val = 0 + (i 1).val * (0 + 1); omega), hP]
    rfl
  · rw [pad_apply_of_not_inside _ _ _ P z h hu i 0 (by
      intro q
      have q2 : ((i 0).val - lo) / (0 + 1) < 16384 := q.2.2
      rw [Nat.zero_add, Nat.div_one] at q2
      exact hr q2), hz, at2_of_le x (by omega), mul_zero]

lemma zero_bits : (FloatOps.ofBits (F := Ideal) .f32 0x00000000#32) = 0 := by pointwise

variable (x2 x3 : S16384x256.Idx → EReal) (x7 : S3x256.Idx → EReal) (x8 : S31x256.Idx → EReal)

lemma same_210 (i : S16384x256.Idx) : val_main_v210 (F := Ideal) x3 i = at2 x3 (i 0).val (i 1).val := by
  have h0 : (i 0).val < 16384 := (i 0).isLt
  have h1 : (i 1).val < 256 := (i 1).isLt
  rw [val_main_v210_apply, at2_of_lt _ h0 h1]
  exact congrArg x3 (funext fun a => match a with
    | ⟨0, _⟩ => Fin.ext (show ((i 0).val * 256 + (i 1).val) / 256 = (i 0).val by omega)
    | ⟨1, _⟩ => Fin.ext (show ((i 0).val * 256 + (i 1).val) % 256 = (i 1).val by omega))

lemma same_211 (i : S16384x256.Idx) : val_main_v211 (F := Ideal) x3 i = at2 x3 (i 0).val (i 1).val := by
  have h0 : (i 0).val < 16384 := (i 0).isLt
  have h1 : (i 1).val < 256 := (i 1).isLt
  rw [val_main_v211_apply, at2_of_lt _ h0 h1]
  exact congrArg x3 (funext fun a => match a with
    | ⟨0, _⟩ => Fin.ext (show ((i 0).val * 256 + (i 1).val) / 256 = (i 0).val by omega)
    | ⟨1, _⟩ => Fin.ext (show ((i 0).val * 256 + (i 1).val) % 256 = (i 1).val by omega))

lemma same_340 (i : S16384x256.Idx) : val_main_v340 (F := Ideal) x2 i = at2 x2 (i 0).val (i 1).val := by
  have h0 : (i 0).val < 16384 := (i 0).isLt
  have h1 : (i 1).val < 256 := (i 1).isLt
  rw [val_main_v340_apply, at2_of_lt _ h0 h1]
  exact congrArg x2 (funext fun a => match a with
    | ⟨0, _⟩ => Fin.ext (show ((i 0).val * 256 + (i 1).val) / 256 = (i 0).val by omega)
    | ⟨1, _⟩ => Fin.ext (show ((i 0).val * 256 + (i 1).val) % 256 = (i 1).val by omega))

lemma same_341 (i : S16384x256.Idx) : val_main_v341 (F := Ideal) x2 i = at2 x2 (i 0).val (i 1).val := by
  have h0 : (i 0).val < 16384 := (i 0).isLt
  have h1 : (i 1).val < 256 := (i 1).isLt
  rw [val_main_v341_apply, at2_of_lt _ h0 h1]
  exact congrArg x2 (funext fun a => match a with
    | ⟨0, _⟩ => Fin.ext (show ((i 0).val * 256 + (i 1).val) / 256 = (i 0).val by omega)
    | ⟨1, _⟩ => Fin.ext (show ((i 0).val * 256 + (i 1).val) % 256 = (i 1).val by omega))

lemma tap31_30 (i : S16414x256.Idx) (hi : 30 ≤ (i 0).val) :
    val_main_v214 (F := Ideal) x3 x8 i = at2 x8 30 (i 1).val * at2 x3 ((i 0).val - 30) (i 1).val := by
  unfold val_main_v214
  refine pad_tap 30 0 30 _ x3 x8 _ (fun q => ?_) (fun j => ?_) _ _ i (by omega)
  · rw [val_main_cst_6_apply, zero_bits]
  · rw [val_main_v213_apply, val_main_v212_apply, val_main_v192_apply, same_211, at2_of_lt x8 (by omega : 30 < 31) (j 1).isLt]
    refine congrArg (fun e => x8 e * _) (funext fun a => match a with
      | ⟨0, _⟩ => rfl
      | ⟨1, _⟩ => rfl)

lemma tap31_29 (i : S16414x256.Idx) (hi : 30 ≤ (i 0).val) :
    val_main_v217 (F := Ideal) x3 x8 i = at2 x8 29 (i 1).val * at2 x3 ((i 0).val - 29) (i 1).val := by
  unfold val_main_v217
  refine pad_tap 29 1 29 _ x3 x8 _ (fun q => ?_) (fun j => ?_) _ _ i (by omega)
  · rw [val_main_cst_7_apply, zero_bits]
  · rw [val_main_v216_apply, val_main_v215_apply, val_main_v187_apply, same_210, at2_of_lt x8 (by omega : 29 < 31) (j 1).isLt]
    refine congrArg (fun e => x8 e * _) (funext fun a => match a with
      | ⟨0, _⟩ => rfl
      | ⟨1, _⟩ => rfl)

lemma tap31_28 (i : S16414x256.Idx) (hi : 30 ≤ (i 0).val) :
    val_main_v221 (F := Ideal) x3 x8 i = at2 x8 28 (i 1).val * at2 x3 ((i 0).val - 28) (i 1).val := by
  unfold val_main_v221
  refine pad_tap 28 2 28 _ x3 x8 _ (fun q => ?_) (fun j => ?_) _ _ i (by omega)
  · rw [val_main_cst_8_apply, zero_bits]
  · rw [val_main_v220_apply, val_main_v219_apply, val_main_v182_apply, same_210, at2_of_lt x8 (by omega : 28 < 31) (j 1).isLt]
    refine congrArg (fun e => x8 e * _) (funext fun a => match a with
      | ⟨0, _⟩ => rfl
      | ⟨1, _⟩ => rfl)

lemma tap31_27 (i : S16414x256.Idx) (hi : 30 ≤ (i 0).val) :
    val_main_v225 (F := Ideal) x3 x8 i = at2 x8 27 (i 1).val * at2 x3 ((i 0).val - 27) (i 1).val := by
  unfold val_main_v225
  refine pad_tap 27 3 27 _ x3 x8 _ (fun q => ?_) (fun j => ?_) _ _ i (by omega)
  · rw [val_main_cst_9_apply, zero_bits]
  · rw [val_main_v224_apply, val_main_v223_apply, val_main_v177_apply, same_210, at2_of_lt x8 (by omega : 27 < 31) (j 1).isLt]
    refine congrArg (fun e => x8 e * _) (funext fun a => match a with
      | ⟨0, _⟩ => rfl
      | ⟨1, _⟩ => rfl)

lemma tap31_26 (i : S16414x256.Idx) (hi : 30 ≤ (i 0).val) :
    val_main_v229 (F := Ideal) x3 x8 i = at2 x8 26 (i 1).val * at2 x3 ((i 0).val - 26) (i 1).val := by
  unfold val_main_v229
  refine pad_tap 26 4 26 _ x3 x8 _ (fun q => ?_) (fun j => ?_) _ _ i (by omega)
  · rw [val_main_cst_10_apply, zero_bits]
  · rw [val_main_v228_apply, val_main_v227_apply, val_main_v172_apply, same_210, at2_of_lt x8 (by omega : 26 < 31) (j 1).isLt]
    refine congrArg (fun e => x8 e * _) (funext fun a => match a with
      | ⟨0, _⟩ => rfl
      | ⟨1, _⟩ => rfl)

lemma tap31_25 (i : S16414x256.Idx) (hi : 30 ≤ (i 0).val) :
    val_main_v233 (F := Ideal) x3 x8 i = at2 x8 25 (i 1).val * at2 x3 ((i 0).val - 25) (i 1).val := by
  unfold val_main_v233
  refine pad_tap 25 5 25 _ x3 x8 _ (fun q => ?_) (fun j => ?_) _ _ i (by omega)
  · rw [val_main_cst_11_apply, zero_bits]
  · rw [val_main_v232_apply, val_main_v231_apply, val_main_v167_apply, same_210, at2_of_lt x8 (by omega : 25 < 31) (j 1).isLt]
    refine congrArg (fun e => x8 e * _) (funext fun a => match a with
      | ⟨0, _⟩ => rfl
      | ⟨1, _⟩ => rfl)

lemma tap31_24 (i : S16414x256.Idx) (hi : 30 ≤ (i 0).val) :
    val_main_v237 (F := Ideal) x3 x8 i = at2 x8 24 (i 1).val * at2 x3 ((i 0).val - 24) (i 1).val := by
  unfold val_main_v237
  refine pad_tap 24 6 24 _ x3 x8 _ (fun q => ?_) (fun j => ?_) _ _ i (by omega)
  · rw [val_main_cst_12_apply, zero_bits]
  · rw [val_main_v236_apply, val_main_v235_apply, val_main_v162_apply, same_210, at2_of_lt x8 (by omega : 24 < 31) (j 1).isLt]
    refine congrArg (fun e => x8 e * _) (funext fun a => match a with
      | ⟨0, _⟩ => rfl
      | ⟨1, _⟩ => rfl)

lemma tap31_23 (i : S16414x256.Idx) (hi : 30 ≤ (i 0).val) :
    val_main_v241 (F := Ideal) x3 x8 i = at2 x8 23 (i 1).val * at2 x3 ((i 0).val - 23) (i 1).val := by
  unfold val_main_v241
  refine pad_tap 23 7 23 _ x3 x8 _ (fun q => ?_) (fun j => ?_) _ _ i (by omega)
  · rw [val_main_cst_13_apply, zero_bits]
  · rw [val_main_v240_apply, val_main_v239_apply, val_main_v157_apply, same_210, at2_of_lt x8 (by omega : 23 < 31) (j 1).isLt]
    refine congrArg (fun e => x8 e * _) (funext fun a => match a with
      | ⟨0, _⟩ => rfl
      | ⟨1, _⟩ => rfl)

lemma tap31_22 (i : S16414x256.Idx) (hi : 30 ≤ (i 0).val) :
    val_main_v245 (F := Ideal) x3 x8 i = at2 x8 22 (i 1).val * at2 x3 ((i 0).val - 22) (i 1).val := by
  unfold val_main_v245
  refine pad_tap 22 8 22 _ x3 x8 _ (fun q => ?_) (fun j => ?_) _ _ i (by omega)
  · rw [val_main_cst_14_apply, zero_bits]
  · rw [val_main_v244_apply, val_main_v243_apply, val_main_v152_apply, same_210, at2_of_lt x8 (by omega : 22 < 31) (j 1).isLt]
    refine congrArg (fun e => x8 e * _) (funext fun a => match a with
      | ⟨0, _⟩ => rfl
      | ⟨1, _⟩ => rfl)

lemma tap31_21 (i : S16414x256.Idx) (hi : 30 ≤ (i 0).val) :
    val_main_v249 (F := Ideal) x3 x8 i = at2 x8 21 (i 1).val * at2 x3 ((i 0).val - 21) (i 1).val := by
  unfold val_main_v249
  refine pad_tap 21 9 21 _ x3 x8 _ (fun q => ?_) (fun j => ?_) _ _ i (by omega)
  · rw [val_main_cst_15_apply, zero_bits]
  · rw [val_main_v248_apply, val_main_v247_apply, val_main_v147_apply, same_210, at2_of_lt x8 (by omega : 21 < 31) (j 1).isLt]
    refine congrArg (fun e => x8 e * _) (funext fun a => match a with
      | ⟨0, _⟩ => rfl
      | ⟨1, _⟩ => rfl)

lemma tap31_20 (i : S16414x256.Idx) (hi : 30 ≤ (i 0).val) :
    val_main_v253 (F := Ideal) x3 x8 i = at2 x8 20 (i 1).val * at2 x3 ((i 0).val - 20) (i 1).val := by
  unfold val_main_v253
  refine pad_tap 20 10 20 _ x3 x8 _ (fun q => ?_) (fun j => ?_) _ _ i (by omega)
  · rw [val_main_cst_16_apply, zero_bits]
  · rw [val_main_v252_apply, val_main_v251_apply, val_main_v142_apply, same_210, at2_of_lt x8 (by omega : 20 < 31) (j 1).isLt]
    refine congrArg (fun e => x8 e * _) (funext fun a => match a with
      | ⟨0, _⟩ => rfl
      | ⟨1, _⟩ => rfl)

lemma tap31_19 (i : S16414x256.Idx) (hi : 30 ≤ (i 0).val) :
    val_main_v257 (F := Ideal) x3 x8 i = at2 x8 19 (i 1).val * at2 x3 ((i 0).val - 19) (i 1).val := by
  unfold val_main_v257
  refine pad_tap 19 11 19 _ x3 x8 _ (fun q => ?_) (fun j => ?_) _ _ i (by omega)
  · rw [val_main_cst_17_apply, zero_bits]
  · rw [val_main_v256_apply, val_main_v255_apply, val_main_v137_apply, same_210, at2_of_lt x8 (by omega : 19 < 31) (j 1).isLt]
    refine congrArg (fun e => x8 e * _) (funext fun a => match a with
      | ⟨0, _⟩ => rfl
      | ⟨1, _⟩ => rfl)

lemma tap31_18 (i : S16414x256.Idx) (hi : 30 ≤ (i 0).val) :
    val_main_v261 (F := Ideal) x3 x8 i = at2 x8 18 (i 1).val * at2 x3 ((i 0).val - 18) (i 1).val := by
  unfold val_main_v261
  refine pad_tap 18 12 18 _ x3 x8 _ (fun q => ?_) (fun j => ?_) _ _ i (by omega)
  · rw [val_main_cst_18_apply, zero_bits]
  · rw [val_main_v260_apply, val_main_v259_apply, val_main_v132_apply, same_210, at2_of_lt x8 (by omega : 18 < 31) (j 1).isLt]
    refine congrArg (fun e => x8 e * _) (funext fun a => match a with
      | ⟨0, _⟩ => rfl
      | ⟨1, _⟩ => rfl)

lemma tap31_17 (i : S16414x256.Idx) (hi : 30 ≤ (i 0).val) :
    val_main_v265 (F := Ideal) x3 x8 i = at2 x8 17 (i 1).val * at2 x3 ((i 0).val - 17) (i 1).val := by
  unfold val_main_v265
  refine pad_tap 17 13 17 _ x3 x8 _ (fun q => ?_) (fun j => ?_) _ _ i (by omega)
  · rw [val_main_cst_19_apply, zero_bits]
  · rw [val_main_v264_apply, val_main_v263_apply, val_main_v127_apply, same_210, at2_of_lt x8 (by omega : 17 < 31) (j 1).isLt]
    refine congrArg (fun e => x8 e * _) (funext fun a => match a with
      | ⟨0, _⟩ => rfl
      | ⟨1, _⟩ => rfl)

lemma tap31_16 (i : S16414x256.Idx) (hi : 30 ≤ (i 0).val) :
    val_main_v269 (F := Ideal) x3 x8 i = at2 x8 16 (i 1).val * at2 x3 ((i 0).val - 16) (i 1).val := by
  unfold val_main_v269
  refine pad_tap 16 14 16 _ x3 x8 _ (fun q => ?_) (fun j => ?_) _ _ i (by omega)
  · rw [val_main_cst_20_apply, zero_bits]
  · rw [val_main_v268_apply, val_main_v267_apply, val_main_v122_apply, same_210, at2_of_lt x8 (by omega : 16 < 31) (j 1).isLt]
    refine congrArg (fun e => x8 e * _) (funext fun a => match a with
      | ⟨0, _⟩ => rfl
      | ⟨1, _⟩ => rfl)

lemma tap31_15 (i : S16414x256.Idx) (hi : 30 ≤ (i 0).val) :
    val_main_v273 (F := Ideal) x3 x8 i = at2 x8 15 (i 1).val * at2 x3 ((i 0).val - 15) (i 1).val := by
  unfold val_main_v273
  refine pad_tap 15 15 15 _ x3 x8 _ (fun q => ?_) (fun j => ?_) _ _ i (by omega)
  · rw [val_main_cst_21_apply, zero_bits]
  · rw [val_main_v272_apply, val_main_v271_apply, val_main_v117_apply, same_210, at2_of_lt x8 (by omega : 15 < 31) (j 1).isLt]
    refine congrArg (fun e => x8 e * _) (funext fun a => match a with
      | ⟨0, _⟩ => rfl
      | ⟨1, _⟩ => rfl)

lemma tap31_14 (i : S16414x256.Idx) (hi : 30 ≤ (i 0).val) :
    val_main_v277 (F := Ideal) x3 x8 i = at2 x8 14 (i 1).val * at2 x3 ((i 0).val - 14) (i 1).val := by
  unfold val_main_v277
  refine pad_tap 14 16 14 _ x3 x8 _ (fun q => ?_) (fun j => ?_) _ _ i (by omega)
  · rw [val_main_cst_22_apply, zero_bits]
  · rw [val_main_v276_apply, val_main_v275_apply, val_main_v112_apply, same_210, at2_of_lt x8 (by omega : 14 < 31) (j 1).isLt]
    refine congrArg (fun e => x8 e * _) (funext fun a => match a with
      | ⟨0, _⟩ => rfl
      | ⟨1, _⟩ => rfl)

lemma tap31_13 (i : S16414x256.Idx) (hi : 30 ≤ (i 0).val) :
    val_main_v281 (F := Ideal) x3 x8 i = at2 x8 13 (i 1).val * at2 x3 ((i 0).val - 13) (i 1).val := by
  unfold val_main_v281
  refine pad_tap 13 17 13 _ x3 x8 _ (fun q => ?_) (fun j => ?_) _ _ i (by omega)
  · rw [val_main_cst_23_apply, zero_bits]
  · rw [val_main_v280_apply, val_main_v279_apply, val_main_v107_apply, same_210, at2_of_lt x8 (by omega : 13 < 31) (j 1).isLt]
    refine congrArg (fun e => x8 e * _) (funext fun a => match a with
      | ⟨0, _⟩ => rfl
      | ⟨1, _⟩ => rfl)

lemma tap31_12 (i : S16414x256.Idx) (hi : 30 ≤ (i 0).val) :
    val_main_v285 (F := Ideal) x3 x8 i = at2 x8 12 (i 1).val * at2 x3 ((i 0).val - 12) (i 1).val := by
  unfold val_main_v285
  refine pad_tap 12 18 12 _ x3 x8 _ (fun q => ?_) (fun j => ?_) _ _ i (by omega)
  · rw [val_main_cst_24_apply, zero_bits]
  · rw [val_main_v284_apply, val_main_v283_apply, val_main_v102_apply, same_210, at2_of_lt x8 (by omega : 12 < 31) (j 1).isLt]
    refine congrArg (fun e => x8 e * _) (funext fun a => match a with
      | ⟨0, _⟩ => rfl
      | ⟨1, _⟩ => rfl)

lemma tap31_11 (i : S16414x256.Idx) (hi : 30 ≤ (i 0).val) :
    val_main_v289 (F := Ideal) x3 x8 i = at2 x8 11 (i 1).val * at2 x3 ((i 0).val - 11) (i 1).val := by
  unfold val_main_v289
  refine pad_tap 11 19 11 _ x3 x8 _ (fun q => ?_) (fun j => ?_) _ _ i (by omega)
  · rw [val_main_cst_25_apply, zero_bits]
  · rw [val_main_v288_apply, val_main_v287_apply, val_main_v97_apply, same_210, at2_of_lt x8 (by omega : 11 < 31) (j 1).isLt]
    refine congrArg (fun e => x8 e * _) (funext fun a => match a with
      | ⟨0, _⟩ => rfl
      | ⟨1, _⟩ => rfl)

lemma tap31_10 (i : S16414x256.Idx) (hi : 30 ≤ (i 0).val) :
    val_main_v293 (F := Ideal) x3 x8 i = at2 x8 10 (i 1).val * at2 x3 ((i 0).val - 10) (i 1).val := by
  unfold val_main_v293
  refine pad_tap 10 20 10 _ x3 x8 _ (fun q => ?_) (fun j => ?_) _ _ i (by omega)
  · rw [val_main_cst_26_apply, zero_bits]
  · rw [val_main_v292_apply, val_main_v291_apply, val_main_v92_apply, same_210, at2_of_lt x8 (by omega : 10 < 31) (j 1).isLt]
    refine congrArg (fun e => x8 e * _) (funext fun a => match a with
      | ⟨0, _⟩ => rfl
      | ⟨1, _⟩ => rfl)

lemma tap31_9 (i : S16414x256.Idx) (hi : 30 ≤ (i 0).val) :
    val_main_v297 (F := Ideal) x3 x8 i = at2 x8 9 (i 1).val * at2 x3 ((i 0).val - 9) (i 1).val := by
  unfold val_main_v297
  refine pad_tap 9 21 9 _ x3 x8 _ (fun q => ?_) (fun j => ?_) _ _ i (by omega)
  · rw [val_main_cst_27_apply, zero_bits]
  · rw [val_main_v296_apply, val_main_v295_apply, val_main_v87_apply, same_210, at2_of_lt x8 (by omega : 9 < 31) (j 1).isLt]
    refine congrArg (fun e => x8 e * _) (funext fun a => match a with
      | ⟨0, _⟩ => rfl
      | ⟨1, _⟩ => rfl)

lemma tap31_8 (i : S16414x256.Idx) (hi : 30 ≤ (i 0).val) :
    val_main_v301 (F := Ideal) x3 x8 i = at2 x8 8 (i 1).val * at2 x3 ((i 0).val - 8) (i 1).val := by
  unfold val_main_v301
  refine pad_tap 8 22 8 _ x3 x8 _ (fun q => ?_) (fun j => ?_) _ _ i (by omega)
  · rw [val_main_cst_28_apply, zero_bits]
  · rw [val_main_v300_apply, val_main_v299_apply, val_main_v82_apply, same_210, at2_of_lt x8 (by omega : 8 < 31) (j 1).isLt]
    refine congrArg (fun e => x8 e * _) (funext fun a => match a with
      | ⟨0, _⟩ => rfl
      | ⟨1, _⟩ => rfl)

lemma tap31_7 (i : S16414x256.Idx) (hi : 30 ≤ (i 0).val) :
    val_main_v305 (F := Ideal) x3 x8 i = at2 x8 7 (i 1).val * at2 x3 ((i 0).val - 7) (i 1).val := by
  unfold val_main_v305
  refine pad_tap 7 23 7 _ x3 x8 _ (fun q => ?_) (fun j => ?_) _ _ i (by omega)
  · rw [val_main_cst_29_apply, zero_bits]
  · rw [val_main_v304_apply, val_main_v303_apply, val_main_v77_apply, same_210, at2_of_lt x8 (by omega : 7 < 31) (j 1).isLt]
    refine congrArg (fun e => x8 e * _) (funext fun a => match a with
      | ⟨0, _⟩ => rfl
      | ⟨1, _⟩ => rfl)

lemma tap31_6 (i : S16414x256.Idx) (hi : 30 ≤ (i 0).val) :
    val_main_v309 (F := Ideal) x3 x8 i = at2 x8 6 (i 1).val * at2 x3 ((i 0).val - 6) (i 1).val := by
  unfold val_main_v309
  refine pad_tap 6 24 6 _ x3 x8 _ (fun q => ?_) (fun j => ?_) _ _ i (by omega)
  · rw [val_main_cst_30_apply, zero_bits]
  · rw [val_main_v308_apply, val_main_v307_apply, val_main_v72_apply, same_210, at2_of_lt x8 (by omega : 6 < 31) (j 1).isLt]
    refine congrArg (fun e => x8 e * _) (funext fun a => match a with
      | ⟨0, _⟩ => rfl
      | ⟨1, _⟩ => rfl)

lemma tap31_5 (i : S16414x256.Idx) (hi : 30 ≤ (i 0).val) :
    val_main_v313 (F := Ideal) x3 x8 i = at2 x8 5 (i 1).val * at2 x3 ((i 0).val - 5) (i 1).val := by
  unfold val_main_v313
  refine pad_tap 5 25 5 _ x3 x8 _ (fun q => ?_) (fun j => ?_) _ _ i (by omega)
  · rw [val_main_cst_31_apply, zero_bits]
  · rw [val_main_v312_apply, val_main_v311_apply, val_main_v67_apply, same_210, at2_of_lt x8 (by omega : 5 < 31) (j 1).isLt]
    refine congrArg (fun e => x8 e * _) (funext fun a => match a with
      | ⟨0, _⟩ => rfl
      | ⟨1, _⟩ => rfl)

lemma tap31_4 (i : S16414x256.Idx) (hi : 30 ≤ (i 0).val) :
    val_main_v317 (F := Ideal) x3 x8 i = at2 x8 4 (i 1).val * at2 x3 ((i 0).val - 4) (i 1).val := by
  unfold val_main_v317
  refine pad_tap 4 26 4 _ x3 x8 _ (fun q => ?_) (fun j => ?_) _ _ i (by omega)
  · rw [val_main_cst_32_apply, zero_bits]
  · rw [val_main_v316_apply, val_main_v315_apply, val_main_v62_apply, same_210, at2_of_lt x8 (by omega : 4 < 31) (j 1).isLt]
    refine congrArg (fun e => x8 e * _) (funext fun a => match a with
      | ⟨0, _⟩ => rfl
      | ⟨1, _⟩ => rfl)

lemma tap31_3 (i : S16414x256.Idx) (hi : 30 ≤ (i 0).val) :
    val_main_v321 (F := Ideal) x3 x8 i = at2 x8 3 (i 1).val * at2 x3 ((i 0).val - 3) (i 1).val := by
  unfold val_main_v321
  refine pad_tap 3 27 3 _ x3 x8 _ (fun q => ?_) (fun j => ?_) _ _ i (by omega)
  · rw [val_main_cst_33_apply, zero_bits]
  · rw [val_main_v320_apply, val_main_v319_apply, val_main_v57_apply, same_210, at2_of_lt x8 (by omega : 3 < 31) (j 1).isLt]
    refine congrArg (fun e => x8 e * _) (funext fun a => match a with
      | ⟨0, _⟩ => rfl
      | ⟨1, _⟩ => rfl)

lemma tap31_2 (i : S16414x256.Idx) (hi : 30 ≤ (i 0).val) :
    val_main_v325 (F := Ideal) x3 x8 i = at2 x8 2 (i 1).val * at2 x3 ((i 0).val - 2) (i 1).val := by
  unfold val_main_v325
  refine pad_tap 2 28 2 _ x3 x8 _ (fun q => ?_) (fun j => ?_) _ _ i (by omega)
  · rw [val_main_cst_34_apply, zero_bits]
  · rw [val_main_v324_apply, val_main_v323_apply, val_main_v52_apply, same_210, at2_of_lt x8 (by omega : 2 < 31) (j 1).isLt]
    refine congrArg (fun e => x8 e * _) (funext fun a => match a with
      | ⟨0, _⟩ => rfl
      | ⟨1, _⟩ => rfl)

lemma tap31_1 (i : S16414x256.Idx) (hi : 30 ≤ (i 0).val) :
    val_main_v329 (F := Ideal) x3 x8 i = at2 x8 1 (i 1).val * at2 x3 ((i 0).val - 1) (i 1).val := by
  unfold val_main_v329
  refine pad_tap 1 29 1 _ x3 x8 _ (fun q => ?_) (fun j => ?_) _ _ i (by omega)
  · rw [val_main_cst_35_apply, zero_bits]
  · rw [val_main_v328_apply, val_main_v327_apply, val_main_v47_apply, same_210, at2_of_lt x8 (by omega : 1 < 31) (j 1).isLt]
    refine congrArg (fun e => x8 e * _) (funext fun a => match a with
      | ⟨0, _⟩ => rfl
      | ⟨1, _⟩ => rfl)

lemma tap31_0 (i : S16414x256.Idx) (hi : 30 ≤ (i 0).val) :
    val_main_v333 (F := Ideal) x3 x8 i = at2 x8 0 (i 1).val * at2 x3 ((i 0).val - 0) (i 1).val := by
  unfold val_main_v333
  refine pad_tap 0 30 0 _ x3 x8 _ (fun q => ?_) (fun j => ?_) _ _ i (by omega)
  · rw [val_main_cst_36_apply, zero_bits]
  · rw [val_main_v332_apply, val_main_v331_apply, val_main_v43_apply, same_210, at2_of_lt x8 (by omega : 0 < 31) (j 1).isLt]
    refine congrArg (fun e => x8 e * _) (funext fun a => match a with
      | ⟨0, _⟩ => rfl
      | ⟨1, _⟩ => rfl)

lemma tap3_2 (i : S16386x256.Idx) (hi : 2 ≤ (i 0).val) :
    val_main_v344 (F := Ideal) x2 x7 i = at2 x7 2 (i 1).val * at2 x2 ((i 0).val - 2) (i 1).val := by
  unfold val_main_v344
  refine pad_tap 2 0 2 _ x2 x7 _ (fun q => ?_) (fun j => ?_) _ _ i (by omega)
  · rw [val_main_cst_37_apply, zero_bits]
  · rw [val_main_v343_apply, val_main_v342_apply, val_main_v25_apply, same_341, at2_of_lt x7 (by omega : 2 < 3) (j 1).isLt]
    refine congrArg (fun e => x7 e * _) (funext fun a => match a with
      | ⟨0, _⟩ => rfl
      | ⟨1, _⟩ => rfl)

lemma tap3_1 (i : S16386x256.Idx) (hi : 2 ≤ (i 0).val) :
    val_main_v347 (F := Ideal) x2 x7 i = at2 x7 1 (i 1).val * at2 x2 ((i 0).val - 1) (i 1).val := by
  unfold val_main_v347
  refine pad_tap 1 1 1 _ x2 x7 _ (fun q => ?_) (fun j => ?_) _ _ i (by omega)
  · rw [val_main_cst_38_apply, zero_bits]
  · rw [val_main_v346_apply, val_main_v345_apply, val_main_v20_apply, same_340, at2_of_lt x7 (by omega : 1 < 3) (j 1).isLt]
    refine congrArg (fun e => x7 e * _) (funext fun a => match a with
      | ⟨0, _⟩ => rfl
      | ⟨1, _⟩ => rfl)

lemma tap3_0 (i : S16386x256.Idx) (hi : 2 ≤ (i 0).val) :
    val_main_v351 (F := Ideal) x2 x7 i = at2 x7 0 (i 1).val * at2 x2 ((i 0).val - 0) (i 1).val := by
  unfold val_main_v351
  refine pad_tap 0 2 0 _ x2 x7 _ (fun q => ?_) (fun j => ?_) _ _ i (by omega)
  · rw [val_main_cst_39_apply, zero_bits]
  · rw [val_main_v350_apply, val_main_v349_apply, val_main_v16_apply, same_340, at2_of_lt x7 (by omega : 0 < 3) (j 1).isLt]
    refine congrArg (fun e => x7 e * _) (funext fun a => match a with
      | ⟨0, _⟩ => rfl
      | ⟨1, _⟩ => rfl)

/-- The transposed convolution of 31 taps, at a row past the padding. -/
lemma sum_334 (i : S16414x256.Idx) (hi : 30 ≤ (i 0).val) :
    val_main_v334 (F := Ideal) x3 x8 i = convT 31 (fun k => at2 x8 k (i 1).val) (fun r => at2 x3 r (i 1).val) ((i 0).val - 30) := by
  obtain ⟨s, hs⟩ : ∃ s, (i 0).val = 30 + s := ⟨(i 0).val - 30, by omega⟩
  have e : ∀ k < 31, 30 + s - k = 30 - k + s := fun k hk => by omega
  rw [hs, Nat.add_sub_cancel_left, val_main_v334_apply, val_main_v330_apply, val_main_v326_apply, val_main_v322_apply, val_main_v318_apply, val_main_v314_apply, val_main_v310_apply, val_main_v306_apply, val_main_v302_apply, val_main_v298_apply, val_main_v294_apply, val_main_v290_apply, val_main_v286_apply, val_main_v282_apply, val_main_v278_apply, val_main_v274_apply, val_main_v270_apply, val_main_v266_apply, val_main_v262_apply, val_main_v258_apply, val_main_v254_apply, val_main_v250_apply, val_main_v246_apply, val_main_v242_apply, val_main_v238_apply, val_main_v234_apply, val_main_v230_apply, val_main_v226_apply, val_main_v222_apply, val_main_v218_apply, tap31_30 _ _ i hi, tap31_29 _ _ i hi, tap31_28 _ _ i hi, tap31_27 _ _ i hi, tap31_26 _ _ i hi, tap31_25 _ _ i hi, tap31_24 _ _ i hi, tap31_23 _ _ i hi, tap31_22 _ _ i hi, tap31_21 _ _ i hi, tap31_20 _ _ i hi, tap31_19 _ _ i hi, tap31_18 _ _ i hi, tap31_17 _ _ i hi, tap31_16 _ _ i hi, tap31_15 _ _ i hi, tap31_14 _ _ i hi, tap31_13 _ _ i hi, tap31_12 _ _ i hi, tap31_11 _ _ i hi, tap31_10 _ _ i hi, tap31_9 _ _ i hi, tap31_8 _ _ i hi, tap31_7 _ _ i hi, tap31_6 _ _ i hi, tap31_5 _ _ i hi, tap31_4 _ _ i hi, tap31_3 _ _ i hi, tap31_2 _ _ i hi, tap31_1 _ _ i hi, tap31_0 _ _ i hi,
    hs, e 0 (by omega), e 1 (by omega), e 2 (by omega), e 3 (by omega), e 4 (by omega), e 5 (by omega), e 6 (by omega), e 7 (by omega), e 8 (by omega), e 9 (by omega), e 10 (by omega), e 11 (by omega), e 12 (by omega), e 13 (by omega), e 14 (by omega), e 15 (by omega), e 16 (by omega), e 17 (by omega), e 18 (by omega), e 19 (by omega), e 20 (by omega), e 21 (by omega), e 22 (by omega), e 23 (by omega), e 24 (by omega), e 25 (by omega), e 26 (by omega), e 27 (by omega), e 28 (by omega), e 29 (by omega), e 30 (by omega)]
  unfold convT
  rw [Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_succ', Finset.sum_range_zero, zero_add]
  rfl

lemma conv_336 (i : S16384x256.Idx) :
    val_main_v336 (F := Ideal) x3 x8 i = convT 31 (fun k => at2 x8 k (i 1).val) (fun r => at2 x3 r (i 1).val) (i 0).val := by
  rw [val_main_v336_apply, sum_334 _ _ _ (by show 30 ≤ 30 + (i 0).val; omega)]
  exact congrArg (convT 31 _ _) (show 30 + (i 0).val - 30 = (i 0).val by omega)

/-- The transposed convolution of 3 taps, at a row past the padding. -/
lemma sum_352 (i : S16386x256.Idx) (hi : 2 ≤ (i 0).val) :
    val_main_v352 (F := Ideal) x2 x7 i = convT 3 (fun k => at2 x7 k (i 1).val) (fun r => at2 x2 r (i 1).val) ((i 0).val - 2) := by
  obtain ⟨s, hs⟩ : ∃ s, (i 0).val = 2 + s := ⟨(i 0).val - 2, by omega⟩
  have e : ∀ k < 3, 2 + s - k = 2 - k + s := fun k hk => by omega
  rw [hs, Nat.add_sub_cancel_left, val_main_v352_apply, val_main_v348_apply, tap3_2 _ _ i hi, tap3_1 _ _ i hi, tap3_0 _ _ i hi,
    hs, e 0 (by omega), e 1 (by omega), e 2 (by omega)]
  unfold convT
  rw [Finset.sum_range_succ', Finset.sum_range_succ', Finset.sum_range_succ', Finset.sum_range_zero, zero_add]
  rfl

lemma conv_354 (i : S16384x256.Idx) :
    val_main_v354 (F := Ideal) x2 x7 i = convT 3 (fun k => at2 x7 k (i 1).val) (fun r => at2 x2 r (i 1).val) (i 0).val := by
  rw [val_main_v354_apply, sum_352 _ _ _ (by show 2 ≤ 2 + (i 0).val; omega)]
  exact congrArg (convT 3 _ _) (show 2 + (i 0).val - 2 = (i 0).val by omega)

end Cert.Proof
-- ==== Proof.RefValue.lean ====
module

public import proofs.«01_k».proof.Proof.RefConv

@[expose] public section

set_option maxRecDepth 16384

noncomputable section

namespace Cert.Proof

open Cert.ReferenceIdeal Cert.ReferenceIdeal.Gen Cert.ReferenceIdeal.Value Cert.ReferenceIdeal.Read Idealize.ShloMosaic Idealize.ShloMosaic.TcCoe Idealize.SL.Sem Idealize.ShloMosaic.Tactic

/-- Matrices side by side, read in the columns of one of them. -/
lemma cat_piece {R C C₁ : Nat} (xs : List ((s : Shape) × (s.Idx → EReal))) (h : Shape.Concatenates (xs.map (·.1)) ⟨2, ![R, C]⟩ 1)
    (k pre : Nat) (hk : k < xs.length) (x : (⟨2, ![R, C₁]⟩ : Shape).Idx → EReal) (hx : xs[k] = ⟨⟨2, ![R, C₁]⟩, x⟩)
    (hpre : (((xs.take k).map (·.1)).map fun s => if h : s.rank = (⟨2, ![R, C]⟩ : Shape).rank then s.size ((1 : Fin 2).cast h.symm) else 0).sum = pre)
    (s : Fin R) (l : Fin C) (h0 : pre ≤ l.val) (h1 : l.val - pre < C₁) :
    concatenate ⟨2, ![R, C]⟩ 1 xs h (ix2 s l) = x (ix2 s ⟨l.val - pre, h1⟩) := by
  refine concatenate_apply_piece 1 xs h _ k hk _ x hx rfl pre hpre _ (fun b hb => ?_) ?_
  · match b with
    | ⟨0, _⟩ => rfl
    | ⟨1, _⟩ => exact absurd rfl hb
  · show pre + (l.val - pre) = l.val
    omega

lemma one_bits : (FloatOps.ofBits (F := Ideal) .f32 0x3F800000#32) = 1 := by pointwise

variable (x0 : S16384x2560.Idx → EReal) (x1 : S16384x768.Idx → EReal) (x2 x3 : S16384x256.Idx → EReal) (x4 x5 x6 : S4x64x16384.Idx → EReal)
  (x7 : S3x256.Idx → EReal) (x8 : S31x256.Idx → EReal)

lemma col_5 (i : S16384x256.Idx) : val_main_v5 (F := Ideal) x0 i = at2 x0 (i 0).val (768 + (i 1).val) := by
  have h0 : (i 0).val < 16384 := (i 0).isLt
  have h1 : (i 1).val < 256 := (i 1).isLt
  rw [val_main_v5_apply, val_main_v2_apply, val_main_v0_apply, at2_of_lt _ h0 (by omega)]
  refine congrArg x0 (funext fun a => match a with
    | ⟨0, _⟩ => Fin.ext ?_
    | ⟨1, _⟩ => Fin.ext ?_)
  · show _ = (i 0).val
    simp only [Nat.zero_add]
  · show _ = 768 + (i 1).val
    dsimp only <;> omega

lemma col_6 (i : S16384x256.Idx) : val_main_v6 (F := Ideal) x0 i = at2 x0 (i 0).val (1024 + (i 1).val) := by
  have h0 : (i 0).val < 16384 := (i 0).isLt
  have h1 : (i 1).val < 256 := (i 1).isLt
  rw [val_main_v6_apply, val_main_v2_apply, val_main_v0_apply, at2_of_lt _ h0 (by omega)]
  refine congrArg x0 (funext fun a => match a with
    | ⟨0, _⟩ => Fin.ext ?_
    | ⟨1, _⟩ => Fin.ext ?_)
  · show _ = (i 0).val
    simp only [Nat.zero_add]
  · show _ = 1024 + (i 1).val
    dsimp only <;> omega

lemma col_10 (i : S16384x256.Idx) : val_main_v10 (F := Ideal) x0 i = at2 x0 (i 0).val (2048 + (i 1).val) := by
  have h0 : (i 0).val < 16384 := (i 0).isLt
  have h1 : (i 1).val < 256 := (i 1).isLt
  rw [val_main_v10_apply, val_main_v4_apply, val_main_v0_apply, at2_of_lt _ h0 (by omega)]
  refine congrArg x0 (funext fun a => match a with
    | ⟨0, _⟩ => Fin.ext ?_
    | ⟨1, _⟩ => Fin.ext ?_)
  · show _ = (i 0).val
    simp only [Nat.zero_add]
  · show _ = 2048 + (i 1).val
    dsimp only <;> omega

lemma col_11 (i : S16384x256.Idx) : val_main_v11 (F := Ideal) x0 i = at2 x0 (i 0).val (2304 + (i 1).val) := by
  have h0 : (i 0).val < 16384 := (i 0).isLt
  have h1 : (i 1).val < 256 := (i 1).isLt
  rw [val_main_v11_apply, val_main_v4_apply, val_main_v0_apply, at2_of_lt _ h0 (by omega)]
  refine congrArg x0 (funext fun a => match a with
    | ⟨0, _⟩ => Fin.ext ?_
    | ⟨1, _⟩ => Fin.ext ?_)
  · show _ = (i 0).val
    simp only [Nat.zero_add]
  · show _ = 2304 + (i 1).val
    dsimp only <;> omega

lemma heads_209 (i : S16384x256.Idx) : val_main_v209 (F := Ideal) x4 i = at3 x4 ((i 1).val / 64) ((i 1).val % 64) (i 0).val := by
  have h0 : (i 0).val < 16384 := (i 0).isLt
  have h1 : (i 1).val < 256 := (i 1).isLt
  rw [val_main_v209_apply, val_main_v208_apply, at3_of_lt _ (by omega : (i 1).val / 64 < 4) (by omega : (i 1).val % 64 < 64) h0]
  exact congrArg x4 (funext fun a => match a with
    | ⟨0, _⟩ => Fin.ext (show ((i 0).val * 256 + (i 1).val) / 64 % 4 = (i 1).val / 64 by omega)
    | ⟨1, _⟩ => Fin.ext (show ((i 0).val * 256 + (i 1).val) % 64 = (i 1).val % 64 by omega)
    | ⟨2, _⟩ => Fin.ext (show ((i 0).val * 256 + (i 1).val) / 256 = (i 0).val by omega))

lemma heads_207 (i : S16384x256.Idx) : val_main_v207 (F := Ideal) x5 i = at3 x5 ((i 1).val / 64) ((i 1).val % 64) (i 0).val := by
  have h0 : (i 0).val < 16384 := (i 0).isLt
  have h1 : (i 1).val < 256 := (i 1).isLt
  rw [val_main_v207_apply, val_main_v206_apply, at3_of_lt _ (by omega : (i 1).val / 64 < 4) (by omega : (i 1).val % 64 < 64) h0]
  exact congrArg x5 (funext fun a => match a with
    | ⟨0, _⟩ => Fin.ext (show ((i 0).val * 256 + (i 1).val) / 64 % 4 = (i 1).val / 64 by omega)
    | ⟨1, _⟩ => Fin.ext (show ((i 0).val * 256 + (i 1).val) % 64 = (i 1).val % 64 by omega)
    | ⟨2, _⟩ => Fin.ext (show ((i 0).val * 256 + (i 1).val) / 256 = (i 0).val by omega))

lemma heads_205 (i : S16384x256.Idx) : val_main_v205 (F := Ideal) x6 i = at3 x6 ((i 1).val / 64) ((i 1).val % 64) (i 0).val := by
  have h0 : (i 0).val < 16384 := (i 0).isLt
  have h1 : (i 1).val < 256 := (i 1).isLt
  rw [val_main_v205_apply, val_main_v204_apply, at3_of_lt _ (by omega : (i 1).val / 64 < 4) (by omega : (i 1).val % 64 < 64) h0]
  exact congrArg x6 (funext fun a => match a with
    | ⟨0, _⟩ => Fin.ext (show ((i 0).val * 256 + (i 1).val) / 64 % 4 = (i 1).val / 64 by omega)
    | ⟨1, _⟩ => Fin.ext (show ((i 0).val * 256 + (i 1).val) % 64 = (i 1).val % 64 by omega)
    | ⟨2, _⟩ => Fin.ext (show ((i 0).val * 256 + (i 1).val) / 256 = (i 0).val by omega))

lemma gate_35 (i : S16384x256.Idx) : val_main_v35 (F := Ideal) x0 i = Ideal.logistic (at2 x0 (i 0).val (2304 + (i 1).val)) := by
  rw [val_main_v35_apply, val_main_v34_apply, val_main_v33_apply, val_main_v32_apply, val_main_v31_apply, val_main_v30_apply, col_11,
    val_main_cst_1_apply, val_main_cst_2_apply, one_bits]
  rfl

lemma gate_38 (i : S16384x256.Idx) : val_main_v38 (F := Ideal) x0 i
    = Ideal.logistic (at2 x0 (i 0).val (2304 + (i 1).val)) * (1 - Ideal.logistic (at2 x0 (i 0).val (2304 + (i 1).val))) := by
  rw [val_main_v38_apply, val_main_v37_apply, val_main_v36_apply, gate_35, val_main_cst_3_apply, one_bits]
  rfl

/-- The reference's gradient, entry by entry. -/
lemma ref_value (s : Fin 16384) (l : Fin 2560) : val_main_v361 (F := Ideal) x0 x1 x2 x3 x4 x5 x6 x7 x8 (ix2 s l)
    = dzAt (at2 x0) (at2 x1) (fun r l => convT 3 (fun k => at2 x7 k l) (fun j => at2 x2 j l) r)
        (fun r l => convT 31 (fun k => at2 x8 k l) (fun j => at2 x3 j l) r) (at3 x4) (at3 x5) (at3 x6) s.val l.val := by
  rw [val_main_v361_apply]
  unfold dzAt val_main_v360
  dsimp only
  split
  · refine (cat_piece _ _ 0 0 (by simp) _ rfl rfl s l (by omega) (by omega)).trans ?_
    rw [val_main_v203_apply]
    exact (at2_of_lt x1 s.isLt (by omega)).symm
  split
  · refine (cat_piece _ _ 1 768 (by simp) _ rfl rfl s l (by omega) (by omega)).trans ?_
    unfold val_main_v359
    refine (cat_piece _ _ 0 0 (by simp) _ rfl rfl s _ (by dsimp only; omega) (by dsimp only; omega)).trans ?_
    rw [val_main_v356_apply, conv_354, col_6]
    rfl
  split
  · refine (cat_piece _ _ 1 768 (by simp) _ rfl rfl s l (by omega) (by omega)).trans ?_
    unfold val_main_v359
    refine (cat_piece _ _ 1 256 (by simp) _ rfl rfl s _ (by dsimp only; omega) (by dsimp only; omega)).trans ?_
    rw [val_main_v355_apply, conv_354, col_5]
    refine (mul_comm _ _).trans ?_
    rw [← show l.val - 768 - 256 = l.val - 1024 by omega]
    rfl
  split
  · refine (cat_piece _ _ 2 1280 (by simp) _ rfl rfl s l (by omega) (by omega)).trans ?_
    unfold val_main_v358
    refine (cat_piece _ _ 0 0 (by simp) _ rfl rfl s _ (by dsimp only; omega) (by dsimp only; omega)).trans ?_
    rw [heads_209]
    rfl
  split
  · refine (cat_piece _ _ 2 1280 (by simp) _ rfl rfl s l (by omega) (by omega)).trans ?_
    unfold val_main_v358
    refine (cat_piece _ _ 1 256 (by simp) _ rfl rfl s _ (by dsimp only; omega) (by dsimp only; omega)).trans ?_
    rw [heads_207, ← show l.val - 1280 - 256 = l.val - 1536 by omega]
    rfl
  split
  · refine (cat_piece _ _ 2 1280 (by simp) _ rfl rfl s l (by omega) (by omega)).trans ?_
    unfold val_main_v358
    refine (cat_piece _ _ 2 512 (by simp) _ rfl rfl s _ (by dsimp only; omega) (by dsimp only; omega)).trans ?_
    rw [heads_205, ← show l.val - 1280 - 512 = l.val - 1792 by omega]
    rfl
  split
  · refine (cat_piece _ _ 3 2048 (by simp) _ rfl rfl s l (by omega) (by omega)).trans ?_
    unfold val_main_v357
    refine (cat_piece _ _ 0 0 (by simp) _ rfl rfl s _ (by dsimp only; omega) (by dsimp only; omega)).trans ?_
    rw [val_main_v338_apply, conv_336, gate_35]
    rfl
  · refine (cat_piece _ _ 3 2048 (by simp) _ rfl rfl s l (by omega) (by omega)).trans ?_
    unfold val_main_v357
    refine (cat_piece _ _ 1 256 (by simp) _ rfl rfl s _ (by dsimp only; omega) (by dsimp only; omega)).trans ?_
    rw [val_main_v339_apply, val_main_v337_apply, conv_336, gate_38, col_10, ← show l.val - 2048 - 256 = l.val - 2304 by omega, mul_assoc (_ * _)]
    exact congrArg (· * _) (mul_comm _ _)

lemma ref_array : val_main_v361 (F := Ideal) x0 x1 x2 x3 x4 x5 x6 x7 x8 = dzOf x0 x1 x2 x3 x4 x5 x6 x7 x8 :=
  funext fun i => (congrArg _ (eq_ix2 i)).trans (ref_value x0 x1 x2 x3 x4 x5 x6 x7 x8 _ _)

end Cert.Proof
-- ==== Proof.MixRef.lean ====
module

public import proofs.«01_k».proof.Proof.MixFwd
public import proofs.«01_k».proof.Proof.RefValue
public import proofs.«01_k».proof.Proof.Gen.Reference11Ideal.Read
public import proofs.«01_k».proof.Defs

@[expose] public section

set_option maxRecDepth 16384

noncomputable section

/-! The mixers written plainly, read at an index. -/

namespace Cert.Proof.MixRef

open Idealize.ShloMosaic Idealize.ShloMosaic.TcCoe Idealize.SL.Sem Idealize.ShloMosaic.Tactic Cert.Proof.MixFwd

section Reference

open Cert.Reference11Ideal Cert.Reference11Ideal.Read

lemma ref_v5 (x0) (i : S16384x256.Idx) : val_main_v5 (F := Ideal) x0 i = at2 x0 (i 0).val (512 + (i 1).val) := by
  rw [val_main_v5_apply, val_main_v2_apply, val_main_v0_apply]
  exact at2_eq x0 _ rfl (by show 512 + (i 1).val = _; omega)

lemma ref_v6 (x0) (i : S16384x256.Idx) : val_main_v6 (F := Ideal) x0 i = at2 x0 (i 0).val (768 + (i 1).val) := by
  rw [val_main_v6_apply, val_main_v2_apply, val_main_v0_apply]
  exact at2_eq x0 _ rfl (by show 512 + (256 + (i 1).val) = _; omega)

lemma ref_v7 (x0) (i : S16384x256.Idx) : val_main_v7 (F := Ideal) x0 i = at2 x0 (i 0).val (1024 + (i 1).val) := by
  rw [val_main_v7_apply, val_main_v2_apply, val_main_v0_apply]
  exact at2_eq x0 _ rfl (by show 512 + (512 + (i 1).val) = _; omega)

lemma ref_v8 (x0) (i : S16384x256.Idx) : val_main_v8 (F := Ideal) x0 i = at2 x0 (i 0).val (2048 + (i 1).val) := by
  rw [val_main_v8_apply, val_main_v4_apply, val_main_v0_apply]
  exact at2_eq x0 _ rfl (by show 2048 + (i 1).val = _; omega)

lemma ref_v9 (x0) (i : S16384x256.Idx) : val_main_v9 (F := Ideal) x0 i = at2 x0 (i 0).val (2304 + (i 1).val) := by
  rw [val_main_v9_apply, val_main_v4_apply, val_main_v0_apply]
  exact at2_eq x0 _ rfl (by show 2048 + (256 + (i 1).val) = _; omega)

lemma ref_v28 (x0) (i : S16384x512.Idx) : val_main_v28 (F := Ideal) x0 i = gelu (at2 x0 (i 0).val (i 1).val) := by
  rw [val_main_v28_apply, val_main_v27_apply, val_main_v26_apply, val_main_cst_2_apply, val_main_v25_apply, val_main_v24_apply, val_main_cst_1_apply, val_main_v23_apply, val_main_v22_apply, val_main_v21_apply, val_main_cst_0_apply, val_main_v20_apply, val_main_v19_apply, val_main_v18_apply, val_main_cst_apply, val_main_v17_apply, val_main_v16_apply, val_main_v1_apply, val_main_v0_apply, at2_eq x0 (idx_main_v1 i) rfl rfl]
  rfl

lemma ref_v29 (x0) (i : S16384x256.Idx) : val_main_v29 (F := Ideal) x0 i = gelu (at2 x0 (i 0).val (i 1).val) := by
  rw [val_main_v29_apply, ref_v28]

lemma ref_v30 (x0) (i : S16384x256.Idx) : val_main_v30 (F := Ideal) x0 i = gelu (at2 x0 (i 0).val (256 + (i 1).val)) := by
  rw [val_main_v30_apply, ref_v28]

lemma ref_rinv_v (x0) (i : S16384x256.Idx) : val_main_v39 (F := Ideal) x0 i = rinv (fun k => gelu (at2 x0 (i 0).val (256 + k))) := by
  rw [val_main_v39_apply, val_main_v38_apply, val_main_v37_apply, val_main_v35_apply, val_main_v36_apply, val_main_v34_apply, val_main_cst_4_apply, val_main_cst_5_apply, val_main_v33_apply, val_main_v32_apply, val_main_cst_3_apply, zero_bits, zero_add]
  unfold rinv mean
  refine congrArg (fun z : EReal => Ideal.rsqrt (Ideal.div z _ + _)) (sum_fin _ _ fun k => ?_)
  rw [val_main_v31_apply, ref_v30]
  rfl

lemma ref_row1 (x : (⟨S2x256, .f32⟩ : BufTy).Contents (Elt Ideal)) (i : S1x256.Idx) (h : (i 0).val < 1) : x (idx_main_v10 i) = at2 x 1 (i 1).val :=
  at2_eq x _ (by show 1 + (i 0).val = 1; omega) rfl

lemma ref_vn (x0 x1) (i : S16384x256.Idx) : val_main_v43 (F := Ideal) x0 x1 i = vnAt (at2 x0) (at2 x1 1) (i 0).val (i 1).val := by
  have h1 : (i 1).val < 256 := (i 1).isLt
  rw [val_main_v43_apply, val_main_v40_apply, ref_rinv_v, ref_v30, val_main_v42_apply, val_main_v41_apply, val_main_v11_apply, val_main_v10_apply]
  unfold vnAt rms
  refine mulc rfl (at2_eq x1 _ rfl ?_)
  show (i 1).val % 256 = (i 1).val
  omega

lemma ref_w (x2) (i : S4x128x128.Idx) : val_main_v48 (F := Ideal) x2 i = wAt x2 (i 0).val (i 1).val (i 2).val := by
  have h0 : (i 0).val < 4 := (i 0).isLt
  have h1 : (i 1).val < 128 := (i 1).isLt
  have h2 : (i 2).val < 128 := (i 2).isLt
  rw [val_main_v48_apply, val_main_call1_v0_apply, val_main_v46_apply, val_main_call0_v4_apply, val_main_call0_v2_apply, val_main_call0_v0_apply, val_main_call0_v1_apply, val_main_call0_c_apply, val_main_call0_v3_apply, val_main_call0_v5_apply, val_main_call0_c_0_apply, val_main_v45_apply, val_main_c_apply, val_main_v47_apply, val_main_cst_6_apply, val_main_v13_apply, val_main_v12_apply, zero_bits]
  refine (congrArg (fun b => Scalar.select b _ _) (lower_bit ⟨(i 1).val, h1⟩ ⟨(i 2).val, h2⟩)).trans ?_
  unfold wAt
  dsimp only
  split
  · refine at4_eq x2 _ rfl ?_ ?_ ?_
    · show (((i 0).val * 128 + (i 1).val) * 128 + (i 2).val) / 16384 % 4 = _
      omega
    · show (((i 0).val * 128 + (i 1).val) * 128 + (i 2).val) / 128 % 128 = _
      omega
    · show (((i 0).val * 128 + (i 1).val) * 128 + (i 2).val) % 128 = _
      omega
  · rfl

lemma ref_bias (x3) (i : S128x128x4x64.Idx) : val_main_v54 (F := Ideal) x3 i = at3 x3 1 (i 2).val (i 1).val := by
  have h1 : (i 1).val < 128 := (i 1).isLt
  have h2 : (i 2).val < 4 := (i 2).isLt
  rw [val_main_v54_apply, val_main_v53_apply, val_main_v52_apply, val_main_v51_apply, val_main_v15_apply, val_main_v14_apply]
  refine at3_eq x3 _ rfl ?_ ?_
  · show ((i 2).val * 128 + (i 1).val) / 128 % 4 = _
    omega
  · show ((i 2).val * 128 + (i 1).val) % 128 = _
    omega

lemma ref_gate (x0 x1 x2 x3) (i : S16384x256.Idx) : val_main_v56 (F := Ideal) x0 x1 x2 x3 i
    = gate (fun i l => at3 x3 1 (l / 64) i) (wAt x2) (vnAt (at2 x0) (at2 x1 1)) (i 0).val (i 1).val := by
  have h0 : (i 0).val < 16384 := (i 0).isLt
  have h1 : (i 1).val < 256 := (i 1).isLt
  rw [val_main_v56_apply, val_main_v55_apply, val_main_v50_apply, val_main_v49_apply, ref_bias]
  refine (add_comm _ _).trans ?_
  have a1 : ((i 0).val * 256 + (i 1).val) / 256 % 128 = (i 0).val % 128 := by omega
  have a2 : ((i 0).val * 256 + (i 1).val) / 64 % 4 = (i 1).val / 64 := by omega
  unfold gate
  refine addc (congrArg₂ (at3 x3 1) a2 a1) (sum_fin _ _ fun k => ?_)
  have hk : k.val < 128 := k.isLt
  rw [val_main_v44_apply, ref_vn, ref_w]
  refine (mul_comm _ _).trans (mulc (congrArg₂ (fun a b => wAt x2 a b k.val) a2 a1) (congrArg₂ (vnAt (at2 x0) (at2 x1 1)) ?_ ?_))
  · show ((((((i 0).val * 256 + (i 1).val) / 32768) * 128 + k.val) * 4 + ((i 0).val * 256 + (i 1).val) / 64 % 4) * 64 + ((i 0).val * 256 + (i 1).val) % 64) / 256 = _
    omega
  · show ((((((i 0).val * 256 + (i 1).val) / 32768) * 128 + k.val) * 4 + ((i 0).val * 256 + (i 1).val) / 64 % 4) * 64 + ((i 0).val * 256 + (i 1).val) % 64) % 256 = _
    omega

lemma ref_ya (x0 x1 x2 x3) (i : S16384x256.Idx) : val_main_v57 (F := Ideal) x0 x1 x2 x3 i = gelu (at2 x0 (i 0).val (i 1).val)
    * gate (fun i l => at3 x3 1 (l / 64) i) (wAt x2) (vnAt (at2 x0) (at2 x1 1)) (i 0).val (i 1).val := by
  rw [val_main_v57_apply, ref_v29, ref_gate]
  rfl

/-! ## The two convolutions -/

lemma ref_sw (x4) (i : S3x256.Idx) : val_main_v60 (F := Ideal) x4 i = at3 x4 1 (i 0).val (i 1).val := by
  have h0 : (i 0).val < 3 := (i 0).isLt
  have h1 : (i 1).val < 256 := (i 1).isLt
  rw [val_main_v60_apply, val_main_v59_apply]
  refine at3_eq x4 _ rfl ?_ ?_
  · show ((i 0).val * 256 + (i 1).val) / 256 % 3 = _
    omega
  · show ((i 0).val * 256 + (i 1).val) % 256 = _
    omega

lemma ref_cw (x5) (i : S31x256.Idx) : val_main_v86 (F := Ideal) x5 i = at3 x5 1 (i 0).val (i 1).val := by
  have h0 : (i 0).val < 31 := (i 0).isLt
  have h1 : (i 1).val < 256 := (i 1).isLt
  rw [val_main_v86_apply, val_main_v85_apply]
  refine at3_eq x5 _ rfl ?_ ?_
  · show ((i 0).val * 256 + (i 1).val) / 256 % 31 = _
    omega
  · show ((i 0).val * 256 + (i 1).val) % 256 = _
    omega

lemma ref_sigmoid (x0) (i : S16384x256.Idx) : val_main_v84 (F := Ideal) x0 i = prodD (at2 x0) (i 0).val (i 1).val := by
  rw [val_main_v84_apply, val_main_v83_apply, val_main_v82_apply, val_main_cst_9_apply, val_main_v81_apply, val_main_v80_apply, val_main_cst_8_apply, val_main_v79_apply, val_main_v78_apply, one_bits, ref_v8, ref_v9]
  rfl

lemma ref_prod (x0) (i : S16384x256.Idx) : val_main_v58 (F := Ideal) x0 i = prodB (at2 x0) (i 0).val (i 1).val := by
  rw [val_main_v58_apply, ref_v6, ref_v7]
  rfl

lemma ref_pb (x0) (i : S16386x256.Idx) : val_main_v62 (F := Ideal) x0 i = pre (prodB (at2 x0)) (30 + (i 0).val) (i 1).val := by
  idx_vars i
  have h0 : i0.val < 16386 := i0.isLt
  unfold val_main_v62 pre
  show _ = if 30 + i0.val < 32 then 0 else prodB (at2 x0) (30 + i0.val - 32) i1.val
  by_cases h : i0.val < 2
  · rw [if_pos (by omega)]
    refine (cat_row _ _ 0 0 (by simp) _ rfl rfl i0 i1 (by omega) (by omega)).trans ?_
    rw [val_main_v61_apply, val_main_cst_7_apply, zero_bits]
  · rw [if_neg (by omega)]
    refine (cat_row _ _ 1 2 (by simp) _ rfl rfl i0 i1 (by omega) (by omega)).trans ?_
    rw [ref_prod]
    exact congrArg (fun q => prodB (at2 x0) q _) (by show i0.val - 2 = _; omega)

lemma ref_pd (x0) (i : S16414x256.Idx) : val_main_v88 (F := Ideal) x0 i = pre (prodD (at2 x0)) (2 + (i 0).val) (i 1).val := by
  idx_vars i
  have h0 : i0.val < 16414 := i0.isLt
  unfold val_main_v88 pre
  show _ = if 2 + i0.val < 32 then 0 else prodD (at2 x0) (2 + i0.val - 32) i1.val
  by_cases h : i0.val < 30
  · rw [if_pos (by omega)]
    refine (cat_row _ _ 0 0 (by simp) _ rfl rfl i0 i1 (by omega) (by omega)).trans ?_
    rw [val_main_v87_apply, val_main_cst_10_apply, zero_bits]
  · rw [if_neg (by omega)]
    refine (cat_row _ _ 1 30 (by simp) _ rfl rfl i0 i1 (by omega) (by omega)).trans ?_
    rw [ref_sigmoid]
    exact congrArg (fun q => prodD (at2 x0) q _) (by show i0.val - 30 = _; omega)

lemma ref_conv3_0 (x0 x4) (i : S16384x256.Idx) : val_main_v66 (F := Ideal) x0 x4 i
    = at3 x4 1 0 (i 1).val * pre (prodB (at2 x0)) (30 + (i 0).val) (i 1).val := by
  rw [val_main_v66_apply, val_main_v65_apply, val_main_v63_apply, val_main_v64_apply, ref_sw, ref_pb]
  have e : 30 + ((i 0).val) = 30 + (i 0).val := by omega
  exact congrArg (fun q => at3 x4 1 0 (i 1).val * pre (prodB (at2 x0)) q (i 1).val) e

lemma ref_conv3_1 (x0 x4) (i : S16384x256.Idx) : val_main_v70 (F := Ideal) x0 x4 i
    = at3 x4 1 1 (i 1).val * pre (prodB (at2 x0)) (31 + (i 0).val) (i 1).val := by
  rw [val_main_v70_apply, val_main_v69_apply, val_main_v67_apply, val_main_v68_apply, ref_sw, ref_pb]
  have e : 30 + (1 + (i 0).val) = 31 + (i 0).val := by omega
  exact congrArg (fun q => at3 x4 1 1 (i 1).val * pre (prodB (at2 x0)) q (i 1).val) e

lemma ref_conv3_2 (x0 x4) (i : S16384x256.Idx) : val_main_v75 (F := Ideal) x0 x4 i
    = at3 x4 1 2 (i 1).val * pre (prodB (at2 x0)) (32 + (i 0).val) (i 1).val := by
  rw [val_main_v75_apply, val_main_v74_apply, val_main_v72_apply, val_main_v73_apply, ref_sw, ref_pb]
  have e : 30 + (2 + (i 0).val) = 32 + (i 0).val := by omega
  exact congrArg (fun q => at3 x4 1 2 (i 1).val * pre (prodB (at2 x0)) q (i 1).val) e

lemma ref_conv3 (x0 x4) (i : S16384x256.Idx) : val_main_v76 (F := Ideal) x0 x4 i
    = conv 3 (fun k => at3 x4 1 k (i 1).val) (fun j => pre (prodB (at2 x0)) j (i 1).val) (i 0).val := by
  rw [val_main_v76_apply, val_main_v71_apply,
    ref_conv3_0, ref_conv3_1, ref_conv3_2]
  simp only [conv, Finset.sum_range_succ, Finset.sum_range_zero, zero_add, Nat.reduceSub, Nat.reduceAdd, Nat.add_zero]
  rfl

lemma ref_conv31_0 (x0 x5) (i : S16384x256.Idx) : val_main_v92 (F := Ideal) x0 x5 i
    = at3 x5 1 0 (i 1).val * pre (prodD (at2 x0)) (2 + (i 0).val) (i 1).val := by
  rw [val_main_v92_apply, val_main_v91_apply, val_main_v89_apply, val_main_v90_apply, ref_cw, ref_pd]
  have e : 2 + ((i 0).val) = 2 + (i 0).val := by omega
  exact congrArg (fun q => at3 x5 1 0 (i 1).val * pre (prodD (at2 x0)) q (i 1).val) e

lemma ref_conv31_1 (x0 x5) (i : S16384x256.Idx) : val_main_v96 (F := Ideal) x0 x5 i
    = at3 x5 1 1 (i 1).val * pre (prodD (at2 x0)) (3 + (i 0).val) (i 1).val := by
  rw [val_main_v96_apply, val_main_v95_apply, val_main_v93_apply, val_main_v94_apply, ref_cw, ref_pd]
  have e : 2 + (1 + (i 0).val) = 3 + (i 0).val := by omega
  exact congrArg (fun q => at3 x5 1 1 (i 1).val * pre (prodD (at2 x0)) q (i 1).val) e

lemma ref_conv31_2 (x0 x5) (i : S16384x256.Idx) : val_main_v101 (F := Ideal) x0 x5 i
    = at3 x5 1 2 (i 1).val * pre (prodD (at2 x0)) (4 + (i 0).val) (i 1).val := by
  rw [val_main_v101_apply, val_main_v100_apply, val_main_v98_apply, val_main_v99_apply, ref_cw, ref_pd]
  have e : 2 + (2 + (i 0).val) = 4 + (i 0).val := by omega
  exact congrArg (fun q => at3 x5 1 2 (i 1).val * pre (prodD (at2 x0)) q (i 1).val) e

lemma ref_conv31_3 (x0 x5) (i : S16384x256.Idx) : val_main_v106 (F := Ideal) x0 x5 i
    = at3 x5 1 3 (i 1).val * pre (prodD (at2 x0)) (5 + (i 0).val) (i 1).val := by
  rw [val_main_v106_apply, val_main_v105_apply, val_main_v103_apply, val_main_v104_apply, ref_cw, ref_pd]
  have e : 2 + (3 + (i 0).val) = 5 + (i 0).val := by omega
  exact congrArg (fun q => at3 x5 1 3 (i 1).val * pre (prodD (at2 x0)) q (i 1).val) e

lemma ref_conv31_4 (x0 x5) (i : S16384x256.Idx) : val_main_v111 (F := Ideal) x0 x5 i
    = at3 x5 1 4 (i 1).val * pre (prodD (at2 x0)) (6 + (i 0).val) (i 1).val := by
  rw [val_main_v111_apply, val_main_v110_apply, val_main_v108_apply, val_main_v109_apply, ref_cw, ref_pd]
  have e : 2 + (4 + (i 0).val) = 6 + (i 0).val := by omega
  exact congrArg (fun q => at3 x5 1 4 (i 1).val * pre (prodD (at2 x0)) q (i 1).val) e

lemma ref_conv31_5 (x0 x5) (i : S16384x256.Idx) : val_main_v116 (F := Ideal) x0 x5 i
    = at3 x5 1 5 (i 1).val * pre (prodD (at2 x0)) (7 + (i 0).val) (i 1).val := by
  rw [val_main_v116_apply, val_main_v115_apply, val_main_v113_apply, val_main_v114_apply, ref_cw, ref_pd]
  have e : 2 + (5 + (i 0).val) = 7 + (i 0).val := by omega
  exact congrArg (fun q => at3 x5 1 5 (i 1).val * pre (prodD (at2 x0)) q (i 1).val) e

lemma ref_conv31_6 (x0 x5) (i : S16384x256.Idx) : val_main_v121 (F := Ideal) x0 x5 i
    = at3 x5 1 6 (i 1).val * pre (prodD (at2 x0)) (8 + (i 0).val) (i 1).val := by
  rw [val_main_v121_apply, val_main_v120_apply, val_main_v118_apply, val_main_v119_apply, ref_cw, ref_pd]
  have e : 2 + (6 + (i 0).val) = 8 + (i 0).val := by omega
  exact congrArg (fun q => at3 x5 1 6 (i 1).val * pre (prodD (at2 x0)) q (i 1).val) e

lemma ref_conv31_7 (x0 x5) (i : S16384x256.Idx) : val_main_v126 (F := Ideal) x0 x5 i
    = at3 x5 1 7 (i 1).val * pre (prodD (at2 x0)) (9 + (i 0).val) (i 1).val := by
  rw [val_main_v126_apply, val_main_v125_apply, val_main_v123_apply, val_main_v124_apply, ref_cw, ref_pd]
  have e : 2 + (7 + (i 0).val) = 9 + (i 0).val := by omega
  exact congrArg (fun q => at3 x5 1 7 (i 1).val * pre (prodD (at2 x0)) q (i 1).val) e

lemma ref_conv31_8 (x0 x5) (i : S16384x256.Idx) : val_main_v131 (F := Ideal) x0 x5 i
    = at3 x5 1 8 (i 1).val * pre (prodD (at2 x0)) (10 + (i 0).val) (i 1).val := by
  rw [val_main_v131_apply, val_main_v130_apply, val_main_v128_apply, val_main_v129_apply, ref_cw, ref_pd]
  have e : 2 + (8 + (i 0).val) = 10 + (i 0).val := by omega
  exact congrArg (fun q => at3 x5 1 8 (i 1).val * pre (prodD (at2 x0)) q (i 1).val) e

lemma ref_conv31_9 (x0 x5) (i : S16384x256.Idx) : val_main_v136 (F := Ideal) x0 x5 i
    = at3 x5 1 9 (i 1).val * pre (prodD (at2 x0)) (11 + (i 0).val) (i 1).val := by
  rw [val_main_v136_apply, val_main_v135_apply, val_main_v133_apply, val_main_v134_apply, ref_cw, ref_pd]
  have e : 2 + (9 + (i 0).val) = 11 + (i 0).val := by omega
  exact congrArg (fun q => at3 x5 1 9 (i 1).val * pre (prodD (at2 x0)) q (i 1).val) e

lemma ref_conv31_10 (x0 x5) (i : S16384x256.Idx) : val_main_v141 (F := Ideal) x0 x5 i
    = at3 x5 1 10 (i 1).val * pre (prodD (at2 x0)) (12 + (i 0).val) (i 1).val := by
  rw [val_main_v141_apply, val_main_v140_apply, val_main_v138_apply, val_main_v139_apply, ref_cw, ref_pd]
  have e : 2 + (10 + (i 0).val) = 12 + (i 0).val := by omega
  exact congrArg (fun q => at3 x5 1 10 (i 1).val * pre (prodD (at2 x0)) q (i 1).val) e

lemma ref_conv31_11 (x0 x5) (i : S16384x256.Idx) : val_main_v146 (F := Ideal) x0 x5 i
    = at3 x5 1 11 (i 1).val * pre (prodD (at2 x0)) (13 + (i 0).val) (i 1).val := by
  rw [val_main_v146_apply, val_main_v145_apply, val_main_v143_apply, val_main_v144_apply, ref_cw, ref_pd]
  have e : 2 + (11 + (i 0).val) = 13 + (i 0).val := by omega
  exact congrArg (fun q => at3 x5 1 11 (i 1).val * pre (prodD (at2 x0)) q (i 1).val) e

lemma ref_conv31_12 (x0 x5) (i : S16384x256.Idx) : val_main_v151 (F := Ideal) x0 x5 i
    = at3 x5 1 12 (i 1).val * pre (prodD (at2 x0)) (14 + (i 0).val) (i 1).val := by
  rw [val_main_v151_apply, val_main_v150_apply, val_main_v148_apply, val_main_v149_apply, ref_cw, ref_pd]
  have e : 2 + (12 + (i 0).val) = 14 + (i 0).val := by omega
  exact congrArg (fun q => at3 x5 1 12 (i 1).val * pre (prodD (at2 x0)) q (i 1).val) e

lemma ref_conv31_13 (x0 x5) (i : S16384x256.Idx) : val_main_v156 (F := Ideal) x0 x5 i
    = at3 x5 1 13 (i 1).val * pre (prodD (at2 x0)) (15 + (i 0).val) (i 1).val := by
  rw [val_main_v156_apply, val_main_v155_apply, val_main_v153_apply, val_main_v154_apply, ref_cw, ref_pd]
  have e : 2 + (13 + (i 0).val) = 15 + (i 0).val := by omega
  exact congrArg (fun q => at3 x5 1 13 (i 1).val * pre (prodD (at2 x0)) q (i 1).val) e

lemma ref_conv31_14 (x0 x5) (i : S16384x256.Idx) : val_main_v161 (F := Ideal) x0 x5 i
    = at3 x5 1 14 (i 1).val * pre (prodD (at2 x0)) (16 + (i 0).val) (i 1).val := by
  rw [val_main_v161_apply, val_main_v160_apply, val_main_v158_apply, val_main_v159_apply, ref_cw, ref_pd]
  have e : 2 + (14 + (i 0).val) = 16 + (i 0).val := by omega
  exact congrArg (fun q => at3 x5 1 14 (i 1).val * pre (prodD (at2 x0)) q (i 1).val) e

lemma ref_conv31_15 (x0 x5) (i : S16384x256.Idx) : val_main_v166 (F := Ideal) x0 x5 i
    = at3 x5 1 15 (i 1).val * pre (prodD (at2 x0)) (17 + (i 0).val) (i 1).val := by
  rw [val_main_v166_apply, val_main_v165_apply, val_main_v163_apply, val_main_v164_apply, ref_cw, ref_pd]
  have e : 2 + (15 + (i 0).val) = 17 + (i 0).val := by omega
  exact congrArg (fun q => at3 x5 1 15 (i 1).val * pre (prodD (at2 x0)) q (i 1).val) e

lemma ref_conv31_16 (x0 x5) (i : S16384x256.Idx) : val_main_v171 (F := Ideal) x0 x5 i
    = at3 x5 1 16 (i 1).val * pre (prodD (at2 x0)) (18 + (i 0).val) (i 1).val := by
  rw [val_main_v171_apply, val_main_v170_apply, val_main_v168_apply, val_main_v169_apply, ref_cw, ref_pd]
  have e : 2 + (16 + (i 0).val) = 18 + (i 0).val := by omega
  exact congrArg (fun q => at3 x5 1 16 (i 1).val * pre (prodD (at2 x0)) q (i 1).val) e

lemma ref_conv31_17 (x0 x5) (i : S16384x256.Idx) : val_main_v176 (F := Ideal) x0 x5 i
    = at3 x5 1 17 (i 1).val * pre (prodD (at2 x0)) (19 + (i 0).val) (i 1).val := by
  rw [val_main_v176_apply, val_main_v175_apply, val_main_v173_apply, val_main_v174_apply, ref_cw, ref_pd]
  have e : 2 + (17 + (i 0).val) = 19 + (i 0).val := by omega
  exact congrArg (fun q => at3 x5 1 17 (i 1).val * pre (prodD (at2 x0)) q (i 1).val) e

lemma ref_conv31_18 (x0 x5) (i : S16384x256.Idx) : val_main_v181 (F := Ideal) x0 x5 i
    = at3 x5 1 18 (i 1).val * pre (prodD (at2 x0)) (20 + (i 0).val) (i 1).val := by
  rw [val_main_v181_apply, val_main_v180_apply, val_main_v178_apply, val_main_v179_apply, ref_cw, ref_pd]
  have e : 2 + (18 + (i 0).val) = 20 + (i 0).val := by omega
  exact congrArg (fun q => at3 x5 1 18 (i 1).val * pre (prodD (at2 x0)) q (i 1).val) e

lemma ref_conv31_19 (x0 x5) (i : S16384x256.Idx) : val_main_v186 (F := Ideal) x0 x5 i
    = at3 x5 1 19 (i 1).val * pre (prodD (at2 x0)) (21 + (i 0).val) (i 1).val := by
  rw [val_main_v186_apply, val_main_v185_apply, val_main_v183_apply, val_main_v184_apply, ref_cw, ref_pd]
  have e : 2 + (19 + (i 0).val) = 21 + (i 0).val := by omega
  exact congrArg (fun q => at3 x5 1 19 (i 1).val * pre (prodD (at2 x0)) q (i 1).val) e

lemma ref_conv31_20 (x0 x5) (i : S16384x256.Idx) : val_main_v191 (F := Ideal) x0 x5 i
    = at3 x5 1 20 (i 1).val * pre (prodD (at2 x0)) (22 + (i 0).val) (i 1).val := by
  rw [val_main_v191_apply, val_main_v190_apply, val_main_v188_apply, val_main_v189_apply, ref_cw, ref_pd]
  have e : 2 + (20 + (i 0).val) = 22 + (i 0).val := by omega
  exact congrArg (fun q => at3 x5 1 20 (i 1).val * pre (prodD (at2 x0)) q (i 1).val) e

lemma ref_conv31_21 (x0 x5) (i : S16384x256.Idx) : val_main_v196 (F := Ideal) x0 x5 i
    = at3 x5 1 21 (i 1).val * pre (prodD (at2 x0)) (23 + (i 0).val) (i 1).val := by
  rw [val_main_v196_apply, val_main_v195_apply, val_main_v193_apply, val_main_v194_apply, ref_cw, ref_pd]
  have e : 2 + (21 + (i 0).val) = 23 + (i 0).val := by omega
  exact congrArg (fun q => at3 x5 1 21 (i 1).val * pre (prodD (at2 x0)) q (i 1).val) e

lemma ref_conv31_22 (x0 x5) (i : S16384x256.Idx) : val_main_v201 (F := Ideal) x0 x5 i
    = at3 x5 1 22 (i 1).val * pre (prodD (at2 x0)) (24 + (i 0).val) (i 1).val := by
  rw [val_main_v201_apply, val_main_v200_apply, val_main_v198_apply, val_main_v199_apply, ref_cw, ref_pd]
  have e : 2 + (22 + (i 0).val) = 24 + (i 0).val := by omega
  exact congrArg (fun q => at3 x5 1 22 (i 1).val * pre (prodD (at2 x0)) q (i 1).val) e

lemma ref_conv31_23 (x0 x5) (i : S16384x256.Idx) : val_main_v206 (F := Ideal) x0 x5 i
    = at3 x5 1 23 (i 1).val * pre (prodD (at2 x0)) (25 + (i 0).val) (i 1).val := by
  rw [val_main_v206_apply, val_main_v205_apply, val_main_v203_apply, val_main_v204_apply, ref_cw, ref_pd]
  have e : 2 + (23 + (i 0).val) = 25 + (i 0).val := by omega
  exact congrArg (fun q => at3 x5 1 23 (i 1).val * pre (prodD (at2 x0)) q (i 1).val) e

lemma ref_conv31_24 (x0 x5) (i : S16384x256.Idx) : val_main_v211 (F := Ideal) x0 x5 i
    = at3 x5 1 24 (i 1).val * pre (prodD (at2 x0)) (26 + (i 0).val) (i 1).val := by
  rw [val_main_v211_apply, val_main_v210_apply, val_main_v208_apply, val_main_v209_apply, ref_cw, ref_pd]
  have e : 2 + (24 + (i 0).val) = 26 + (i 0).val := by omega
  exact congrArg (fun q => at3 x5 1 24 (i 1).val * pre (prodD (at2 x0)) q (i 1).val) e

lemma ref_conv31_25 (x0 x5) (i : S16384x256.Idx) : val_main_v216 (F := Ideal) x0 x5 i
    = at3 x5 1 25 (i 1).val * pre (prodD (at2 x0)) (27 + (i 0).val) (i 1).val := by
  rw [val_main_v216_apply, val_main_v215_apply, val_main_v213_apply, val_main_v214_apply, ref_cw, ref_pd]
  have e : 2 + (25 + (i 0).val) = 27 + (i 0).val := by omega
  exact congrArg (fun q => at3 x5 1 25 (i 1).val * pre (prodD (at2 x0)) q (i 1).val) e

lemma ref_conv31_26 (x0 x5) (i : S16384x256.Idx) : val_main_v221 (F := Ideal) x0 x5 i
    = at3 x5 1 26 (i 1).val * pre (prodD (at2 x0)) (28 + (i 0).val) (i 1).val := by
  rw [val_main_v221_apply, val_main_v220_apply, val_main_v218_apply, val_main_v219_apply, ref_cw, ref_pd]
  have e : 2 + (26 + (i 0).val) = 28 + (i 0).val := by omega
  exact congrArg (fun q => at3 x5 1 26 (i 1).val * pre (prodD (at2 x0)) q (i 1).val) e

lemma ref_conv31_27 (x0 x5) (i : S16384x256.Idx) : val_main_v226 (F := Ideal) x0 x5 i
    = at3 x5 1 27 (i 1).val * pre (prodD (at2 x0)) (29 + (i 0).val) (i 1).val := by
  rw [val_main_v226_apply, val_main_v225_apply, val_main_v223_apply, val_main_v224_apply, ref_cw, ref_pd]
  have e : 2 + (27 + (i 0).val) = 29 + (i 0).val := by omega
  exact congrArg (fun q => at3 x5 1 27 (i 1).val * pre (prodD (at2 x0)) q (i 1).val) e

lemma ref_conv31_28 (x0 x5) (i : S16384x256.Idx) : val_main_v231 (F := Ideal) x0 x5 i
    = at3 x5 1 28 (i 1).val * pre (prodD (at2 x0)) (30 + (i 0).val) (i 1).val := by
  rw [val_main_v231_apply, val_main_v230_apply, val_main_v228_apply, val_main_v229_apply, ref_cw, ref_pd]
  have e : 2 + (28 + (i 0).val) = 30 + (i 0).val := by omega
  exact congrArg (fun q => at3 x5 1 28 (i 1).val * pre (prodD (at2 x0)) q (i 1).val) e

lemma ref_conv31_29 (x0 x5) (i : S16384x256.Idx) : val_main_v236 (F := Ideal) x0 x5 i
    = at3 x5 1 29 (i 1).val * pre (prodD (at2 x0)) (31 + (i 0).val) (i 1).val := by
  rw [val_main_v236_apply, val_main_v235_apply, val_main_v233_apply, val_main_v234_apply, ref_cw, ref_pd]
  have e : 2 + (29 + (i 0).val) = 31 + (i 0).val := by omega
  exact congrArg (fun q => at3 x5 1 29 (i 1).val * pre (prodD (at2 x0)) q (i 1).val) e

lemma ref_conv31_30 (x0 x5) (i : S16384x256.Idx) : val_main_v241 (F := Ideal) x0 x5 i
    = at3 x5 1 30 (i 1).val * pre (prodD (at2 x0)) (32 + (i 0).val) (i 1).val := by
  rw [val_main_v241_apply, val_main_v240_apply, val_main_v238_apply, val_main_v239_apply, ref_cw, ref_pd]
  have e : 2 + (30 + (i 0).val) = 32 + (i 0).val := by omega
  exact congrArg (fun q => at3 x5 1 30 (i 1).val * pre (prodD (at2 x0)) q (i 1).val) e

lemma ref_conv31 (x0 x5) (i : S16384x256.Idx) : val_main_v242 (F := Ideal) x0 x5 i
    = conv 31 (fun k => at3 x5 1 k (i 1).val) (fun j => pre (prodD (at2 x0)) j (i 1).val) (i 0).val := by
  rw [val_main_v242_apply, val_main_v237_apply, val_main_v232_apply, val_main_v227_apply, val_main_v222_apply, val_main_v217_apply, val_main_v212_apply, val_main_v207_apply, val_main_v202_apply, val_main_v197_apply, val_main_v192_apply, val_main_v187_apply, val_main_v182_apply, val_main_v177_apply, val_main_v172_apply, val_main_v167_apply, val_main_v162_apply, val_main_v157_apply, val_main_v152_apply, val_main_v147_apply, val_main_v142_apply, val_main_v137_apply, val_main_v132_apply, val_main_v127_apply, val_main_v122_apply, val_main_v117_apply, val_main_v112_apply, val_main_v107_apply, val_main_v102_apply, val_main_v97_apply,
    ref_conv31_0, ref_conv31_1, ref_conv31_2, ref_conv31_3, ref_conv31_4, ref_conv31_5, ref_conv31_6, ref_conv31_7, ref_conv31_8, ref_conv31_9, ref_conv31_10, ref_conv31_11, ref_conv31_12, ref_conv31_13, ref_conv31_14, ref_conv31_15, ref_conv31_16, ref_conv31_17, ref_conv31_18, ref_conv31_19, ref_conv31_20, ref_conv31_21, ref_conv31_22, ref_conv31_23, ref_conv31_24, ref_conv31_25, ref_conv31_26, ref_conv31_27, ref_conv31_28, ref_conv31_29, ref_conv31_30]
  simp only [conv, Finset.sum_range_succ, Finset.sum_range_zero, zero_add, Nat.reduceSub, Nat.reduceAdd, Nat.add_zero]
  rfl

lemma ref_yb (x0 x4) (i : S16384x256.Idx) : val_main_v77 (F := Ideal) x0 x4 i = at2 x0 (i 0).val (512 + (i 1).val)
    * conv 3 (fun j => at3 x4 1 j ((i 1).val)) (fun j => pre (prodB (at2 x0)) j ((i 1).val)) (i 0).val := by
  rw [val_main_v77_apply, ref_v5, ref_conv3]
  rfl

/-! ## The layer norm -/

lemma ref_mean (x0 x5) (i : S16384x256.Idx) : val_main_v251 (F := Ideal) x0 x5 i = mean (fun q => conv 31 (fun j => at3 x5 1 j (q)) (fun j => pre (prodD (at2 x0)) j (q)) (i 0).val) := by
  rw [val_main_v251_apply, val_main_v250_apply, val_main_v249_apply, val_main_cst_12_apply, val_main_v248_apply, val_main_v247_apply, val_main_cst_11_apply, zero_bits, zero_add]
  unfold mean
  refine congrArg (fun z : EReal => Ideal.div z _) (sum_fin _ _ fun k => ?_)
  rw [ref_conv31]

lemma ref_centred (x0 x5) (i : S16384x256.Idx) : val_main_v252 (F := Ideal) x0 x5 i = conv 31 (fun j => at3 x5 1 j ((i 1).val)) (fun j => pre (prodD (at2 x0)) j ((i 1).val)) (i 0).val - mean (fun q => conv 31 (fun j => at3 x5 1 j (q)) (fun j => pre (prodD (at2 x0)) j (q)) (i 0).val) := by
  rw [val_main_v252_apply, ref_mean, ref_conv31]
  rfl

lemma ref_rinv_d (x0 x5) (i : S16384x256.Idx) : val_main_v261 (F := Ideal) x0 x5 i = rinv (fun k => conv 31 (fun j => at3 x5 1 j (k)) (fun j => pre (prodD (at2 x0)) j (k)) (i 0).val - mean (fun q => conv 31 (fun j => at3 x5 1 j (q)) (fun j => pre (prodD (at2 x0)) j (q)) (i 0).val)) := by
  rw [val_main_v261_apply, val_main_v260_apply, val_main_v259_apply, val_main_v257_apply, val_main_v258_apply, val_main_v256_apply, val_main_cst_14_apply, val_main_cst_15_apply, val_main_v255_apply, val_main_v254_apply, val_main_cst_13_apply, zero_bits, zero_add]
  unfold rinv mean
  refine congrArg (fun z : EReal => Ideal.rsqrt (Ideal.div z _ + _)) (sum_fin _ _ fun k => ?_)
  rw [val_main_v253_apply, ref_centred]
  rfl

lemma ref_lnorm (x0 x5 x6 x7) (i : S16384x256.Idx) : val_main_v268 (F := Ideal) x0 x5 x6 x7 i
    = lnorm (fun q => conv 31 (fun j => at3 x5 1 j (q)) (fun j => pre (prodD (at2 x0)) j (q)) (i 0).val) (at2 x6 1) (at2 x7 1) (i 1).val := by
  have h1 : (i 1).val < 256 := (i 1).isLt
  rw [val_main_v268_apply, val_main_v265_apply, val_main_v262_apply, ref_rinv_d, ref_centred, val_main_v264_apply, val_main_v263_apply, val_main_v244_apply, val_main_v243_apply, val_main_v267_apply, val_main_v266_apply, val_main_v246_apply, val_main_v245_apply]
  unfold lnorm rms
  refine addc (mulc rfl (at2_eq x6 _ rfl ?_)) (at2_eq x7 _ rfl ?_)
  · show (i 1).val % 256 = (i 1).val
    omega
  · show (i 1).val % 256 = (i 1).val
    omega

lemma ref_yd (x0 x5 x6 x7) (i : S16384x256.Idx) : val_main_v269 (F := Ideal) x0 x5 x6 x7 i
    = silu (lnorm (fun q => conv 31 (fun j => at3 x5 1 j (q)) (fun j => pre (prodD (at2 x0)) j (q)) (i 0).val) (at2 x6 1) (at2 x7 1) (i 1).val) := by
  rw [val_main_v269_apply, val_main_call2_v5_apply, val_main_call2_v4_apply, val_main_call2_cst_0_apply, val_main_call2_v3_apply, val_main_call2_v2_apply, val_main_call2_cst_apply, val_main_call2_v1_apply, val_main_call2_v0_apply, one_bits, ref_lnorm]
  rfl

/-! ## The result -/

lemma ref_rinv_a (x0 x1 x2 x3) (i : S16384x256.Idx) : val_main_v278 (F := Ideal) x0 x1 x2 x3 i = rinv (fun k => gelu (at2 x0 (i 0).val k) * gate (fun i l => at3 x3 1 (l / 64) i) (wAt x2) (vnAt (at2 x0) (at2 x1 1)) (i 0).val k) := by
  rw [val_main_v278_apply, val_main_v277_apply, val_main_v276_apply, val_main_v274_apply, val_main_v275_apply, val_main_v273_apply, val_main_cst_17_apply, val_main_cst_18_apply, val_main_v272_apply, val_main_v271_apply, val_main_cst_16_apply, zero_bits, zero_add]
  unfold rinv mean
  refine congrArg (fun z : EReal => Ideal.rsqrt (Ideal.div z _ + _)) (sum_fin _ _ fun k => ?_)
  rw [val_main_v270_apply, ref_ya]
  rfl

lemma ref_rinv_b (x0 x4) (i : S16384x256.Idx) : val_main_v288 (F := Ideal) x0 x4 i = rinv (fun k => at2 x0 (i 0).val (512 + k) * conv 3 (fun j => at3 x4 1 j (k)) (fun j => pre (prodB (at2 x0)) j (k)) (i 0).val) := by
  rw [val_main_v288_apply, val_main_v287_apply, val_main_v286_apply, val_main_v284_apply, val_main_v285_apply, val_main_v283_apply, val_main_cst_20_apply, val_main_cst_21_apply, val_main_v282_apply, val_main_v281_apply, val_main_cst_19_apply, zero_bits, zero_add]
  unfold rinv mean
  refine congrArg (fun z : EReal => Ideal.rsqrt (Ideal.div z _ + _)) (sum_fin _ _ fun k => ?_)
  rw [val_main_v280_apply, ref_yb]
  rfl

lemma ref_rinv_e (x0 x5 x6 x7) (i : S16384x256.Idx) : val_main_v298 (F := Ideal) x0 x5 x6 x7 i = rinv (fun k => silu (lnorm (fun q => conv 31 (fun j => at3 x5 1 j (q)) (fun j => pre (prodD (at2 x0)) j (q)) (i 0).val) (at2 x6 1) (at2 x7 1) k)) := by
  rw [val_main_v298_apply, val_main_v297_apply, val_main_v296_apply, val_main_v294_apply, val_main_v295_apply, val_main_v293_apply, val_main_cst_23_apply, val_main_cst_24_apply, val_main_v292_apply, val_main_v291_apply, val_main_cst_22_apply, zero_bits, zero_add]
  unfold rinv mean
  refine congrArg (fun z : EReal => Ideal.rsqrt (Ideal.div z _ + _)) (sum_fin _ _ fun k => ?_)
  rw [val_main_v290_apply, ref_yd]
  rfl

lemma ref_result (x0 x1 x2 x3 x4 x5 x6 x7) : val_main_v300 (F := Ideal) x0 x1 x2 x3 x4 x5 x6 x7 = mixOf x0 x1 x2 x3 x4 x5 x6 x7 := by
  funext i
  idx_vars i
  have h1 : i1.val < 1024 := i1.isLt
  show _ = mixAt _ _ _ _ _ _ _ _ i0.val i1.val
  unfold val_main_v300 mixAt
  split
  · refine (cat_piece _ _ 0 0 (by simp) _ rfl rfl i0 i1 (by omega) (by omega)).trans ?_
    rw [val_main_v279_apply, ref_rinv_a, ref_ya]
    rfl
  split
  · refine (cat_piece _ _ 1 256 (by simp) _ rfl rfl i0 i1 (by omega) (by omega)).trans ?_
    rw [val_main_v289_apply, ref_rinv_b, ref_yb]
    rfl
  split
  · refine (cat_piece _ _ 2 512 (by simp) _ rfl rfl i0 i1 (by omega) (by omega)).trans ?_
    rw [val_main_v299_apply, ref_rinv_e, ref_yd]
    rfl
  · refine (cat_piece _ _ 3 768 (by simp) _ rfl rfl i0 i1 (by omega) (by omega)).trans ?_
    rw [ref_conv31]
    rfl

end Reference

lemma mixOf_congr {x0 x0' x1 x1' x2 x2' x3 x3' x4 x4' x5 x5' x6 x6' x7 x7'} (h0 : x0 = x0') (h1 : x1 = x1') (h2 : x2 = x2') (h3 : x3 = x3')
    (h4 : x4 = x4') (h5 : x5 = x5') (h6 : x6 = x6') (h7 : x7 = x7') : mixOf x0 x1 x2 x3 x4 x5 x6 x7 = mixOf x0' x1' x2' x3' x4' x5' x6' x7' := by
  rw [h0, h1, h2, h3, h4, h5, h6, h7]

/-! ## The claim -/

open Cert.Kernel11Ideal Cert.Kernel11Ideal.Gen

lemma algebraic_mix : Cert.algebraic_Kernel11Ideal_Reference11Ideal := fun m ρ m' ρ' _ hag =>
  ⟨fun c => (dats m 0 c).arrAt 9 cfg0.N, Cert.Kernel11Ideal.Value.run_blocks m ρ,
    (θ_run _ _ _).mono (fun _ h c => by
      obtain ⟨h0, h1, h2, h3, h4, h5, h6, h7⟩ := hag c
      exact ⟨(h c).1.trans ((Cert.Reference11Ideal.Read.val_main_v300_eq _).trans ((ref_result _ _ _ _ _ _ _ _).trans
        ((mixOf_congr h0 h1 h2 h3 h4 h5 h6 h7).trans (array9 m c).symm))), (h c).2⟩)
      (Cert.Reference11Ideal.Value.run m' ρ')⟩

end Cert.Proof.MixRef

end
-- ==== Proof.Adam.lean ====
module

public import proofs.«01_k».proof.Proof.MixRef
public import proofs.«01_k».proof.Proof.Gen.Kernel12Ideal.Frame
public import proofs.«01_k».proof.Proof.Gen.Reference12Ideal.Read

@[expose] public section

set_option maxRecDepth 16384

noncomputable section

/-! The optimiser on the packed small weights: the gradient put together from its two halves, and the step of each entry. -/

namespace Cert.Proof.Adam

open Cert.Kernel12Ideal Cert.Kernel12Ideal.Gen Idealize.ShloMosaic Idealize.ShloMosaic.TcCoe Idealize.SL.Sem
  Idealize.ShloMosaic.Tactic

/-- A core's number. -/
abbrev Num := (⟨1, ![1]⟩ : Shape).Idx → BitVec 32

lemma num_eq (k : Num) (j : (⟨1, ![1]⟩ : Shape).Idx) : k j = k (ix1 0) := by
  refine congrArg k ?_
  funext a
  match a with
  | ⟨0, _⟩ => exact Subsingleton.elim (α := Fin 1) _ _

lemma cmp_comm (a b : BitVec 32) : IntOp.cmpi .eq a b = IntOp.cmpi .eq b a := by
  show BitVec.ofBool (a == b) = BitVec.ofBool (b == a)
  rw [Bool.beq_comm]

/-- The place of an entry of a block, from the block's index. -/
lemma at_row {q k B r : Nat} (h : q = k) : q * B + r = B * k + r := by rw [h, Nat.mul_comm]

lemma at_col {q B r : Nat} (h : q = 0) : q * B + r = r := by rw [h, Nat.zero_mul, Nat.zero_add]

/-- The first moment after a step. -/
def mNew (g m : EReal) : EReal := Ideal.ofBits .f32 0x3F666666#32 * m + Ideal.ofBits .f32 0x3DCCCCCD#32 * g

/-- The second moment after a step. -/
def vNew (g v : EReal) : EReal := Ideal.ofBits .f32 0x3F7FBE77#32 * v + Ideal.ofBits .f32 0x3A83126F#32 * (g * g)

/-- The step of a weight, from its new moments. -/
def step (p q w : EReal) : EReal :=
  Ideal.ofBits .f32 0xBA83126F#32 *
    (Ideal.div (Ideal.div p (Ideal.ofBits .f32 0x3F26BD02#32))
        (Ideal.sqrt (Ideal.div q (Ideal.ofBits .f32 0x3C231ACC#32)) + Ideal.ofBits .f32 0x322BCC77#32)
      + Ideal.ofBits .f32 0x3C23D70A#32 * w)

/-- The same from its gradient and the earlier moments. -/
def delta (w g m v : EReal) : EReal := step (mNew g m) (vNew g v) w

/-- Half `h` of a gradient on the core numbered `k`: its own half if `h` is the core's number, the other core's otherwise. -/
def pick (k : BitVec 32) (h : Nat) (mine other : EReal) : EReal := Scalar.select (IntOp.cmpi .eq (BitVec.ofNat 32 h) k) mine other

/-- An entry of the gradient put together from halves of `n` rows. -/
def grad (n : Nat) (k : BitVec 32) (a b : Nat → Nat → EReal) (r l : Nat) : EReal := pick k (r / n) (a (r % n) l) (b (r % n) l)

/-! ## The body at an index -/

/-- The number of the half that a grid point is in, as the body computes it. -/
def halfWord (i : grid0.Coords) : BitVec 32 :=
  let arg0 : BitVec 32 := BitVec.ofNat 32 (i 0).val
  let v5 : BitVec 32 := Scalar.subi (Scalar.extui (Scalar.cmpi .sgt arg0 0#32)) (Scalar.extui (Scalar.cmpi .slt arg0 0#32))
  let v10 : BitVec 32 := Scalar.subi (Scalar.extui (Scalar.cmpi .sgt 1#32 0#32)) (Scalar.extui (Scalar.cmpi .slt 1#32 0#32))
  Scalar.select (Scalar.andi (Scalar.cmpi .ne v5 v10) (Scalar.cmpi .ne (Scalar.remsi arg0 1#32) 0#32))
    (Scalar.subi (Scalar.divsi arg0 1#32) 1#32) (Scalar.divsi arg0 1#32)

lemma halfWord_eq : ∀ t : Fin grid0.N, halfWord (grid0.coords t) = BitVec.ofNat 32 (t.val / 1) := by decide +kernel

section Blocks

variable (t : Fin grid0.N) (k : BitVec 32) (a b : Vec Ideal S80x1024 .f32) (w mm v : Vec Ideal S1x80x1024 .f32) (x : S80x1024.Idx) (z : S1x80x1024.Idx)

lemma pay5_apply : k0_pay5 (grid0.coords t) k a b x = pick k (t.val / 1) (a x) (b x) := by
  unfold pick
  rw [← halfWord_eq]
  unfold k0_pay5
  show Scalar.select (IntOp.cmpi .eq (halfWord (grid0.coords t)) k) a b x = _
  generalize IntOp.cmpi .eq (halfWord (grid0.coords t)) k = q
  unfold Scalar.select
  split <;> rfl

lemma pay7_apply : k0_pay7 (grid0.coords t) k a b mm x = mNew (pick k (t.val / 1) (a x) (b x)) (at3 mm 0 (x 0).val (x 1).val) := by
  rw [at3_of_lt mm Nat.one_pos (x 0).isLt (x 1).isLt, ← pay5_apply t k a b]
  unfold k0_pay7 mNew
  generalize k0_pay5 (grid0.coords t) k a b = w
  idx_vars x
  pointwise

lemma pay1_apply : k0_pay1 a (k0_pay8 v) (Scalar.ofBits .f32 0x3F7FBE77#32) x = vNew (a x) (at3 v 0 (x 0).val (x 1).val) := by
  rw [at3_of_lt v Nat.one_pos (x 0).isLt (x 1).isLt]
  unfold k0_pay1 k0_pay8 vNew
  idx_vars x
  pointwise

/-- The gradient of a block's entry. -/
def gB : EReal := pick k (t.val / 1) (at2 a (z 1).val (z 2).val) (at2 b (z 1).val (z 2).val)

lemma pay6_apply : k0_pay6 (grid0.coords t) k a b z = gB t k a b z := by
  unfold gB
  rw [at2_of_lt a (z 1).isLt (z 2).isLt, at2_of_lt b (z 1).isLt (z 2).isLt, ← pay5_apply t k a b]
  unfold k0_pay6
  generalize k0_pay5 (grid0.coords t) k a b = w
  idx_vars z
  obtain rfl : z0 = 0 := Subsingleton.elim _ _
  pointwise

lemma pay2_apply : k0_pay2 (k0_pay7 (grid0.coords t) k a b mm) z = mNew (gB t k a b z) (at3 mm 0 (z 1).val (z 2).val) := by
  unfold gB
  rw [at2_of_lt a (z 1).isLt (z 2).isLt, at2_of_lt b (z 1).isLt (z 2).isLt]
  refine Eq.trans ?_ (pay7_apply t k a b mm (ix2 ⟨(z 1).val, (z 1).isLt⟩ ⟨(z 2).val, (z 2).isLt⟩))
  unfold k0_pay2
  generalize k0_pay7 (grid0.coords t) k a b mm = q
  idx_vars z
  obtain rfl : z0 = 0 := Subsingleton.elim _ _
  pointwise

lemma pay3_apply : k0_pay3 (k0_pay5 (grid0.coords t) k a b) (k0_pay8 v) (Scalar.ofBits .f32 0x3F7FBE77#32) z
    = vNew (gB t k a b z) (at3 v 0 (z 1).val (z 2).val) := by
  have e := pay1_apply (k0_pay5 (grid0.coords t) k a b) v (ix2 ⟨(z 1).val, (z 1).isLt⟩ ⟨(z 2).val, (z 2).isLt⟩)
  rw [pay5_apply] at e
  unfold gB
  rw [at2_of_lt a (z 1).isLt (z 2).isLt, at2_of_lt b (z 1).isLt (z 2).isLt]
  refine Eq.trans ?_ e
  unfold k0_pay3
  generalize k0_pay1 (F := Ideal) _ _ _ = q
  idx_vars z
  obtain rfl : z0 = 0 := Subsingleton.elim _ _
  pointwise

lemma pay4_apply : k0_pay4 (k0_pay5 (grid0.coords t) k a b) (k0_pay7 (grid0.coords t) k a b mm) (k0_pay8 v) (Scalar.ofBits .f32 0x3F7FBE77#32) w z
    = delta (at3 w 0 (z 1).val (z 2).val) (gB t k a b z) (at3 mm 0 (z 1).val (z 2).val) (at3 v 0 (z 1).val (z 2).val) := by
  have e := pay1_apply (k0_pay5 (grid0.coords t) k a b) v (ix2 ⟨(z 1).val, (z 1).isLt⟩ ⟨(z 2).val, (z 2).isLt⟩)
  rw [pay5_apply] at e
  unfold gB delta
  rw [at2_of_lt a (z 1).isLt (z 2).isLt, at2_of_lt b (z 1).isLt (z 2).isLt, at3_of_lt w Nat.one_pos (z 1).isLt (z 2).isLt]
  refine Eq.trans ?_ (congrArg₂ (fun p q => step p q _) (pay7_apply t k a b mm (ix2 ⟨(z 1).val, (z 1).isLt⟩ ⟨(z 2).val, (z 2).isLt⟩)) e)
  unfold k0_pay4 step
  generalize k0_pay1 (F := Ideal) _ _ _ = q
  generalize k0_pay7 (grid0.coords t) k a b mm = p
  idx_vars z
  obtain rfl : z0 = 0 := Subsingleton.elim _ _
  pointwise

end Blocks

/-! ## The output blocks -/

section Outs

variable (c : Dev nD) (t : Fin grid0.N) (a2 : Memref sig .tc .vmem S80x1024 .f32) (h2 : a2.IsWhole) (a3 : Memref sig .tc .vmem S80x1024 .f32) (h3 : a3.IsWhole) (a4 : Memref sig .tc .vmem S1x80x1024 .f32) (h4 : a4.IsWhole) (a5 : Memref sig .tc .vmem S1x80x1024 .f32) (h5 : a5.IsWhole) (a6 : Memref sig .tc .vmem S1x80x1024 .f32) (h6 : a6.IsWhole) (a7 : Memref sig .tc .vmem S1x80x1024 .f32) (h7 : a7.IsWhole) (a8 : Memref sig .tc .vmem S1x80x1024 .f32) (h8 : a8.IsWhole) (a9 : Memref sig .tc .vmem S1x80x1024 .f32) (h9 : a9.IsWhole) (a10 : Memref sig .tc .vmem S1x80x1024 .f32) (h10 : a10.IsWhole)
  (x0 x1 : Vec Ideal S80x1024 .f32) (x2 x3 x4 : Vec Ideal S1x80x1024 .f32) (xt : TbBuf0 (F := Ideal) c tbM0_0)

/-- The core's number, as the body reads it. -/
def word (xt : TbBuf0 (F := Ideal) c tbM0_0) : BitVec 32 := (show S1.Idx → BitVec 32 from xt) (ix1 0)

lemma word_eq (h) : View.read (Elt Ideal) (View.whole main_arg0) xt (Shape.Idx.first h) = word c xt := num_eq (show S1.Idx → BitVec 32 from xt) _

lemma out5 : out0_A_5 c (grid0.coords t) a2 h2 a3 h3 a4 h4 a5 h5 a6 h6 a7 h7 a8 h8 a9 h9 a10 h10 x0 x1 x2 x3 x4 xt
    = k0_pay6 (grid0.coords t) (word c xt) x0 x1 := by
  frame_out
  rw [word_eq c xt]

lemma out6 : out0_A_6 c (grid0.coords t) a2 h2 a3 h3 a4 h4 a5 h5 a6 h6 a7 h7 a8 h8 a9 h9 a10 h10 x0 x1 x2 x3 x4 xt
    = k0_pay4 (k0_pay5 (grid0.coords t) (word c xt) x0 x1) (k0_pay7 (grid0.coords t) (word c xt) x0 x1 x3) (k0_pay8 x4)
      (Scalar.ofBits .f32 0x3F7FBE77#32) x2 := by
  frame_out
  rw [word_eq c xt]

lemma out7 : out0_A_7 c (grid0.coords t) a2 h2 a3 h3 a4 h4 a5 h5 a6 h6 a7 h7 a8 h8 a9 h9 a10 h10 x0 x1 x2 x3 x4 xt
    = k0_pay2 (k0_pay7 (grid0.coords t) (word c xt) x0 x1 x3) := by
  frame_out
  rw [word_eq c xt]

lemma out8 : out0_A_8 c (grid0.coords t) a2 h2 a3 h3 a4 h4 a5 h5 a6 h6 a7 h7 a8 h8 a9 h9 a10 h10 x0 x1 x2 x3 x4 xt
    = k0_pay3 (k0_pay5 (grid0.coords t) (word c xt) x0 x1) (k0_pay8 x4) (Scalar.ofBits .f32 0x3F7FBE77#32) := by
  frame_out
  rw [word_eq c xt]

end Outs

section Arrays

variable (m : (ℓ : Loc nD τ sig) → Buf (Elt Ideal) ℓ) (hO : Ok m) (c : Dev nD) (t : Fin (cfgM m hO).N)

/-- The operands' blocks at a grid point. -/
def b0 : Vec Ideal S80x1024 .f32 := iblk m hO c 0 t
def b1 : Vec Ideal S80x1024 .f32 := iblk m hO c 1 t
def b2 : Vec Ideal S1x80x1024 .f32 := iblk m hO c 2 t
def b3 : Vec Ideal S1x80x1024 .f32 := iblk m hO c 3 t
def b4 : Vec Ideal S1x80x1024 .f32 := iblk m hO c 4 t

/-- The halves of the gradient, and the packed weights or moments. -/
abbrev Half := Ar2 80 1024
abbrev Packed := Ar3 1 160 1024

/-- The arguments in the launch memory. -/
abbrev a0 : Num := m (c.tc.loc main_arg0)
abbrev a1 : Half := m (c.tc.loc main_arg1)
abbrev a2 : Half := m (c.tc.loc main_arg2)
abbrev a3 : Packed := m (c.tc.loc main_arg3)
abbrev a4 : Packed := m (c.tc.loc main_arg4)
abbrev a5 : Packed := m (c.tc.loc main_arg5)

/-- The one table with the number zero. -/
def pf0 : pre0.Contents (Elt Ideal) := fun | ⟨0, _⟩ => fun _ => 0#32 | ⟨_ + 1, h⟩ => absurd h (by simp)

/-- No index map reads the table, so that a block's place does not depend on what it holds. -/
abbrev adm0 : (pcfg0 (F := Ideal)).Adm := ⟨pf0, trivial⟩

lemma e0 : (pcfg0.win (adm m hO) 0).index t = ![0, 0] :=
  (by decide +kernel : ∀ t : Fin grid0.N, (pcfg0.win adm0 0).index t = ![0, 0]) t

lemma e2 : (pcfg0.win (adm m hO) 2).index t = ![0, t.val, 0] :=
  (by decide +kernel : ∀ t : Fin grid0.N, (pcfg0.win adm0 2).index t = ![0, t.val, 0]) t

lemma blk0 (r l : Nat) (hr : r < 80) (hl : l < 1024) : at2 (b0 m hO c t) r l = at2 (a1 m c) r l := by
  rw [at2_of_lt _ hr hl, at2_of_lt _ (by omega) hl]
  blk_simp [b0, iblk]
  refine Eq.trans (congrFun (V_main_arg1 m c) _) ?_
  refine congrArg (a1 m c) (?_ : ((((cfgM m hO).win 0).blk t).view.emb (ix2 ⟨r, hr⟩ ⟨l, hl⟩) : S80x1024.Idx) = _)
  blk_ext
  · exact at_col (congrFun (e0 m hO t) 0)
  · exact at_col (congrFun (e0 m hO t) 1)

lemma blk1 (r l : Nat) (hr : r < 80) (hl : l < 1024) : at2 (b1 m hO c t) r l = at2 (a2 m c) r l := by
  rw [at2_of_lt _ hr hl, at2_of_lt _ (by omega) hl]
  blk_simp [b1, iblk]
  refine Eq.trans (congrFun (V_main_arg2 m c) _) ?_
  refine congrArg (a2 m c) (?_ : ((((cfgM m hO).win 1).blk t).view.emb (ix2 ⟨r, hr⟩ ⟨l, hl⟩) : S80x1024.Idx) = _)
  blk_ext
  · exact at_col (congrFun (e0 m hO t) 0)
  · exact at_col (congrFun (e0 m hO t) 1)

/-- Where a block's entry lies in its array. -/
def place (y : S1x80x1024.Idx) : (⟨3, ![1, 160, 1024]⟩ : Shape).Idx :=
  ix3 0 ⟨80 * t.val + (y 1).val, by have ht : t.val < 2 := t.isLt; have h1 : (y 1).val < 80 := (y 1).isLt; omega⟩ ⟨(y 2).val, (y 2).isLt⟩

lemma emb2 (y : S1x80x1024.Idx) : ((((cfgM m hO).win 2).blk t).view.emb y : S1x160x1024.Idx) = place m hO t y := by
  blk_ext
  · exact congrFun (e2 m hO t) 0
  · exact at_row (congrFun (e2 m hO t) 1)
  · exact at_col (congrFun (e2 m hO t) 2)

lemma blk2 (y : S1x80x1024.Idx) : at3 (b2 m hO c t) 0 (y 1).val (y 2).val = a3 m c (place m hO t y) := by
  refine (at3_eq (b2 m hO c t) y (Nat.lt_one_iff.mp (y 0).isLt) rfl rfl).symm.trans ?_
  blk_simp [b2, iblk]
  refine Eq.trans (congrFun (V_main_arg3 m c) _) ?_
  exact congrArg (a3 m c) (emb2 m hO t y)

lemma blk3 (y : S1x80x1024.Idx) : at3 (b3 m hO c t) 0 (y 1).val (y 2).val = a4 m c (place m hO t y) := by
  refine (at3_eq (b3 m hO c t) y (Nat.lt_one_iff.mp (y 0).isLt) rfl rfl).symm.trans ?_
  blk_simp [b3, iblk]
  refine Eq.trans (congrFun (V_main_arg4 m c) _) ?_
  exact congrArg (a4 m c) (emb2 m hO t y)

lemma blk4 (y : S1x80x1024.Idx) : at3 (b4 m hO c t) 0 (y 1).val (y 2).val = a5 m c (place m hO t y) := by
  refine (at3_eq (b4 m hO c t) y (Nat.lt_one_iff.mp (y 0).isLt) rfl rfl).symm.trans ?_
  blk_simp [b4, iblk]
  refine Eq.trans (congrFun (V_main_arg5 m c) _) ?_
  exact congrArg (a5 m c) (emb2 m hO t y)

/-- The gradient's entry of an index. -/
def gAt (k : Num) (a b : Half) (i : (⟨3, ![1, 160, 1024]⟩ : Shape).Idx) : EReal := grad 80 (k (ix1 0)) (at2 a) (at2 b) (i 1).val (i 2).val

def gOf (k : Num) (a b : Half) : Packed := fun i => gAt k a b i

def deltaOf (k : Num) (a b : Half) (w mm v : Packed) : Packed := fun i => delta (w i) (gAt k a b i) (mm i) (v i)

def mOf (k : Num) (a b : Half) (mm : Packed) : Packed := fun i => mNew (gAt k a b i) (mm i)

def vOf (k : Num) (a b : Half) (v : Packed) : Packed := fun i => vNew (gAt k a b i) (v i)

lemma g_blk (y : S1x80x1024.Idx) : gB t (word c (tbl m 0)) (b0 m hO c t) (b1 m hO c t) y = gAt (a0 m c) (a1 m c) (a2 m c) (place m hO t y) := by
  have h1 : (y 1).val < 80 := (y 1).isLt
  unfold gB gAt grad
  have e1 : (place m hO t y 1).val = 80 * t.val + (y 1).val := rfl
  have e2 : (place m hO t y 2).val = (y 2).val := rfl
  have e3 : (80 * t.val + (y 1).val) / 80 = t.val / 1 := by omega
  have e4 : (80 * t.val + (y 1).val) % 80 = (y 1).val := by omega
  have e5 : word c (tbl m 0) = a0 m c (ix1 0) := by
    obtain rfl : c = 0 := Subsingleton.elim _ _
    rfl
  rw [e1, e2, e3, e4, blk0 m hO c t _ _ (y 1).isLt (y 2).isLt, blk1 m hO c t _ _ (y 1).isLt (y 2).isLt, e5]

lemma covers5 : ((cfgM m hO).win 5).Covers :=
  (by decide +kernel : (pcfg0.win adm0 5).Covers)

lemma covers6 : ((cfgM m hO).win 6).Covers :=
  (by decide +kernel : (pcfg0.win adm0 6).Covers)

lemma covers7 : ((cfgM m hO).win 7).Covers :=
  (by decide +kernel : (pcfg0.win adm0 7).Covers)

lemma covers8 : ((cfgM m hO).win 8).Covers :=
  (by decide +kernel : (pcfg0.win adm0 8).Covers)

lemma outsAt5 (y : S1x80x1024.Idx) : (outsAt0 m hO c t).1 y = gOf (a0 m c) (a1 m c) (a2 m c) (place m hO t y) := by
  unfold outsAt0
  dsimp only
  refine (congrFun (out5 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay6_apply t _ (b0 m hO c t) (b1 m hO c t) y).trans ?_)
  rw [g_blk]
  rfl

lemma array5 : (dats m hO 0 c).arrAt 5 (cfgM m hO).N = gOf (a0 m c) (a1 m c) (a2 m c) := by
  refine (dats m hO 0 c).arrAt_eq_of_covers 5 _ (covers5 m hO) fun t hf y => ?_
  blk_simp
  rw [after0_5]
  exact (outsAt5 m hO c t y).trans (congrArg (gOf (a0 m c) (a1 m c) (a2 m c)) (emb2 m hO t y).symm)

lemma outsAt6 (y : S1x80x1024.Idx) : (outsAt0 m hO c t).2.1 y = deltaOf (a0 m c) (a1 m c) (a2 m c) (a3 m c) (a4 m c) (a5 m c) (place m hO t y) := by
  unfold outsAt0
  dsimp only
  refine (congrFun (out6 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay4_apply t _ (b0 m hO c t) (b1 m hO c t) (b2 m hO c t) (b3 m hO c t) (b4 m hO c t) y).trans ?_)
  rw [blk2, blk3, blk4, g_blk]
  rfl

lemma array6 : (dats m hO 0 c).arrAt 6 (cfgM m hO).N = deltaOf (a0 m c) (a1 m c) (a2 m c) (a3 m c) (a4 m c) (a5 m c) := by
  refine (dats m hO 0 c).arrAt_eq_of_covers 6 _ (covers6 m hO) fun t hf y => ?_
  blk_simp
  rw [after0_6]
  exact (outsAt6 m hO c t y).trans (congrArg (deltaOf (a0 m c) (a1 m c) (a2 m c) (a3 m c) (a4 m c) (a5 m c)) (emb2 m hO t y).symm)

lemma outsAt7 (y : S1x80x1024.Idx) : (outsAt0 m hO c t).2.2.1 y = mOf (a0 m c) (a1 m c) (a2 m c) (a4 m c) (place m hO t y) := by
  unfold outsAt0
  dsimp only
  refine (congrFun (out7 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay2_apply t _ (b0 m hO c t) (b1 m hO c t) (b3 m hO c t) y).trans ?_)
  rw [blk3, g_blk]
  rfl

lemma array7 : (dats m hO 0 c).arrAt 7 (cfgM m hO).N = mOf (a0 m c) (a1 m c) (a2 m c) (a4 m c) := by
  refine (dats m hO 0 c).arrAt_eq_of_covers 7 _ (covers7 m hO) fun t hf y => ?_
  blk_simp
  rw [after0_7]
  exact (outsAt7 m hO c t y).trans (congrArg (mOf (a0 m c) (a1 m c) (a2 m c) (a4 m c)) (emb2 m hO t y).symm)

lemma outsAt8 (y : S1x80x1024.Idx) : (outsAt0 m hO c t).2.2.2 y = vOf (a0 m c) (a1 m c) (a2 m c) (a5 m c) (place m hO t y) := by
  unfold outsAt0
  dsimp only
  refine (congrFun (out8 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay3_apply t _ (b0 m hO c t) (b1 m hO c t) (b4 m hO c t) y).trans ?_)
  rw [blk4, g_blk]
  rfl

lemma array8 : (dats m hO 0 c).arrAt 8 (cfgM m hO).N = vOf (a0 m c) (a1 m c) (a2 m c) (a5 m c) := by
  refine (dats m hO 0 c).arrAt_eq_of_covers 8 _ (covers8 m hO) fun t hf y => ?_
  blk_simp
  rw [after0_8]
  exact (outsAt8 m hO c t y).trans (congrArg (vOf (a0 m c) (a1 m c) (a2 m c) (a5 m c)) (emb2 m hO t y).symm)

lemma run_blocks (ρ : Dev nD → PrngReg) : θ_run defs (onTc (τ := τ) (main (F := Ideal))) ⟨m, fun _ => 0, ρ⟩ (fun r => ∀ c : Dev nD,
      r.2.mem (c.tc.loc main_v0_0) = (dats m hO 0 c).arrAt 5 (cfgM m hO).N
      ∧ r.2.mem (c.tc.loc main_v0_1) = (dats m hO 0 c).arrAt 6 (cfgM m hO).N
      ∧ r.2.mem (c.tc.loc main_v0_2) = (dats m hO 0 c).arrAt 7 (cfgM m hO).N
      ∧ r.2.mem (c.tc.loc main_v0_3) = (dats m hO 0 c).arrAt 8 (cfgM m hO).N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
  (θ_run defs _ _).mono (fun r h c => ⟨(h c).1 5, (h c).1 6, (h c).1 7, (h c).1 8,
    ((h c).2 main_arg0 (by decide : main_arg0 ∈ Pipeline.restRefs sig spec0)).trans (V_main_arg0 m c),
    ((h c).1 0).trans (((dats m hO 0 c).arrAt_in 0 rfl _).trans ((A_eq m hO c 0).trans (V_main_arg1 m c))),
    ((h c).1 1).trans (((dats m hO 0 c).arrAt_in 1 rfl _).trans ((A_eq m hO c 1).trans (V_main_arg2 m c))),
    ((h c).1 2).trans (((dats m hO 0 c).arrAt_in 2 rfl _).trans ((A_eq m hO c 2).trans (V_main_arg3 m c))),
    ((h c).1 3).trans (((dats m hO 0 c).arrAt_in 3 rfl _).trans ((A_eq m hO c 3).trans (V_main_arg4 m c))),
    ((h c).1 4).trans (((dats m hO 0 c).arrAt_in 4 rfl _).trans ((A_eq m hO c 4).trans (V_main_arg5 m c)))⟩) (run_main m ρ hO)

end Arrays

/-! ## The reference's arrays -/

section Reference

open Cert.Reference12Ideal.Read

lemma half0 (x0 x1 x2) (i : Cert.Reference12Ideal.S80x1024.Idx) : val_main_v2 (F := Ideal) x0 x1 x2 i = pick (x0 (ix1 0)) 0 (x1 i) (x2 i) := by
  unfold pick
  rw [cmp_comm]
  show Scalar.select (IntOp.cmpi .eq (val_main_v0 (F := Ideal) x0 _) 0#32) (x1 i) (x2 i) = _
  rw [show ∀ j, val_main_v0 (F := Ideal) x0 j = x0 (ix1 0) from fun j => num_eq x0 _]

lemma half1 (x0 x1 x2) (i : Cert.Reference12Ideal.S80x1024.Idx) : val_main_v5 (F := Ideal) x0 x1 x2 i = pick (x0 (ix1 0)) 1 (x1 i) (x2 i) := by
  unfold pick
  rw [cmp_comm]
  show Scalar.select (IntOp.cmpi .eq (val_main_v3 (F := Ideal) x0 _) 1#32) (x1 i) (x2 i) = _
  rw [show ∀ j, val_main_v3 (F := Ideal) x0 j = x0 (ix1 0) from fun j => num_eq x0 _]

lemma ref_cat (x0 x1 x2) (i : Cert.Reference12Ideal.S160x1024.Idx) :
    val_main_v6 (F := Ideal) x0 x1 x2 i = grad 80 (x0 (ix1 0)) (at2 x1) (at2 x2) (i 0).val (i 1).val := by
  have h0 : (i 0).val < 160 := (i 0).isLt
  have h1 : (i 1).val < 1024 := (i 1).isLt
  idx_vars i
  unfold val_main_v6 grad
  by_cases h : i0.val < 80
  · refine (MixFwd.cat_row _ _ 0 0 (by simp) _ rfl rfl i0 i1 (by omega) (by omega)).trans ?_
    have e : i0.val / 80 = 0 := by omega
    have e' : i0.val % 80 = i0.val - 0 := by omega
    rw [half0, e, e', at2_of_lt x1 (by omega) i1.isLt, at2_of_lt x2 (by omega) i1.isLt]
  · refine (MixFwd.cat_row _ _ 1 80 (by simp) _ rfl rfl i0 i1 (by omega) (by omega)).trans ?_
    have e : i0.val / 80 = 1 := by omega
    have e' : i0.val % 80 = i0.val - 80 := by omega
    rw [half1, e, e', at2_of_lt x1 (by omega) i1.isLt, at2_of_lt x2 (by omega) i1.isLt]

lemma ref_g (x0 x1 x2) : val_main_v7 (F := Ideal) x0 x1 x2 = gOf x0 x1 x2 := by
  funext i
  rw [val_main_v7_apply, ref_cat]
  rfl

lemma ref_m (x0 x1 x2 x4) : val_main_v12 (F := Ideal) x0 x1 x2 x4 = mOf x0 x1 x2 x4 := by
  funext i
  rw [val_main_v12_apply, val_main_v9_apply, val_main_v8_apply, val_main_cst_apply, val_main_v11_apply, val_main_v10_apply, val_main_cst_1_apply, ref_g]
  rfl

lemma ref_v (x0 x1 x2 x5) : val_main_v18 (F := Ideal) x0 x1 x2 x5 = vOf x0 x1 x2 x5 := by
  funext i
  rw [val_main_v18_apply, val_main_v14_apply, val_main_v13_apply, val_main_cst_2_apply, val_main_v17_apply, val_main_v16_apply, val_main_cst_3_apply,
    val_main_v15_apply, ref_g]
  rfl

lemma ref_delta (x0 x1 x2 x3 x4 x5) : val_main_v31 (F := Ideal) x0 x1 x2 x3 x4 x5 = deltaOf x0 x1 x2 x3 x4 x5 := by
  funext i
  rw [val_main_v31_apply, val_main_v30_apply, val_main_cst_8_apply, val_main_v29_apply, val_main_v28_apply, val_main_v27_apply, val_main_cst_7_apply,
    val_main_v26_apply, val_main_v25_apply, val_main_v24_apply, val_main_cst_6_apply, val_main_v23_apply, val_main_v22_apply, val_main_v21_apply,
    val_main_cst_5_apply, val_main_v20_apply, val_main_v19_apply, val_main_cst_4_apply, ref_m, ref_v]
  rfl

end Reference

/-! ## The claim -/

lemma algebraic_adam : Cert.algebraic_Kernel12Ideal_Reference12Ideal := fun m ρ m' ρ' _ hag =>
  ⟨fun c => (dats m trivial 0 c).arrAt 5 (cfgM m trivial).N, fun c => (dats m trivial 0 c).arrAt 6 (cfgM m trivial).N,
    fun c => (dats m trivial 0 c).arrAt 7 (cfgM m trivial).N, fun c => (dats m trivial 0 c).arrAt 8 (cfgM m trivial).N, run_blocks m trivial ρ,
    (θ_run _ _ _).mono (fun _ h c => by
      obtain ⟨h0, h1, h2, h3, h4, h5⟩ := hag c
      refine ⟨(h c).1.trans ?_, (h c).2.1.trans ?_, (h c).2.2.1.trans ?_, (h c).2.2.2.1.trans ?_, (h c).2.2.2.2⟩
      · rw [h0, h1, h2]
        exact (Cert.Reference12Ideal.Read.val_main_v7_eq _ _ _).trans ((ref_g _ _ _).trans (array5 m trivial c).symm)
      · rw [h0, h1, h2, h3, h4, h5]
        exact (Cert.Reference12Ideal.Read.val_main_v31_eq _ _ _ _ _ _).trans ((ref_delta _ _ _ _ _ _).trans (array6 m trivial c).symm)
      · rw [h0, h1, h2, h4]
        exact (Cert.Reference12Ideal.Read.val_main_v12_eq _ _ _ _).trans ((ref_m _ _ _ _).trans (array7 m trivial c).symm)
      · rw [h0, h1, h2, h5]
        exact (Cert.Reference12Ideal.Read.val_main_v18_eq _ _ _ _).trans ((ref_v _ _ _ _).trans (array8 m trivial c).symm))
      (Cert.Reference12Ideal.Value.run m' ρ')⟩

end Cert.Proof.Adam
-- ==== Proof.AdamBig.lean ====
module

public import proofs.«01_k».proof.Proof.Adam
public import proofs.«01_k».proof.Proof.Gen.Kernel13Ideal.Frame
public import proofs.«01_k».proof.Proof.Gen.Reference13Ideal.Read

@[expose] public section

set_option maxRecDepth 16384

noncomputable section

/-! The optimiser on the second layer of a stack of two matrices, with the first layer's results passed through. -/

namespace Cert.Proof.AdamBig

open Cert.Kernel13Ideal Cert.Kernel13Ideal.Gen Idealize.ShloMosaic Idealize.ShloMosaic.TcCoe Idealize.SL.Sem
  Idealize.ShloMosaic.Tactic

open Adam (Num num_eq at_row at_col cmp_comm mNew vNew step delta pick grad)

/-! ## The body at an index -/

/-- The number of the half that a grid point is in, as the body computes it. -/
def halfWord (i : grid0.Coords) : BitVec 32 :=
  let arg0 : BitVec 32 := BitVec.ofNat 32 (i 0).val
  let v5 : BitVec 32 := Scalar.subi (Scalar.extui (Scalar.cmpi .sgt arg0 0#32)) (Scalar.extui (Scalar.cmpi .slt arg0 0#32))
  let v10 : BitVec 32 := Scalar.subi (Scalar.extui (Scalar.cmpi .sgt 2#32 0#32)) (Scalar.extui (Scalar.cmpi .slt 2#32 0#32))
  Scalar.select (Scalar.andi (Scalar.cmpi .ne v5 v10) (Scalar.cmpi .ne (Scalar.remsi arg0 2#32) 0#32))
    (Scalar.subi (Scalar.divsi arg0 2#32) 1#32) (Scalar.divsi arg0 2#32)

lemma halfWord_eq : ∀ t : Fin grid0.N, halfWord (grid0.coords t) = BitVec.ofNat 32 (t.val / 2) := by decide +kernel

section Blocks

variable (t : Fin grid0.N) (k : BitVec 32) (a b : Vec Ideal S256x1024 .f32) (w mm v : Vec Ideal S1x256x1024 .f32) (x : S256x1024.Idx) (z : S1x256x1024.Idx)

lemma pay5_apply : k0_pay5 (grid0.coords t) k a b x = pick k (t.val / 2) (a x) (b x) := by
  unfold pick
  rw [← halfWord_eq]
  unfold k0_pay5
  show Scalar.select (IntOp.cmpi .eq (halfWord (grid0.coords t)) k) a b x = _
  generalize IntOp.cmpi .eq (halfWord (grid0.coords t)) k = q
  unfold Scalar.select
  split <;> rfl

lemma pay7_apply : k0_pay7 (grid0.coords t) k a b mm x = mNew (pick k (t.val / 2) (a x) (b x)) (at3 mm 0 (x 0).val (x 1).val) := by
  rw [at3_of_lt mm Nat.one_pos (x 0).isLt (x 1).isLt, ← pay5_apply t k a b]
  unfold k0_pay7 mNew
  generalize k0_pay5 (grid0.coords t) k a b = w
  idx_vars x
  pointwise

lemma pay1_apply : k0_pay1 a (k0_pay8 v) (Scalar.ofBits .f32 0x3F7FBE77#32) x = vNew (a x) (at3 v 0 (x 0).val (x 1).val) := by
  rw [at3_of_lt v Nat.one_pos (x 0).isLt (x 1).isLt]
  unfold k0_pay1 k0_pay8 vNew
  idx_vars x
  pointwise

/-- The gradient of a block's entry. -/
def gB : EReal := pick k (t.val / 2) (at2 a (z 1).val (z 2).val) (at2 b (z 1).val (z 2).val)

lemma pay6_apply : k0_pay6 (grid0.coords t) k a b z = gB t k a b z := by
  unfold gB
  rw [at2_of_lt a (z 1).isLt (z 2).isLt, at2_of_lt b (z 1).isLt (z 2).isLt, ← pay5_apply t k a b]
  unfold k0_pay6
  generalize k0_pay5 (grid0.coords t) k a b = w
  idx_vars z
  obtain rfl : z0 = 0 := Subsingleton.elim _ _
  pointwise

lemma pay2_apply : k0_pay2 (k0_pay7 (grid0.coords t) k a b mm) z = mNew (gB t k a b z) (at3 mm 0 (z 1).val (z 2).val) := by
  unfold gB
  rw [at2_of_lt a (z 1).isLt (z 2).isLt, at2_of_lt b (z 1).isLt (z 2).isLt]
  refine Eq.trans ?_ (pay7_apply t k a b mm (ix2 ⟨(z 1).val, (z 1).isLt⟩ ⟨(z 2).val, (z 2).isLt⟩))
  unfold k0_pay2
  generalize k0_pay7 (grid0.coords t) k a b mm = q
  idx_vars z
  obtain rfl : z0 = 0 := Subsingleton.elim _ _
  pointwise

lemma pay3_apply : k0_pay3 (k0_pay5 (grid0.coords t) k a b) (k0_pay8 v) (Scalar.ofBits .f32 0x3F7FBE77#32) z
    = vNew (gB t k a b z) (at3 v 0 (z 1).val (z 2).val) := by
  have e := pay1_apply (k0_pay5 (grid0.coords t) k a b) v (ix2 ⟨(z 1).val, (z 1).isLt⟩ ⟨(z 2).val, (z 2).isLt⟩)
  rw [pay5_apply] at e
  unfold gB
  rw [at2_of_lt a (z 1).isLt (z 2).isLt, at2_of_lt b (z 1).isLt (z 2).isLt]
  refine Eq.trans ?_ e
  unfold k0_pay3
  generalize k0_pay1 (F := Ideal) _ _ _ = q
  idx_vars z
  obtain rfl : z0 = 0 := Subsingleton.elim _ _
  pointwise

lemma pay4_apply : k0_pay4 (k0_pay5 (grid0.coords t) k a b) (k0_pay7 (grid0.coords t) k a b mm) (k0_pay8 v) (Scalar.ofBits .f32 0x3F7FBE77#32) w z
    = delta (at3 w 0 (z 1).val (z 2).val) (gB t k a b z) (at3 mm 0 (z 1).val (z 2).val) (at3 v 0 (z 1).val (z 2).val) := by
  have e := pay1_apply (k0_pay5 (grid0.coords t) k a b) v (ix2 ⟨(z 1).val, (z 1).isLt⟩ ⟨(z 2).val, (z 2).isLt⟩)
  rw [pay5_apply] at e
  unfold gB delta
  rw [at2_of_lt a (z 1).isLt (z 2).isLt, at2_of_lt b (z 1).isLt (z 2).isLt, at3_of_lt w Nat.one_pos (z 1).isLt (z 2).isLt]
  refine Eq.trans ?_ (congrArg₂ (fun p q => step p q _) (pay7_apply t k a b mm (ix2 ⟨(z 1).val, (z 1).isLt⟩ ⟨(z 2).val, (z 2).isLt⟩)) e)
  unfold k0_pay4 step
  generalize k0_pay1 (F := Ideal) _ _ _ = q
  generalize k0_pay7 (grid0.coords t) k a b mm = p
  idx_vars z
  obtain rfl : z0 = 0 := Subsingleton.elim _ _
  pointwise

end Blocks

/-! ## The output blocks -/

section Outs

variable (c : Dev nD) (t : Fin grid0.N) (a2 : Memref sig .tc .vmem S256x1024 .f32) (h2 : a2.IsWhole) (a3 : Memref sig .tc .vmem S256x1024 .f32) (h3 : a3.IsWhole) (a4 : Memref sig .tc .vmem S1x256x1024 .f32) (h4 : a4.IsWhole) (a5 : Memref sig .tc .vmem S1x256x1024 .f32) (h5 : a5.IsWhole) (a6 : Memref sig .tc .vmem S1x256x1024 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (a10 : Memref sig .tc .vmem S1x256x1024 .f32) (h10 : a10.IsWhole)
  (x0 x1 : Vec Ideal S256x1024 .f32) (x2 x3 x4 : Vec Ideal S1x256x1024 .f32) (xt : TbBuf0 (F := Ideal) c tbM0_0)

/-- The core's number, as the body reads it. -/
def word (xt : TbBuf0 (F := Ideal) c tbM0_0) : BitVec 32 := (show S1.Idx → BitVec 32 from xt) (ix1 0)

lemma word_eq (h) : View.read (Elt Ideal) (View.whole main_arg0) xt (Shape.Idx.first h) = word c xt := Adam.num_eq (show S1.Idx → BitVec 32 from xt) _

lemma out5 : out0_A_5 c (grid0.coords t) a2 h2 a3 h3 a4 h4 a5 h5 a6 h6 a7 h7 a8 h8 a9 h9 a10 h10 x0 x1 x2 x3 x4 xt
    = k0_pay6 (grid0.coords t) (word c xt) x0 x1 := by
  frame_out
  rw [word_eq c xt]

lemma out6 : out0_A_6 c (grid0.coords t) a2 h2 a3 h3 a4 h4 a5 h5 a6 h6 a7 h7 a8 h8 a9 h9 a10 h10 x0 x1 x2 x3 x4 xt
    = k0_pay4 (k0_pay5 (grid0.coords t) (word c xt) x0 x1) (k0_pay7 (grid0.coords t) (word c xt) x0 x1 x3) (k0_pay8 x4)
      (Scalar.ofBits .f32 0x3F7FBE77#32) x2 := by
  frame_out
  rw [word_eq c xt]

lemma out7 : out0_A_7 c (grid0.coords t) a2 h2 a3 h3 a4 h4 a5 h5 a6 h6 a7 h7 a8 h8 a9 h9 a10 h10 x0 x1 x2 x3 x4 xt
    = k0_pay2 (k0_pay7 (grid0.coords t) (word c xt) x0 x1 x3) := by
  frame_out
  rw [word_eq c xt]

lemma out8 : out0_A_8 c (grid0.coords t) a2 h2 a3 h3 a4 h4 a5 h5 a6 h6 a7 h7 a8 h8 a9 h9 a10 h10 x0 x1 x2 x3 x4 xt
    = k0_pay3 (k0_pay5 (grid0.coords t) (word c xt) x0 x1) (k0_pay8 x4) (Scalar.ofBits .f32 0x3F7FBE77#32) := by
  frame_out
  rw [word_eq c xt]

end Outs

section Arrays

variable (m : (ℓ : Loc nD τ sig) → Buf (Elt Ideal) ℓ) (hO : Ok m) (c : Dev nD) (t : Fin (cfgM m hO).N)

/-- The operands' blocks at a grid point. -/
def b0 : Vec Ideal S256x1024 .f32 := iblk m hO c 0 t
def b1 : Vec Ideal S256x1024 .f32 := iblk m hO c 1 t
def b2 : Vec Ideal S1x256x1024 .f32 := iblk m hO c 2 t
def b3 : Vec Ideal S1x256x1024 .f32 := iblk m hO c 3 t
def b4 : Vec Ideal S1x256x1024 .f32 := iblk m hO c 4 t

/-- The halves of the gradient, and the layers of the weights or moments. -/
abbrev Half := Ar2 512 1024
abbrev Layers := Ar3 2 1024 1024

/-- The arguments in the launch memory. -/
abbrev a0 : Num := m (c.tc.loc main_arg0)
abbrev a1 : Half := m (c.tc.loc main_arg1)
abbrev a2 : Half := m (c.tc.loc main_arg2)
abbrev a3 : Layers := m (c.tc.loc main_arg3)
abbrev a4 : Layers := m (c.tc.loc main_arg4)
abbrev a5 : Layers := m (c.tc.loc main_arg5)
abbrev a6 : Layers := m (c.tc.loc main_arg6)
abbrev a7 : Layers := m (c.tc.loc main_arg7)
abbrev a8 : Layers := m (c.tc.loc main_arg8)
abbrev a9 : Layers := m (c.tc.loc main_arg9)

/-- The one table with the number zero. -/
def pf0 : pre0.Contents (Elt Ideal) := fun | ⟨0, _⟩ => fun _ => 0#32 | ⟨_ + 1, h⟩ => absurd h (by simp)

/-- No index map reads the table, so that a block's place does not depend on what it holds. -/
abbrev adm0 : (pcfg0 (F := Ideal)).Adm := ⟨pf0, trivial⟩

lemma e0 : (pcfg0.win (adm m hO) 0).index t = ![t.val % 2, 0] :=
  (by decide +kernel : ∀ t : Fin grid0.N, (pcfg0.win adm0 0).index t = ![t.val % 2, 0]) t

lemma e2 : (pcfg0.win (adm m hO) 2).index t = ![1, t.val, 0] :=
  (by decide +kernel : ∀ t : Fin grid0.N, (pcfg0.win adm0 2).index t = ![1, t.val, 0]) t

lemma blk0 (r l : Nat) (hr : r < 256) (hl : l < 1024) : at2 (b0 m hO c t) r l = at2 (a1 m c) (256 * (t.val % 2) + r) l := by
  rw [at2_of_lt _ hr hl, at2_of_lt _ (by omega) hl]
  blk_simp [b0, iblk]
  refine Eq.trans (congrFun (V_main_arg1 m c) _) ?_
  refine congrArg (a1 m c) (?_ : ((((cfgM m hO).win 0).blk t).view.emb (ix2 ⟨r, hr⟩ ⟨l, hl⟩) : S512x1024.Idx) = _)
  blk_ext
  · exact at_row (congrFun (e0 m hO t) 0)
  · exact at_col (congrFun (e0 m hO t) 1)

lemma blk1 (r l : Nat) (hr : r < 256) (hl : l < 1024) : at2 (b1 m hO c t) r l = at2 (a2 m c) (256 * (t.val % 2) + r) l := by
  rw [at2_of_lt _ hr hl, at2_of_lt _ (by omega) hl]
  blk_simp [b1, iblk]
  refine Eq.trans (congrFun (V_main_arg2 m c) _) ?_
  refine congrArg (a2 m c) (?_ : ((((cfgM m hO).win 1).blk t).view.emb (ix2 ⟨r, hr⟩ ⟨l, hl⟩) : S512x1024.Idx) = _)
  blk_ext
  · exact at_row (congrFun (e0 m hO t) 0)
  · exact at_col (congrFun (e0 m hO t) 1)

/-- Where a block's entry lies in its array. -/
def place (y : S1x256x1024.Idx) : (⟨3, ![2, 1024, 1024]⟩ : Shape).Idx :=
  ix3 1 ⟨256 * t.val + (y 1).val, by have ht : t.val < 4 := t.isLt; have h1 : (y 1).val < 256 := (y 1).isLt; omega⟩ ⟨(y 2).val, (y 2).isLt⟩

lemma emb2 (y : S1x256x1024.Idx) : ((((cfgM m hO).win 2).blk t).view.emb y : S2x1024x1024.Idx) = place m hO t y := by
  blk_ext
  · exact congrFun (e2 m hO t) 0
  · exact at_row (congrFun (e2 m hO t) 1)
  · exact at_col (congrFun (e2 m hO t) 2)

lemma blk2 (y : S1x256x1024.Idx) : at3 (b2 m hO c t) 0 (y 1).val (y 2).val = a3 m c (place m hO t y) := by
  refine (at3_eq (b2 m hO c t) y (Nat.lt_one_iff.mp (y 0).isLt) rfl rfl).symm.trans ?_
  blk_simp [b2, iblk]
  refine Eq.trans (congrFun (V_main_arg3 m c) _) ?_
  exact congrArg (a3 m c) (emb2 m hO t y)

lemma blk3 (y : S1x256x1024.Idx) : at3 (b3 m hO c t) 0 (y 1).val (y 2).val = a4 m c (place m hO t y) := by
  refine (at3_eq (b3 m hO c t) y (Nat.lt_one_iff.mp (y 0).isLt) rfl rfl).symm.trans ?_
  blk_simp [b3, iblk]
  refine Eq.trans (congrFun (V_main_arg4 m c) _) ?_
  exact congrArg (a4 m c) (emb2 m hO t y)

lemma blk4 (y : S1x256x1024.Idx) : at3 (b4 m hO c t) 0 (y 1).val (y 2).val = a5 m c (place m hO t y) := by
  refine (at3_eq (b4 m hO c t) y (Nat.lt_one_iff.mp (y 0).isLt) rfl rfl).symm.trans ?_
  blk_simp [b4, iblk]
  refine Eq.trans (congrFun (V_main_arg5 m c) _) ?_
  exact congrArg (a5 m c) (emb2 m hO t y)

/-- The gradient's entry of an index. -/
def gAt (k : Num) (a b : Half) (i : (⟨3, ![2, 1024, 1024]⟩ : Shape).Idx) : EReal := grad 512 (k (ix1 0)) (at2 a) (at2 b) (i 1).val (i 2).val

/-- The new layer beside the earlier one. -/
def layers (new old : Layers) : Layers := fun i => if (i 0).val = 1 then new i else old i

def gOf (k : Num) (a b : Half) : Layers := fun i => gAt k a b i

def deltaOf (k : Num) (a b : Half) (w mm v : Layers) : Layers := fun i => delta (w i) (gAt k a b i) (mm i) (v i)

def mOf (k : Num) (a b : Half) (mm : Layers) : Layers := fun i => mNew (gAt k a b i) (mm i)

def vOf (k : Num) (a b : Half) (v : Layers) : Layers := fun i => vNew (gAt k a b i) (v i)

lemma g_blk (y : S1x256x1024.Idx) : gB t (word c (tbl m 0)) (b0 m hO c t) (b1 m hO c t) y = gAt (a0 m c) (a1 m c) (a2 m c) (place m hO t y) := by
  have h1 : (y 1).val < 256 := (y 1).isLt
  unfold gB gAt grad
  have e1 : (place m hO t y 1).val = 256 * t.val + (y 1).val := rfl
  have e2 : (place m hO t y 2).val = (y 2).val := rfl
  have e3 : (256 * t.val + (y 1).val) / 512 = t.val / 2 := by omega
  have e4 : (256 * t.val + (y 1).val) % 512 = 256 * (t.val % 2) + (y 1).val := by omega
  have e5 : word c (tbl m 0) = a0 m c (ix1 0) := by
    obtain rfl : c = 0 := Subsingleton.elim _ _
    exact congrFun (V_main_arg0 m 0) (ix1 0)
  rw [e1, e2, e3, e4, blk0 m hO c t _ _ (y 1).isLt (y 2).isLt, blk1 m hO c t _ _ (y 1).isLt (y 2).isLt, e5]

lemma covers5 : ((cfgM m hO).win 5).CoversWhere fun β => β (0 : Fin 3) = 1 :=
  (by decide +kernel : (pcfg0.win adm0 5).CoversWhere fun β => β (0 : Fin 3) = 1)

lemma covers6 : ((cfgM m hO).win 6).CoversWhere fun β => β (0 : Fin 3) = 1 :=
  (by decide +kernel : (pcfg0.win adm0 6).CoversWhere fun β => β (0 : Fin 3) = 1)

lemma covers7 : ((cfgM m hO).win 7).CoversWhere fun β => β (0 : Fin 3) = 1 :=
  (by decide +kernel : (pcfg0.win adm0 7).CoversWhere fun β => β (0 : Fin 3) = 1)

lemma covers8 : ((cfgM m hO).win 8).CoversWhere fun β => β (0 : Fin 3) = 1 :=
  (by decide +kernel : (pcfg0.win adm0 8).CoversWhere fun β => β (0 : Fin 3) = 1)

lemma V_out0 : V m c main_v0_0 = a6 m c := by
  unfold V
  simp only [hostOps0, List.flatten_cons, List.flatten_nil, List.append_nil, List.cons_append, List.nil_append]
  after_reads_at
  rfl

lemma V_out1 : V m c main_v0_1 = a7 m c := by
  unfold V
  simp only [hostOps0, List.flatten_cons, List.flatten_nil, List.append_nil, List.cons_append, List.nil_append]
  after_reads_at
  rfl

lemma V_out2 : V m c main_v0_2 = a8 m c := by
  unfold V
  simp only [hostOps0, List.flatten_cons, List.flatten_nil, List.append_nil, List.cons_append, List.nil_append]
  after_reads_at
  rfl

lemma V_out3 : V m c main_v0_3 = a9 m c := by
  unfold V
  simp only [hostOps0, List.flatten_cons, List.flatten_nil, List.append_nil, List.cons_append, List.nil_append]
  after_reads_at
  rfl

lemma outsAt5 (y : S1x256x1024.Idx) : (outsAt0 m hO c t).1 y = gOf (a0 m c) (a1 m c) (a2 m c) (place m hO t y) := by
  unfold outsAt0
  dsimp only
  refine (congrFun (out5 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay6_apply t _ (b0 m hO c t) (b1 m hO c t) y).trans ?_)
  rw [g_blk]
  rfl

lemma array5 : (dats m hO 0 c).arrAt 5 (cfgM m hO).N = layers (gOf (a0 m c) (a1 m c) (a2 m c)) (a6 m c) := by
  refine Eq.trans ((dats m hO 0 c).arrAt_eq_of_coversWhere 5 (gOf (a0 m c) (a1 m c) (a2 m c)) (P := fun i => ((show (⟨3, ![2, 1024, 1024]⟩ : Shape).Idx from i) 0).val = 1) _ (covers5 m hO) (fun t hf y => ?_) fun j => ?_) ?_
  · blk_simp
    rw [after0_5]
    exact (outsAt5 m hO c t y).trans (congrArg (gOf (a0 m c) (a1 m c) (a2 m c)) (emb2 m hO t y).symm)
  · exact Iff.of_eq (congrArg (fun q : Nat => q = 1) (Nat.div_one _).symm)
  · exact congrArg (layers (gOf (a0 m c) (a1 m c) (a2 m c))) ((A_eq m hO c 5).trans (V_out0 m c))

lemma outsAt6 (y : S1x256x1024.Idx) : (outsAt0 m hO c t).2.1 y = deltaOf (a0 m c) (a1 m c) (a2 m c) (a3 m c) (a4 m c) (a5 m c) (place m hO t y) := by
  unfold outsAt0
  dsimp only
  refine (congrFun (out6 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay4_apply t _ (b0 m hO c t) (b1 m hO c t) (b2 m hO c t) (b3 m hO c t) (b4 m hO c t) y).trans ?_)
  rw [blk2, blk3, blk4, g_blk]
  rfl

lemma array6 : (dats m hO 0 c).arrAt 6 (cfgM m hO).N = layers (deltaOf (a0 m c) (a1 m c) (a2 m c) (a3 m c) (a4 m c) (a5 m c)) (a7 m c) := by
  refine Eq.trans ((dats m hO 0 c).arrAt_eq_of_coversWhere 6 (deltaOf (a0 m c) (a1 m c) (a2 m c) (a3 m c) (a4 m c) (a5 m c)) (P := fun i => ((show (⟨3, ![2, 1024, 1024]⟩ : Shape).Idx from i) 0).val = 1) _ (covers6 m hO) (fun t hf y => ?_) fun j => ?_) ?_
  · blk_simp
    rw [after0_6]
    exact (outsAt6 m hO c t y).trans (congrArg (deltaOf (a0 m c) (a1 m c) (a2 m c) (a3 m c) (a4 m c) (a5 m c)) (emb2 m hO t y).symm)
  · exact Iff.of_eq (congrArg (fun q : Nat => q = 1) (Nat.div_one _).symm)
  · exact congrArg (layers (deltaOf (a0 m c) (a1 m c) (a2 m c) (a3 m c) (a4 m c) (a5 m c))) ((A_eq m hO c 6).trans (V_out1 m c))

lemma outsAt7 (y : S1x256x1024.Idx) : (outsAt0 m hO c t).2.2.1 y = mOf (a0 m c) (a1 m c) (a2 m c) (a4 m c) (place m hO t y) := by
  unfold outsAt0
  dsimp only
  refine (congrFun (out7 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay2_apply t _ (b0 m hO c t) (b1 m hO c t) (b3 m hO c t) y).trans ?_)
  rw [blk3, g_blk]
  rfl

lemma array7 : (dats m hO 0 c).arrAt 7 (cfgM m hO).N = layers (mOf (a0 m c) (a1 m c) (a2 m c) (a4 m c)) (a8 m c) := by
  refine Eq.trans ((dats m hO 0 c).arrAt_eq_of_coversWhere 7 (mOf (a0 m c) (a1 m c) (a2 m c) (a4 m c)) (P := fun i => ((show (⟨3, ![2, 1024, 1024]⟩ : Shape).Idx from i) 0).val = 1) _ (covers7 m hO) (fun t hf y => ?_) fun j => ?_) ?_
  · blk_simp
    rw [after0_7]
    exact (outsAt7 m hO c t y).trans (congrArg (mOf (a0 m c) (a1 m c) (a2 m c) (a4 m c)) (emb2 m hO t y).symm)
  · exact Iff.of_eq (congrArg (fun q : Nat => q = 1) (Nat.div_one _).symm)
  · exact congrArg (layers (mOf (a0 m c) (a1 m c) (a2 m c) (a4 m c))) ((A_eq m hO c 7).trans (V_out2 m c))

lemma outsAt8 (y : S1x256x1024.Idx) : (outsAt0 m hO c t).2.2.2 y = vOf (a0 m c) (a1 m c) (a2 m c) (a5 m c) (place m hO t y) := by
  unfold outsAt0
  dsimp only
  refine (congrFun (out8 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay3_apply t _ (b0 m hO c t) (b1 m hO c t) (b4 m hO c t) y).trans ?_)
  rw [blk4, g_blk]
  rfl

lemma array8 : (dats m hO 0 c).arrAt 8 (cfgM m hO).N = layers (vOf (a0 m c) (a1 m c) (a2 m c) (a5 m c)) (a9 m c) := by
  refine Eq.trans ((dats m hO 0 c).arrAt_eq_of_coversWhere 8 (vOf (a0 m c) (a1 m c) (a2 m c) (a5 m c)) (P := fun i => ((show (⟨3, ![2, 1024, 1024]⟩ : Shape).Idx from i) 0).val = 1) _ (covers8 m hO) (fun t hf y => ?_) fun j => ?_) ?_
  · blk_simp
    rw [after0_8]
    exact (outsAt8 m hO c t y).trans (congrArg (vOf (a0 m c) (a1 m c) (a2 m c) (a5 m c)) (emb2 m hO t y).symm)
  · exact Iff.of_eq (congrArg (fun q : Nat => q = 1) (Nat.div_one _).symm)
  · exact congrArg (layers (vOf (a0 m c) (a1 m c) (a2 m c) (a5 m c))) ((A_eq m hO c 8).trans (V_out3 m c))

lemma run_blocks (ρ : Dev nD → PrngReg) : θ_run defs (onTc (τ := τ) (main (F := Ideal))) ⟨m, fun _ => 0, ρ⟩ (fun r => ∀ c : Dev nD,
      r.2.mem (c.tc.loc main_v0_0) = (dats m hO 0 c).arrAt 5 (cfgM m hO).N
      ∧ r.2.mem (c.tc.loc main_v0_1) = (dats m hO 0 c).arrAt 6 (cfgM m hO).N
      ∧ r.2.mem (c.tc.loc main_v0_2) = (dats m hO 0 c).arrAt 7 (cfgM m hO).N
      ∧ r.2.mem (c.tc.loc main_v0_3) = (dats m hO 0 c).arrAt 8 (cfgM m hO).N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)) :=
  (θ_run defs _ _).mono (fun r h c => ⟨(h c).1 5, (h c).1 6, (h c).1 7, (h c).1 8,
    ((h c).2 main_arg0 (by decide : main_arg0 ∈ Pipeline.restRefs sig spec0)).trans (V_main_arg0 m c),
    ((h c).1 0).trans (((dats m hO 0 c).arrAt_in 0 rfl _).trans ((A_eq m hO c 0).trans (V_main_arg1 m c))),
    ((h c).1 1).trans (((dats m hO 0 c).arrAt_in 1 rfl _).trans ((A_eq m hO c 1).trans (V_main_arg2 m c))),
    ((h c).1 2).trans (((dats m hO 0 c).arrAt_in 2 rfl _).trans ((A_eq m hO c 2).trans (V_main_arg3 m c))),
    ((h c).1 3).trans (((dats m hO 0 c).arrAt_in 3 rfl _).trans ((A_eq m hO c 3).trans (V_main_arg4 m c))),
    ((h c).1 4).trans (((dats m hO 0 c).arrAt_in 4 rfl _).trans ((A_eq m hO c 4).trans (V_main_arg5 m c))),
    ((h c).2 main_arg6 (by decide : main_arg6 ∈ Pipeline.restRefs sig spec0)).trans (V_main_arg6 m c),
    ((h c).2 main_arg7 (by decide : main_arg7 ∈ Pipeline.restRefs sig spec0)).trans (V_main_arg7 m c),
    ((h c).2 main_arg8 (by decide : main_arg8 ∈ Pipeline.restRefs sig spec0)).trans (V_main_arg8 m c),
    ((h c).2 main_arg9 (by decide : main_arg9 ∈ Pipeline.restRefs sig spec0)).trans (V_main_arg9 m c)⟩) (run_main m ρ hO)

end Arrays

/-! ## The reference's arrays -/

section Reference

open Cert.Reference13Ideal.Read

lemma half0 (x0 x1 x2) (i : Cert.Reference13Ideal.S512x1024.Idx) : val_main_v2 (F := Ideal) x0 x1 x2 i = pick (x0 (ix1 0)) 0 (x1 i) (x2 i) := by
  unfold pick
  rw [cmp_comm]
  show Scalar.select (IntOp.cmpi .eq (val_main_v0 (F := Ideal) x0 _) 0#32) (x1 i) (x2 i) = _
  rw [show ∀ j, val_main_v0 (F := Ideal) x0 j = x0 (ix1 0) from fun j => num_eq x0 _]

lemma half1 (x0 x1 x2) (i : Cert.Reference13Ideal.S512x1024.Idx) : val_main_v5 (F := Ideal) x0 x1 x2 i = pick (x0 (ix1 0)) 1 (x1 i) (x2 i) := by
  unfold pick
  rw [cmp_comm]
  show Scalar.select (IntOp.cmpi .eq (val_main_v3 (F := Ideal) x0 _) 1#32) (x1 i) (x2 i) = _
  rw [show ∀ j, val_main_v3 (F := Ideal) x0 j = x0 (ix1 0) from fun j => num_eq x0 _]

lemma ref_cat (x0 x1 x2) (i : Cert.Reference13Ideal.S1024x1024.Idx) :
    val_main_v6 (F := Ideal) x0 x1 x2 i = grad 512 (x0 (ix1 0)) (at2 x1) (at2 x2) (i 0).val (i 1).val := by
  have h0 : (i 0).val < 1024 := (i 0).isLt
  have h1 : (i 1).val < 1024 := (i 1).isLt
  idx_vars i
  unfold val_main_v6 grad
  by_cases h : i0.val < 512
  · refine (MixFwd.cat_row _ _ 0 0 (by simp) _ rfl rfl i0 i1 (by omega) (by omega)).trans ?_
    have e : i0.val / 512 = 0 := by omega
    have e' : i0.val % 512 = i0.val - 0 := by omega
    rw [half0, e, e', at2_of_lt x1 (by omega) i1.isLt, at2_of_lt x2 (by omega) i1.isLt]
  · refine (MixFwd.cat_row _ _ 1 512 (by simp) _ rfl rfl i0 i1 (by omega) (by omega)).trans ?_
    have e : i0.val / 512 = 1 := by omega
    have e' : i0.val % 512 = i0.val - 512 := by omega
    rw [half1, e, e', at2_of_lt x1 (by omega) i1.isLt, at2_of_lt x2 (by omega) i1.isLt]

/-- A matrix's entry in the second layer of a stack. -/
def second (i : Cert.Reference13Ideal.S1024x1024.Idx) : (⟨3, ![2, 1024, 1024]⟩ : Shape).Idx := ix3 1 (i 0) (i 1)

lemma second_eq (i : Cert.Reference13Ideal.S1024x1024.Idx) : idx_main_v7 (idx_main_v8 i) = second i := by
  have h0 : (i 0).val < 1024 := (i 0).isLt
  have h1 : (i 1).val < 1024 := (i 1).isLt
  funext a
  refine Fin.ext ?_
  match a with
  | ⟨0, _⟩ => rfl
  | ⟨1, _⟩ =>
    show ((i 0).val * 1024 + (i 1).val) / 1024 % 1024 = (i 0).val
    omega
  | ⟨2, _⟩ =>
    show ((i 0).val * 1024 + (i 1).val) % 1024 = (i 1).val
    omega

/-- An index's place in the first layer. -/
lemma first_eq (i : Cert.Reference13Ideal.S1x1024x1024.Idx) : idx_main_v37 (idx_main_v38 (idx_main_v39 i)) = ix3 0 (i 1) (i 2) := by
  have h0 : (i 1).val < 1024 := (i 1).isLt
  have h1 : (i 2).val < 1024 := (i 2).isLt
  funext a
  refine Fin.ext ?_
  match a with
  | ⟨0, _⟩ => rfl
  | ⟨1, _⟩ =>
    show ((i 1).val * 1024 + (i 2).val) / 1024 % 1024 = (i 1).val
    omega
  | ⟨2, _⟩ =>
    show ((i 1).val * 1024 + (i 2).val) % 1024 = (i 2).val
    omega

lemma ref_m (x0 x1 x2 x4) (i) : val_main_v17 (F := Ideal) x0 x1 x2 x4 i = mOf x0 x1 x2 x4 (second i) := by
  rw [val_main_v17_apply, val_main_v14_apply, val_main_v13_apply, val_main_cst_apply, val_main_v10_apply, val_main_v9_apply, val_main_v16_apply,
    val_main_v15_apply, val_main_cst_1_apply, ref_cat]
  refine (congrArg (fun q => mNew _ (x4 q)) (second_eq i) : _)

lemma ref_v (x0 x1 x2 x5) (i) : val_main_v23 (F := Ideal) x0 x1 x2 x5 i = vOf x0 x1 x2 x5 (second i) := by
  rw [val_main_v23_apply, val_main_v19_apply, val_main_v18_apply, val_main_cst_2_apply, val_main_v12_apply, val_main_v11_apply, val_main_v22_apply,
    val_main_v21_apply, val_main_cst_3_apply, val_main_v20_apply, ref_cat]
  refine (congrArg (fun q => vNew _ (x5 q)) (second_eq i) : _)

lemma ref_delta (x0 x1 x2 x3 x4 x5) (i) : val_main_v36 (F := Ideal) x0 x1 x2 x3 x4 x5 i = deltaOf x0 x1 x2 x3 x4 x5 (second i) := by
  rw [val_main_v36_apply, val_main_v35_apply, val_main_cst_8_apply, val_main_v34_apply, val_main_v33_apply, val_main_v32_apply, val_main_cst_7_apply,
    val_main_v31_apply, val_main_v30_apply, val_main_v29_apply, val_main_cst_6_apply, val_main_v28_apply, val_main_v27_apply, val_main_v26_apply,
    val_main_cst_5_apply, val_main_v25_apply, val_main_v24_apply, val_main_cst_4_apply, val_main_v8_apply, val_main_v7_apply, ref_m, ref_v, second_eq]
  rfl

/-- Two layers stacked. -/
lemma stack (a b : Cert.Reference13Ideal.S1x1024x1024.Idx → EReal) (new old : Layers) (h : Shape.Concatenates [Cert.Reference13Ideal.S1x1024x1024, Cert.Reference13Ideal.S1x1024x1024] Cert.Reference13Ideal.S2x1024x1024 0)
    (ha : ∀ i, a i = old (ix3 0 (i 1) (i 2))) (hb : ∀ i, b i = new (ix3 1 (i 1) (i 2))) :
    concatenate (α := EReal) Cert.Reference13Ideal.S2x1024x1024 0 [⟨Cert.Reference13Ideal.S1x1024x1024, a⟩, ⟨Cert.Reference13Ideal.S1x1024x1024, b⟩] h = layers new old := by
  funext i
  unfold layers
  have h0 : (i 0).val < 2 := (i 0).isLt
  by_cases e : (i 0).val = 1
  · rw [if_pos e]
    refine (concatenate_apply_piece 0 [⟨Cert.Reference13Ideal.S1x1024x1024, a⟩, ⟨Cert.Reference13Ideal.S1x1024x1024, b⟩] h _ 1 (by simp) _ b rfl rfl 1 rfl (ix3 0 (i 1) (i 2)) (fun q hq => ?_) e.symm).trans ((hb _).trans (congrArg new (ix3_eq i 1 (i 1) (i 2) e rfl rfl)))
    match q with
    | ⟨0, _⟩ => exact absurd rfl hq
    | ⟨1, _⟩ => rfl
    | ⟨2, _⟩ => rfl
  · rw [if_neg e]
    have e : (i 0).val = 0 := by omega
    refine (concatenate_apply_piece 0 [⟨Cert.Reference13Ideal.S1x1024x1024, a⟩, ⟨Cert.Reference13Ideal.S1x1024x1024, b⟩] h _ 0 (by simp) _ a rfl rfl 0 rfl (ix3 0 (i 1) (i 2)) (fun q hq => ?_) e.symm).trans ((ha _).trans (congrArg old (ix3_eq i 0 (i 1) (i 2) e rfl rfl)))
    match q with
    | ⟨0, _⟩ => exact absurd rfl hq
    | ⟨1, _⟩ => rfl
    | ⟨2, _⟩ => rfl

lemma ref_g2 (x0 x1 x2 x6) : val_main_v41 (F := Ideal) x0 x1 x2 x6 = layers (gOf x0 x1 x2) x6 := by
  unfold val_main_v41
  refine stack _ _ _ _ _ (fun i => ?_) fun i => ?_
  · rw [val_main_v39_apply, val_main_v38_apply, val_main_v37_apply]
    exact congrArg x6 (first_eq i)
  · rw [val_main_v40_apply, ref_cat]
    rfl

lemma ref_d2 (x0 x1 x2 x3 x4 x5 x7) : val_main_v46 (F := Ideal) x0 x1 x2 x3 x4 x5 x7 = layers (deltaOf x0 x1 x2 x3 x4 x5) x7 := by
  unfold val_main_v46
  refine stack _ _ _ _ _ (fun i => ?_) fun i => ?_
  · rw [val_main_v44_apply, val_main_v43_apply, val_main_v42_apply]
    exact congrArg x7 (first_eq i)
  · rw [val_main_v45_apply, ref_delta]
    rfl

lemma ref_m2 (x0 x1 x2 x4 x8) : val_main_v51 (F := Ideal) x0 x1 x2 x4 x8 = layers (mOf x0 x1 x2 x4) x8 := by
  unfold val_main_v51
  refine stack _ _ _ _ _ (fun i => ?_) fun i => ?_
  · rw [val_main_v49_apply, val_main_v48_apply, val_main_v47_apply]
    exact congrArg x8 (first_eq i)
  · rw [val_main_v50_apply, ref_m]
    rfl

lemma ref_v2 (x0 x1 x2 x5 x9) : val_main_v56 (F := Ideal) x0 x1 x2 x5 x9 = layers (vOf x0 x1 x2 x5) x9 := by
  unfold val_main_v56
  refine stack _ _ _ _ _ (fun i => ?_) fun i => ?_
  · rw [val_main_v54_apply, val_main_v53_apply, val_main_v52_apply]
    exact congrArg x9 (first_eq i)
  · rw [val_main_v55_apply, ref_v]
    rfl

end Reference

/-! ## The claim -/

lemma algebraic_adam : Cert.algebraic_Kernel13Ideal_Reference13Ideal := fun m ρ m' ρ' _ hag =>
  ⟨fun c => (dats m trivial 0 c).arrAt 5 (cfgM m trivial).N, fun c => (dats m trivial 0 c).arrAt 6 (cfgM m trivial).N,
    fun c => (dats m trivial 0 c).arrAt 7 (cfgM m trivial).N, fun c => (dats m trivial 0 c).arrAt 8 (cfgM m trivial).N, run_blocks m trivial ρ,
    (θ_run _ _ _).mono (fun _ h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]
        exact (Cert.Reference13Ideal.Read.val_main_v41_eq _ _ _ _).trans ((ref_g2 _ _ _ _).trans (array5 m trivial c).symm)
      · rw [h0, h1, h2, h3, h4, h5, h7]
        exact (Cert.Reference13Ideal.Read.val_main_v46_eq _ _ _ _ _ _ _).trans ((ref_d2 _ _ _ _ _ _ _).trans (array6 m trivial c).symm)
      · rw [h0, h1, h2, h4, h8]
        exact (Cert.Reference13Ideal.Read.val_main_v51_eq _ _ _ _ _).trans ((ref_m2 _ _ _ _ _).trans (array7 m trivial c).symm)
      · rw [h0, h1, h2, h5, h9]
        exact (Cert.Reference13Ideal.Read.val_main_v56_eq _ _ _ _ _).trans ((ref_v2 _ _ _ _ _).trans (array8 m trivial c).symm))
      (Cert.Reference13Ideal.Value.run m' ρ')⟩

end Cert.Proof.AdamBig
-- ==== Proof.AdamIn.lean ====
module

public import proofs.«01_k».proof.Proof.Adam
public import proofs.«01_k».proof.Proof.Gen.Kernel14Ideal.Frame
public import proofs.«01_k».proof.Proof.Gen.Reference14Ideal.Read

@[expose] public section

set_option maxRecDepth 16384

noncomputable section

/-! The optimiser on the second layer of a stack of two matrices, with the first layer's results passed through. -/

namespace Cert.Proof.AdamIn

open Cert.Kernel14Ideal Cert.Kernel14Ideal.Gen Idealize.ShloMosaic Idealize.ShloMosaic.TcCoe Idealize.SL.Sem
  Idealize.ShloMosaic.Tactic

open Adam (Num num_eq at_row at_col cmp_comm mNew vNew step delta pick grad)

/-! ## The body at an index -/

/-- The number of the half that a grid point is in, as the body computes it. -/
def halfWord (i : grid0.Coords) : BitVec 32 :=
  let arg0 : BitVec 32 := BitVec.ofNat 32 (i 0).val
  let v5 : BitVec 32 := Scalar.subi (Scalar.extui (Scalar.cmpi .sgt arg0 0#32)) (Scalar.extui (Scalar.cmpi .slt arg0 0#32))
  let v10 : BitVec 32 := Scalar.subi (Scalar.extui (Scalar.cmpi .sgt 2#32 0#32)) (Scalar.extui (Scalar.cmpi .slt 2#32 0#32))
  Scalar.select (Scalar.andi (Scalar.cmpi .ne v5 v10) (Scalar.cmpi .ne (Scalar.remsi arg0 2#32) 0#32))
    (Scalar.subi (Scalar.divsi arg0 2#32) 1#32) (Scalar.divsi arg0 2#32)

lemma halfWord_eq : ∀ t : Fin grid0.N, halfWord (grid0.coords t) = BitVec.ofNat 32 (t.val / 2) := by decide +kernel

section Blocks

variable (t : Fin grid0.N) (k : BitVec 32) (a b : Vec Ideal S256x640 .f32) (w mm v : Vec Ideal S1x256x640 .f32) (x : S256x640.Idx) (z : S1x256x640.Idx)

lemma pay5_apply : k0_pay5 (grid0.coords t) k a b x = pick k (t.val / 2) (a x) (b x) := by
  unfold pick
  rw [← halfWord_eq]
  unfold k0_pay5
  show Scalar.select (IntOp.cmpi .eq (halfWord (grid0.coords t)) k) a b x = _
  generalize IntOp.cmpi .eq (halfWord (grid0.coords t)) k = q
  unfold Scalar.select
  split <;> rfl

lemma pay7_apply : k0_pay7 (grid0.coords t) k a b mm x = mNew (pick k (t.val / 2) (a x) (b x)) (at3 mm 0 (x 0).val (x 1).val) := by
  rw [at3_of_lt mm Nat.one_pos (x 0).isLt (x 1).isLt, ← pay5_apply t k a b]
  unfold k0_pay7 mNew
  generalize k0_pay5 (grid0.coords t) k a b = w
  idx_vars x
  pointwise

lemma pay1_apply : k0_pay1 a (k0_pay8 v) (Scalar.ofBits .f32 0x3F7FBE77#32) x = vNew (a x) (at3 v 0 (x 0).val (x 1).val) := by
  rw [at3_of_lt v Nat.one_pos (x 0).isLt (x 1).isLt]
  unfold k0_pay1 k0_pay8 vNew
  idx_vars x
  pointwise

/-- The gradient of a block's entry. -/
def gB : EReal := pick k (t.val / 2) (at2 a (z 1).val (z 2).val) (at2 b (z 1).val (z 2).val)

lemma pay6_apply : k0_pay6 (grid0.coords t) k a b z = gB t k a b z := by
  unfold gB
  rw [at2_of_lt a (z 1).isLt (z 2).isLt, at2_of_lt b (z 1).isLt (z 2).isLt, ← pay5_apply t k a b]
  unfold k0_pay6
  generalize k0_pay5 (grid0.coords t) k a b = w
  idx_vars z
  obtain rfl : z0 = 0 := Subsingleton.elim _ _
  pointwise

lemma pay2_apply : k0_pay2 (k0_pay7 (grid0.coords t) k a b mm) z = mNew (gB t k a b z) (at3 mm 0 (z 1).val (z 2).val) := by
  unfold gB
  rw [at2_of_lt a (z 1).isLt (z 2).isLt, at2_of_lt b (z 1).isLt (z 2).isLt]
  refine Eq.trans ?_ (pay7_apply t k a b mm (ix2 ⟨(z 1).val, (z 1).isLt⟩ ⟨(z 2).val, (z 2).isLt⟩))
  unfold k0_pay2
  generalize k0_pay7 (grid0.coords t) k a b mm = q
  idx_vars z
  obtain rfl : z0 = 0 := Subsingleton.elim _ _
  pointwise

lemma pay3_apply : k0_pay3 (k0_pay5 (grid0.coords t) k a b) (k0_pay8 v) (Scalar.ofBits .f32 0x3F7FBE77#32) z
    = vNew (gB t k a b z) (at3 v 0 (z 1).val (z 2).val) := by
  have e := pay1_apply (k0_pay5 (grid0.coords t) k a b) v (ix2 ⟨(z 1).val, (z 1).isLt⟩ ⟨(z 2).val, (z 2).isLt⟩)
  rw [pay5_apply] at e
  unfold gB
  rw [at2_of_lt a (z 1).isLt (z 2).isLt, at2_of_lt b (z 1).isLt (z 2).isLt]
  refine Eq.trans ?_ e
  unfold k0_pay3
  generalize k0_pay1 (F := Ideal) _ _ _ = q
  idx_vars z
  obtain rfl : z0 = 0 := Subsingleton.elim _ _
  pointwise

lemma pay4_apply : k0_pay4 (k0_pay5 (grid0.coords t) k a b) (k0_pay7 (grid0.coords t) k a b mm) (k0_pay8 v) (Scalar.ofBits .f32 0x3F7FBE77#32) w z
    = delta (at3 w 0 (z 1).val (z 2).val) (gB t k a b z) (at3 mm 0 (z 1).val (z 2).val) (at3 v 0 (z 1).val (z 2).val) := by
  have e := pay1_apply (k0_pay5 (grid0.coords t) k a b) v (ix2 ⟨(z 1).val, (z 1).isLt⟩ ⟨(z 2).val, (z 2).isLt⟩)
  rw [pay5_apply] at e
  unfold gB delta
  rw [at2_of_lt a (z 1).isLt (z 2).isLt, at2_of_lt b (z 1).isLt (z 2).isLt, at3_of_lt w Nat.one_pos (z 1).isLt (z 2).isLt]
  refine Eq.trans ?_ (congrArg₂ (fun p q => step p q _) (pay7_apply t k a b mm (ix2 ⟨(z 1).val, (z 1).isLt⟩ ⟨(z 2).val, (z 2).isLt⟩)) e)
  unfold k0_pay4 step
  generalize k0_pay1 (F := Ideal) _ _ _ = q
  generalize k0_pay7 (grid0.coords t) k a b mm = p
  idx_vars z
  obtain rfl : z0 = 0 := Subsingleton.elim _ _
  pointwise

end Blocks

/-! ## The output blocks -/

section Outs

variable (c : Dev nD) (t : Fin grid0.N) (a2 : Memref sig .tc .vmem S256x640 .f32) (h2 : a2.IsWhole) (a3 : Memref sig .tc .vmem S256x640 .f32) (h3 : a3.IsWhole) (a4 : Memref sig .tc .vmem S1x256x640 .f32) (h4 : a4.IsWhole) (a5 : Memref sig .tc .vmem S1x256x640 .f32) (h5 : a5.IsWhole) (a6 : Memref sig .tc .vmem S1x256x640 .f32) (h6 : a6.IsWhole) (a7 : Memref sig .tc .vmem S1x256x640 .f32) (h7 : a7.IsWhole) (a8 : Memref sig .tc .vmem S1x256x640 .f32) (h8 : a8.IsWhole) (a9 : Memref sig .tc .vmem S1x256x640 .f32) (h9 : a9.IsWhole) (a10 : Memref sig .tc .vmem S1x256x640 .f32) (h10 : a10.IsWhole)
  (x0 x1 : Vec Ideal S256x640 .f32) (x2 x3 x4 : Vec Ideal S1x256x640 .f32) (xt : TbBuf0 (F := Ideal) c tbM0_0)

/-- The core's number, as the body reads it. -/
def word (xt : TbBuf0 (F := Ideal) c tbM0_0) : BitVec 32 := (show S1.Idx → BitVec 32 from xt) (ix1 0)

lemma word_eq (h) : View.read (Elt Ideal) (View.whole main_arg0) xt (Shape.Idx.first h) = word c xt := Adam.num_eq (show S1.Idx → BitVec 32 from xt) _

lemma out5 : out0_A_5 c (grid0.coords t) a2 h2 a3 h3 a4 h4 a5 h5 a6 h6 a7 h7 a8 h8 a9 h9 a10 h10 x0 x1 x2 x3 x4 xt
    = k0_pay6 (grid0.coords t) (word c xt) x0 x1 := by
  frame_out
  rw [word_eq c xt]

lemma out6 : out0_A_6 c (grid0.coords t) a2 h2 a3 h3 a4 h4 a5 h5 a6 h6 a7 h7 a8 h8 a9 h9 a10 h10 x0 x1 x2 x3 x4 xt
    = k0_pay4 (k0_pay5 (grid0.coords t) (word c xt) x0 x1) (k0_pay7 (grid0.coords t) (word c xt) x0 x1 x3) (k0_pay8 x4)
      (Scalar.ofBits .f32 0x3F7FBE77#32) x2 := by
  frame_out
  rw [word_eq c xt]

lemma out7 : out0_A_7 c (grid0.coords t) a2 h2 a3 h3 a4 h4 a5 h5 a6 h6 a7 h7 a8 h8 a9 h9 a10 h10 x0 x1 x2 x3 x4 xt
    = k0_pay2 (k0_pay7 (grid0.coords t) (word c xt) x0 x1 x3) := by
  frame_out
  rw [word_eq c xt]

lemma out8 : out0_A_8 c (grid0.coords t) a2 h2 a3 h3 a4 h4 a5 h5 a6 h6 a7 h7 a8 h8 a9 h9 a10 h10 x0 x1 x2 x3 x4 xt
    = k0_pay3 (k0_pay5 (grid0.coords t) (word c xt) x0 x1) (k0_pay8 x4) (Scalar.ofBits .f32 0x3F7FBE77#32) := by
  frame_out
  rw [word_eq c xt]

end Outs

section Arrays

variable (m : (ℓ : Loc nD τ sig) → Buf (Elt Ideal) ℓ) (hO : Ok m) (c : Dev nD) (t : Fin (cfgM m hO).N)

/-- The operands' blocks at a grid point. -/
def b0 : Vec Ideal S256x640 .f32 := iblk m hO c 0 t
def b1 : Vec Ideal S256x640 .f32 := iblk m hO c 1 t
def b2 : Vec Ideal S1x256x640 .f32 := iblk m hO c 2 t
def b3 : Vec Ideal S1x256x640 .f32 := iblk m hO c 3 t
def b4 : Vec Ideal S1x256x640 .f32 := iblk m hO c 4 t

/-- The halves of the gradient, and the layers of the weights or moments. -/
abbrev Half := Ar2 512 640
abbrev Layers := Ar3 2 1024 640

/-- The arguments in the launch memory. -/
abbrev a0 : Num := m (c.tc.loc main_arg0)
abbrev a1 : Half := m (c.tc.loc main_arg1)
abbrev a2 : Half := m (c.tc.loc main_arg2)
abbrev a3 : Layers := m (c.tc.loc main_arg3)
abbrev a4 : Layers := m (c.tc.loc main_arg4)
abbrev a5 : Layers := m (c.tc.loc main_arg5)
abbrev a6 : Layers := m (c.tc.loc main_arg6)
abbrev a7 : Layers := m (c.tc.loc main_arg7)
abbrev a8 : Layers := m (c.tc.loc main_arg8)
abbrev a9 : Layers := m (c.tc.loc main_arg9)

/-- The one table with the number zero. -/
def pf0 : pre0.Contents (Elt Ideal) := fun | ⟨0, _⟩ => fun _ => 0#32 | ⟨_ + 1, h⟩ => absurd h (by simp)

/-- No index map reads the table, so that a block's place does not depend on what it holds. -/
abbrev adm0 : (pcfg0 (F := Ideal)).Adm := ⟨pf0, trivial⟩

lemma e0 : (pcfg0.win (adm m hO) 0).index t = ![t.val % 2, 0] :=
  (by decide +kernel : ∀ t : Fin grid0.N, (pcfg0.win adm0 0).index t = ![t.val % 2, 0]) t

lemma e2 : (pcfg0.win (adm m hO) 2).index t = ![1, t.val, 0] :=
  (by decide +kernel : ∀ t : Fin grid0.N, (pcfg0.win adm0 2).index t = ![1, t.val, 0]) t

lemma blk0 (r l : Nat) (hr : r < 256) (hl : l < 640) : at2 (b0 m hO c t) r l = at2 (a1 m c) (256 * (t.val % 2) + r) l := by
  rw [at2_of_lt _ hr hl, at2_of_lt _ (by omega) hl]
  blk_simp [b0, iblk]
  refine Eq.trans (congrFun (V_main_arg1 m c) _) ?_
  refine congrArg (a1 m c) (?_ : ((((cfgM m hO).win 0).blk t).view.emb (ix2 ⟨r, hr⟩ ⟨l, hl⟩) : S512x640.Idx) = _)
  blk_ext
  · exact at_row (congrFun (e0 m hO t) 0)
  · exact at_col (congrFun (e0 m hO t) 1)

lemma blk1 (r l : Nat) (hr : r < 256) (hl : l < 640) : at2 (b1 m hO c t) r l = at2 (a2 m c) (256 * (t.val % 2) + r) l := by
  rw [at2_of_lt _ hr hl, at2_of_lt _ (by omega) hl]
  blk_simp [b1, iblk]
  refine Eq.trans (congrFun (V_main_arg2 m c) _) ?_
  refine congrArg (a2 m c) (?_ : ((((cfgM m hO).win 1).blk t).view.emb (ix2 ⟨r, hr⟩ ⟨l, hl⟩) : S512x640.Idx) = _)
  blk_ext
  · exact at_row (congrFun (e0 m hO t) 0)
  · exact at_col (congrFun (e0 m hO t) 1)

/-- Where a block's entry lies in its array. -/
def place (y : S1x256x640.Idx) : (⟨3, ![2, 1024, 640]⟩ : Shape).Idx :=
  ix3 1 ⟨256 * t.val + (y 1).val, by have ht : t.val < 4 := t.isLt; have h1 : (y 1).val < 256 := (y 1).isLt; omega⟩ ⟨(y 2).val, (y 2).isLt⟩

lemma emb2 (y : S1x256x640.Idx) : ((((cfgM m hO).win 2).blk t).view.emb y : S2x1024x640.Idx) = place m hO t y := by
  blk_ext
  · exact congrFun (e2 m hO t) 0
  · exact at_row (congrFun (e2 m hO t) 1)
  · exact at_col (congrFun (e2 m hO t) 2)

lemma blk2 (y : S1x256x640.Idx) : at3 (b2 m hO c t) 0 (y 1).val (y 2).val = a3 m c (place m hO t y) := by
  refine (at3_eq (b2 m hO c t) y (Nat.lt_one_iff.mp (y 0).isLt) rfl rfl).symm.trans ?_
  blk_simp [b2, iblk]
  refine Eq.trans (congrFun (V_main_arg3 m c) _) ?_
  exact congrArg (a3 m c) (emb2 m hO t y)

lemma blk3 (y : S1x256x640.Idx) : at3 (b3 m hO c t) 0 (y 1).val (y 2).val = a4 m c (place m hO t y) := by
  refine (at3_eq (b3 m hO c t) y (Nat.lt_one_iff.mp (y 0).isLt) rfl rfl).symm.trans ?_
  blk_simp [b3, iblk]
  refine Eq.trans (congrFun (V_main_arg4 m c) _) ?_
  exact congrArg (a4 m c) (emb2 m hO t y)

lemma blk4 (y : S1x256x640.Idx) : at3 (b4 m hO c t) 0 (y 1).val (y 2).val = a5 m c (place m hO t y) := by
  refine (at3_eq (b4 m hO c t) y (Nat.lt_one_iff.mp (y 0).isLt) rfl rfl).symm.trans ?_
  blk_simp [b4, iblk]
  refine Eq.trans (congrFun (V_main_arg5 m c) _) ?_
  exact congrArg (a5 m c) (emb2 m hO t y)

/-- The gradient's entry of an index. -/
def gAt (k : Num) (a b : Half) (i : (⟨3, ![2, 1024, 640]⟩ : Shape).Idx) : EReal := grad 512 (k (ix1 0)) (at2 a) (at2 b) (i 1).val (i 2).val

/-- The new layer beside the earlier one. -/
def layers (new old : Layers) : Layers := fun i => if (i 0).val = 1 then new i else old i

def gOf (k : Num) (a b : Half) : Layers := fun i => gAt k a b i

def deltaOf (k : Num) (a b : Half) (w mm v : Layers) : Layers := fun i => delta (w i) (gAt k a b i) (mm i) (v i)

def mOf (k : Num) (a b : Half) (mm : Layers) : Layers := fun i => mNew (gAt k a b i) (mm i)

def vOf (k : Num) (a b : Half) (v : Layers) : Layers := fun i => vNew (gAt k a b i) (v i)

lemma g_blk (y : S1x256x640.Idx) : gB t (word c (tbl m 0)) (b0 m hO c t) (b1 m hO c t) y = gAt (a0 m c) (a1 m c) (a2 m c) (place m hO t y) := by
  have h1 : (y 1).val < 256 := (y 1).isLt
  unfold gB gAt grad
  have e1 : (place m hO t y 1).val = 256 * t.val + (y 1).val := rfl
  have e2 : (place m hO t y 2).val = (y 2).val := rfl
  have e3 : (256 * t.val + (y 1).val) / 512 = t.val / 2 := by omega
  have e4 : (256 * t.val + (y 1).val) % 512 = 256 * (t.val % 2) + (y 1).val := by omega
  have e5 : word c (tbl m 0) = a0 m c (ix1 0) := by
    obtain rfl : c = 0 := Subsingleton.elim _ _
    exact congrFun (V_main_arg0 m 0) (ix1 0)
  rw [e1, e2, e3, e4, blk0 m hO c t _ _ (y 1).isLt (y 2).isLt, blk1 m hO c t _ _ (y 1).isLt (y 2).isLt, e5]

lemma covers5 : ((cfgM m hO).win 5).CoversWhere fun β => β (0 : Fin 3) = 1 :=
  (by decide +kernel : (pcfg0.win adm0 5).CoversWhere fun β => β (0 : Fin 3) = 1)

lemma covers6 : ((cfgM m hO).win 6).CoversWhere fun β => β (0 : Fin 3) = 1 :=
  (by decide +kernel : (pcfg0.win adm0 6).CoversWhere fun β => β (0 : Fin 3) = 1)

lemma covers7 : ((cfgM m hO).win 7).CoversWhere fun β => β (0 : Fin 3) = 1 :=
  (by decide +kernel : (pcfg0.win adm0 7).CoversWhere fun β => β (0 : Fin 3) = 1)

lemma covers8 : ((cfgM m hO).win 8).CoversWhere fun β => β (0 : Fin 3) = 1 :=
  (by decide +kernel : (pcfg0.win adm0 8).CoversWhere fun β => β (0 : Fin 3) = 1)

lemma V_out0 : V m c main_v0_0 = a6 m c := by
  unfold V
  simp only [hostOps0, List.flatten_cons, List.flatten_nil, List.append_nil, List.cons_append, List.nil_append]
  after_reads_at
  rfl

lemma V_out1 : V m c main_v0_1 = a7 m c := by
  unfold V
  simp only [hostOps0, List.flatten_cons, List.flatten_nil, List.append_nil, List.cons_append, List.nil_append]
  after_reads_at
  rfl

lemma V_out2 : V m c main_v0_2 = a8 m c := by
  unfold V
  simp only [hostOps0, List.flatten_cons, List.flatten_nil, List.append_nil, List.cons_append, List.nil_append]
  after_reads_at
  rfl

lemma V_out3 : V m c main_v0_3 = a9 m c := by
  unfold V
  simp only [hostOps0, List.flatten_cons, List.flatten_nil, List.append_nil, List.cons_append, List.nil_append]
  after_reads_at
  rfl

lemma outsAt5 (y : S1x256x640.Idx) : (outsAt0 m hO c t).1 y = gOf (a0 m c) (a1 m c) (a2 m c) (place m hO t y) := by
  unfold outsAt0
  dsimp only
  refine (congrFun (out5 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay6_apply t _ (b0 m hO c t) (b1 m hO c t) y).trans ?_)
  rw [g_blk]
  rfl

lemma array5 : (dats m hO 0 c).arrAt 5 (cfgM m hO).N = layers (gOf (a0 m c) (a1 m c) (a2 m c)) (a6 m c) := by
  refine Eq.trans ((dats m hO 0 c).arrAt_eq_of_coversWhere 5 (gOf (a0 m c) (a1 m c) (a2 m c)) (P := fun i => ((show (⟨3, ![2, 1024, 640]⟩ : Shape).Idx from i) 0).val = 1) _ (covers5 m hO) (fun t hf y => ?_) fun j => ?_) ?_
  · blk_simp
    rw [after0_5]
    exact (outsAt5 m hO c t y).trans (congrArg (gOf (a0 m c) (a1 m c) (a2 m c)) (emb2 m hO t y).symm)
  · exact Iff.of_eq (congrArg (fun q : Nat => q = 1) (Nat.div_one _).symm)
  · exact congrArg (layers (gOf (a0 m c) (a1 m c) (a2 m c))) ((A_eq m hO c 5).trans (V_out0 m c))

lemma outsAt6 (y : S1x256x640.Idx) : (outsAt0 m hO c t).2.1 y = deltaOf (a0 m c) (a1 m c) (a2 m c) (a3 m c) (a4 m c) (a5 m c) (place m hO t y) := by
  unfold outsAt0
  dsimp only
  refine (congrFun (out6 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay4_apply t _ (b0 m hO c t) (b1 m hO c t) (b2 m hO c t) (b3 m hO c t) (b4 m hO c t) y).trans ?_)
  rw [blk2, blk3, blk4, g_blk]
  rfl

lemma array6 : (dats m hO 0 c).arrAt 6 (cfgM m hO).N = layers (deltaOf (a0 m c) (a1 m c) (a2 m c) (a3 m c) (a4 m c) (a5 m c)) (a7 m c) := by
  refine Eq.trans ((dats m hO 0 c).arrAt_eq_of_coversWhere 6 (deltaOf (a0 m c) (a1 m c) (a2 m c) (a3 m c) (a4 m c) (a5 m c)) (P := fun i => ((show (⟨3, ![2, 1024, 640]⟩ : Shape).Idx from i) 0).val = 1) _ (covers6 m hO) (fun t hf y => ?_) fun j => ?_) ?_
  · blk_simp
    rw [after0_6]
    exact (outsAt6 m hO c t y).trans (congrArg (deltaOf (a0 m c) (a1 m c) (a2 m c) (a3 m c) (a4 m c) (a5 m c)) (emb2 m hO t y).symm)
  · exact Iff.of_eq (congrArg (fun q : Nat => q = 1) (Nat.div_one _).symm)
  · exact congrArg (layers (deltaOf (a0 m c) (a1 m c) (a2 m c) (a3 m c) (a4 m c) (a5 m c))) ((A_eq m hO c 6).trans (V_out1 m c))

lemma outsAt7 (y : S1x256x640.Idx) : (outsAt0 m hO c t).2.2.1 y = mOf (a0 m c) (a1 m c) (a2 m c) (a4 m c) (place m hO t y) := by
  unfold outsAt0
  dsimp only
  refine (congrFun (out7 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay2_apply t _ (b0 m hO c t) (b1 m hO c t) (b3 m hO c t) y).trans ?_)
  rw [blk3, g_blk]
  rfl

lemma array7 : (dats m hO 0 c).arrAt 7 (cfgM m hO).N = layers (mOf (a0 m c) (a1 m c) (a2 m c) (a4 m c)) (a8 m c) := by
  refine Eq.trans ((dats m hO 0 c).arrAt_eq_of_coversWhere 7 (mOf (a0 m c) (a1 m c) (a2 m c) (a4 m c)) (P := fun i => ((show (⟨3, ![2, 1024, 640]⟩ : Shape).Idx from i) 0).val = 1) _ (covers7 m hO) (fun t hf y => ?_) fun j => ?_) ?_
  · blk_simp
    rw [after0_7]
    exact (outsAt7 m hO c t y).trans (congrArg (mOf (a0 m c) (a1 m c) (a2 m c) (a4 m c)) (emb2 m hO t y).symm)
  · exact Iff.of_eq (congrArg (fun q : Nat => q = 1) (Nat.div_one _).symm)
  · exact congrArg (layers (mOf (a0 m c) (a1 m c) (a2 m c) (a4 m c))) ((A_eq m hO c 7).trans (V_out2 m c))

lemma outsAt8 (y : S1x256x640.Idx) : (outsAt0 m hO c t).2.2.2 y = vOf (a0 m c) (a1 m c) (a2 m c) (a5 m c) (place m hO t y) := by
  unfold outsAt0
  dsimp only
  refine (congrFun (out8 c t _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) (b0 m hO c t) (b1 m hO c t) (b2 m hO c t) (b3 m hO c t) (b4 m hO c t) (tbl m 0)) y).trans ((pay3_apply t _ (b0 m hO c t) (b1 m hO c t) (b4 m hO c t) y).trans ?_)
  rw [blk4, g_blk]
  rfl

lemma array8 : (dats m hO 0 c).arrAt 8 (cfgM m hO).N = layers (vOf (a0 m c) (a1 m c) (a2 m c) (a5 m c)) (a9 m c) := by
  refine Eq.trans ((dats m hO 0 c).arrAt_eq_of_coversWhere 8 (vOf (a0 m c) (a1 m c) (a2 m c) (a5 m c)) (P := fun i => ((show (⟨3, ![2, 1024, 640]⟩ : Shape).Idx from i) 0).val = 1) _ (covers8 m hO) (fun t hf y => ?_) fun j => ?_) ?_
  · blk_simp
    rw [after0_8]
    exact (outsAt8 m hO c t y).trans (congrArg (vOf (a0 m c) (a1 m c) (a2 m c) (a5 m c)) (emb2 m hO t y).symm)
  · exact Iff.of_eq (congrArg (fun q : Nat => q = 1) (Nat.div_one _).symm)
  · exact congrArg (layers (vOf (a0 m c) (a1 m c) (a2 m c) (a5 m c))) ((A_eq m hO c 8).trans (V_out3 m c))

lemma run_blocks (ρ : Dev nD → PrngReg) : θ_run defs (onTc (τ := τ) (main (F := Ideal))) ⟨m, fun _ => 0, ρ⟩ (fun r => ∀ c : Dev nD,
      r.2.mem (c.tc.loc main_v0_0) = (dats m hO 0 c).arrAt 5 (cfgM m hO).N
      ∧ r.2.mem (c.tc.loc main_v0_1) = (dats m hO 0 c).arrAt 6 (cfgM m hO).N
      ∧ r.2.mem (c.tc.loc main_v0_2) = (dats m hO 0 c).arrAt 7 (cfgM m hO).N
      ∧ r.2.mem (c.tc.loc main_v0_3) = (dats m hO 0 c).arrAt 8 (cfgM m hO).N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)) :=
  (θ_run defs _ _).mono (fun r h c => ⟨(h c).1 5, (h c).1 6, (h c).1 7, (h c).1 8,
    ((h c).2 main_arg0 (by decide : main_arg0 ∈ Pipeline.restRefs sig spec0)).trans (V_main_arg0 m c),
    ((h c).1 0).trans (((dats m hO 0 c).arrAt_in 0 rfl _).trans ((A_eq m hO c 0).trans (V_main_arg1 m c))),
    ((h c).1 1).trans (((dats m hO 0 c).arrAt_in 1 rfl _).trans ((A_eq m hO c 1).trans (V_main_arg2 m c))),
    ((h c).1 2).trans (((dats m hO 0 c).arrAt_in 2 rfl _).trans ((A_eq m hO c 2).trans (V_main_arg3 m c))),
    ((h c).1 3).trans (((dats m hO 0 c).arrAt_in 3 rfl _).trans ((A_eq m hO c 3).trans (V_main_arg4 m c))),
    ((h c).1 4).trans (((dats m hO 0 c).arrAt_in 4 rfl _).trans ((A_eq m hO c 4).trans (V_main_arg5 m c))),
    ((h c).2 main_arg6 (by decide : main_arg6 ∈ Pipeline.restRefs sig spec0)).trans (V_main_arg6 m c),
    ((h c).2 main_arg7 (by decide : main_arg7 ∈ Pipeline.restRefs sig spec0)).trans (V_main_arg7 m c),
    ((h c).2 main_arg8 (by decide : main_arg8 ∈ Pipeline.restRefs sig spec0)).trans (V_main_arg8 m c),
    ((h c).2 main_arg9 (by decide : main_arg9 ∈ Pipeline.restRefs sig spec0)).trans (V_main_arg9 m c)⟩) (run_main m ρ hO)

end Arrays

/-! ## The reference's arrays -/

section Reference

open Cert.Reference14Ideal.Read

lemma half0 (x0 x1 x2) (i : Cert.Reference14Ideal.S512x640.Idx) : val_main_v2 (F := Ideal) x0 x1 x2 i = pick (x0 (ix1 0)) 0 (x1 i) (x2 i) := by
  unfold pick
  rw [cmp_comm]
  show Scalar.select (IntOp.cmpi .eq (val_main_v0 (F := Ideal) x0 _) 0#32) (x1 i) (x2 i) = _
  rw [show ∀ j, val_main_v0 (F := Ideal) x0 j = x0 (ix1 0) from fun j => num_eq x0 _]

lemma half1 (x0 x1 x2) (i : Cert.Reference14Ideal.S512x640.Idx) : val_main_v5 (F := Ideal) x0 x1 x2 i = pick (x0 (ix1 0)) 1 (x1 i) (x2 i) := by
  unfold pick
  rw [cmp_comm]
  show Scalar.select (IntOp.cmpi .eq (val_main_v3 (F := Ideal) x0 _) 1#32) (x1 i) (x2 i) = _
  rw [show ∀ j, val_main_v3 (F := Ideal) x0 j = x0 (ix1 0) from fun j => num_eq x0 _]

lemma ref_cat (x0 x1 x2) (i : Cert.Reference14Ideal.S1024x640.Idx) :
    val_main_v6 (F := Ideal) x0 x1 x2 i = grad 512 (x0 (ix1 0)) (at2 x1) (at2 x2) (i 0).val (i 1).val := by
  have h0 : (i 0).val < 1024 := (i 0).isLt
  have h1 : (i 1).val < 640 := (i 1).isLt
  idx_vars i
  unfold val_main_v6 grad
  by_cases h : i0.val < 512
  · refine (MixFwd.cat_row _ _ 0 0 (by simp) _ rfl rfl i0 i1 (by omega) (by omega)).trans ?_
    have e : i0.val / 512 = 0 := by omega
    have e' : i0.val % 512 = i0.val - 0 := by omega
    rw [half0, e, e', at2_of_lt x1 (by omega) i1.isLt, at2_of_lt x2 (by omega) i1.isLt]
  · refine (MixFwd.cat_row _ _ 1 512 (by simp) _ rfl rfl i0 i1 (by omega) (by omega)).trans ?_
    have e : i0.val / 512 = 1 := by omega
    have e' : i0.val % 512 = i0.val - 512 := by omega
    rw [half1, e, e', at2_of_lt x1 (by omega) i1.isLt, at2_of_lt x2 (by omega) i1.isLt]

/-- A matrix's entry in the second layer of a stack. -/
def second (i : Cert.Reference14Ideal.S1024x640.Idx) : (⟨3, ![2, 1024, 640]⟩ : Shape).Idx := ix3 1 (i 0) (i 1)

lemma second_eq (i : Cert.Reference14Ideal.S1024x640.Idx) : idx_main_v7 (idx_main_v8 i) = second i := by
  have h0 : (i 0).val < 1024 := (i 0).isLt
  have h1 : (i 1).val < 640 := (i 1).isLt
  funext a
  refine Fin.ext ?_
  match a with
  | ⟨0, _⟩ => rfl
  | ⟨1, _⟩ =>
    show ((i 0).val * 640 + (i 1).val) / 640 % 1024 = (i 0).val
    omega
  | ⟨2, _⟩ =>
    show ((i 0).val * 640 + (i 1).val) % 640 = (i 1).val
    omega

/-- An index's place in the first layer. -/
lemma first_eq (i : Cert.Reference14Ideal.S1x1024x640.Idx) : idx_main_v37 (idx_main_v38 (idx_main_v39 i)) = ix3 0 (i 1) (i 2) := by
  have h0 : (i 1).val < 1024 := (i 1).isLt
  have h1 : (i 2).val < 640 := (i 2).isLt
  funext a
  refine Fin.ext ?_
  match a with
  | ⟨0, _⟩ => rfl
  | ⟨1, _⟩ =>
    show ((i 1).val * 640 + (i 2).val) / 640 % 1024 = (i 1).val
    omega
  | ⟨2, _⟩ =>
    show ((i 1).val * 640 + (i 2).val) % 640 = (i 2).val
    omega

lemma ref_m (x0 x1 x2 x4) (i) : val_main_v17 (F := Ideal) x0 x1 x2 x4 i = mOf x0 x1 x2 x4 (second i) := by
  rw [val_main_v17_apply, val_main_v14_apply, val_main_v13_apply, val_main_cst_apply, val_main_v10_apply, val_main_v9_apply, val_main_v16_apply,
    val_main_v15_apply, val_main_cst_1_apply, ref_cat]
  refine (congrArg (fun q => mNew _ (x4 q)) (second_eq i) : _)

lemma ref_v (x0 x1 x2 x5) (i) : val_main_v23 (F := Ideal) x0 x1 x2 x5 i = vOf x0 x1 x2 x5 (second i) := by
  rw [val_main_v23_apply, val_main_v19_apply, val_main_v18_apply, val_main_cst_2_apply, val_main_v12_apply, val_main_v11_apply, val_main_v22_apply,
    val_main_v21_apply, val_main_cst_3_apply, val_main_v20_apply, ref_cat]
  refine (congrArg (fun q => vNew _ (x5 q)) (second_eq i) : _)

lemma ref_delta (x0 x1 x2 x3 x4 x5) (i) : val_main_v36 (F := Ideal) x0 x1 x2 x3 x4 x5 i = deltaOf x0 x1 x2 x3 x4 x5 (second i) := by
  rw [val_main_v36_apply, val_main_v35_apply, val_main_cst_8_apply, val_main_v34_apply, val_main_v33_apply, val_main_v32_apply, val_main_cst_7_apply,
    val_main_v31_apply, val_main_v30_apply, val_main_v29_apply, val_main_cst_6_apply, val_main_v28_apply, val_main_v27_apply, val_main_v26_apply,
    val_main_cst_5_apply, val_main_v25_apply, val_main_v24_apply, val_main_cst_4_apply, val_main_v8_apply, val_main_v7_apply, ref_m, ref_v, second_eq]
  rfl

/-- Two layers stacked. -/
lemma stack (a b : Cert.Reference14Ideal.S1x1024x640.Idx → EReal) (new old : Layers) (h : Shape.Concatenates [Cert.Reference14Ideal.S1x1024x640, Cert.Reference14Ideal.S1x1024x640] Cert.Reference14Ideal.S2x1024x640 0)
    (ha : ∀ i, a i = old (ix3 0 (i 1) (i 2))) (hb : ∀ i, b i = new (ix3 1 (i 1) (i 2))) :
    concatenate (α := EReal) Cert.Reference14Ideal.S2x1024x640 0 [⟨Cert.Reference14Ideal.S1x1024x640, a⟩, ⟨Cert.Reference14Ideal.S1x1024x640, b⟩] h = layers new old := by
  funext i
  unfold layers
  have h0 : (i 0).val < 2 := (i 0).isLt
  by_cases e : (i 0).val = 1
  · rw [if_pos e]
    refine (concatenate_apply_piece 0 [⟨Cert.Reference14Ideal.S1x1024x640, a⟩, ⟨Cert.Reference14Ideal.S1x1024x640, b⟩] h _ 1 (by simp) _ b rfl rfl 1 rfl (ix3 0 (i 1) (i 2)) (fun q hq => ?_) e.symm).trans ((hb _).trans (congrArg new (ix3_eq i 1 (i 1) (i 2) e rfl rfl)))
    match q with
    | ⟨0, _⟩ => exact absurd rfl hq
    | ⟨1, _⟩ => rfl
    | ⟨2, _⟩ => rfl
  · rw [if_neg e]
    have e : (i 0).val = 0 := by omega
    refine (concatenate_apply_piece 0 [⟨Cert.Reference14Ideal.S1x1024x640, a⟩, ⟨Cert.Reference14Ideal.S1x1024x640, b⟩] h _ 0 (by simp) _ a rfl rfl 0 rfl (ix3 0 (i 1) (i 2)) (fun q hq => ?_) e.symm).trans ((ha _).trans (congrArg old (ix3_eq i 0 (i 1) (i 2) e rfl rfl)))
    match q with
    | ⟨0, _⟩ => exact absurd rfl hq
    | ⟨1, _⟩ => rfl
    | ⟨2, _⟩ => rfl

lemma ref_g2 (x0 x1 x2 x6) : val_main_v41 (F := Ideal) x0 x1 x2 x6 = layers (gOf x0 x1 x2) x6 := by
  unfold val_main_v41
  refine stack _ _ _ _ _ (fun i => ?_) fun i => ?_
  · rw [val_main_v39_apply, val_main_v38_apply, val_main_v37_apply]
    exact congrArg x6 (first_eq i)
  · rw [val_main_v40_apply, ref_cat]
    rfl

lemma ref_d2 (x0 x1 x2 x3 x4 x5 x7) : val_main_v46 (F := Ideal) x0 x1 x2 x3 x4 x5 x7 = layers (deltaOf x0 x1 x2 x3 x4 x5) x7 := by
  unfold val_main_v46
  refine stack _ _ _ _ _ (fun i => ?_) fun i => ?_
  · rw [val_main_v44_apply, val_main_v43_apply, val_main_v42_apply]
    exact congrArg x7 (first_eq i)
  · rw [val_main_v45_apply, ref_delta]
    rfl

lemma ref_m2 (x0 x1 x2 x4 x8) : val_main_v51 (F := Ideal) x0 x1 x2 x4 x8 = layers (mOf x0 x1 x2 x4) x8 := by
  unfold val_main_v51
  refine stack _ _ _ _ _ (fun i => ?_) fun i => ?_
  · rw [val_main_v49_apply, val_main_v48_apply, val_main_v47_apply]
    exact congrArg x8 (first_eq i)
  · rw [val_main_v50_apply, ref_m]
    rfl

lemma ref_v2 (x0 x1 x2 x5 x9) : val_main_v56 (F := Ideal) x0 x1 x2 x5 x9 = layers (vOf x0 x1 x2 x5) x9 := by
  unfold val_main_v56
  refine stack _ _ _ _ _ (fun i => ?_) fun i => ?_
  · rw [val_main_v54_apply, val_main_v53_apply, val_main_v52_apply]
    exact congrArg x9 (first_eq i)
  · rw [val_main_v55_apply, ref_v]
    rfl

end Reference

/-! ## The claim -/

lemma algebraic_adam : Cert.algebraic_Kernel14Ideal_Reference14Ideal := fun m ρ m' ρ' _ hag =>
  ⟨fun c => (dats m trivial 0 c).arrAt 5 (cfgM m trivial).N, fun c => (dats m trivial 0 c).arrAt 6 (cfgM m trivial).N,
    fun c => (dats m trivial 0 c).arrAt 7 (cfgM m trivial).N, fun c => (dats m trivial 0 c).arrAt 8 (cfgM m trivial).N, run_blocks m trivial ρ,
    (θ_run _ _ _).mono (fun _ h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]
        exact (Cert.Reference14Ideal.Read.val_main_v41_eq _ _ _ _).trans ((ref_g2 _ _ _ _).trans (array5 m trivial c).symm)
      · rw [h0, h1, h2, h3, h4, h5, h7]
        exact (Cert.Reference14Ideal.Read.val_main_v46_eq _ _ _ _ _ _ _).trans ((ref_d2 _ _ _ _ _ _ _).trans (array6 m trivial c).symm)
      · rw [h0, h1, h2, h4, h8]
        exact (Cert.Reference14Ideal.Read.val_main_v51_eq _ _ _ _ _).trans ((ref_m2 _ _ _ _ _).trans (array7 m trivial c).symm)
      · rw [h0, h1, h2, h5, h9]
        exact (Cert.Reference14Ideal.Read.val_main_v56_eq _ _ _ _ _).trans ((ref_v2 _ _ _ _ _).trans (array8 m trivial c).symm))
      (Cert.Reference14Ideal.Value.run m' ρ')⟩

end Cert.Proof.AdamIn
-- ==== Proof.FfnBwd.lean ====
module

public import proofs.«01_k».proof.Proof.Sums
public import proofs.«01_k».proof.Proof.Gen.Kernel2Ideal.Value
public import proofs.«01_k».proof.Proof.Gen.Reference2Ideal.Read
public import Idealize.ShloMosaic.Lib.Pipeline.ReadBack
public import proofs.«01_k».proof.Defs

@[expose] public section

set_option maxRecDepth 16384

noncomputable section

namespace Cert.Proof.FfnBwd

open Cert.Kernel2Ideal Cert.Kernel2Ideal.Gen Cert.Kernel2Ideal.Value Idealize.ShloMosaic Idealize.ShloMosaic.TcCoe Idealize.SL.Sem
  Idealize.ShloMosaic.Tactic

/-! ## The body at an index -/

lemma two_bits : Ideal.ofBits .f32 0x40000000#32 = 2 := by
  rw [show (2 : EReal) = ((2 : ℝ) : EReal) by norm_cast]
  simp [Ideal.ofBits, Ideal.ieee, -EReal.coe_mul]
  norm_num

lemma pay1_apply (v0 : Vec Ideal S1024x1024 .bf16) (v1 : Vec Ideal S1x1x1024x1024 .bf16) (v4 : Vec Ideal S1024x1024 .bf16) (x : S1024x1024.Idx) :
    k0_pay1 v0 v1 v4 x = (∑ k ∈ Finset.range 1024, at2 v0 (x 0).val k * at4 v1 0 0 (x 1).val k) * (2 * max (at2 v4 (x 0).val (x 1).val) 0) := by
  rw [← sum_fin (fun k : Fin 1024 => v0 (ix2 ⟨(x 0).val, (x 0).isLt⟩ k) * v1 (ix4 0 0 ⟨(x 1).val, (x 1).isLt⟩ k)) _
    (fun k => congrArg₂ (· * ·) (at2_of_lt v0 (x 0).isLt k.isLt).symm (at4_of_lt v1 Nat.one_pos Nat.one_pos (x 1).isLt k.isLt).symm),
    at2_of_lt v4 (x 0).isLt (x 1).isLt]
  unfold_payloads
  idx_vars x
  pointwise
  rw [two_bits]

lemma pay2_apply (v0 : Vec Ideal S1024x1024 .bf16) (v1 : Vec Ideal S1x1x1024x1024 .bf16) (v4 : Vec Ideal S1024x1024 .bf16)
    (v13 : Vec Ideal S1x1x1024x1024 .bf16) (x : S1024x1024.Idx) :
    k0_pay2 v0 v1 v4 v13 x = ∑ k ∈ Finset.range 1024, at2 (k0_pay1 v0 v1 v4) (x 0).val k * at4 v13 0 0 (x 1).val k := by
  unfold k0_pay2
  generalize k0_pay1 v0 v1 v4 = w
  rw [← sum_fin (fun k : Fin 1024 => w (ix2 ⟨(x 0).val, (x 0).isLt⟩ k) * v13 (ix4 0 0 ⟨(x 1).val, (x 1).isLt⟩ k)) _
    (fun k => congrArg₂ (· * ·) (at2_of_lt w (x 0).isLt k.isLt).symm (at4_of_lt v13 Nat.one_pos Nat.one_pos (x 1).isLt k.isLt).symm)]
  idx_vars x
  pointwise

lemma pay3_apply (v0 : Vec Ideal S1024x1024 .bf16) (v1 : Vec Ideal S1x1x1024x1024 .bf16) (v4 : Vec Ideal S1024x1024 .bf16)
    (v13 : Vec Ideal S1x1x1024x1024 .bf16) (v22 : Vec Ideal S1024x1024 .f32) (x : S1024x1024.Idx) :
    k0_pay3 v0 v1 v4 v13 v22 x = v22 x + k0_pay2 v0 v1 v4 v13 x := by
  unfold k0_pay3
  generalize k0_pay2 v0 v1 v4 v13 = w
  pointwise

/-! ## The blocks a point reads -/

variable (m : (ℓ : Loc nD τ sig) → Buf (Elt Ideal) ℓ) (c : Dev nD)

lemma e0 : ∀ t : Fin grid0.N, win0_0.index t = ![t.val / 4, 0] := by decide +kernel
lemma e1 : ∀ t : Fin grid0.N, win0_1.index t = ![t.val / 4, t.val % 4] := by decide +kernel
lemma e2 : ∀ t : Fin grid0.N, win0_2.index t = ![t.val % 4, 1, 0, 0] := by decide +kernel
lemma e3 : ∀ t : Fin grid0.N, win0_3.index t = ![t.val % 4, 1, 0, 0] := by decide +kernel
lemma e4 : ∀ t : Fin grid0.N, win0_4.index t = ![t.val / 4, t.val % 4] := by decide +kernel
lemma e5 : ∀ t : Fin grid0.N, win0_5.index t = ![t.val / 4, 0] := by decide +kernel

lemma blk0 (t : Fin cfg0.N) (r l : Nat) (hr : r < 1024) (hl : l < 1024) :
    at2 (iblk m c 0 t) r l = at2 (m (c.tc.loc main_arg0)) (1024 * (t.val / 4) + r) l := by
  have ht : t.val < 64 := t.isLt
  rw [at2_of_lt _ hr hl, at2_of_lt _ (by omega) hl]
  blk_simp [iblk]
  rw [V_main_arg0]
  congr 1
  blk_ext [e0]

lemma blk1 (t : Fin cfg0.N) (r l : Nat) (hr : r < 1024) (hl : l < 1024) :
    at2 (iblk m c 1 t) r l = at2 (m (c.tc.loc main_arg1)) (1024 * (t.val / 4) + r) (1024 * (t.val % 4) + l) := by
  have ht : t.val < 64 := t.isLt
  rw [at2_of_lt _ hr hl, at2_of_lt _ (by omega) (by omega)]
  blk_simp [iblk]
  rw [V_main_arg1]
  congr 1
  blk_ext [e1]

lemma blk2 (t : Fin cfg0.N) (r l : Nat) (hr : r < 1024) (hl : l < 1024) :
    at4 (iblk m c 2 t) 0 0 r l = at4 (m (c.tc.loc main_arg2)) (t.val % 4) 1 r l := by
  have ht : t.val < 64 := t.isLt
  rw [at4_of_lt _ Nat.one_pos Nat.one_pos hr hl, at4_of_lt _ (by omega) Nat.one_lt_two hr hl]
  blk_simp [iblk]
  rw [V_main_arg2]
  congr 1
  blk_ext [e2]

lemma blk3 (t : Fin cfg0.N) (r l : Nat) (hr : r < 1024) (hl : l < 1024) :
    at4 (iblk m c 3 t) 0 0 r l = at4 (m (c.tc.loc main_arg3)) (t.val % 4) 1 r l := by
  have ht : t.val < 64 := t.isLt
  rw [at4_of_lt _ Nat.one_pos Nat.one_pos hr hl, at4_of_lt _ (by omega) Nat.one_lt_two hr hl]
  blk_simp [iblk]
  rw [V_main_arg3]
  congr 1
  blk_ext [e3]

/-! ## The arrays -/

/-- The cotangent of a row before the activation, with the weights of layer `L`. -/
def dpAt (L : Nat) (dx : Ar2 16384 1024) (p : Ar2 16384 4096)
    (wd : Ar4 4 2 1024 1024) (r f : Nat) : EReal :=
  (∑ k ∈ Finset.range 1024, at2 dx r k * at4 wd (f / 1024) L (f % 1024) k) * (2 * max (at2 p r f) 0)

def dpOf (L : Nat) (dx : Ar2 16384 1024) (p : Ar2 16384 4096)
    (wd : Ar4 4 2 1024 1024) : Ar2 16384 4096 := fun i => dpAt L dx p wd (i 0).val (i 1).val

/-- The cotangent of the normed row. -/
def dhOf (L : Nat) (dx : Ar2 16384 1024) (p : Ar2 16384 4096)
    (wu wd : Ar4 4 2 1024 1024) : Ar2 16384 1024 := fun i =>
  ∑ f ∈ Finset.range 4096, dpAt L dx p wd (i 0).val f * at4 wu (f / 1024) L (i 1).val (f % 1024)

lemma dpOf_congr {L a a' b b' d d'} (h : a = a') (h' : b = b') (h'' : d = d') : dpOf L a b d = dpOf L a' b' d' := by subst h h' h''; rfl
lemma dhOf_congr {L a a' b b' u u' d d'} (h : a = a') (h' : b = b') (hu : u = u') (h'' : d = d') : dhOf L a b u d = dhOf L a' b' u' d' := by
  subst h h' hu h''; rfl

/-- The block of the first result that a point stores. -/
lemma pay1_blk (t : Fin cfg0.N) (x : S1024x1024.Idx) :
    k0_pay1 (F := Ideal) (iblk m c 0 t) (iblk m c 3 t) (iblk m c 1 t) x
      = dpAt 1 (m (c.tc.loc main_arg0)) (m (c.tc.loc main_arg1)) (m (c.tc.loc main_arg3))
          (1024 * (t.val / 4) + (x 0).val) (1024 * (t.val % 4) + (x 1).val) := by
  have h1 : (x 1).val < 1024 := (x 1).isLt
  rw [pay1_apply, blk1 m c t _ _ (x 0).isLt (x 1).isLt]
  unfold dpAt
  rw [show (1024 * (t.val % 4) + (x 1).val) / 1024 = t.val % 4 by omega, show (1024 * (t.val % 4) + (x 1).val) % 1024 = (x 1).val by omega]
  refine congrArg (· * _) (Finset.sum_congr rfl fun k hk => ?_)
  rw [blk0 m c t _ _ (x 0).isLt (Finset.mem_range.mp hk), blk3 m c t _ _ (x 1).isLt (Finset.mem_range.mp hk)]

lemma array4 : (dats m 0 c).arrAt 4 cfg0.N
    = dpOf 1 (m (c.tc.loc main_arg0)) (m (c.tc.loc main_arg1)) (m (c.tc.loc main_arg3)) := by
  refine (dats m 0 c).arrAt_eq_of_covers 4 _ (by decide +kernel) fun t hf y => ?_
  blk_simp
  rw [after0_4]
  have e : (outsAt0 m c t.val t.isLt).1 = k0_pay1 (F := Ideal) (iblk m c 0 t) (iblk m c 3 t) (iblk m c 1 t) := by
    by_cases h : t.val % 4 = 0
    · rw [outsAt0_A m c t h (by omega)]
      frame_out
    · rw [outsAt0_B m c t h (by omega)]
      frame_out
  rw [e]
  refine (pay1_blk m c t y).trans ?_
  have q0 : 1024 * (t.val / 4) + (y 0).val = ((win0_4.blk t).view.emb y 0).val := by blk_simp [e4]; omega
  have q1 : 1024 * (t.val % 4) + (y 1).val = ((win0_4.blk t).view.emb y 1).val := by blk_simp [e4]; omega
  exact congrArg₂ (dpAt _ _ _ _) q0 q1

/-- What point `n` adds to the second result's block. -/
def M5 (n : Nat) (x : S1024x1024.Idx) : EReal :=
  ∑ k ∈ Finset.range 1024, dpAt 1 (m (c.tc.loc main_arg0)) (m (c.tc.loc main_arg1)) (m (c.tc.loc main_arg3))
      (1024 * (n / 4) + (x 0).val) (1024 * (n % 4) + k) * at4 (m (c.tc.loc main_arg2)) (n % 4) 1 (x 1).val k

lemma pay2_blk (t : Fin cfg0.N) (x : S1024x1024.Idx) :
    k0_pay2 (F := Ideal) (iblk m c 0 t) (iblk m c 3 t) (iblk m c 1 t) (iblk m c 2 t) x = M5 m c t.val x := by
  rw [pay2_apply]
  unfold M5
  refine Finset.sum_congr rfl fun k hk => ?_
  have hk := Finset.mem_range.mp hk
  rw [blk2 m c t _ _ (x 1).isLt hk]
  refine congrArg (· * _) ((at2_of_lt _ (x 0).isLt hk).trans ?_)
  exact pay1_blk m c t (ix2 ⟨(x 0).val, (x 0).isLt⟩ ⟨k, hk⟩)

lemma out5_A (t : Fin cfg0.N) (h : t.val % 4 = 0) (x : S1024x1024.Idx) : (outsAt0 m c t.val t.isLt).2 x = 0 + M5 m c t.val x := by
  rw [zero_add, ← pay2_blk m c t x, outsAt0_A m c t h (by omega)]
  frame_out

lemma out5_B (t : Fin cfg0.N) (h : ¬t.val % 4 = 0) (x : S1024x1024.Idx) : (outsAt0 m c t.val t.isLt).2 x
    = (outsAt0 m c (t.val - 1) (Nat.sub_lt_of_lt t.isLt)).2 x + M5 m c t.val x := by
  rw [← pay2_blk m c t x, ← pay3_apply, outsAt0_B m c t h (by omega)]
  frame_out

lemma fold5 (t : Fin cfg0.N) (hr : t.val % 4 = 3) (x : S1024x1024.Idx) :
    (outsAt0 m c t.val t.isLt).2 x = ∑ s ∈ Finset.range 4, M5 m c (4 * (t.val / 4) + s) x := by
  rw [← zero_add (∑ s ∈ Finset.range 4, M5 m c (4 * (t.val / 4) + s) x)]
  exact Pipeline.eq_sum_of_reset_step_apply_of_mod (M := EReal) (fun n h => (outsAt0 m c n h).2) 4 (fun _ => 0) (M5 m c)
    (out5_A m c) (out5_B m c) t hr x

lemma array5 : (dats m 0 c).arrAt 5 cfg0.N = dhOf 1 (m (c.tc.loc main_arg0)) (m (c.tc.loc main_arg1))
    (m (c.tc.loc main_arg2)) (m (c.tc.loc main_arg3)) := by
  refine (dats m 0 c).arrAt_eq_of_covers 5 _ (by decide +kernel) fun t hf y => ?_
  have ht := (flush0_5 t).mp hf
  blk_simp
  rw [after0_5]
  refine (fold5 m c t (by omega) y).trans ?_
  unfold dhOf
  have q0 : ((win0_5.blk t).view.emb y 0).val = 1024 * (t.val / 4) + (y 0).val := by blk_simp [e5]; omega
  have q1 : ((win0_5.blk t).view.emb y 1).val = (y 1).val := by blk_simp [e5]
  rw [q0, q1, ← sum_blocks _ 4 1024]
  refine Finset.sum_congr rfl fun s hs => ?_
  have hs := Finset.mem_range.mp hs
  unfold M5
  refine Finset.sum_congr rfl fun k hk => ?_
  have hk := Finset.mem_range.mp hk
  rw [show (4 * (t.val / 4) + s) % 4 = s by omega, show (4 * (t.val / 4) + s) / 4 = t.val / 4 by omega,
    show (1024 * s + k) / 1024 = s by omega, show (1024 * s + k) % 1024 = k by omega]

/-! ## The reference's arrays -/

section Reference

open Cert.Reference2Ideal.Read

lemma zero_bits : FloatOps.ofBits (F := Ideal) .f32 0x00000000#32 = 0 := by pointwise

lemma gate (p d : EReal) : (if 0 < p then max p 0 * d + d * max p 0 else 0) = d * (2 * max p 0) := by
  split
  next h =>
    rw [mul_comm (max p 0) d, show (2 : EReal) = 1 + 1 by norm_num, EReal.right_distrib_of_nonneg zero_le_one zero_le_one, one_mul,
      EReal.left_distrib_of_nonneg (le_max_right _ _) (le_max_right _ _)]
  next h => rw [max_eq_right (not_lt.mp h), mul_zero, mul_zero]

lemma ref_v17 (x0 x3) (i : Cert.Reference2Ideal.S16384x4096.Idx) : val_main_v17 (F := Ideal) x0 x3 i
    = ∑ k ∈ Finset.range 1024, at2 x0 (i 0).val k * at4 x3 ((i 1).val / 1024) 1 ((i 1).val % 1024) k := by
  have h1 : (i 1).val < 4096 := (i 1).isLt
  rw [val_main_v17_apply]
  refine sum_fin _ _ fun k => ?_
  rw [val_main_v16_apply, val_main_v8_apply, val_main_v7_apply, val_main_v6_apply, val_main_v5_apply]
  have hk : k.val < 1024 := k.isLt
  refine congrArg₂ (· * ·) (at2_eq x0 _ rfl rfl) (at4_eq x3 _ ?_ ?_ ?_ ?_)
  · show ((((i 1).val * 1024 + k.val) / 1048576 * 1024 + ((i 1).val * 1024 + k.val) / 1024 % 1024) * 1024 + ((i 1).val * 1024 + k.val) % 1024) / 1048576 = (i 1).val / 1024
    omega
  · rfl
  · show ((((i 1).val * 1024 + k.val) / 1048576 * 1024 + ((i 1).val * 1024 + k.val) / 1024 % 1024) * 1024 + ((i 1).val * 1024 + k.val) % 1024) / 1024 % 1024 = (i 1).val % 1024
    omega
  · show ((((i 1).val * 1024 + k.val) / 1048576 * 1024 + ((i 1).val * 1024 + k.val) / 1024 % 1024) * 1024 + ((i 1).val * 1024 + k.val) % 1024) % 1024 = k.val
    omega

lemma ref_dp (x0 x1 x3) : val_main_v23 (F := Ideal) x0 x1 x3 = dpOf 1 x0 x1 x3 := by
  funext i
  rw [val_main_v23_apply, val_main_v22_apply, val_main_v20_apply, val_main_v19_apply, val_main_v18_apply, ref_v17, val_main_v12_apply,
    val_main_v10_apply, val_main_v9_apply, val_main_v11_apply, val_main_v21_apply, val_main_call0_v0_apply, val_main_call0_cst_apply]
  unfold dpOf dpAt
  rw [← gate]
  generalize (∑ k ∈ Finset.range 1024, at2 x0 (i 0).val k * at4 x3 ((i 1).val / 1024) 1 ((i 1).val % 1024) k) = d
  rw [← at2_eq x1 i rfl rfl, val_main_cst_apply, val_main_cst_1_apply]
  pointwise

lemma ref_dh (x0 x1 x2 x3) : val_main_v27 (F := Ideal) x0 x1 x2 x3 = dhOf 1 x0 x1 x2 x3 := by
  funext i
  rw [val_main_v27_apply]
  unfold dhOf
  refine sum_fin _ _ fun k => ?_
  have hk : k.val < 4096 := k.isLt
  have h1 : (i 1).val < 1024 := (i 1).isLt
  rw [val_main_v26_apply, ref_dp, val_main_v4_apply, val_main_v3_apply, val_main_v2_apply, val_main_v1_apply, val_main_v0_apply]
  refine congrArg₂ (· * ·) rfl (at4_eq x2 _ ?_ ?_ ?_ ?_)
  · show ((((i 1).val * 4096 + k.val) / 1024 % 4 * 1024 + ((i 1).val * 4096 + k.val) / 4096) * 1024 + ((i 1).val * 4096 + k.val) % 1024) / 1048576 = k.val / 1024
    omega
  · rfl
  · show ((((i 1).val * 4096 + k.val) / 1024 % 4 * 1024 + ((i 1).val * 4096 + k.val) / 4096) * 1024 + ((i 1).val * 4096 + k.val) % 1024) / 1024 % 1024 = (i 1).val
    omega
  · show ((((i 1).val * 4096 + k.val) / 1024 % 4 * 1024 + ((i 1).val * 4096 + k.val) / 4096) * 1024 + ((i 1).val * 4096 + k.val) % 1024) % 1024 = k.val % 1024
    omega

end Reference

/-! ## The claims -/

lemma algebraic_bwd : Cert.algebraic_Kernel2Ideal_Reference2Ideal := fun m ρ m' ρ' _ hag =>
  ⟨fun c => (dats m 0 c).arrAt 4 cfg0.N, fun c => (dats m 0 c).arrAt 5 cfg0.N, Cert.Kernel2Ideal.Value.run_blocks m ρ,
    (θ_run _ _ _).mono (fun _ h c => by
      obtain ⟨h0, h1, h2, h3⟩ := hag c
      exact ⟨(h c).1.trans ((Cert.Reference2Ideal.Read.val_main_v23_eq _ _ _).trans ((ref_dp _ _ _).trans ((dpOf_congr h0 h1 h3).trans (array4 m c).symm))),
        (h c).2.1.trans ((Cert.Reference2Ideal.Read.val_main_v27_eq _ _ _ _).trans ((ref_dh _ _ _ _).trans ((dhOf_congr h0 h1 h2 h3).trans (array5 m c).symm))), (h c).2.2⟩)
      (Cert.Reference2Ideal.Value.run m' ρ')⟩

end Cert.Proof.FfnBwd
-- ==== Proof.FfnBwdFirst.lean ====
module

public import proofs.«01_k».proof.Proof.FfnBwd
public import proofs.«01_k».proof.Proof.Gen.Kernel15Ideal.Value
public import proofs.«01_k».proof.Proof.Gen.Reference15Ideal.Read

@[expose] public section

set_option maxRecDepth 16384

noncomputable section

/-! The same for the first layer: what does not read the weights is taken over from the second. -/

namespace Cert.Proof.FfnBwdFirst

open Cert.Kernel15Ideal Cert.Kernel15Ideal.Gen Cert.Kernel15Ideal.Value Idealize.ShloMosaic Idealize.ShloMosaic.TcCoe Idealize.SL.Sem
  Idealize.ShloMosaic.Tactic

open FfnBwd (pay1_apply pay2_apply pay3_apply dpAt dpOf dhOf dpOf_congr dhOf_congr gate)

/-! ## The blocks a point reads -/

variable (m : (ℓ : Loc nD τ sig) → Buf (Elt Ideal) ℓ) (c : Dev nD)

lemma e2 : ∀ t : Fin grid0.N, win0_2.index t = ![t.val % 4, 0, 0, 0] := by decide +kernel
lemma e3 : ∀ t : Fin grid0.N, win0_3.index t = ![t.val % 4, 0, 0, 0] := by decide +kernel
lemma e4 : ∀ t : Fin grid0.N, win0_4.index t = ![t.val / 4, t.val % 4] := by decide +kernel
lemma e5 : ∀ t : Fin grid0.N, win0_5.index t = ![t.val / 4, 0] := by decide +kernel

lemma blk0 (t : Fin cfg0.N) (r l : Nat) (hr : r < 1024) (hl : l < 1024) :
    at2 (iblk m c 0 t) r l = at2 (m (c.tc.loc main_arg0)) (1024 * (t.val / 4) + r) l :=
  FfnBwd.blk0 m c t r l hr hl

lemma blk1 (t : Fin cfg0.N) (r l : Nat) (hr : r < 1024) (hl : l < 1024) :
    at2 (iblk m c 1 t) r l = at2 (m (c.tc.loc main_arg1)) (1024 * (t.val / 4) + r) (1024 * (t.val % 4) + l) :=
  FfnBwd.blk1 m c t r l hr hl

lemma blk2 (t : Fin cfg0.N) (r l : Nat) (hr : r < 1024) (hl : l < 1024) :
    at4 (iblk m c 2 t) 0 0 r l = at4 (m (c.tc.loc main_arg2)) (t.val % 4) 0 r l := by
  have ht : t.val < 64 := t.isLt
  rw [at4_of_lt _ Nat.one_pos Nat.one_pos hr hl, at4_of_lt _ (by omega) Nat.two_pos hr hl]
  blk_simp [iblk]
  rw [V_main_arg2]
  congr 1
  blk_ext [e2]

lemma blk3 (t : Fin cfg0.N) (r l : Nat) (hr : r < 1024) (hl : l < 1024) :
    at4 (iblk m c 3 t) 0 0 r l = at4 (m (c.tc.loc main_arg3)) (t.val % 4) 0 r l := by
  have ht : t.val < 64 := t.isLt
  rw [at4_of_lt _ Nat.one_pos Nat.one_pos hr hl, at4_of_lt _ (by omega) Nat.two_pos hr hl]
  blk_simp [iblk]
  rw [V_main_arg3]
  congr 1
  blk_ext [e3]

/-! ## The arrays -/

/-- The block of the first result that a point stores. -/
lemma pay1_blk (t : Fin cfg0.N) (x : S1024x1024.Idx) :
    k0_pay1 (F := Ideal) (iblk m c 0 t) (iblk m c 3 t) (iblk m c 1 t) x
      = dpAt 0 (m (c.tc.loc main_arg0)) (m (c.tc.loc main_arg1)) (m (c.tc.loc main_arg3))
          (1024 * (t.val / 4) + (x 0).val) (1024 * (t.val % 4) + (x 1).val) := by
  have h1 : (x 1).val < 1024 := (x 1).isLt
  refine (pay1_apply _ _ _ x).trans ?_
  rw [blk1 m c t _ _ (x 0).isLt (x 1).isLt]
  unfold dpAt
  rw [show (1024 * (t.val % 4) + (x 1).val) / 1024 = t.val % 4 by omega, show (1024 * (t.val % 4) + (x 1).val) % 1024 = (x 1).val by omega]
  refine congrArg (· * _) (Finset.sum_congr rfl fun k hk => ?_)
  rw [blk0 m c t _ _ (x 0).isLt (Finset.mem_range.mp hk), blk3 m c t _ _ (x 1).isLt (Finset.mem_range.mp hk)]

lemma array4 : (dats m 0 c).arrAt 4 cfg0.N
    = dpOf 0 (m (c.tc.loc main_arg0)) (m (c.tc.loc main_arg1)) (m (c.tc.loc main_arg3)) := by
  refine (dats m 0 c).arrAt_eq_of_covers 4 _ (by decide +kernel) fun t hf y => ?_
  blk_simp
  rw [after0_4]
  have e : (outsAt0 m c t.val t.isLt).1 = k0_pay1 (F := Ideal) (iblk m c 0 t) (iblk m c 3 t) (iblk m c 1 t) := by
    by_cases h : t.val % 4 = 0
    · rw [outsAt0_A m c t h (by omega)]
      frame_out
    · rw [outsAt0_B m c t h (by omega)]
      frame_out
  rw [e]
  refine (pay1_blk m c t y).trans ?_
  have q0 : 1024 * (t.val / 4) + (y 0).val = ((win0_4.blk t).view.emb y 0).val := by blk_simp [e4]; omega
  have q1 : 1024 * (t.val % 4) + (y 1).val = ((win0_4.blk t).view.emb y 1).val := by blk_simp [e4]; omega
  exact congrArg₂ (dpAt _ _ _ _) q0 q1

/-- What point `n` adds to the second result's block. -/
def M5 (n : Nat) (x : S1024x1024.Idx) : EReal :=
  ∑ k ∈ Finset.range 1024, dpAt 0 (m (c.tc.loc main_arg0)) (m (c.tc.loc main_arg1)) (m (c.tc.loc main_arg3))
      (1024 * (n / 4) + (x 0).val) (1024 * (n % 4) + k) * at4 (m (c.tc.loc main_arg2)) (n % 4) 0 (x 1).val k

lemma pay2_blk (t : Fin cfg0.N) (x : S1024x1024.Idx) :
    k0_pay2 (F := Ideal) (iblk m c 0 t) (iblk m c 3 t) (iblk m c 1 t) (iblk m c 2 t) x = M5 m c t.val x := by
  refine (pay2_apply _ _ _ _ x).trans ?_
  unfold M5
  refine Finset.sum_congr rfl fun k hk => ?_
  have hk := Finset.mem_range.mp hk
  rw [blk2 m c t _ _ (x 1).isLt hk]
  refine congrArg (· * _) ((at2_of_lt _ (x 0).isLt hk).trans ?_)
  exact pay1_blk m c t (ix2 ⟨(x 0).val, (x 0).isLt⟩ ⟨k, hk⟩)

lemma out5_A (t : Fin cfg0.N) (h : t.val % 4 = 0) (x : S1024x1024.Idx) : (outsAt0 m c t.val t.isLt).2 x = 0 + M5 m c t.val x := by
  rw [zero_add, ← pay2_blk m c t x, outsAt0_A m c t h (by omega)]
  frame_out

lemma out5_B (t : Fin cfg0.N) (h : ¬t.val % 4 = 0) (x : S1024x1024.Idx) : (outsAt0 m c t.val t.isLt).2 x
    = (outsAt0 m c (t.val - 1) (Nat.sub_lt_of_lt t.isLt)).2 x + M5 m c t.val x := by
  rw [← pay2_blk m c t x]
  refine Eq.trans ?_ (pay3_apply _ _ _ _ _ x)
  rw [outsAt0_B m c t h (by omega)]
  frame_out
  rfl

lemma fold5 (t : Fin cfg0.N) (hr : t.val % 4 = 3) (x : S1024x1024.Idx) :
    (outsAt0 m c t.val t.isLt).2 x = ∑ s ∈ Finset.range 4, M5 m c (4 * (t.val / 4) + s) x := by
  rw [← zero_add (∑ s ∈ Finset.range 4, M5 m c (4 * (t.val / 4) + s) x)]
  exact Pipeline.eq_sum_of_reset_step_apply_of_mod (M := EReal) (fun n h => (outsAt0 m c n h).2) 4 (fun _ => 0) (M5 m c)
    (out5_A m c) (out5_B m c) t hr x

lemma array5 : (dats m 0 c).arrAt 5 cfg0.N = dhOf 0 (m (c.tc.loc main_arg0)) (m (c.tc.loc main_arg1))
    (m (c.tc.loc main_arg2)) (m (c.tc.loc main_arg3)) := by
  refine (dats m 0 c).arrAt_eq_of_covers 5 _ (by decide +kernel) fun t hf y => ?_
  have ht := (flush0_5 t).mp hf
  blk_simp
  rw [after0_5]
  refine (fold5 m c t (by omega) y).trans ?_
  unfold dhOf
  have q0 : ((win0_5.blk t).view.emb y 0).val = 1024 * (t.val / 4) + (y 0).val := by blk_simp [e5]; omega
  have q1 : ((win0_5.blk t).view.emb y 1).val = (y 1).val := by blk_simp [e5]
  rw [q0, q1, ← sum_blocks _ 4 1024]
  refine Finset.sum_congr rfl fun s hs => ?_
  have hs := Finset.mem_range.mp hs
  unfold M5
  refine Finset.sum_congr rfl fun k hk => ?_
  have hk := Finset.mem_range.mp hk
  rw [show (4 * (t.val / 4) + s) % 4 = s by omega, show (4 * (t.val / 4) + s) / 4 = t.val / 4 by omega,
    show (1024 * s + k) / 1024 = s by omega, show (1024 * s + k) % 1024 = k by omega]

/-! ## The reference's arrays -/

section Reference

open Cert.Reference15Ideal.Read

lemma ref_v17 (x0 x3) (i : Cert.Reference15Ideal.S16384x4096.Idx) : val_main_v17 (F := Ideal) x0 x3 i
    = ∑ k ∈ Finset.range 1024, at2 x0 (i 0).val k * at4 x3 ((i 1).val / 1024) 0 ((i 1).val % 1024) k := by
  have h1 : (i 1).val < 4096 := (i 1).isLt
  rw [val_main_v17_apply]
  refine sum_fin _ _ fun k => ?_
  rw [val_main_v16_apply, val_main_v8_apply, val_main_v7_apply, val_main_v6_apply, val_main_v5_apply]
  have hk : k.val < 1024 := k.isLt
  refine congrArg₂ (· * ·) (at2_eq x0 _ rfl rfl) (at4_eq x3 _ ?_ ?_ ?_ ?_)
  · show ((((i 1).val * 1024 + k.val) / 1048576 * 1024 + ((i 1).val * 1024 + k.val) / 1024 % 1024) * 1024 + ((i 1).val * 1024 + k.val) % 1024) / 1048576 = (i 1).val / 1024
    omega
  · rfl
  · show ((((i 1).val * 1024 + k.val) / 1048576 * 1024 + ((i 1).val * 1024 + k.val) / 1024 % 1024) * 1024 + ((i 1).val * 1024 + k.val) % 1024) / 1024 % 1024 = (i 1).val % 1024
    omega
  · show ((((i 1).val * 1024 + k.val) / 1048576 * 1024 + ((i 1).val * 1024 + k.val) / 1024 % 1024) * 1024 + ((i 1).val * 1024 + k.val) % 1024) % 1024 = k.val
    omega

lemma ref_dp (x0 x1 x3) : val_main_v23 (F := Ideal) x0 x1 x3 = dpOf 0 x0 x1 x3 := by
  funext i
  rw [val_main_v23_apply, val_main_v22_apply, val_main_v20_apply, val_main_v19_apply, val_main_v18_apply, ref_v17, val_main_v12_apply,
    val_main_v10_apply, val_main_v9_apply, val_main_v11_apply, val_main_v21_apply, val_main_call0_v0_apply, val_main_call0_cst_apply]
  unfold dpOf dpAt
  rw [← gate]
  generalize (∑ k ∈ Finset.range 1024, at2 x0 (i 0).val k * at4 x3 ((i 1).val / 1024) 0 ((i 1).val % 1024) k) = d
  rw [← at2_eq x1 i rfl rfl, val_main_cst_apply, val_main_cst_1_apply]
  pointwise

lemma ref_dh (x0 x1 x2 x3) : val_main_v27 (F := Ideal) x0 x1 x2 x3 = dhOf 0 x0 x1 x2 x3 := by
  funext i
  rw [val_main_v27_apply]
  unfold dhOf
  refine sum_fin _ _ fun k => ?_
  have hk : k.val < 4096 := k.isLt
  have h1 : (i 1).val < 1024 := (i 1).isLt
  rw [val_main_v26_apply, ref_dp, val_main_v4_apply, val_main_v3_apply, val_main_v2_apply, val_main_v1_apply, val_main_v0_apply]
  refine congrArg₂ (· * ·) rfl (at4_eq x2 _ ?_ ?_ ?_ ?_)
  · show ((((i 1).val * 4096 + k.val) / 1024 % 4 * 1024 + ((i 1).val * 4096 + k.val) / 4096) * 1024 + ((i 1).val * 4096 + k.val) % 1024) / 1048576 = k.val / 1024
    omega
  · rfl
  · show ((((i 1).val * 4096 + k.val) / 1024 % 4 * 1024 + ((i 1).val * 4096 + k.val) / 4096) * 1024 + ((i 1).val * 4096 + k.val) % 1024) / 1024 % 1024 = (i 1).val
    omega
  · show ((((i 1).val * 4096 + k.val) / 1024 % 4 * 1024 + ((i 1).val * 4096 + k.val) / 4096) * 1024 + ((i 1).val * 4096 + k.val) % 1024) % 1024 = k.val % 1024
    omega

end Reference

/-! ## The claims -/

lemma algebraic_bwd : Cert.algebraic_Kernel15Ideal_Reference15Ideal := fun m ρ m' ρ' _ hag =>
  ⟨fun c => (dats m 0 c).arrAt 4 cfg0.N, fun c => (dats m 0 c).arrAt 5 cfg0.N, Cert.Kernel15Ideal.Value.run_blocks m ρ,
    (θ_run _ _ _).mono (fun _ h c => by
      obtain ⟨h0, h1, h2, h3⟩ := hag c
      exact ⟨(h c).1.trans ((Cert.Reference15Ideal.Read.val_main_v23_eq _ _ _).trans ((ref_dp _ _ _).trans ((dpOf_congr h0 h1 h3).trans (array4 m c).symm))),
        (h c).2.1.trans ((Cert.Reference15Ideal.Read.val_main_v27_eq _ _ _ _).trans ((ref_dh _ _ _ _).trans ((dhOf_congr h0 h1 h2 h3).trans (array5 m c).symm))), (h c).2.2⟩)
      (Cert.Reference15Ideal.Value.run m' ρ')⟩

end Cert.Proof.FfnBwdFirst
-- ==== Proof.FfnBody.lean ====
/-
  The run of the feed-forward call's body and its frame. Its third output, the normalised block, is stored only at the first of
  the four column steps of a row block and is written back at the last of them, where the body leaves it as it was: so the run,
  the contents point by point and the obligation are stated here, over the generated frame kit.
-/
module

public import proofs.«01_k».proof.Proof.Gen.Kernel7Ideal.Frame
public import proofs.«01_k».proof.Proof.Gen.Kernel7Ideal.Skeleton
public import Idealize.ShloMosaic.Lib.Pipeline.ReadBack
public import Idealize.ShloMosaic.Lib.Pipeline.ValueKit
public import Idealize.ShloMosaic.Lib.Pipeline.TableIdle

@[expose] public section

set_option maxRecDepth 16384

noncomputable section

namespace Cert.Proof.FfnBody

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch and the idle points -/

/-- The body's one branch: the first column step. -/
abbrev cond0_0 (i : grid0.Coords) : Prop := k0_cond1 i = 1#1

lemma hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The windows other than the sixth are live everywhere; the sixth exactly at the first column step. -/
lemma live (w : Fin 7) (hw : w ≠ 6) (t : Fin cfg0.N) : cfg0.idle w (grid0.coords t) = false := by
  fin_cases w <;> first | rfl | exact absurd rfl hw
lemma live6_A : ∀ t : Fin cfg0.N, cond0_0 (grid0.coords t) → cfg0.idle 6 (grid0.coords t) = false := by decide +kernel
lemma idle6_B : ∀ t : Fin cfg0.N, ¬cond0_0 (grid0.coords t) → cfg0.idle 6 (grid0.coords t) = true := by decide +kernel

/-- Which positions find an output's buffer without contents of this row block: the multiples of four. -/
def freshTab : ℕ → Bool
  | 0 => true
  | n + 1 => (0x8888888888888888 : ℕ).testBit n
lemma freshTab4_step : ∀ t : Fin cfg0.N,
    freshTab (t.val + 1) = ((cfg0.win 4).flush t || (cfg0.idle 4 (cfg0.grid.coords t) && freshTab t.val)) := by decide +kernel
lemma freshTab6_step : ∀ t : Fin cfg0.N,
    freshTab (t.val + 1) = ((cfg0.win 6).flush t || (cfg0.idle 6 (cfg0.grid.coords t) && freshTab t.val)) := by decide +kernel
lemma fresh4_eq (t : Fin cfg0.N) : cfg0.fresh 4 t.val = freshTab t.val :=
  Pipeline.Cfg.fresh_tab cfg0 4 freshTab rfl freshTab4_step t.val (Nat.le_of_lt t.isLt)
lemma fresh6_eq (t : Fin cfg0.N) : cfg0.fresh 6 t.val = freshTab t.val :=
  Pipeline.Cfg.fresh_tab cfg0 6 freshTab rfl freshTab6_step t.val (Nat.le_of_lt t.isLt)
lemma freshTab_B : ∀ t : Fin cfg0.N, ¬cond0_0 (grid0.coords t) → freshTab t.val = false := by decide +kernel

/-! ## The body's runs -/

abbrev VO0_4 : View sig .tc .vmem S1024x1024 .f32 := (Memref.whole cc0_stg4_0 : Memref sig .tc .vmem S1024x1024 .f32).view
abbrev VO0_5 : View sig .tc .vmem S1024x1024 .bf16 := (Memref.whole cc0_stg5_0 : Memref sig .tc .vmem S1024x1024 .bf16).view
abbrev VO0_6 : View sig .tc .vmem S1024x1024 .bf16 := (Memref.whole cc0_stg6_0 : Memref sig .tc .vmem S1024x1024 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)

/-- What a first column step leaves in the outputs' buffers, from the blocks it reads. -/
def payA (b0 : Vec F S1024x1024 .f32) (b1 : Vec F S1x1024 .f32) (b2 b3 : Vec F S1x1x1024x1024 .bf16) : Vec F S1024x1024 .f32 × Vec F S1024x1024 .bf16 × Vec F S1024x1024 .bf16 :=
  (k0_pay4 (F := F) (k0_pay1 b0 b1) b2 b0 b3, k0_pay3 (F := F) (k0_pay1 b0 b1) b2, k0_pay1 (F := F) b0 b1)

/-- What a later one does, from what it found there. -/
def payB (b2 b3 : Vec F S1x1x1024x1024 .bf16) (p : Vec F S1024x1024 .f32 × Vec F S1024x1024 .bf16 × Vec F S1024x1024 .bf16) : Vec F S1024x1024 .f32 × Vec F S1024x1024 .bf16 × Vec F S1024x1024 .bf16 :=
  (k0_pay4 (F := F) p.2.2 b2 p.1 b3, k0_pay3 (F := F) p.2.2 b2, p.2.2)

section Runs

variable (c : Dev nD) (i : grid0.Coords) (a2 : Memref sig .tc .vmem S1024x1024 .f32) (q2 : a2.IsWhole) (a3 : Memref sig .tc .vmem S1x1024 .f32) (q3 : a3.IsWhole) (a4 : Memref sig .tc .vmem S1x1x1024x1024 .bf16) (q4 : a4.IsWhole) (a5 : Memref sig .tc .vmem S1x1x1024x1024 .bf16) (q5 : a5.IsWhole) (a6 : Memref sig .tc .vmem S1024x1024 .f32) (q6 : a6.IsWhole) (a7 : Memref sig .tc .vmem S1024x1024 .bf16) (q7 : a7.IsWhole) (a8 : Memref sig .tc .vmem S1024x1024 .bf16) (q8 : a8.IsWhole)

/-- The body's text, whatever the labels of the calls beside it. -/
def prog (Λ : Labels) : Prog (TpuEff nD τ sig (Elt F) Λ .tc) PUnit := do
  if k0_h1 : k0_cond1 i = 1#1 then do
    let v21 ← Prog.lift (.load a2 (Rect.unit (s := S1024x1024) ![0, 0] S1024x1024.size inb_S1024x1024_S1024x1024_0_0).toLoadRect (View.loadsAt_vmem h_S1024x1024))
    let v32 ← Prog.lift (.load a3 (Rect.unit (s := S1x1024) ![0, 0] S1x1024.size inb_S1x1024_S1x1024_0_0).toLoadRect (View.loadsAt_vmem h_S1x1024))
    let v37 ← Prog.lift (.load a8 (Rect.unit (s := S1024x1024) ![0, 0] S1024x1024.size inb_S1024x1024_S1024x1024_0_0).toLoadRect (View.loadsAt_vmem h_S1024x1024))
    Prog.lift (.store a8 (Rect.unit (s := S1024x1024) ![0, 0] S1024x1024.size inb_S1024x1024_S1024x1024_0_0) (k0_pay1 v21 v32) Finset.univ (View.stores_vmem h_S1024x1024 (q8.storeExact_slice rfl _ packedbf16_S1024x1024_S1024x1024_0_0) (fun _ => rfl)) (.inl rfl))
    let v38 ← Prog.lift (.load a6 (Rect.unit (s := S1024x1024) ![0, 0] S1024x1024.size inb_S1024x1024_S1024x1024_0_0).toLoadRect (View.loadsAt_vmem h_S1024x1024))
    Prog.lift (.store a6 (Rect.unit (s := S1024x1024) ![0, 0] S1024x1024.size inb_S1024x1024_S1024x1024_0_0) v21 Finset.univ (View.stores_vmem_bits_univ h_S1024x1024 rfl) (.inl rfl))
    pure ⟨⟩
  else do
    pure ⟨⟩
  let v3 ← Prog.lift (.load a8 (Rect.unit (s := S1024x1024) ![0, 0] S1024x1024.size inb_S1024x1024_S1024x1024_0_0).toLoadRect (View.loadsAt_vmem h_S1024x1024))
  let v5 ← Prog.lift (.load a4 (Rect.unit (s := S1x1x1024x1024) ![0, 0, 0, 0] S1x1x1024x1024.size inb_S1x1x1024x1024_S1x1x1024x1024_0_0_0_0).toLoadRect (View.loadsAt_vmem h_S1x1x1024x1024))
  let v9 ← Prog.lift (.load a7 (Rect.unit (s := S1024x1024) ![0, 0] S1024x1024.size inb_S1024x1024_S1024x1024_0_0).toLoadRect (View.loadsAt_vmem h_S1024x1024))
  Prog.lift (.store a7 (Rect.unit (s := S1024x1024) ![0, 0] S1024x1024.size inb_S1024x1024_S1024x1024_0_0) (k0_pay3 v3 v5) Finset.univ (View.stores_vmem h_S1024x1024 (q7.storeExact_slice rfl _ packedbf16_S1024x1024_S1024x1024_0_0) (fun _ => rfl)) (.inl rfl))
  let v12 ← Prog.lift (.load a6 (Rect.unit (s := S1024x1024) ![0, 0] S1024x1024.size inb_S1024x1024_S1024x1024_0_0).toLoadRect (View.loadsAt_vmem h_S1024x1024))
  let v16 ← Prog.lift (.load a5 (Rect.unit (s := S1x1x1024x1024) ![0, 0, 0, 0] S1x1x1024x1024.size inb_S1x1x1024x1024_S1x1x1024x1024_0_0_0_0).toLoadRect (View.loadsAt_vmem h_S1x1x1024x1024))
  let v20 ← Prog.lift (.load a6 (Rect.unit (s := S1024x1024) ![0, 0] S1024x1024.size inb_S1024x1024_S1024x1024_0_0).toLoadRect (View.loadsAt_vmem h_S1024x1024))
  Prog.lift (.store a6 (Rect.unit (s := S1024x1024) ![0, 0] S1024x1024.size inb_S1024x1024_S1024x1024_0_0) (k0_pay4 v3 v5 v12 v16) Finset.univ (View.stores_vmem_bits_univ h_S1024x1024 rfl) (.inl rfl))
  pure ⟨⟩

variable {Λ : Labels} (T : Defs nD τ sig (Elt F) Λ)

section First

variable (hc0 : cond0_0 i) (x0 : Vec F S1024x1024 .f32) (x1 : Vec F S1x1024 .f32) (x2 : Vec F S1x1x1024x1024 .bf16) (x3 : Vec F S1x1x1024x1024 .bf16)

set_option maxHeartbeats 1000000 in
/-- The run at a first column step: the pieces each output ends with, and the triple. -/
noncomputable def kernelRun0_A :
    Σ' (L4 : List (View.Piece (Elt F) S1024x1024 .f32)), Σ' (L5 : List (View.Piece (Elt F) S1024x1024 .bf16)), { L6 : List (View.Piece (Elt F) S1024x1024 .bf16) //
      ∀ (E : Set ℕ) (K : PUnit → sProp 𝕄),
        iprop(owns c.tc a2 fullShare x0 ∗ owns c.tc a3 fullShare x1 ∗ owns c.tc a4 fullShare x2 ∗ owns c.tc a5 fullShare x3 ∗ (∃ d, owns c.tc a6 fullShare d) ∗ (∃ d, owns c.tc a7 fullShare d) ∗ (∃ d, owns c.tc a8 fullShare d)
            ∗ (iprop(owns c.tc a2 fullShare x0 ∗ owns c.tc a3 fullShare x1 ∗ owns c.tc a4 fullShare x2 ∗ owns c.tc a5 fullShare x3 ∗ (∃ f, a6.view.loc c.tc ↦[a6.view.set]{fullShare} a6.view.writes (Elt F) f L4) ∗ (∃ f, a7.view.loc c.tc ↦[a7.view.set]{fullShare} a7.view.writes (Elt F) f L5) ∗ (∃ f, a8.view.loc c.tc ↦[a8.view.set]{fullShare} a8.view.writes (Elt F) f L6)) -∗ K ⟨⟩))
          ⊢ wp frame (wpE T Variants.none c none) E (prog i a2 a3 a4 a5 a6 a7 q7 a8 q8 Λ) K } := by
  refine ⟨?_, ?_, ?_, fun E K => ?run⟩
  case run =>
    unfold prog
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := q2.eq_unread hf0; obtain rfl := q3.eq_unread hf1; obtain rfl := q4.eq_unread hf2; obtain rfl := q5.eq_unread hf3
    sl_exec (disch := sl_exact hc0)
    sl_step
    iapply Hk
    isplitl [H0]
    · iexists _; isplitr; · ipureintro; exact q2.read_unread _
      iexact H0
    isplitl [H1]
    · iexists _; isplitr; · ipureintro; exact q3.read_unread _
      iexact H1
    isplitl [H2]
    · iexists _; isplitr; · ipureintro; exact q4.read_unread _
      iexact H2
    isplitl [H3]
    · iexists _; isplitr; · ipureintro; exact q5.read_unread _
      iexact H3
    isplitl [H4]; · iexists _; iexact H4
    isplitl [H5]; · iexists _; iexact H5
    iexists _; iexact H6

lemma cover0_A_4 (y : S1024x1024.Idx) :
    ∃ pc ∈ (kernelRun0_A c i a2 q2 a3 q3 a4 q4 a5 q5 a6 a7 q7 a8 q8 T hc0 x0 x1 x2 x3).1, y ∈ pc.1.set :=
  View.cover_of_tiledL (kernelRun0_A c i a2 q2 a3 q3 a4 q4 a5 q5 a6 a7 q7 a8 q8 T hc0 x0 x1 x2 x3).1 S1024x1024.size (by sl_kernel_rfl) y

/-- What case A leaves in window 4's staging buffer. -/
def out0_A_4 : Vec F S1024x1024 .f32 :=
  VO0_4.read (Elt F) (VO0_4.writes (Elt F) VO0_4.junk (kernelRun0_A c i a2 q2 a3 q3 a4 q4 a5 q5 a6 a7 q7 a8 q8 T hc0 x0 x1 x2 x3).1)

lemma cover0_A_5 (y : S1024x1024.Idx) :
    ∃ pc ∈ (kernelRun0_A c i a2 q2 a3 q3 a4 q4 a5 q5 a6 a7 q7 a8 q8 T hc0 x0 x1 x2 x3).2.1, y ∈ pc.1.set :=
  View.cover_of_tiledL (kernelRun0_A c i a2 q2 a3 q3 a4 q4 a5 q5 a6 a7 q7 a8 q8 T hc0 x0 x1 x2 x3).2.1 S1024x1024.size (by sl_kernel_rfl) y

/-- What case A leaves in window 5's staging buffer. -/
def out0_A_5 : Vec F S1024x1024 .bf16 :=
  VO0_5.read (Elt F) (VO0_5.writes (Elt F) VO0_5.junk (kernelRun0_A c i a2 q2 a3 q3 a4 q4 a5 q5 a6 a7 q7 a8 q8 T hc0 x0 x1 x2 x3).2.1)

lemma cover0_A_6 (y : S1024x1024.Idx) :
    ∃ pc ∈ (kernelRun0_A c i a2 q2 a3 q3 a4 q4 a5 q5 a6 a7 q7 a8 q8 T hc0 x0 x1 x2 x3).2.2.1, y ∈ pc.1.set :=
  View.cover_of_tiledL (kernelRun0_A c i a2 q2 a3 q3 a4 q4 a5 q5 a6 a7 q7 a8 q8 T hc0 x0 x1 x2 x3).2.2.1 S1024x1024.size (by sl_kernel_rfl) y

/-- What case A leaves in window 6's staging buffer. -/
def out0_A_6 : Vec F S1024x1024 .bf16 :=
  VO0_6.read (Elt F) (VO0_6.writes (Elt F) VO0_6.junk (kernelRun0_A c i a2 q2 a3 q3 a4 q4 a5 q5 a6 a7 q7 a8 q8 T hc0 x0 x1 x2 x3).2.2.1)

lemma out_A : (out0_A_4 c i a2 q2 a3 q3 a4 q4 a5 q5 a6 a7 q7 a8 q8 T hc0 x0 x1 x2 x3, out0_A_5 c i a2 q2 a3 q3 a4 q4 a5 q5 a6 a7 q7 a8 q8 T hc0 x0 x1 x2 x3, out0_A_6 c i a2 q2 a3 q3 a4 q4 a5 q5 a6 a7 q7 a8 q8 T hc0 x0 x1 x2 x3) = payA x0 x1 x2 x3 := by
  unfold payA
  frame_out

include q2 q3 q4 q5 hc0 in
/-- The same with the outputs' contents named, and whatever else there is kept. -/
lemma core_A {D0 D1 D2 D3 D4 D5 D6 : Type} (R Q : sProp 𝕄) (f4 : D4 → Vec F S1024x1024 .f32) (f5 : D5 → Vec F S1024x1024 .bf16) (f6 : D6 → Vec F S1024x1024 .bf16) :
    iprop(R ∗ Q ∗ (∃ _ : D0, owns c.tc a2 fullShare x0) ∗ (∃ _ : D1, owns c.tc a3 fullShare x1) ∗ (∃ _ : D2, owns c.tc a4 fullShare x2) ∗ (∃ _ : D3, owns c.tc a5 fullShare x3) ∗ (∃ d, owns c.tc a6 fullShare (f4 d)) ∗ (∃ d, owns c.tc a7 fullShare (f5 d)) ∗ (∃ d, owns c.tc a8 fullShare (f6 d)))
      ⊢ wp frame (wpE T Variants.none c none) Set.univ (prog i a2 a3 a4 a5 a6 a7 q7 a8 q8 Λ) (fun _ => iprop(R ∗ Q ∗ owns c.tc a2 fullShare x0 ∗ owns c.tc a3 fullShare x1 ∗ owns c.tc a4 fullShare x2 ∗ owns c.tc a5 fullShare x3
        ∗ owns c.tc a6 fullShare (payA x0 x1 x2 x3).1 ∗ owns c.tc a7 fullShare (payA x0 x1 x2 x3).2.1 ∗ owns c.tc a8 fullShare (payA x0 x1 x2 x3).2.2)) := by
  rw [← out_A c i a2 q2 a3 q3 a4 q4 a5 q5 a6 a7 q7 a8 q8 T hc0 x0 x1 x2 x3]
  unfold out0_A_4 out0_A_5 out0_A_6; dsimp only
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c i a2 q2 a3 q3 a4 q4 a5 q5 a6 a7 q7 a8 q8 T hc0 x0 x1 x2 x3).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _)

end First

section Later

variable (hc0 : ¬cond0_0 i) (x0 : Vec F S1024x1024 .f32) (x1 : Vec F S1x1024 .f32) (x2 : Vec F S1x1x1024x1024 .bf16) (x3 : Vec F S1x1x1024x1024 .bf16) (xo4 : Vec F S1024x1024 .f32) (xo6 : Vec F S1024x1024 .bf16)

set_option maxHeartbeats 1000000 in
/-- The run at a later column step: the second output read on from its running contents, the third left as it was. -/
noncomputable def kernelRun0_B :
    Σ' (L4 : List (View.Piece (Elt F) S1024x1024 .f32)), { L5 : List (View.Piece (Elt F) S1024x1024 .bf16) //
      ∀ (E : Set ℕ) (K : PUnit → sProp 𝕄),
        iprop(owns c.tc a2 fullShare x0 ∗ owns c.tc a3 fullShare x1 ∗ owns c.tc a4 fullShare x2 ∗ owns c.tc a5 fullShare x3 ∗ owns c.tc a6 fullShare xo4 ∗ (∃ d, owns c.tc a7 fullShare d) ∗ owns c.tc a8 fullShare xo6
            ∗ (iprop(owns c.tc a2 fullShare x0 ∗ owns c.tc a3 fullShare x1 ∗ owns c.tc a4 fullShare x2 ∗ owns c.tc a5 fullShare x3 ∗ (∃ f, a6.view.loc c.tc ↦[a6.view.set]{fullShare} a6.view.writes (Elt F) f L4) ∗ (∃ f, a7.view.loc c.tc ↦[a7.view.set]{fullShare} a7.view.writes (Elt F) f L5) ∗ owns c.tc a8 fullShare xo6) -∗ K ⟨⟩))
          ⊢ wp frame (wpE T Variants.none c none) E (prog i a2 a3 a4 a5 a6 a7 q7 a8 q8 Λ) K } := by
  refine ⟨?_, ?_, fun E K => ?run⟩
  case run =>
    unfold prog
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := q2.eq_unread hf0; obtain rfl := q3.eq_unread hf1; obtain rfl := q4.eq_unread hf2; obtain rfl := q5.eq_unread hf3; obtain rfl := q6.eq_unread hf4; obtain rfl := q8.eq_unread hf6
    sl_exec (disch := sl_exact hc0)
    sl_step
    iapply Hk
    isplitl [H0]
    · iexists _; isplitr; · ipureintro; exact q2.read_unread _
      iexact H0
    isplitl [H1]
    · iexists _; isplitr; · ipureintro; exact q3.read_unread _
      iexact H1
    isplitl [H2]
    · iexists _; isplitr; · ipureintro; exact q4.read_unread _
      iexact H2
    isplitl [H3]
    · iexists _; isplitr; · ipureintro; exact q5.read_unread _
      iexact H3
    isplitl [H4]; · iexists _; iexact H4
    isplitl [H5]; · iexists _; iexact H5
    iexists _; isplitr; · ipureintro; exact q8.read_unread _
    iexact H6

lemma cover0_B_4 (y : S1024x1024.Idx) :
    ∃ pc ∈ (kernelRun0_B c i a2 q2 a3 q3 a4 q4 a5 q5 a6 q6 a7 q7 a8 q8 T hc0 x0 x1 x2 x3 xo4 xo6).1, y ∈ pc.1.set :=
  View.cover_of_tiledL (kernelRun0_B c i a2 q2 a3 q3 a4 q4 a5 q5 a6 q6 a7 q7 a8 q8 T hc0 x0 x1 x2 x3 xo4 xo6).1 S1024x1024.size (by sl_kernel_rfl) y

/-- What case B leaves in window 4's staging buffer. -/
def out0_B_4 : Vec F S1024x1024 .f32 :=
  VO0_4.read (Elt F) (VO0_4.writes (Elt F) VO0_4.junk (kernelRun0_B c i a2 q2 a3 q3 a4 q4 a5 q5 a6 q6 a7 q7 a8 q8 T hc0 x0 x1 x2 x3 xo4 xo6).1)

lemma cover0_B_5 (y : S1024x1024.Idx) :
    ∃ pc ∈ (kernelRun0_B c i a2 q2 a3 q3 a4 q4 a5 q5 a6 q6 a7 q7 a8 q8 T hc0 x0 x1 x2 x3 xo4 xo6).2.1, y ∈ pc.1.set :=
  View.cover_of_tiledL (kernelRun0_B c i a2 q2 a3 q3 a4 q4 a5 q5 a6 q6 a7 q7 a8 q8 T hc0 x0 x1 x2 x3 xo4 xo6).2.1 S1024x1024.size (by sl_kernel_rfl) y

/-- What case B leaves in window 5's staging buffer. -/
def out0_B_5 : Vec F S1024x1024 .bf16 :=
  VO0_5.read (Elt F) (VO0_5.writes (Elt F) VO0_5.junk (kernelRun0_B c i a2 q2 a3 q3 a4 q4 a5 q5 a6 q6 a7 q7 a8 q8 T hc0 x0 x1 x2 x3 xo4 xo6).2.1)

lemma out_B (z : Vec F S1024x1024 .bf16) : (out0_B_4 c i a2 q2 a3 q3 a4 q4 a5 q5 a6 q6 a7 q7 a8 q8 T hc0 x0 x1 x2 x3 xo4 xo6, out0_B_5 c i a2 q2 a3 q3 a4 q4 a5 q5 a6 q6 a7 q7 a8 q8 T hc0 x0 x1 x2 x3 xo4 xo6, xo6) = payB x2 x3 (xo4, z, xo6) := by
  unfold payB
  frame_out

include q2 q3 q4 q5 q6 hc0 in
lemma core_B {D0 D1 D2 D3 D4 D5 D6 : Type} (R Q S : sProp 𝕄) (f5 : D5 → Vec F S1024x1024 .bf16) (z : Vec F S1024x1024 .bf16)
    (hS : owns c.tc a8 fullShare xo6 ⊢ S) :
    iprop(R ∗ Q ∗ (∃ _ : D0, owns c.tc a2 fullShare x0) ∗ (∃ _ : D1, owns c.tc a3 fullShare x1) ∗ (∃ _ : D2, owns c.tc a4 fullShare x2) ∗ (∃ _ : D3, owns c.tc a5 fullShare x3) ∗ (∃ _ : D4, owns c.tc a6 fullShare xo4) ∗ (∃ d, owns c.tc a7 fullShare (f5 d)) ∗ (∃ _ : D6, owns c.tc a8 fullShare xo6))
      ⊢ wp frame (wpE T Variants.none c none) Set.univ (prog i a2 a3 a4 a5 a6 a7 q7 a8 q8 Λ) (fun _ => iprop(R ∗ Q ∗ owns c.tc a2 fullShare x0 ∗ owns c.tc a3 fullShare x1 ∗ owns c.tc a4 fullShare x2 ∗ owns c.tc a5 fullShare x3
        ∗ owns c.tc a6 fullShare (payB x2 x3 (xo4, z, xo6)).1 ∗ owns c.tc a7 fullShare (payB x2 x3 (xo4, z, xo6)).2.1 ∗ S)) := by
  rw [← out_B c i a2 q2 a3 q3 a4 q4 a5 q5 a6 q6 a7 q7 a8 q8 T hc0 x0 x1 x2 x3 xo4 xo6 z]
  unfold out0_B_4 out0_B_5; dsimp only
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_B c i a2 q2 a3 q3 a4 q4 a5 q5 a6 q6 a7 q7 a8 q8 T hc0 x0 x1 x2 x3 xo4 xo6).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, ⟨%e4, H4⟩, ⟨%e5, H5⟩, H6⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_B_4 c _ _ _ _ _ _ _ _ _ _ _ _ _ _ _ _ _ _ _ _ _ _ _)
  isplitl [H5]
  · unfold owns; iexists _; isplitr
    swap; · iexact H5
    ipureintro; exact View.read_writes_of_cover _ _ _ _ _ (cover0_B_5 c _ _ _ _ _ _ _ _ _ _ _ _ _ _ _ _ _ _ _ _ _ _ _)
  iapply hS; iexact H6

end Later

end Runs

/-! ## The contents, point by point -/

/-- The three outputs' staging buffers after each position, from the blocks read: the first accumulates, the third is carried. -/
def trace (b0 : Fin cfg0.N → Vec F S1024x1024 .f32) (b1 : Fin cfg0.N → Vec F S1x1024 .f32) (b2 b3 : Fin cfg0.N → Vec F S1x1x1024x1024 .bf16) :
    (n : ℕ) → n < cfg0.N → Vec F S1024x1024 .f32 × Vec F S1024x1024 .bf16 × Vec F S1024x1024 .bf16
  | 0, hn => payA (b0 ⟨0, hn⟩) (b1 ⟨0, hn⟩) (b2 ⟨0, hn⟩) (b3 ⟨0, hn⟩)
  | n + 1, hn =>
    if (n + 1) % 4 = 0 then payA (b0 ⟨n + 1, hn⟩) (b1 ⟨n + 1, hn⟩) (b2 ⟨n + 1, hn⟩) (b3 ⟨n + 1, hn⟩)
    else payB (b2 ⟨n + 1, hn⟩) (b3 ⟨n + 1, hn⟩) (trace b0 b1 b2 b3 n (Nat.lt_of_succ_lt hn))

lemma trace_A (b0 b1 b2 b3) (t : Fin cfg0.N) (h0 : t.val % 4 = 0) : trace (F := F) b0 b1 b2 b3 t.val t.isLt = payA (b0 t) (b1 t) (b2 t) (b3 t) := by
  obtain ⟨n, hn⟩ := t
  cases n with
  | zero => exact rfl
  | succ n => exact (if_pos h0).trans rfl

lemma trace_B (b0 b1 b2 b3) (t : Fin cfg0.N) (h0 : ¬t.val % 4 = 0) :
    trace (F := F) b0 b1 b2 b3 t.val t.isLt = payB (b2 t) (b3 t) (trace b0 b1 b2 b3 (t.val - 1) (Nat.sub_lt_of_lt t.isLt)) := by
  obtain ⟨n, hn⟩ := t
  cases n with
  | zero => exact absurd (Nat.zero_mod _) h0
  | succ n => exact (if_neg h0).trans rfl

def outsAt0 (c : Dev nD) := trace (F := F) (iblk m c 0) (iblk m c 1) (iblk m c 2) (iblk m c 3)

lemma outsAt0_A (c : Dev nD) (t : Fin cfg0.N) (h0 : t.val % 4 = 0) :
    outsAt0 m c t.val t.isLt = payA (iblk m c 0 t) (iblk m c 1 t) (iblk m c 2 t) (iblk m c 3 t) := trace_A _ _ _ _ t h0

lemma outsAt0_B (c : Dev nD) (t : Fin cfg0.N) (h0 : ¬t.val % 4 = 0) :
    outsAt0 m c t.val t.isLt = payB (iblk m c 2 t) (iblk m c 3 t) (outsAt0 m c (t.val - 1) (Nat.sub_lt_of_lt t.isLt)) := trace_B _ _ _ _ t h0

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q _ := fullShare
  owed _ := 0

lemma A_eq (c : Dev nD) (w : Fin cfg0.W) : (dats m 0 c).A w = V m c (Pipeline.arrRef spec0 w) := by
  dsimp only [dats]

lemma after0_0 (c : Dev nD) (t : Fin cfg0.N) : (dats m 0 c).after 0 t = iblk m c 0 t := by dsimp only [dats]
lemma after0_1 (c : Dev nD) (t : Fin cfg0.N) : (dats m 0 c).after 1 t = iblk m c 1 t := by dsimp only [dats]
lemma after0_2 (c : Dev nD) (t : Fin cfg0.N) : (dats m 0 c).after 2 t = iblk m c 2 t := by dsimp only [dats]
lemma after0_3 (c : Dev nD) (t : Fin cfg0.N) : (dats m 0 c).after 3 t = iblk m c 3 t := by dsimp only [dats]
lemma after0_4 (c : Dev nD) (t : Fin cfg0.N) : (dats m 0 c).after 4 t = (outsAt0 m c t.val t.isLt).1 := by dsimp only [dats]
lemma after0_5 (c : Dev nD) (t : Fin cfg0.N) : (dats m 0 c).after 5 t = (outsAt0 m c t.val t.isLt).2.1 := by dsimp only [dats]
lemma after0_6 (c : Dev nD) (t : Fin cfg0.N) : (dats m 0 c).after 6 t = (outsAt0 m c t.val t.isLt).2.2 := by dsimp only [dats]
lemma before0_0 (c : Dev nD) (t : Fin cfg0.N) (d) : (dats m 0 c).before 0 t d = iblk m c 0 t :=
  before0_0_of m (dats m 0 c) (A_eq m c 0) (after0_0 m c) t d
lemma before0_1 (c : Dev nD) (t : Fin cfg0.N) (d) : (dats m 0 c).before 1 t d = iblk m c 1 t :=
  before0_1_of m (dats m 0 c) (A_eq m c 1) (after0_1 m c) t d
lemma before0_2 (c : Dev nD) (t : Fin cfg0.N) (d) : (dats m 0 c).before 2 t d = iblk m c 2 t :=
  before0_2_of m (dats m 0 c) (A_eq m c 2) (after0_2 m c) t d
lemma before0_3 (c : Dev nD) (t : Fin cfg0.N) (d) : (dats m 0 c).before 3 t d = iblk m c 3 t :=
  before0_3_of m (dats m 0 c) (A_eq m c 3) (after0_3 m c) t d

lemma hcarry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := fun t _ hi _ => by
  rw [live 4 (by decide) t] at hi; exact absurd hi Bool.false_ne_true

/-- The third output carries through the later column steps. -/
lemma hcarry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [after0_6, after0_6]
  by_cases h0 : t.val % 4 = 0
  · rw [live6_A t ((hcond0_0 t).mpr h0)] at hi; exact absurd hi Bool.false_ne_true
  · rw [outsAt0_B m c t h0]; rfl

lemma before0_4_B (c : Dev nD) (t : Fin cfg0.N) (h0 : ¬t.val % 4 = 0) (d) :
    (dats m 0 c).before 4 t d = (outsAt0 m c (t.val - 1) (Nat.sub_lt_of_lt t.isLt)).1 := by
  rw [Dat.before_out_traj _ 4 rfl (fun _ _ => rfl) (hcarry4 m c) t.val t rfl d,
    if_neg (by rw [fresh4_eq, freshTab_B t (fun h => h0 ((hcond0_0 t).mp h))]; exact Bool.false_ne_true)]
  dsimp only [dats]
lemma before0_6_B (c : Dev nD) (t : Fin cfg0.N) (h0 : ¬t.val % 4 = 0) (d) :
    (dats m 0 c).before 6 t d = (outsAt0 m c (t.val - 1) (Nat.sub_lt_of_lt t.isLt)).2.2 := by
  rw [Dat.before_out_traj _ 6 rfl (fun _ _ => rfl) (hcarry6 m c) t.val t rfl d,
    if_neg (by rw [fresh6_eq, freshTab_B t (fun h => h0 ((hcond0_0 t).mp h))]; exact Bool.false_ne_true)]
  dsimp only [dats]

/-! ## The obligation -/

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

lemma leaves_live (c : Dev nD) (w : Fin 7) (t : Fin cfg0.N) (h : cfg0.idle w (grid0.coords t) = false) :
    (dats m 0 c).leavesExact w t = owns c.tc ((cfg0.win w).stage (cfg0.slots t w)) fullShare ((dats m 0 c).after w t) := by
  unfold Dat.leavesExact; rw [h]

/-- Where the body leaves the third output as it was, its contents do: at a write-back or not. -/
lemma leaves6_B (c : Dev nD) (t : Fin cfg0.N) (h0 : ¬t.val % 4 = 0) :
    owns c.tc (ms0_6 t) fullShare (outsAt0 m c (t.val - 1) (Nat.sub_lt_of_lt t.isLt)).2.2 ⊢ (dats m 0 c).leavesExact 6 t := by
  unfold Dat.leavesExact
  rw [idle6_B t (fun h => h0 ((hcond0_0 t).mp h))]
  cases hf : (cfg0.win 6).flush t
  · dsimp only
    simp only [before0_6_B m c t h0]
    iintro H; iexists (outsAt0 m c (t.val - 1) (Nat.sub_lt_of_lt t.isLt)).2.2; iexact H
  · dsimp only
    rw [after0_6, outsAt0_B m c t h0]; exact .rfl

set_option maxHeartbeats 800000 in
/-- The body at any point. -/
lemma sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [cc0_ffn_eq_skeleton]
  simp only [before0_0, before0_1, before0_2, before0_3]
  rw [show (dats m 0 c).Φ t.succ = (dats m 0 c).Φ t.castSucc from rfl,
    show (dats m 0 c).owesAt () t.succ = (dats m 0 c).owesAt () t.castSucc from rfl]
  rw [leaves_live m c 0 t (live 0 (by decide) t), after0_0]
  rw [leaves_live m c 1 t (live 1 (by decide) t), after0_1]
  rw [leaves_live m c 2 t (live 2 (by decide) t), after0_2]
  rw [leaves_live m c 3 t (live 3 (by decide) t), after0_3]
  rw [leaves_live m c 4 t (live 4 (by decide) t), after0_4]
  rw [leaves_live m c 5 t (live 5 (by decide) t), after0_5]
  by_cases h0 : t.val % 4 = 0
  · rw [leaves_live m c 6 t (live6_A t ((hcond0_0 t).mpr h0)), after0_6]
    rw [outsAt0_A m c t h0]
    exact core_A c (grid0.coords t) _ (hs0_0 t) _ (hs0_1 t) _ (hs0_2 t) _ (hs0_3 t) _ _ (hs0_5 t) _ (hs0_6 t) _ ((hcond0_0 t).mpr h0) _ _ _ _ _ _ _ _ _
  · rw [outsAt0_B m c t h0]
    simp only [before0_4_B m c t h0, before0_6_B m c t h0]
    exact core_B c (grid0.coords t) _ (hs0_0 t) _ (hs0_1 t) _ (hs0_2 t) _ (hs0_3 t) _ (hs0_4 t) _ (hs0_5 t) _ (hs0_6 t) _ (fun h => h0 ((hcond0_0 t).mp h)) _ _ _ _ _ _ _ _ _ _ _ (leaves6_B m c t h0)

lemma defs₀_row (t : Fin cfg0.N) :
    defs₀ (F := F) .tc cfg0.body (cfg0.bodyArgs t (cfg0.slots t)) = bodyAt0 t := by
  unfold defs₀; rw [Defs.onTc_tc]

lemma body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the proof data say, and every counter at zero. -/
lemma run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

lemma run_main : θ_run defs (onTc (τ := τ) (main (F := F))) (s₀ m ρ) (Pipeline.FramePost cfgs (dats m) 0 (V m)) :=
  (θ_run defs _ _).mono (fun _ h => h.1) (run_main_quiescent m ρ)

lemma unchanged : θ_run defs (onTc (τ := τ) (main (F := F))) ⟨m, fun _ => 0, ρ⟩ (fun r => ∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  frame_of m ρ (dats m) (A_eq m) (run_main m ρ)

/-- The frame claim. -/
lemma frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  θ_run_and (unchanged m ρ) ((θ_run defs _ _).mono (fun _ h => h.2) (run_main_quiescent m ρ))

end Cert.Proof.FfnBody

end
-- ==== Proof.FfnFwd.lean ====
module

public import proofs.«01_k».proof.Proof.Rms
public import proofs.«01_k».proof.Proof.FfnBody
public import proofs.«01_k».proof.Proof.Gen.Reference7Ideal.Read
public import proofs.«01_k».proof.Defs

@[expose] public section

set_option maxRecDepth 16384

noncomputable section

/-! The feed-forward block: the norm, the first projection, the squared positive part and the second projection, which is accumulated
    over four column steps starting from the row itself. -/

namespace Cert.Proof.FfnFwd

open Cert.Kernel7Ideal Cert.Kernel7Ideal.Gen Cert.Proof.FfnBody Idealize.ShloMosaic Idealize.ShloMosaic.TcCoe Idealize.SL.Sem
  Idealize.ShloMosaic.Tactic

/-- An entry of a normed row. -/
def normed (x g : Nat → EReal) (k : Nat) : EReal := x k * Rms.inv x * g k

lemma normed_congr {x x' g g' : Nat → EReal} {k : Nat} (hx : ∀ k, k < 1024 → x k = x' k) (hg : ∀ k, k < 1024 → g k = g' k) (hk : k < 1024) :
    normed x g k = normed x' g' k := by
  unfold normed
  rw [Rms.inv_congr hx, hx k hk, hg k hk]

/-! ## The body at an index -/

lemma pay1_apply (v : Vec Ideal S1024x1024 .f32) (g : Vec Ideal S1x1024 .f32) (x : S1024x1024.Idx) :
    k0_pay1 v g x = normed (at2 v (x 0).val) (at2 g 0) (x 1).val := by
  unfold normed Rms.inv Rms.var Rms.mean
  rw [← sum_fin (fun k : Fin 1024 => v (ix2 ⟨(x 0).val, (x 0).isLt⟩ k) * v (ix2 ⟨(x 0).val, (x 0).isLt⟩ k)) _
    (fun k => congrArg₂ (· * ·) (at2_of_lt v (x 0).isLt k.isLt).symm (at2_of_lt v (x 0).isLt k.isLt).symm),
    at2_of_lt v (x 0).isLt (x 1).isLt, at2_of_lt g Nat.one_pos (x 1).isLt]
  unfold_payloads
  idx_vars x
  pointwise

lemma pay2_apply (h : Vec Ideal S1024x1024 .bf16) (w : Vec Ideal S1x1x1024x1024 .bf16) (x : S1024x1024.Idx) :
    k0_pay2 h w x = ∑ k ∈ Finset.range 1024, at2 h (x 0).val k * at4 w 0 0 k (x 1).val := by
  rw [← sum_fin (fun k : Fin 1024 => h (ix2 ⟨(x 0).val, (x 0).isLt⟩ k) * w (ix4 0 0 k ⟨(x 1).val, (x 1).isLt⟩)) _
    (fun k => congrArg₂ (· * ·) (at2_of_lt h (x 0).isLt k.isLt).symm (at4_of_lt w Nat.one_pos Nat.one_pos k.isLt (x 1).isLt).symm)]
  unfold_payloads
  idx_vars x
  pointwise

lemma pay3_apply (h : Vec Ideal S1024x1024 .bf16) (w : Vec Ideal S1x1x1024x1024 .bf16) (x : S1024x1024.Idx) :
    k0_pay3 h w x = k0_pay2 h w x := by
  unfold k0_pay3
  generalize k0_pay2 h w = z
  pointwise

lemma pay4_apply (h : Vec Ideal S1024x1024 .bf16) (w : Vec Ideal S1x1x1024x1024 .bf16) (y : Vec Ideal S1024x1024 .f32)
    (d : Vec Ideal S1x1x1024x1024 .bf16) (x : S1024x1024.Idx) :
    k0_pay4 h w y d x = y x + ∑ k ∈ Finset.range 1024, relu2 (at2 (k0_pay2 h w) (x 0).val k) * at4 d 0 0 k (x 1).val := by
  unfold k0_pay4 relu2
  generalize k0_pay2 h w = z
  rw [← sum_fin (fun k : Fin 1024 => (max (z (ix2 ⟨(x 0).val, (x 0).isLt⟩ k)) 0 * max (z (ix2 ⟨(x 0).val, (x 0).isLt⟩ k)) 0)
      * d (ix4 0 0 k ⟨(x 1).val, (x 1).isLt⟩)) _
    (fun k => congrArg₂ (· * ·) (by rw [at2_of_lt z (x 0).isLt k.isLt]) (at4_of_lt d Nat.one_pos Nat.one_pos k.isLt (x 1).isLt).symm)]
  idx_vars x
  pointwise

/-! ## The blocks a point reads -/

variable (m : (ℓ : Loc nD τ sig) → Buf (Elt Ideal) ℓ) (c : Dev nD)

lemma e0 : ∀ t : Fin grid0.N, win0_0.index t = ![t.val / 4, 0] := by decide +kernel
lemma e1 : ∀ t : Fin grid0.N, win0_1.index t = ![0, 0] := by decide +kernel
lemma e2 : ∀ t : Fin grid0.N, win0_2.index t = ![t.val % 4, 1, 0, 0] := by decide +kernel
lemma e3 : ∀ t : Fin grid0.N, win0_3.index t = ![t.val % 4, 1, 0, 0] := by decide +kernel
lemma e4 : ∀ t : Fin grid0.N, win0_4.index t = ![t.val / 4, 0] := by decide +kernel
lemma e5 : ∀ t : Fin grid0.N, win0_5.index t = ![t.val / 4, t.val % 4] := by decide +kernel
lemma e6 : ∀ t : Fin grid0.N, win0_6.index t = ![t.val / 4, 0] := by decide +kernel
lemma flush4 : ∀ t : Fin grid0.N, win0_4.flush t = true → t.val % 4 = 3 := by decide +kernel

lemma blk0 (t : Fin cfg0.N) (r l : Nat) (hr : r < 1024) (hl : l < 1024) :
    at2 (iblk m c 0 t) r l = at2 (m (c.tc.loc main_arg0)) (1024 * (t.val / 4) + r) l := by
  have ht : t.val < 64 := t.isLt
  rw [at2_of_lt _ hr hl, at2_of_lt _ (by omega) hl]
  blk_simp [iblk]
  rw [V_main_arg0]
  congr 1
  blk_ext [e0]

lemma blk1 (t : Fin cfg0.N) (l : Nat) (hl : l < 1024) : at2 (iblk m c 1 t) 0 l = at2 (m (c.tc.loc main_arg1)) 1 l := by
  rw [at2_of_lt _ Nat.one_pos hl, at2_of_lt _ (by omega) hl]
  blk_simp [iblk]
  entry_read
  rw [show ((View.whole main_v2).slice (win0_1.rect t)).emb (ix2 0 ⟨l, hl⟩) = ix2 0 ⟨l, hl⟩ from by blk_ext [e1]]
  pointwise

lemma blk2 (t : Fin cfg0.N) (r l : Nat) (hr : r < 1024) (hl : l < 1024) :
    at4 (iblk m c 2 t) 0 0 r l = at4 (m (c.tc.loc main_arg2)) (t.val % 4) 1 r l := by
  have ht : t.val < 64 := t.isLt
  rw [at4_of_lt _ Nat.one_pos Nat.one_pos hr hl, at4_of_lt _ (by omega) Nat.one_lt_two hr hl]
  blk_simp [iblk]
  rw [V_main_arg2]
  congr 1
  blk_ext [e2]

lemma blk3 (t : Fin cfg0.N) (r l : Nat) (hr : r < 1024) (hl : l < 1024) :
    at4 (iblk m c 3 t) 0 0 r l = at4 (m (c.tc.loc main_arg3)) (t.val % 4) 1 r l := by
  have ht : t.val < 64 := t.isLt
  rw [at4_of_lt _ Nat.one_pos Nat.one_pos hr hl, at4_of_lt _ (by omega) Nat.one_lt_two hr hl]
  blk_simp [iblk]
  rw [V_main_arg3]
  congr 1
  blk_ext [e3]

/-! ## The arrays -/

/-- An entry of the normed rows of layer `L`. -/
def hAt (L : Nat) (x : Ar2 16384 1024) (g : Ar2 2 1024) (r k : Nat) : EReal := normed (at2 x r) (at2 g L) k

/-- An entry before the activation. -/
def pAt (L : Nat) (x : Ar2 16384 1024) (g : Ar2 2 1024) (u : Ar4 4 2 1024 1024) (r f : Nat) : EReal :=
  ∑ k ∈ Finset.range 1024, hAt L x g r k * at4 u (f / 1024) L k (f % 1024)

/-- An entry of the row after the block. -/
def yAt (L : Nat) (x : Ar2 16384 1024) (g : Ar2 2 1024) (u d : Ar4 4 2 1024 1024) (r k : Nat) : EReal :=
  at2 x r k + ∑ f ∈ Finset.range 4096, relu2 (pAt L x g u r f) * at4 d (f / 1024) L (f % 1024) k

def hOf (L : Nat) (x : Ar2 16384 1024) (g : Ar2 2 1024) : Ar2 16384 1024 := fun i => hAt L x g (i 0).val (i 1).val
def pOf (L : Nat) (x : Ar2 16384 1024) (g : Ar2 2 1024) (u : Ar4 4 2 1024 1024) : Ar2 16384 4096 := fun i => pAt L x g u (i 0).val (i 1).val
def yOf (L : Nat) (x : Ar2 16384 1024) (g : Ar2 2 1024) (u d : Ar4 4 2 1024 1024) : Ar2 16384 1024 := fun i => yAt L x g u d (i 0).val (i 1).val

lemma hOf_congr {L x x' g g'} (hx : x = x') (hg : g = g') : hOf L x g = hOf L x' g' := by subst hx hg; rfl
lemma pOf_congr {L x x' g g' u u'} (hx : x = x') (hg : g = g') (hu : u = u') : pOf L x g u = pOf L x' g' u' := by subst hx hg hu; rfl
lemma yOf_congr {L x x' g g' u u' d d'} (hx : x = x') (hg : g = g') (hu : u = u') (hd : d = d') : yOf L x g u d = yOf L x' g' u' d' := by
  subst hx hg hu hd; rfl

/-- The blocks that the points read are those of the arrays, at layer `L`. -/
structure Blocks (b0 : Fin cfg0.N → Vec Ideal S1024x1024 .f32) (b1 : Fin cfg0.N → Vec Ideal S1x1024 .f32)
    (b2 b3 : Fin cfg0.N → Vec Ideal S1x1x1024x1024 .bf16) (L : Nat) (x : Ar2 16384 1024) (g : Ar2 2 1024) (u d : Ar4 4 2 1024 1024) : Prop where
  p0 : ∀ t r l, r < 1024 → l < 1024 → at2 (b0 t) r l = at2 x (1024 * (t.val / 4) + r) l
  p1 : ∀ t l, l < 1024 → at2 (b1 t) 0 l = at2 g L l
  p2 : ∀ t r l, r < 1024 → l < 1024 → at4 (b2 t) 0 0 r l = at4 u (t.val % 4) L r l
  p3 : ∀ t r l, r < 1024 → l < 1024 → at4 (b3 t) 0 0 r l = at4 d (t.val % 4) L r l

section Points

variable {b0 : Fin cfg0.N → Vec Ideal S1024x1024 .f32} {b1 : Fin cfg0.N → Vec Ideal S1x1024 .f32}
  {b2 b3 : Fin cfg0.N → Vec Ideal S1x1x1024x1024 .bf16} {L : Nat} {X : Ar2 16384 1024} {G : Ar2 2 1024} {U D : Ar4 4 2 1024 1024}
  (H : Blocks b0 b1 b2 b3 L X G U D)

include H

/-- The third output holds the normed rows of the row block at each of its points. -/
lemma h_blk : ∀ (n : Nat) (hn : n < cfg0.N) (y : S1024x1024.Idx), (trace b0 b1 b2 b3 n hn).2.2 y
    = hAt L X G (1024 * (n / 4) + (y 0).val) (y 1).val := by
  have first (t : Fin cfg0.N) (h : t.val % 4 = 0) (y : S1024x1024.Idx) : (trace b0 b1 b2 b3 t.val t.isLt).2.2 y
      = hAt L X G (1024 * (t.val / 4) + (y 0).val) (y 1).val := by
    rw [trace_A b0 b1 b2 b3 t h]
    exact (pay1_apply _ _ y).trans (normed_congr (fun k hk => H.p0 t _ k (y 0).isLt hk) (fun k hk => H.p1 t k hk) (y 1).isLt)
  intro n
  induction n with
  | zero => exact fun hn y => first ⟨0, hn⟩ rfl y
  | succ n ih =>
    intro hn y
    by_cases h : (n + 1) % 4 = 0
    · exact first ⟨n + 1, hn⟩ h y
    · rw [trace_B b0 b1 b2 b3 ⟨n + 1, hn⟩ h]
      refine (ih (Nat.lt_of_succ_lt hn) y).trans ?_
      rw [show (n + 1) / 4 = n / 4 by omega]

/-- Whatever the point: the product before the activation, from the normed rows its third output holds. -/
lemma p_blk (t : Fin cfg0.N) (r l : Nat) (hr : r < 1024) (hl : l < 1024) :
    at2 (k0_pay2 (F := Ideal) (trace b0 b1 b2 b3 t.val t.isLt).2.2 (b2 t)) r l
      = pAt L X G U (1024 * (t.val / 4) + r) (1024 * (t.val % 4) + l) := by
  rw [at2_of_lt _ hr hl, pay2_apply]
  unfold pAt
  rw [show (1024 * (t.val % 4) + l) / 1024 = t.val % 4 by omega, show (1024 * (t.val % 4) + l) % 1024 = l by omega]
  refine Finset.sum_congr rfl fun k hk => ?_
  have hk := Finset.mem_range.mp hk
  refine mulc ((at2_of_lt _ hr hk).trans (h_blk H t.val t.isLt (ix2 ⟨r, hr⟩ ⟨k, hk⟩))) ?_
  exact H.p2 t k l hk hl

/-- Each point's second output. -/
lemma out5 (t : Fin cfg0.N) (y : S1024x1024.Idx) : (trace b0 b1 b2 b3 t.val t.isLt).2.1 y
    = pAt L X G U (1024 * (t.val / 4) + (y 0).val) (1024 * (t.val % 4) + (y 1).val) := by
  have e : (trace b0 b1 b2 b3 t.val t.isLt).2.1 = k0_pay3 (F := Ideal) (trace b0 b1 b2 b3 t.val t.isLt).2.2 (b2 t) := by
    by_cases h : t.val % 4 = 0
    · rw [trace_A b0 b1 b2 b3 t h]; rfl
    · rw [trace_B b0 b1 b2 b3 t h]; rfl
  rw [e, pay3_apply]
  exact (at2_eq _ y rfl rfl).trans (p_blk H t _ _ (y 0).isLt (y 1).isLt)

omit H in
/-- What point `n` adds to the row block. -/
def M4 (L : Nat) (X : Ar2 16384 1024) (G : Ar2 2 1024) (U D : Ar4 4 2 1024 1024) (n : Nat) (x : S1024x1024.Idx) : EReal :=
  ∑ k ∈ Finset.range 1024, relu2 (pAt L X G U (1024 * (n / 4) + (x 0).val) (1024 * (n % 4) + k)) * at4 D (n % 4) L k (x 1).val

lemma step (t : Fin cfg0.N) (y : Vec Ideal S1024x1024 .f32) (x : S1024x1024.Idx) :
    k0_pay4 (F := Ideal) (trace b0 b1 b2 b3 t.val t.isLt).2.2 (b2 t) y (b3 t) x = y x + M4 L X G U D t.val x := by
  rw [pay4_apply]
  unfold M4
  refine congrArg (fun z : EReal => y x + z) (Finset.sum_congr rfl fun k hk => ?_)
  have hk := Finset.mem_range.mp hk
  rw [p_blk H t _ k (x 0).isLt hk, H.p3 t k _ hk (x 1).isLt]

lemma out4_A (t : Fin cfg0.N) (h : t.val % 4 = 0) (x : S1024x1024.Idx) : (trace b0 b1 b2 b3 t.val t.isLt).1 x
    = at2 X (1024 * (t.val / 4) + (x 0).val) (x 1).val + M4 L X G U D t.val x := by
  have e : (trace b0 b1 b2 b3 t.val t.isLt).1 = k0_pay4 (F := Ideal) (trace b0 b1 b2 b3 t.val t.isLt).2.2 (b2 t) (b0 t) (b3 t) := by
    rw [trace_A b0 b1 b2 b3 t h]; rfl
  rw [e, step H t, ← H.p0 t _ _ (x 0).isLt (x 1).isLt]
  exact addc (at2_eq (b0 t) x rfl rfl) rfl

lemma out4_B (t : Fin cfg0.N) (h : ¬t.val % 4 = 0) (x : S1024x1024.Idx) : (trace b0 b1 b2 b3 t.val t.isLt).1 x
    = (trace b0 b1 b2 b3 (t.val - 1) (Nat.sub_lt_of_lt t.isLt)).1 x + M4 L X G U D t.val x := by
  have e : (trace b0 b1 b2 b3 t.val t.isLt).1 = k0_pay4 (F := Ideal) (trace b0 b1 b2 b3 t.val t.isLt).2.2 (b2 t)
      (trace b0 b1 b2 b3 (t.val - 1) (Nat.sub_lt_of_lt t.isLt)).1 (b3 t) := by
    rw [trace_B b0 b1 b2 b3 t h]; rfl
  rw [e, step H t]

lemma fold4 (x : S1024x1024.Idx) : ∀ (s n : Nat) (hn : n < cfg0.N), n % 4 = s → (trace b0 b1 b2 b3 n hn).1 x
    = at2 X (1024 * (n / 4) + (x 0).val) (x 1).val + ∑ k ∈ Finset.range (s + 1), M4 L X G U D (4 * (n / 4) + k) x := by
  intro s
  induction s with
  | zero =>
    intro n hn h
    rw [Finset.sum_range_one, show 4 * (n / 4) + 0 = n by omega]
    exact out4_A H ⟨n, hn⟩ h x
  | succ s ih =>
    intro n hn h
    refine (out4_B H ⟨n, hn⟩ (by show ¬n % 4 = 0; omega) x).trans ?_
    rw [Finset.sum_range_succ, ← add_assoc, show 4 * (n / 4) + (s + 1) = n by omega]
    refine addc ((ih (n - 1) _ (by omega)).trans ?_) rfl
    rw [show (n - 1) / 4 = n / 4 by omega]

/-- The first output at the last point of a row block. -/
lemma out4 (t : Fin cfg0.N) (ht : t.val % 4 = 3) (y : S1024x1024.Idx) : (trace b0 b1 b2 b3 t.val t.isLt).1 y
    = yAt L X G U D (1024 * (t.val / 4) + (y 0).val) (y 1).val := by
  refine (fold4 H y 3 t.val t.isLt ht).trans ?_
  unfold yAt
  rw [← sum_blocks _ 4 1024]
  refine addc rfl (Finset.sum_congr rfl fun s hs => ?_)
  have hs := Finset.mem_range.mp hs
  unfold M4
  refine Finset.sum_congr rfl fun k hk => ?_
  have hk := Finset.mem_range.mp hk
  rw [show (4 * (t.val / 4) + s) % 4 = s by omega, show (4 * (t.val / 4) + s) / 4 = t.val / 4 by omega,
    show (1024 * s + k) / 1024 = s by omega, show (1024 * s + k) % 1024 = k by omega]

end Points

/-! Where the points put their blocks. -/

lemma q4 (t : Fin cfg0.N) (y : S1024x1024.Idx) :
    1024 * (t.val / 4) + (y 0).val = ((win0_4.blk t).view.emb y 0).val ∧ (y 1).val = ((win0_4.blk t).view.emb y 1).val := by
  constructor <;> blk_simp [e4]; omega
lemma q5 (t : Fin cfg0.N) (y : S1024x1024.Idx) : 1024 * (t.val / 4) + (y 0).val = ((win0_5.blk t).view.emb y 0).val
    ∧ 1024 * (t.val % 4) + (y 1).val = ((win0_5.blk t).view.emb y 1).val := by
  constructor <;> (blk_simp [e5]; omega)
lemma q6 (t : Fin cfg0.N) (y : S1024x1024.Idx) :
    1024 * (t.val / 4) + (y 0).val = ((win0_6.blk t).view.emb y 0).val ∧ (y 1).val = ((win0_6.blk t).view.emb y 1).val := by
  constructor <;> blk_simp [e6]; omega

lemma blocks : Blocks (iblk m c 0) (iblk m c 1) (iblk m c 2) (iblk m c 3) 1 (m (c.tc.loc main_arg0)) (m (c.tc.loc main_arg1))
    (m (c.tc.loc main_arg2)) (m (c.tc.loc main_arg3)) := ⟨blk0 m c, blk1 m c, blk2 m c, blk3 m c⟩

lemma array4 : (dats m 0 c).arrAt 4 cfg0.N = yOf 1 (m (c.tc.loc main_arg0)) (m (c.tc.loc main_arg1)) (m (c.tc.loc main_arg2)) (m (c.tc.loc main_arg3)) := by
  refine (dats m 0 c).arrAt_eq_of_covers 4 _ (by decide +kernel) fun t hf y => ?_
  have ht := flush4 t hf
  blk_simp
  rw [after0_4]
  exact (out4 (blocks m c) t ht y).trans (congrArg₂ (yAt 1 _ _ _ _) (q4 t y).1 (q4 t y).2)

lemma array5 : (dats m 0 c).arrAt 5 cfg0.N = pOf 1 (m (c.tc.loc main_arg0)) (m (c.tc.loc main_arg1)) (m (c.tc.loc main_arg2)) := by
  refine (dats m 0 c).arrAt_eq_of_covers 5 _ (by decide +kernel) fun t hf y => ?_
  blk_simp
  rw [after0_5]
  exact (out5 (blocks m c) t y).trans (congrArg₂ (pAt 1 _ _ _) (q5 t y).1 (q5 t y).2)

lemma array6 : (dats m 0 c).arrAt 6 cfg0.N = hOf 1 (m (c.tc.loc main_arg0)) (m (c.tc.loc main_arg1)) := by
  refine (dats m 0 c).arrAt_eq_of_covers 6 _ (by decide +kernel) fun t hf y => ?_
  blk_simp
  rw [after0_6]
  exact (h_blk (blocks m c) t.val t.isLt y).trans (congrArg₂ (hAt 1 _ _) (q6 t y).1 (q6 t y).2)

/-- The run with each output array named. -/
lemma run_blocks (ρ : Dev nD → PrngReg) : θ_run defs (onTc (τ := τ) (main (F := Ideal))) ⟨m, fun _ => 0, ρ⟩ fun r => ∀ c : Dev nD,
      r.2.mem (c.tc.loc main_v3_0) = (dats m 0 c).arrAt 4 cfg0.N
      ∧ r.2.mem (c.tc.loc main_v3_1) = (dats m 0 c).arrAt 5 cfg0.N
      ∧ r.2.mem (c.tc.loc main_v3_2) = (dats m 0 c).arrAt 6 cfg0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h.1 c).1 4, (h.1 c).1 5, (h.1 c).1 6, h.2 c⟩) (θ_run_and (run_main m ρ) (unchanged m ρ))

/-! ## The reference's arrays -/

section Reference

open Cert.Reference7Ideal.Read

lemma zero_bits : FloatOps.ofBits (F := Ideal) .f32 0x00000000#32 = 0 := by pointwise

lemma ref_inv (x0) (i : Cert.Reference7Ideal.S16384x1.Idx) : val_main_v18 (F := Ideal) x0 i = Rms.inv (at2 x0 (i 0).val) := by
  rw [val_main_v18_apply, val_main_v17_apply, val_main_v15_apply, val_main_v16_apply, val_main_v14_apply, val_main_cst_0_apply, val_main_cst_1_apply,
    val_main_v13_apply, val_main_v12_apply, val_main_cst_apply, zero_bits, zero_add]
  unfold Rms.inv Rms.var Rms.mean
  refine congrArg (fun z : EReal => Ideal.rsqrt (Ideal.div z _ + _)) (sum_fin _ _ fun k => ?_)
  rw [val_main_v11_apply]
  exact mulc (at2_eq x0 _ rfl rfl) (at2_eq x0 _ rfl rfl)

lemma ref_u (x2) (i : Cert.Reference7Ideal.S1024x4096.Idx) :
    val_main_v4 (F := Ideal) x2 i = at4 x2 ((i 1).val / 1024) 1 (i 0).val ((i 1).val % 1024) := by
  have h0 : (i 0).val < 1024 := (i 0).isLt
  have h1 : (i 1).val < 4096 := (i 1).isLt
  rw [val_main_v4_apply, val_main_v3_apply, val_main_v2_apply, val_main_v1_apply, val_main_v0_apply]
  refine at4_eq x2 _ ?_ rfl ?_ ?_
  · show ((((((i 0).val * 4096 + (i 1).val) / 1024 % 4) * 1024 + ((i 0).val * 4096 + (i 1).val) / 4096) * 1024
      + ((i 0).val * 4096 + (i 1).val) % 1024) / 1048576) = _
    omega
  · show ((((((i 0).val * 4096 + (i 1).val) / 1024 % 4) * 1024 + ((i 0).val * 4096 + (i 1).val) / 4096) * 1024
      + ((i 0).val * 4096 + (i 1).val) % 1024) / 1024 % 1024) = _
    omega
  · show ((((((i 0).val * 4096 + (i 1).val) / 1024 % 4) * 1024 + ((i 0).val * 4096 + (i 1).val) / 4096) * 1024
      + ((i 0).val * 4096 + (i 1).val) % 1024) % 1024) = _
    omega

lemma ref_d (x3) (i : Cert.Reference7Ideal.S4096x1024.Idx) :
    val_main_v8 (F := Ideal) x3 i = at4 x3 ((i 0).val / 1024) 1 ((i 0).val % 1024) (i 1).val := by
  have h0 : (i 0).val < 4096 := (i 0).isLt
  have h1 : (i 1).val < 1024 := (i 1).isLt
  rw [val_main_v8_apply, val_main_v7_apply, val_main_v6_apply, val_main_v5_apply]
  refine at4_eq x3 _ ?_ rfl ?_ ?_
  · show ((((i 0).val * 1024 + (i 1).val) / 1048576 * 1024 + ((i 0).val * 1024 + (i 1).val) / 1024 % 1024) * 1024 + ((i 0).val * 1024 + (i 1).val) % 1024) / 1048576 = _
    omega
  · show ((((i 0).val * 1024 + (i 1).val) / 1048576 * 1024 + ((i 0).val * 1024 + (i 1).val) / 1024 % 1024) * 1024 + ((i 0).val * 1024 + (i 1).val) % 1024) / 1024 % 1024 = _
    omega
  · show ((((i 0).val * 1024 + (i 1).val) / 1048576 * 1024 + ((i 0).val * 1024 + (i 1).val) / 1024 % 1024) * 1024 + ((i 0).val * 1024 + (i 1).val) % 1024) % 1024 = _
    omega

lemma ref_h (x0 x1) (i : Cert.Reference7Ideal.S16384x1024.Idx) : val_main_v23 (F := Ideal) x0 x1 i = hAt 1 x0 x1 (i 0).val (i 1).val := by
  have h1 : (i 1).val < 1024 := (i 1).isLt
  rw [val_main_v23_apply, val_main_v20_apply, val_main_v19_apply, ref_inv, val_main_v22_apply, val_main_v21_apply, val_main_v10_apply, val_main_v9_apply]
  unfold hAt normed
  refine mulc (mulc (at2_eq x0 i rfl rfl) rfl) (at2_eq x1 _ rfl ?_)
  show (i 1).val % 1024 = (i 1).val
  omega

lemma ref_p (x0 x1 x2) (i : Cert.Reference7Ideal.S16384x4096.Idx) : val_main_v24 (F := Ideal) x0 x1 x2 i = pAt 1 x0 x1 x2 (i 0).val (i 1).val := by
  rw [val_main_v24_apply]
  unfold pAt
  refine sum_fin _ _ fun k => ?_
  exact mulc (ref_h x0 x1 _) (ref_u x2 _)

lemma ref4 (x0 x1 x2 x3) : val_main_v28 (F := Ideal) x0 x1 x2 x3 = yOf 1 x0 x1 x2 x3 := by
  funext i
  rw [val_main_v28_apply, val_main_v27_apply]
  unfold yOf yAt
  refine addc (at2_eq x0 i rfl rfl) (sum_fin _ _ fun k => ?_)
  rw [val_main_v26_apply, val_main_v25_apply, val_main_call0_v0_apply, val_main_call0_cst_apply, zero_bits]
  refine mulc ?_ (ref_d x3 _)
  exact congrArg relu2 (ref_p x0 x1 x2 _)

lemma ref5 (x0 x1 x2) : val_main_v29 (F := Ideal) x0 x1 x2 = pOf 1 x0 x1 x2 := funext fun i => ref_p x0 x1 x2 i

lemma ref6 (x0 x1) : val_main_v30 (F := Ideal) x0 x1 = hOf 1 x0 x1 := funext fun i => ref_h x0 x1 i

end Reference

/-! ## The claims -/

lemma algebraic_ffn : Cert.algebraic_Kernel7Ideal_Reference7Ideal := fun m ρ m' ρ' _ hag =>
  ⟨fun c => (dats m 0 c).arrAt 4 cfg0.N, fun c => (dats m 0 c).arrAt 5 cfg0.N, fun c => (dats m 0 c).arrAt 6 cfg0.N, run_blocks m ρ,
    (θ_run _ _ _).mono (fun _ h c => by
      obtain ⟨h0, h1, h2, h3⟩ := hag c
      exact ⟨(h c).1.trans ((Cert.Reference7Ideal.Read.val_main_v28_eq _ _ _ _).trans ((ref4 _ _ _ _).trans ((yOf_congr h0 h1 h2 h3).trans (array4 m c).symm))),
        (h c).2.1.trans ((Cert.Reference7Ideal.Read.val_main_v29_eq _ _ _).trans ((ref5 _ _ _).trans ((pOf_congr h0 h1 h2).trans (array5 m c).symm))),
        (h c).2.2.1.trans ((Cert.Reference7Ideal.Read.val_main_v30_eq _ _).trans ((ref6 _ _).trans ((hOf_congr h0 h1).trans (array6 m c).symm))), (h c).2.2.2⟩)
      (Cert.Reference7Ideal.Value.run m' ρ')⟩

end Cert.Proof.FfnFwd

end
-- ==== Proof.FfnText.lean ====
module

public import proofs.«01_k».proof.Proof.FfnBody
public import proofs.«01_k».proof.Proof.Gen.Kernel7.Frame
public import proofs.«01_k».proof.Defs

@[expose] public section

/-! The feed-forward call as printed and as idealized have one text, so that the frame of the one is the frame of the other. -/

namespace Cert.Proof.FfnText

open Idealize.ShloMosaic Idealize.ShloMosaic.TcCoe Idealize.SL.Sem

lemma bodies_eq : Cert.Kernel7.defs₀ (F := Bits) = Cert.Kernel7Ideal.defs₀ (F := Bits) := by
  unfold Cert.Kernel7.defs₀ Cert.Kernel7Ideal.defs₀
  refine congrArg _ ?_
  funext a b
  match a, b with
  | 0, (t, s) => rfl

lemma defs_eq : Cert.Kernel7.defs (F := Bits) = Cert.Kernel7Ideal.defs (F := Bits) :=
  congrArg (Pipeline.defs (Cert.Kernel7Ideal.pcfgs (F := Bits))) bodies_eq

/-- The frame of the call as printed. -/
lemma frame : Cert.quiescent_Kernel7 := fun m ρ _ => by
  rw [defs_eq]
  exact FfnBody.frame (F := Bits) m ρ

end Cert.Proof.FfnText
-- ==== Proof.FfnFirst.lean ====
module

public import proofs.«01_k».proof.Proof.FfnFwd
public import proofs.«01_k».proof.Proof.FfnText
public import proofs.«01_k».proof.Proof.Gen.Kernel16.Frame
public import proofs.«01_k».proof.Proof.Gen.Kernel16Ideal.Frame
public import proofs.«01_k».proof.Proof.Gen.Kernel16Ideal.Skeleton
public import proofs.«01_k».proof.Proof.Gen.Reference16Ideal.Read

@[expose] public section

set_option maxRecDepth 16384

noncomputable section

/-! The feed-forward call of the first layer. Body, buffers and what does not read the weights are those of the second. -/

namespace Cert.Proof.FfnFirst

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open FfnBody (payA payB trace trace_A trace_B freshTab freshTab4_step freshTab6_step freshTab_B cond0_0 hcond0_0 core_A core_B)

section Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows other than the sixth are live everywhere; the sixth exactly at the first column step. -/
lemma live (w : Fin 7) (hw : w ≠ 6) (t : Fin cfg0.N) : cfg0.idle w (grid0.coords t) = false := by
  fin_cases w <;> first | rfl | exact absurd rfl hw
lemma live6_A : ∀ t : Fin cfg0.N, cond0_0 (grid0.coords t) → cfg0.idle 6 (grid0.coords t) = false := by decide +kernel
lemma idle6_B : ∀ t : Fin cfg0.N, ¬cond0_0 (grid0.coords t) → cfg0.idle 6 (grid0.coords t) = true := by decide +kernel

lemma fresh4_eq (t : Fin cfg0.N) : cfg0.fresh 4 t.val = freshTab t.val :=
  Pipeline.Cfg.fresh_tab cfg0 4 freshTab rfl freshTab4_step t.val (Nat.le_of_lt t.isLt)
lemma fresh6_eq (t : Fin cfg0.N) : cfg0.fresh 6 t.val = freshTab t.val :=
  Pipeline.Cfg.fresh_tab cfg0 6 freshTab rfl freshTab6_step t.val (Nat.le_of_lt t.isLt)
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)

def outsAt0 (c : Dev nD) := trace (F := F) (iblk m c 0) (iblk m c 1) (iblk m c 2) (iblk m c 3)

lemma outsAt0_A (c : Dev nD) (t : Fin cfg0.N) (h0 : t.val % 4 = 0) :
    outsAt0 m c t.val t.isLt = payA (iblk m c 0 t) (iblk m c 1 t) (iblk m c 2 t) (iblk m c 3 t) := trace_A _ _ _ _ t h0

lemma outsAt0_B (c : Dev nD) (t : Fin cfg0.N) (h0 : ¬t.val % 4 = 0) :
    outsAt0 m c t.val t.isLt = payB (iblk m c 2 t) (iblk m c 3 t) (outsAt0 m c (t.val - 1) (Nat.sub_lt_of_lt t.isLt)) := trace_B _ _ _ _ t h0

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q _ := fullShare
  owed _ := 0

lemma A_eq (c : Dev nD) (w : Fin cfg0.W) : (dats m 0 c).A w = V m c (Pipeline.arrRef spec0 w) := by
  dsimp only [dats]

lemma after0_0 (c : Dev nD) (t : Fin cfg0.N) : (dats m 0 c).after 0 t = iblk m c 0 t := by dsimp only [dats]
lemma after0_1 (c : Dev nD) (t : Fin cfg0.N) : (dats m 0 c).after 1 t = iblk m c 1 t := by dsimp only [dats]
lemma after0_2 (c : Dev nD) (t : Fin cfg0.N) : (dats m 0 c).after 2 t = iblk m c 2 t := by dsimp only [dats]
lemma after0_3 (c : Dev nD) (t : Fin cfg0.N) : (dats m 0 c).after 3 t = iblk m c 3 t := by dsimp only [dats]
lemma after0_4 (c : Dev nD) (t : Fin cfg0.N) : (dats m 0 c).after 4 t = (outsAt0 m c t.val t.isLt).1 := by dsimp only [dats]
lemma after0_5 (c : Dev nD) (t : Fin cfg0.N) : (dats m 0 c).after 5 t = (outsAt0 m c t.val t.isLt).2.1 := by dsimp only [dats]
lemma after0_6 (c : Dev nD) (t : Fin cfg0.N) : (dats m 0 c).after 6 t = (outsAt0 m c t.val t.isLt).2.2 := by dsimp only [dats]
lemma before0_0 (c : Dev nD) (t : Fin cfg0.N) (d) : (dats m 0 c).before 0 t d = iblk m c 0 t :=
  before0_0_of m (dats m 0 c) (A_eq m c 0) (after0_0 m c) t d
lemma before0_1 (c : Dev nD) (t : Fin cfg0.N) (d) : (dats m 0 c).before 1 t d = iblk m c 1 t :=
  before0_1_of m (dats m 0 c) (A_eq m c 1) (after0_1 m c) t d
lemma before0_2 (c : Dev nD) (t : Fin cfg0.N) (d) : (dats m 0 c).before 2 t d = iblk m c 2 t :=
  before0_2_of m (dats m 0 c) (A_eq m c 2) (after0_2 m c) t d
lemma before0_3 (c : Dev nD) (t : Fin cfg0.N) (d) : (dats m 0 c).before 3 t d = iblk m c 3 t :=
  before0_3_of m (dats m 0 c) (A_eq m c 3) (after0_3 m c) t d

lemma hcarry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := fun t _ hi _ => by
  rw [live 4 (by decide) t] at hi; exact absurd hi Bool.false_ne_true

/-- The third output carries through the later column steps. -/
lemma hcarry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [after0_6, after0_6]
  by_cases h0 : t.val % 4 = 0
  · rw [live6_A t ((hcond0_0 t).mpr h0)] at hi; exact absurd hi Bool.false_ne_true
  · rw [outsAt0_B m c t h0]; rfl

lemma before0_4_B (c : Dev nD) (t : Fin cfg0.N) (h0 : ¬t.val % 4 = 0) (d) :
    (dats m 0 c).before 4 t d = (outsAt0 m c (t.val - 1) (Nat.sub_lt_of_lt t.isLt)).1 := by
  rw [Dat.before_out_traj _ 4 rfl (fun _ _ => rfl) (hcarry4 m c) t.val t rfl d,
    if_neg (by rw [fresh4_eq, freshTab_B t (fun h => h0 ((hcond0_0 t).mp h))]; exact Bool.false_ne_true)]
  dsimp only [dats]
lemma before0_6_B (c : Dev nD) (t : Fin cfg0.N) (h0 : ¬t.val % 4 = 0) (d) :
    (dats m 0 c).before 6 t d = (outsAt0 m c (t.val - 1) (Nat.sub_lt_of_lt t.isLt)).2.2 := by
  rw [Dat.before_out_traj _ 6 rfl (fun _ _ => rfl) (hcarry6 m c) t.val t rfl d,
    if_neg (by rw [fresh6_eq, freshTab_B t (fun h => h0 ((hcond0_0 t).mp h))]; exact Bool.false_ne_true)]
  dsimp only [dats]

/-! ## The obligation -/

def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

lemma leaves_live (c : Dev nD) (w : Fin 7) (t : Fin cfg0.N) (h : cfg0.idle w (grid0.coords t) = false) :
    (dats m 0 c).leavesExact w t = owns c.tc ((cfg0.win w).stage (cfg0.slots t w)) fullShare ((dats m 0 c).after w t) := by
  unfold Dat.leavesExact; rw [h]

/-- Where the body leaves the third output as it was, its contents do: at a write-back or not. -/
lemma leaves6_B (c : Dev nD) (t : Fin cfg0.N) (h0 : ¬t.val % 4 = 0) :
    owns c.tc (ms0_6 t) fullShare (outsAt0 m c (t.val - 1) (Nat.sub_lt_of_lt t.isLt)).2.2 ⊢ (dats m 0 c).leavesExact 6 t := by
  unfold Dat.leavesExact
  rw [idle6_B t (fun h => h0 ((hcond0_0 t).mp h))]
  cases hf : (cfg0.win 6).flush t
  · dsimp only
    simp only [before0_6_B m c t h0]
    iintro H; iexists (outsAt0 m c (t.val - 1) (Nat.sub_lt_of_lt t.isLt)).2.2; iexact H
  · dsimp only
    rw [after0_6, outsAt0_B m c t h0]; exact .rfl

set_option maxHeartbeats 800000 in
/-- The body at any point. -/
lemma sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [cc0_ffn_eq_skeleton]
  simp only [before0_0, before0_1, before0_2, before0_3]
  rw [show (dats m 0 c).Φ t.succ = (dats m 0 c).Φ t.castSucc from rfl,
    show (dats m 0 c).owesAt () t.succ = (dats m 0 c).owesAt () t.castSucc from rfl]
  rw [leaves_live m c 0 t (live 0 (by decide) t), after0_0]
  rw [leaves_live m c 1 t (live 1 (by decide) t), after0_1]
  rw [leaves_live m c 2 t (live 2 (by decide) t), after0_2]
  rw [leaves_live m c 3 t (live 3 (by decide) t), after0_3]
  rw [leaves_live m c 4 t (live 4 (by decide) t), after0_4]
  rw [leaves_live m c 5 t (live 5 (by decide) t), after0_5]
  by_cases h0 : t.val % 4 = 0
  · rw [leaves_live m c 6 t (live6_A t ((hcond0_0 t).mpr h0)), after0_6]
    rw [outsAt0_A m c t h0]
    exact core_A c (grid0.coords t) _ (hs0_0 t) _ (hs0_1 t) _ (hs0_2 t) _ (hs0_3 t) _ _ (hs0_5 t) _ (hs0_6 t) _ ((hcond0_0 t).mpr h0) _ _ _ _ _ _ _ _ _
  · rw [outsAt0_B m c t h0]
    simp only [before0_4_B m c t h0, before0_6_B m c t h0]
    exact core_B c (grid0.coords t) _ (hs0_0 t) _ (hs0_1 t) _ (hs0_2 t) _ (hs0_3 t) _ (hs0_4 t) _ (hs0_5 t) _ (hs0_6 t) _ (fun h => h0 ((hcond0_0 t).mp h)) _ _ _ _ _ _ _ _ _ _ _ (leaves6_B m c t h0)

lemma defs₀_row (t : Fin cfg0.N) :
    defs₀ (F := F) .tc cfg0.body (cfg0.bodyArgs t (cfg0.slots t)) = bodyAt0 t := by
  unfold defs₀; rw [Defs.onTc_tc]

lemma body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the proof data say, and every counter at zero. -/
lemma run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

lemma run_main : θ_run defs (onTc (τ := τ) (main (F := F))) (s₀ m ρ) (Pipeline.FramePost cfgs (dats m) 0 (V m)) :=
  (θ_run defs _ _).mono (fun _ h => h.1) (run_main_quiescent m ρ)

lemma unchanged : θ_run defs (onTc (τ := τ) (main (F := F))) ⟨m, fun _ => 0, ρ⟩ (fun r => ∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  frame_of m ρ (dats m) (A_eq m) (run_main m ρ)

/-- The frame claim. -/
lemma frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  θ_run_and (unchanged m ρ) ((θ_run defs _ _).mono (fun _ h => h.2) (run_main_quiescent m ρ))

end Body

/-! ## The call as printed -/

lemma bodies_printed : Cert.Kernel16.defs₀ (F := Bits) = defs₀ (F := Bits) := by
  unfold Cert.Kernel16.defs₀ defs₀
  refine congrArg _ ?_
  funext a b
  match a, b with
  | 0, (t, s) => rfl

lemma frame_printed : Cert.quiescent_Kernel16 := fun m ρ _ => by
  rw [show Cert.Kernel16.defs (F := Bits) = defs (F := Bits) from congrArg (Pipeline.defs (pcfgs (F := Bits))) bodies_printed]
  exact frame (F := Bits) m ρ

/-! ## The arrays -/

open FfnFwd (Blocks normed hAt pAt yAt hOf pOf yOf hOf_congr pOf_congr yOf_congr h_blk out4 out5 q4 q5 q6 zero_bits)

variable (m : (ℓ : Loc nD τ sig) → Buf (Elt Ideal) ℓ) (c : Dev nD)

lemma e0 : ∀ t : Fin grid0.N, win0_0.index t = ![t.val / 4, 0] := by decide +kernel
lemma e1 : ∀ t : Fin grid0.N, win0_1.index t = ![0, 0] := by decide +kernel
lemma e2 : ∀ t : Fin grid0.N, win0_2.index t = ![t.val % 4, 0, 0, 0] := by decide +kernel
lemma e3 : ∀ t : Fin grid0.N, win0_3.index t = ![t.val % 4, 0, 0, 0] := by decide +kernel

lemma blk0 (t : Fin cfg0.N) (r l : Nat) (hr : r < 1024) (hl : l < 1024) :
    at2 (iblk m c 0 t) r l = at2 (m (c.tc.loc main_arg0)) (1024 * (t.val / 4) + r) l := by
  have ht : t.val < 64 := t.isLt
  rw [at2_of_lt _ hr hl, at2_of_lt _ (by omega) hl]
  blk_simp [iblk]
  rw [V_main_arg0]
  congr 1
  blk_ext [e0]

lemma blk1 (t : Fin cfg0.N) (l : Nat) (hl : l < 1024) : at2 (iblk m c 1 t) 0 l = at2 (m (c.tc.loc main_arg1)) 0 l := by
  rw [at2_of_lt _ Nat.one_pos hl, at2_of_lt _ (by omega) hl]
  blk_simp [iblk]
  entry_read
  rw [show ((View.whole main_v2).slice (win0_1.rect t)).emb (ix2 0 ⟨l, hl⟩) = ix2 0 ⟨l, hl⟩ from by blk_ext [e1]]
  pointwise

lemma blk2 (t : Fin cfg0.N) (r l : Nat) (hr : r < 1024) (hl : l < 1024) :
    at4 (iblk m c 2 t) 0 0 r l = at4 (m (c.tc.loc main_arg2)) (t.val % 4) 0 r l := by
  have ht : t.val < 64 := t.isLt
  rw [at4_of_lt _ Nat.one_pos Nat.one_pos hr hl, at4_of_lt _ (by omega) Nat.two_pos hr hl]
  blk_simp [iblk]
  rw [V_main_arg2]
  congr 1
  blk_ext [e2]

lemma blk3 (t : Fin cfg0.N) (r l : Nat) (hr : r < 1024) (hl : l < 1024) :
    at4 (iblk m c 3 t) 0 0 r l = at4 (m (c.tc.loc main_arg3)) (t.val % 4) 0 r l := by
  have ht : t.val < 64 := t.isLt
  rw [at4_of_lt _ Nat.one_pos Nat.one_pos hr hl, at4_of_lt _ (by omega) Nat.two_pos hr hl]
  blk_simp [iblk]
  rw [V_main_arg3]
  congr 1
  blk_ext [e3]

lemma blocks : Blocks (iblk m c 0) (iblk m c 1) (iblk m c 2) (iblk m c 3) 0 (m (c.tc.loc main_arg0)) (m (c.tc.loc main_arg1))
    (m (c.tc.loc main_arg2)) (m (c.tc.loc main_arg3)) := ⟨blk0 m c, blk1 m c, blk2 m c, blk3 m c⟩

lemma array4 : (dats m 0 c).arrAt 4 cfg0.N = yOf 0 (m (c.tc.loc main_arg0)) (m (c.tc.loc main_arg1)) (m (c.tc.loc main_arg2)) (m (c.tc.loc main_arg3)) := by
  refine (dats m 0 c).arrAt_eq_of_covers 4 _ (by decide +kernel) fun t hf y => ?_
  have ht := FfnFwd.flush4 t hf
  blk_simp
  rw [after0_4]
  exact (out4 (blocks m c) t ht y).trans (congrArg₂ (yAt 0 _ _ _ _) (q4 t y).1 (q4 t y).2)

lemma array5 : (dats m 0 c).arrAt 5 cfg0.N = pOf 0 (m (c.tc.loc main_arg0)) (m (c.tc.loc main_arg1)) (m (c.tc.loc main_arg2)) := by
  refine (dats m 0 c).arrAt_eq_of_covers 5 _ (by decide +kernel) fun t hf y => ?_
  blk_simp
  rw [after0_5]
  exact (out5 (blocks m c) t y).trans (congrArg₂ (pAt 0 _ _ _) (q5 t y).1 (q5 t y).2)

lemma array6 : (dats m 0 c).arrAt 6 cfg0.N = hOf 0 (m (c.tc.loc main_arg0)) (m (c.tc.loc main_arg1)) := by
  refine (dats m 0 c).arrAt_eq_of_covers 6 _ (by decide +kernel) fun t hf y => ?_
  blk_simp
  rw [after0_6]
  exact (h_blk (blocks m c) t.val t.isLt y).trans (congrArg₂ (hAt 0 _ _) (q6 t y).1 (q6 t y).2)

/-- The run with each output array named. -/
lemma run_blocks (ρ : Dev nD → PrngReg) : θ_run defs (onTc (τ := τ) (main (F := Ideal))) ⟨m, fun _ => 0, ρ⟩ fun r => ∀ c : Dev nD,
      r.2.mem (c.tc.loc main_v3_0) = (dats m 0 c).arrAt 4 cfg0.N
      ∧ r.2.mem (c.tc.loc main_v3_1) = (dats m 0 c).arrAt 5 cfg0.N
      ∧ r.2.mem (c.tc.loc main_v3_2) = (dats m 0 c).arrAt 6 cfg0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h.1 c).1 4, (h.1 c).1 5, (h.1 c).1 6, h.2 c⟩) (θ_run_and (run_main m ρ) (unchanged m ρ))

/-! ## The reference's arrays -/

section Reference

open Cert.Reference16Ideal.Read

lemma ref_inv (x0) (i : Cert.Reference16Ideal.S16384x1.Idx) : val_main_v18 (F := Ideal) x0 i = Rms.inv (at2 x0 (i 0).val) :=
  FfnFwd.ref_inv x0 i

lemma ref_u (x2) (i : Cert.Reference16Ideal.S1024x4096.Idx) :
    val_main_v4 (F := Ideal) x2 i = at4 x2 ((i 1).val / 1024) 0 (i 0).val ((i 1).val % 1024) := by
  have h0 : (i 0).val < 1024 := (i 0).isLt
  have h1 : (i 1).val < 4096 := (i 1).isLt
  rw [val_main_v4_apply, val_main_v3_apply, val_main_v2_apply, val_main_v1_apply, val_main_v0_apply]
  refine at4_eq x2 _ ?_ rfl ?_ ?_
  · show ((((((i 0).val * 4096 + (i 1).val) / 1024 % 4) * 1024 + ((i 0).val * 4096 + (i 1).val) / 4096) * 1024
      + ((i 0).val * 4096 + (i 1).val) % 1024) / 1048576) = _
    omega
  · show ((((((i 0).val * 4096 + (i 1).val) / 1024 % 4) * 1024 + ((i 0).val * 4096 + (i 1).val) / 4096) * 1024
      + ((i 0).val * 4096 + (i 1).val) % 1024) / 1024 % 1024) = _
    omega
  · show ((((((i 0).val * 4096 + (i 1).val) / 1024 % 4) * 1024 + ((i 0).val * 4096 + (i 1).val) / 4096) * 1024
      + ((i 0).val * 4096 + (i 1).val) % 1024) % 1024) = _
    omega

lemma ref_d (x3) (i : Cert.Reference16Ideal.S4096x1024.Idx) :
    val_main_v8 (F := Ideal) x3 i = at4 x3 ((i 0).val / 1024) 0 ((i 0).val % 1024) (i 1).val := by
  have h0 : (i 0).val < 4096 := (i 0).isLt
  have h1 : (i 1).val < 1024 := (i 1).isLt
  rw [val_main_v8_apply, val_main_v7_apply, val_main_v6_apply, val_main_v5_apply]
  refine at4_eq x3 _ ?_ rfl ?_ ?_
  · show ((((i 0).val * 1024 + (i 1).val) / 1048576 * 1024 + ((i 0).val * 1024 + (i 1).val) / 1024 % 1024) * 1024 + ((i 0).val * 1024 + (i 1).val) % 1024) / 1048576 = _
    omega
  · show ((((i 0).val * 1024 + (i 1).val) / 1048576 * 1024 + ((i 0).val * 1024 + (i 1).val) / 1024 % 1024) * 1024 + ((i 0).val * 1024 + (i 1).val) % 1024) / 1024 % 1024 = _
    omega
  · show ((((i 0).val * 1024 + (i 1).val) / 1048576 * 1024 + ((i 0).val * 1024 + (i 1).val) / 1024 % 1024) * 1024 + ((i 0).val * 1024 + (i 1).val) % 1024) % 1024 = _
    omega

lemma ref_h (x0 x1) (i : Cert.Reference16Ideal.S16384x1024.Idx) : val_main_v23 (F := Ideal) x0 x1 i = hAt 0 x0 x1 (i 0).val (i 1).val := by
  have h1 : (i 1).val < 1024 := (i 1).isLt
  rw [val_main_v23_apply, val_main_v20_apply, val_main_v19_apply, ref_inv, val_main_v22_apply, val_main_v21_apply, val_main_v10_apply, val_main_v9_apply]
  unfold hAt normed
  refine mulc (mulc (at2_eq x0 i rfl rfl) rfl) (at2_eq x1 _ rfl ?_)
  show (i 1).val % 1024 = (i 1).val
  omega

lemma ref_p (x0 x1 x2) (i : Cert.Reference16Ideal.S16384x4096.Idx) : val_main_v24 (F := Ideal) x0 x1 x2 i = pAt 0 x0 x1 x2 (i 0).val (i 1).val := by
  rw [val_main_v24_apply]
  unfold pAt
  refine sum_fin _ _ fun k => ?_
  exact mulc (ref_h x0 x1 _) (ref_u x2 _)

lemma ref4 (x0 x1 x2 x3) : val_main_v28 (F := Ideal) x0 x1 x2 x3 = yOf 0 x0 x1 x2 x3 := by
  funext i
  rw [val_main_v28_apply, val_main_v27_apply]
  unfold yOf yAt
  refine addc (at2_eq x0 i rfl rfl) (sum_fin _ _ fun k => ?_)
  rw [val_main_v26_apply, val_main_v25_apply, val_main_call0_v0_apply, val_main_call0_cst_apply, zero_bits]
  refine mulc ?_ (ref_d x3 _)
  exact congrArg relu2 (ref_p x0 x1 x2 _)

lemma ref5 (x0 x1 x2) : val_main_v29 (F := Ideal) x0 x1 x2 = pOf 0 x0 x1 x2 := funext fun i => ref_p x0 x1 x2 i

lemma ref6 (x0 x1) : val_main_v30 (F := Ideal) x0 x1 = hOf 0 x0 x1 := funext fun i => ref_h x0 x1 i

end Reference

/-! ## The claims -/

lemma algebraic_ffn : Cert.algebraic_Kernel16Ideal_Reference16Ideal := fun m ρ m' ρ' _ hag =>
  ⟨fun c => (dats m 0 c).arrAt 4 cfg0.N, fun c => (dats m 0 c).arrAt 5 cfg0.N, fun c => (dats m 0 c).arrAt 6 cfg0.N, run_blocks m ρ,
    (θ_run _ _ _).mono (fun _ h c => by
      obtain ⟨h0, h1, h2, h3⟩ := hag c
      exact ⟨(h c).1.trans ((Cert.Reference16Ideal.Read.val_main_v28_eq _ _ _ _).trans ((ref4 _ _ _ _).trans ((yOf_congr h0 h1 h2 h3).trans (array4 m c).symm))),
        (h c).2.1.trans ((Cert.Reference16Ideal.Read.val_main_v29_eq _ _ _).trans ((ref5 _ _ _).trans ((pOf_congr h0 h1 h2).trans (array5 m c).symm))),
        (h c).2.2.1.trans ((Cert.Reference16Ideal.Read.val_main_v30_eq _ _).trans ((ref6 _ _).trans ((hOf_congr h0 h1).trans (array6 m c).symm))), (h c).2.2.2⟩)
      (Cert.Reference16Ideal.Value.run m' ρ')⟩

end Cert.Proof.FfnFirst

end
-- ==== Proof.lean ====
module

public import proofs.«01_k».proof.Proof.Gen.Kernel.Frame
public import proofs.«01_k».proof.Proof.Gen.ReferenceIdeal.Run
public import proofs.«01_k».proof.Proof.Gen.Kernel2.Frame
public import proofs.«01_k».proof.Proof.Gen.Reference2Ideal.Run
public import proofs.«01_k».proof.Proof.Gen.Kernel3.Frame
public import proofs.«01_k».proof.Proof.Gen.Reference3Ideal.Run
public import proofs.«01_k».proof.Proof.Gen.Kernel4.Frame
public import proofs.«01_k».proof.Proof.Gen.Reference4Ideal.Run
public import proofs.«01_k».proof.Proof.Gen.Kernel5.Frame
public import proofs.«01_k».proof.Proof.Gen.Reference5Ideal.Run
public import proofs.«01_k».proof.Proof.Gen.Kernel6.Frame
public import proofs.«01_k».proof.Proof.Gen.Reference6Ideal.Run
public import proofs.«01_k».proof.Proof.Gen.Reference7Ideal.Run
public import proofs.«01_k».proof.Proof.Gen.Kernel8.Frame
public import proofs.«01_k».proof.Proof.Gen.Reference8Ideal.Run
public import proofs.«01_k».proof.Proof.Gen.Kernel9.Frame
public import proofs.«01_k».proof.Proof.Gen.Reference9Ideal.Run
public import proofs.«01_k».proof.Proof.Gen.Kernel10.Frame
public import proofs.«01_k».proof.Proof.Gen.Reference10Ideal.Run
public import proofs.«01_k».proof.Proof.Gen.Kernel11.Frame
public import proofs.«01_k».proof.Proof.Gen.Reference11Ideal.Run
public import proofs.«01_k».proof.Proof.Gen.Kernel12.Frame
public import proofs.«01_k».proof.Proof.Gen.Reference12Ideal.Run
public import proofs.«01_k».proof.Proof.Gen.Kernel13.Frame
public import proofs.«01_k».proof.Proof.Gen.Reference13Ideal.Run
public import proofs.«01_k».proof.Proof.Gen.Kernel14.Frame
public import proofs.«01_k».proof.Proof.Gen.Reference14Ideal.Run
public import proofs.«01_k».proof.Proof.Gen.Kernel15.Frame
public import proofs.«01_k».proof.Proof.Gen.Reference15Ideal.Run
public import proofs.«01_k».proof.Proof.Gen.Reference16Ideal.Run
public import proofs.«01_k».proof.Proof.KernelValue
public import proofs.«01_k».proof.Proof.FfnWgrad
public import proofs.«01_k».proof.Proof.InWgrad
public import proofs.«01_k».proof.Proof.InBwd
public import proofs.«01_k».proof.Proof.LossHead
public import proofs.«01_k».proof.Proof.InProj
public import proofs.«01_k».proof.Proof.OutProj
public import proofs.«01_k».proof.Proof.OutBwd
public import proofs.«01_k».proof.Proof.AdamBig
public import proofs.«01_k».proof.Proof.AdamIn
public import proofs.«01_k».proof.Proof.FfnBwdFirst
public import proofs.«01_k».proof.Proof.FfnFirst

@[expose] public section

noncomputable section

namespace Cert.Proof

open Idealize.ShloMosaic Idealize.ShloMosaic.TcCoe Idealize.SL.Sem

/-- The first call's kernel and reference leave the same array. -/
theorem algebraic_dz : Cert.algebraic_KernelIdeal_ReferenceIdeal := fun m ρ m' ρ' _ hag =>
  ⟨fun c => dzArr m c,
    (θ_run _ _ _).mono (fun _ h c => ⟨(h c).1.trans (kernel_array m c), (h c).2⟩) (Cert.KernelIdeal.Value.run_blocks m ρ),
    (θ_run _ _ _).mono (fun _ h c => ⟨(h c).1.trans (by
      obtain ⟨h0, h1, h2, h3, h4, h5, h6, h7, h8⟩ := hag c
      exact (Cert.ReferenceIdeal.Read.val_main_v361_eq _).trans ((ref_array _ _ _ _ _ _ _ _ _).trans
        (dzOf_congr h0 h1 h2 h3 h4 h5 h6 h7 h8))), (h c).2⟩) (Cert.ReferenceIdeal.Value.run m' ρ')⟩

/-- The reference is a line of host operations that declares no semaphore; so are the ones after it. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2.2.2.2.2.2, sem_eq_zero_of_no_sems (by decide) r.2⟩)
    (Cert.Reference8Ideal.Value.run (F := Ideal) m ρ)

theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem frame_reference10 : Cert.quiescent_Reference10Ideal := fun m ρ _ =>
  (θ_run Cert.Reference10Ideal.defs _ _).mono (fun r h => ⟨fun c => (h c).2.2.2.2.2, sem_eq_zero_of_no_sems (by decide) r.2⟩)
    (Cert.Reference10Ideal.Value.run (F := Ideal) m ρ)

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_reference12 : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem frame_reference13 : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

theorem frame_reference14 : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

theorem frame_reference15 : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

theorem frame_reference16 : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  FfnText.frame, fun m ρ _ => FfnBody.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ trivial, fun m ρ _ => Cert.Kernel12Ideal.Gen.frame m ρ trivial, frame_reference12,
  fun m ρ _ => Cert.Kernel13.Gen.frame m ρ trivial, fun m ρ _ => Cert.Kernel13Ideal.Gen.frame m ρ trivial, frame_reference13,
  fun m ρ _ => Cert.Kernel14.Gen.frame m ρ trivial, fun m ρ _ => Cert.Kernel14Ideal.Gen.frame m ρ trivial, frame_reference14,
  fun m ρ _ => Cert.Kernel15.Gen.frame m ρ, fun m ρ _ => Cert.Kernel15Ideal.Gen.frame m ρ, frame_reference15,
  FfnFirst.frame_printed, fun m ρ _ => FfnFirst.frame m ρ, frame_reference16,
  trivial, algebraic_dz, trivial, FfnBwd.algebraic_bwd, trivial, FfnWgrad.algebraic_wgrad, trivial, InWgrad.algebraic_wgrad, trivial, InBwd.algebraic_bwd, trivial, LossHead.algebraic_loss, trivial, FfnFwd.algebraic_ffn, trivial, InProj.algebraic_proj, trivial, OutProj.algebraic_proj, trivial, OutBwd.algebraic_bwd, trivial, MixRef.algebraic_mix, trivial, Adam.algebraic_adam, trivial, AdamBig.algebraic_adam, trivial, AdamIn.algebraic_adam, trivial, FfnBwdFirst.algebraic_bwd, trivial, FfnFirst.algebraic_ffn⟩

end Cert.Proof

end
